-- ==== Defs.lean ====
def Pre_Kernel [hPre_dest_in_rows : Cert.Pre_dest_in_rows.Facts] (m : (ℓ : Loc Cert.Kernel.nD Cert.Kernel.τ Cert.Kernel.sig) → Buf (Elt Bits) ℓ) : Prop :=
  ∀ c : Dev Cert.Kernel.nD,
    (Cert.Pre_dest_in_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_dest_in_rows : Cert.Pre_dest_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_dest_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_dest_in_rows [hPre_dest_in_rows : Cert.Pre_dest_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_dest_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Experts [hPre_experts_in_range : Cert.Pre_experts_in_range.Facts] (m : (ℓ : Loc Cert.Experts.nD Cert.Experts.τ Cert.Experts.sig) → Buf (Elt Bits) ℓ) : Prop :=
  ∀ c : Dev Cert.Experts.nD,
    (Cert.Pre_experts_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_experts_in_range : Cert.Pre_experts_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_experts_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_experts_in_range [hPre_experts_in_range : Cert.Pre_experts_in_range.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_experts_in_range.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5))) = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_gate_finite [hPre_gate_finite : Cert.Pre_gate_finite.Facts] (m : (ℓ : Loc Cert.GateIdeal.nD Cert.GateIdeal.τ Cert.GateIdeal.sig) → Buf (Elt Ideal) ℓ) : Prop :=
  ∀ c : Dev Cert.GateIdeal.nD,
    (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1))) = (fun _ => 1#1)

def Pre_GateReferenceIdeal (m : (ℓ : Loc Cert.GateReferenceIdeal.nD Cert.GateReferenceIdeal.τ Cert.GateReferenceIdeal.sig) → Buf (Elt Ideal) ℓ) : Prop :=
  True

def Pre_GateReferenceIdeal_gate_finite [hPre_gate_finite : Cert.Pre_gate_finite.Facts] (m : (ℓ : Loc Cert.GateReferenceIdeal.nD Cert.GateReferenceIdeal.τ Cert.GateReferenceIdeal.sig) → Buf (Elt Ideal) ℓ) : Prop :=
  ∀ c : Dev Cert.GateReferenceIdeal.nD,
    (Cert.Pre_gate_finite.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1))) = (fun _ => 1#1)

def Pre_Dispatch [hPre_chosen_in_range : Cert.Pre_chosen_in_range.Facts] (m : (ℓ : Loc Cert.Dispatch.nD Cert.Dispatch.τ Cert.Dispatch.sig) → Buf (Elt Bits) ℓ) : Prop :=
  ∀ c : Dev Cert.Dispatch.nD,
    (Cert.Pre_chosen_in_range.fn (F := Bits) (m ((c.tc : Thread Cert.Dispatch.nD Cert.Dispatch.τ).loc Cert.Dispatch.main_arg0)) (m ((c.tc : Thread Cert.Dispatch.nD Cert.Dispatch.τ).loc Cert.Dispatch.main_arg1))) = (fun _ => 1#1)

def Pre_DispatchIdeal [hPre_chosen_in_range : Cert.Pre_chosen_in_range.Facts] (m : (ℓ : Loc Cert.DispatchIdeal.nD Cert.DispatchIdeal.τ Cert.DispatchIdeal.sig) → Buf (Elt Ideal) ℓ) : Prop :=
  ∀ c : Dev Cert.DispatchIdeal.nD,
    (Cert.Pre_chosen_in_range.fn (F := Ideal) (m ((c.tc : Thread Cert.DispatchIdeal.nD Cert.DispatchIdeal.τ).loc Cert.DispatchIdeal.main_arg0)) (m ((c.tc : Thread Cert.DispatchIdeal.nD Cert.DispatchIdeal.τ).loc Cert.DispatchIdeal.main_arg1))) = (fun _ => 1#1)

def Pre_DispatchReferenceIdeal (m : (ℓ : Loc Cert.DispatchReferenceIdeal.nD Cert.DispatchReferenceIdeal.τ Cert.DispatchReferenceIdeal.sig) → Buf (Elt Ideal) ℓ) : Prop :=
  True

def Pre_DispatchReferenceIdeal_chosen_in_range [hPre_chosen_in_range : Cert.Pre_chosen_in_range.Facts] (m : (ℓ : Loc Cert.DispatchReferenceIdeal.nD Cert.DispatchReferenceIdeal.τ Cert.DispatchReferenceIdeal.sig) → Buf (Elt Ideal) ℓ) : Prop :=
  ∀ c : Dev Cert.DispatchReferenceIdeal.nD,
    (Cert.Pre_chosen_in_range.fn (F := Ideal) (m ((c.tc : Thread Cert.DispatchReferenceIdeal.nD Cert.DispatchReferenceIdeal.τ).loc Cert.DispatchReferenceIdeal.main_arg0)) (m ((c.tc : Thread Cert.DispatchReferenceIdeal.nD Cert.DispatchReferenceIdeal.τ).loc Cert.DispatchReferenceIdeal.main_arg1))) = (fun _ => 1#1)

def quiescent_Kernel [hKernel : Cert.Kernel.Facts] [hPre_dest_in_rows : Cert.Pre_dest_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_dest_in_rows : Cert.Pre_dest_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_dest_in_rows [hReferenceIdeal : Cert.ReferenceIdeal.Facts] [hPre_dest_in_rows : Cert.Pre_dest_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_dest_in_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Experts [hExperts : Cert.Experts.Facts] [hPre_experts_in_range : Cert.Pre_experts_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_ExpertsReferenceIdeal_pre_experts_in_range [hExpertsReferenceIdeal : Cert.ExpertsReferenceIdeal.Facts] [hPre_experts_in_range : Cert.Pre_experts_in_range.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_experts_in_range m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateIdeal_pre_gate_finite [hGateIdeal : Cert.GateIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg), Pre_GateIdeal_gate_finite m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1))
      ∧ r.2.sem = fun _ => 0)

def quiescent_GateReferenceIdeal_pre_gate_finite [hGateReferenceIdeal : Cert.GateReferenceIdeal.Facts] [hPre_gate_finite : Cert.Pre_gate_finite.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal_gate_finite m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1))
      ∧ r.2.sem = fun _ => 0)

def quiescent_Dispatch [hDispatch : Cert.Dispatch.Facts] [hPre_chosen_in_range : Cert.Pre_chosen_in_range.Facts] : Prop :=
  ∀ (m : (ℓ : Loc Cert.Dispatch.nD Cert.Dispatch.τ Cert.Dispatch.sig) → Buf (Elt Bits) ℓ) (g : Dev Cert.Dispatch.nD → PrngReg), Pre_Dispatch m →
    θ_run (Cert.Dispatch.defs (F := Bits)) (Cert.Dispatch.threads (F := Bits)) ⟨m, fun _ => 0, g⟩ (fun r => (∀ c : Dev Cert.Dispatch.nD,
      r.2.mem ((c.tc : Thread Cert.Dispatch.nD Cert.Dispatch.τ).loc Cert.Dispatch.main_arg0) = m ((c.tc : Thread Cert.Dispatch.nD Cert.Dispatch.τ).loc Cert.Dispatch.main_arg0)
      ∧ r.2.mem ((c.tc : Thread Cert.Dispatch.nD Cert.Dispatch.τ).loc Cert.Dispatch.main_arg1) = m ((c.tc : Thread Cert.Dispatch.nD Cert.Dispatch.τ).loc Cert.Dispatch.main_arg1))
      ∧ r.2.sem = fun _ => 0)

def quiescent_DispatchIdeal [hDispatchIdeal : Cert.DispatchIdeal.Facts] [hPre_chosen_in_range : Cert.Pre_chosen_in_range.Facts] : Prop :=
  ∀ (m : (ℓ : Loc Cert.DispatchIdeal.nD Cert.DispatchIdeal.τ Cert.DispatchIdeal.sig) → Buf (Elt Ideal) ℓ) (g : Dev Cert.DispatchIdeal.nD → PrngReg), Pre_DispatchIdeal m →
    θ_run (Cert.DispatchIdeal.defs (F := Ideal)) (Cert.DispatchIdeal.threads (F := Ideal)) ⟨m, fun _ => 0, g⟩ (fun r => (∀ c : Dev Cert.DispatchIdeal.nD,
      r.2.mem ((c.tc : Thread Cert.DispatchIdeal.nD Cert.DispatchIdeal.τ).loc Cert.DispatchIdeal.main_arg0) = m ((c.tc : Thread Cert.DispatchIdeal.nD Cert.DispatchIdeal.τ).loc Cert.DispatchIdeal.main_arg0)
      ∧ r.2.mem ((c.tc : Thread Cert.DispatchIdeal.nD Cert.DispatchIdeal.τ).loc Cert.DispatchIdeal.main_arg1) = m ((c.tc : Thread Cert.DispatchIdeal.nD Cert.DispatchIdeal.τ).loc Cert.DispatchIdeal.main_arg1))
      ∧ r.2.sem = fun _ => 0)

def quiescent_DispatchReferenceIdeal [hDispatchReferenceIdeal : Cert.DispatchReferenceIdeal.Facts] : Prop :=
  ∀ (m : (ℓ : Loc Cert.DispatchReferenceIdeal.nD Cert.DispatchReferenceIdeal.τ Cert.DispatchReferenceIdeal.sig) → Buf (Elt Ideal) ℓ) (g : Dev Cert.DispatchReferenceIdeal.nD → PrngReg), Pre_DispatchReferenceIdeal m →
    θ_run (Cert.DispatchReferenceIdeal.defs (F := Ideal)) (onTc (τ := Cert.DispatchReferenceIdeal.τ) (Cert.DispatchReferenceIdeal.main (F := Ideal))) ⟨m, fun _ => 0, g⟩ (fun r => (∀ c : Dev Cert.DispatchReferenceIdeal.nD,
      r.2.mem ((c.tc : Thread Cert.DispatchReferenceIdeal.nD Cert.DispatchReferenceIdeal.τ).loc Cert.DispatchReferenceIdeal.main_arg0) = m ((c.tc : Thread Cert.DispatchReferenceIdeal.nD Cert.DispatchReferenceIdeal.τ).loc Cert.DispatchReferenceIdeal.main_arg0)
      ∧ r.2.mem ((c.tc : Thread Cert.DispatchReferenceIdeal.nD Cert.DispatchReferenceIdeal.τ).loc Cert.DispatchReferenceIdeal.main_arg1) = m ((c.tc : Thread Cert.DispatchReferenceIdeal.nD Cert.DispatchReferenceIdeal.τ).loc Cert.DispatchReferenceIdeal.main_arg1))
      ∧ r.2.sem = fun _ => 0)

def quiescent_DispatchReferenceIdeal_pre_chosen_in_range [hDispatchReferenceIdeal : Cert.DispatchReferenceIdeal.Facts] [hPre_chosen_in_range : Cert.Pre_chosen_in_range.Facts] : Prop :=
  ∀ (m : (ℓ : Loc Cert.DispatchReferenceIdeal.nD Cert.DispatchReferenceIdeal.τ Cert.DispatchReferenceIdeal.sig) → Buf (Elt Ideal) ℓ) (g : Dev Cert.DispatchReferenceIdeal.nD → PrngReg), Pre_DispatchReferenceIdeal_chosen_in_range m →
    θ_run (Cert.DispatchReferenceIdeal.defs (F := Ideal)) (onTc (τ := Cert.DispatchReferenceIdeal.τ) (Cert.DispatchReferenceIdeal.main (F := Ideal))) ⟨m, fun _ => 0, g⟩ (fun r => (∀ c : Dev Cert.DispatchReferenceIdeal.nD,
      r.2.mem ((c.tc : Thread Cert.DispatchReferenceIdeal.nD Cert.DispatchReferenceIdeal.τ).loc Cert.DispatchReferenceIdeal.main_arg0) = m ((c.tc : Thread Cert.DispatchReferenceIdeal.nD Cert.DispatchReferenceIdeal.τ).loc Cert.DispatchReferenceIdeal.main_arg0)
      ∧ r.2.mem ((c.tc : Thread Cert.DispatchReferenceIdeal.nD Cert.DispatchReferenceIdeal.τ).loc Cert.DispatchReferenceIdeal.main_arg1) = m ((c.tc : Thread Cert.DispatchReferenceIdeal.nD Cert.DispatchReferenceIdeal.τ).loc Cert.DispatchReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_dest_in_rows : Cert.Pre_dest_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v6)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v6) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v234) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5))

def preserves_Gate_GateIdeal : Prop :=
  True

def algebraic_GateIdeal_GateReferenceIdeal_pre_gate_finite [hGateIdeal : Cert.GateIdeal.Facts] [hGateReferenceIdeal : Cert.GateReferenceIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal_gate_finite m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v0_0)) (v1 : (c : Dev Cert.GateIdeal.nD) → Buf (Elt Ideal) ((c.tc : Thread Cert.GateIdeal.nD Cert.GateIdeal.τ).loc Cert.GateIdeal.main_v0_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0_0) = v0 c
          ∧ r.2.mem ((c.tc : Thread Cert.GateIdeal.nD Cert.GateIdeal.τ).loc Cert.GateIdeal.main_v0_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_indices) = v0 c
          ∧ r.2.mem ((c.tc : Thread Cert.GateReferenceIdeal.nD Cert.GateReferenceIdeal.τ).loc Cert.GateReferenceIdeal.main_v12) = v1 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1))

def preserves_Dispatch_DispatchIdeal : Prop :=
  True

def algebraic_DispatchIdeal_DispatchReferenceIdeal [hDispatchIdeal : Cert.DispatchIdeal.Facts] [hDispatchReferenceIdeal : Cert.DispatchReferenceIdeal.Facts] [hPre_chosen_in_range : Cert.Pre_chosen_in_range.Facts] : Prop :=
  ∀ (m : (ℓ : Loc Cert.DispatchIdeal.nD Cert.DispatchIdeal.τ Cert.DispatchIdeal.sig) → Buf (Elt Ideal) ℓ) (g : Dev Cert.DispatchIdeal.nD → PrngReg)
    (m' : (ℓ : Loc Cert.DispatchReferenceIdeal.nD Cert.DispatchReferenceIdeal.τ Cert.DispatchReferenceIdeal.sig) → Buf (Elt Ideal) ℓ) (g' : Dev Cert.DispatchReferenceIdeal.nD → PrngReg), Pre_DispatchIdeal m →
    (∀ c : Dev Cert.DispatchIdeal.nD,
      m' ((c.tc : Thread Cert.DispatchReferenceIdeal.nD Cert.DispatchReferenceIdeal.τ).loc Cert.DispatchReferenceIdeal.main_arg0) = m ((c.tc : Thread Cert.DispatchIdeal.nD Cert.DispatchIdeal.τ).loc Cert.DispatchIdeal.main_arg0)
      ∧ m' ((c.tc : Thread Cert.DispatchReferenceIdeal.nD Cert.DispatchReferenceIdeal.τ).loc Cert.DispatchReferenceIdeal.main_arg1) = m ((c.tc : Thread Cert.DispatchIdeal.nD Cert.DispatchIdeal.τ).loc Cert.DispatchIdeal.main_arg1)) →
    ∃ (v0 : (c : Dev Cert.DispatchIdeal.nD) → Buf (Elt Ideal) ((c.tc : Thread Cert.DispatchIdeal.nD Cert.DispatchIdeal.τ).loc Cert.DispatchIdeal.main_v53)),
      θ_run (Cert.DispatchIdeal.defs (F := Ideal)) (Cert.DispatchIdeal.threads (F := Ideal)) ⟨m, fun _ => 0, g⟩ (fun r => ∀ c : Dev Cert.DispatchIdeal.nD,
          r.2.mem ((c.tc : Thread Cert.DispatchIdeal.nD Cert.DispatchIdeal.τ).loc Cert.DispatchIdeal.main_v53) = v0 c
          ∧ r.2.mem ((c.tc : Thread Cert.DispatchIdeal.nD Cert.DispatchIdeal.τ).loc Cert.DispatchIdeal.main_arg0) = m ((c.tc : Thread Cert.DispatchIdeal.nD Cert.DispatchIdeal.τ).loc Cert.DispatchIdeal.main_arg0)
          ∧ r.2.mem ((c.tc : Thread Cert.DispatchIdeal.nD Cert.DispatchIdeal.τ).loc Cert.DispatchIdeal.main_arg1) = m ((c.tc : Thread Cert.DispatchIdeal.nD Cert.DispatchIdeal.τ).loc Cert.DispatchIdeal.main_arg1))
      ∧ θ_run (Cert.DispatchReferenceIdeal.defs (F := Ideal)) (onTc (τ := Cert.DispatchReferenceIdeal.τ) (Cert.DispatchReferenceIdeal.main (F := Ideal))) ⟨m', fun _ => 0, g'⟩ (fun r => ∀ c : Dev Cert.DispatchReferenceIdeal.nD,
          r.2.mem ((c.tc : Thread Cert.DispatchReferenceIdeal.nD Cert.DispatchReferenceIdeal.τ).loc Cert.DispatchReferenceIdeal.main_v1) = v0 c
          ∧ r.2.mem ((c.tc : Thread Cert.DispatchReferenceIdeal.nD Cert.DispatchReferenceIdeal.τ).loc Cert.DispatchReferenceIdeal.main_arg0) = m' ((c.tc : Thread Cert.DispatchReferenceIdeal.nD Cert.DispatchReferenceIdeal.τ).loc Cert.DispatchReferenceIdeal.main_arg0)
          ∧ r.2.mem ((c.tc : Thread Cert.DispatchReferenceIdeal.nD Cert.DispatchReferenceIdeal.τ).loc Cert.DispatchReferenceIdeal.main_arg1) = m' ((c.tc : Thread Cert.DispatchReferenceIdeal.nD Cert.DispatchReferenceIdeal.τ).loc Cert.DispatchReferenceIdeal.main_arg1))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hGate : Cert.Gate.Facts) (hGateIdeal : Cert.GateIdeal.Facts) (hGateReferenceIdeal : Cert.GateReferenceIdeal.Facts) (hDispatch : Cert.Dispatch.Facts) (hDispatchIdeal : Cert.DispatchIdeal.Facts) (hDispatchReferenceIdeal : Cert.DispatchReferenceIdeal.Facts) (hPre_dest_in_rows : Cert.Pre_dest_in_rows.Facts) (hPre_experts_in_range : Cert.Pre_experts_in_range.Facts) (hPre_gate_finite : Cert.Pre_gate_finite.Facts) (hPre_chosen_in_range : Cert.Pre_chosen_in_range.Facts),
    quiescent_Kernel (hKernel := hKernel) (hPre_dest_in_rows := hPre_dest_in_rows)
    ∧ quiescent_KernelIdeal (hKernelIdeal := hKernelIdeal) (hPre_dest_in_rows := hPre_dest_in_rows)
    ∧ quiescent_ReferenceIdeal (hReferenceIdeal := hReferenceIdeal)
    ∧ quiescent_ReferenceIdeal_pre_dest_in_rows (hReferenceIdeal := hReferenceIdeal) (hPre_dest_in_rows := hPre_dest_in_rows)
    ∧ quiescent_Experts (hExperts := hExperts) (hPre_experts_in_range := hPre_experts_in_range)
    ∧ quiescent_ExpertsIdeal (hExpertsIdeal := hExpertsIdeal) (hPre_experts_in_range := hPre_experts_in_range)
    ∧ quiescent_ExpertsReferenceIdeal (hExpertsReferenceIdeal := hExpertsReferenceIdeal)
    ∧ quiescent_ExpertsReferenceIdeal_pre_experts_in_range (hExpertsReferenceIdeal := hExpertsReferenceIdeal) (hPre_experts_in_range := hPre_experts_in_range)
    ∧ quiescent_Gate (hGate := hGate)
    ∧ quiescent_GateIdeal (hGateIdeal := hGateIdeal)
    ∧ quiescent_GateIdeal_pre_gate_finite (hGateIdeal := hGateIdeal) (hPre_gate_finite := hPre_gate_finite)
    ∧ quiescent_GateReferenceIdeal (hGateReferenceIdeal := hGateReferenceIdeal)
    ∧ quiescent_GateReferenceIdeal_pre_gate_finite (hGateReferenceIdeal := hGateReferenceIdeal) (hPre_gate_finite := hPre_gate_finite)
    ∧ quiescent_Dispatch (hDispatch := hDispatch) (hPre_chosen_in_range := hPre_chosen_in_range)
    ∧ quiescent_DispatchIdeal (hDispatchIdeal := hDispatchIdeal) (hPre_chosen_in_range := hPre_chosen_in_range)
    ∧ quiescent_DispatchReferenceIdeal (hDispatchReferenceIdeal := hDispatchReferenceIdeal)
    ∧ quiescent_DispatchReferenceIdeal_pre_chosen_in_range (hDispatchReferenceIdeal := hDispatchReferenceIdeal) (hPre_chosen_in_range := hPre_chosen_in_range)
    ∧ preserves_Kernel_KernelIdeal
    ∧ algebraic_KernelIdeal_ReferenceIdeal (hKernelIdeal := hKernelIdeal) (hReferenceIdeal := hReferenceIdeal) (hPre_dest_in_rows := hPre_dest_in_rows)
    ∧ preserves_Experts_ExpertsIdeal
    ∧ algebraic_ExpertsIdeal_ExpertsReferenceIdeal (hExpertsIdeal := hExpertsIdeal) (hExpertsReferenceIdeal := hExpertsReferenceIdeal) (hPre_experts_in_range := hPre_experts_in_range)
    ∧ preserves_Gate_GateIdeal
    ∧ algebraic_GateIdeal_GateReferenceIdeal_pre_gate_finite (hGateIdeal := hGateIdeal) (hGateReferenceIdeal := hGateReferenceIdeal) (hPre_gate_finite := hPre_gate_finite)
    ∧ preserves_Dispatch_DispatchIdeal
    ∧ algebraic_DispatchIdeal_DispatchReferenceIdeal (hDispatchIdeal := hDispatchIdeal) (hDispatchReferenceIdeal := hDispatchReferenceIdeal) (hPre_chosen_in_range := hPre_chosen_in_range)
-- ==== Pre_chosen_in_range.lean ====
abbrev S8192x1024 : Shape := ⟨2, ![8192, 1024]⟩
abbrev S8192x2 : Shape := ⟨2, ![8192, 2]⟩
abbrev S_ : Shape := ⟨0, ![]⟩

class Facts : Prop where
  bcast_S_S8192x2 : S_.BroadcastsInDim S8192x2 (![] : Fin 0 → Fin S8192x2.rank)
  reducesTo_S8192x2_S_d0_1 : S8192x2.ReducesTo [0, 1] S_
  h_S_ : 0 < S_.numel

variable [Facts]

def fn {F : FTy → Type} [FloatOps F] (main_arg0 : FVec F S8192x1024 .f32) (main_arg1 : IVec S8192x2 32) : IVec S_ 1 :=
  let main_c : IVec S_ 32 := constantI S_ 32 0#32
  let main_v0 : IVec S8192x2 32 := broadcastInDim S8192x2 ![] bcast_S_S8192x2 main_c
  let main_v1 : IVec S8192x2 1 := cmpi .sge main_arg1 main_v0
  let main_c_0 : IVec S_ 32 := constantI S_ 32 8#32
  let main_v2 : IVec S8192x2 32 := broadcastInDim S8192x2 ![] bcast_S_S8192x2 main_c_0
  let main_v3 : IVec S8192x2 1 := cmpi .slt main_arg1 main_v2
  let main_v4 : IVec S8192x2 1 := andi main_v1 main_v3
  let main_c_1 : IVec S_ 1 := constantI S_ 1 1#1
  let main_v5 : IVec S_ 1 := (fun x v => Host.reduce IntOp.andi x v reducesTo_S8192x2_S_d0_1 h_S_) main_v4 main_c_1
  main_v5
-- ==== Pre_dest_in_rows.lean ====
abbrev S18432x1024 : Shape := ⟨2, ![18432, 1024]⟩
abbrev S16384 : Shape := ⟨1, ![16384]⟩
abbrev S8192 : Shape := ⟨1, ![8192]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S18432x1024 .f32) (main_arg1 : IVec S16384 32) (main_arg2 : FVec F S8192 .f32) (main_arg3 : FVec F S8192 .f32) : IVec S_ 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 32 := constantI S_ 32 18432#32
  let main_v2 : IVec S16384 32 := broadcastInDim S16384 ![] bcast_S_S16384 main_c_0
  let main_v3 : IVec S16384 1 := cmpi .slt main_arg1 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Pre_experts_in_range.lean ====
abbrev S18432x1024 : Shape := ⟨2, ![18432, 1024]⟩
abbrev S8x4096x1024 : Shape := ⟨3, ![8, 4096, 1024]⟩
abbrev S8x4096 : Shape := ⟨2, ![8, 4096]⟩
abbrev S8x1024x4096 : Shape := ⟨3, ![8, 1024, 4096]⟩
abbrev S8x1024 : Shape := ⟨2, ![8, 1024]⟩
abbrev S72 : Shape := ⟨1, ![72]⟩
abbrev S_ : Shape := ⟨0, ![]⟩

class Facts : Prop where
  bcast_S_S72 : S_.BroadcastsInDim S72 (![] : Fin 0 → Fin S72.rank)
  reducesTo_S72_S_d0 : S72.ReducesTo [0] S_
  h_S_ : 0 < S_.numel

variable [Facts]

def fn {F : FTy → Type} [FloatOps F] (main_arg0 : FVec F S18432x1024 .f32) (main_arg1 : FVec F S8x4096x1024 .f32) (main_arg2 : FVec F S8x4096 .f32) (main_arg3 : FVec F S8x1024x4096 .f32) (main_arg4 : FVec F S8x1024 .f32) (main_arg5 : IVec S72 32) : IVec S_ 1 :=
  let main_c : IVec S_ 32 := constantI S_ 32 0#32
  let main_v0 : IVec S72 32 := broadcastInDim S72 ![] bcast_S_S72 main_c
  let main_v1 : IVec S72 1 := cmpi .sge main_arg5 main_v0
  let main_c_0 : IVec S_ 32 := constantI S_ 32 8#32
  let main_v2 : IVec S72 32 := broadcastInDim S72 ![] bcast_S_S72 main_c_0
  let main_v3 : IVec S72 1 := cmpi .slt main_arg5 main_v2
  let main_v4 : IVec S72 1 := andi main_v1 main_v3
  let main_c_1 : IVec S_ 1 := constantI S_ 1 1#1
  let main_v5 : IVec S_ 1 := (fun x v => Host.reduce IntOp.andi x v reducesTo_S72_S_d0 h_S_) main_v4 main_c_1
  main_v5
-- ==== Pre_gate_finite.lean ====
abbrev S8192x1024 : Shape := ⟨2, ![8192, 1024]⟩
abbrev S8x1024 : Shape := ⟨2, ![8, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8x1024 : S_.BroadcastsInDim S8x1024 (![] : Fin 0 → Fin S8x1024.rank)
  reducesTo_S8x1024_S_d0_1 : S8x1024.ReducesTo [0, 1] S_

variable [Facts]

def fn {F : FTy → Type} [FloatOps F] (main_arg0 : FVec F S8192x1024 .f32) (main_arg1 : FVec F S8x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8x1024 .f32 := Host.absf main_arg1
  let main_cst_0 : FVec F S_ .f32 := constant S_ .f32 0x7F800000#32
  let main_v5 : FVec F S8x1024 .f32 := broadcastInDim S8x1024 ![] bcast_S_S8x1024 main_cst_0
  let main_v6 : IVec S8x1024 1 := cmpf .olt main_v4 main_v5
  let main_c_1 : IVec S_ 1 := constantI S_ 1 1#1
  let main_v7 : IVec S_ 1 := (fun x v => Host.reduce IntOp.andi x v reducesTo_S8x1024_S_d0_1 h_S_) main_v6 main_c_1
  let main_v8 : IVec S_ 1 := andi main_v3 main_v7
  main_v8
-- ==== Kernel.lean ====
abbrev S18432x1024 : Shape := ⟨2, ![18432, 1024]⟩
abbrev S16384 : Shape := ⟨1, ![16384]⟩
abbrev S8192 : Shape := ⟨1, ![8192]⟩
abbrev S8192x1024 : Shape := ⟨2, ![8192, 1024]⟩
abbrev S256 : Shape := ⟨1, ![256]⟩
abbrev S32 : Shape := ⟨1, ![32]⟩
abbrev S32x1024 : Shape := ⟨2, ![32, 1024]⟩
abbrev S16x1024 : Shape := ⟨2, ![16, 1024]⟩
abbrev S8 : Shape := ⟨1, ![8]⟩
abbrev S_ : Shape := ⟨0, ![]⟩
abbrev S32x128 : Shape := ⟨2, ![32, 128]⟩
abbrev S18432x128 : Shape := ⟨2, ![18432, 128]⟩
abbrev S1 : Shape := ⟨1, ![1]⟩
abbrev S16 : Shape := ⟨1, ![16]⟩
abbrev S1x16 : Shape := ⟨2, ![1, 16]⟩

abbrev nBuf : Table → Nat
  | .hbm => 5
  | .local .scVector .vmem => 8
  | _ => 0

abbrev bufTy : (tb : Table) → Fin (nBuf tb) → BufTy
  | .hbm, ⟨0, _⟩ => ⟨S18432x1024, .f32⟩
  | .hbm, ⟨1, _⟩ => ⟨S16384, .i32⟩
  | .hbm, ⟨2, _⟩ => ⟨S8192, .f32⟩
  | .hbm, ⟨3, _⟩ => ⟨S8192, .f32⟩
  | .hbm, ⟨4, _⟩ => ⟨S8192x1024, .f32⟩
  | .local .scVector .vmem, ⟨0, _⟩ => ⟨S256, .f32⟩
  | .local .scVector .vmem, ⟨1, _⟩ => ⟨S256, .f32⟩
  | .local .scVector .vmem, ⟨2, _⟩ => ⟨S32, .i32⟩
  | .local .scVector .vmem, ⟨3, _⟩ => ⟨S32, .i32⟩
  | .local .scVector .vmem, ⟨4, _⟩ => ⟨S32x1024, .f32⟩
  | .local .scVector .vmem, ⟨5, _⟩ => ⟨S32x1024, .f32⟩
  | .local .scVector .vmem, ⟨6, _⟩ => ⟨S16x1024, .f32⟩
  | .local .scVector .vmem, ⟨7, _⟩ => ⟨S16x1024, .f32⟩
  | _, _ => ⟨S18432x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 36 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | _ => false

abbrev sig : RefSig :=
  ofTables nBuf rfl bufTy 4 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_v0_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![v2.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32_0 : BitVec 32 := 256#32
  let v3 : BitVec 32 := Scalar.muli v1 c256_i32_0
  let c2_i32_1 : BitVec 32 := 2#32
  let v4 : BitVec 32 := Scalar.muli v3 c2_i32_1
  ![v4.toNat]
@[reducible] def k0_t1_loop : Scf.Loop 32 :=
  let c0_i32 : BitVec 32 := 0#32
  let c8_i32 : BitVec 32 := 8#32
  let v5 : BitVec 32 := Scalar.addi c0_i32 c8_i32
  let c1_i32 : BitVec 32 := 1#32
  ⟨c0_i32, v5, c1_i32⟩
def k0_mult1 (k0_t1 : Fin k0_t1_loop.trips) : BitVec 32 :=
  let c0_i32_281 : BitVec 32 := 0#32
  let c0_i32 : BitVec 32 := 0#32
  let c1_i32 : BitVec 32 := 1#32
  let arg19 : BitVec 32 := Scf.iv c0_i32 c1_i32 k0_t1
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  v166
def k0_off3 (k0_t1 : Fin k0_t1_loop.trips) : Fin 2 → Nat :=
  let c0_i32_283 : BitVec 32 := 0#32
  let c0_i32_281 : BitVec 32 := 0#32
  let c0_i32 : BitVec 32 := 0#32
  let c1_i32 : BitVec 32 := 1#32
  let arg19 : BitVec 32 := Scf.iv c0_i32 c1_i32 k0_t1
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off4 (k0_t1 : Fin k0_t1_loop.trips) : Fin 2 → Nat :=
  let c0_i32_284 : BitVec 32 := 0#32
  let c0_i32_281 : BitVec 32 := 0#32
  let c0_i32 : BitVec 32 := 0#32
  let c1_i32 : BitVec 32 := 1#32
  let arg19 : BitVec 32 := Scf.iv c0_i32 c1_i32 k0_t1
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off5 (k0_t1 : Fin k0_t1_loop.trips) : Fin 1 → Nat :=
  let c0_i32_281 : BitVec 32 := 0#32
  let c0_i32 : BitVec 32 := 0#32
  let c1_i32 : BitVec 32 := 1#32
  let arg19 : BitVec 32 := Scf.iv c0_i32 c1_i32 k0_t1
  let c1_i32_280 : BitVec 32 := 1#32
  let v164 : BitVec 32 := Scalar.muli arg19 c1_i32_280
  let v165 : BitVec 32 := Scalar.addi c0_i32_281 v164
  ![v165.toNat]
def k0_off6 (i : grid0.Coords) (c32_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32_0 : BitVec 32 := 256#32
  let v3 : BitVec 32 := Scalar.muli v1 c256_i32_0
  let c2_i32_1 : BitVec 32 := 2#32
  let v4 : BitVec 32 := Scalar.muli v3 c2_i32_1
  let v6 : BitVec 32 := Scalar.addi v4 c32_i32
  ![v6.toNat]
@[reducible] def k0_t2_loop : Scf.Loop 32 :=
  let c0_i32_3 : BitVec 32 := 0#32
  let c8_i32_4 : BitVec 32 := 8#32
  let v7 : BitVec 32 := Scalar.addi c0_i32_3 c8_i32_4
  let c1_i32_5 : BitVec 32 := 1#32
  ⟨c0_i32_3, v7, c1_i32_5⟩
def k0_mult2 (k0_t2 : Fin k0_t2_loop.trips) : BitVec 32 :=
  let c0_i32_281 : BitVec 32 := 0#32
  let c0_i32_3 : BitVec 32 := 0#32
  let c1_i32_5 : BitVec 32 := 1#32
  let arg19 : BitVec 32 := Scf.iv c0_i32_3 c1_i32_5 k0_t2
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  v166
def k0_off7 (k0_t2 : Fin k0_t2_loop.trips) : Fin 2 → Nat :=
  let c0_i32_283 : BitVec 32 := 0#32
  let c0_i32_281 : BitVec 32 := 0#32
  let c0_i32_3 : BitVec 32 := 0#32
  let c1_i32_5 : BitVec 32 := 1#32
  let arg19 : BitVec 32 := Scf.iv c0_i32_3 c1_i32_5 k0_t2
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off8 (k0_t2 : Fin k0_t2_loop.trips) : Fin 2 → Nat :=
  let c0_i32_284 : BitVec 32 := 0#32
  let c0_i32_281 : BitVec 32 := 0#32
  let c0_i32_3 : BitVec 32 := 0#32
  let c1_i32_5 : BitVec 32 := 1#32
  let arg19 : BitVec 32 := Scf.iv c0_i32_3 c1_i32_5 k0_t2
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off9 (k0_t2 : Fin k0_t2_loop.trips) : Fin 1 → Nat :=
  let c0_i32_281 : BitVec 32 := 0#32
  let c0_i32_3 : BitVec 32 := 0#32
  let c1_i32_5 : BitVec 32 := 1#32
  let arg19 : BitVec 32 := Scf.iv c0_i32_3 c1_i32_5 k0_t2
  let c1_i32_280 : BitVec 32 := 1#32
  let v164 : BitVec 32 := Scalar.muli arg19 c1_i32_280
  let v165 : BitVec 32 := Scalar.addi c0_i32_281 v164
  ![v165.toNat]
@[reducible] def k0_t3_loop : Scf.Loop 32 :=
  let c0_i32_7 : BitVec 32 := 0#32
  let c8_i32_8 : BitVec 32 := 8#32
  let v8 : BitVec 32 := Scalar.addi c0_i32_7 c8_i32_8
  let c1_i32_9 : BitVec 32 := 1#32
  ⟨c0_i32_7, v8, c1_i32_9⟩
def k0_mult3 (k0_t3 : Fin k0_t3_loop.trips) : BitVec 32 :=
  let c0_i32_281 : BitVec 32 := 0#32
  let c0_i32_7 : BitVec 32 := 0#32
  let c1_i32_9 : BitVec 32 := 1#32
  let arg19 : BitVec 32 := Scf.iv c0_i32_7 c1_i32_9 k0_t3
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  v166
def k0_off10 (k0_t3 : Fin k0_t3_loop.trips) : Fin 2 → Nat :=
  let c0_i32_283 : BitVec 32 := 0#32
  let c0_i32_281 : BitVec 32 := 0#32
  let c0_i32_7 : BitVec 32 := 0#32
  let c1_i32_9 : BitVec 32 := 1#32
  let arg19 : BitVec 32 := Scf.iv c0_i32_7 c1_i32_9 k0_t3
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off11 (k0_t3 : Fin k0_t3_loop.trips) : Fin 2 → Nat :=
  let c0_i32_284 : BitVec 32 := 0#32
  let c0_i32_281 : BitVec 32 := 0#32
  let c0_i32_7 : BitVec 32 := 0#32
  let c1_i32_9 : BitVec 32 := 1#32
  let arg19 : BitVec 32 := Scf.iv c0_i32_7 c1_i32_9 k0_t3
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off12 (k0_t3 : Fin k0_t3_loop.trips) : Fin 1 → Nat :=
  let c0_i32_281 : BitVec 32 := 0#32
  let c0_i32_7 : BitVec 32 := 0#32
  let c1_i32_9 : BitVec 32 := 1#32
  let arg19 : BitVec 32 := Scf.iv c0_i32_7 c1_i32_9 k0_t3
  let c1_i32_280 : BitVec 32 := 1#32
  let v164 : BitVec 32 := Scalar.muli arg19 c1_i32_280
  let v165 : BitVec 32 := Scalar.addi c0_i32_281 v164
  ![v165.toNat]
@[reducible] def k0_t4_loop : Scf.Loop 32 :=
  let c0_i32_12 : BitVec 32 := 0#32
  let c16_i32 : BitVec 32 := 16#32
  let v9 : BitVec 32 := Scalar.addi c0_i32_12 c16_i32
  let c1_i32_13 : BitVec 32 := 1#32
  ⟨c0_i32_12, v9, c1_i32_13⟩

def k0_chk1 (v165 : IVec S16 32) : Prop :=
  (∀ a x, ((![v165] : Fin 1 → IVec S16 32) a x).toNat < S256.size a) ∧
  (∀ a x, ((![v165] : Fin 1 → IVec S16 32) a x).toNat < S256.size a)
theorem k0_idx1_inb : ∀ (v165 : IVec S16 32) (k0_hw1 : k0_chk1 v165), ∀ a x, ((![v165] : Fin 1 → IVec S16 32) a x).toNat < S256.size a := fun v165 k0_hw1 => k0_hw1.1
theorem k0_idx2_inb : ∀ (v165 : IVec S16 32) (k0_hw1 : k0_chk1 v165), ∀ a x, ((![v165] : Fin 1 → IVec S16 32) a x).toNat < S256.size a := fun v165 k0_hw1 => k0_hw1.2
@[reducible] def k0_t5_loop : Scf.Loop 32 :=
  let c0_i32_282 : BitVec 32 := 0#32
  let c64_i32_283 : BitVec 32 := 64#32
  let v168 : BitVec 32 := Scalar.addi c0_i32_282 c64_i32_283
  let c1_i32_284 : BitVec 32 := 1#32
  ⟨c0_i32_282, v168, c1_i32_284⟩
def k0_off13 (k0_t4 : Fin k0_t4_loop.trips) (k0_t5 : Fin k0_t5_loop.trips) : Fin 2 → Nat :=
  let c2_i32_287 : BitVec 32 := 2#32
  let c0_i32_12 : BitVec 32 := 0#32
  let c1_i32_13 : BitVec 32 := 1#32
  let arg19 : BitVec 32 := Scf.iv c0_i32_12 c1_i32_13 k0_t4
  let v171 : BitVec 32 := Scalar.muli c2_i32_287 arg19
  let v172 : Index := Scalar.indexCast v171
  let c0_i32_282 : BitVec 32 := 0#32
  let c1_i32_284 : BitVec 32 := 1#32
  let arg21 : BitVec 32 := Scf.iv c0_i32_282 c1_i32_284 k0_t5
  let c16_i32_286 : BitVec 32 := 16#32
  let v170 : BitVec 32 := Scalar.muli arg21 c16_i32_286
  let v173 : Index := Scalar.indexCast v170
  ![v172.toNat, v173.toNat]
def k0_off14 (k0_t4 : Fin k0_t4_loop.trips) (k0_t5 : Fin k0_t5_loop.trips) : Fin 2 → Nat :=
  let c2_i32_288 : BitVec 32 := 2#32
  let c0_i32_12 : BitVec 32 := 0#32
  let c1_i32_13 : BitVec 32 := 1#32
  let arg19 : BitVec 32 := Scf.iv c0_i32_12 c1_i32_13 k0_t4
  let v177 : BitVec 32 := Scalar.muli c2_i32_288 arg19
  let c1_i32_289 : BitVec 32 := 1#32
  let v178 : BitVec 32 := Scalar.addi v177 c1_i32_289
  let v179 : Index := Scalar.indexCast v178
  let c0_i32_282 : BitVec 32 := 0#32
  let c1_i32_284 : BitVec 32 := 1#32
  let arg21 : BitVec 32 := Scf.iv c0_i32_282 c1_i32_284 k0_t5
  let c16_i32_286 : BitVec 32 := 16#32
  let v170 : BitVec 32 := Scalar.muli arg21 c16_i32_286
  let v180 : Index := Scalar.indexCast v170
  ![v179.toNat, v180.toNat]
def k0_off15 (k0_t4 : Fin k0_t4_loop.trips) (k0_t5 : Fin k0_t5_loop.trips) : Fin 2 → Nat :=
  let c0_i32_12 : BitVec 32 := 0#32
  let c1_i32_13 : BitVec 32 := 1#32
  let arg19 : BitVec 32 := Scf.iv c0_i32_12 c1_i32_13 k0_t4
  let v185 : Index := Scalar.indexCast arg19
  let c0_i32_282 : BitVec 32 := 0#32
  let c1_i32_284 : BitVec 32 := 1#32
  let arg21 : BitVec 32 := Scf.iv c0_i32_282 c1_i32_284 k0_t5
  let c16_i32_286 : BitVec 32 := 16#32
  let v170 : BitVec 32 := Scalar.muli arg21 c16_i32_286
  let v186 : Index := Scalar.indexCast v170
  ![v185.toNat, v186.toNat]
def k0_off16 (i : grid0.Coords) (c0_i32_15 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v11 : BitVec 32 := Scalar.addi v2 c0_i32_15
  let c0_i32_16 : BitVec 32 := 0#32
  ![v11.toNat, 0]
@[reducible] def k0_t6_loop : Scf.Loop 32 :=
  let c0_i32_18 : BitVec 32 := 0#32
  let c8_i32_19 : BitVec 32 := 8#32
  let v15 : BitVec 32 := Scalar.addi c0_i32_18 c8_i32_19
  let c1_i32_20 : BitVec 32 := 1#32
  ⟨c0_i32_18, v15, c1_i32_20⟩
def k0_mult4 (k0_t6 : Fin k0_t6_loop.trips) : BitVec 32 :=
  let c0_i32_281 : BitVec 32 := 0#32
  let c0_i32_18 : BitVec 32 := 0#32
  let c1_i32_20 : BitVec 32 := 1#32
  let arg19 : BitVec 32 := Scf.iv c0_i32_18 c1_i32_20 k0_t6
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  v166
def k0_off17 (k0_t6 : Fin k0_t6_loop.trips) : Fin 2 → Nat :=
  let c0_i32_283 : BitVec 32 := 0#32
  let c0_i32_281 : BitVec 32 := 0#32
  let c0_i32_18 : BitVec 32 := 0#32
  let c1_i32_20 : BitVec 32 := 1#32
  let arg19 : BitVec 32 := Scf.iv c0_i32_18 c1_i32_20 k0_t6
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off18 (k0_t6 : Fin k0_t6_loop.trips) : Fin 2 → Nat :=
  let c0_i32_284 : BitVec 32 := 0#32
  let c0_i32_281 : BitVec 32 := 0#32
  let c0_i32_18 : BitVec 32 := 0#32
  let c1_i32_20 : BitVec 32 := 1#32
  let arg19 : BitVec 32 := Scf.iv c0_i32_18 c1_i32_20 k0_t6
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off19 (k0_t6 : Fin k0_t6_loop.trips) : Fin 1 → Nat :=
  let c0_i32_281 : BitVec 32 := 0#32
  let c0_i32_18 : BitVec 32 := 0#32
  let c1_i32_20 : BitVec 32 := 1#32
  let arg19 : BitVec 32 := Scf.iv c0_i32_18 c1_i32_20 k0_t6
  let c1_i32_280 : BitVec 32 := 1#32
  let v164 : BitVec 32 := Scalar.muli arg19 c1_i32_280
  let v165 : BitVec 32 := Scalar.addi c0_i32_281 v164
  ![v165.toNat]
@[reducible] def k0_t7_loop : Scf.Loop 32 :=
  let c0_i32_22 : BitVec 32 := 0#32
  let c8_i32_23 : BitVec 32 := 8#32
  let v16 : BitVec 32 := Scalar.addi c0_i32_22 c8_i32_23
  let c1_i32_24 : BitVec 32 := 1#32
  ⟨c0_i32_22, v16, c1_i32_24⟩
def k0_mult5 (k0_t7 : Fin k0_t7_loop.trips) : BitVec 32 :=
  let c0_i32_281 : BitVec 32 := 0#32
  let c0_i32_22 : BitVec 32 := 0#32
  let c1_i32_24 : BitVec 32 := 1#32
  let arg19 : BitVec 32 := Scf.iv c0_i32_22 c1_i32_24 k0_t7
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  v166
def k0_off20 (k0_t7 : Fin k0_t7_loop.trips) : Fin 2 → Nat :=
  let c0_i32_283 : BitVec 32 := 0#32
  let c0_i32_281 : BitVec 32 := 0#32
  let c0_i32_22 : BitVec 32 := 0#32
  let c1_i32_24 : BitVec 32 := 1#32
  let arg19 : BitVec 32 := Scf.iv c0_i32_22 c1_i32_24 k0_t7
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off21 (k0_t7 : Fin k0_t7_loop.trips) : Fin 2 → Nat :=
  let c0_i32_284 : BitVec 32 := 0#32
  let c0_i32_281 : BitVec 32 := 0#32
  let c0_i32_22 : BitVec 32 := 0#32
  let c1_i32_24 : BitVec 32 := 1#32
  let arg19 : BitVec 32 := Scf.iv c0_i32_22 c1_i32_24 k0_t7
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off22 (k0_t7 : Fin k0_t7_loop.trips) : Fin 1 → Nat :=
  let c0_i32_281 : BitVec 32 := 0#32
  let c0_i32_22 : BitVec 32 := 0#32
  let c1_i32_24 : BitVec 32 := 1#32
  let arg19 : BitVec 32 := Scf.iv c0_i32_22 c1_i32_24 k0_t7
  let c1_i32_280 : BitVec 32 := 1#32
  let v164 : BitVec 32 := Scalar.muli arg19 c1_i32_280
  let v165 : BitVec 32 := Scalar.addi c0_i32_281 v164
  ![v165.toNat]
@[reducible] def k0_t8_loop : Scf.Loop 32 :=
  let c0_i32_27 : BitVec 32 := 0#32
  let c16_i32_28 : BitVec 32 := 16#32
  let v17 : BitVec 32 := Scalar.addi c0_i32_27 c16_i32_28
  let c1_i32_29 : BitVec 32 := 1#32
  ⟨c0_i32_27, v17, c1_i32_29⟩

def k0_chk2 (v165 : IVec S16 32) : Prop :=
  (∀ a x, ((![v165] : Fin 1 → IVec S16 32) a x).toNat < S256.size a) ∧
  (∀ a x, ((![v165] : Fin 1 → IVec S16 32) a x).toNat < S256.size a)
theorem k0_idx3_inb : ∀ (v165 : IVec S16 32) (k0_hw2 : k0_chk2 v165), ∀ a x, ((![v165] : Fin 1 → IVec S16 32) a x).toNat < S256.size a := fun v165 k0_hw2 => k0_hw2.1
theorem k0_idx4_inb : ∀ (v165 : IVec S16 32) (k0_hw2 : k0_chk2 v165), ∀ a x, ((![v165] : Fin 1 → IVec S16 32) a x).toNat < S256.size a := fun v165 k0_hw2 => k0_hw2.2
@[reducible] def k0_t9_loop : Scf.Loop 32 :=
  let c0_i32_282 : BitVec 32 := 0#32
  let c64_i32_283 : BitVec 32 := 64#32
  let v168 : BitVec 32 := Scalar.addi c0_i32_282 c64_i32_283
  let c1_i32_284 : BitVec 32 := 1#32
  ⟨c0_i32_282, v168, c1_i32_284⟩
def k0_off23 (k0_t8 : Fin k0_t8_loop.trips) (k0_t9 : Fin k0_t9_loop.trips) : Fin 2 → Nat :=
  let c2_i32_287 : BitVec 32 := 2#32
  let c0_i32_27 : BitVec 32 := 0#32
  let c1_i32_29 : BitVec 32 := 1#32
  let arg19 : BitVec 32 := Scf.iv c0_i32_27 c1_i32_29 k0_t8
  let v171 : BitVec 32 := Scalar.muli c2_i32_287 arg19
  let v172 : Index := Scalar.indexCast v171
  let c0_i32_282 : BitVec 32 := 0#32
  let c1_i32_284 : BitVec 32 := 1#32
  let arg21 : BitVec 32 := Scf.iv c0_i32_282 c1_i32_284 k0_t9
  let c16_i32_286 : BitVec 32 := 16#32
  let v170 : BitVec 32 := Scalar.muli arg21 c16_i32_286
  let v173 : Index := Scalar.indexCast v170
  ![v172.toNat, v173.toNat]
def k0_off24 (k0_t8 : Fin k0_t8_loop.trips) (k0_t9 : Fin k0_t9_loop.trips) : Fin 2 → Nat :=
  let c2_i32_288 : BitVec 32 := 2#32
  let c0_i32_27 : BitVec 32 := 0#32
  let c1_i32_29 : BitVec 32 := 1#32
  let arg19 : BitVec 32 := Scf.iv c0_i32_27 c1_i32_29 k0_t8
  let v177 : BitVec 32 := Scalar.muli c2_i32_288 arg19
  let c1_i32_289 : BitVec 32 := 1#32
  let v178 : BitVec 32 := Scalar.addi v177 c1_i32_289
  let v179 : Index := Scalar.indexCast v178
  let c0_i32_282 : BitVec 32 := 0#32
  let c1_i32_284 : BitVec 32 := 1#32
  let arg21 : BitVec 32 := Scf.iv c0_i32_282 c1_i32_284 k0_t9
  let c16_i32_286 : BitVec 32 := 16#32
  let v170 : BitVec 32 := Scalar.muli arg21 c16_i32_286
  let v180 : Index := Scalar.indexCast v170
  ![v179.toNat, v180.toNat]
def k0_off25 (k0_t8 : Fin k0_t8_loop.trips) (k0_t9 : Fin k0_t9_loop.trips) : Fin 2 → Nat :=
  let c0_i32_27 : BitVec 32 := 0#32
  let c1_i32_29 : BitVec 32 := 1#32
  let arg19 : BitVec 32 := Scf.iv c0_i32_27 c1_i32_29 k0_t8
  let v185 : Index := Scalar.indexCast arg19
  let c0_i32_282 : BitVec 32 := 0#32
  let c1_i32_284 : BitVec 32 := 1#32
  let arg21 : BitVec 32 := Scf.iv c0_i32_282 c1_i32_284 k0_t9
  let c16_i32_286 : BitVec 32 := 16#32
  let v170 : BitVec 32 := Scalar.muli arg21 c16_i32_286
  let v186 : Index := Scalar.indexCast v170
  ![v185.toNat, v186.toNat]
@[reducible] def k0_t10_loop : Scf.Loop 32 :=
  let c0_i32_34 : BitVec 32 := 0#32
  let c8_i32_35 : BitVec 32 := 8#32
  let v23 : BitVec 32 := Scalar.addi c0_i32_34 c8_i32_35
  let c1_i32_36 : BitVec 32 := 1#32
  ⟨c0_i32_34, v23, c1_i32_36⟩
def k0_mult6 (k0_t10 : Fin k0_t10_loop.trips) : BitVec 32 :=
  let c0_i32_281 : BitVec 32 := 0#32
  let c0_i32_34 : BitVec 32 := 0#32
  let c1_i32_36 : BitVec 32 := 1#32
  let arg19 : BitVec 32 := Scf.iv c0_i32_34 c1_i32_36 k0_t10
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  v166
def k0_off26 (k0_t10 : Fin k0_t10_loop.trips) : Fin 2 → Nat :=
  let c0_i32_283 : BitVec 32 := 0#32
  let c0_i32_281 : BitVec 32 := 0#32
  let c0_i32_34 : BitVec 32 := 0#32
  let c1_i32_36 : BitVec 32 := 1#32
  let arg19 : BitVec 32 := Scf.iv c0_i32_34 c1_i32_36 k0_t10
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off27 (k0_t10 : Fin k0_t10_loop.trips) : Fin 2 → Nat :=
  let c0_i32_284 : BitVec 32 := 0#32
  let c0_i32_281 : BitVec 32 := 0#32
  let c0_i32_34 : BitVec 32 := 0#32
  let c1_i32_36 : BitVec 32 := 1#32
  let arg19 : BitVec 32 := Scf.iv c0_i32_34 c1_i32_36 k0_t10
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off28 (k0_t10 : Fin k0_t10_loop.trips) : Fin 1 → Nat :=
  let c0_i32_281 : BitVec 32 := 0#32
  let c0_i32_34 : BitVec 32 := 0#32
  let c1_i32_36 : BitVec 32 := 1#32
  let arg19 : BitVec 32 := Scf.iv c0_i32_34 c1_i32_36 k0_t10
  let c1_i32_280 : BitVec 32 := 1#32
  let v164 : BitVec 32 := Scalar.muli arg19 c1_i32_280
  let v165 : BitVec 32 := Scalar.addi c0_i32_281 v164
  ![v165.toNat]
@[reducible] def k0_t11_loop : Scf.Loop 32 :=
  let c0_i32_38 : BitVec 32 := 0#32
  let c8_i32_39 : BitVec 32 := 8#32
  let v24 : BitVec 32 := Scalar.addi c0_i32_38 c8_i32_39
  let c1_i32_40 : BitVec 32 := 1#32
  ⟨c0_i32_38, v24, c1_i32_40⟩
def k0_mult7 (k0_t11 : Fin k0_t11_loop.trips) : BitVec 32 :=
  let c0_i32_281 : BitVec 32 := 0#32
  let c0_i32_38 : BitVec 32 := 0#32
  let c1_i32_40 : BitVec 32 := 1#32
  let arg19 : BitVec 32 := Scf.iv c0_i32_38 c1_i32_40 k0_t11
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  v166
def k0_off29 (k0_t11 : Fin k0_t11_loop.trips) : Fin 2 → Nat :=
  let c0_i32_283 : BitVec 32 := 0#32
  let c0_i32_281 : BitVec 32 := 0#32
  let c0_i32_38 : BitVec 32 := 0#32
  let c1_i32_40 : BitVec 32 := 1#32
  let arg19 : BitVec 32 := Scf.iv c0_i32_38 c1_i32_40 k0_t11
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off30 (k0_t11 : Fin k0_t11_loop.trips) : Fin 2 → Nat :=
  let c0_i32_284 : BitVec 32 := 0#32
  let c0_i32_281 : BitVec 32 := 0#32
  let c0_i32_38 : BitVec 32 := 0#32
  let c1_i32_40 : BitVec 32 := 1#32
  let arg19 : BitVec 32 := Scf.iv c0_i32_38 c1_i32_40 k0_t11
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off31 (k0_t11 : Fin k0_t11_loop.trips) : Fin 1 → Nat :=
  let c0_i32_281 : BitVec 32 := 0#32
  let c0_i32_38 : BitVec 32 := 0#32
  let c1_i32_40 : BitVec 32 := 1#32
  let arg19 : BitVec 32 := Scf.iv c0_i32_38 c1_i32_40 k0_t11
  let c1_i32_280 : BitVec 32 := 1#32
  let v164 : BitVec 32 := Scalar.muli arg19 c1_i32_280
  let v165 : BitVec 32 := Scalar.addi c0_i32_281 v164
  ![v165.toNat]
@[reducible] def k0_t12_loop : Scf.Loop 32 :=
  let c0_i32_45 : BitVec 32 := 0#32
  let c16_i32_46 : BitVec 32 := 16#32
  let v27 : BitVec 32 := Scalar.addi c0_i32_45 c16_i32_46
  let c1_i32_47 : BitVec 32 := 1#32
  ⟨c0_i32_45, v27, c1_i32_47⟩

def k0_chk3 (v165 : IVec S16 32) : Prop :=
  (∀ a x, ((![v165] : Fin 1 → IVec S16 32) a x).toNat < S256.size a) ∧
  (∀ a x, ((![v165] : Fin 1 → IVec S16 32) a x).toNat < S256.size a)
theorem k0_idx5_inb : ∀ (v165 : IVec S16 32) (k0_hw3 : k0_chk3 v165), ∀ a x, ((![v165] : Fin 1 → IVec S16 32) a x).toNat < S256.size a := fun v165 k0_hw3 => k0_hw3.1
theorem k0_idx6_inb : ∀ (v165 : IVec S16 32) (k0_hw3 : k0_chk3 v165), ∀ a x, ((![v165] : Fin 1 → IVec S16 32) a x).toNat < S256.size a := fun v165 k0_hw3 => k0_hw3.2
@[reducible] def k0_t13_loop : Scf.Loop 32 :=
  let c0_i32_282 : BitVec 32 := 0#32
  let c64_i32_283 : BitVec 32 := 64#32
  let v168 : BitVec 32 := Scalar.addi c0_i32_282 c64_i32_283
  let c1_i32_284 : BitVec 32 := 1#32
  ⟨c0_i32_282, v168, c1_i32_284⟩
def k0_off32 (k0_t12 : Fin k0_t12_loop.trips) (k0_t13 : Fin k0_t13_loop.trips) : Fin 2 → Nat :=
  let c2_i32_287 : BitVec 32 := 2#32
  let c0_i32_45 : BitVec 32 := 0#32
  let c1_i32_47 : BitVec 32 := 1#32
  let arg19 : BitVec 32 := Scf.iv c0_i32_45 c1_i32_47 k0_t12
  let v171 : BitVec 32 := Scalar.muli c2_i32_287 arg19
  let v172 : Index := Scalar.indexCast v171
  let c0_i32_282 : BitVec 32 := 0#32
  let c1_i32_284 : BitVec 32 := 1#32
  let arg21 : BitVec 32 := Scf.iv c0_i32_282 c1_i32_284 k0_t13
  let c16_i32_286 : BitVec 32 := 16#32
  let v170 : BitVec 32 := Scalar.muli arg21 c16_i32_286
  let v173 : Index := Scalar.indexCast v170
  ![v172.toNat, v173.toNat]
def k0_off33 (k0_t12 : Fin k0_t12_loop.trips) (k0_t13 : Fin k0_t13_loop.trips) : Fin 2 → Nat :=
  let c2_i32_288 : BitVec 32 := 2#32
  let c0_i32_45 : BitVec 32 := 0#32
  let c1_i32_47 : BitVec 32 := 1#32
  let arg19 : BitVec 32 := Scf.iv c0_i32_45 c1_i32_47 k0_t12
  let v177 : BitVec 32 := Scalar.muli c2_i32_288 arg19
  let c1_i32_289 : BitVec 32 := 1#32
  let v178 : BitVec 32 := Scalar.addi v177 c1_i32_289
  let v179 : Index := Scalar.indexCast v178
  let c0_i32_282 : BitVec 32 := 0#32
  let c1_i32_284 : BitVec 32 := 1#32
  let arg21 : BitVec 32 := Scf.iv c0_i32_282 c1_i32_284 k0_t13
  let c16_i32_286 : BitVec 32 := 16#32
  let v170 : BitVec 32 := Scalar.muli arg21 c16_i32_286
  let v180 : Index := Scalar.indexCast v170
  ![v179.toNat, v180.toNat]
def k0_off34 (k0_t12 : Fin k0_t12_loop.trips) (k0_t13 : Fin k0_t13_loop.trips) : Fin 2 → Nat :=
  let c0_i32_45 : BitVec 32 := 0#32
  let c1_i32_47 : BitVec 32 := 1#32
  let arg19 : BitVec 32 := Scf.iv c0_i32_45 c1_i32_47 k0_t12
  let v185 : Index := Scalar.indexCast arg19
  let c0_i32_282 : BitVec 32 := 0#32
  let c1_i32_284 : BitVec 32 := 1#32
  let arg21 : BitVec 32 := Scf.iv c0_i32_282 c1_i32_284 k0_t13
  let c16_i32_286 : BitVec 32 := 16#32
  let v170 : BitVec 32 := Scalar.muli arg21 c16_i32_286
  let v186 : Index := Scalar.indexCast v170
  ![v185.toNat, v186.toNat]
@[reducible] def k0_t14_loop : Scf.Loop 32 :=
  let c0_i32_52 : BitVec 32 := 0#32
  let c8_i32_53 : BitVec 32 := 8#32
  let v33 : BitVec 32 := Scalar.addi c0_i32_52 c8_i32_53
  let c1_i32_54 : BitVec 32 := 1#32
  ⟨c0_i32_52, v33, c1_i32_54⟩
def k0_mult8 (k0_t14 : Fin k0_t14_loop.trips) : BitVec 32 :=
  let c0_i32_281 : BitVec 32 := 0#32
  let c0_i32_52 : BitVec 32 := 0#32
  let c1_i32_54 : BitVec 32 := 1#32
  let arg19 : BitVec 32 := Scf.iv c0_i32_52 c1_i32_54 k0_t14
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  v166
def k0_off35 (k0_t14 : Fin k0_t14_loop.trips) : Fin 2 → Nat :=
  let c0_i32_283 : BitVec 32 := 0#32
  let c0_i32_281 : BitVec 32 := 0#32
  let c0_i32_52 : BitVec 32 := 0#32
  let c1_i32_54 : BitVec 32 := 1#32
  let arg19 : BitVec 32 := Scf.iv c0_i32_52 c1_i32_54 k0_t14
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off36 (k0_t14 : Fin k0_t14_loop.trips) : Fin 2 → Nat :=
  let c0_i32_284 : BitVec 32 := 0#32
  let c0_i32_281 : BitVec 32 := 0#32
  let c0_i32_52 : BitVec 32 := 0#32
  let c1_i32_54 : BitVec 32 := 1#32
  let arg19 : BitVec 32 := Scf.iv c0_i32_52 c1_i32_54 k0_t14
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off37 (k0_t14 : Fin k0_t14_loop.trips) : Fin 1 → Nat :=
  let c0_i32_281 : BitVec 32 := 0#32
  let c0_i32_52 : BitVec 32 := 0#32
  let c1_i32_54 : BitVec 32 := 1#32
  let arg19 : BitVec 32 := Scf.iv c0_i32_52 c1_i32_54 k0_t14
  let c1_i32_280 : BitVec 32 := 1#32
  let v164 : BitVec 32 := Scalar.muli arg19 c1_i32_280
  let v165 : BitVec 32 := Scalar.addi c0_i32_281 v164
  ![v165.toNat]
@[reducible] def k0_t15_loop : Scf.Loop 32 :=
  let c0_i32_56 : BitVec 32 := 0#32
  let c8_i32_57 : BitVec 32 := 8#32
  let v34 : BitVec 32 := Scalar.addi c0_i32_56 c8_i32_57
  let c1_i32_58 : BitVec 32 := 1#32
  ⟨c0_i32_56, v34, c1_i32_58⟩
def k0_mult9 (k0_t15 : Fin k0_t15_loop.trips) : BitVec 32 :=
  let c0_i32_281 : BitVec 32 := 0#32
  let c0_i32_56 : BitVec 32 := 0#32
  let c1_i32_58 : BitVec 32 := 1#32
  let arg19 : BitVec 32 := Scf.iv c0_i32_56 c1_i32_58 k0_t15
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  v166
def k0_off38 (k0_t15 : Fin k0_t15_loop.trips) : Fin 2 → Nat :=
  let c0_i32_283 : BitVec 32 := 0#32
  let c0_i32_281 : BitVec 32 := 0#32
  let c0_i32_56 : BitVec 32 := 0#32
  let c1_i32_58 : BitVec 32 := 1#32
  let arg19 : BitVec 32 := Scf.iv c0_i32_56 c1_i32_58 k0_t15
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off39 (k0_t15 : Fin k0_t15_loop.trips) : Fin 2 → Nat :=
  let c0_i32_284 : BitVec 32 := 0#32
  let c0_i32_281 : BitVec 32 := 0#32
  let c0_i32_56 : BitVec 32 := 0#32
  let c1_i32_58 : BitVec 32 := 1#32
  let arg19 : BitVec 32 := Scf.iv c0_i32_56 c1_i32_58 k0_t15
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off40 (k0_t15 : Fin k0_t15_loop.trips) : Fin 1 → Nat :=
  let c0_i32_281 : BitVec 32 := 0#32
  let c0_i32_56 : BitVec 32 := 0#32
  let c1_i32_58 : BitVec 32 := 1#32
  let arg19 : BitVec 32 := Scf.iv c0_i32_56 c1_i32_58 k0_t15
  let c1_i32_280 : BitVec 32 := 1#32
  let v164 : BitVec 32 := Scalar.muli arg19 c1_i32_280
  let v165 : BitVec 32 := Scalar.addi c0_i32_281 v164
  ![v165.toNat]
@[reducible] def k0_t16_loop : Scf.Loop 32 :=
  let c0_i32_63 : BitVec 32 := 0#32
  let c16_i32_64 : BitVec 32 := 16#32
  let v37 : BitVec 32 := Scalar.addi c0_i32_63 c16_i32_64
  let c1_i32_65 : BitVec 32 := 1#32
  ⟨c0_i32_63, v37, c1_i32_65⟩

def k0_chk4 (v165 : IVec S16 32) : Prop :=
  (∀ a x, ((![v165] : Fin 1 → IVec S16 32) a x).toNat < S256.size a) ∧
  (∀ a x, ((![v165] : Fin 1 → IVec S16 32) a x).toNat < S256.size a)
theorem k0_idx7_inb : ∀ (v165 : IVec S16 32) (k0_hw4 : k0_chk4 v165), ∀ a x, ((![v165] : Fin 1 → IVec S16 32) a x).toNat < S256.size a := fun v165 k0_hw4 => k0_hw4.1
theorem k0_idx8_inb : ∀ (v165 : IVec S16 32) (k0_hw4 : k0_chk4 v165), ∀ a x, ((![v165] : Fin 1 → IVec S16 32) a x).toNat < S256.size a := fun v165 k0_hw4 => k0_hw4.2
@[reducible] def k0_t17_loop : Scf.Loop 32 :=
  let c0_i32_282 : BitVec 32 := 0#32
  let c64_i32_283 : BitVec 32 := 64#32
  let v168 : BitVec 32 := Scalar.addi c0_i32_282 c64_i32_283
  let c1_i32_284 : BitVec 32 := 1#32
  ⟨c0_i32_282, v168, c1_i32_284⟩
def k0_off41 (k0_t16 : Fin k0_t16_loop.trips) (k0_t17 : Fin k0_t17_loop.trips) : Fin 2 → Nat :=
  let c2_i32_287 : BitVec 32 := 2#32
  let c0_i32_63 : BitVec 32 := 0#32
  let c1_i32_65 : BitVec 32 := 1#32
  let arg19 : BitVec 32 := Scf.iv c0_i32_63 c1_i32_65 k0_t16
  let v171 : BitVec 32 := Scalar.muli c2_i32_287 arg19
  let v172 : Index := Scalar.indexCast v171
  let c0_i32_282 : BitVec 32 := 0#32
  let c1_i32_284 : BitVec 32 := 1#32
  let arg21 : BitVec 32 := Scf.iv c0_i32_282 c1_i32_284 k0_t17
  let c16_i32_286 : BitVec 32 := 16#32
  let v170 : BitVec 32 := Scalar.muli arg21 c16_i32_286
  let v173 : Index := Scalar.indexCast v170
  ![v172.toNat, v173.toNat]
def k0_off42 (k0_t16 : Fin k0_t16_loop.trips) (k0_t17 : Fin k0_t17_loop.trips) : Fin 2 → Nat :=
  let c2_i32_288 : BitVec 32 := 2#32
  let c0_i32_63 : BitVec 32 := 0#32
  let c1_i32_65 : BitVec 32 := 1#32
  let arg19 : BitVec 32 := Scf.iv c0_i32_63 c1_i32_65 k0_t16
  let v177 : BitVec 32 := Scalar.muli c2_i32_288 arg19
  let c1_i32_289 : BitVec 32 := 1#32
  let v178 : BitVec 32 := Scalar.addi v177 c1_i32_289
  let v179 : Index := Scalar.indexCast v178
  let c0_i32_282 : BitVec 32 := 0#32
  let c1_i32_284 : BitVec 32 := 1#32
  let arg21 : BitVec 32 := Scf.iv c0_i32_282 c1_i32_284 k0_t17
  let c16_i32_286 : BitVec 32 := 16#32
  let v170 : BitVec 32 := Scalar.muli arg21 c16_i32_286
  let v180 : Index := Scalar.indexCast v170
  ![v179.toNat, v180.toNat]
def k0_off43 (k0_t16 : Fin k0_t16_loop.trips) (k0_t17 : Fin k0_t17_loop.trips) : Fin 2 → Nat :=
  let c0_i32_63 : BitVec 32 := 0#32
  let c1_i32_65 : BitVec 32 := 1#32
  let arg19 : BitVec 32 := Scf.iv c0_i32_63 c1_i32_65 k0_t16
  let v185 : Index := Scalar.indexCast arg19
  let c0_i32_282 : BitVec 32 := 0#32
  let c1_i32_284 : BitVec 32 := 1#32
  let arg21 : BitVec 32 := Scf.iv c0_i32_282 c1_i32_284 k0_t17
  let c16_i32_286 : BitVec 32 := 16#32
  let v170 : BitVec 32 := Scalar.muli arg21 c16_i32_286
  let v186 : Index := Scalar.indexCast v170
  ![v185.toNat, v186.toNat]
@[reducible] def k0_t18_loop : Scf.Loop 32 :=
  let c0_i32_69 : BitVec 32 := 0#32
  let c8_i32_70 : BitVec 32 := 8#32
  let v43 : BitVec 32 := Scalar.addi c0_i32_69 c8_i32_70
  let c1_i32_71 : BitVec 32 := 1#32
  ⟨c0_i32_69, v43, c1_i32_71⟩
def k0_mult10 (k0_t18 : Fin k0_t18_loop.trips) : BitVec 32 :=
  let c0_i32_281 : BitVec 32 := 0#32
  let c0_i32_69 : BitVec 32 := 0#32
  let c1_i32_71 : BitVec 32 := 1#32
  let arg19 : BitVec 32 := Scf.iv c0_i32_69 c1_i32_71 k0_t18
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  v166
def k0_off44 (k0_t18 : Fin k0_t18_loop.trips) : Fin 2 → Nat :=
  let c0_i32_283 : BitVec 32 := 0#32
  let c0_i32_281 : BitVec 32 := 0#32
  let c0_i32_69 : BitVec 32 := 0#32
  let c1_i32_71 : BitVec 32 := 1#32
  let arg19 : BitVec 32 := Scf.iv c0_i32_69 c1_i32_71 k0_t18
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off45 (k0_t18 : Fin k0_t18_loop.trips) : Fin 2 → Nat :=
  let c0_i32_284 : BitVec 32 := 0#32
  let c0_i32_281 : BitVec 32 := 0#32
  let c0_i32_69 : BitVec 32 := 0#32
  let c1_i32_71 : BitVec 32 := 1#32
  let arg19 : BitVec 32 := Scf.iv c0_i32_69 c1_i32_71 k0_t18
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off46 (k0_t18 : Fin k0_t18_loop.trips) : Fin 1 → Nat :=
  let c0_i32_281 : BitVec 32 := 0#32
  let c0_i32_69 : BitVec 32 := 0#32
  let c1_i32_71 : BitVec 32 := 1#32
  let arg19 : BitVec 32 := Scf.iv c0_i32_69 c1_i32_71 k0_t18
  let c1_i32_280 : BitVec 32 := 1#32
  let v164 : BitVec 32 := Scalar.muli arg19 c1_i32_280
  let v165 : BitVec 32 := Scalar.addi c0_i32_281 v164
  ![v165.toNat]
@[reducible] def k0_t19_loop : Scf.Loop 32 :=
  let c0_i32_73 : BitVec 32 := 0#32
  let c8_i32_74 : BitVec 32 := 8#32
  let v44 : BitVec 32 := Scalar.addi c0_i32_73 c8_i32_74
  let c1_i32_75 : BitVec 32 := 1#32
  ⟨c0_i32_73, v44, c1_i32_75⟩
def k0_mult11 (k0_t19 : Fin k0_t19_loop.trips) : BitVec 32 :=
  let c0_i32_281 : BitVec 32 := 0#32
  let c0_i32_73 : BitVec 32 := 0#32
  let c1_i32_75 : BitVec 32 := 1#32
  let arg19 : BitVec 32 := Scf.iv c0_i32_73 c1_i32_75 k0_t19
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  v166
def k0_off47 (k0_t19 : Fin k0_t19_loop.trips) : Fin 2 → Nat :=
  let c0_i32_283 : BitVec 32 := 0#32
  let c0_i32_281 : BitVec 32 := 0#32
  let c0_i32_73 : BitVec 32 := 0#32
  let c1_i32_75 : BitVec 32 := 1#32
  let arg19 : BitVec 32 := Scf.iv c0_i32_73 c1_i32_75 k0_t19
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off48 (k0_t19 : Fin k0_t19_loop.trips) : Fin 2 → Nat :=
  let c0_i32_284 : BitVec 32 := 0#32
  let c0_i32_281 : BitVec 32 := 0#32
  let c0_i32_73 : BitVec 32 := 0#32
  let c1_i32_75 : BitVec 32 := 1#32
  let arg19 : BitVec 32 := Scf.iv c0_i32_73 c1_i32_75 k0_t19
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off49 (k0_t19 : Fin k0_t19_loop.trips) : Fin 1 → Nat :=
  let c0_i32_281 : BitVec 32 := 0#32
  let c0_i32_73 : BitVec 32 := 0#32
  let c1_i32_75 : BitVec 32 := 1#32
  let arg19 : BitVec 32 := Scf.iv c0_i32_73 c1_i32_75 k0_t19
  let c1_i32_280 : BitVec 32 := 1#32
  let v164 : BitVec 32 := Scalar.muli arg19 c1_i32_280
  let v165 : BitVec 32 := Scalar.addi c0_i32_281 v164
  ![v165.toNat]
@[reducible] def k0_t20_loop : Scf.Loop 32 :=
  let c0_i32_80 : BitVec 32 := 0#32
  let c16_i32_81 : BitVec 32 := 16#32
  let v47 : BitVec 32 := Scalar.addi c0_i32_80 c16_i32_81
  let c1_i32_82 : BitVec 32 := 1#32
  ⟨c0_i32_80, v47, c1_i32_82⟩

def k0_chk5 (v165 : IVec S16 32) : Prop :=
  (∀ a x, ((![v165] : Fin 1 → IVec S16 32) a x).toNat < S256.size a) ∧
  (∀ a x, ((![v165] : Fin 1 → IVec S16 32) a x).toNat < S256.size a)
theorem k0_idx9_inb : ∀ (v165 : IVec S16 32) (k0_hw5 : k0_chk5 v165), ∀ a x, ((![v165] : Fin 1 → IVec S16 32) a x).toNat < S256.size a := fun v165 k0_hw5 => k0_hw5.1
theorem k0_idx10_inb : ∀ (v165 : IVec S16 32) (k0_hw5 : k0_chk5 v165), ∀ a x, ((![v165] : Fin 1 → IVec S16 32) a x).toNat < S256.size a := fun v165 k0_hw5 => k0_hw5.2
@[reducible] def k0_t21_loop : Scf.Loop 32 :=
  let c0_i32_282 : BitVec 32 := 0#32
  let c64_i32_283 : BitVec 32 := 64#32
  let v168 : BitVec 32 := Scalar.addi c0_i32_282 c64_i32_283
  let c1_i32_284 : BitVec 32 := 1#32
  ⟨c0_i32_282, v168, c1_i32_284⟩
def k0_off50 (k0_t20 : Fin k0_t20_loop.trips) (k0_t21 : Fin k0_t21_loop.trips) : Fin 2 → Nat :=
  let c2_i32_287 : BitVec 32 := 2#32
  let c0_i32_80 : BitVec 32 := 0#32
  let c1_i32_82 : BitVec 32 := 1#32
  let arg19 : BitVec 32 := Scf.iv c0_i32_80 c1_i32_82 k0_t20
  let v171 : BitVec 32 := Scalar.muli c2_i32_287 arg19
  let v172 : Index := Scalar.indexCast v171
  let c0_i32_282 : BitVec 32 := 0#32
  let c1_i32_284 : BitVec 32 := 1#32
  let arg21 : BitVec 32 := Scf.iv c0_i32_282 c1_i32_284 k0_t21
  let c16_i32_286 : BitVec 32 := 16#32
  let v170 : BitVec 32 := Scalar.muli arg21 c16_i32_286
  let v173 : Index := Scalar.indexCast v170
  ![v172.toNat, v173.toNat]
def k0_off51 (k0_t20 : Fin k0_t20_loop.trips) (k0_t21 : Fin k0_t21_loop.trips) : Fin 2 → Nat :=
  let c2_i32_288 : BitVec 32 := 2#32
  let c0_i32_80 : BitVec 32 := 0#32
  let c1_i32_82 : BitVec 32 := 1#32
  let arg19 : BitVec 32 := Scf.iv c0_i32_80 c1_i32_82 k0_t20
  let v177 : BitVec 32 := Scalar.muli c2_i32_288 arg19
  let c1_i32_289 : BitVec 32 := 1#32
  let v178 : BitVec 32 := Scalar.addi v177 c1_i32_289
  let v179 : Index := Scalar.indexCast v178
  let c0_i32_282 : BitVec 32 := 0#32
  let c1_i32_284 : BitVec 32 := 1#32
  let arg21 : BitVec 32 := Scf.iv c0_i32_282 c1_i32_284 k0_t21
  let c16_i32_286 : BitVec 32 := 16#32
  let v170 : BitVec 32 := Scalar.muli arg21 c16_i32_286
  let v180 : Index := Scalar.indexCast v170
  ![v179.toNat, v180.toNat]
def k0_off52 (k0_t20 : Fin k0_t20_loop.trips) (k0_t21 : Fin k0_t21_loop.trips) : Fin 2 → Nat :=
  let c0_i32_80 : BitVec 32 := 0#32
  let c1_i32_82 : BitVec 32 := 1#32
  let arg19 : BitVec 32 := Scf.iv c0_i32_80 c1_i32_82 k0_t20
  let v185 : Index := Scalar.indexCast arg19
  let c0_i32_282 : BitVec 32 := 0#32
  let c1_i32_284 : BitVec 32 := 1#32
  let arg21 : BitVec 32 := Scf.iv c0_i32_282 c1_i32_284 k0_t21
  let c16_i32_286 : BitVec 32 := 16#32
  let v170 : BitVec 32 := Scalar.muli arg21 c16_i32_286
  let v186 : Index := Scalar.indexCast v170
  ![v185.toNat, v186.toNat]
@[reducible] def k0_t22_loop : Scf.Loop 32 :=
  let c0_i32_87 : BitVec 32 := 0#32
  let c8_i32_88 : BitVec 32 := 8#32
  let v53 : BitVec 32 := Scalar.addi c0_i32_87 c8_i32_88
  let c1_i32_89 : BitVec 32 := 1#32
  ⟨c0_i32_87, v53, c1_i32_89⟩
def k0_mult12 (k0_t22 : Fin k0_t22_loop.trips) : BitVec 32 :=
  let c0_i32_281 : BitVec 32 := 0#32
  let c0_i32_87 : BitVec 32 := 0#32
  let c1_i32_89 : BitVec 32 := 1#32
  let arg19 : BitVec 32 := Scf.iv c0_i32_87 c1_i32_89 k0_t22
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  v166
def k0_off53 (k0_t22 : Fin k0_t22_loop.trips) : Fin 2 → Nat :=
  let c0_i32_283 : BitVec 32 := 0#32
  let c0_i32_281 : BitVec 32 := 0#32
  let c0_i32_87 : BitVec 32 := 0#32
  let c1_i32_89 : BitVec 32 := 1#32
  let arg19 : BitVec 32 := Scf.iv c0_i32_87 c1_i32_89 k0_t22
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off54 (k0_t22 : Fin k0_t22_loop.trips) : Fin 2 → Nat :=
  let c0_i32_284 : BitVec 32 := 0#32
  let c0_i32_281 : BitVec 32 := 0#32
  let c0_i32_87 : BitVec 32 := 0#32
  let c1_i32_89 : BitVec 32 := 1#32
  let arg19 : BitVec 32 := Scf.iv c0_i32_87 c1_i32_89 k0_t22
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off55 (k0_t22 : Fin k0_t22_loop.trips) : Fin 1 → Nat :=
  let c0_i32_281 : BitVec 32 := 0#32
  let c0_i32_87 : BitVec 32 := 0#32
  let c1_i32_89 : BitVec 32 := 1#32
  let arg19 : BitVec 32 := Scf.iv c0_i32_87 c1_i32_89 k0_t22
  let c1_i32_280 : BitVec 32 := 1#32
  let v164 : BitVec 32 := Scalar.muli arg19 c1_i32_280
  let v165 : BitVec 32 := Scalar.addi c0_i32_281 v164
  ![v165.toNat]
@[reducible] def k0_t23_loop : Scf.Loop 32 :=
  let c0_i32_91 : BitVec 32 := 0#32
  let c8_i32_92 : BitVec 32 := 8#32
  let v54 : BitVec 32 := Scalar.addi c0_i32_91 c8_i32_92
  let c1_i32_93 : BitVec 32 := 1#32
  ⟨c0_i32_91, v54, c1_i32_93⟩
def k0_mult13 (k0_t23 : Fin k0_t23_loop.trips) : BitVec 32 :=
  let c0_i32_281 : BitVec 32 := 0#32
  let c0_i32_91 : BitVec 32 := 0#32
  let c1_i32_93 : BitVec 32 := 1#32
  let arg19 : BitVec 32 := Scf.iv c0_i32_91 c1_i32_93 k0_t23
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  v166
def k0_off56 (k0_t23 : Fin k0_t23_loop.trips) : Fin 2 → Nat :=
  let c0_i32_283 : BitVec 32 := 0#32
  let c0_i32_281 : BitVec 32 := 0#32
  let c0_i32_91 : BitVec 32 := 0#32
  let c1_i32_93 : BitVec 32 := 1#32
  let arg19 : BitVec 32 := Scf.iv c0_i32_91 c1_i32_93 k0_t23
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off57 (k0_t23 : Fin k0_t23_loop.trips) : Fin 2 → Nat :=
  let c0_i32_284 : BitVec 32 := 0#32
  let c0_i32_281 : BitVec 32 := 0#32
  let c0_i32_91 : BitVec 32 := 0#32
  let c1_i32_93 : BitVec 32 := 1#32
  let arg19 : BitVec 32 := Scf.iv c0_i32_91 c1_i32_93 k0_t23
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off58 (k0_t23 : Fin k0_t23_loop.trips) : Fin 1 → Nat :=
  let c0_i32_281 : BitVec 32 := 0#32
  let c0_i32_91 : BitVec 32 := 0#32
  let c1_i32_93 : BitVec 32 := 1#32
  let arg19 : BitVec 32 := Scf.iv c0_i32_91 c1_i32_93 k0_t23
  let c1_i32_280 : BitVec 32 := 1#32
  let v164 : BitVec 32 := Scalar.muli arg19 c1_i32_280
  let v165 : BitVec 32 := Scalar.addi c0_i32_281 v164
  ![v165.toNat]
@[reducible] def k0_t24_loop : Scf.Loop 32 :=
  let c0_i32_98 : BitVec 32 := 0#32
  let c16_i32_99 : BitVec 32 := 16#32
  let v57 : BitVec 32 := Scalar.addi c0_i32_98 c16_i32_99
  let c1_i32_100 : BitVec 32 := 1#32
  ⟨c0_i32_98, v57, c1_i32_100⟩

def k0_chk6 (v165 : IVec S16 32) : Prop :=
  (∀ a x, ((![v165] : Fin 1 → IVec S16 32) a x).toNat < S256.size a) ∧
  (∀ a x, ((![v165] : Fin 1 → IVec S16 32) a x).toNat < S256.size a)
theorem k0_idx11_inb : ∀ (v165 : IVec S16 32) (k0_hw6 : k0_chk6 v165), ∀ a x, ((![v165] : Fin 1 → IVec S16 32) a x).toNat < S256.size a := fun v165 k0_hw6 => k0_hw6.1
theorem k0_idx12_inb : ∀ (v165 : IVec S16 32) (k0_hw6 : k0_chk6 v165), ∀ a x, ((![v165] : Fin 1 → IVec S16 32) a x).toNat < S256.size a := fun v165 k0_hw6 => k0_hw6.2
@[reducible] def k0_t25_loop : Scf.Loop 32 :=
  let c0_i32_282 : BitVec 32 := 0#32
  let c64_i32_283 : BitVec 32 := 64#32
  let v168 : BitVec 32 := Scalar.addi c0_i32_282 c64_i32_283
  let c1_i32_284 : BitVec 32 := 1#32
  ⟨c0_i32_282, v168, c1_i32_284⟩
def k0_off59 (k0_t24 : Fin k0_t24_loop.trips) (k0_t25 : Fin k0_t25_loop.trips) : Fin 2 → Nat :=
  let c2_i32_287 : BitVec 32 := 2#32
  let c0_i32_98 : BitVec 32 := 0#32
  let c1_i32_100 : BitVec 32 := 1#32
  let arg19 : BitVec 32 := Scf.iv c0_i32_98 c1_i32_100 k0_t24
  let v171 : BitVec 32 := Scalar.muli c2_i32_287 arg19
  let v172 : Index := Scalar.indexCast v171
  let c0_i32_282 : BitVec 32 := 0#32
  let c1_i32_284 : BitVec 32 := 1#32
  let arg21 : BitVec 32 := Scf.iv c0_i32_282 c1_i32_284 k0_t25
  let c16_i32_286 : BitVec 32 := 16#32
  let v170 : BitVec 32 := Scalar.muli arg21 c16_i32_286
  let v173 : Index := Scalar.indexCast v170
  ![v172.toNat, v173.toNat]
def k0_off60 (k0_t24 : Fin k0_t24_loop.trips) (k0_t25 : Fin k0_t25_loop.trips) : Fin 2 → Nat :=
  let c2_i32_288 : BitVec 32 := 2#32
  let c0_i32_98 : BitVec 32 := 0#32
  let c1_i32_100 : BitVec 32 := 1#32
  let arg19 : BitVec 32 := Scf.iv c0_i32_98 c1_i32_100 k0_t24
  let v177 : BitVec 32 := Scalar.muli c2_i32_288 arg19
  let c1_i32_289 : BitVec 32 := 1#32
  let v178 : BitVec 32 := Scalar.addi v177 c1_i32_289
  let v179 : Index := Scalar.indexCast v178
  let c0_i32_282 : BitVec 32 := 0#32
  let c1_i32_284 : BitVec 32 := 1#32
  let arg21 : BitVec 32 := Scf.iv c0_i32_282 c1_i32_284 k0_t25
  let c16_i32_286 : BitVec 32 := 16#32
  let v170 : BitVec 32 := Scalar.muli arg21 c16_i32_286
  let v180 : Index := Scalar.indexCast v170
  ![v179.toNat, v180.toNat]
def k0_off61 (k0_t24 : Fin k0_t24_loop.trips) (k0_t25 : Fin k0_t25_loop.trips) : Fin 2 → Nat :=
  let c0_i32_98 : BitVec 32 := 0#32
  let c1_i32_100 : BitVec 32 := 1#32
  let arg19 : BitVec 32 := Scf.iv c0_i32_98 c1_i32_100 k0_t24
  let v185 : Index := Scalar.indexCast arg19
  let c0_i32_282 : BitVec 32 := 0#32
  let c1_i32_284 : BitVec 32 := 1#32
  let arg21 : BitVec 32 := Scf.iv c0_i32_282 c1_i32_284 k0_t25
  let c16_i32_286 : BitVec 32 := 16#32
  let v170 : BitVec 32 := Scalar.muli arg21 c16_i32_286
  let v186 : Index := Scalar.indexCast v170
  ![v185.toNat, v186.toNat]
@[reducible] def k0_t26_loop : Scf.Loop 32 :=
  let c0_i32_104 : BitVec 32 := 0#32
  let c8_i32_105 : BitVec 32 := 8#32
  let v63 : BitVec 32 := Scalar.addi c0_i32_104 c8_i32_105
  let c1_i32_106 : BitVec 32 := 1#32
  ⟨c0_i32_104, v63, c1_i32_106⟩
def k0_mult14 (k0_t26 : Fin k0_t26_loop.trips) : BitVec 32 :=
  let c0_i32_281 : BitVec 32 := 0#32
  let c0_i32_104 : BitVec 32 := 0#32
  let c1_i32_106 : BitVec 32 := 1#32
  let arg19 : BitVec 32 := Scf.iv c0_i32_104 c1_i32_106 k0_t26
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  v166
def k0_off62 (k0_t26 : Fin k0_t26_loop.trips) : Fin 2 → Nat :=
  let c0_i32_283 : BitVec 32 := 0#32
  let c0_i32_281 : BitVec 32 := 0#32
  let c0_i32_104 : BitVec 32 := 0#32
  let c1_i32_106 : BitVec 32 := 1#32
  let arg19 : BitVec 32 := Scf.iv c0_i32_104 c1_i32_106 k0_t26
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off63 (k0_t26 : Fin k0_t26_loop.trips) : Fin 2 → Nat :=
  let c0_i32_284 : BitVec 32 := 0#32
  let c0_i32_281 : BitVec 32 := 0#32
  let c0_i32_104 : BitVec 32 := 0#32
  let c1_i32_106 : BitVec 32 := 1#32
  let arg19 : BitVec 32 := Scf.iv c0_i32_104 c1_i32_106 k0_t26
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off64 (k0_t26 : Fin k0_t26_loop.trips) : Fin 1 → Nat :=
  let c0_i32_281 : BitVec 32 := 0#32
  let c0_i32_104 : BitVec 32 := 0#32
  let c1_i32_106 : BitVec 32 := 1#32
  let arg19 : BitVec 32 := Scf.iv c0_i32_104 c1_i32_106 k0_t26
  let c1_i32_280 : BitVec 32 := 1#32
  let v164 : BitVec 32 := Scalar.muli arg19 c1_i32_280
  let v165 : BitVec 32 := Scalar.addi c0_i32_281 v164
  ![v165.toNat]
@[reducible] def k0_t27_loop : Scf.Loop 32 :=
  let c0_i32_108 : BitVec 32 := 0#32
  let c8_i32_109 : BitVec 32 := 8#32
  let v64 : BitVec 32 := Scalar.addi c0_i32_108 c8_i32_109
  let c1_i32_110 : BitVec 32 := 1#32
  ⟨c0_i32_108, v64, c1_i32_110⟩
def k0_mult15 (k0_t27 : Fin k0_t27_loop.trips) : BitVec 32 :=
  let c0_i32_281 : BitVec 32 := 0#32
  let c0_i32_108 : BitVec 32 := 0#32
  let c1_i32_110 : BitVec 32 := 1#32
  let arg19 : BitVec 32 := Scf.iv c0_i32_108 c1_i32_110 k0_t27
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  v166
def k0_off65 (k0_t27 : Fin k0_t27_loop.trips) : Fin 2 → Nat :=
  let c0_i32_283 : BitVec 32 := 0#32
  let c0_i32_281 : BitVec 32 := 0#32
  let c0_i32_108 : BitVec 32 := 0#32
  let c1_i32_110 : BitVec 32 := 1#32
  let arg19 : BitVec 32 := Scf.iv c0_i32_108 c1_i32_110 k0_t27
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off66 (k0_t27 : Fin k0_t27_loop.trips) : Fin 2 → Nat :=
  let c0_i32_284 : BitVec 32 := 0#32
  let c0_i32_281 : BitVec 32 := 0#32
  let c0_i32_108 : BitVec 32 := 0#32
  let c1_i32_110 : BitVec 32 := 1#32
  let arg19 : BitVec 32 := Scf.iv c0_i32_108 c1_i32_110 k0_t27
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off67 (k0_t27 : Fin k0_t27_loop.trips) : Fin 1 → Nat :=
  let c0_i32_281 : BitVec 32 := 0#32
  let c0_i32_108 : BitVec 32 := 0#32
  let c1_i32_110 : BitVec 32 := 1#32
  let arg19 : BitVec 32 := Scf.iv c0_i32_108 c1_i32_110 k0_t27
  let c1_i32_280 : BitVec 32 := 1#32
  let v164 : BitVec 32 := Scalar.muli arg19 c1_i32_280
  let v165 : BitVec 32 := Scalar.addi c0_i32_281 v164
  ![v165.toNat]
@[reducible] def k0_t28_loop : Scf.Loop 32 :=
  let c0_i32_115 : BitVec 32 := 0#32
  let c16_i32_116 : BitVec 32 := 16#32
  let v67 : BitVec 32 := Scalar.addi c0_i32_115 c16_i32_116
  let c1_i32_117 : BitVec 32 := 1#32
  ⟨c0_i32_115, v67, c1_i32_117⟩

def k0_chk7 (v165 : IVec S16 32) : Prop :=
  (∀ a x, ((![v165] : Fin 1 → IVec S16 32) a x).toNat < S256.size a) ∧
  (∀ a x, ((![v165] : Fin 1 → IVec S16 32) a x).toNat < S256.size a)
theorem k0_idx13_inb : ∀ (v165 : IVec S16 32) (k0_hw7 : k0_chk7 v165), ∀ a x, ((![v165] : Fin 1 → IVec S16 32) a x).toNat < S256.size a := fun v165 k0_hw7 => k0_hw7.1
theorem k0_idx14_inb : ∀ (v165 : IVec S16 32) (k0_hw7 : k0_chk7 v165), ∀ a x, ((![v165] : Fin 1 → IVec S16 32) a x).toNat < S256.size a := fun v165 k0_hw7 => k0_hw7.2
@[reducible] def k0_t29_loop : Scf.Loop 32 :=
  let c0_i32_282 : BitVec 32 := 0#32
  let c64_i32_283 : BitVec 32 := 64#32
  let v168 : BitVec 32 := Scalar.addi c0_i32_282 c64_i32_283
  let c1_i32_284 : BitVec 32 := 1#32
  ⟨c0_i32_282, v168, c1_i32_284⟩
def k0_off68 (k0_t28 : Fin k0_t28_loop.trips) (k0_t29 : Fin k0_t29_loop.trips) : Fin 2 → Nat :=
  let c2_i32_287 : BitVec 32 := 2#32
  let c0_i32_115 : BitVec 32 := 0#32
  let c1_i32_117 : BitVec 32 := 1#32
  let arg19 : BitVec 32 := Scf.iv c0_i32_115 c1_i32_117 k0_t28
  let v171 : BitVec 32 := Scalar.muli c2_i32_287 arg19
  let v172 : Index := Scalar.indexCast v171
  let c0_i32_282 : BitVec 32 := 0#32
  let c1_i32_284 : BitVec 32 := 1#32
  let arg21 : BitVec 32 := Scf.iv c0_i32_282 c1_i32_284 k0_t29
  let c16_i32_286 : BitVec 32 := 16#32
  let v170 : BitVec 32 := Scalar.muli arg21 c16_i32_286
  let v173 : Index := Scalar.indexCast v170
  ![v172.toNat, v173.toNat]
def k0_off69 (k0_t28 : Fin k0_t28_loop.trips) (k0_t29 : Fin k0_t29_loop.trips) : Fin 2 → Nat :=
  let c2_i32_288 : BitVec 32 := 2#32
  let c0_i32_115 : BitVec 32 := 0#32
  let c1_i32_117 : BitVec 32 := 1#32
  let arg19 : BitVec 32 := Scf.iv c0_i32_115 c1_i32_117 k0_t28
  let v177 : BitVec 32 := Scalar.muli c2_i32_288 arg19
  let c1_i32_289 : BitVec 32 := 1#32
  let v178 : BitVec 32 := Scalar.addi v177 c1_i32_289
  let v179 : Index := Scalar.indexCast v178
  let c0_i32_282 : BitVec 32 := 0#32
  let c1_i32_284 : BitVec 32 := 1#32
  let arg21 : BitVec 32 := Scf.iv c0_i32_282 c1_i32_284 k0_t29
  let c16_i32_286 : BitVec 32 := 16#32
  let v170 : BitVec 32 := Scalar.muli arg21 c16_i32_286
  let v180 : Index := Scalar.indexCast v170
  ![v179.toNat, v180.toNat]
def k0_off70 (k0_t28 : Fin k0_t28_loop.trips) (k0_t29 : Fin k0_t29_loop.trips) : Fin 2 → Nat :=
  let c0_i32_115 : BitVec 32 := 0#32
  let c1_i32_117 : BitVec 32 := 1#32
  let arg19 : BitVec 32 := Scf.iv c0_i32_115 c1_i32_117 k0_t28
  let v185 : Index := Scalar.indexCast arg19
  let c0_i32_282 : BitVec 32 := 0#32
  let c1_i32_284 : BitVec 32 := 1#32
  let arg21 : BitVec 32 := Scf.iv c0_i32_282 c1_i32_284 k0_t29
  let c16_i32_286 : BitVec 32 := 16#32
  let v170 : BitVec 32 := Scalar.muli arg21 c16_i32_286
  let v186 : Index := Scalar.indexCast v170
  ![v185.toNat, v186.toNat]
@[reducible] def k0_t30_loop : Scf.Loop 32 :=
  let c0_i32_123 : BitVec 32 := 0#32
  let c8_i32_124 : BitVec 32 := 8#32
  let v73 : BitVec 32 := Scalar.addi c0_i32_123 c8_i32_124
  let c1_i32_125 : BitVec 32 := 1#32
  ⟨c0_i32_123, v73, c1_i32_125⟩
def k0_mult16 (k0_t30 : Fin k0_t30_loop.trips) : BitVec 32 :=
  let c0_i32_281 : BitVec 32 := 0#32
  let c0_i32_123 : BitVec 32 := 0#32
  let c1_i32_125 : BitVec 32 := 1#32
  let arg19 : BitVec 32 := Scf.iv c0_i32_123 c1_i32_125 k0_t30
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  v166
def k0_off71 (k0_t30 : Fin k0_t30_loop.trips) : Fin 2 → Nat :=
  let c0_i32_283 : BitVec 32 := 0#32
  let c0_i32_281 : BitVec 32 := 0#32
  let c0_i32_123 : BitVec 32 := 0#32
  let c1_i32_125 : BitVec 32 := 1#32
  let arg19 : BitVec 32 := Scf.iv c0_i32_123 c1_i32_125 k0_t30
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off72 (k0_t30 : Fin k0_t30_loop.trips) : Fin 2 → Nat :=
  let c0_i32_284 : BitVec 32 := 0#32
  let c0_i32_281 : BitVec 32 := 0#32
  let c0_i32_123 : BitVec 32 := 0#32
  let c1_i32_125 : BitVec 32 := 1#32
  let arg19 : BitVec 32 := Scf.iv c0_i32_123 c1_i32_125 k0_t30
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off73 (k0_t30 : Fin k0_t30_loop.trips) : Fin 1 → Nat :=
  let c0_i32_281 : BitVec 32 := 0#32
  let c0_i32_123 : BitVec 32 := 0#32
  let c1_i32_125 : BitVec 32 := 1#32
  let arg19 : BitVec 32 := Scf.iv c0_i32_123 c1_i32_125 k0_t30
  let c1_i32_280 : BitVec 32 := 1#32
  let v164 : BitVec 32 := Scalar.muli arg19 c1_i32_280
  let v165 : BitVec 32 := Scalar.addi c0_i32_281 v164
  ![v165.toNat]
@[reducible] def k0_t31_loop : Scf.Loop 32 :=
  let c0_i32_127 : BitVec 32 := 0#32
  let c8_i32_128 : BitVec 32 := 8#32
  let v74 : BitVec 32 := Scalar.addi c0_i32_127 c8_i32_128
  let c1_i32_129 : BitVec 32 := 1#32
  ⟨c0_i32_127, v74, c1_i32_129⟩
def k0_mult17 (k0_t31 : Fin k0_t31_loop.trips) : BitVec 32 :=
  let c0_i32_281 : BitVec 32 := 0#32
  let c0_i32_127 : BitVec 32 := 0#32
  let c1_i32_129 : BitVec 32 := 1#32
  let arg19 : BitVec 32 := Scf.iv c0_i32_127 c1_i32_129 k0_t31
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  v166
def k0_off74 (k0_t31 : Fin k0_t31_loop.trips) : Fin 2 → Nat :=
  let c0_i32_283 : BitVec 32 := 0#32
  let c0_i32_281 : BitVec 32 := 0#32
  let c0_i32_127 : BitVec 32 := 0#32
  let c1_i32_129 : BitVec 32 := 1#32
  let arg19 : BitVec 32 := Scf.iv c0_i32_127 c1_i32_129 k0_t31
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off75 (k0_t31 : Fin k0_t31_loop.trips) : Fin 2 → Nat :=
  let c0_i32_284 : BitVec 32 := 0#32
  let c0_i32_281 : BitVec 32 := 0#32
  let c0_i32_127 : BitVec 32 := 0#32
  let c1_i32_129 : BitVec 32 := 1#32
  let arg19 : BitVec 32 := Scf.iv c0_i32_127 c1_i32_129 k0_t31
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off76 (k0_t31 : Fin k0_t31_loop.trips) : Fin 1 → Nat :=
  let c0_i32_281 : BitVec 32 := 0#32
  let c0_i32_127 : BitVec 32 := 0#32
  let c1_i32_129 : BitVec 32 := 1#32
  let arg19 : BitVec 32 := Scf.iv c0_i32_127 c1_i32_129 k0_t31
  let c1_i32_280 : BitVec 32 := 1#32
  let v164 : BitVec 32 := Scalar.muli arg19 c1_i32_280
  let v165 : BitVec 32 := Scalar.addi c0_i32_281 v164
  ![v165.toNat]
@[reducible] def k0_t32_loop : Scf.Loop 32 :=
  let c0_i32_134 : BitVec 32 := 0#32
  let c16_i32_135 : BitVec 32 := 16#32
  let v77 : BitVec 32 := Scalar.addi c0_i32_134 c16_i32_135
  let c1_i32_136 : BitVec 32 := 1#32
  ⟨c0_i32_134, v77, c1_i32_136⟩

def k0_chk8 (v165 : IVec S16 32) : Prop :=
  (∀ a x, ((![v165] : Fin 1 → IVec S16 32) a x).toNat < S256.size a) ∧
  (∀ a x, ((![v165] : Fin 1 → IVec S16 32) a x).toNat < S256.size a)
theorem k0_idx15_inb : ∀ (v165 : IVec S16 32) (k0_hw8 : k0_chk8 v165), ∀ a x, ((![v165] : Fin 1 → IVec S16 32) a x).toNat < S256.size a := fun v165 k0_hw8 => k0_hw8.1
theorem k0_idx16_inb : ∀ (v165 : IVec S16 32) (k0_hw8 : k0_chk8 v165), ∀ a x, ((![v165] : Fin 1 → IVec S16 32) a x).toNat < S256.size a := fun v165 k0_hw8 => k0_hw8.2
@[reducible] def k0_t33_loop : Scf.Loop 32 :=
  let c0_i32_282 : BitVec 32 := 0#32
  let c64_i32_283 : BitVec 32 := 64#32
  let v168 : BitVec 32 := Scalar.addi c0_i32_282 c64_i32_283
  let c1_i32_284 : BitVec 32 := 1#32
  ⟨c0_i32_282, v168, c1_i32_284⟩
def k0_off77 (k0_t32 : Fin k0_t32_loop.trips) (k0_t33 : Fin k0_t33_loop.trips) : Fin 2 → Nat :=
  let c2_i32_287 : BitVec 32 := 2#32
  let c0_i32_134 : BitVec 32 := 0#32
  let c1_i32_136 : BitVec 32 := 1#32
  let arg19 : BitVec 32 := Scf.iv c0_i32_134 c1_i32_136 k0_t32
  let v171 : BitVec 32 := Scalar.muli c2_i32_287 arg19
  let v172 : Index := Scalar.indexCast v171
  let c0_i32_282 : BitVec 32 := 0#32
  let c1_i32_284 : BitVec 32 := 1#32
  let arg21 : BitVec 32 := Scf.iv c0_i32_282 c1_i32_284 k0_t33
  let c16_i32_286 : BitVec 32 := 16#32
  let v170 : BitVec 32 := Scalar.muli arg21 c16_i32_286
  let v173 : Index := Scalar.indexCast v170
  ![v172.toNat, v173.toNat]
def k0_off78 (k0_t32 : Fin k0_t32_loop.trips) (k0_t33 : Fin k0_t33_loop.trips) : Fin 2 → Nat :=
  let c2_i32_288 : BitVec 32 := 2#32
  let c0_i32_134 : BitVec 32 := 0#32
  let c1_i32_136 : BitVec 32 := 1#32
  let arg19 : BitVec 32 := Scf.iv c0_i32_134 c1_i32_136 k0_t32
  let v177 : BitVec 32 := Scalar.muli c2_i32_288 arg19
  let c1_i32_289 : BitVec 32 := 1#32
  let v178 : BitVec 32 := Scalar.addi v177 c1_i32_289
  let v179 : Index := Scalar.indexCast v178
  let c0_i32_282 : BitVec 32 := 0#32
  let c1_i32_284 : BitVec 32 := 1#32
  let arg21 : BitVec 32 := Scf.iv c0_i32_282 c1_i32_284 k0_t33
  let c16_i32_286 : BitVec 32 := 16#32
  let v170 : BitVec 32 := Scalar.muli arg21 c16_i32_286
  let v180 : Index := Scalar.indexCast v170
  ![v179.toNat, v180.toNat]
def k0_off79 (k0_t32 : Fin k0_t32_loop.trips) (k0_t33 : Fin k0_t33_loop.trips) : Fin 2 → Nat :=
  let c0_i32_134 : BitVec 32 := 0#32
  let c1_i32_136 : BitVec 32 := 1#32
  let arg19 : BitVec 32 := Scf.iv c0_i32_134 c1_i32_136 k0_t32
  let v185 : Index := Scalar.indexCast arg19
  let c0_i32_282 : BitVec 32 := 0#32
  let c1_i32_284 : BitVec 32 := 1#32
  let arg21 : BitVec 32 := Scf.iv c0_i32_282 c1_i32_284 k0_t33
  let c16_i32_286 : BitVec 32 := 16#32
  let v170 : BitVec 32 := Scalar.muli arg21 c16_i32_286
  let v186 : Index := Scalar.indexCast v170
  ![v185.toNat, v186.toNat]
@[reducible] def k0_t34_loop : Scf.Loop 32 :=
  let c0_i32_140 : BitVec 32 := 0#32
  let c8_i32_141 : BitVec 32 := 8#32
  let v83 : BitVec 32 := Scalar.addi c0_i32_140 c8_i32_141
  let c1_i32_142 : BitVec 32 := 1#32
  ⟨c0_i32_140, v83, c1_i32_142⟩
def k0_mult18 (k0_t34 : Fin k0_t34_loop.trips) : BitVec 32 :=
  let c0_i32_281 : BitVec 32 := 0#32
  let c0_i32_140 : BitVec 32 := 0#32
  let c1_i32_142 : BitVec 32 := 1#32
  let arg19 : BitVec 32 := Scf.iv c0_i32_140 c1_i32_142 k0_t34
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  v166
def k0_off80 (k0_t34 : Fin k0_t34_loop.trips) : Fin 2 → Nat :=
  let c0_i32_283 : BitVec 32 := 0#32
  let c0_i32_281 : BitVec 32 := 0#32
  let c0_i32_140 : BitVec 32 := 0#32
  let c1_i32_142 : BitVec 32 := 1#32
  let arg19 : BitVec 32 := Scf.iv c0_i32_140 c1_i32_142 k0_t34
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off81 (k0_t34 : Fin k0_t34_loop.trips) : Fin 2 → Nat :=
  let c0_i32_284 : BitVec 32 := 0#32
  let c0_i32_281 : BitVec 32 := 0#32
  let c0_i32_140 : BitVec 32 := 0#32
  let c1_i32_142 : BitVec 32 := 1#32
  let arg19 : BitVec 32 := Scf.iv c0_i32_140 c1_i32_142 k0_t34
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off82 (k0_t34 : Fin k0_t34_loop.trips) : Fin 1 → Nat :=
  let c0_i32_281 : BitVec 32 := 0#32
  let c0_i32_140 : BitVec 32 := 0#32
  let c1_i32_142 : BitVec 32 := 1#32
  let arg19 : BitVec 32 := Scf.iv c0_i32_140 c1_i32_142 k0_t34
  let c1_i32_280 : BitVec 32 := 1#32
  let v164 : BitVec 32 := Scalar.muli arg19 c1_i32_280
  let v165 : BitVec 32 := Scalar.addi c0_i32_281 v164
  ![v165.toNat]
@[reducible] def k0_t35_loop : Scf.Loop 32 :=
  let c0_i32_144 : BitVec 32 := 0#32
  let c8_i32_145 : BitVec 32 := 8#32
  let v84 : BitVec 32 := Scalar.addi c0_i32_144 c8_i32_145
  let c1_i32_146 : BitVec 32 := 1#32
  ⟨c0_i32_144, v84, c1_i32_146⟩
def k0_mult19 (k0_t35 : Fin k0_t35_loop.trips) : BitVec 32 :=
  let c0_i32_281 : BitVec 32 := 0#32
  let c0_i32_144 : BitVec 32 := 0#32
  let c1_i32_146 : BitVec 32 := 1#32
  let arg19 : BitVec 32 := Scf.iv c0_i32_144 c1_i32_146 k0_t35
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  v166
def k0_off83 (k0_t35 : Fin k0_t35_loop.trips) : Fin 2 → Nat :=
  let c0_i32_283 : BitVec 32 := 0#32
  let c0_i32_281 : BitVec 32 := 0#32
  let c0_i32_144 : BitVec 32 := 0#32
  let c1_i32_146 : BitVec 32 := 1#32
  let arg19 : BitVec 32 := Scf.iv c0_i32_144 c1_i32_146 k0_t35
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off84 (k0_t35 : Fin k0_t35_loop.trips) : Fin 2 → Nat :=
  let c0_i32_284 : BitVec 32 := 0#32
  let c0_i32_281 : BitVec 32 := 0#32
  let c0_i32_144 : BitVec 32 := 0#32
  let c1_i32_146 : BitVec 32 := 1#32
  let arg19 : BitVec 32 := Scf.iv c0_i32_144 c1_i32_146 k0_t35
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off85 (k0_t35 : Fin k0_t35_loop.trips) : Fin 1 → Nat :=
  let c0_i32_281 : BitVec 32 := 0#32
  let c0_i32_144 : BitVec 32 := 0#32
  let c1_i32_146 : BitVec 32 := 1#32
  let arg19 : BitVec 32 := Scf.iv c0_i32_144 c1_i32_146 k0_t35
  let c1_i32_280 : BitVec 32 := 1#32
  let v164 : BitVec 32 := Scalar.muli arg19 c1_i32_280
  let v165 : BitVec 32 := Scalar.addi c0_i32_281 v164
  ![v165.toNat]
@[reducible] def k0_t36_loop : Scf.Loop 32 :=
  let c0_i32_151 : BitVec 32 := 0#32
  let c16_i32_152 : BitVec 32 := 16#32
  let v87 : BitVec 32 := Scalar.addi c0_i32_151 c16_i32_152
  let c1_i32_153 : BitVec 32 := 1#32
  ⟨c0_i32_151, v87, c1_i32_153⟩

def k0_chk9 (v165 : IVec S16 32) : Prop :=
  (∀ a x, ((![v165] : Fin 1 → IVec S16 32) a x).toNat < S256.size a) ∧
  (∀ a x, ((![v165] : Fin 1 → IVec S16 32) a x).toNat < S256.size a)
theorem k0_idx17_inb : ∀ (v165 : IVec S16 32) (k0_hw9 : k0_chk9 v165), ∀ a x, ((![v165] : Fin 1 → IVec S16 32) a x).toNat < S256.size a := fun v165 k0_hw9 => k0_hw9.1
theorem k0_idx18_inb : ∀ (v165 : IVec S16 32) (k0_hw9 : k0_chk9 v165), ∀ a x, ((![v165] : Fin 1 → IVec S16 32) a x).toNat < S256.size a := fun v165 k0_hw9 => k0_hw9.2
@[reducible] def k0_t37_loop : Scf.Loop 32 :=
  let c0_i32_282 : BitVec 32 := 0#32
  let c64_i32_283 : BitVec 32 := 64#32
  let v168 : BitVec 32 := Scalar.addi c0_i32_282 c64_i32_283
  let c1_i32_284 : BitVec 32 := 1#32
  ⟨c0_i32_282, v168, c1_i32_284⟩
def k0_off86 (k0_t36 : Fin k0_t36_loop.trips) (k0_t37 : Fin k0_t37_loop.trips) : Fin 2 → Nat :=
  let c2_i32_287 : BitVec 32 := 2#32
  let c0_i32_151 : BitVec 32 := 0#32
  let c1_i32_153 : BitVec 32 := 1#32
  let arg19 : BitVec 32 := Scf.iv c0_i32_151 c1_i32_153 k0_t36
  let v171 : BitVec 32 := Scalar.muli c2_i32_287 arg19
  let v172 : Index := Scalar.indexCast v171
  let c0_i32_282 : BitVec 32 := 0#32
  let c1_i32_284 : BitVec 32 := 1#32
  let arg21 : BitVec 32 := Scf.iv c0_i32_282 c1_i32_284 k0_t37
  let c16_i32_286 : BitVec 32 := 16#32
  let v170 : BitVec 32 := Scalar.muli arg21 c16_i32_286
  let v173 : Index := Scalar.indexCast v170
  ![v172.toNat, v173.toNat]
def k0_off87 (k0_t36 : Fin k0_t36_loop.trips) (k0_t37 : Fin k0_t37_loop.trips) : Fin 2 → Nat :=
  let c2_i32_288 : BitVec 32 := 2#32
  let c0_i32_151 : BitVec 32 := 0#32
  let c1_i32_153 : BitVec 32 := 1#32
  let arg19 : BitVec 32 := Scf.iv c0_i32_151 c1_i32_153 k0_t36
  let v177 : BitVec 32 := Scalar.muli c2_i32_288 arg19
  let c1_i32_289 : BitVec 32 := 1#32
  let v178 : BitVec 32 := Scalar.addi v177 c1_i32_289
  let v179 : Index := Scalar.indexCast v178
  let c0_i32_282 : BitVec 32 := 0#32
  let c1_i32_284 : BitVec 32 := 1#32
  let arg21 : BitVec 32 := Scf.iv c0_i32_282 c1_i32_284 k0_t37
  let c16_i32_286 : BitVec 32 := 16#32
  let v170 : BitVec 32 := Scalar.muli arg21 c16_i32_286
  let v180 : Index := Scalar.indexCast v170
  ![v179.toNat, v180.toNat]
def k0_off88 (k0_t36 : Fin k0_t36_loop.trips) (k0_t37 : Fin k0_t37_loop.trips) : Fin 2 → Nat :=
  let c0_i32_151 : BitVec 32 := 0#32
  let c1_i32_153 : BitVec 32 := 1#32
  let arg19 : BitVec 32 := Scf.iv c0_i32_151 c1_i32_153 k0_t36
  let v185 : Index := Scalar.indexCast arg19
  let c0_i32_282 : BitVec 32 := 0#32
  let c1_i32_284 : BitVec 32 := 1#32
  let arg21 : BitVec 32 := Scf.iv c0_i32_282 c1_i32_284 k0_t37
  let c16_i32_286 : BitVec 32 := 16#32
  let v170 : BitVec 32 := Scalar.muli arg21 c16_i32_286
  let v186 : Index := Scalar.indexCast v170
  ![v185.toNat, v186.toNat]
@[reducible] def k0_t38_loop : Scf.Loop 32 :=
  let c0_i32_158 : BitVec 32 := 0#32
  let c8_i32_159 : BitVec 32 := 8#32
  let v93 : BitVec 32 := Scalar.addi c0_i32_158 c8_i32_159
  let c1_i32_160 : BitVec 32 := 1#32
  ⟨c0_i32_158, v93, c1_i32_160⟩
def k0_mult20 (k0_t38 : Fin k0_t38_loop.trips) : BitVec 32 :=
  let c0_i32_281 : BitVec 32 := 0#32
  let c0_i32_158 : BitVec 32 := 0#32
  let c1_i32_160 : BitVec 32 := 1#32
  let arg19 : BitVec 32 := Scf.iv c0_i32_158 c1_i32_160 k0_t38
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  v166
def k0_off89 (k0_t38 : Fin k0_t38_loop.trips) : Fin 2 → Nat :=
  let c0_i32_283 : BitVec 32 := 0#32
  let c0_i32_281 : BitVec 32 := 0#32
  let c0_i32_158 : BitVec 32 := 0#32
  let c1_i32_160 : BitVec 32 := 1#32
  let arg19 : BitVec 32 := Scf.iv c0_i32_158 c1_i32_160 k0_t38
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off90 (k0_t38 : Fin k0_t38_loop.trips) : Fin 2 → Nat :=
  let c0_i32_284 : BitVec 32 := 0#32
  let c0_i32_281 : BitVec 32 := 0#32
  let c0_i32_158 : BitVec 32 := 0#32
  let c1_i32_160 : BitVec 32 := 1#32
  let arg19 : BitVec 32 := Scf.iv c0_i32_158 c1_i32_160 k0_t38
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off91 (k0_t38 : Fin k0_t38_loop.trips) : Fin 1 → Nat :=
  let c0_i32_281 : BitVec 32 := 0#32
  let c0_i32_158 : BitVec 32 := 0#32
  let c1_i32_160 : BitVec 32 := 1#32
  let arg19 : BitVec 32 := Scf.iv c0_i32_158 c1_i32_160 k0_t38
  let c1_i32_280 : BitVec 32 := 1#32
  let v164 : BitVec 32 := Scalar.muli arg19 c1_i32_280
  let v165 : BitVec 32 := Scalar.addi c0_i32_281 v164
  ![v165.toNat]
@[reducible] def k0_t39_loop : Scf.Loop 32 :=
  let c0_i32_162 : BitVec 32 := 0#32
  let c8_i32_163 : BitVec 32 := 8#32
  let v94 : BitVec 32 := Scalar.addi c0_i32_162 c8_i32_163
  let c1_i32_164 : BitVec 32 := 1#32
  ⟨c0_i32_162, v94, c1_i32_164⟩
def k0_mult21 (k0_t39 : Fin k0_t39_loop.trips) : BitVec 32 :=
  let c0_i32_281 : BitVec 32 := 0#32
  let c0_i32_162 : BitVec 32 := 0#32
  let c1_i32_164 : BitVec 32 := 1#32
  let arg19 : BitVec 32 := Scf.iv c0_i32_162 c1_i32_164 k0_t39
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  v166
def k0_off92 (k0_t39 : Fin k0_t39_loop.trips) : Fin 2 → Nat :=
  let c0_i32_283 : BitVec 32 := 0#32
  let c0_i32_281 : BitVec 32 := 0#32
  let c0_i32_162 : BitVec 32 := 0#32
  let c1_i32_164 : BitVec 32 := 1#32
  let arg19 : BitVec 32 := Scf.iv c0_i32_162 c1_i32_164 k0_t39
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off93 (k0_t39 : Fin k0_t39_loop.trips) : Fin 2 → Nat :=
  let c0_i32_284 : BitVec 32 := 0#32
  let c0_i32_281 : BitVec 32 := 0#32
  let c0_i32_162 : BitVec 32 := 0#32
  let c1_i32_164 : BitVec 32 := 1#32
  let arg19 : BitVec 32 := Scf.iv c0_i32_162 c1_i32_164 k0_t39
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off94 (k0_t39 : Fin k0_t39_loop.trips) : Fin 1 → Nat :=
  let c0_i32_281 : BitVec 32 := 0#32
  let c0_i32_162 : BitVec 32 := 0#32
  let c1_i32_164 : BitVec 32 := 1#32
  let arg19 : BitVec 32 := Scf.iv c0_i32_162 c1_i32_164 k0_t39
  let c1_i32_280 : BitVec 32 := 1#32
  let v164 : BitVec 32 := Scalar.muli arg19 c1_i32_280
  let v165 : BitVec 32 := Scalar.addi c0_i32_281 v164
  ![v165.toNat]
@[reducible] def k0_t40_loop : Scf.Loop 32 :=
  let c0_i32_169 : BitVec 32 := 0#32
  let c16_i32_170 : BitVec 32 := 16#32
  let v97 : BitVec 32 := Scalar.addi c0_i32_169 c16_i32_170
  let c1_i32_171 : BitVec 32 := 1#32
  ⟨c0_i32_169, v97, c1_i32_171⟩

def k0_chk10 (v165 : IVec S16 32) : Prop :=
  (∀ a x, ((![v165] : Fin 1 → IVec S16 32) a x).toNat < S256.size a) ∧
  (∀ a x, ((![v165] : Fin 1 → IVec S16 32) a x).toNat < S256.size a)
theorem k0_idx19_inb : ∀ (v165 : IVec S16 32) (k0_hw10 : k0_chk10 v165), ∀ a x, ((![v165] : Fin 1 → IVec S16 32) a x).toNat < S256.size a := fun v165 k0_hw10 => k0_hw10.1
theorem k0_idx20_inb : ∀ (v165 : IVec S16 32) (k0_hw10 : k0_chk10 v165), ∀ a x, ((![v165] : Fin 1 → IVec S16 32) a x).toNat < S256.size a := fun v165 k0_hw10 => k0_hw10.2
@[reducible] def k0_t41_loop : Scf.Loop 32 :=
  let c0_i32_282 : BitVec 32 := 0#32
  let c64_i32_283 : BitVec 32 := 64#32
  let v168 : BitVec 32 := Scalar.addi c0_i32_282 c64_i32_283
  let c1_i32_284 : BitVec 32 := 1#32
  ⟨c0_i32_282, v168, c1_i32_284⟩
def k0_off95 (k0_t40 : Fin k0_t40_loop.trips) (k0_t41 : Fin k0_t41_loop.trips) : Fin 2 → Nat :=
  let c2_i32_287 : BitVec 32 := 2#32
  let c0_i32_169 : BitVec 32 := 0#32
  let c1_i32_171 : BitVec 32 := 1#32
  let arg19 : BitVec 32 := Scf.iv c0_i32_169 c1_i32_171 k0_t40
  let v171 : BitVec 32 := Scalar.muli c2_i32_287 arg19
  let v172 : Index := Scalar.indexCast v171
  let c0_i32_282 : BitVec 32 := 0#32
  let c1_i32_284 : BitVec 32 := 1#32
  let arg21 : BitVec 32 := Scf.iv c0_i32_282 c1_i32_284 k0_t41
  let c16_i32_286 : BitVec 32 := 16#32
  let v170 : BitVec 32 := Scalar.muli arg21 c16_i32_286
  let v173 : Index := Scalar.indexCast v170
  ![v172.toNat, v173.toNat]
def k0_off96 (k0_t40 : Fin k0_t40_loop.trips) (k0_t41 : Fin k0_t41_loop.trips) : Fin 2 → Nat :=
  let c2_i32_288 : BitVec 32 := 2#32
  let c0_i32_169 : BitVec 32 := 0#32
  let c1_i32_171 : BitVec 32 := 1#32
  let arg19 : BitVec 32 := Scf.iv c0_i32_169 c1_i32_171 k0_t40
  let v177 : BitVec 32 := Scalar.muli c2_i32_288 arg19
  let c1_i32_289 : BitVec 32 := 1#32
  let v178 : BitVec 32 := Scalar.addi v177 c1_i32_289
  let v179 : Index := Scalar.indexCast v178
  let c0_i32_282 : BitVec 32 := 0#32
  let c1_i32_284 : BitVec 32 := 1#32
  let arg21 : BitVec 32 := Scf.iv c0_i32_282 c1_i32_284 k0_t41
  let c16_i32_286 : BitVec 32 := 16#32
  let v170 : BitVec 32 := Scalar.muli arg21 c16_i32_286
  let v180 : Index := Scalar.indexCast v170
  ![v179.toNat, v180.toNat]
def k0_off97 (k0_t40 : Fin k0_t40_loop.trips) (k0_t41 : Fin k0_t41_loop.trips) : Fin 2 → Nat :=
  let c0_i32_169 : BitVec 32 := 0#32
  let c1_i32_171 : BitVec 32 := 1#32
  let arg19 : BitVec 32 := Scf.iv c0_i32_169 c1_i32_171 k0_t40
  let v185 : Index := Scalar.indexCast arg19
  let c0_i32_282 : BitVec 32 := 0#32
  let c1_i32_284 : BitVec 32 := 1#32
  let arg21 : BitVec 32 := Scf.iv c0_i32_282 c1_i32_284 k0_t41
  let c16_i32_286 : BitVec 32 := 16#32
  let v170 : BitVec 32 := Scalar.muli arg21 c16_i32_286
  let v186 : Index := Scalar.indexCast v170
  ![v185.toNat, v186.toNat]
@[reducible] def k0_t42_loop : Scf.Loop 32 :=
  let c0_i32_175 : BitVec 32 := 0#32
  let c8_i32_176 : BitVec 32 := 8#32
  let v103 : BitVec 32 := Scalar.addi c0_i32_175 c8_i32_176
  let c1_i32_177 : BitVec 32 := 1#32
  ⟨c0_i32_175, v103, c1_i32_177⟩
def k0_mult22 (k0_t42 : Fin k0_t42_loop.trips) : BitVec 32 :=
  let c0_i32_281 : BitVec 32 := 0#32
  let c0_i32_175 : BitVec 32 := 0#32
  let c1_i32_177 : BitVec 32 := 1#32
  let arg19 : BitVec 32 := Scf.iv c0_i32_175 c1_i32_177 k0_t42
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  v166
def k0_off98 (k0_t42 : Fin k0_t42_loop.trips) : Fin 2 → Nat :=
  let c0_i32_283 : BitVec 32 := 0#32
  let c0_i32_281 : BitVec 32 := 0#32
  let c0_i32_175 : BitVec 32 := 0#32
  let c1_i32_177 : BitVec 32 := 1#32
  let arg19 : BitVec 32 := Scf.iv c0_i32_175 c1_i32_177 k0_t42
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off99 (k0_t42 : Fin k0_t42_loop.trips) : Fin 2 → Nat :=
  let c0_i32_284 : BitVec 32 := 0#32
  let c0_i32_281 : BitVec 32 := 0#32
  let c0_i32_175 : BitVec 32 := 0#32
  let c1_i32_177 : BitVec 32 := 1#32
  let arg19 : BitVec 32 := Scf.iv c0_i32_175 c1_i32_177 k0_t42
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off100 (k0_t42 : Fin k0_t42_loop.trips) : Fin 1 → Nat :=
  let c0_i32_281 : BitVec 32 := 0#32
  let c0_i32_175 : BitVec 32 := 0#32
  let c1_i32_177 : BitVec 32 := 1#32
  let arg19 : BitVec 32 := Scf.iv c0_i32_175 c1_i32_177 k0_t42
  let c1_i32_280 : BitVec 32 := 1#32
  let v164 : BitVec 32 := Scalar.muli arg19 c1_i32_280
  let v165 : BitVec 32 := Scalar.addi c0_i32_281 v164
  ![v165.toNat]
@[reducible] def k0_t43_loop : Scf.Loop 32 :=
  let c0_i32_179 : BitVec 32 := 0#32
  let c8_i32_180 : BitVec 32 := 8#32
  let v104 : BitVec 32 := Scalar.addi c0_i32_179 c8_i32_180
  let c1_i32_181 : BitVec 32 := 1#32
  ⟨c0_i32_179, v104, c1_i32_181⟩
def k0_mult23 (k0_t43 : Fin k0_t43_loop.trips) : BitVec 32 :=
  let c0_i32_281 : BitVec 32 := 0#32
  let c0_i32_179 : BitVec 32 := 0#32
  let c1_i32_181 : BitVec 32 := 1#32
  let arg19 : BitVec 32 := Scf.iv c0_i32_179 c1_i32_181 k0_t43
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  v166
def k0_off101 (k0_t43 : Fin k0_t43_loop.trips) : Fin 2 → Nat :=
  let c0_i32_283 : BitVec 32 := 0#32
  let c0_i32_281 : BitVec 32 := 0#32
  let c0_i32_179 : BitVec 32 := 0#32
  let c1_i32_181 : BitVec 32 := 1#32
  let arg19 : BitVec 32 := Scf.iv c0_i32_179 c1_i32_181 k0_t43
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off102 (k0_t43 : Fin k0_t43_loop.trips) : Fin 2 → Nat :=
  let c0_i32_284 : BitVec 32 := 0#32
  let c0_i32_281 : BitVec 32 := 0#32
  let c0_i32_179 : BitVec 32 := 0#32
  let c1_i32_181 : BitVec 32 := 1#32
  let arg19 : BitVec 32 := Scf.iv c0_i32_179 c1_i32_181 k0_t43
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off103 (k0_t43 : Fin k0_t43_loop.trips) : Fin 1 → Nat :=
  let c0_i32_281 : BitVec 32 := 0#32
  let c0_i32_179 : BitVec 32 := 0#32
  let c1_i32_181 : BitVec 32 := 1#32
  let arg19 : BitVec 32 := Scf.iv c0_i32_179 c1_i32_181 k0_t43
  let c1_i32_280 : BitVec 32 := 1#32
  let v164 : BitVec 32 := Scalar.muli arg19 c1_i32_280
  let v165 : BitVec 32 := Scalar.addi c0_i32_281 v164
  ![v165.toNat]
@[reducible] def k0_t44_loop : Scf.Loop 32 :=
  let c0_i32_186 : BitVec 32 := 0#32
  let c16_i32_187 : BitVec 32 := 16#32
  let v107 : BitVec 32 := Scalar.addi c0_i32_186 c16_i32_187
  let c1_i32_188 : BitVec 32 := 1#32
  ⟨c0_i32_186, v107, c1_i32_188⟩

def k0_chk11 (v165 : IVec S16 32) : Prop :=
  (∀ a x, ((![v165] : Fin 1 → IVec S16 32) a x).toNat < S256.size a) ∧
  (∀ a x, ((![v165] : Fin 1 → IVec S16 32) a x).toNat < S256.size a)
theorem k0_idx21_inb : ∀ (v165 : IVec S16 32) (k0_hw11 : k0_chk11 v165), ∀ a x, ((![v165] : Fin 1 → IVec S16 32) a x).toNat < S256.size a := fun v165 k0_hw11 => k0_hw11.1
theorem k0_idx22_inb : ∀ (v165 : IVec S16 32) (k0_hw11 : k0_chk11 v165), ∀ a x, ((![v165] : Fin 1 → IVec S16 32) a x).toNat < S256.size a := fun v165 k0_hw11 => k0_hw11.2
@[reducible] def k0_t45_loop : Scf.Loop 32 :=
  let c0_i32_282 : BitVec 32 := 0#32
  let c64_i32_283 : BitVec 32 := 64#32
  let v168 : BitVec 32 := Scalar.addi c0_i32_282 c64_i32_283
  let c1_i32_284 : BitVec 32 := 1#32
  ⟨c0_i32_282, v168, c1_i32_284⟩
def k0_off104 (k0_t44 : Fin k0_t44_loop.trips) (k0_t45 : Fin k0_t45_loop.trips) : Fin 2 → Nat :=
  let c2_i32_287 : BitVec 32 := 2#32
  let c0_i32_186 : BitVec 32 := 0#32
  let c1_i32_188 : BitVec 32 := 1#32
  let arg19 : BitVec 32 := Scf.iv c0_i32_186 c1_i32_188 k0_t44
  let v171 : BitVec 32 := Scalar.muli c2_i32_287 arg19
  let v172 : Index := Scalar.indexCast v171
  let c0_i32_282 : BitVec 32 := 0#32
  let c1_i32_284 : BitVec 32 := 1#32
  let arg21 : BitVec 32 := Scf.iv c0_i32_282 c1_i32_284 k0_t45
  let c16_i32_286 : BitVec 32 := 16#32
  let v170 : BitVec 32 := Scalar.muli arg21 c16_i32_286
  let v173 : Index := Scalar.indexCast v170
  ![v172.toNat, v173.toNat]
def k0_off105 (k0_t44 : Fin k0_t44_loop.trips) (k0_t45 : Fin k0_t45_loop.trips) : Fin 2 → Nat :=
  let c2_i32_288 : BitVec 32 := 2#32
  let c0_i32_186 : BitVec 32 := 0#32
  let c1_i32_188 : BitVec 32 := 1#32
  let arg19 : BitVec 32 := Scf.iv c0_i32_186 c1_i32_188 k0_t44
  let v177 : BitVec 32 := Scalar.muli c2_i32_288 arg19
  let c1_i32_289 : BitVec 32 := 1#32
  let v178 : BitVec 32 := Scalar.addi v177 c1_i32_289
  let v179 : Index := Scalar.indexCast v178
  let c0_i32_282 : BitVec 32 := 0#32
  let c1_i32_284 : BitVec 32 := 1#32
  let arg21 : BitVec 32 := Scf.iv c0_i32_282 c1_i32_284 k0_t45
  let c16_i32_286 : BitVec 32 := 16#32
  let v170 : BitVec 32 := Scalar.muli arg21 c16_i32_286
  let v180 : Index := Scalar.indexCast v170
  ![v179.toNat, v180.toNat]
def k0_off106 (k0_t44 : Fin k0_t44_loop.trips) (k0_t45 : Fin k0_t45_loop.trips) : Fin 2 → Nat :=
  let c0_i32_186 : BitVec 32 := 0#32
  let c1_i32_188 : BitVec 32 := 1#32
  let arg19 : BitVec 32 := Scf.iv c0_i32_186 c1_i32_188 k0_t44
  let v185 : Index := Scalar.indexCast arg19
  let c0_i32_282 : BitVec 32 := 0#32
  let c1_i32_284 : BitVec 32 := 1#32
  let arg21 : BitVec 32 := Scf.iv c0_i32_282 c1_i32_284 k0_t45
  let c16_i32_286 : BitVec 32 := 16#32
  let v170 : BitVec 32 := Scalar.muli arg21 c16_i32_286
  let v186 : Index := Scalar.indexCast v170
  ![v185.toNat, v186.toNat]
@[reducible] def k0_t46_loop : Scf.Loop 32 :=
  let c0_i32_193 : BitVec 32 := 0#32
  let c8_i32_194 : BitVec 32 := 8#32
  let v113 : BitVec 32 := Scalar.addi c0_i32_193 c8_i32_194
  let c1_i32_195 : BitVec 32 := 1#32
  ⟨c0_i32_193, v113, c1_i32_195⟩
def k0_mult24 (k0_t46 : Fin k0_t46_loop.trips) : BitVec 32 :=
  let c0_i32_281 : BitVec 32 := 0#32
  let c0_i32_193 : BitVec 32 := 0#32
  let c1_i32_195 : BitVec 32 := 1#32
  let arg19 : BitVec 32 := Scf.iv c0_i32_193 c1_i32_195 k0_t46
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  v166
def k0_off107 (k0_t46 : Fin k0_t46_loop.trips) : Fin 2 → Nat :=
  let c0_i32_283 : BitVec 32 := 0#32
  let c0_i32_281 : BitVec 32 := 0#32
  let c0_i32_193 : BitVec 32 := 0#32
  let c1_i32_195 : BitVec 32 := 1#32
  let arg19 : BitVec 32 := Scf.iv c0_i32_193 c1_i32_195 k0_t46
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off108 (k0_t46 : Fin k0_t46_loop.trips) : Fin 2 → Nat :=
  let c0_i32_284 : BitVec 32 := 0#32
  let c0_i32_281 : BitVec 32 := 0#32
  let c0_i32_193 : BitVec 32 := 0#32
  let c1_i32_195 : BitVec 32 := 1#32
  let arg19 : BitVec 32 := Scf.iv c0_i32_193 c1_i32_195 k0_t46
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off109 (k0_t46 : Fin k0_t46_loop.trips) : Fin 1 → Nat :=
  let c0_i32_281 : BitVec 32 := 0#32
  let c0_i32_193 : BitVec 32 := 0#32
  let c1_i32_195 : BitVec 32 := 1#32
  let arg19 : BitVec 32 := Scf.iv c0_i32_193 c1_i32_195 k0_t46
  let c1_i32_280 : BitVec 32 := 1#32
  let v164 : BitVec 32 := Scalar.muli arg19 c1_i32_280
  let v165 : BitVec 32 := Scalar.addi c0_i32_281 v164
  ![v165.toNat]
@[reducible] def k0_t47_loop : Scf.Loop 32 :=
  let c0_i32_197 : BitVec 32 := 0#32
  let c8_i32_198 : BitVec 32 := 8#32
  let v114 : BitVec 32 := Scalar.addi c0_i32_197 c8_i32_198
  let c1_i32_199 : BitVec 32 := 1#32
  ⟨c0_i32_197, v114, c1_i32_199⟩
def k0_mult25 (k0_t47 : Fin k0_t47_loop.trips) : BitVec 32 :=
  let c0_i32_281 : BitVec 32 := 0#32
  let c0_i32_197 : BitVec 32 := 0#32
  let c1_i32_199 : BitVec 32 := 1#32
  let arg19 : BitVec 32 := Scf.iv c0_i32_197 c1_i32_199 k0_t47
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  v166
def k0_off110 (k0_t47 : Fin k0_t47_loop.trips) : Fin 2 → Nat :=
  let c0_i32_283 : BitVec 32 := 0#32
  let c0_i32_281 : BitVec 32 := 0#32
  let c0_i32_197 : BitVec 32 := 0#32
  let c1_i32_199 : BitVec 32 := 1#32
  let arg19 : BitVec 32 := Scf.iv c0_i32_197 c1_i32_199 k0_t47
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off111 (k0_t47 : Fin k0_t47_loop.trips) : Fin 2 → Nat :=
  let c0_i32_284 : BitVec 32 := 0#32
  let c0_i32_281 : BitVec 32 := 0#32
  let c0_i32_197 : BitVec 32 := 0#32
  let c1_i32_199 : BitVec 32 := 1#32
  let arg19 : BitVec 32 := Scf.iv c0_i32_197 c1_i32_199 k0_t47
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off112 (k0_t47 : Fin k0_t47_loop.trips) : Fin 1 → Nat :=
  let c0_i32_281 : BitVec 32 := 0#32
  let c0_i32_197 : BitVec 32 := 0#32
  let c1_i32_199 : BitVec 32 := 1#32
  let arg19 : BitVec 32 := Scf.iv c0_i32_197 c1_i32_199 k0_t47
  let c1_i32_280 : BitVec 32 := 1#32
  let v164 : BitVec 32 := Scalar.muli arg19 c1_i32_280
  let v165 : BitVec 32 := Scalar.addi c0_i32_281 v164
  ![v165.toNat]
@[reducible] def k0_t48_loop : Scf.Loop 32 :=
  let c0_i32_204 : BitVec 32 := 0#32
  let c16_i32_205 : BitVec 32 := 16#32
  let v117 : BitVec 32 := Scalar.addi c0_i32_204 c16_i32_205
  let c1_i32_206 : BitVec 32 := 1#32
  ⟨c0_i32_204, v117, c1_i32_206⟩

def k0_chk12 (v165 : IVec S16 32) : Prop :=
  (∀ a x, ((![v165] : Fin 1 → IVec S16 32) a x).toNat < S256.size a) ∧
  (∀ a x, ((![v165] : Fin 1 → IVec S16 32) a x).toNat < S256.size a)
theorem k0_idx23_inb : ∀ (v165 : IVec S16 32) (k0_hw12 : k0_chk12 v165), ∀ a x, ((![v165] : Fin 1 → IVec S16 32) a x).toNat < S256.size a := fun v165 k0_hw12 => k0_hw12.1
theorem k0_idx24_inb : ∀ (v165 : IVec S16 32) (k0_hw12 : k0_chk12 v165), ∀ a x, ((![v165] : Fin 1 → IVec S16 32) a x).toNat < S256.size a := fun v165 k0_hw12 => k0_hw12.2
@[reducible] def k0_t49_loop : Scf.Loop 32 :=
  let c0_i32_282 : BitVec 32 := 0#32
  let c64_i32_283 : BitVec 32 := 64#32
  let v168 : BitVec 32 := Scalar.addi c0_i32_282 c64_i32_283
  let c1_i32_284 : BitVec 32 := 1#32
  ⟨c0_i32_282, v168, c1_i32_284⟩
def k0_off113 (k0_t48 : Fin k0_t48_loop.trips) (k0_t49 : Fin k0_t49_loop.trips) : Fin 2 → Nat :=
  let c2_i32_287 : BitVec 32 := 2#32
  let c0_i32_204 : BitVec 32 := 0#32
  let c1_i32_206 : BitVec 32 := 1#32
  let arg19 : BitVec 32 := Scf.iv c0_i32_204 c1_i32_206 k0_t48
  let v171 : BitVec 32 := Scalar.muli c2_i32_287 arg19
  let v172 : Index := Scalar.indexCast v171
  let c0_i32_282 : BitVec 32 := 0#32
  let c1_i32_284 : BitVec 32 := 1#32
  let arg21 : BitVec 32 := Scf.iv c0_i32_282 c1_i32_284 k0_t49
  let c16_i32_286 : BitVec 32 := 16#32
  let v170 : BitVec 32 := Scalar.muli arg21 c16_i32_286
  let v173 : Index := Scalar.indexCast v170
  ![v172.toNat, v173.toNat]
def k0_off114 (k0_t48 : Fin k0_t48_loop.trips) (k0_t49 : Fin k0_t49_loop.trips) : Fin 2 → Nat :=
  let c2_i32_288 : BitVec 32 := 2#32
  let c0_i32_204 : BitVec 32 := 0#32
  let c1_i32_206 : BitVec 32 := 1#32
  let arg19 : BitVec 32 := Scf.iv c0_i32_204 c1_i32_206 k0_t48
  let v177 : BitVec 32 := Scalar.muli c2_i32_288 arg19
  let c1_i32_289 : BitVec 32 := 1#32
  let v178 : BitVec 32 := Scalar.addi v177 c1_i32_289
  let v179 : Index := Scalar.indexCast v178
  let c0_i32_282 : BitVec 32 := 0#32
  let c1_i32_284 : BitVec 32 := 1#32
  let arg21 : BitVec 32 := Scf.iv c0_i32_282 c1_i32_284 k0_t49
  let c16_i32_286 : BitVec 32 := 16#32
  let v170 : BitVec 32 := Scalar.muli arg21 c16_i32_286
  let v180 : Index := Scalar.indexCast v170
  ![v179.toNat, v180.toNat]
def k0_off115 (k0_t48 : Fin k0_t48_loop.trips) (k0_t49 : Fin k0_t49_loop.trips) : Fin 2 → Nat :=
  let c0_i32_204 : BitVec 32 := 0#32
  let c1_i32_206 : BitVec 32 := 1#32
  let arg19 : BitVec 32 := Scf.iv c0_i32_204 c1_i32_206 k0_t48
  let v185 : Index := Scalar.indexCast arg19
  let c0_i32_282 : BitVec 32 := 0#32
  let c1_i32_284 : BitVec 32 := 1#32
  let arg21 : BitVec 32 := Scf.iv c0_i32_282 c1_i32_284 k0_t49
  let c16_i32_286 : BitVec 32 := 16#32
  let v170 : BitVec 32 := Scalar.muli arg21 c16_i32_286
  let v186 : Index := Scalar.indexCast v170
  ![v185.toNat, v186.toNat]
@[reducible] def k0_t50_loop : Scf.Loop 32 :=
  let c0_i32_210 : BitVec 32 := 0#32
  let c8_i32_211 : BitVec 32 := 8#32
  let v123 : BitVec 32 := Scalar.addi c0_i32_210 c8_i32_211
  let c1_i32_212 : BitVec 32 := 1#32
  ⟨c0_i32_210, v123, c1_i32_212⟩
def k0_mult26 (k0_t50 : Fin k0_t50_loop.trips) : BitVec 32 :=
  let c0_i32_281 : BitVec 32 := 0#32
  let c0_i32_210 : BitVec 32 := 0#32
  let c1_i32_212 : BitVec 32 := 1#32
  let arg19 : BitVec 32 := Scf.iv c0_i32_210 c1_i32_212 k0_t50
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  v166
def k0_off116 (k0_t50 : Fin k0_t50_loop.trips) : Fin 2 → Nat :=
  let c0_i32_283 : BitVec 32 := 0#32
  let c0_i32_281 : BitVec 32 := 0#32
  let c0_i32_210 : BitVec 32 := 0#32
  let c1_i32_212 : BitVec 32 := 1#32
  let arg19 : BitVec 32 := Scf.iv c0_i32_210 c1_i32_212 k0_t50
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off117 (k0_t50 : Fin k0_t50_loop.trips) : Fin 2 → Nat :=
  let c0_i32_284 : BitVec 32 := 0#32
  let c0_i32_281 : BitVec 32 := 0#32
  let c0_i32_210 : BitVec 32 := 0#32
  let c1_i32_212 : BitVec 32 := 1#32
  let arg19 : BitVec 32 := Scf.iv c0_i32_210 c1_i32_212 k0_t50
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off118 (k0_t50 : Fin k0_t50_loop.trips) : Fin 1 → Nat :=
  let c0_i32_281 : BitVec 32 := 0#32
  let c0_i32_210 : BitVec 32 := 0#32
  let c1_i32_212 : BitVec 32 := 1#32
  let arg19 : BitVec 32 := Scf.iv c0_i32_210 c1_i32_212 k0_t50
  let c1_i32_280 : BitVec 32 := 1#32
  let v164 : BitVec 32 := Scalar.muli arg19 c1_i32_280
  let v165 : BitVec 32 := Scalar.addi c0_i32_281 v164
  ![v165.toNat]
@[reducible] def k0_t51_loop : Scf.Loop 32 :=
  let c0_i32_214 : BitVec 32 := 0#32
  let c8_i32_215 : BitVec 32 := 8#32
  let v124 : BitVec 32 := Scalar.addi c0_i32_214 c8_i32_215
  let c1_i32_216 : BitVec 32 := 1#32
  ⟨c0_i32_214, v124, c1_i32_216⟩
def k0_mult27 (k0_t51 : Fin k0_t51_loop.trips) : BitVec 32 :=
  let c0_i32_281 : BitVec 32 := 0#32
  let c0_i32_214 : BitVec 32 := 0#32
  let c1_i32_216 : BitVec 32 := 1#32
  let arg19 : BitVec 32 := Scf.iv c0_i32_214 c1_i32_216 k0_t51
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  v166
def k0_off119 (k0_t51 : Fin k0_t51_loop.trips) : Fin 2 → Nat :=
  let c0_i32_283 : BitVec 32 := 0#32
  let c0_i32_281 : BitVec 32 := 0#32
  let c0_i32_214 : BitVec 32 := 0#32
  let c1_i32_216 : BitVec 32 := 1#32
  let arg19 : BitVec 32 := Scf.iv c0_i32_214 c1_i32_216 k0_t51
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off120 (k0_t51 : Fin k0_t51_loop.trips) : Fin 2 → Nat :=
  let c0_i32_284 : BitVec 32 := 0#32
  let c0_i32_281 : BitVec 32 := 0#32
  let c0_i32_214 : BitVec 32 := 0#32
  let c1_i32_216 : BitVec 32 := 1#32
  let arg19 : BitVec 32 := Scf.iv c0_i32_214 c1_i32_216 k0_t51
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off121 (k0_t51 : Fin k0_t51_loop.trips) : Fin 1 → Nat :=
  let c0_i32_281 : BitVec 32 := 0#32
  let c0_i32_214 : BitVec 32 := 0#32
  let c1_i32_216 : BitVec 32 := 1#32
  let arg19 : BitVec 32 := Scf.iv c0_i32_214 c1_i32_216 k0_t51
  let c1_i32_280 : BitVec 32 := 1#32
  let v164 : BitVec 32 := Scalar.muli arg19 c1_i32_280
  let v165 : BitVec 32 := Scalar.addi c0_i32_281 v164
  ![v165.toNat]
@[reducible] def k0_t52_loop : Scf.Loop 32 :=
  let c0_i32_221 : BitVec 32 := 0#32
  let c16_i32_222 : BitVec 32 := 16#32
  let v127 : BitVec 32 := Scalar.addi c0_i32_221 c16_i32_222
  let c1_i32_223 : BitVec 32 := 1#32
  ⟨c0_i32_221, v127, c1_i32_223⟩

def k0_chk13 (v165 : IVec S16 32) : Prop :=
  (∀ a x, ((![v165] : Fin 1 → IVec S16 32) a x).toNat < S256.size a) ∧
  (∀ a x, ((![v165] : Fin 1 → IVec S16 32) a x).toNat < S256.size a)
theorem k0_idx25_inb : ∀ (v165 : IVec S16 32) (k0_hw13 : k0_chk13 v165), ∀ a x, ((![v165] : Fin 1 → IVec S16 32) a x).toNat < S256.size a := fun v165 k0_hw13 => k0_hw13.1
theorem k0_idx26_inb : ∀ (v165 : IVec S16 32) (k0_hw13 : k0_chk13 v165), ∀ a x, ((![v165] : Fin 1 → IVec S16 32) a x).toNat < S256.size a := fun v165 k0_hw13 => k0_hw13.2
@[reducible] def k0_t53_loop : Scf.Loop 32 :=
  let c0_i32_282 : BitVec 32 := 0#32
  let c64_i32_283 : BitVec 32 := 64#32
  let v168 : BitVec 32 := Scalar.addi c0_i32_282 c64_i32_283
  let c1_i32_284 : BitVec 32 := 1#32
  ⟨c0_i32_282, v168, c1_i32_284⟩
def k0_off122 (k0_t52 : Fin k0_t52_loop.trips) (k0_t53 : Fin k0_t53_loop.trips) : Fin 2 → Nat :=
  let c2_i32_287 : BitVec 32 := 2#32
  let c0_i32_221 : BitVec 32 := 0#32
  let c1_i32_223 : BitVec 32 := 1#32
  let arg19 : BitVec 32 := Scf.iv c0_i32_221 c1_i32_223 k0_t52
  let v171 : BitVec 32 := Scalar.muli c2_i32_287 arg19
  let v172 : Index := Scalar.indexCast v171
  let c0_i32_282 : BitVec 32 := 0#32
  let c1_i32_284 : BitVec 32 := 1#32
  let arg21 : BitVec 32 := Scf.iv c0_i32_282 c1_i32_284 k0_t53
  let c16_i32_286 : BitVec 32 := 16#32
  let v170 : BitVec 32 := Scalar.muli arg21 c16_i32_286
  let v173 : Index := Scalar.indexCast v170
  ![v172.toNat, v173.toNat]
def k0_off123 (k0_t52 : Fin k0_t52_loop.trips) (k0_t53 : Fin k0_t53_loop.trips) : Fin 2 → Nat :=
  let c2_i32_288 : BitVec 32 := 2#32
  let c0_i32_221 : BitVec 32 := 0#32
  let c1_i32_223 : BitVec 32 := 1#32
  let arg19 : BitVec 32 := Scf.iv c0_i32_221 c1_i32_223 k0_t52
  let v177 : BitVec 32 := Scalar.muli c2_i32_288 arg19
  let c1_i32_289 : BitVec 32 := 1#32
  let v178 : BitVec 32 := Scalar.addi v177 c1_i32_289
  let v179 : Index := Scalar.indexCast v178
  let c0_i32_282 : BitVec 32 := 0#32
  let c1_i32_284 : BitVec 32 := 1#32
  let arg21 : BitVec 32 := Scf.iv c0_i32_282 c1_i32_284 k0_t53
  let c16_i32_286 : BitVec 32 := 16#32
  let v170 : BitVec 32 := Scalar.muli arg21 c16_i32_286
  let v180 : Index := Scalar.indexCast v170
  ![v179.toNat, v180.toNat]
def k0_off124 (k0_t52 : Fin k0_t52_loop.trips) (k0_t53 : Fin k0_t53_loop.trips) : Fin 2 → Nat :=
  let c0_i32_221 : BitVec 32 := 0#32
  let c1_i32_223 : BitVec 32 := 1#32
  let arg19 : BitVec 32 := Scf.iv c0_i32_221 c1_i32_223 k0_t52
  let v185 : Index := Scalar.indexCast arg19
  let c0_i32_282 : BitVec 32 := 0#32
  let c1_i32_284 : BitVec 32 := 1#32
  let arg21 : BitVec 32 := Scf.iv c0_i32_282 c1_i32_284 k0_t53
  let c16_i32_286 : BitVec 32 := 16#32
  let v170 : BitVec 32 := Scalar.muli arg21 c16_i32_286
  let v186 : Index := Scalar.indexCast v170
  ![v185.toNat, v186.toNat]
@[reducible] def k0_t54_loop : Scf.Loop 32 :=
  let c0_i32_228 : BitVec 32 := 0#32
  let c8_i32_229 : BitVec 32 := 8#32
  let v133 : BitVec 32 := Scalar.addi c0_i32_228 c8_i32_229
  let c1_i32_230 : BitVec 32 := 1#32
  ⟨c0_i32_228, v133, c1_i32_230⟩
def k0_mult28 (k0_t54 : Fin k0_t54_loop.trips) : BitVec 32 :=
  let c0_i32_281 : BitVec 32 := 0#32
  let c0_i32_228 : BitVec 32 := 0#32
  let c1_i32_230 : BitVec 32 := 1#32
  let arg19 : BitVec 32 := Scf.iv c0_i32_228 c1_i32_230 k0_t54
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  v166
def k0_off125 (k0_t54 : Fin k0_t54_loop.trips) : Fin 2 → Nat :=
  let c0_i32_283 : BitVec 32 := 0#32
  let c0_i32_281 : BitVec 32 := 0#32
  let c0_i32_228 : BitVec 32 := 0#32
  let c1_i32_230 : BitVec 32 := 1#32
  let arg19 : BitVec 32 := Scf.iv c0_i32_228 c1_i32_230 k0_t54
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off126 (k0_t54 : Fin k0_t54_loop.trips) : Fin 2 → Nat :=
  let c0_i32_284 : BitVec 32 := 0#32
  let c0_i32_281 : BitVec 32 := 0#32
  let c0_i32_228 : BitVec 32 := 0#32
  let c1_i32_230 : BitVec 32 := 1#32
  let arg19 : BitVec 32 := Scf.iv c0_i32_228 c1_i32_230 k0_t54
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off127 (k0_t54 : Fin k0_t54_loop.trips) : Fin 1 → Nat :=
  let c0_i32_281 : BitVec 32 := 0#32
  let c0_i32_228 : BitVec 32 := 0#32
  let c1_i32_230 : BitVec 32 := 1#32
  let arg19 : BitVec 32 := Scf.iv c0_i32_228 c1_i32_230 k0_t54
  let c1_i32_280 : BitVec 32 := 1#32
  let v164 : BitVec 32 := Scalar.muli arg19 c1_i32_280
  let v165 : BitVec 32 := Scalar.addi c0_i32_281 v164
  ![v165.toNat]
@[reducible] def k0_t55_loop : Scf.Loop 32 :=
  let c0_i32_232 : BitVec 32 := 0#32
  let c8_i32_233 : BitVec 32 := 8#32
  let v134 : BitVec 32 := Scalar.addi c0_i32_232 c8_i32_233
  let c1_i32_234 : BitVec 32 := 1#32
  ⟨c0_i32_232, v134, c1_i32_234⟩
def k0_mult29 (k0_t55 : Fin k0_t55_loop.trips) : BitVec 32 :=
  let c0_i32_281 : BitVec 32 := 0#32
  let c0_i32_232 : BitVec 32 := 0#32
  let c1_i32_234 : BitVec 32 := 1#32
  let arg19 : BitVec 32 := Scf.iv c0_i32_232 c1_i32_234 k0_t55
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  v166
def k0_off128 (k0_t55 : Fin k0_t55_loop.trips) : Fin 2 → Nat :=
  let c0_i32_283 : BitVec 32 := 0#32
  let c0_i32_281 : BitVec 32 := 0#32
  let c0_i32_232 : BitVec 32 := 0#32
  let c1_i32_234 : BitVec 32 := 1#32
  let arg19 : BitVec 32 := Scf.iv c0_i32_232 c1_i32_234 k0_t55
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off129 (k0_t55 : Fin k0_t55_loop.trips) : Fin 2 → Nat :=
  let c0_i32_284 : BitVec 32 := 0#32
  let c0_i32_281 : BitVec 32 := 0#32
  let c0_i32_232 : BitVec 32 := 0#32
  let c1_i32_234 : BitVec 32 := 1#32
  let arg19 : BitVec 32 := Scf.iv c0_i32_232 c1_i32_234 k0_t55
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off130 (k0_t55 : Fin k0_t55_loop.trips) : Fin 1 → Nat :=
  let c0_i32_281 : BitVec 32 := 0#32
  let c0_i32_232 : BitVec 32 := 0#32
  let c1_i32_234 : BitVec 32 := 1#32
  let arg19 : BitVec 32 := Scf.iv c0_i32_232 c1_i32_234 k0_t55
  let c1_i32_280 : BitVec 32 := 1#32
  let v164 : BitVec 32 := Scalar.muli arg19 c1_i32_280
  let v165 : BitVec 32 := Scalar.addi c0_i32_281 v164
  ![v165.toNat]
@[reducible] def k0_t56_loop : Scf.Loop 32 :=
  let c0_i32_239 : BitVec 32 := 0#32
  let c16_i32_240 : BitVec 32 := 16#32
  let v137 : BitVec 32 := Scalar.addi c0_i32_239 c16_i32_240
  let c1_i32_241 : BitVec 32 := 1#32
  ⟨c0_i32_239, v137, c1_i32_241⟩

def k0_chk14 (v165 : IVec S16 32) : Prop :=
  (∀ a x, ((![v165] : Fin 1 → IVec S16 32) a x).toNat < S256.size a) ∧
  (∀ a x, ((![v165] : Fin 1 → IVec S16 32) a x).toNat < S256.size a)
theorem k0_idx27_inb : ∀ (v165 : IVec S16 32) (k0_hw14 : k0_chk14 v165), ∀ a x, ((![v165] : Fin 1 → IVec S16 32) a x).toNat < S256.size a := fun v165 k0_hw14 => k0_hw14.1
theorem k0_idx28_inb : ∀ (v165 : IVec S16 32) (k0_hw14 : k0_chk14 v165), ∀ a x, ((![v165] : Fin 1 → IVec S16 32) a x).toNat < S256.size a := fun v165 k0_hw14 => k0_hw14.2
@[reducible] def k0_t57_loop : Scf.Loop 32 :=
  let c0_i32_282 : BitVec 32 := 0#32
  let c64_i32_283 : BitVec 32 := 64#32
  let v168 : BitVec 32 := Scalar.addi c0_i32_282 c64_i32_283
  let c1_i32_284 : BitVec 32 := 1#32
  ⟨c0_i32_282, v168, c1_i32_284⟩
def k0_off131 (k0_t56 : Fin k0_t56_loop.trips) (k0_t57 : Fin k0_t57_loop.trips) : Fin 2 → Nat :=
  let c2_i32_287 : BitVec 32 := 2#32
  let c0_i32_239 : BitVec 32 := 0#32
  let c1_i32_241 : BitVec 32 := 1#32
  let arg19 : BitVec 32 := Scf.iv c0_i32_239 c1_i32_241 k0_t56
  let v171 : BitVec 32 := Scalar.muli c2_i32_287 arg19
  let v172 : Index := Scalar.indexCast v171
  let c0_i32_282 : BitVec 32 := 0#32
  let c1_i32_284 : BitVec 32 := 1#32
  let arg21 : BitVec 32 := Scf.iv c0_i32_282 c1_i32_284 k0_t57
  let c16_i32_286 : BitVec 32 := 16#32
  let v170 : BitVec 32 := Scalar.muli arg21 c16_i32_286
  let v173 : Index := Scalar.indexCast v170
  ![v172.toNat, v173.toNat]
def k0_off132 (k0_t56 : Fin k0_t56_loop.trips) (k0_t57 : Fin k0_t57_loop.trips) : Fin 2 → Nat :=
  let c2_i32_288 : BitVec 32 := 2#32
  let c0_i32_239 : BitVec 32 := 0#32
  let c1_i32_241 : BitVec 32 := 1#32
  let arg19 : BitVec 32 := Scf.iv c0_i32_239 c1_i32_241 k0_t56
  let v177 : BitVec 32 := Scalar.muli c2_i32_288 arg19
  let c1_i32_289 : BitVec 32 := 1#32
  let v178 : BitVec 32 := Scalar.addi v177 c1_i32_289
  let v179 : Index := Scalar.indexCast v178
  let c0_i32_282 : BitVec 32 := 0#32
  let c1_i32_284 : BitVec 32 := 1#32
  let arg21 : BitVec 32 := Scf.iv c0_i32_282 c1_i32_284 k0_t57
  let c16_i32_286 : BitVec 32 := 16#32
  let v170 : BitVec 32 := Scalar.muli arg21 c16_i32_286
  let v180 : Index := Scalar.indexCast v170
  ![v179.toNat, v180.toNat]
def k0_off133 (k0_t56 : Fin k0_t56_loop.trips) (k0_t57 : Fin k0_t57_loop.trips) : Fin 2 → Nat :=
  let c0_i32_239 : BitVec 32 := 0#32
  let c1_i32_241 : BitVec 32 := 1#32
  let arg19 : BitVec 32 := Scf.iv c0_i32_239 c1_i32_241 k0_t56
  let v185 : Index := Scalar.indexCast arg19
  let c0_i32_282 : BitVec 32 := 0#32
  let c1_i32_284 : BitVec 32 := 1#32
  let arg21 : BitVec 32 := Scf.iv c0_i32_282 c1_i32_284 k0_t57
  let c16_i32_286 : BitVec 32 := 16#32
  let v170 : BitVec 32 := Scalar.muli arg21 c16_i32_286
  let v186 : Index := Scalar.indexCast v170
  ![v185.toNat, v186.toNat]
@[reducible] def k0_t58_loop : Scf.Loop 32 :=
  let c0_i32_245 : BitVec 32 := 0#32
  let c8_i32_246 : BitVec 32 := 8#32
  let v143 : BitVec 32 := Scalar.addi c0_i32_245 c8_i32_246
  let c1_i32_247 : BitVec 32 := 1#32
  ⟨c0_i32_245, v143, c1_i32_247⟩
def k0_mult30 (k0_t58 : Fin k0_t58_loop.trips) : BitVec 32 :=
  let c0_i32_281 : BitVec 32 := 0#32
  let c0_i32_245 : BitVec 32 := 0#32
  let c1_i32_247 : BitVec 32 := 1#32
  let arg19 : BitVec 32 := Scf.iv c0_i32_245 c1_i32_247 k0_t58
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  v166
def k0_off134 (k0_t58 : Fin k0_t58_loop.trips) : Fin 2 → Nat :=
  let c0_i32_283 : BitVec 32 := 0#32
  let c0_i32_281 : BitVec 32 := 0#32
  let c0_i32_245 : BitVec 32 := 0#32
  let c1_i32_247 : BitVec 32 := 1#32
  let arg19 : BitVec 32 := Scf.iv c0_i32_245 c1_i32_247 k0_t58
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off135 (k0_t58 : Fin k0_t58_loop.trips) : Fin 2 → Nat :=
  let c0_i32_284 : BitVec 32 := 0#32
  let c0_i32_281 : BitVec 32 := 0#32
  let c0_i32_245 : BitVec 32 := 0#32
  let c1_i32_247 : BitVec 32 := 1#32
  let arg19 : BitVec 32 := Scf.iv c0_i32_245 c1_i32_247 k0_t58
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off136 (k0_t58 : Fin k0_t58_loop.trips) : Fin 1 → Nat :=
  let c0_i32_281 : BitVec 32 := 0#32
  let c0_i32_245 : BitVec 32 := 0#32
  let c1_i32_247 : BitVec 32 := 1#32
  let arg19 : BitVec 32 := Scf.iv c0_i32_245 c1_i32_247 k0_t58
  let c1_i32_280 : BitVec 32 := 1#32
  let v164 : BitVec 32 := Scalar.muli arg19 c1_i32_280
  let v165 : BitVec 32 := Scalar.addi c0_i32_281 v164
  ![v165.toNat]
@[reducible] def k0_t59_loop : Scf.Loop 32 :=
  let c0_i32_249 : BitVec 32 := 0#32
  let c8_i32_250 : BitVec 32 := 8#32
  let v144 : BitVec 32 := Scalar.addi c0_i32_249 c8_i32_250
  let c1_i32_251 : BitVec 32 := 1#32
  ⟨c0_i32_249, v144, c1_i32_251⟩
def k0_mult31 (k0_t59 : Fin k0_t59_loop.trips) : BitVec 32 :=
  let c0_i32_281 : BitVec 32 := 0#32
  let c0_i32_249 : BitVec 32 := 0#32
  let c1_i32_251 : BitVec 32 := 1#32
  let arg19 : BitVec 32 := Scf.iv c0_i32_249 c1_i32_251 k0_t59
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  v166
def k0_off137 (k0_t59 : Fin k0_t59_loop.trips) : Fin 2 → Nat :=
  let c0_i32_283 : BitVec 32 := 0#32
  let c0_i32_281 : BitVec 32 := 0#32
  let c0_i32_249 : BitVec 32 := 0#32
  let c1_i32_251 : BitVec 32 := 1#32
  let arg19 : BitVec 32 := Scf.iv c0_i32_249 c1_i32_251 k0_t59
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off138 (k0_t59 : Fin k0_t59_loop.trips) : Fin 2 → Nat :=
  let c0_i32_284 : BitVec 32 := 0#32
  let c0_i32_281 : BitVec 32 := 0#32
  let c0_i32_249 : BitVec 32 := 0#32
  let c1_i32_251 : BitVec 32 := 1#32
  let arg19 : BitVec 32 := Scf.iv c0_i32_249 c1_i32_251 k0_t59
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off139 (k0_t59 : Fin k0_t59_loop.trips) : Fin 1 → Nat :=
  let c0_i32_281 : BitVec 32 := 0#32
  let c0_i32_249 : BitVec 32 := 0#32
  let c1_i32_251 : BitVec 32 := 1#32
  let arg19 : BitVec 32 := Scf.iv c0_i32_249 c1_i32_251 k0_t59
  let c1_i32_280 : BitVec 32 := 1#32
  let v164 : BitVec 32 := Scalar.muli arg19 c1_i32_280
  let v165 : BitVec 32 := Scalar.addi c0_i32_281 v164
  ![v165.toNat]
@[reducible] def k0_t60_loop : Scf.Loop 32 :=
  let c0_i32_256 : BitVec 32 := 0#32
  let c16_i32_257 : BitVec 32 := 16#32
  let v147 : BitVec 32 := Scalar.addi c0_i32_256 c16_i32_257
  let c1_i32_258 : BitVec 32 := 1#32
  ⟨c0_i32_256, v147, c1_i32_258⟩

def k0_chk15 (v165 : IVec S16 32) : Prop :=
  (∀ a x, ((![v165] : Fin 1 → IVec S16 32) a x).toNat < S256.size a) ∧
  (∀ a x, ((![v165] : Fin 1 → IVec S16 32) a x).toNat < S256.size a)
theorem k0_idx29_inb : ∀ (v165 : IVec S16 32) (k0_hw15 : k0_chk15 v165), ∀ a x, ((![v165] : Fin 1 → IVec S16 32) a x).toNat < S256.size a := fun v165 k0_hw15 => k0_hw15.1
theorem k0_idx30_inb : ∀ (v165 : IVec S16 32) (k0_hw15 : k0_chk15 v165), ∀ a x, ((![v165] : Fin 1 → IVec S16 32) a x).toNat < S256.size a := fun v165 k0_hw15 => k0_hw15.2
@[reducible] def k0_t61_loop : Scf.Loop 32 :=
  let c0_i32_282 : BitVec 32 := 0#32
  let c64_i32_283 : BitVec 32 := 64#32
  let v168 : BitVec 32 := Scalar.addi c0_i32_282 c64_i32_283
  let c1_i32_284 : BitVec 32 := 1#32
  ⟨c0_i32_282, v168, c1_i32_284⟩
def k0_off140 (k0_t60 : Fin k0_t60_loop.trips) (k0_t61 : Fin k0_t61_loop.trips) : Fin 2 → Nat :=
  let c2_i32_287 : BitVec 32 := 2#32
  let c0_i32_256 : BitVec 32 := 0#32
  let c1_i32_258 : BitVec 32 := 1#32
  let arg19 : BitVec 32 := Scf.iv c0_i32_256 c1_i32_258 k0_t60
  let v171 : BitVec 32 := Scalar.muli c2_i32_287 arg19
  let v172 : Index := Scalar.indexCast v171
  let c0_i32_282 : BitVec 32 := 0#32
  let c1_i32_284 : BitVec 32 := 1#32
  let arg21 : BitVec 32 := Scf.iv c0_i32_282 c1_i32_284 k0_t61
  let c16_i32_286 : BitVec 32 := 16#32
  let v170 : BitVec 32 := Scalar.muli arg21 c16_i32_286
  let v173 : Index := Scalar.indexCast v170
  ![v172.toNat, v173.toNat]
def k0_off141 (k0_t60 : Fin k0_t60_loop.trips) (k0_t61 : Fin k0_t61_loop.trips) : Fin 2 → Nat :=
  let c2_i32_288 : BitVec 32 := 2#32
  let c0_i32_256 : BitVec 32 := 0#32
  let c1_i32_258 : BitVec 32 := 1#32
  let arg19 : BitVec 32 := Scf.iv c0_i32_256 c1_i32_258 k0_t60
  let v177 : BitVec 32 := Scalar.muli c2_i32_288 arg19
  let c1_i32_289 : BitVec 32 := 1#32
  let v178 : BitVec 32 := Scalar.addi v177 c1_i32_289
  let v179 : Index := Scalar.indexCast v178
  let c0_i32_282 : BitVec 32 := 0#32
  let c1_i32_284 : BitVec 32 := 1#32
  let arg21 : BitVec 32 := Scf.iv c0_i32_282 c1_i32_284 k0_t61
  let c16_i32_286 : BitVec 32 := 16#32
  let v170 : BitVec 32 := Scalar.muli arg21 c16_i32_286
  let v180 : Index := Scalar.indexCast v170
  ![v179.toNat, v180.toNat]
def k0_off142 (k0_t60 : Fin k0_t60_loop.trips) (k0_t61 : Fin k0_t61_loop.trips) : Fin 2 → Nat :=
  let c0_i32_256 : BitVec 32 := 0#32
  let c1_i32_258 : BitVec 32 := 1#32
  let arg19 : BitVec 32 := Scf.iv c0_i32_256 c1_i32_258 k0_t60
  let v185 : Index := Scalar.indexCast arg19
  let c0_i32_282 : BitVec 32 := 0#32
  let c1_i32_284 : BitVec 32 := 1#32
  let arg21 : BitVec 32 := Scf.iv c0_i32_282 c1_i32_284 k0_t61
  let c16_i32_286 : BitVec 32 := 16#32
  let v170 : BitVec 32 := Scalar.muli arg21 c16_i32_286
  let v186 : Index := Scalar.indexCast v170
  ![v185.toNat, v186.toNat]
@[reducible] def k0_t62_loop : Scf.Loop 32 :=
  let c0_i32_263 : BitVec 32 := 0#32
  let c8_i32_264 : BitVec 32 := 8#32
  let v152 : BitVec 32 := Scalar.addi c0_i32_263 c8_i32_264
  let c1_i32_265 : BitVec 32 := 1#32
  ⟨c0_i32_263, v152, c1_i32_265⟩
def k0_mult32 (k0_t62 : Fin k0_t62_loop.trips) : BitVec 32 :=
  let c0_i32_281 : BitVec 32 := 0#32
  let c0_i32_263 : BitVec 32 := 0#32
  let c1_i32_265 : BitVec 32 := 1#32
  let arg19 : BitVec 32 := Scf.iv c0_i32_263 c1_i32_265 k0_t62
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  v166
def k0_off143 (k0_t62 : Fin k0_t62_loop.trips) : Fin 2 → Nat :=
  let c0_i32_283 : BitVec 32 := 0#32
  let c0_i32_281 : BitVec 32 := 0#32
  let c0_i32_263 : BitVec 32 := 0#32
  let c1_i32_265 : BitVec 32 := 1#32
  let arg19 : BitVec 32 := Scf.iv c0_i32_263 c1_i32_265 k0_t62
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off144 (k0_t62 : Fin k0_t62_loop.trips) : Fin 2 → Nat :=
  let c0_i32_284 : BitVec 32 := 0#32
  let c0_i32_281 : BitVec 32 := 0#32
  let c0_i32_263 : BitVec 32 := 0#32
  let c1_i32_265 : BitVec 32 := 1#32
  let arg19 : BitVec 32 := Scf.iv c0_i32_263 c1_i32_265 k0_t62
  let c1_i32_280 : BitVec 32 := 1#32
  let v164 : BitVec 32 := Scalar.muli arg19 c1_i32_280
  let v165 : BitVec 32 := Scalar.addi c0_i32_281 v164
  let c128_i32_282 : BitVec 32 := 128#32
  let v166 : BitVec 32 := Scalar.muli v165 c128_i32_282
  let v167 : BitVec 32 := v166
  ![0, v167.toNat]
def k0_off145 (k0_t62 : Fin k0_t62_loop.trips) : Fin 1 → Nat :=
  let c0_i32_281 : BitVec 32 := 0#32
  let c0_i32_263 : BitVec 32 := 0#32
  let c1_i32_265 : BitVec 32 := 1#32
  let arg19 : BitVec 32 := Scf.iv c0_i32_263 c1_i32_265 k0_t62
  let c1_i32_280 : BitVec 32 := 1#32
  let v164 : BitVec 32 := Scalar.muli arg19 c1_i32_280
  let v165 : BitVec 32 := Scalar.addi c0_i32_281 v164
  ![v165.toNat]
@[reducible] def k0_t63_loop : Scf.Loop 32 :=
  let c0_i32_270 : BitVec 32 := 0#32
  let c16_i32_271 : BitVec 32 := 16#32
  let v155 : BitVec 32 := Scalar.addi c0_i32_270 c16_i32_271
  let c1_i32_272 : BitVec 32 := 1#32
  ⟨c0_i32_270, v155, c1_i32_272⟩

def k0_chk16 (v165 : IVec S16 32) : Prop :=
  (∀ a x, ((![v165] : Fin 1 → IVec S16 32) a x).toNat < S256.size a) ∧
  (∀ a x, ((![v165] : Fin 1 → IVec S16 32) a x).toNat < S256.size a)
theorem k0_idx31_inb : ∀ (v165 : IVec S16 32) (k0_hw16 : k0_chk16 v165), ∀ a x, ((![v165] : Fin 1 → IVec S16 32) a x).toNat < S256.size a := fun v165 k0_hw16 => k0_hw16.1
theorem k0_idx32_inb : ∀ (v165 : IVec S16 32) (k0_hw16 : k0_chk16 v165), ∀ a x, ((![v165] : Fin 1 → IVec S16 32) a x).toNat < S256.size a := fun v165 k0_hw16 => k0_hw16.2
@[reducible] def k0_t64_loop : Scf.Loop 32 :=
  let c0_i32_282 : BitVec 32 := 0#32
  let c64_i32_283 : BitVec 32 := 64#32
  let v168 : BitVec 32 := Scalar.addi c0_i32_282 c64_i32_283
  let c1_i32_284 : BitVec 32 := 1#32
  ⟨c0_i32_282, v168, c1_i32_284⟩
def k0_off146 (k0_t63 : Fin k0_t63_loop.trips) (k0_t64 : Fin k0_t64_loop.trips) : Fin 2 → Nat :=
  let c2_i32_287 : BitVec 32 := 2#32
  let c0_i32_270 : BitVec 32 := 0#32
  let c1_i32_272 : BitVec 32 := 1#32
  let arg19 : BitVec 32 := Scf.iv c0_i32_270 c1_i32_272 k0_t63
  let v171 : BitVec 32 := Scalar.muli c2_i32_287 arg19
  let v172 : Index := Scalar.indexCast v171
  let c0_i32_282 : BitVec 32 := 0#32
  let c1_i32_284 : BitVec 32 := 1#32
  let arg21 : BitVec 32 := Scf.iv c0_i32_282 c1_i32_284 k0_t64
  let c16_i32_286 : BitVec 32 := 16#32
  let v170 : BitVec 32 := Scalar.muli arg21 c16_i32_286
  let v173 : Index := Scalar.indexCast v170
  ![v172.toNat, v173.toNat]
def k0_off147 (k0_t63 : Fin k0_t63_loop.trips) (k0_t64 : Fin k0_t64_loop.trips) : Fin 2 → Nat :=
  let c2_i32_288 : BitVec 32 := 2#32
  let c0_i32_270 : BitVec 32 := 0#32
  let c1_i32_272 : BitVec 32 := 1#32
  let arg19 : BitVec 32 := Scf.iv c0_i32_270 c1_i32_272 k0_t63
  let v177 : BitVec 32 := Scalar.muli c2_i32_288 arg19
  let c1_i32_289 : BitVec 32 := 1#32
  let v178 : BitVec 32 := Scalar.addi v177 c1_i32_289
  let v179 : Index := Scalar.indexCast v178
  let c0_i32_282 : BitVec 32 := 0#32
  let c1_i32_284 : BitVec 32 := 1#32
  let arg21 : BitVec 32 := Scf.iv c0_i32_282 c1_i32_284 k0_t64
  let c16_i32_286 : BitVec 32 := 16#32
  let v170 : BitVec 32 := Scalar.muli arg21 c16_i32_286
  let v180 : Index := Scalar.indexCast v170
  ![v179.toNat, v180.toNat]
def k0_off148 (k0_t63 : Fin k0_t63_loop.trips) (k0_t64 : Fin k0_t64_loop.trips) : Fin 2 → Nat :=
  let c0_i32_270 : BitVec 32 := 0#32
  let c1_i32_272 : BitVec 32 := 1#32
  let arg19 : BitVec 32 := Scf.iv c0_i32_270 c1_i32_272 k0_t63
  let v185 : Index := Scalar.indexCast arg19
  let c0_i32_282 : BitVec 32 := 0#32
  let c1_i32_284 : BitVec 32 := 1#32
  let arg21 : BitVec 32 := Scf.iv c0_i32_282 c1_i32_284 k0_t64
  let c16_i32_286 : BitVec 32 := 16#32
  let v170 : BitVec 32 := Scalar.muli arg21 c16_i32_286
  let v186 : Index := Scalar.indexCast v170
  ![v185.toNat, v186.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S18432x1024 : Shape := ⟨2, ![18432, 1024]⟩
abbrev S16384 : Shape := ⟨1, ![16384]⟩
abbrev S8192 : Shape := ⟨1, ![8192]⟩
abbrev S8192x2 : Shape := ⟨2, ![8192, 2]⟩
abbrev S_ : Shape := ⟨0, ![]⟩
abbrev S8192x2x1 : Shape := ⟨3, ![8192, 2, 1]⟩
abbrev S8192x2x1024 : Shape := ⟨3, ![8192, 2, 1024]⟩
abbrev S8192x1 : Shape := ⟨2, ![8192, 1]⟩
abbrev S8192x1024 : Shape := ⟨2, ![8192, 1024]⟩

abbrev nBuf : Space → Nat
  | .hbm => 22
  | .vmem => 0
  | .smem => 0
  | _ => 0

abbrev bufTy : (tb : Table) → Fin (tcTables nBuf tb) → BufTy
  | .hbm, ⟨0, _⟩ => ⟨S18432x1024, .f32⟩
  | .hbm, ⟨1, _⟩ => ⟨S16384, .i32⟩
  | .hbm, ⟨2, _⟩ => ⟨S8192, .f32⟩
  | .hbm, ⟨3, _⟩ => ⟨S8192, .f32⟩
  | .hbm, ⟨4, _⟩ => ⟨S8192x2, .i32⟩
  | .hbm, ⟨5, _⟩ => ⟨S_, .i32⟩
  | .hbm, ⟨6, _⟩ => ⟨S8192x2, .i32⟩
  | .hbm, ⟨7, _⟩ => ⟨S8192x2, .i1⟩
  | .hbm, ⟨8, _⟩ => ⟨S_, .i32⟩
  | .hbm, ⟨9, _⟩ => ⟨S8192x2, .i32⟩
  | .hbm, ⟨10, _⟩ => ⟨S8192x2, .i32⟩
  | .hbm, ⟨11, _⟩ => ⟨S8192x2, .i32⟩
  | .hbm, ⟨12, _⟩ => ⟨S8192x2x1, .i32⟩
  | .hbm, ⟨13, _⟩ => ⟨S8192x2x1024, .f32⟩
  | .hbm, ⟨14, _⟩ => ⟨S8192x1, .f32⟩
  | .hbm, ⟨15, _⟩ => ⟨S8192x1, .f32⟩
  | .hbm, ⟨16, _⟩ => ⟨S8192x2, .f32⟩
  | .hbm, ⟨17, _⟩ => ⟨S8192x2x1, .f32⟩
  | .hbm, ⟨18, _⟩ => ⟨S8192x2x1024, .f32⟩
  | .hbm, ⟨19, _⟩ => ⟨S8192x2x1024, .f32⟩
  | .hbm, ⟨20, _⟩ => ⟨S_, .f32⟩
  | .hbm, ⟨21, _⟩ => ⟨S8192x1024, .f32⟩
  | _, _ => ⟨S18432x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Experts.lean ====
abbrev S18432x1024 : Shape := ⟨2, ![18432, 1024]⟩
abbrev S8x4096x1024 : Shape := ⟨3, ![8, 4096, 1024]⟩
abbrev S8x4096 : Shape := ⟨2, ![8, 4096]⟩
abbrev S8x1024x4096 : Shape := ⟨3, ![8, 1024, 4096]⟩
abbrev S8x1024 : Shape := ⟨2, ![8, 1024]⟩
abbrev S72 : Shape := ⟨1, ![72]⟩
abbrev S8x1x4096 : Shape := ⟨3, ![8, 1, 4096]⟩
abbrev S8x1x1024 : Shape := ⟨3, ![8, 1, 1024]⟩
abbrev S256x1024 : Shape := ⟨2, ![256, 1024]⟩
abbrev S1x1024x4096 : Shape := ⟨3, ![1, 1024, 4096]⟩
abbrev S1 : Shape := ⟨1, ![1]⟩
abbrev S1x1x4096 : Shape := ⟨3, ![1, 1, 4096]⟩
abbrev S1x4096x1024 : Shape := ⟨3, ![1, 4096, 1024]⟩
abbrev S1x1x1024 : Shape := ⟨3, ![1, 1, 1024]⟩
abbrev S1024x4096 : Shape := ⟨2, ![1024, 4096]⟩
abbrev S256x4096 : Shape := ⟨2, ![256, 4096]⟩
abbrev S1x4096 : Shape := ⟨2, ![1, 4096]⟩
abbrev S4096x1024 : Shape := ⟨2, ![4096, 1024]⟩
abbrev S1x1024 : Shape := ⟨2, ![1, 1024]⟩

abbrev nBuf : Space → Nat
  | .hbm => 12
  | .vmem => 12
  | .smem => 1
  | _ => 0

abbrev bufTy : (tb : Table) → Fin (tcTables nBuf tb) → BufTy
  | .hbm, ⟨0, _⟩ => ⟨S18432x1024, .f32⟩
  | .hbm, ⟨1, _⟩ => ⟨S8x4096x1024, .f32⟩
  | .hbm, ⟨2, _⟩ => ⟨S8x4096, .f32⟩
  | .hbm, ⟨3, _⟩ => ⟨S8x1024x4096, .f32⟩
  | .hbm, ⟨4, _⟩ => ⟨S8x1024, .f32⟩
  | .hbm, ⟨5, _⟩ => ⟨S8x1024x4096, .f32⟩
  | .hbm, ⟨6, _⟩ => ⟨S8x1024x4096, .bf16⟩
  | .hbm, ⟨7, _⟩ => ⟨S8x4096x1024, .f32⟩
  | .hbm, ⟨8, _⟩ => ⟨S8x4096x1024, .bf16⟩
  | .hbm, ⟨9, _⟩ => ⟨S8x1x4096, .f32⟩
  | .hbm, ⟨10, _⟩ => ⟨S8x1x1024, .f32⟩
  | .hbm, ⟨11, _⟩ => ⟨S18432x1024, .f32⟩
  | .local _ .vmem, ⟨0, _⟩ => ⟨S256x1024, .f32⟩
  | .local _ .vmem, ⟨1, _⟩ => ⟨S256x1024, .f32⟩
  | .local _ .vmem, ⟨2, _⟩ => ⟨S1x1024x4096, .bf16⟩
  | .local _ .vmem, ⟨3, _⟩ => ⟨S1x1024x4096, .bf16⟩
  | .local _ .vmem, ⟨4, _⟩ => ⟨S1x1x4096, .f32⟩
  | .local _ .vmem, ⟨5, _⟩ => ⟨S1x1x4096, .f32⟩
  | .local _ .vmem, ⟨6, _⟩ => ⟨S1x4096x1024, .bf16⟩
  | .local _ .vmem, ⟨7, _⟩ => ⟨S1x4096x1024, .bf16⟩
  | .local _ .vmem, ⟨8, _⟩ => ⟨S1x1x1024, .f32⟩
  | .local _ .vmem, ⟨9, _⟩ => ⟨S1x1x1024, .f32⟩
  | .local _ .vmem, ⟨10, _⟩ => ⟨S256x1024, .f32⟩
  | .local _ .vmem, ⟨11, _⟩ => ⟨S256x1024, .f32⟩
  | .local _ .smem, ⟨0, _⟩ => ⟨S72, .i32⟩
  | _, _ => ⟨S18432x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![72], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ExpertsReferenceIdeal.lean ====
abbrev S18432x1024 : Shape := ⟨2, ![18432, 1024]⟩
abbrev S8x4096x1024 : Shape := ⟨3, ![8, 4096, 1024]⟩
abbrev S8x4096 : Shape := ⟨2, ![8, 4096]⟩
abbrev S8x1024x4096 : Shape := ⟨3, ![8, 1024, 4096]⟩
abbrev S8x1024 : Shape := ⟨2, ![8, 1024]⟩
abbrev S72 : Shape := ⟨1, ![72]⟩
abbrev S72x256 : Shape := ⟨2, ![72, 256]⟩
abbrev S18432 : Shape := ⟨1, ![18432]⟩
abbrev S_ : Shape := ⟨0, ![]⟩
abbrev S1x4096x1024 : Shape := ⟨3, ![1, 4096, 1024]⟩
abbrev S4096x1024 : Shape := ⟨2, ![4096, 1024]⟩
abbrev S1024x4096 : Shape := ⟨2, ![1024, 4096]⟩
abbrev S18432x4096 : Shape := ⟨2, ![18432, 4096]⟩
abbrev S1x4096 : Shape := ⟨2, ![1, 4096]⟩
abbrev S4096 : Shape := ⟨1, ![4096]⟩
abbrev S1x1024x4096 : Shape := ⟨3, ![1, 1024, 4096]⟩
abbrev S1x1024 : Shape := ⟨2, ![1, 1024]⟩
abbrev S1024 : Shape := ⟨1, ![1024]⟩
abbrev S18432x1 : Shape := ⟨2, ![18432, 1]⟩

abbrev nBuf : Space → Nat
  | .hbm => 274
  | .vmem => 0
  | .smem => 0
  | _ => 0

abbrev hbmTy0_0 (i : Nat) : BufTy := match i % 128 with
  | 0 => ⟨S18432x1024, .f32⟩
  | 1 => ⟨S8x4096x1024, .f32⟩
  | 2 => ⟨S8x4096, .f32⟩
  | 3 => ⟨S8x1024x4096, .f32⟩
  | 4 => ⟨S8x1024, .f32⟩
  | 5 => ⟨S72, .i32⟩
  | 6 => ⟨S72x256, .i32⟩
  | 7 => ⟨S18432, .i32⟩
  | 8 => ⟨S_, .f32⟩
  | 9 => ⟨S18432x1024, .f32⟩
  | 10 => ⟨S1x4096x1024, .f32⟩
  | 11 => ⟨S4096x1024, .f32⟩
  | 12 => ⟨S1024x4096, .f32⟩
  | 13 => ⟨S18432x4096, .f32⟩
  | 14 => ⟨S1x4096, .f32⟩
  | 15 => ⟨S4096, .f32⟩
  | 16 => ⟨S1x4096, .f32⟩
  | 17 => ⟨S18432x4096, .f32⟩
  | 18 => ⟨S18432x4096, .f32⟩
  | 19 => ⟨S_, .f32⟩
  | 20 => ⟨S18432x4096, .f32⟩
  | 21 => ⟨S18432x4096, .f32⟩
  | 22 => ⟨S18432x4096, .f32⟩
  | 23 => ⟨S_, .f32⟩
  | 24 => ⟨S18432x4096, .f32⟩
  | 25 => ⟨S18432x4096, .f32⟩
  | 26 => ⟨S18432x4096, .f32⟩
  | 27 => ⟨S18432x4096, .f32⟩
  | 28 => ⟨S1x1024x4096, .f32⟩
  | 29 => ⟨S1024x4096, .f32⟩
  | 30 => ⟨S4096x1024, .f32⟩
  | 31 => ⟨S18432x1024, .f32⟩
  | 32 => ⟨S1x1024, .f32⟩
  | 33 => ⟨S1024, .f32⟩
  | 34 => ⟨S1x1024, .f32⟩
  | 35 => ⟨S18432x1024, .f32⟩
  | 36 => ⟨S18432x1024, .f32⟩
  | 37 => ⟨S_, .i32⟩
  | 38 => ⟨S18432, .i32⟩
  | 39 => ⟨S18432, .i1⟩
  | 40 => ⟨S18432x1, .i1⟩
  | 41 => ⟨S18432x1024, .i1⟩
  | 42 => ⟨S18432x1024, .f32⟩
  | 43 => ⟨S1x4096x1024, .f32⟩
  | 44 => ⟨S4096x1024, .f32⟩
  | 45 => ⟨S1024x4096, .f32⟩
  | 46 => ⟨S18432x4096, .f32⟩
  | 47 => ⟨S1x4096, .f32⟩
  | 48 => ⟨S4096, .f32⟩
  | 49 => ⟨S1x4096, .f32⟩
  | 50 => ⟨S18432x4096, .f32⟩
  | 51 => ⟨S18432x4096, .f32⟩
  | 52 => ⟨S_, .f32⟩
  | 53 => ⟨S18432x4096, .f32⟩
  | 54 => ⟨S18432x4096, .f32⟩
  | 55 => ⟨S18432x4096, .f32⟩
  | 56 => ⟨S_, .f32⟩
  | 57 => ⟨S18432x4096, .f32⟩
  | 58 => ⟨S18432x4096, .f32⟩
  | 59 => ⟨S18432x4096, .f32⟩
  | 60 => ⟨S18432x4096, .f32⟩
  | 61 => ⟨S1x1024x4096, .f32⟩
  | 62 => ⟨S1024x4096, .f32⟩
  | 63 => ⟨S4096x1024, .f32⟩
  | 64 => ⟨S18432x1024, .f32⟩
  | 65 => ⟨S1x1024, .f32⟩
  | 66 => ⟨S1024, .f32⟩
  | 67 => ⟨S1x1024, .f32⟩
  | 68 => ⟨S18432x1024, .f32⟩
  | 69 => ⟨S18432x1024, .f32⟩
  | 70 => ⟨S_, .i32⟩
  | 71 => ⟨S18432, .i32⟩
  | 72 => ⟨S18432, .i1⟩
  | 73 => ⟨S18432x1, .i1⟩
  | 74 => ⟨S18432x1024, .i1⟩
  | 75 => ⟨S18432x1024, .f32⟩
  | 76 => ⟨S1x4096x1024, .f32⟩
  | 77 => ⟨S4096x1024, .f32⟩
  | 78 => ⟨S1024x4096, .f32⟩
  | 79 => ⟨S18432x4096, .f32⟩
  | 80 => ⟨S1x4096, .f32⟩
  | 81 => ⟨S4096, .f32⟩
  | 82 => ⟨S1x4096, .f32⟩
  | 83 => ⟨S18432x4096, .f32⟩
  | 84 => ⟨S18432x4096, .f32⟩
  | 85 => ⟨S_, .f32⟩
  | 86 => ⟨S18432x4096, .f32⟩
  | 87 => ⟨S18432x4096, .f32⟩
  | 88 => ⟨S18432x4096, .f32⟩
  | 89 => ⟨S_, .f32⟩
  | 90 => ⟨S18432x4096, .f32⟩
  | 91 => ⟨S18432x4096, .f32⟩
  | 92 => ⟨S18432x4096, .f32⟩
  | 93 => ⟨S18432x4096, .f32⟩
  | 94 => ⟨S1x1024x4096, .f32⟩
  | 95 => ⟨S1024x4096, .f32⟩
  | 96 => ⟨S4096x1024, .f32⟩
  | 97 => ⟨S18432x1024, .f32⟩
  | 98 => ⟨S1x1024, .f32⟩
  | 99 => ⟨S1024, .f32⟩
  | 100 => ⟨S1x1024, .f32⟩
  | 101 => ⟨S18432x1024, .f32⟩
  | 102 => ⟨S18432x1024, .f32⟩
  | 103 => ⟨S_, .i32⟩
  | 104 => ⟨S18432, .i32⟩
  | 105 => ⟨S18432, .i1⟩
  | 106 => ⟨S18432x1, .i1⟩
  | 107 => ⟨S18432x1024, .i1⟩
  | 108 => ⟨S18432x1024, .f32⟩
  | 109 => ⟨S1x4096x1024, .f32⟩
  | 110 => ⟨S4096x1024, .f32⟩
  | 111 => ⟨S1024x4096, .f32⟩
  | 112 => ⟨S18432x4096, .f32⟩
  | 113 => ⟨S1x4096, .f32⟩
  | 114 => ⟨S4096, .f32⟩
  | 115 => ⟨S1x4096, .f32⟩
  | 116 => ⟨S18432x4096, .f32⟩
  | 117 => ⟨S18432x4096, .f32⟩
  | 118 => ⟨S_, .f32⟩
  | 119 => ⟨S18432x4096, .f32⟩
  | 120 => ⟨S18432x4096, .f32⟩
  | 121 => ⟨S18432x4096, .f32⟩
  | 122 => ⟨S_, .f32⟩
  | 123 => ⟨S18432x4096, .f32⟩
  | 124 => ⟨S18432x4096, .f32⟩
  | 125 => ⟨S18432x4096, .f32⟩
  | 126 => ⟨S18432x4096, .f32⟩
  | 127 => ⟨S1x1024x4096, .f32⟩
  | _ => ⟨S18432x1024, .f32⟩

abbrev hbmTy0_1 (i : Nat) : BufTy := match i % 128 with
  | 0 => ⟨S1024x4096, .f32⟩
  | 1 => ⟨S4096x1024, .f32⟩
  | 2 => ⟨S18432x1024, .f32⟩
  | 3 => ⟨S1x1024, .f32⟩
  | 4 => ⟨S1024, .f32⟩
  | 5 => ⟨S1x1024, .f32⟩
  | 6 => ⟨S18432x1024, .f32⟩
  | 7 => ⟨S18432x1024, .f32⟩
  | 8 => ⟨S_, .i32⟩
  | 9 => ⟨S18432, .i32⟩
  | 10 => ⟨S18432, .i1⟩
  | 11 => ⟨S18432x1, .i1⟩
  | 12 => ⟨S18432x1024, .i1⟩
  | 13 => ⟨S18432x1024, .f32⟩
  | 14 => ⟨S1x4096x1024, .f32⟩
  | 15 => ⟨S4096x1024, .f32⟩
  | 16 => ⟨S1024x4096, .f32⟩
  | 17 => ⟨S18432x4096, .f32⟩
  | 18 => ⟨S1x4096, .f32⟩
  | 19 => ⟨S4096, .f32⟩
  | 20 => ⟨S1x4096, .f32⟩
  | 21 => ⟨S18432x4096, .f32⟩
  | 22 => ⟨S18432x4096, .f32⟩
  | 23 => ⟨S_, .f32⟩
  | 24 => ⟨S18432x4096, .f32⟩
  | 25 => ⟨S18432x4096, .f32⟩
  | 26 => ⟨S18432x4096, .f32⟩
  | 27 => ⟨S_, .f32⟩
  | 28 => ⟨S18432x4096, .f32⟩
  | 29 => ⟨S18432x4096, .f32⟩
  | 30 => ⟨S18432x4096, .f32⟩
  | 31 => ⟨S18432x4096, .f32⟩
  | 32 => ⟨S1x1024x4096, .f32⟩
  | 33 => ⟨S1024x4096, .f32⟩
  | 34 => ⟨S4096x1024, .f32⟩
  | 35 => ⟨S18432x1024, .f32⟩
  | 36 => ⟨S1x1024, .f32⟩
  | 37 => ⟨S1024, .f32⟩
  | 38 => ⟨S1x1024, .f32⟩
  | 39 => ⟨S18432x1024, .f32⟩
  | 40 => ⟨S18432x1024, .f32⟩
  | 41 => ⟨S_, .i32⟩
  | 42 => ⟨S18432, .i32⟩
  | 43 => ⟨S18432, .i1⟩
  | 44 => ⟨S18432x1, .i1⟩
  | 45 => ⟨S18432x1024, .i1⟩
  | 46 => ⟨S18432x1024, .f32⟩
  | 47 => ⟨S1x4096x1024, .f32⟩
  | 48 => ⟨S4096x1024, .f32⟩
  | 49 => ⟨S1024x4096, .f32⟩
  | 50 => ⟨S18432x4096, .f32⟩
  | 51 => ⟨S1x4096, .f32⟩
  | 52 => ⟨S4096, .f32⟩
  | 53 => ⟨S1x4096, .f32⟩
  | 54 => ⟨S18432x4096, .f32⟩
  | 55 => ⟨S18432x4096, .f32⟩
  | 56 => ⟨S_, .f32⟩
  | 57 => ⟨S18432x4096, .f32⟩
  | 58 => ⟨S18432x4096, .f32⟩
  | 59 => ⟨S18432x4096, .f32⟩
  | 60 => ⟨S_, .f32⟩
  | 61 => ⟨S18432x4096, .f32⟩
  | 62 => ⟨S18432x4096, .f32⟩
  | 63 => ⟨S18432x4096, .f32⟩
  | 64 => ⟨S18432x4096, .f32⟩
  | 65 => ⟨S1x1024x4096, .f32⟩
  | 66 => ⟨S1024x4096, .f32⟩
  | 67 => ⟨S4096x1024, .f32⟩
  | 68 => ⟨S18432x1024, .f32⟩
  | 69 => ⟨S1x1024, .f32⟩
  | 70 => ⟨S1024, .f32⟩
  | 71 => ⟨S1x1024, .f32⟩
  | 72 => ⟨S18432x1024, .f32⟩
  | 73 => ⟨S18432x1024, .f32⟩
  | 74 => ⟨S_, .i32⟩
  | 75 => ⟨S18432, .i32⟩
  | 76 => ⟨S18432, .i1⟩
  | 77 => ⟨S18432x1, .i1⟩
  | 78 => ⟨S18432x1024, .i1⟩
  | 79 => ⟨S18432x1024, .f32⟩
  | 80 => ⟨S1x4096x1024, .f32⟩
  | 81 => ⟨S4096x1024, .f32⟩
  | 82 => ⟨S1024x4096, .f32⟩
  | 83 => ⟨S18432x4096, .f32⟩
  | 84 => ⟨S1x4096, .f32⟩
  | 85 => ⟨S4096, .f32⟩
  | 86 => ⟨S1x4096, .f32⟩
  | 87 => ⟨S18432x4096, .f32⟩
  | 88 => ⟨S18432x4096, .f32⟩
  | 89 => ⟨S_, .f32⟩
  | 90 => ⟨S18432x4096, .f32⟩
  | 91 => ⟨S18432x4096, .f32⟩
  | 92 => ⟨S18432x4096, .f32⟩
  | 93 => ⟨S_, .f32⟩
  | 94 => ⟨S18432x4096, .f32⟩
  | 95 => ⟨S18432x4096, .f32⟩
  | 96 => ⟨S18432x4096, .f32⟩
  | 97 => ⟨S18432x4096, .f32⟩
  | 98 => ⟨S1x1024x4096, .f32⟩
  | 99 => ⟨S1024x4096, .f32⟩
  | 100 => ⟨S4096x1024, .f32⟩
  | 101 => ⟨S18432x1024, .f32⟩
  | 102 => ⟨S1x1024, .f32⟩
  | 103 => ⟨S1024, .f32⟩
  | 104 => ⟨S1x1024, .f32⟩
  | 105 => ⟨S18432x1024, .f32⟩
  | 106 => ⟨S18432x1024, .f32⟩
  | 107 => ⟨S_, .i32⟩
  | 108 => ⟨S18432, .i32⟩
  | 109 => ⟨S18432, .i1⟩
  | 110 => ⟨S18432x1, .i1⟩
  | 111 => ⟨S18432x1024, .i1⟩
  | 112 => ⟨S18432x1024, .f32⟩
  | 113 => ⟨S1x4096x1024, .f32⟩
  | 114 => ⟨S4096x1024, .f32⟩
  | 115 => ⟨S1024x4096, .f32⟩
  | 116 => ⟨S18432x4096, .f32⟩
  | 117 => ⟨S1x4096, .f32⟩
  | 118 => ⟨S4096, .f32⟩
  | 119 => ⟨S1x4096, .f32⟩
  | 120 => ⟨S18432x4096, .f32⟩
  | 121 => ⟨S18432x4096, .f32⟩
  | 122 => ⟨S_, .f32⟩
  | 123 => ⟨S18432x4096, .f32⟩
  | 124 => ⟨S18432x4096, .f32⟩
  | 125 => ⟨S18432x4096, .f32⟩
  | 126 => ⟨S_, .f32⟩
  | 127 => ⟨S18432x4096, .f32⟩
  | _ => ⟨S18432x1024, .f32⟩

abbrev hbmTy0_2 (i : Nat) : BufTy := match i % 128 with
  | 0 => ⟨S18432x4096, .f32⟩
  | 1 => ⟨S18432x4096, .f32⟩
  | 2 => ⟨S18432x4096, .f32⟩
  | 3 => ⟨S1x1024x4096, .f32⟩
  | 4 => ⟨S1024x4096, .f32⟩
  | 5 => ⟨S4096x1024, .f32⟩
  | 6 => ⟨S18432x1024, .f32⟩
  | 7 => ⟨S1x1024, .f32⟩
  | 8 => ⟨S1024, .f32⟩
  | 9 => ⟨S1x1024, .f32⟩
  | 10 => ⟨S18432x1024, .f32⟩
  | 11 => ⟨S18432x1024, .f32⟩
  | 12 => ⟨S_, .i32⟩
  | 13 => ⟨S18432, .i32⟩
  | 14 => ⟨S18432, .i1⟩
  | 15 => ⟨S18432x1, .i1⟩
  | 16 => ⟨S18432x1024, .i1⟩
  | 17 => ⟨S18432x1024, .f32⟩
  | _ => ⟨S18432x1024, .f32⟩

abbrev hbmTy (i : Nat) : BufTy := match i / 128 with
  | 0 => hbmTy0_0 i
  | 1 => hbmTy0_1 i
  | 2 => hbmTy0_2 i
  | _ => ⟨S18432x1024, .f32⟩

abbrev bufTy : (tb : Table) → Fin (tcTables nBuf tb) → BufTy
  | .hbm, ⟨i, _⟩ => hbmTy i
  | _, _ => ⟨S18432x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_call0_v0 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_2 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_3 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_c_4 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_call1_v0 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_cst_5 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_6 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_c_7 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_call2_v0 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_cst_8 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_cst_9 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_c_10 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_call3_v0 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_cst_11 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_cst_12 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_c_13 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_call4_v0 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_cst_14 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_cst_15 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_c_16 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_call5_v0 : Ref sig .tc := ⟨.hbm, 206, rfl⟩
abbrev main_v176 : Ref sig .tc := ⟨.hbm, 207, rfl⟩
abbrev main_v177 : Ref sig .tc := ⟨.hbm, 208, rfl⟩
abbrev main_v178 : Ref sig .tc := ⟨.hbm, 209, rfl⟩
abbrev main_v179 : Ref sig .tc := ⟨.hbm, 210, rfl⟩
abbrev main_v180 : Ref sig .tc := ⟨.hbm, 211, rfl⟩
abbrev main_v181 : Ref sig .tc := ⟨.hbm, 212, rfl⟩
abbrev main_v182 : Ref sig .tc := ⟨.hbm, 213, rfl⟩
abbrev main_v183 : Ref sig .tc := ⟨.hbm, 214, rfl⟩
abbrev main_v184 : Ref sig .tc := ⟨.hbm, 215, rfl⟩
abbrev main_v185 : Ref sig .tc := ⟨.hbm, 216, rfl⟩
abbrev main_cst_17 : Ref sig .tc := ⟨.hbm, 217, rfl⟩
abbrev main_v186 : Ref sig .tc := ⟨.hbm, 218, rfl⟩
abbrev main_v187 : Ref sig .tc := ⟨.hbm, 219, rfl⟩
abbrev main_v188 : Ref sig .tc := ⟨.hbm, 220, rfl⟩
abbrev main_cst_18 : Ref sig .tc := ⟨.hbm, 221, rfl⟩
abbrev main_v189 : Ref sig .tc := ⟨.hbm, 222, rfl⟩
abbrev main_v190 : Ref sig .tc := ⟨.hbm, 223, rfl⟩
abbrev main_v191 : Ref sig .tc := ⟨.hbm, 224, rfl⟩
abbrev main_v192 : Ref sig .tc := ⟨.hbm, 225, rfl⟩
abbrev main_v193 : Ref sig .tc := ⟨.hbm, 226, rfl⟩
abbrev main_v194 : Ref sig .tc := ⟨.hbm, 227, rfl⟩
abbrev main_v195 : Ref sig .tc := ⟨.hbm, 228, rfl⟩
abbrev main_v196 : Ref sig .tc := ⟨.hbm, 229, rfl⟩
abbrev main_v197 : Ref sig .tc := ⟨.hbm, 230, rfl⟩
abbrev main_v198 : Ref sig .tc := ⟨.hbm, 231, rfl⟩
abbrev main_v199 : Ref sig .tc := ⟨.hbm, 232, rfl⟩
abbrev main_v200 : Ref sig .tc := ⟨.hbm, 233, rfl⟩
abbrev main_v201 : Ref sig .tc := ⟨.hbm, 234, rfl⟩
abbrev main_c_19 : Ref sig .tc := ⟨.hbm, 235, rfl⟩
abbrev main_v202 : Ref sig .tc := ⟨.hbm, 236, rfl⟩
abbrev main_v203 : Ref sig .tc := ⟨.hbm, 237, rfl⟩
abbrev main_v204 : Ref sig .tc := ⟨.hbm, 238, rfl⟩
abbrev main_call6_v0 : Ref sig .tc := ⟨.hbm, 239, rfl⟩
abbrev main_v205 : Ref sig .tc := ⟨.hbm, 240, rfl⟩
abbrev main_v206 : Ref sig .tc := ⟨.hbm, 241, rfl⟩
abbrev main_v207 : Ref sig .tc := ⟨.hbm, 242, rfl⟩
abbrev main_v208 : Ref sig .tc := ⟨.hbm, 243, rfl⟩
abbrev main_v209 : Ref sig .tc := ⟨.hbm, 244, rfl⟩
abbrev main_v210 : Ref sig .tc := ⟨.hbm, 245, rfl⟩
abbrev main_v211 : Ref sig .tc := ⟨.hbm, 246, rfl⟩
abbrev main_v212 : Ref sig .tc := ⟨.hbm, 247, rfl⟩
abbrev main_v213 : Ref sig .tc := ⟨.hbm, 248, rfl⟩
abbrev main_v214 : Ref sig .tc := ⟨.hbm, 249, rfl⟩
abbrev main_cst_20 : Ref sig .tc := ⟨.hbm, 250, rfl⟩
abbrev main_v215 : Ref sig .tc := ⟨.hbm, 251, rfl⟩
abbrev main_v216 : Ref sig .tc := ⟨.hbm, 252, rfl⟩
abbrev main_v217 : Ref sig .tc := ⟨.hbm, 253, rfl⟩
abbrev main_cst_21 : Ref sig .tc := ⟨.hbm, 254, rfl⟩
abbrev main_v218 : Ref sig .tc := ⟨.hbm, 255, rfl⟩
abbrev main_v219 : Ref sig .tc := ⟨.hbm, 256, rfl⟩
abbrev main_v220 : Ref sig .tc := ⟨.hbm, 257, rfl⟩
abbrev main_v221 : Ref sig .tc := ⟨.hbm, 258, rfl⟩
abbrev main_v222 : Ref sig .tc := ⟨.hbm, 259, rfl⟩
abbrev main_v223 : Ref sig .tc := ⟨.hbm, 260, rfl⟩
abbrev main_v224 : Ref sig .tc := ⟨.hbm, 261, rfl⟩
abbrev main_v225 : Ref sig .tc := ⟨.hbm, 262, rfl⟩
abbrev main_v226 : Ref sig .tc := ⟨.hbm, 263, rfl⟩
abbrev main_v227 : Ref sig .tc := ⟨.hbm, 264, rfl⟩
abbrev main_v228 : Ref sig .tc := ⟨.hbm, 265, rfl⟩
abbrev main_v229 : Ref sig .tc := ⟨.hbm, 266, rfl⟩
abbrev main_v230 : Ref sig .tc := ⟨.hbm, 267, rfl⟩
abbrev main_c_22 : Ref sig .tc := ⟨.hbm, 268, rfl⟩
abbrev main_v231 : Ref sig .tc := ⟨.hbm, 269, rfl⟩
abbrev main_v232 : Ref sig .tc := ⟨.hbm, 270, rfl⟩
abbrev main_v233 : Ref sig .tc := ⟨.hbm, 271, rfl⟩
abbrev main_call7_v0 : Ref sig .tc := ⟨.hbm, 272, rfl⟩
abbrev main_v234 : Ref sig .tc := ⟨.hbm, 273, rfl⟩

abbrev nD : Nat := 1
abbrev τ : Topo := Topo.v7x

variable {F : FTy → Type} [FloatOps F]
-- ==== Gate.lean ====
abbrev S8192x1024 : Shape := ⟨2, ![8192, 1024]⟩
abbrev S8x1024 : Shape := ⟨2, ![8, 1024]⟩
abbrev S8192x2 : Shape := ⟨2, ![8192, 2]⟩
abbrev S1x8 : Shape := ⟨2, ![1, 8]⟩
abbrev S1024x1024 : Shape := ⟨2, ![1024, 1024]⟩
abbrev S1024x2 : Shape := ⟨2, ![1024, 2]⟩
abbrev S1024x8 : Shape := ⟨2, ![1024, 8]⟩
abbrev S1024 : Shape := ⟨1, ![1024]⟩
abbrev S1024x1 : Shape := ⟨2, ![1024, 1]⟩
abbrev S8 : Shape := ⟨1, ![8]⟩

abbrev nBuf : Space → Nat
  | .hbm => 6
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8x1024, .f32⟩
  | .hbm, ⟨2, _⟩ => ⟨S8192x2, .i32⟩
  | .hbm, ⟨3, _⟩ => ⟨S8192x2, .f32⟩
  | .hbm, ⟨4, _⟩ => ⟨S8192x2, .i32⟩
  | .hbm, ⟨5, _⟩ => ⟨S1x8, .i32⟩
  | .local _ .vmem, ⟨0, _⟩ => ⟨S1024x1024, .f32⟩
  | .local _ .vmem, ⟨1, _⟩ => ⟨S1024x1024, .f32⟩
  | .local _ .vmem, ⟨2, _⟩ => ⟨S8x1024, .f32⟩
  | .local _ .vmem, ⟨3, _⟩ => ⟨S1024x2, .i32⟩
  | .local _ .vmem, ⟨4, _⟩ => ⟨S1024x2, .i32⟩
  | .local _ .vmem, ⟨5, _⟩ => ⟨S1024x2, .f32⟩
  | .local _ .vmem, ⟨6, _⟩ => ⟨S1024x2, .f32⟩
  | .local _ .vmem, ⟨7, _⟩ => ⟨S1024x2, .i32⟩
  | .local _ .vmem, ⟨8, _⟩ => ⟨S1024x2, .i32⟩
  | .local _ .vmem, ⟨9, _⟩ => ⟨S1x8, .i32⟩
  | .local _ .vmem, ⟨10, _⟩ => ⟨S1x8, .i32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v79 : BitVec 1 := Scalar.cmpi .eq arg0 c7_i32
  let v80 : BitVec 32 := Scalar.extui v79
  let c0_i32_31 : BitVec 32 := 0#32
  let v81 : BitVec 1 := Scalar.cmpi .ne v80 c0_i32_31
  v81

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x2 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x8 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== GateReferenceIdeal.lean ====
abbrev S8192x1024 : Shape := ⟨2, ![8192, 1024]⟩
abbrev S8x1024 : Shape := ⟨2, ![8, 1024]⟩
abbrev S1024x8 : Shape := ⟨2, ![1024, 8]⟩
abbrev S8192x8 : Shape := ⟨2, ![8192, 8]⟩
abbrev S8192x2 : Shape := ⟨2, ![8192, 2]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8x1024, .f32⟩
  | .hbm, ⟨2, _⟩ => ⟨S1024x8, .f32⟩
  | .hbm, ⟨3, _⟩ => ⟨S8192x8, .f32⟩
  | .hbm, ⟨4, _⟩ => ⟨S8192x2, .f32⟩
  | .hbm, ⟨5, _⟩ => ⟨S8192x2, .i32⟩
  | .hbm, ⟨6, _⟩ => ⟨S_, .f32⟩
  | .hbm, ⟨7, _⟩ => ⟨S8192, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S8192x1, .f32⟩
  | .hbm, ⟨12, _⟩ => ⟨S8192x2, .f32⟩
  | .hbm, ⟨13, _⟩ => ⟨S8192x2, .f32⟩
  | .hbm, ⟨14, _⟩ => ⟨S8192x2, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S8192x2, .f32⟩
  | .hbm, ⟨19, _⟩ => ⟨S8192x2, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_values : Ref sig .tc := ⟨.hbm, 4, rfl⟩
abbrev main_indices : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]
-- ==== Dispatch.lean ====
abbrev S8192x1024 : Shape := ⟨2, ![8192, 1024]⟩
abbrev S8192x2 : Shape := ⟨2, ![8192, 2]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S_ : Shape := ⟨0, ![]⟩
abbrev S8 : Shape := ⟨1, ![8]⟩
abbrev S1x8 : Shape := ⟨2, ![1, 8]⟩
abbrev S16384x8 : Shape := ⟨2, ![16384, 8]⟩
abbrev S1 : Shape := ⟨1, ![1]⟩
abbrev S7 : Shape := ⟨1, ![7]⟩
abbrev S8192x1 : Shape := ⟨2, ![8192, 1]⟩
abbrev S8192 : Shape := ⟨1, ![8192]⟩
abbrev S32x16x16 : Shape := ⟨3, ![32, 16, 16]⟩
abbrev S18432x1024 : Shape := ⟨2, ![18432, 1024]⟩
abbrev S16x16 : Shape := ⟨2, ![16, 16]⟩
abbrev S16x1024 : Shape := ⟨2, ![16, 1024]⟩
abbrev S1x16x16 : Shape := ⟨3, ![1, 16, 16]⟩
abbrev S16x128 : Shape := ⟨2, ![16, 128]⟩
abbrev S1x16 : Shape := ⟨2, ![1, 16]⟩
abbrev S16 : Shape := ⟨1, ![16]⟩
abbrev S18432x128 : Shape := ⟨2, ![18432, 128]⟩
abbrev S8192x2x1 : Shape := ⟨3, ![8192, 2, 1]⟩
abbrev S8192x2x1024 : Shape := ⟨3, ![8192, 2, 1024]⟩

abbrev nBuf : Table → Nat
  | .hbm => 85
  | .local .scVector .vmem => 4
  | _ => 0

abbrev bufTy : (tb : Table) → Fin (nBuf tb) → BufTy
  | .hbm, ⟨0, _⟩ => ⟨S8192x1024, .f32⟩
  | .hbm, ⟨1, _⟩ => ⟨S8192x2, .i32⟩
  | .hbm, ⟨2, _⟩ => ⟨S16384, .i32⟩
  | .hbm, ⟨3, _⟩ => ⟨S16384x1, .i32⟩
  | .hbm, ⟨4, _⟩ => ⟨S1x16384, .i32⟩
  | .hbm, ⟨5, _⟩ => ⟨S16384x16384, .i32⟩
  | .hbm, ⟨6, _⟩ => ⟨S16384x16384, .i32⟩
  | .hbm, ⟨7, _⟩ => ⟨S16384x16384, .i1⟩
  | .hbm, ⟨8, _⟩ => ⟨S16384x16384, .i32⟩
  | .hbm, ⟨9, _⟩ => ⟨S16384x16384, .i32⟩
  | .hbm, ⟨10, _⟩ => ⟨S16384x16384, .i1⟩
  | .hbm, ⟨11, _⟩ => ⟨S16384x16384, .i1⟩
  | .hbm, ⟨12, _⟩ => ⟨S16384x16384, .i32⟩
  | .hbm, ⟨13, _⟩ => ⟨S_, .i32⟩
  | .hbm, ⟨14, _⟩ => ⟨S16384, .i32⟩
  | .hbm, ⟨15, _⟩ => ⟨S16384x1, .i32⟩
  | .hbm, ⟨16, _⟩ => ⟨S8, .i32⟩
  | .hbm, ⟨17, _⟩ => ⟨S1x8, .i32⟩
  | .hbm, ⟨18, _⟩ => ⟨S16384x8, .i32⟩
  | .hbm, ⟨19, _⟩ => ⟨S16384x8, .i32⟩
  | .hbm, ⟨20, _⟩ => ⟨S16384x8, .i1⟩
  | .hbm, ⟨21, _⟩ => ⟨S16384x8, .i32⟩
  | .hbm, ⟨22, _⟩ => ⟨S_, .i32⟩
  | .hbm, ⟨23, _⟩ => ⟨S8, .i32⟩
  | .hbm, ⟨24, _⟩ => ⟨S_, .i32⟩
  | .hbm, ⟨25, _⟩ => ⟨S8, .i32⟩
  | .hbm, ⟨26, _⟩ => ⟨S8, .i32⟩
  | .hbm, ⟨27, _⟩ => ⟨S_, .i32⟩
  | .hbm, ⟨28, _⟩ => ⟨S8, .i32⟩
  | .hbm, ⟨29, _⟩ => ⟨S8, .i32⟩
  | .hbm, ⟨30, _⟩ => ⟨S_, .i32⟩
  | .hbm, ⟨31, _⟩ => ⟨S_, .i32⟩
  | .hbm, ⟨32, _⟩ => ⟨S8, .i32⟩
  | .hbm, ⟨33, _⟩ => ⟨S8, .i32⟩
  | .hbm, ⟨34, _⟩ => ⟨S8, .i32⟩
  | .hbm, ⟨35, _⟩ => ⟨S_, .i32⟩
  | .hbm, ⟨36, _⟩ => ⟨S8, .i32⟩
  | .hbm, ⟨37, _⟩ => ⟨S8, .i1⟩
  | .hbm, ⟨38, _⟩ => ⟨S8, .i32⟩
  | .hbm, ⟨39, _⟩ => ⟨S8, .i32⟩
  | .hbm, ⟨40, _⟩ => ⟨S_, .i32⟩
  | .hbm, ⟨41, _⟩ => ⟨S8, .i32⟩
  | .hbm, ⟨42, _⟩ => ⟨S8, .i1⟩
  | .hbm, ⟨43, _⟩ => ⟨S8, .i1⟩
  | .hbm, ⟨44, _⟩ => ⟨S_, .i32⟩
  | .hbm, ⟨45, _⟩ => ⟨S8, .i32⟩
  | .hbm, ⟨46, _⟩ => ⟨S8, .i32⟩
  | .hbm, ⟨47, _⟩ => ⟨S8, .i32⟩
  | .hbm, ⟨48, _⟩ => ⟨S_, .i32⟩
  | .hbm, ⟨49, _⟩ => ⟨S8, .i32⟩
  | .hbm, ⟨50, _⟩ => ⟨S8, .i32⟩
  | .hbm, ⟨51, _⟩ => ⟨S_, .i32⟩
  | .hbm, ⟨52, _⟩ => ⟨S1, .i32⟩
  | .hbm, ⟨53, _⟩ => ⟨S_, .i32⟩
  | .hbm, ⟨54, _⟩ => ⟨S_, .i32⟩
  | .hbm, ⟨55, _⟩ => ⟨S8, .i32⟩
  | .hbm, ⟨56, _⟩ => ⟨S7, .i32⟩
  | .hbm, ⟨57, _⟩ => ⟨S8, .i32⟩
  | .hbm, ⟨58, _⟩ => ⟨S_, .i32⟩
  | .hbm, ⟨59, _⟩ => ⟨S16384, .i32⟩
  | .hbm, ⟨60, _⟩ => ⟨S16384, .i1⟩
  | .hbm, ⟨61, _⟩ => ⟨S_, .i32⟩
  | .hbm, ⟨62, _⟩ => ⟨S16384, .i32⟩
  | .hbm, ⟨63, _⟩ => ⟨S16384, .i32⟩
  | .hbm, ⟨64, _⟩ => ⟨S16384, .i32⟩
  | .hbm, ⟨65, _⟩ => ⟨S16384x1, .i32⟩
  | .hbm, ⟨66, _⟩ => ⟨S16384, .i32⟩
  | .hbm, ⟨67, _⟩ => ⟨S16384, .i32⟩
  | .hbm, ⟨68, _⟩ => ⟨S8192x2, .i32⟩
  | .hbm, ⟨69, _⟩ => ⟨S8192x1, .i32⟩
  | .hbm, ⟨70, _⟩ => ⟨S8192, .i32⟩
  | .hbm, ⟨71, _⟩ => ⟨S32x16x16, .i32⟩
  | .hbm, ⟨72, _⟩ => ⟨S8192x1, .i32⟩
  | .hbm, ⟨73, _⟩ => ⟨S8192, .i32⟩
  | .hbm, ⟨74, _⟩ => ⟨S32x16x16, .i32⟩
  | .hbm, ⟨75, _⟩ => ⟨S18432x1024, .f32⟩
  | .hbm, ⟨76, _⟩ => ⟨S_, .i32⟩
  | .hbm, ⟨77, _⟩ => ⟨S8192x2, .i32⟩
  | .hbm, ⟨78, _⟩ => ⟨S8192x2, .i1⟩
  | .hbm, ⟨79, _⟩ => ⟨S_, .i32⟩
  | .hbm, ⟨80, _⟩ => ⟨S8192x2, .i32⟩
  | .hbm, ⟨81, _⟩ => ⟨S8192x2, .i32⟩
  | .hbm, ⟨82, _⟩ => ⟨S8192x2, .i32⟩
  | .hbm, ⟨83, _⟩ => ⟨S8192x2x1, .i32⟩
  | .hbm, ⟨84, _⟩ => ⟨S8192x2x1024, .f32⟩
  | .local .scVector .vmem, ⟨0, _⟩ => ⟨S16x16, .i32⟩
  | .local .scVector .vmem, ⟨1, _⟩ => ⟨S16x16, .i32⟩
  | .local .scVector .vmem, ⟨2, _⟩ => ⟨S16x1024, .f32⟩
  | .local .scVector .vmem, ⟨3, _⟩ => ⟨S16x1024, .f32⟩
  | _, _ => ⟨S8192x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 36 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | _ => false

abbrev sig : RefSig :=
  ofTables nBuf rfl bufTy 4 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_c_0 : Ref sig .tc := ⟨.hbm, 22, rfl⟩
abbrev main_v19 : Ref sig .tc := ⟨.hbm, 23, rfl⟩
abbrev main_c_1 : Ref sig .tc := ⟨.hbm, 24, rfl⟩
abbrev main_v20 : Ref sig .tc := ⟨.hbm, 25, rfl⟩
abbrev main_v21 : Ref sig .tc := ⟨.hbm, 26, rfl⟩
abbrev main_c_2 : Ref sig .tc := ⟨.hbm, 27, rfl⟩
abbrev main_v22 : Ref sig .tc := ⟨.hbm, 28, rfl⟩
abbrev main_v23 : Ref sig .tc := ⟨.hbm, 29, rfl⟩
abbrev main_c_3 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_c : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_0 : Ref sig .tc := ⟨.hbm, 44, rfl⟩
abbrev main_call0_v12 : Ref sig .tc := ⟨.hbm, 45, rfl⟩
abbrev main_call0_v13 : Ref sig .tc := ⟨.hbm, 46, rfl⟩
abbrev main_v24 : Ref sig .tc := ⟨.hbm, 47, rfl⟩
abbrev main_c_4 : Ref sig .tc := ⟨.hbm, 48, rfl⟩
abbrev main_v25 : Ref sig .tc := ⟨.hbm, 49, rfl⟩
abbrev main_v26 : Ref sig .tc := ⟨.hbm, 50, rfl⟩
abbrev main_c_5 : Ref sig .tc := ⟨.hbm, 51, rfl⟩
abbrev main_v27 : Ref sig .tc := ⟨.hbm, 52, rfl⟩
abbrev main_call1_call0_c : Ref sig .tc := ⟨.hbm, 53, rfl⟩
abbrev main_call1_call0_v0 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_c_6 : Ref sig .tc := ⟨.hbm, 58, rfl⟩
abbrev main_v31 : Ref sig .tc := ⟨.hbm, 59, rfl⟩
abbrev main_v32 : Ref sig .tc := ⟨.hbm, 60, rfl⟩
abbrev main_c_7 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_c_8 : Ref sig .tc := ⟨.hbm, 76, rfl⟩
abbrev main_v47 : Ref sig .tc := ⟨.hbm, 77, rfl⟩
abbrev main_v48 : Ref sig .tc := ⟨.hbm, 78, rfl⟩
abbrev main_c_9 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_arg0_scv : Ref sig .scVector := ⟨.hbm, 0, rfl⟩
abbrev main_v42_scv : Ref sig .scVector := ⟨.hbm, 71, rfl⟩
abbrev main_v45_scv : Ref sig .scVector := ⟨.hbm, 74, rfl⟩
abbrev main_v46_scv : Ref sig .scVector := ⟨.hbm, 75, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_189_r0 : BitVec 32 := 0#32
  let c0_i32_190_r0 : BitVec 32 := 0#32
  ![v1.toNat, 0, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32 : BitVec 32 := 0#32
  ![v2.toNat, 0]
def k0_off3 (i : grid0.Coords) (c16_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v5 : BitVec 32 := Scalar.addi v2 c16_i32
  let c0_i32_1 : BitVec 32 := 0#32
  ![v5.toNat, 0]
@[reducible] def k0_t1_loop : Scf.Loop 32 :=
  let c0_i32_5 : BitVec 32 := 0#32
  let c8_i32 : BitVec 32 := 8#32
  let v10 : BitVec 32 := Scalar.addi c0_i32_5 c8_i32
  let c1_i32 : BitVec 32 := 1#32
  ⟨c0_i32_5, v10, c1_i32⟩
def k0_mult1 (k0_t1 : Fin k0_t1_loop.trips) : BitVec 32 :=
  let c0_i32_190 : BitVec 32 := 0#32
  let c0_i32_5 : BitVec 32 := 0#32
  let c1_i32 : BitVec 32 := 1#32
  let arg16 : BitVec 32 := Scf.iv c0_i32_5 c1_i32 k0_t1
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  v116
def k0_off4 (k0_t1 : Fin k0_t1_loop.trips) : Fin 2 → Nat :=
  let c0_i32_193 : BitVec 32 := 0#32
  let c0_i32_190 : BitVec 32 := 0#32
  let c0_i32_5 : BitVec 32 := 0#32
  let c1_i32 : BitVec 32 := 1#32
  let arg16 : BitVec 32 := Scf.iv c0_i32_5 c1_i32 k0_t1
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off5 (k0_t1 : Fin k0_t1_loop.trips) : Fin 2 → Nat :=
  let c0_i32_195 : BitVec 32 := 0#32
  let c0_i32_190 : BitVec 32 := 0#32
  let c0_i32_5 : BitVec 32 := 0#32
  let c1_i32 : BitVec 32 := 1#32
  let arg16 : BitVec 32 := Scf.iv c0_i32_5 c1_i32 k0_t1
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off6 (k0_t1 : Fin k0_t1_loop.trips) : Fin 1 → Nat :=
  let c0_i32_190 : BitVec 32 := 0#32
  let c0_i32_5 : BitVec 32 := 0#32
  let c1_i32 : BitVec 32 := 1#32
  let arg16 : BitVec 32 := Scf.iv c0_i32_5 c1_i32 k0_t1
  let c1_i32_189 : BitVec 32 := 1#32
  let v114 : BitVec 32 := Scalar.muli arg16 c1_i32_189
  let v115 : BitVec 32 := Scalar.addi c0_i32_190 v114
  ![v115.toNat]
@[reducible] def k0_t2_loop : Scf.Loop 32 :=
  let c0_i32_7 : BitVec 32 := 0#32
  let c8_i32_8 : BitVec 32 := 8#32
  let v11 : BitVec 32 := Scalar.addi c0_i32_7 c8_i32_8
  let c1_i32_9 : BitVec 32 := 1#32
  ⟨c0_i32_7, v11, c1_i32_9⟩
def k0_mult2 (k0_t2 : Fin k0_t2_loop.trips) : BitVec 32 :=
  let c0_i32_190 : BitVec 32 := 0#32
  let c0_i32_7 : BitVec 32 := 0#32
  let c1_i32_9 : BitVec 32 := 1#32
  let arg16 : BitVec 32 := Scf.iv c0_i32_7 c1_i32_9 k0_t2
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  v116
def k0_off7 (k0_t2 : Fin k0_t2_loop.trips) : Fin 2 → Nat :=
  let c0_i32_193 : BitVec 32 := 0#32
  let c0_i32_190 : BitVec 32 := 0#32
  let c0_i32_7 : BitVec 32 := 0#32
  let c1_i32_9 : BitVec 32 := 1#32
  let arg16 : BitVec 32 := Scf.iv c0_i32_7 c1_i32_9 k0_t2
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off8 (k0_t2 : Fin k0_t2_loop.trips) : Fin 2 → Nat :=
  let c0_i32_195 : BitVec 32 := 0#32
  let c0_i32_190 : BitVec 32 := 0#32
  let c0_i32_7 : BitVec 32 := 0#32
  let c1_i32_9 : BitVec 32 := 1#32
  let arg16 : BitVec 32 := Scf.iv c0_i32_7 c1_i32_9 k0_t2
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off9 (k0_t2 : Fin k0_t2_loop.trips) : Fin 1 → Nat :=
  let c0_i32_190 : BitVec 32 := 0#32
  let c0_i32_7 : BitVec 32 := 0#32
  let c1_i32_9 : BitVec 32 := 1#32
  let arg16 : BitVec 32 := Scf.iv c0_i32_7 c1_i32_9 k0_t2
  let c1_i32_189 : BitVec 32 := 1#32
  let v114 : BitVec 32 := Scalar.muli arg16 c1_i32_189
  let v115 : BitVec 32 := Scalar.addi c0_i32_190 v114
  ![v115.toNat]
@[reducible] def k0_t3_loop : Scf.Loop 32 :=
  let c0_i32_15 : BitVec 32 := 0#32
  let c8_i32_16 : BitVec 32 := 8#32
  let v17 : BitVec 32 := Scalar.addi c0_i32_15 c8_i32_16
  let c1_i32_17 : BitVec 32 := 1#32
  ⟨c0_i32_15, v17, c1_i32_17⟩
def k0_mult3 (k0_t3 : Fin k0_t3_loop.trips) : BitVec 32 :=
  let c0_i32_190 : BitVec 32 := 0#32
  let c0_i32_15 : BitVec 32 := 0#32
  let c1_i32_17 : BitVec 32 := 1#32
  let arg16 : BitVec 32 := Scf.iv c0_i32_15 c1_i32_17 k0_t3
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  v116
def k0_off10 (k0_t3 : Fin k0_t3_loop.trips) : Fin 2 → Nat :=
  let c0_i32_193 : BitVec 32 := 0#32
  let c0_i32_190 : BitVec 32 := 0#32
  let c0_i32_15 : BitVec 32 := 0#32
  let c1_i32_17 : BitVec 32 := 1#32
  let arg16 : BitVec 32 := Scf.iv c0_i32_15 c1_i32_17 k0_t3
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off11 (k0_t3 : Fin k0_t3_loop.trips) : Fin 2 → Nat :=
  let c0_i32_195 : BitVec 32 := 0#32
  let c0_i32_190 : BitVec 32 := 0#32
  let c0_i32_15 : BitVec 32 := 0#32
  let c1_i32_17 : BitVec 32 := 1#32
  let arg16 : BitVec 32 := Scf.iv c0_i32_15 c1_i32_17 k0_t3
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off12 (k0_t3 : Fin k0_t3_loop.trips) : Fin 1 → Nat :=
  let c0_i32_190 : BitVec 32 := 0#32
  let c0_i32_15 : BitVec 32 := 0#32
  let c1_i32_17 : BitVec 32 := 1#32
  let arg16 : BitVec 32 := Scf.iv c0_i32_15 c1_i32_17 k0_t3
  let c1_i32_189 : BitVec 32 := 1#32
  let v114 : BitVec 32 := Scalar.muli arg16 c1_i32_189
  let v115 : BitVec 32 := Scalar.addi c0_i32_190 v114
  ![v115.toNat]
@[reducible] def k0_t4_loop : Scf.Loop 32 :=
  let c0_i32_19 : BitVec 32 := 0#32
  let c8_i32_20 : BitVec 32 := 8#32
  let v18 : BitVec 32 := Scalar.addi c0_i32_19 c8_i32_20
  let c1_i32_21 : BitVec 32 := 1#32
  ⟨c0_i32_19, v18, c1_i32_21⟩
def k0_mult4 (k0_t4 : Fin k0_t4_loop.trips) : BitVec 32 :=
  let c0_i32_190 : BitVec 32 := 0#32
  let c0_i32_19 : BitVec 32 := 0#32
  let c1_i32_21 : BitVec 32 := 1#32
  let arg16 : BitVec 32 := Scf.iv c0_i32_19 c1_i32_21 k0_t4
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  v116
def k0_off13 (k0_t4 : Fin k0_t4_loop.trips) : Fin 2 → Nat :=
  let c0_i32_193 : BitVec 32 := 0#32
  let c0_i32_190 : BitVec 32 := 0#32
  let c0_i32_19 : BitVec 32 := 0#32
  let c1_i32_21 : BitVec 32 := 1#32
  let arg16 : BitVec 32 := Scf.iv c0_i32_19 c1_i32_21 k0_t4
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off14 (k0_t4 : Fin k0_t4_loop.trips) : Fin 2 → Nat :=
  let c0_i32_195 : BitVec 32 := 0#32
  let c0_i32_190 : BitVec 32 := 0#32
  let c0_i32_19 : BitVec 32 := 0#32
  let c1_i32_21 : BitVec 32 := 1#32
  let arg16 : BitVec 32 := Scf.iv c0_i32_19 c1_i32_21 k0_t4
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off15 (k0_t4 : Fin k0_t4_loop.trips) : Fin 1 → Nat :=
  let c0_i32_190 : BitVec 32 := 0#32
  let c0_i32_19 : BitVec 32 := 0#32
  let c1_i32_21 : BitVec 32 := 1#32
  let arg16 : BitVec 32 := Scf.iv c0_i32_19 c1_i32_21 k0_t4
  let c1_i32_189 : BitVec 32 := 1#32
  let v114 : BitVec 32 := Scalar.muli arg16 c1_i32_189
  let v115 : BitVec 32 := Scalar.addi c0_i32_190 v114
  ![v115.toNat]
@[reducible] def k0_t5_loop : Scf.Loop 32 :=
  let c0_i32_27 : BitVec 32 := 0#32
  let c8_i32_28 : BitVec 32 := 8#32
  let v24 : BitVec 32 := Scalar.addi c0_i32_27 c8_i32_28
  let c1_i32_29 : BitVec 32 := 1#32
  ⟨c0_i32_27, v24, c1_i32_29⟩
def k0_mult5 (k0_t5 : Fin k0_t5_loop.trips) : BitVec 32 :=
  let c0_i32_190 : BitVec 32 := 0#32
  let c0_i32_27 : BitVec 32 := 0#32
  let c1_i32_29 : BitVec 32 := 1#32
  let arg16 : BitVec 32 := Scf.iv c0_i32_27 c1_i32_29 k0_t5
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  v116
def k0_off16 (k0_t5 : Fin k0_t5_loop.trips) : Fin 2 → Nat :=
  let c0_i32_193 : BitVec 32 := 0#32
  let c0_i32_190 : BitVec 32 := 0#32
  let c0_i32_27 : BitVec 32 := 0#32
  let c1_i32_29 : BitVec 32 := 1#32
  let arg16 : BitVec 32 := Scf.iv c0_i32_27 c1_i32_29 k0_t5
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off17 (k0_t5 : Fin k0_t5_loop.trips) : Fin 2 → Nat :=
  let c0_i32_195 : BitVec 32 := 0#32
  let c0_i32_190 : BitVec 32 := 0#32
  let c0_i32_27 : BitVec 32 := 0#32
  let c1_i32_29 : BitVec 32 := 1#32
  let arg16 : BitVec 32 := Scf.iv c0_i32_27 c1_i32_29 k0_t5
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off18 (k0_t5 : Fin k0_t5_loop.trips) : Fin 1 → Nat :=
  let c0_i32_190 : BitVec 32 := 0#32
  let c0_i32_27 : BitVec 32 := 0#32
  let c1_i32_29 : BitVec 32 := 1#32
  let arg16 : BitVec 32 := Scf.iv c0_i32_27 c1_i32_29 k0_t5
  let c1_i32_189 : BitVec 32 := 1#32
  let v114 : BitVec 32 := Scalar.muli arg16 c1_i32_189
  let v115 : BitVec 32 := Scalar.addi c0_i32_190 v114
  ![v115.toNat]
@[reducible] def k0_t6_loop : Scf.Loop 32 :=
  let c0_i32_31 : BitVec 32 := 0#32
  let c8_i32_32 : BitVec 32 := 8#32
  let v25 : BitVec 32 := Scalar.addi c0_i32_31 c8_i32_32
  let c1_i32_33 : BitVec 32 := 1#32
  ⟨c0_i32_31, v25, c1_i32_33⟩
def k0_mult6 (k0_t6 : Fin k0_t6_loop.trips) : BitVec 32 :=
  let c0_i32_190 : BitVec 32 := 0#32
  let c0_i32_31 : BitVec 32 := 0#32
  let c1_i32_33 : BitVec 32 := 1#32
  let arg16 : BitVec 32 := Scf.iv c0_i32_31 c1_i32_33 k0_t6
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  v116
def k0_off19 (k0_t6 : Fin k0_t6_loop.trips) : Fin 2 → Nat :=
  let c0_i32_193 : BitVec 32 := 0#32
  let c0_i32_190 : BitVec 32 := 0#32
  let c0_i32_31 : BitVec 32 := 0#32
  let c1_i32_33 : BitVec 32 := 1#32
  let arg16 : BitVec 32 := Scf.iv c0_i32_31 c1_i32_33 k0_t6
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off20 (k0_t6 : Fin k0_t6_loop.trips) : Fin 2 → Nat :=
  let c0_i32_195 : BitVec 32 := 0#32
  let c0_i32_190 : BitVec 32 := 0#32
  let c0_i32_31 : BitVec 32 := 0#32
  let c1_i32_33 : BitVec 32 := 1#32
  let arg16 : BitVec 32 := Scf.iv c0_i32_31 c1_i32_33 k0_t6
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off21 (k0_t6 : Fin k0_t6_loop.trips) : Fin 1 → Nat :=
  let c0_i32_190 : BitVec 32 := 0#32
  let c0_i32_31 : BitVec 32 := 0#32
  let c1_i32_33 : BitVec 32 := 1#32
  let arg16 : BitVec 32 := Scf.iv c0_i32_31 c1_i32_33 k0_t6
  let c1_i32_189 : BitVec 32 := 1#32
  let v114 : BitVec 32 := Scalar.muli arg16 c1_i32_189
  let v115 : BitVec 32 := Scalar.addi c0_i32_190 v114
  ![v115.toNat]
@[reducible] def k0_t7_loop : Scf.Loop 32 :=
  let c0_i32_39 : BitVec 32 := 0#32
  let c8_i32_40 : BitVec 32 := 8#32
  let v31 : BitVec 32 := Scalar.addi c0_i32_39 c8_i32_40
  let c1_i32_41 : BitVec 32 := 1#32
  ⟨c0_i32_39, v31, c1_i32_41⟩
def k0_mult7 (k0_t7 : Fin k0_t7_loop.trips) : BitVec 32 :=
  let c0_i32_190 : BitVec 32 := 0#32
  let c0_i32_39 : BitVec 32 := 0#32
  let c1_i32_41 : BitVec 32 := 1#32
  let arg16 : BitVec 32 := Scf.iv c0_i32_39 c1_i32_41 k0_t7
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  v116
def k0_off22 (k0_t7 : Fin k0_t7_loop.trips) : Fin 2 → Nat :=
  let c0_i32_192 : BitVec 32 := 0#32
  let c0_i32_190 : BitVec 32 := 0#32
  let c0_i32_39 : BitVec 32 := 0#32
  let c1_i32_41 : BitVec 32 := 1#32
  let arg16 : BitVec 32 := Scf.iv c0_i32_39 c1_i32_41 k0_t7
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off23 (k0_t7 : Fin k0_t7_loop.trips) : Fin 2 → Nat :=
  let c0_i32_194 : BitVec 32 := 0#32
  let c0_i32_190 : BitVec 32 := 0#32
  let c0_i32_39 : BitVec 32 := 0#32
  let c1_i32_41 : BitVec 32 := 1#32
  let arg16 : BitVec 32 := Scf.iv c0_i32_39 c1_i32_41 k0_t7
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off24 (k0_t7 : Fin k0_t7_loop.trips) : Fin 1 → Nat :=
  let c0_i32_190 : BitVec 32 := 0#32
  let c0_i32_39 : BitVec 32 := 0#32
  let c1_i32_41 : BitVec 32 := 1#32
  let arg16 : BitVec 32 := Scf.iv c0_i32_39 c1_i32_41 k0_t7
  let c1_i32_189 : BitVec 32 := 1#32
  let v114 : BitVec 32 := Scalar.muli arg16 c1_i32_189
  let v115 : BitVec 32 := Scalar.addi c0_i32_190 v114
  ![v115.toNat]
@[reducible] def k0_t8_loop : Scf.Loop 32 :=
  let c0_i32_43 : BitVec 32 := 0#32
  let c8_i32_44 : BitVec 32 := 8#32
  let v32 : BitVec 32 := Scalar.addi c0_i32_43 c8_i32_44
  let c1_i32_45 : BitVec 32 := 1#32
  ⟨c0_i32_43, v32, c1_i32_45⟩
def k0_mult8 (k0_t8 : Fin k0_t8_loop.trips) : BitVec 32 :=
  let c0_i32_190 : BitVec 32 := 0#32
  let c0_i32_43 : BitVec 32 := 0#32
  let c1_i32_45 : BitVec 32 := 1#32
  let arg16 : BitVec 32 := Scf.iv c0_i32_43 c1_i32_45 k0_t8
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  v116
def k0_off25 (k0_t8 : Fin k0_t8_loop.trips) : Fin 2 → Nat :=
  let c0_i32_192 : BitVec 32 := 0#32
  let c0_i32_190 : BitVec 32 := 0#32
  let c0_i32_43 : BitVec 32 := 0#32
  let c1_i32_45 : BitVec 32 := 1#32
  let arg16 : BitVec 32 := Scf.iv c0_i32_43 c1_i32_45 k0_t8
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off26 (k0_t8 : Fin k0_t8_loop.trips) : Fin 2 → Nat :=
  let c0_i32_194 : BitVec 32 := 0#32
  let c0_i32_190 : BitVec 32 := 0#32
  let c0_i32_43 : BitVec 32 := 0#32
  let c1_i32_45 : BitVec 32 := 1#32
  let arg16 : BitVec 32 := Scf.iv c0_i32_43 c1_i32_45 k0_t8
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off27 (k0_t8 : Fin k0_t8_loop.trips) : Fin 1 → Nat :=
  let c0_i32_190 : BitVec 32 := 0#32
  let c0_i32_43 : BitVec 32 := 0#32
  let c1_i32_45 : BitVec 32 := 1#32
  let arg16 : BitVec 32 := Scf.iv c0_i32_43 c1_i32_45 k0_t8
  let c1_i32_189 : BitVec 32 := 1#32
  let v114 : BitVec 32 := Scalar.muli arg16 c1_i32_189
  let v115 : BitVec 32 := Scalar.addi c0_i32_190 v114
  ![v115.toNat]
@[reducible] def k0_t9_loop : Scf.Loop 32 :=
  let c0_i32_51 : BitVec 32 := 0#32
  let c8_i32_52 : BitVec 32 := 8#32
  let v38 : BitVec 32 := Scalar.addi c0_i32_51 c8_i32_52
  let c1_i32_53 : BitVec 32 := 1#32
  ⟨c0_i32_51, v38, c1_i32_53⟩
def k0_mult9 (k0_t9 : Fin k0_t9_loop.trips) : BitVec 32 :=
  let c0_i32_190 : BitVec 32 := 0#32
  let c0_i32_51 : BitVec 32 := 0#32
  let c1_i32_53 : BitVec 32 := 1#32
  let arg16 : BitVec 32 := Scf.iv c0_i32_51 c1_i32_53 k0_t9
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  v116
def k0_off28 (k0_t9 : Fin k0_t9_loop.trips) : Fin 2 → Nat :=
  let c0_i32_192 : BitVec 32 := 0#32
  let c0_i32_190 : BitVec 32 := 0#32
  let c0_i32_51 : BitVec 32 := 0#32
  let c1_i32_53 : BitVec 32 := 1#32
  let arg16 : BitVec 32 := Scf.iv c0_i32_51 c1_i32_53 k0_t9
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off29 (k0_t9 : Fin k0_t9_loop.trips) : Fin 2 → Nat :=
  let c0_i32_194 : BitVec 32 := 0#32
  let c0_i32_190 : BitVec 32 := 0#32
  let c0_i32_51 : BitVec 32 := 0#32
  let c1_i32_53 : BitVec 32 := 1#32
  let arg16 : BitVec 32 := Scf.iv c0_i32_51 c1_i32_53 k0_t9
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off30 (k0_t9 : Fin k0_t9_loop.trips) : Fin 1 → Nat :=
  let c0_i32_190 : BitVec 32 := 0#32
  let c0_i32_51 : BitVec 32 := 0#32
  let c1_i32_53 : BitVec 32 := 1#32
  let arg16 : BitVec 32 := Scf.iv c0_i32_51 c1_i32_53 k0_t9
  let c1_i32_189 : BitVec 32 := 1#32
  let v114 : BitVec 32 := Scalar.muli arg16 c1_i32_189
  let v115 : BitVec 32 := Scalar.addi c0_i32_190 v114
  ![v115.toNat]
@[reducible] def k0_t10_loop : Scf.Loop 32 :=
  let c0_i32_55 : BitVec 32 := 0#32
  let c8_i32_56 : BitVec 32 := 8#32
  let v39 : BitVec 32 := Scalar.addi c0_i32_55 c8_i32_56
  let c1_i32_57 : BitVec 32 := 1#32
  ⟨c0_i32_55, v39, c1_i32_57⟩
def k0_mult10 (k0_t10 : Fin k0_t10_loop.trips) : BitVec 32 :=
  let c0_i32_190 : BitVec 32 := 0#32
  let c0_i32_55 : BitVec 32 := 0#32
  let c1_i32_57 : BitVec 32 := 1#32
  let arg16 : BitVec 32 := Scf.iv c0_i32_55 c1_i32_57 k0_t10
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  v116
def k0_off31 (k0_t10 : Fin k0_t10_loop.trips) : Fin 2 → Nat :=
  let c0_i32_192 : BitVec 32 := 0#32
  let c0_i32_190 : BitVec 32 := 0#32
  let c0_i32_55 : BitVec 32 := 0#32
  let c1_i32_57 : BitVec 32 := 1#32
  let arg16 : BitVec 32 := Scf.iv c0_i32_55 c1_i32_57 k0_t10
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off32 (k0_t10 : Fin k0_t10_loop.trips) : Fin 2 → Nat :=
  let c0_i32_194 : BitVec 32 := 0#32
  let c0_i32_190 : BitVec 32 := 0#32
  let c0_i32_55 : BitVec 32 := 0#32
  let c1_i32_57 : BitVec 32 := 1#32
  let arg16 : BitVec 32 := Scf.iv c0_i32_55 c1_i32_57 k0_t10
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off33 (k0_t10 : Fin k0_t10_loop.trips) : Fin 1 → Nat :=
  let c0_i32_190 : BitVec 32 := 0#32
  let c0_i32_55 : BitVec 32 := 0#32
  let c1_i32_57 : BitVec 32 := 1#32
  let arg16 : BitVec 32 := Scf.iv c0_i32_55 c1_i32_57 k0_t10
  let c1_i32_189 : BitVec 32 := 1#32
  let v114 : BitVec 32 := Scalar.muli arg16 c1_i32_189
  let v115 : BitVec 32 := Scalar.addi c0_i32_190 v114
  ![v115.toNat]
@[reducible] def k0_t11_loop : Scf.Loop 32 :=
  let c0_i32_63 : BitVec 32 := 0#32
  let c8_i32_64 : BitVec 32 := 8#32
  let v45 : BitVec 32 := Scalar.addi c0_i32_63 c8_i32_64
  let c1_i32_65 : BitVec 32 := 1#32
  ⟨c0_i32_63, v45, c1_i32_65⟩
def k0_mult11 (k0_t11 : Fin k0_t11_loop.trips) : BitVec 32 :=
  let c0_i32_190 : BitVec 32 := 0#32
  let c0_i32_63 : BitVec 32 := 0#32
  let c1_i32_65 : BitVec 32 := 1#32
  let arg16 : BitVec 32 := Scf.iv c0_i32_63 c1_i32_65 k0_t11
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  v116
def k0_off34 (k0_t11 : Fin k0_t11_loop.trips) : Fin 2 → Nat :=
  let c0_i32_192 : BitVec 32 := 0#32
  let c0_i32_190 : BitVec 32 := 0#32
  let c0_i32_63 : BitVec 32 := 0#32
  let c1_i32_65 : BitVec 32 := 1#32
  let arg16 : BitVec 32 := Scf.iv c0_i32_63 c1_i32_65 k0_t11
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off35 (k0_t11 : Fin k0_t11_loop.trips) : Fin 2 → Nat :=
  let c0_i32_194 : BitVec 32 := 0#32
  let c0_i32_190 : BitVec 32 := 0#32
  let c0_i32_63 : BitVec 32 := 0#32
  let c1_i32_65 : BitVec 32 := 1#32
  let arg16 : BitVec 32 := Scf.iv c0_i32_63 c1_i32_65 k0_t11
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off36 (k0_t11 : Fin k0_t11_loop.trips) : Fin 1 → Nat :=
  let c0_i32_190 : BitVec 32 := 0#32
  let c0_i32_63 : BitVec 32 := 0#32
  let c1_i32_65 : BitVec 32 := 1#32
  let arg16 : BitVec 32 := Scf.iv c0_i32_63 c1_i32_65 k0_t11
  let c1_i32_189 : BitVec 32 := 1#32
  let v114 : BitVec 32 := Scalar.muli arg16 c1_i32_189
  let v115 : BitVec 32 := Scalar.addi c0_i32_190 v114
  ![v115.toNat]
@[reducible] def k0_t12_loop : Scf.Loop 32 :=
  let c0_i32_67 : BitVec 32 := 0#32
  let c8_i32_68 : BitVec 32 := 8#32
  let v46 : BitVec 32 := Scalar.addi c0_i32_67 c8_i32_68
  let c1_i32_69 : BitVec 32 := 1#32
  ⟨c0_i32_67, v46, c1_i32_69⟩
def k0_mult12 (k0_t12 : Fin k0_t12_loop.trips) : BitVec 32 :=
  let c0_i32_190 : BitVec 32 := 0#32
  let c0_i32_67 : BitVec 32 := 0#32
  let c1_i32_69 : BitVec 32 := 1#32
  let arg16 : BitVec 32 := Scf.iv c0_i32_67 c1_i32_69 k0_t12
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  v116
def k0_off37 (k0_t12 : Fin k0_t12_loop.trips) : Fin 2 → Nat :=
  let c0_i32_192 : BitVec 32 := 0#32
  let c0_i32_190 : BitVec 32 := 0#32
  let c0_i32_67 : BitVec 32 := 0#32
  let c1_i32_69 : BitVec 32 := 1#32
  let arg16 : BitVec 32 := Scf.iv c0_i32_67 c1_i32_69 k0_t12
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off38 (k0_t12 : Fin k0_t12_loop.trips) : Fin 2 → Nat :=
  let c0_i32_194 : BitVec 32 := 0#32
  let c0_i32_190 : BitVec 32 := 0#32
  let c0_i32_67 : BitVec 32 := 0#32
  let c1_i32_69 : BitVec 32 := 1#32
  let arg16 : BitVec 32 := Scf.iv c0_i32_67 c1_i32_69 k0_t12
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off39 (k0_t12 : Fin k0_t12_loop.trips) : Fin 1 → Nat :=
  let c0_i32_190 : BitVec 32 := 0#32
  let c0_i32_67 : BitVec 32 := 0#32
  let c1_i32_69 : BitVec 32 := 1#32
  let arg16 : BitVec 32 := Scf.iv c0_i32_67 c1_i32_69 k0_t12
  let c1_i32_189 : BitVec 32 := 1#32
  let v114 : BitVec 32 := Scalar.muli arg16 c1_i32_189
  let v115 : BitVec 32 := Scalar.addi c0_i32_190 v114
  ![v115.toNat]
@[reducible] def k0_t13_loop : Scf.Loop 32 :=
  let c0_i32_75 : BitVec 32 := 0#32
  let c8_i32_76 : BitVec 32 := 8#32
  let v52 : BitVec 32 := Scalar.addi c0_i32_75 c8_i32_76
  let c1_i32_77 : BitVec 32 := 1#32
  ⟨c0_i32_75, v52, c1_i32_77⟩
def k0_mult13 (k0_t13 : Fin k0_t13_loop.trips) : BitVec 32 :=
  let c0_i32_190 : BitVec 32 := 0#32
  let c0_i32_75 : BitVec 32 := 0#32
  let c1_i32_77 : BitVec 32 := 1#32
  let arg16 : BitVec 32 := Scf.iv c0_i32_75 c1_i32_77 k0_t13
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  v116
def k0_off40 (k0_t13 : Fin k0_t13_loop.trips) : Fin 2 → Nat :=
  let c0_i32_192 : BitVec 32 := 0#32
  let c0_i32_190 : BitVec 32 := 0#32
  let c0_i32_75 : BitVec 32 := 0#32
  let c1_i32_77 : BitVec 32 := 1#32
  let arg16 : BitVec 32 := Scf.iv c0_i32_75 c1_i32_77 k0_t13
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off41 (k0_t13 : Fin k0_t13_loop.trips) : Fin 2 → Nat :=
  let c0_i32_194 : BitVec 32 := 0#32
  let c0_i32_190 : BitVec 32 := 0#32
  let c0_i32_75 : BitVec 32 := 0#32
  let c1_i32_77 : BitVec 32 := 1#32
  let arg16 : BitVec 32 := Scf.iv c0_i32_75 c1_i32_77 k0_t13
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off42 (k0_t13 : Fin k0_t13_loop.trips) : Fin 1 → Nat :=
  let c0_i32_190 : BitVec 32 := 0#32
  let c0_i32_75 : BitVec 32 := 0#32
  let c1_i32_77 : BitVec 32 := 1#32
  let arg16 : BitVec 32 := Scf.iv c0_i32_75 c1_i32_77 k0_t13
  let c1_i32_189 : BitVec 32 := 1#32
  let v114 : BitVec 32 := Scalar.muli arg16 c1_i32_189
  let v115 : BitVec 32 := Scalar.addi c0_i32_190 v114
  ![v115.toNat]
@[reducible] def k0_t14_loop : Scf.Loop 32 :=
  let c0_i32_79 : BitVec 32 := 0#32
  let c8_i32_80 : BitVec 32 := 8#32
  let v53 : BitVec 32 := Scalar.addi c0_i32_79 c8_i32_80
  let c1_i32_81 : BitVec 32 := 1#32
  ⟨c0_i32_79, v53, c1_i32_81⟩
def k0_mult14 (k0_t14 : Fin k0_t14_loop.trips) : BitVec 32 :=
  let c0_i32_190 : BitVec 32 := 0#32
  let c0_i32_79 : BitVec 32 := 0#32
  let c1_i32_81 : BitVec 32 := 1#32
  let arg16 : BitVec 32 := Scf.iv c0_i32_79 c1_i32_81 k0_t14
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  v116
def k0_off43 (k0_t14 : Fin k0_t14_loop.trips) : Fin 2 → Nat :=
  let c0_i32_192 : BitVec 32 := 0#32
  let c0_i32_190 : BitVec 32 := 0#32
  let c0_i32_79 : BitVec 32 := 0#32
  let c1_i32_81 : BitVec 32 := 1#32
  let arg16 : BitVec 32 := Scf.iv c0_i32_79 c1_i32_81 k0_t14
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off44 (k0_t14 : Fin k0_t14_loop.trips) : Fin 2 → Nat :=
  let c0_i32_194 : BitVec 32 := 0#32
  let c0_i32_190 : BitVec 32 := 0#32
  let c0_i32_79 : BitVec 32 := 0#32
  let c1_i32_81 : BitVec 32 := 1#32
  let arg16 : BitVec 32 := Scf.iv c0_i32_79 c1_i32_81 k0_t14
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off45 (k0_t14 : Fin k0_t14_loop.trips) : Fin 1 → Nat :=
  let c0_i32_190 : BitVec 32 := 0#32
  let c0_i32_79 : BitVec 32 := 0#32
  let c1_i32_81 : BitVec 32 := 1#32
  let arg16 : BitVec 32 := Scf.iv c0_i32_79 c1_i32_81 k0_t14
  let c1_i32_189 : BitVec 32 := 1#32
  let v114 : BitVec 32 := Scalar.muli arg16 c1_i32_189
  let v115 : BitVec 32 := Scalar.addi c0_i32_190 v114
  ![v115.toNat]
@[reducible] def k0_t15_loop : Scf.Loop 32 :=
  let c0_i32_87 : BitVec 32 := 0#32
  let c8_i32_88 : BitVec 32 := 8#32
  let v59 : BitVec 32 := Scalar.addi c0_i32_87 c8_i32_88
  let c1_i32_89 : BitVec 32 := 1#32
  ⟨c0_i32_87, v59, c1_i32_89⟩
def k0_mult15 (k0_t15 : Fin k0_t15_loop.trips) : BitVec 32 :=
  let c0_i32_190 : BitVec 32 := 0#32
  let c0_i32_87 : BitVec 32 := 0#32
  let c1_i32_89 : BitVec 32 := 1#32
  let arg16 : BitVec 32 := Scf.iv c0_i32_87 c1_i32_89 k0_t15
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  v116
def k0_off46 (k0_t15 : Fin k0_t15_loop.trips) : Fin 2 → Nat :=
  let c0_i32_192 : BitVec 32 := 0#32
  let c0_i32_190 : BitVec 32 := 0#32
  let c0_i32_87 : BitVec 32 := 0#32
  let c1_i32_89 : BitVec 32 := 1#32
  let arg16 : BitVec 32 := Scf.iv c0_i32_87 c1_i32_89 k0_t15
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off47 (k0_t15 : Fin k0_t15_loop.trips) : Fin 2 → Nat :=
  let c0_i32_194 : BitVec 32 := 0#32
  let c0_i32_190 : BitVec 32 := 0#32
  let c0_i32_87 : BitVec 32 := 0#32
  let c1_i32_89 : BitVec 32 := 1#32
  let arg16 : BitVec 32 := Scf.iv c0_i32_87 c1_i32_89 k0_t15
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off48 (k0_t15 : Fin k0_t15_loop.trips) : Fin 1 → Nat :=
  let c0_i32_190 : BitVec 32 := 0#32
  let c0_i32_87 : BitVec 32 := 0#32
  let c1_i32_89 : BitVec 32 := 1#32
  let arg16 : BitVec 32 := Scf.iv c0_i32_87 c1_i32_89 k0_t15
  let c1_i32_189 : BitVec 32 := 1#32
  let v114 : BitVec 32 := Scalar.muli arg16 c1_i32_189
  let v115 : BitVec 32 := Scalar.addi c0_i32_190 v114
  ![v115.toNat]
@[reducible] def k0_t16_loop : Scf.Loop 32 :=
  let c0_i32_91 : BitVec 32 := 0#32
  let c8_i32_92 : BitVec 32 := 8#32
  let v60 : BitVec 32 := Scalar.addi c0_i32_91 c8_i32_92
  let c1_i32_93 : BitVec 32 := 1#32
  ⟨c0_i32_91, v60, c1_i32_93⟩
def k0_mult16 (k0_t16 : Fin k0_t16_loop.trips) : BitVec 32 :=
  let c0_i32_190 : BitVec 32 := 0#32
  let c0_i32_91 : BitVec 32 := 0#32
  let c1_i32_93 : BitVec 32 := 1#32
  let arg16 : BitVec 32 := Scf.iv c0_i32_91 c1_i32_93 k0_t16
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  v116
def k0_off49 (k0_t16 : Fin k0_t16_loop.trips) : Fin 2 → Nat :=
  let c0_i32_192 : BitVec 32 := 0#32
  let c0_i32_190 : BitVec 32 := 0#32
  let c0_i32_91 : BitVec 32 := 0#32
  let c1_i32_93 : BitVec 32 := 1#32
  let arg16 : BitVec 32 := Scf.iv c0_i32_91 c1_i32_93 k0_t16
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off50 (k0_t16 : Fin k0_t16_loop.trips) : Fin 2 → Nat :=
  let c0_i32_194 : BitVec 32 := 0#32
  let c0_i32_190 : BitVec 32 := 0#32
  let c0_i32_91 : BitVec 32 := 0#32
  let c1_i32_93 : BitVec 32 := 1#32
  let arg16 : BitVec 32 := Scf.iv c0_i32_91 c1_i32_93 k0_t16
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off51 (k0_t16 : Fin k0_t16_loop.trips) : Fin 1 → Nat :=
  let c0_i32_190 : BitVec 32 := 0#32
  let c0_i32_91 : BitVec 32 := 0#32
  let c1_i32_93 : BitVec 32 := 1#32
  let arg16 : BitVec 32 := Scf.iv c0_i32_91 c1_i32_93 k0_t16
  let c1_i32_189 : BitVec 32 := 1#32
  let v114 : BitVec 32 := Scalar.muli arg16 c1_i32_189
  let v115 : BitVec 32 := Scalar.addi c0_i32_190 v114
  ![v115.toNat]
@[reducible] def k0_t17_loop : Scf.Loop 32 :=
  let c0_i32_99 : BitVec 32 := 0#32
  let c8_i32_100 : BitVec 32 := 8#32
  let v66 : BitVec 32 := Scalar.addi c0_i32_99 c8_i32_100
  let c1_i32_101 : BitVec 32 := 1#32
  ⟨c0_i32_99, v66, c1_i32_101⟩
def k0_mult17 (k0_t17 : Fin k0_t17_loop.trips) : BitVec 32 :=
  let c0_i32_190 : BitVec 32 := 0#32
  let c0_i32_99 : BitVec 32 := 0#32
  let c1_i32_101 : BitVec 32 := 1#32
  let arg16 : BitVec 32 := Scf.iv c0_i32_99 c1_i32_101 k0_t17
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  v116
def k0_off52 (k0_t17 : Fin k0_t17_loop.trips) : Fin 2 → Nat :=
  let c0_i32_193 : BitVec 32 := 0#32
  let c0_i32_190 : BitVec 32 := 0#32
  let c0_i32_99 : BitVec 32 := 0#32
  let c1_i32_101 : BitVec 32 := 1#32
  let arg16 : BitVec 32 := Scf.iv c0_i32_99 c1_i32_101 k0_t17
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off53 (k0_t17 : Fin k0_t17_loop.trips) : Fin 2 → Nat :=
  let c0_i32_195 : BitVec 32 := 0#32
  let c0_i32_190 : BitVec 32 := 0#32
  let c0_i32_99 : BitVec 32 := 0#32
  let c1_i32_101 : BitVec 32 := 1#32
  let arg16 : BitVec 32 := Scf.iv c0_i32_99 c1_i32_101 k0_t17
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off54 (k0_t17 : Fin k0_t17_loop.trips) : Fin 1 → Nat :=
  let c0_i32_190 : BitVec 32 := 0#32
  let c0_i32_99 : BitVec 32 := 0#32
  let c1_i32_101 : BitVec 32 := 1#32
  let arg16 : BitVec 32 := Scf.iv c0_i32_99 c1_i32_101 k0_t17
  let c1_i32_189 : BitVec 32 := 1#32
  let v114 : BitVec 32 := Scalar.muli arg16 c1_i32_189
  let v115 : BitVec 32 := Scalar.addi c0_i32_190 v114
  ![v115.toNat]
@[reducible] def k0_t18_loop : Scf.Loop 32 :=
  let c0_i32_103 : BitVec 32 := 0#32
  let c8_i32_104 : BitVec 32 := 8#32
  let v67 : BitVec 32 := Scalar.addi c0_i32_103 c8_i32_104
  let c1_i32_105 : BitVec 32 := 1#32
  ⟨c0_i32_103, v67, c1_i32_105⟩
def k0_mult18 (k0_t18 : Fin k0_t18_loop.trips) : BitVec 32 :=
  let c0_i32_190 : BitVec 32 := 0#32
  let c0_i32_103 : BitVec 32 := 0#32
  let c1_i32_105 : BitVec 32 := 1#32
  let arg16 : BitVec 32 := Scf.iv c0_i32_103 c1_i32_105 k0_t18
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  v116
def k0_off55 (k0_t18 : Fin k0_t18_loop.trips) : Fin 2 → Nat :=
  let c0_i32_193 : BitVec 32 := 0#32
  let c0_i32_190 : BitVec 32 := 0#32
  let c0_i32_103 : BitVec 32 := 0#32
  let c1_i32_105 : BitVec 32 := 1#32
  let arg16 : BitVec 32 := Scf.iv c0_i32_103 c1_i32_105 k0_t18
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off56 (k0_t18 : Fin k0_t18_loop.trips) : Fin 2 → Nat :=
  let c0_i32_195 : BitVec 32 := 0#32
  let c0_i32_190 : BitVec 32 := 0#32
  let c0_i32_103 : BitVec 32 := 0#32
  let c1_i32_105 : BitVec 32 := 1#32
  let arg16 : BitVec 32 := Scf.iv c0_i32_103 c1_i32_105 k0_t18
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off57 (k0_t18 : Fin k0_t18_loop.trips) : Fin 1 → Nat :=
  let c0_i32_190 : BitVec 32 := 0#32
  let c0_i32_103 : BitVec 32 := 0#32
  let c1_i32_105 : BitVec 32 := 1#32
  let arg16 : BitVec 32 := Scf.iv c0_i32_103 c1_i32_105 k0_t18
  let c1_i32_189 : BitVec 32 := 1#32
  let v114 : BitVec 32 := Scalar.muli arg16 c1_i32_189
  let v115 : BitVec 32 := Scalar.addi c0_i32_190 v114
  ![v115.toNat]
@[reducible] def k0_t19_loop : Scf.Loop 32 :=
  let c0_i32_111 : BitVec 32 := 0#32
  let c8_i32_112 : BitVec 32 := 8#32
  let v73 : BitVec 32 := Scalar.addi c0_i32_111 c8_i32_112
  let c1_i32_113 : BitVec 32 := 1#32
  ⟨c0_i32_111, v73, c1_i32_113⟩
def k0_mult19 (k0_t19 : Fin k0_t19_loop.trips) : BitVec 32 :=
  let c0_i32_190 : BitVec 32 := 0#32
  let c0_i32_111 : BitVec 32 := 0#32
  let c1_i32_113 : BitVec 32 := 1#32
  let arg16 : BitVec 32 := Scf.iv c0_i32_111 c1_i32_113 k0_t19
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  v116
def k0_off58 (k0_t19 : Fin k0_t19_loop.trips) : Fin 2 → Nat :=
  let c0_i32_192 : BitVec 32 := 0#32
  let c0_i32_190 : BitVec 32 := 0#32
  let c0_i32_111 : BitVec 32 := 0#32
  let c1_i32_113 : BitVec 32 := 1#32
  let arg16 : BitVec 32 := Scf.iv c0_i32_111 c1_i32_113 k0_t19
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off59 (k0_t19 : Fin k0_t19_loop.trips) : Fin 2 → Nat :=
  let c0_i32_194 : BitVec 32 := 0#32
  let c0_i32_190 : BitVec 32 := 0#32
  let c0_i32_111 : BitVec 32 := 0#32
  let c1_i32_113 : BitVec 32 := 1#32
  let arg16 : BitVec 32 := Scf.iv c0_i32_111 c1_i32_113 k0_t19
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off60 (k0_t19 : Fin k0_t19_loop.trips) : Fin 1 → Nat :=
  let c0_i32_190 : BitVec 32 := 0#32
  let c0_i32_111 : BitVec 32 := 0#32
  let c1_i32_113 : BitVec 32 := 1#32
  let arg16 : BitVec 32 := Scf.iv c0_i32_111 c1_i32_113 k0_t19
  let c1_i32_189 : BitVec 32 := 1#32
  let v114 : BitVec 32 := Scalar.muli arg16 c1_i32_189
  let v115 : BitVec 32 := Scalar.addi c0_i32_190 v114
  ![v115.toNat]
@[reducible] def k0_t20_loop : Scf.Loop 32 :=
  let c0_i32_115 : BitVec 32 := 0#32
  let c8_i32_116 : BitVec 32 := 8#32
  let v74 : BitVec 32 := Scalar.addi c0_i32_115 c8_i32_116
  let c1_i32_117 : BitVec 32 := 1#32
  ⟨c0_i32_115, v74, c1_i32_117⟩
def k0_mult20 (k0_t20 : Fin k0_t20_loop.trips) : BitVec 32 :=
  let c0_i32_190 : BitVec 32 := 0#32
  let c0_i32_115 : BitVec 32 := 0#32
  let c1_i32_117 : BitVec 32 := 1#32
  let arg16 : BitVec 32 := Scf.iv c0_i32_115 c1_i32_117 k0_t20
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  v116
def k0_off61 (k0_t20 : Fin k0_t20_loop.trips) : Fin 2 → Nat :=
  let c0_i32_192 : BitVec 32 := 0#32
  let c0_i32_190 : BitVec 32 := 0#32
  let c0_i32_115 : BitVec 32 := 0#32
  let c1_i32_117 : BitVec 32 := 1#32
  let arg16 : BitVec 32 := Scf.iv c0_i32_115 c1_i32_117 k0_t20
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off62 (k0_t20 : Fin k0_t20_loop.trips) : Fin 2 → Nat :=
  let c0_i32_194 : BitVec 32 := 0#32
  let c0_i32_190 : BitVec 32 := 0#32
  let c0_i32_115 : BitVec 32 := 0#32
  let c1_i32_117 : BitVec 32 := 1#32
  let arg16 : BitVec 32 := Scf.iv c0_i32_115 c1_i32_117 k0_t20
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off63 (k0_t20 : Fin k0_t20_loop.trips) : Fin 1 → Nat :=
  let c0_i32_190 : BitVec 32 := 0#32
  let c0_i32_115 : BitVec 32 := 0#32
  let c1_i32_117 : BitVec 32 := 1#32
  let arg16 : BitVec 32 := Scf.iv c0_i32_115 c1_i32_117 k0_t20
  let c1_i32_189 : BitVec 32 := 1#32
  let v114 : BitVec 32 := Scalar.muli arg16 c1_i32_189
  let v115 : BitVec 32 := Scalar.addi c0_i32_190 v114
  ![v115.toNat]
@[reducible] def k0_t21_loop : Scf.Loop 32 :=
  let c0_i32_123 : BitVec 32 := 0#32
  let c8_i32_124 : BitVec 32 := 8#32
  let v80 : BitVec 32 := Scalar.addi c0_i32_123 c8_i32_124
  let c1_i32_125 : BitVec 32 := 1#32
  ⟨c0_i32_123, v80, c1_i32_125⟩
def k0_mult21 (k0_t21 : Fin k0_t21_loop.trips) : BitVec 32 :=
  let c0_i32_190 : BitVec 32 := 0#32
  let c0_i32_123 : BitVec 32 := 0#32
  let c1_i32_125 : BitVec 32 := 1#32
  let arg16 : BitVec 32 := Scf.iv c0_i32_123 c1_i32_125 k0_t21
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  v116
def k0_off64 (k0_t21 : Fin k0_t21_loop.trips) : Fin 2 → Nat :=
  let c0_i32_192 : BitVec 32 := 0#32
  let c0_i32_190 : BitVec 32 := 0#32
  let c0_i32_123 : BitVec 32 := 0#32
  let c1_i32_125 : BitVec 32 := 1#32
  let arg16 : BitVec 32 := Scf.iv c0_i32_123 c1_i32_125 k0_t21
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off65 (k0_t21 : Fin k0_t21_loop.trips) : Fin 2 → Nat :=
  let c0_i32_194 : BitVec 32 := 0#32
  let c0_i32_190 : BitVec 32 := 0#32
  let c0_i32_123 : BitVec 32 := 0#32
  let c1_i32_125 : BitVec 32 := 1#32
  let arg16 : BitVec 32 := Scf.iv c0_i32_123 c1_i32_125 k0_t21
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off66 (k0_t21 : Fin k0_t21_loop.trips) : Fin 1 → Nat :=
  let c0_i32_190 : BitVec 32 := 0#32
  let c0_i32_123 : BitVec 32 := 0#32
  let c1_i32_125 : BitVec 32 := 1#32
  let arg16 : BitVec 32 := Scf.iv c0_i32_123 c1_i32_125 k0_t21
  let c1_i32_189 : BitVec 32 := 1#32
  let v114 : BitVec 32 := Scalar.muli arg16 c1_i32_189
  let v115 : BitVec 32 := Scalar.addi c0_i32_190 v114
  ![v115.toNat]
@[reducible] def k0_t22_loop : Scf.Loop 32 :=
  let c0_i32_127 : BitVec 32 := 0#32
  let c8_i32_128 : BitVec 32 := 8#32
  let v81 : BitVec 32 := Scalar.addi c0_i32_127 c8_i32_128
  let c1_i32_129 : BitVec 32 := 1#32
  ⟨c0_i32_127, v81, c1_i32_129⟩
def k0_mult22 (k0_t22 : Fin k0_t22_loop.trips) : BitVec 32 :=
  let c0_i32_190 : BitVec 32 := 0#32
  let c0_i32_127 : BitVec 32 := 0#32
  let c1_i32_129 : BitVec 32 := 1#32
  let arg16 : BitVec 32 := Scf.iv c0_i32_127 c1_i32_129 k0_t22
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  v116
def k0_off67 (k0_t22 : Fin k0_t22_loop.trips) : Fin 2 → Nat :=
  let c0_i32_192 : BitVec 32 := 0#32
  let c0_i32_190 : BitVec 32 := 0#32
  let c0_i32_127 : BitVec 32 := 0#32
  let c1_i32_129 : BitVec 32 := 1#32
  let arg16 : BitVec 32 := Scf.iv c0_i32_127 c1_i32_129 k0_t22
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off68 (k0_t22 : Fin k0_t22_loop.trips) : Fin 2 → Nat :=
  let c0_i32_194 : BitVec 32 := 0#32
  let c0_i32_190 : BitVec 32 := 0#32
  let c0_i32_127 : BitVec 32 := 0#32
  let c1_i32_129 : BitVec 32 := 1#32
  let arg16 : BitVec 32 := Scf.iv c0_i32_127 c1_i32_129 k0_t22
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off69 (k0_t22 : Fin k0_t22_loop.trips) : Fin 1 → Nat :=
  let c0_i32_190 : BitVec 32 := 0#32
  let c0_i32_127 : BitVec 32 := 0#32
  let c1_i32_129 : BitVec 32 := 1#32
  let arg16 : BitVec 32 := Scf.iv c0_i32_127 c1_i32_129 k0_t22
  let c1_i32_189 : BitVec 32 := 1#32
  let v114 : BitVec 32 := Scalar.muli arg16 c1_i32_189
  let v115 : BitVec 32 := Scalar.addi c0_i32_190 v114
  ![v115.toNat]
@[reducible] def k0_t23_loop : Scf.Loop 32 :=
  let c0_i32_135 : BitVec 32 := 0#32
  let c8_i32_136 : BitVec 32 := 8#32
  let v87 : BitVec 32 := Scalar.addi c0_i32_135 c8_i32_136
  let c1_i32_137 : BitVec 32 := 1#32
  ⟨c0_i32_135, v87, c1_i32_137⟩
def k0_mult23 (k0_t23 : Fin k0_t23_loop.trips) : BitVec 32 :=
  let c0_i32_190 : BitVec 32 := 0#32
  let c0_i32_135 : BitVec 32 := 0#32
  let c1_i32_137 : BitVec 32 := 1#32
  let arg16 : BitVec 32 := Scf.iv c0_i32_135 c1_i32_137 k0_t23
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  v116
def k0_off70 (k0_t23 : Fin k0_t23_loop.trips) : Fin 2 → Nat :=
  let c0_i32_192 : BitVec 32 := 0#32
  let c0_i32_190 : BitVec 32 := 0#32
  let c0_i32_135 : BitVec 32 := 0#32
  let c1_i32_137 : BitVec 32 := 1#32
  let arg16 : BitVec 32 := Scf.iv c0_i32_135 c1_i32_137 k0_t23
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off71 (k0_t23 : Fin k0_t23_loop.trips) : Fin 2 → Nat :=
  let c0_i32_194 : BitVec 32 := 0#32
  let c0_i32_190 : BitVec 32 := 0#32
  let c0_i32_135 : BitVec 32 := 0#32
  let c1_i32_137 : BitVec 32 := 1#32
  let arg16 : BitVec 32 := Scf.iv c0_i32_135 c1_i32_137 k0_t23
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off72 (k0_t23 : Fin k0_t23_loop.trips) : Fin 1 → Nat :=
  let c0_i32_190 : BitVec 32 := 0#32
  let c0_i32_135 : BitVec 32 := 0#32
  let c1_i32_137 : BitVec 32 := 1#32
  let arg16 : BitVec 32 := Scf.iv c0_i32_135 c1_i32_137 k0_t23
  let c1_i32_189 : BitVec 32 := 1#32
  let v114 : BitVec 32 := Scalar.muli arg16 c1_i32_189
  let v115 : BitVec 32 := Scalar.addi c0_i32_190 v114
  ![v115.toNat]
@[reducible] def k0_t24_loop : Scf.Loop 32 :=
  let c0_i32_139 : BitVec 32 := 0#32
  let c8_i32_140 : BitVec 32 := 8#32
  let v88 : BitVec 32 := Scalar.addi c0_i32_139 c8_i32_140
  let c1_i32_141 : BitVec 32 := 1#32
  ⟨c0_i32_139, v88, c1_i32_141⟩
def k0_mult24 (k0_t24 : Fin k0_t24_loop.trips) : BitVec 32 :=
  let c0_i32_190 : BitVec 32 := 0#32
  let c0_i32_139 : BitVec 32 := 0#32
  let c1_i32_141 : BitVec 32 := 1#32
  let arg16 : BitVec 32 := Scf.iv c0_i32_139 c1_i32_141 k0_t24
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  v116
def k0_off73 (k0_t24 : Fin k0_t24_loop.trips) : Fin 2 → Nat :=
  let c0_i32_192 : BitVec 32 := 0#32
  let c0_i32_190 : BitVec 32 := 0#32
  let c0_i32_139 : BitVec 32 := 0#32
  let c1_i32_141 : BitVec 32 := 1#32
  let arg16 : BitVec 32 := Scf.iv c0_i32_139 c1_i32_141 k0_t24
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off74 (k0_t24 : Fin k0_t24_loop.trips) : Fin 2 → Nat :=
  let c0_i32_194 : BitVec 32 := 0#32
  let c0_i32_190 : BitVec 32 := 0#32
  let c0_i32_139 : BitVec 32 := 0#32
  let c1_i32_141 : BitVec 32 := 1#32
  let arg16 : BitVec 32 := Scf.iv c0_i32_139 c1_i32_141 k0_t24
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off75 (k0_t24 : Fin k0_t24_loop.trips) : Fin 1 → Nat :=
  let c0_i32_190 : BitVec 32 := 0#32
  let c0_i32_139 : BitVec 32 := 0#32
  let c1_i32_141 : BitVec 32 := 1#32
  let arg16 : BitVec 32 := Scf.iv c0_i32_139 c1_i32_141 k0_t24
  let c1_i32_189 : BitVec 32 := 1#32
  let v114 : BitVec 32 := Scalar.muli arg16 c1_i32_189
  let v115 : BitVec 32 := Scalar.addi c0_i32_190 v114
  ![v115.toNat]
@[reducible] def k0_t25_loop : Scf.Loop 32 :=
  let c0_i32_147 : BitVec 32 := 0#32
  let c8_i32_148 : BitVec 32 := 8#32
  let v94 : BitVec 32 := Scalar.addi c0_i32_147 c8_i32_148
  let c1_i32_149 : BitVec 32 := 1#32
  ⟨c0_i32_147, v94, c1_i32_149⟩
def k0_mult25 (k0_t25 : Fin k0_t25_loop.trips) : BitVec 32 :=
  let c0_i32_190 : BitVec 32 := 0#32
  let c0_i32_147 : BitVec 32 := 0#32
  let c1_i32_149 : BitVec 32 := 1#32
  let arg16 : BitVec 32 := Scf.iv c0_i32_147 c1_i32_149 k0_t25
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  v116
def k0_off76 (k0_t25 : Fin k0_t25_loop.trips) : Fin 2 → Nat :=
  let c0_i32_192 : BitVec 32 := 0#32
  let c0_i32_190 : BitVec 32 := 0#32
  let c0_i32_147 : BitVec 32 := 0#32
  let c1_i32_149 : BitVec 32 := 1#32
  let arg16 : BitVec 32 := Scf.iv c0_i32_147 c1_i32_149 k0_t25
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off77 (k0_t25 : Fin k0_t25_loop.trips) : Fin 2 → Nat :=
  let c0_i32_194 : BitVec 32 := 0#32
  let c0_i32_190 : BitVec 32 := 0#32
  let c0_i32_147 : BitVec 32 := 0#32
  let c1_i32_149 : BitVec 32 := 1#32
  let arg16 : BitVec 32 := Scf.iv c0_i32_147 c1_i32_149 k0_t25
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off78 (k0_t25 : Fin k0_t25_loop.trips) : Fin 1 → Nat :=
  let c0_i32_190 : BitVec 32 := 0#32
  let c0_i32_147 : BitVec 32 := 0#32
  let c1_i32_149 : BitVec 32 := 1#32
  let arg16 : BitVec 32 := Scf.iv c0_i32_147 c1_i32_149 k0_t25
  let c1_i32_189 : BitVec 32 := 1#32
  let v114 : BitVec 32 := Scalar.muli arg16 c1_i32_189
  let v115 : BitVec 32 := Scalar.addi c0_i32_190 v114
  ![v115.toNat]
@[reducible] def k0_t26_loop : Scf.Loop 32 :=
  let c0_i32_151 : BitVec 32 := 0#32
  let c8_i32_152 : BitVec 32 := 8#32
  let v95 : BitVec 32 := Scalar.addi c0_i32_151 c8_i32_152
  let c1_i32_153 : BitVec 32 := 1#32
  ⟨c0_i32_151, v95, c1_i32_153⟩
def k0_mult26 (k0_t26 : Fin k0_t26_loop.trips) : BitVec 32 :=
  let c0_i32_190 : BitVec 32 := 0#32
  let c0_i32_151 : BitVec 32 := 0#32
  let c1_i32_153 : BitVec 32 := 1#32
  let arg16 : BitVec 32 := Scf.iv c0_i32_151 c1_i32_153 k0_t26
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  v116
def k0_off79 (k0_t26 : Fin k0_t26_loop.trips) : Fin 2 → Nat :=
  let c0_i32_192 : BitVec 32 := 0#32
  let c0_i32_190 : BitVec 32 := 0#32
  let c0_i32_151 : BitVec 32 := 0#32
  let c1_i32_153 : BitVec 32 := 1#32
  let arg16 : BitVec 32 := Scf.iv c0_i32_151 c1_i32_153 k0_t26
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off80 (k0_t26 : Fin k0_t26_loop.trips) : Fin 2 → Nat :=
  let c0_i32_194 : BitVec 32 := 0#32
  let c0_i32_190 : BitVec 32 := 0#32
  let c0_i32_151 : BitVec 32 := 0#32
  let c1_i32_153 : BitVec 32 := 1#32
  let arg16 : BitVec 32 := Scf.iv c0_i32_151 c1_i32_153 k0_t26
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off81 (k0_t26 : Fin k0_t26_loop.trips) : Fin 1 → Nat :=
  let c0_i32_190 : BitVec 32 := 0#32
  let c0_i32_151 : BitVec 32 := 0#32
  let c1_i32_153 : BitVec 32 := 1#32
  let arg16 : BitVec 32 := Scf.iv c0_i32_151 c1_i32_153 k0_t26
  let c1_i32_189 : BitVec 32 := 1#32
  let v114 : BitVec 32 := Scalar.muli arg16 c1_i32_189
  let v115 : BitVec 32 := Scalar.addi c0_i32_190 v114
  ![v115.toNat]
@[reducible] def k0_t27_loop : Scf.Loop 32 :=
  let c0_i32_159 : BitVec 32 := 0#32
  let c8_i32_160 : BitVec 32 := 8#32
  let v101 : BitVec 32 := Scalar.addi c0_i32_159 c8_i32_160
  let c1_i32_161 : BitVec 32 := 1#32
  ⟨c0_i32_159, v101, c1_i32_161⟩
def k0_mult27 (k0_t27 : Fin k0_t27_loop.trips) : BitVec 32 :=
  let c0_i32_190 : BitVec 32 := 0#32
  let c0_i32_159 : BitVec 32 := 0#32
  let c1_i32_161 : BitVec 32 := 1#32
  let arg16 : BitVec 32 := Scf.iv c0_i32_159 c1_i32_161 k0_t27
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  v116
def k0_off82 (k0_t27 : Fin k0_t27_loop.trips) : Fin 2 → Nat :=
  let c0_i32_192 : BitVec 32 := 0#32
  let c0_i32_190 : BitVec 32 := 0#32
  let c0_i32_159 : BitVec 32 := 0#32
  let c1_i32_161 : BitVec 32 := 1#32
  let arg16 : BitVec 32 := Scf.iv c0_i32_159 c1_i32_161 k0_t27
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off83 (k0_t27 : Fin k0_t27_loop.trips) : Fin 2 → Nat :=
  let c0_i32_194 : BitVec 32 := 0#32
  let c0_i32_190 : BitVec 32 := 0#32
  let c0_i32_159 : BitVec 32 := 0#32
  let c1_i32_161 : BitVec 32 := 1#32
  let arg16 : BitVec 32 := Scf.iv c0_i32_159 c1_i32_161 k0_t27
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off84 (k0_t27 : Fin k0_t27_loop.trips) : Fin 1 → Nat :=
  let c0_i32_190 : BitVec 32 := 0#32
  let c0_i32_159 : BitVec 32 := 0#32
  let c1_i32_161 : BitVec 32 := 1#32
  let arg16 : BitVec 32 := Scf.iv c0_i32_159 c1_i32_161 k0_t27
  let c1_i32_189 : BitVec 32 := 1#32
  let v114 : BitVec 32 := Scalar.muli arg16 c1_i32_189
  let v115 : BitVec 32 := Scalar.addi c0_i32_190 v114
  ![v115.toNat]
@[reducible] def k0_t28_loop : Scf.Loop 32 :=
  let c0_i32_163 : BitVec 32 := 0#32
  let c8_i32_164 : BitVec 32 := 8#32
  let v102 : BitVec 32 := Scalar.addi c0_i32_163 c8_i32_164
  let c1_i32_165 : BitVec 32 := 1#32
  ⟨c0_i32_163, v102, c1_i32_165⟩
def k0_mult28 (k0_t28 : Fin k0_t28_loop.trips) : BitVec 32 :=
  let c0_i32_190 : BitVec 32 := 0#32
  let c0_i32_163 : BitVec 32 := 0#32
  let c1_i32_165 : BitVec 32 := 1#32
  let arg16 : BitVec 32 := Scf.iv c0_i32_163 c1_i32_165 k0_t28
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  v116
def k0_off85 (k0_t28 : Fin k0_t28_loop.trips) : Fin 2 → Nat :=
  let c0_i32_192 : BitVec 32 := 0#32
  let c0_i32_190 : BitVec 32 := 0#32
  let c0_i32_163 : BitVec 32 := 0#32
  let c1_i32_165 : BitVec 32 := 1#32
  let arg16 : BitVec 32 := Scf.iv c0_i32_163 c1_i32_165 k0_t28
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off86 (k0_t28 : Fin k0_t28_loop.trips) : Fin 2 → Nat :=
  let c0_i32_194 : BitVec 32 := 0#32
  let c0_i32_190 : BitVec 32 := 0#32
  let c0_i32_163 : BitVec 32 := 0#32
  let c1_i32_165 : BitVec 32 := 1#32
  let arg16 : BitVec 32 := Scf.iv c0_i32_163 c1_i32_165 k0_t28
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off87 (k0_t28 : Fin k0_t28_loop.trips) : Fin 1 → Nat :=
  let c0_i32_190 : BitVec 32 := 0#32
  let c0_i32_163 : BitVec 32 := 0#32
  let c1_i32_165 : BitVec 32 := 1#32
  let arg16 : BitVec 32 := Scf.iv c0_i32_163 c1_i32_165 k0_t28
  let c1_i32_189 : BitVec 32 := 1#32
  let v114 : BitVec 32 := Scalar.muli arg16 c1_i32_189
  let v115 : BitVec 32 := Scalar.addi c0_i32_190 v114
  ![v115.toNat]
@[reducible] def k0_t29_loop : Scf.Loop 32 :=
  let c0_i32_171 : BitVec 32 := 0#32
  let c8_i32_172 : BitVec 32 := 8#32
  let v108 : BitVec 32 := Scalar.addi c0_i32_171 c8_i32_172
  let c1_i32_173 : BitVec 32 := 1#32
  ⟨c0_i32_171, v108, c1_i32_173⟩
def k0_mult29 (k0_t29 : Fin k0_t29_loop.trips) : BitVec 32 :=
  let c0_i32_190 : BitVec 32 := 0#32
  let c0_i32_171 : BitVec 32 := 0#32
  let c1_i32_173 : BitVec 32 := 1#32
  let arg16 : BitVec 32 := Scf.iv c0_i32_171 c1_i32_173 k0_t29
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  v116
def k0_off88 (k0_t29 : Fin k0_t29_loop.trips) : Fin 2 → Nat :=
  let c0_i32_192 : BitVec 32 := 0#32
  let c0_i32_190 : BitVec 32 := 0#32
  let c0_i32_171 : BitVec 32 := 0#32
  let c1_i32_173 : BitVec 32 := 1#32
  let arg16 : BitVec 32 := Scf.iv c0_i32_171 c1_i32_173 k0_t29
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off89 (k0_t29 : Fin k0_t29_loop.trips) : Fin 2 → Nat :=
  let c0_i32_194 : BitVec 32 := 0#32
  let c0_i32_190 : BitVec 32 := 0#32
  let c0_i32_171 : BitVec 32 := 0#32
  let c1_i32_173 : BitVec 32 := 1#32
  let arg16 : BitVec 32 := Scf.iv c0_i32_171 c1_i32_173 k0_t29
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off90 (k0_t29 : Fin k0_t29_loop.trips) : Fin 1 → Nat :=
  let c0_i32_190 : BitVec 32 := 0#32
  let c0_i32_171 : BitVec 32 := 0#32
  let c1_i32_173 : BitVec 32 := 1#32
  let arg16 : BitVec 32 := Scf.iv c0_i32_171 c1_i32_173 k0_t29
  let c1_i32_189 : BitVec 32 := 1#32
  let v114 : BitVec 32 := Scalar.muli arg16 c1_i32_189
  let v115 : BitVec 32 := Scalar.addi c0_i32_190 v114
  ![v115.toNat]
@[reducible] def k0_t30_loop : Scf.Loop 32 :=
  let c0_i32_177 : BitVec 32 := 0#32
  let c8_i32_178 : BitVec 32 := 8#32
  let v111 : BitVec 32 := Scalar.addi c0_i32_177 c8_i32_178
  let c1_i32_179 : BitVec 32 := 1#32
  ⟨c0_i32_177, v111, c1_i32_179⟩
def k0_mult30 (k0_t30 : Fin k0_t30_loop.trips) : BitVec 32 :=
  let c0_i32_190 : BitVec 32 := 0#32
  let c0_i32_177 : BitVec 32 := 0#32
  let c1_i32_179 : BitVec 32 := 1#32
  let arg16 : BitVec 32 := Scf.iv c0_i32_177 c1_i32_179 k0_t30
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  v116
def k0_off91 (k0_t30 : Fin k0_t30_loop.trips) : Fin 2 → Nat :=
  let c0_i32_192 : BitVec 32 := 0#32
  let c0_i32_190 : BitVec 32 := 0#32
  let c0_i32_177 : BitVec 32 := 0#32
  let c1_i32_179 : BitVec 32 := 1#32
  let arg16 : BitVec 32 := Scf.iv c0_i32_177 c1_i32_179 k0_t30
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off92 (k0_t30 : Fin k0_t30_loop.trips) : Fin 2 → Nat :=
  let c0_i32_194 : BitVec 32 := 0#32
  let c0_i32_190 : BitVec 32 := 0#32
  let c0_i32_177 : BitVec 32 := 0#32
  let c1_i32_179 : BitVec 32 := 1#32
  let arg16 : BitVec 32 := Scf.iv c0_i32_177 c1_i32_179 k0_t30
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off93 (k0_t30 : Fin k0_t30_loop.trips) : Fin 1 → Nat :=
  let c0_i32_190 : BitVec 32 := 0#32
  let c0_i32_177 : BitVec 32 := 0#32
  let c1_i32_179 : BitVec 32 := 1#32
  let arg16 : BitVec 32 := Scf.iv c0_i32_177 c1_i32_179 k0_t30
  let c1_i32_189 : BitVec 32 := 1#32
  let v114 : BitVec 32 := Scalar.muli arg16 c1_i32_189
  let v115 : BitVec 32 := Scalar.addi c0_i32_190 v114
  ![v115.toNat]
@[reducible] def k0_t31_loop : Scf.Loop 32 :=
  let c0_i32_181 : BitVec 32 := 0#32
  let c8_i32_182 : BitVec 32 := 8#32
  let v112 : BitVec 32 := Scalar.addi c0_i32_181 c8_i32_182
  let c1_i32_183 : BitVec 32 := 1#32
  ⟨c0_i32_181, v112, c1_i32_183⟩
def k0_mult31 (k0_t31 : Fin k0_t31_loop.trips) : BitVec 32 :=
  let c0_i32_190 : BitVec 32 := 0#32
  let c0_i32_181 : BitVec 32 := 0#32
  let c1_i32_183 : BitVec 32 := 1#32
  let arg16 : BitVec 32 := Scf.iv c0_i32_181 c1_i32_183 k0_t31
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  v116
def k0_off94 (k0_t31 : Fin k0_t31_loop.trips) : Fin 2 → Nat :=
  let c0_i32_192 : BitVec 32 := 0#32
  let c0_i32_190 : BitVec 32 := 0#32
  let c0_i32_181 : BitVec 32 := 0#32
  let c1_i32_183 : BitVec 32 := 1#32
  let arg16 : BitVec 32 := Scf.iv c0_i32_181 c1_i32_183 k0_t31
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off95 (k0_t31 : Fin k0_t31_loop.trips) : Fin 2 → Nat :=
  let c0_i32_194 : BitVec 32 := 0#32
  let c0_i32_190 : BitVec 32 := 0#32
  let c0_i32_181 : BitVec 32 := 0#32
  let c1_i32_183 : BitVec 32 := 1#32
  let arg16 : BitVec 32 := Scf.iv c0_i32_181 c1_i32_183 k0_t31
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off96 (k0_t31 : Fin k0_t31_loop.trips) : Fin 1 → Nat :=
  let c0_i32_190 : BitVec 32 := 0#32
  let c0_i32_181 : BitVec 32 := 0#32
  let c1_i32_183 : BitVec 32 := 1#32
  let arg16 : BitVec 32 := Scf.iv c0_i32_181 c1_i32_183 k0_t31
  let c1_i32_189 : BitVec 32 := 1#32
  let v114 : BitVec 32 := Scalar.muli arg16 c1_i32_189
  let v115 : BitVec 32 := Scalar.addi c0_i32_190 v114
  ![v115.toNat]
@[reducible] def k0_t32_loop : Scf.Loop 32 :=
  let c0_i32_185 : BitVec 32 := 0#32
  let c8_i32_186 : BitVec 32 := 8#32
  let v113 : BitVec 32 := Scalar.addi c0_i32_185 c8_i32_186
  let c1_i32_187 : BitVec 32 := 1#32
  ⟨c0_i32_185, v113, c1_i32_187⟩
def k0_mult32 (k0_t32 : Fin k0_t32_loop.trips) : BitVec 32 :=
  let c0_i32_190 : BitVec 32 := 0#32
  let c0_i32_185 : BitVec 32 := 0#32
  let c1_i32_187 : BitVec 32 := 1#32
  let arg16 : BitVec 32 := Scf.iv c0_i32_185 c1_i32_187 k0_t32
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  v116
def k0_off97 (k0_t32 : Fin k0_t32_loop.trips) : Fin 2 → Nat :=
  let c0_i32_192 : BitVec 32 := 0#32
  let c0_i32_190 : BitVec 32 := 0#32
  let c0_i32_185 : BitVec 32 := 0#32
  let c1_i32_187 : BitVec 32 := 1#32
  let arg16 : BitVec 32 := Scf.iv c0_i32_185 c1_i32_187 k0_t32
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off98 (k0_t32 : Fin k0_t32_loop.trips) : Fin 2 → Nat :=
  let c0_i32_194 : BitVec 32 := 0#32
  let c0_i32_190 : BitVec 32 := 0#32
  let c0_i32_185 : BitVec 32 := 0#32
  let c1_i32_187 : BitVec 32 := 1#32
  let arg16 : BitVec 32 := Scf.iv c0_i32_185 c1_i32_187 k0_t32
  let c1_i32_189 : BitVec 32 := 1#32
  let v114 : BitVec 32 := Scalar.muli arg16 c1_i32_189
  let v115 : BitVec 32 := Scalar.addi c0_i32_190 v114
  let c128_i32_191 : BitVec 32 := 128#32
  let v116 : BitVec 32 := Scalar.muli v115 c128_i32_191
  let v117 : BitVec 32 := v116
  ![0, v117.toNat]
def k0_off99 (k0_t32 : Fin k0_t32_loop.trips) : Fin 1 → Nat :=
  let c0_i32_190 : BitVec 32 := 0#32
  let c0_i32_185 : BitVec 32 := 0#32
  let c1_i32_187 : BitVec 32 := 1#32
  let arg16 : BitVec 32 := Scf.iv c0_i32_185 c1_i32_187 k0_t32
  let c1_i32_189 : BitVec 32 := 1#32
  let v114 : BitVec 32 := Scalar.muli arg16 c1_i32_189
  let v115 : BitVec 32 := Scalar.addi c0_i32_190 v114
  ![v115.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== DispatchReferenceIdeal.lean ====
abbrev S8192x1024 : Shape := ⟨2, ![8192, 1024]⟩
abbrev S8192x2 : Shape := ⟨2, ![8192, 2]⟩
abbrev S8192x1x1024 : Shape := ⟨3, ![8192, 1, 1024]⟩
abbrev S8192x2x1024 : Shape := ⟨3, ![8192, 2, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2, .i32⟩
  | .hbm, ⟨2, _⟩ => ⟨S8192x1x1024, .f32⟩
  | .hbm, ⟨3, _⟩ => ⟨S8192x2x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Precondition.lean ====
/-
  What the precondition says of one position: it names a row of the expert output.

  The precondition is printed as one bit, the conjunction over all positions of two signed comparisons. The bit being
  one makes both comparisons hold at each position (`row_lt`).
-/
module

public import proofs.«01_k».proof.Proof.Gen.Pre_dest_in_rows
public import Idealize.ShloMosaic.Lib.ReduceAll

@[expose] public section

noncomputable section

namespace Cert.Proof

open Idealize.ShloMosaic Cert.Pre_dest_in_rows

variable {F : FTy → Type} [FloatOps F]

/-- A word at least zero and below 18432, both read signed, is below 18432 read unsigned. -/
theorem lt_of_bits (v : BitVec 32) (e : IntOp.andi (IntOp.cmpi .sge v 0#32) (IntOp.cmpi .slt v 18432#32) = 1#1) :
    v.toNat < 18432 := by
  have hb : ∀ p q : Bool, IntOp.andi (BitVec.ofBool p) (BitVec.ofBool q) = 1#1 → p = true ∧ q = true := by decide
  obtain ⟨h0, h1⟩ := hb _ _ e
  simp only [BitVec.sle_eq_decide, BitVec.slt_eq_decide, decide_eq_true_eq, BitVec.toInt_eq_toNat_cond,
    BitVec.toNat_ofNat, Nat.reducePow, Nat.reduceMod] at h0 h1
  omega

/-- Where the precondition's bit is one, every position names a row. -/
theorem row_lt (x0 : FVec F S18432x1024 .f32) (x1 : IVec S16384 32) (x2 x3 : FVec F S8192 .f32)
    (h : Cert.Pre_dest_in_rows.fn x0 x1 x2 x3 = fun _ => 1#1) (j : S16384.Idx) : (x1 j).toNat < 18432 := by
  have : Subsingleton S_.Idx := ⟨fun _ _ => funext fun a => a.elim0⟩
  refine lt_of_bits (x1 j) ?_
  exact Host.reduce_andi_all _ _ _ _ (Shape.Idx.first Cert.Pre_dest_in_rows.Gen.h_S_) (congrFun h _) j

end Cert.Proof

end
-- ==== Proof.KernelIdealTile.lean ====
/-
  The tile program of the combine call, written as the loop it is. The printed program says the sixteen chunks of a
  tile one after the other; here they are one definition `chunk` at the chunk number, with the two-slot buffers
  chosen by its parity, and `tile_eq` says the printed program is the prologue, the sixteen chunks and the epilogue.

  One tile owns 256 tokens, in 16 chunks of 16. A chunk's 32 row numbers are copied to an index list, the 32 rows of
  the expert output are gathered by eight column streams into a row buffer, two rows at a time are weighted and added
  into an output buffer, and that is copied to the chunk's rows of the result. The gather of chunk `j + 1` is started
  before chunk `j` is awaited; the copy of chunk `j - 2` is awaited before its output buffer is written again.
-/
module

public import proofs.«01_k».proof.Defs
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen
open Idealize.ShloMosaic Idealize.SL.Sem

variable {F : FTy → Type} [FloatOps F]

/-! ## The buffers a tile names -/

abbrev ysM : Memref sig .scVector .hbm S18432x1024 .f32 := Memref.whole main_arg0_scv
abbrev destM : Memref sig .scVector .hbm S16384 .i32 := Memref.whole main_arg1_scv
abbrev weM : Memref sig .scVector .hbm S8192 .f32 := Memref.whole main_arg2_scv
abbrev woM : Memref sig .scVector .hbm S8192 .f32 := Memref.whole main_arg3_scv
abbrev outM : Memref sig .scVector .hbm S8192x1024 .f32 := Memref.whole main_v0_scv
abbrev wevM : Memref sig .scVector .vmem S256 .f32 := Memref.whole cc0_scratch0
abbrev wovM : Memref sig .scVector .vmem S256 .f32 := Memref.whole cc0_scratch1

/-- The two slots of a double buffer, by parity. -/
def idxM : Bool → Memref sig .scVector .vmem S32 .i32
  | false => Memref.whole cc0_scratch2
  | true => Memref.whole cc0_scratch3
def rbM : Bool → Memref sig .scVector .vmem S32x1024 .f32
  | false => Memref.whole cc0_scratch4
  | true => Memref.whole cc0_scratch5
def obM : Bool → Memref sig .scVector .vmem S16x1024 .f32
  | false => Memref.whole cc0_scratch6
  | true => Memref.whole cc0_scratch7
def gsem : Bool → DmaSems sig S8
  | false => cc0_scratch8
  | true => cc0_scratch9
def osem : Bool → DmaSems sig S_
  | false => cc0_scratch10
  | true => cc0_scratch11

theorem idxM_whole (p : Bool) : (idxM p).IsWhole := by cases p <;> exact Memref.isWhole_whole _
theorem obM_whole (p : Bool) : (obM p).IsWhole := by cases p <;> exact Memref.isWhole_whole _

/-- The semaphore of each copy that is awaited where it is issued. -/
def fsem : Fin 18 → DmaSems sig S_ := ![cc0_scoped0, cc0_scoped1, cc0_scoped2, cc0_scoped3, cc0_scoped4, cc0_scoped5, cc0_scoped6,
  cc0_scoped7, cc0_scoped8, cc0_scoped9, cc0_scoped10, cc0_scoped11, cc0_scoped12, cc0_scoped13, cc0_scoped14, cc0_scoped15,
  cc0_scoped16, cc0_scoped17]

/-! ## The pieces of the program -/

abbrev Pg (F : FTy → Type) (L : grid0.Coords) (α : Type) : Type 1 :=
  Prog (TpuEff nD τ sig (Elt F) Λ₀ (.scVector ((L 0).castLE hcore0) ((L 1).castLE hsub0))) α

/-- Column block `t` of the expert output, of a row buffer, and its semaphore. -/
abbrev srcCol (src : Memref sig .scVector .hbm S18432x1024 .f32) (t : Fin k0_t1_loop.trips) : Memref sig .scVector .hbm S18432x128 .f32 :=
  src.slice (Rect.unit (s := S18432x1024) (k0_off4 t) S18432x128.size (k0_off4_inb t)) (fun _ => rfl)
abbrev dstCol (rb : Memref sig .scVector .vmem S32x1024 .f32) (t : Fin k0_t1_loop.trips) : Memref sig .scVector .vmem S32x128 .f32 :=
  rb.slice (Rect.unit (s := S32x1024) (k0_off3 t) S32x128.size (k0_off3_inb t)) (fun _ => rfl)
abbrev colSem (sem : DmaSems sig S8) (t : Fin k0_t1_loop.trips) : DmaSem sig :=
  ((sem.slice (Rect.unit (s := S8) (k0_off5 t) S1.size (k0_off5_inb t))).squeeze S_ squeezes_S1_S_).sem

def issueBody (L : grid0.Coords) (src : Memref sig .scVector .hbm S18432x1024 .f32) (idx : Memref sig .scVector .vmem S32 .i32)
    (rb : Memref sig .scVector .vmem S32x1024 .f32) (sem : DmaSems sig S8) : Fin k0_t1_loop.trips → Unit → Pg F L Unit := fun t _ => do
  SparseCore.enqueueIndirectGather rfl (srcCol src t) (dstCol rb t) gathers_S18432x128_S32x128 idx rfl (colSem sem t) (View.wordExact_bits rfl) rfl (Or.inl rfl)
  pure ⟨⟩

def waitBody (L : grid0.Coords) (src : Memref sig .scVector .hbm S18432x1024 .f32) (rb : Memref sig .scVector .vmem S32x1024 .f32) (sem : DmaSems sig S8) :
    Fin k0_t1_loop.trips → Unit → Pg F L Unit := fun t _ => do
  SparseCore.waitIndirectGather (colSem sem t) (srcCol src t) (dstCol rb t) (View.wordExact_bits rfl) (View.wordExact_bits rfl)
  pure ⟨⟩

def colBody (L : grid0.Coords) (rb : Memref sig .scVector .vmem S32x1024 .f32) (ob : Memref sig .scVector .vmem S16x1024 .f32)
    (r : Fin k0_t4_loop.trips) (w0 w1 : Vec F S16 .f32) : Fin k0_t5_loop.trips → BitVec 32 → Pg F L (BitVec 32) := fun c _ => do
  let a : Vec F S1x16 .f32 ← Prog.lift (.load rb (Rect.unit (s := S32x1024) (k0_off13 r c) S1x16.size (k0_off13_inb r c)).toLoadRect (View.loadsAt_vmem h_S1x16))
  let b : Vec F S1x16 .f32 ← Prog.lift (.load rb (Rect.unit (s := S32x1024) (k0_off14 r c) S1x16.size (k0_off14_inb r c)).toLoadRect (View.loadsAt_vmem h_S1x16))
  let _ : Vec F S1x16 .f32 ← Prog.lift (.load ob (Rect.unit (s := S16x1024) (k0_off15 r c) S1x16.size (k0_off15_inb r c)).toLoadRect (View.loadsAt_vmem h_S1x16))
  Prog.lift (.store ob (Rect.unit (s := S16x1024) (k0_off15 r c) S1x16.size (k0_off15_inb r c)) (k0_pay1 w0 w1 a b) Finset.univ (View.stores_vmem_bits_univ h_S1x16 rfl) (.inl rfl))
  pure 0#32

def rowBody (L : grid0.Coords) (wev wov : Memref sig .scVector .vmem S256 .f32) (rb : Memref sig .scVector .vmem S32x1024 .f32)
    (ob : Memref sig .scVector .vmem S16x1024 .f32) (base : BitVec 32) : Fin k0_t4_loop.trips → BitVec 32 → Pg F L (BitVec 32) := fun r _ => do
  have v : IVec S16 32 := broadcast S16 (Scalar.addi base (Scf.iv 0#32 1#32 r))
  have hw : k0_chk1 v := (← Prog.lift (TpuEff.assume (k0_chk1 v) (k0_chk1.dec v))).down
  let w0 : Vec F S16 .f32 ← SparseCore.vectorLoadIdx wev ![v] (k0_idx1_inb v hw) (View.loads_vmem h_S256)
  let w1 : Vec F S16 .f32 ← SparseCore.vectorLoadIdx wov ![v] (k0_idx2_inb v hw) (View.loads_vmem h_S256)
  Scf.Loop.for k0_t5_loop k0_t5_ok 0#32 (colBody L rb ob r w0 w1) >>= fun x => pure x

/-- A copy into tile memory, awaited at once. -/
def copyIn (L : grid0.Coords) {s : Shape} {e : EltTy} (src : Memref sig .scVector .hbm s e) (dst : Memref sig .scVector .vmem s e) (sem : DmaSems sig S_)
    (hs : src.view.WordExact) (hd : dst.view.WordExact) : Pg F L PUnit := do
  Prog.lift (.enqueueDma src (.here dst) (.dma sem.sem) hs hd ⟨Or.inl rfl, trivial⟩)
  Prog.lift (.waitDma2 sem.sem src dst hs hd)

/-- This tile's weights, the row numbers of its chunk 0 and of its chunk `j + 1`, and the result rows of its chunk `j`. -/
abbrev weSl (m : Memref sig .scVector .hbm S8192 .f32) (L : grid0.Coords) : Memref sig .scVector .hbm S256 .f32 :=
  m.slice (Rect.unit (s := S8192) (k0_off1 L) S256.size (k0_off1_inb L)) (fun _ => rfl)
abbrev destSl0 (L : grid0.Coords) : Memref sig .scVector .hbm S32 .i32 :=
  destM.slice (Rect.unit (s := S16384) (k0_off2 L) S32.size (k0_off2_inb L)) (fun _ => rfl)
abbrev destSl (L : grid0.Coords) (j : Fin 15) : Memref sig .scVector .hbm S32 .i32 :=
  destM.slice (Rect.unit (s := S16384) (k0_off6 L (BitVec.ofNat 32 (32 + 32 * j.val))) S32.size (k0_off6_inb L j)) (fun _ => rfl)
abbrev outSl (L : grid0.Coords) (j : Fin 16) : Memref sig .scVector .hbm S16x1024 .f32 :=
  outM.slice (Rect.unit (s := S8192x1024) (k0_off16 L (BitVec.ofNat 32 (16 * j.val))) S16x1024.size (k0_off16_inb L j)) (fun _ => rfl)

def par (j : ℕ) : Bool := j % 2 == 1

def issue (L : grid0.Coords) (p : Bool) : Pg F L Unit := Scf.Loop.for k0_t1_loop k0_t1_ok ⟨⟩ (issueBody L ysM (idxM p) (rbM p) (gsem p))
def await (L : grid0.Coords) (p : Bool) : Pg F L Unit := Scf.Loop.for k0_t1_loop k0_t1_ok ⟨⟩ (waitBody L ysM (rbM p) (gsem p))
def rows (L : grid0.Coords) (p : Bool) (base : BitVec 32) : Pg F L (BitVec 32) :=
  Scf.Loop.for k0_t4_loop k0_t4_ok 0#32 (rowBody L wevM wovM (rbM p) (obM p) base)
def outIssue (L : grid0.Coords) (j : Fin 16) : Pg F L PUnit :=
  Prog.lift (.enqueueDma (obM (par j)) (.here (outSl L j)) (.dma (osem (par j)).sem) (obM_whole _).wordExact (View.wordExact_bits rfl) ⟨Or.inl rfl, trivial⟩)
def outWait (L : grid0.Coords) (j : Fin 16) : Pg F L PUnit :=
  Prog.lift (.waitDma2 (osem (par j)).sem (obM (par j)) (outSl L j) (obM_whole _).wordExact (View.wordExact_bits rfl))

/-- The start of chunk `j + 1`: its row numbers fetched, its gather issued. -/
def ahead (L : grid0.Coords) (j : Fin 15) : Pg F L Unit := do
  copyIn L (destSl L j) (idxM (par (j.val + 1))) (fsem ⟨j.val + 3, by omega⟩) (View.wordExact_bits rfl) (idxM_whole _).wordExact
  issue L (par (j.val + 1))

def prologue (L : grid0.Coords) : Pg F L Unit := do
  copyIn L (weSl weM L) wevM (fsem 0) (View.wordExact_bits rfl) (Memref.isWhole_whole _).wordExact
  copyIn L (weSl woM L) wovM (fsem 1) (View.wordExact_bits rfl) (Memref.isWhole_whole _).wordExact
  copyIn L (destSl0 L) (idxM false) (fsem 2) (View.wordExact_bits rfl) (idxM_whole _).wordExact
  issue L false

/-- The start of chunk `j + 1`, where there is one, and the wait for the copy of chunk `j - 2`, where there is one. -/
def aheadAt (L : grid0.Coords) (j : ℕ) : Pg F L Unit := if h : j < 15 then ahead L ⟨j, h⟩ else pure ⟨⟩
def settle (L : grid0.Coords) (j : ℕ) (hj : j < 16) : Pg F L PUnit := if h : 2 ≤ j then outWait L ⟨j - 2, by omega⟩ else pure ⟨⟩

/-- Chunk `j` of the tile. -/
def chunk (L : grid0.Coords) (j : Fin 16) : Pg F L PUnit := do
  aheadAt L j.val
  await L (par j.val)
  settle L j.val j.isLt
  let _ ← rows L (par j.val) (BitVec.ofNat 32 (16 * j.val))
  outIssue L j

/-- The chunks from `j` on, `n` of them. -/
def chunks (L : grid0.Coords) : (n j : ℕ) → (j + n ≤ 16) → Pg F L PUnit
  | 0, _, _ => pure ⟨⟩
  | n + 1, j, h => do chunk L ⟨j, by omega⟩; chunks L n (j + 1) (by omega)

def tile (L : grid0.Coords) : Pg F L PUnit := do
  prologue L
  chunks L 16 0 (by omega)
  outWait L 14
  outWait L 15

abbrev printed (L : grid0.Coords) : Pg F L PUnit :=
  cc0_k L ysM (Memref.isWhole_whole _) destM (Memref.isWhole_whole _) weM (Memref.isWhole_whole _) woM (Memref.isWhole_whole _)
    outM (Memref.isWhole_whole _) wevM (Memref.isWhole_whole _) wovM (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _)
    cc0_scratch8 cc0_scratch9 cc0_scratch10 cc0_scratch11 cc0_scoped0 cc0_scoped1 cc0_scoped2 cc0_scoped3 cc0_scoped4 cc0_scoped5
    cc0_scoped6 cc0_scoped7 cc0_scoped8 cc0_scoped9 cc0_scoped10 cc0_scoped11 cc0_scoped12 cc0_scoped13 cc0_scoped14 cc0_scoped15
    cc0_scoped16 cc0_scoped17

theorem bind_ext {α β : Type} {L : grid0.Coords} {m m' : Pg F L α} {f f' : α → Pg F L β} (h : m = m') (h' : ∀ a, f a = f' a) : m >>= f = m' >>= f' := by
  rw [h, funext h']

set_option maxRecDepth 65536 in
set_option maxHeartbeats 4000000 in
theorem tile_eq (L : grid0.Coords) : printed (F := F) L = tile L := by
  simp only [printed, cc0_k_eq_skeleton, cc0_k_skel, k0_part1_eq_skeleton, k0_part1_skel, k0_part2_eq_skeleton, k0_part2_skel, k0_part3_eq_skeleton,
    k0_part3_skel, k0_part4_eq_skeleton, k0_part4_skel, k0_part5_eq_skeleton, k0_part5_skel, k0_part6_eq_skeleton, k0_part6_skel,
    k0_part7_eq_skeleton, k0_part7_skel, k0_part8_eq_skeleton, k0_part8_skel, k0_part9_eq_skeleton, k0_part9_skel, k0_part10_eq_skeleton,
    k0_part10_skel, tile, prologue, chunks, chunk, aheadAt, settle, ahead, copyIn, bind_assoc, pure_bind,
    Nat.reduceAdd, Nat.reduceLT, Nat.reduceLeDiff, Nat.reduceSub, dite_true, dite_false, ↓reduceDIte]
  repeat refine bind_ext (by rfl) (fun _ => ?_)
  rfl

end Cert.Proof.KernelIdeal

end
-- ==== Proof.KernelIdealBase.lean ====
/-
  What a tile's proof is said in: the set-up of the launch, the values the call computes, and the steps every piece of
  the tile is made of.

  The values are total functions of natural numbers taken modulo the arrays' extents, so that a chunk's contents can be
  named without carrying bounds: `rowsVal` is the row buffer once a chunk's gather has landed, `result` the whole result.

  The steps: a copy that is awaited where it is issued (`copyIn_spec`), the eight column streams of a gather issued
  (`issue_spec`) and awaited (`await_spec`). A loop of eight trips, each acting on its own column, is proved once
  (`loop_cells`).
-/
module

public import proofs.«01_k».proof.Proof.KernelIdealTile
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ShareLeaves

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The values -/

def at8192 (k : ℕ) : S8192.Idx := fun | 0 => ⟨k % 8192, Nat.mod_lt _ (by decide)⟩
def at16384 (k : ℕ) : S16384.Idx := fun | 0 => ⟨k % 16384, Nat.mod_lt _ (by decide)⟩
def atYs (r o : ℕ) : S18432x1024.Idx := fun | 0 => ⟨r % 18432, Nat.mod_lt _ (by decide)⟩ | 1 => ⟨o % 1024, Nat.mod_lt _ (by decide)⟩

section Values
variable [FloatOps F] (ys : Vec F S18432x1024 .f32) (dest : Vec F S16384 .i32) (we wo : Vec F S8192 .f32)

/-- The row of the expert output that entry `k` of the positions names. -/
def rowN (k : ℕ) : ℕ := BitVec.toNat (w := 32) (dest (at16384 k))
/-- The thirty-two positions from `b` on, the rows they name, and the 256 weights from `b` on. -/
def listVal (b : ℕ) : Vec F S32 .i32 := fun x => dest (at16384 (b + (x 0).val))
def rowsVal (b : ℕ) : Vec F S32x1024 .f32 := fun x => ys (atYs (rowN (F := F) dest (b + (x 0).val)) (x 1).val)
def wVal (w : Vec F S8192 .f32) (b : ℕ) : Vec F S256 .f32 := fun x => w (at8192 (b + (x 0).val))
/-- Entry `(t, o)` of the result: the two rows of token `t`, weighted and added. -/
def entry (t o : ℕ) : F .f32 :=
  FloatOps.addf (FloatOps.mulf (we (at8192 t)) (ys (atYs (rowN (F := F) dest (2 * t)) o)))
    (FloatOps.mulf (wo (at8192 t)) (ys (atYs (rowN (F := F) dest (2 * t + 1)) o)))
def result : Vec F S8192x1024 .f32 := fun x => entry ys dest we wo (x 0).val (x 1).val
/-- The sixteen rows of the result from `t` on. -/
def resVal (t : ℕ) : Vec F S16x1024 .f32 := fun x => entry ys dest we wo (t + (x 0).val) (x 1).val

end Values

/-! ## One tile -/

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The first token of tile `L`. -/
def tok (L : grid0.Coords) : ℕ := 512 * (L 1).val + 256 * (L 0).val

section Tile
variable [FloatOps F] (d : Dev nD) (L : grid0.Coords) (O : CellTallies nD τ sig (HIx 1)) (W : Waits sig (HIx 1))

abbrev WP {α : Type} (p : Pg F L α) (Q : α → sProp 𝕄) : sProp 𝕄 :=
  wp frame (wpE (defs₀ (F := F)) 𝒱₀ (thr d L) none) Set.univ p Q

theorem WP_pure {α : Type} (a : α) (Q : α → sProp 𝕄) : Q a ⊢ WP d L (pure a) Q := by
  show Q a ⊢ iprop(|={Set.univ}[frame]=> Q a)
  iintro H; imodintro; iexact H

theorem WP_wand {α : Type} (p : Pg F L α) (Q Q' : α → sProp 𝕄) : WP d L p Q ⊢ iprop((∀ a, Q a -∗ Q' a) -∗ WP d L p Q') := wp_wand frame _ _

/-- A piece and then the rest. -/
theorem WP_bind {α β : Type} (p : Pg F L α) (f : α → Pg F L β) (Q : α → sProp 𝕄) (Q' : β → sProp 𝕄) :
    WP d L p Q ⊢ iprop((∀ a, Q a -∗ WP d L (f a) Q') -∗ WP d L (p >>= f) Q') := by
  unfold WP; rw [wp_bind]; exact wp_wand frame _ _

/-- What every piece keeps: the levels, and the debts with the waits so far. -/
def X : sProp 𝕄 :=
  iprop(levAts (K (F := F)).L (K (F := F)).lev ∗ ∃ W', ⌜∀ p ∈ W', p ∈ W ∨ p.2 = none⌝ ∗ owes (thr d L) O W')

abbrev ιt : HIx 1 := default

variable {O W}

/-- A wait on a transfer in flight. -/
theorem wait_spec (hO : ∀ g, O g none = 0) {α : Type} {s' s : Shape} {e : EltTy} {sp sp' : Space} {sem : DmaSem sig} (src : Memref sig .scVector sp s' e) (dst : Memref sig .scVector sp' s e)
    {hs : src.view.WordExact} {hd : dst.view.WordExact} {N : ℕ} (hN : dst.view.dmaCredit = N) {Dl : sProp 𝕄} (k : PUnit → Pg F L α) (Q : α → sProp 𝕄) :
    iprop(X d L O W ∗ Transfers.Flight countersEmb (thr d L) (.dma sem) ιt N Dl)
      ⊢ iprop((X d L O W ∗ Dl ∗ semVal (thr d L, .dma sem) 0 -∗ WP d L (k ⟨⟩) Q) -∗ WP d L (.op (.waitDma2 sem src dst hs hd) k) Q) := by
  unfold X
  iintro ⟨⟨#Hlv, %W', %hW', HO⟩, Hfl⟩ Hk
  ihave Hmw := (show levAts (K (F := F)).L (K (F := F)).lev ⊢ Transfers.MayWaits (thr d L) (default : HIx 1) O from
    (K (F := F)).mayWaits_none (thr := thr d L) hO) $$ Hlv
  iapply (Transfers.wp_waitLocalO countersEmb 𝒱₀ (thr d L) none ιt hN) $$ [Hfl HO]
  · isplitl [Hfl]; · iexact Hfl
    isplitl [HO]; · iexact HO
    iapply (Transfers.MayWaits.elim (SemLoc.dma sem)) $$ Hmw
  iintro ⟨HD, Hsem, HO⟩
  iapply Hk
  isplitl [HO]
  · isplitr; · iexact Hlv
    iexists _; isplitr
    swap; · iexact HO
    ipureintro; intro p hp
    rcases Finset.mem_insert.mp hp with hp | hp; · exact .inr (hp ▸ rfl)
    exact hW' p hp
  isplitl [HD] <;> iassumption

theorem wait_end (hO : ∀ g, O g none = 0) {s' s : Shape} {e : EltTy} {sp sp' : Space} {sem : DmaSem sig} (src : Memref sig .scVector sp s' e) (dst : Memref sig .scVector sp' s e)
    {hs : src.view.WordExact} {hd : dst.view.WordExact} {N : ℕ} (hN : dst.view.dmaCredit = N) (Dl : sProp 𝕄) :
    iprop(X d L O W ∗ Transfers.Flight countersEmb (thr d L) (.dma sem) ιt N Dl)
      ⊢ WP d L (.op (.waitDma2 sem src dst hs hd) fun _ => (pure ⟨⟩ : Pg F L Unit)) fun _ => iprop(X d L O W ∗ Dl ∗ semVal (thr d L, .dma sem) 0) := by
  iintro H
  iapply (wait_spec d L hO src dst hN) $$ H
  iintro H
  iapply (WP_pure d L); iexact H

/-- A copy awaited where it is issued: the destination reads what the source reads. -/
theorem copyIn_spec (hO : ∀ g, O g none = 0) {s : Shape} {e : EltTy} (src : Memref sig .scVector .hbm s e) (dst : Memref sig .scVector .vmem s e) (sem : DmaSems sig S_)
    (hs : src.view.WordExact) (hd : dst.view.WordExact) (h0 : 0 < s.numel) (q : PosShare TreeShare)
    (fs : Buf (Elt F) (src.view.loc (thr d L))) (fd : Buf (Elt F) (dst.view.loc (thr d L))) :
    iprop(X d L O W ∗ (src.view.loc (thr d L) ↦[src.view.set]{q} fs) ∗ (dst.view.loc (thr d L) ↦[dst.view.set]{fullShare} fd)
        ∗ semVal (thr d L, .dma sem.sem) 0)
      ⊢ WP d L (copyIn L src dst sem hs hd) fun _ => iprop(X d L O W ∗ (src.view.loc (thr d L) ↦[src.view.set]{q} fs)
          ∗ (∃ f, ⌜dst.view.read (Elt F) f = src.view.read (Elt F) fs⌝ ∗ dst.view.loc (thr d L) ↦[dst.view.set]{fullShare} f)
          ∗ semVal (thr d L, .dma sem.sem) 0) := by
  unfold copyIn
  iintro ⟨HX, Hs, Hd, Hsem⟩
  iapply (Transfers.wp_dmaLocal countersEmb 𝒱₀ (thr d L) none ιt (dst.view.amount (.dma sem.sem)) rfl (View.amount_pos _ _ h0) (Finset.Subset.refl _)) $$ [Hs Hd Hsem]
  · isplitl [Hs]; · iexact Hs
    isplitl [Hd] <;> iassumption
  iintro Hfl
  iapply (wait_spec d L hO src dst rfl) $$ [HX Hfl]
  · isplitl [HX] <;> iassumption
  iintro ⟨HX, ⟨Hd, Hs⟩, Hsem⟩
  iapply (WP_pure d L)
  isplitl [HX]; · iexact HX
  isplitl [Hs]; · iexact Hs
  isplitr [Hsem]; swap; · iexact Hsem
  iexists _; isplitr
  swap; · iexact Hd
  ipureintro
  exact View.read_write_univ _ _

/-- A loop of eight trips, each acting on its own cell. -/
theorem loop_cells (Y : sProp 𝕄) (A B : Fin k0_t1_loop.trips → sProp 𝕄) (body : Fin k0_t1_loop.trips → Unit → Pg F L Unit)
    (h : ∀ t acc, iprop(Y ∗ A t) ⊢ WP d L (body t acc) fun _ => iprop(Y ∗ B t)) :
    iprop(Y ∗ bigSep Finset.univ A) ⊢ WP d L (Scf.Loop.for k0_t1_loop k0_t1_ok ⟨⟩ body) fun _ => iprop(Y ∗ bigSep Finset.univ B) := by
  have start : (fun t : Fin k0_t1_loop.trips => if t.val < 0 then B t else A t) = A := funext fun t => if_neg (Nat.not_lt_zero _)
  have stop : (fun t : Fin k0_t1_loop.trips => if t.val < k0_t1_loop.trips then B t else A t) = B := funext fun t => if_pos t.isLt
  iintro ⟨HY, HA⟩
  iapply (Scf.wp_for frame (wpE (defs₀ (F := F)) 𝒱₀ (thr d L) none) Set.univ _ _ _ k0_t1_ok ⟨⟩ body
    (fun n _ => iprop(Y ∗ bigSep Finset.univ fun t : Fin k0_t1_loop.trips => if t.val < n then B t else A t)) ?hbody) $$ [HY HA]
  case hbody =>
    intro t acc
    iintro ⟨HY, H⟩
    ihave H := (bigSep_univ_update (Φ := fun u : Fin k0_t1_loop.trips => if u.val < t.val then B u else A u)
      (Ψ := fun u : Fin k0_t1_loop.trips => if u.val < t.val + 1 then B u else A u) t (fun u hu => by
        have : u.val ≠ t.val := fun e => hu (Fin.ext e)
        by_cases hlt : u.val < t.val
        · rw [if_pos hlt, if_pos (by omega)]
        · rw [if_neg hlt, if_neg (by omega)])) $$ H
    icases H with ⟨Ht, Hback⟩
    ihave Ht := (Entails.of_eq (if_neg (lt_irrefl t.val))) $$ Ht
    iapply (WP_wand d L) $$ [HY Ht]
    · iapply (h t acc); isplitl [HY] <;> iassumption
    iintro %a ⟨HY, HB⟩
    isplitl [HY]; · iexact HY
    iapply Hback
    iapply (Entails.of_eq (if_pos (Nat.lt_succ_self t.val)).symm); iexact HB
  rw [start, stop]
  isplitl [HY HA]
  · isplitl [HY] <;> iassumption
  iintro %a H; iexact H

/-- A view's elements by the parts of one axis. -/
theorem cols {sp : Space} {s : Shape} {e : EltTy} (v : View sig .scVector sp s e) {a₀ : Fin s.rank} {n : ℕ} (hn : n ∣ s.size a₀) (q : PosShare TreeShare) (f : Buf (Elt F) (v.loc (thr d L))) :
    (v.loc (thr d L) ↦[v.set]{q} f : sProp 𝕄) = bigSep Finset.univ fun t : Fin n => v.loc (thr d L) ↦[(v.slice (Rect.part hn t)).set]{q} f := by
  rw [← pointsTo_biUnion Finset.univ (ℓ := v.loc (thr d L)) (fun t : Fin n => (v.slice (Rect.part hn t)).set)]
  · congr 1
    ext i
    simp only [Finset.mem_biUnion, Finset.mem_univ, true_and, View.set_slice, Finset.mem_map]
    constructor
    · intro hi
      obtain ⟨x, -, rfl⟩ := Finset.mem_map.mp hi
      obtain ⟨t, ht⟩ := Rect.exists_mem_part hn x
      exact ⟨t, x, ht, rfl⟩
    · rintro ⟨t, x, -, rfl⟩
      exact Finset.mem_map_of_mem _ (Finset.mem_univ x)
  · intro t _ t' _ h
    simp only [View.set_slice]
    exact (Finset.disjoint_map _).mpr (Rect.part_disjoint hn h)

end Tile

end Cert.Proof.KernelIdeal

end
-- ==== Proof.Reference.lean ====
/-
  The reference's result, read entry by entry, is the kernel's (`result_eq`).

  Entry `(t, o)` of the reference is zero plus the two products of gathered row and weight. The gather reads row
  `min (position) 18431`, its position first moved up by the number of rows where it is negative; a position that names a
  row is neither moved nor clamped (`row_of`). The weights are the two weight columns side by side (`weight_even`,
  `weight_odd`). Over the extended reals the product commutes and adding zero changes nothing.
-/
module

public import proofs.«01_k».proof.Proof.KernelIdealBase
public import proofs.«01_k».proof.Proof.Gen.ReferenceIdeal.Read
public import Idealize.ShloMosaic.Lib.ValueIdx

@[expose] public section

noncomputable section

namespace Cert.Proof.Reference

open Idealize.ShloMosaic Cert.ReferenceIdeal Cert.ReferenceIdeal.Gen Cert.ReferenceIdeal.Read
open Cert.Proof.KernelIdeal (at8192 at16384 atYs rowN entry result)

variable (ys : Vec Ideal S18432x1024 .f32) (dest : Vec Ideal S16384 .i32) (we wo : Vec Ideal S8192 .f32)

/-- The gather of whole rows. -/
abbrev G : GatherDims S18432x1024 S8192x2x1 S8192x2x1024 := gather_S18432x1024_S8192x2x1_S8192x2x1024_2_0_n_n_0_2_11024

/-- Where the row number of result index `y` stands among the start indices. -/
def startAt (y : S8192x2x1024.Idx) : S8192x2x1.Idx := fun
  | ⟨0, _⟩ => y 0
  | ⟨1, _⟩ => y 1
  | ⟨2, _⟩ => ⟨0, Nat.one_pos⟩

/-- The gather of whole rows read at one index: the row its start index names, clamped, at the same column. -/
theorem gather_apply (idx : IVec S8192x2x1 32) (y : S8192x2x1024.Idx) :
    Host.gather G ys idx y = ys (atYs (min (idx (startAt y)).toInt.toNat 18431) (y 2).val) := by
  have hy : (y 2).val < 1024 := (y 2).isLt
  unfold Host.gather
  congr 1
  funext a
  refine Fin.ext ?_
  show G.start y idx a + G.batchCoord y a + G.offCoord y a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ (fun h => absurd h List.not_mem_nil),
      GatherDims.offCoord_eq_zero _ _ _ (fun h => ((GatherDims.mem_sKept _ _).mp h).1 (List.mem_singleton.mpr rfl))]
    unfold GatherDims.start
    rw [dif_pos (show (0 : Fin 2) ∈ G.startIndexMap from List.mem_singleton.mpr rfl)]
    have hsi : G.siIdx y ⟨List.idxOf (0 : Fin 2) G.startIndexMap,
        List.idxOf_lt_length_iff.2 (List.mem_singleton.mpr rfl)⟩ = startAt y := by
      funext b; refine Fin.ext ?_
      match b with
      | ⟨0, _⟩ => rfl
      | ⟨1, _⟩ => rfl
      | ⟨2, _⟩ => rfl
    rw [hsi]
    show min (idx (startAt y)).toInt.toNat 18431 + 0 + 0 = min (idx (startAt y)).toInt.toNat 18431 % 18432
    omega
  · rw [GatherDims.batchCoord_eq_zero _ _ _ (fun h => absurd h List.not_mem_nil)]
    have hs : G.start y idx 1 = 0 := by
      unfold GatherDims.start
      exact dif_neg (by decide)
    have ho : G.offCoord y 1 = (y 2).val := by
      unfold GatherDims.offCoord
      rw [dif_pos (show (1 : Fin 2) ∈ G.sKept by decide)]
      rfl
    rw [hs, ho]
    show 0 + 0 + (y 2).val = (y 2).val % 1024
    omega

/-- The start index the reference computes from a position that names a row is that position. -/
theorem start_eq (hd : ∀ j : S16384.Idx, BitVec.toNat (w := 32) (dest j) < 18432) (t : Fin 8192) (k : Fin 2)
    (y : S8192x2x1024.Idx) (hy0 : y 0 = t) (hy1 : y 1 = k) :
    val_main_v6 (F := Ideal) dest (startAt y) = dest (at16384 (2 * t.val + k.val)) := by
  have ht := t.isLt
  have hk := k.isLt
  rw [val_main_v6_apply, val_main_v5_apply, val_main_v2_apply, val_main_v1_apply, val_main_c_apply, val_main_v0_apply]
  have hi : idx_main_v0 (idx_main_v6 (startAt y)) = at16384 (2 * t.val + k.val) := by
    funext a
    match a with
    | ⟨0, _⟩ =>
      refine Fin.ext ?_
      show (y 0).val * 2 + (y 1).val = (2 * t.val + k.val) % 16384
      rw [hy0, hy1]
      omega
  rw [hi]
  have hlt := hd (at16384 (2 * t.val + k.val))
  generalize dest (at16384 (2 * t.val + k.val)) = v at hlt ⊢
  have hneg : IntOp.cmpi .slt v 0#32 = 0#1 := by
    have hb : BitVec.slt v 0#32 = false := by
      have hv : BitVec.toNat (w := 32) v < 18432 := hlt
      rw [BitVec.slt_eq_decide, decide_eq_false_iff_not, BitVec.toInt_eq_toNat_cond]
      simp only [BitVec.toInt_zero, Nat.reducePow]
      omega
    show BitVec.ofBool (BitVec.slt v 0#32) = 0#1
    rw [hb]
    rfl
  rw [hneg, ValueIdx.select_zero]

/-- The gathered row of token `t`'s `k`-th expert, at column `o`. -/
theorem row_of (hd : ∀ j : S16384.Idx, BitVec.toNat (w := 32) (dest j) < 18432) (t : Fin 8192) (k : Fin 2) (o : Fin 1024)
    (y : S8192x2x1024.Idx) (hy0 : y 0 = t) (hy1 : y 1 = k) (hy2 : y 2 = o) :
    val_main_v7 (F := Ideal) ys dest y = ys (atYs (rowN (F := Ideal) dest (2 * t.val + k.val)) o.val) := by
  unfold val_main_v7
  rw [gather_apply, start_eq dest hd t k y hy0 hy1, hy2]
  have hlt := hd (at16384 (2 * t.val + k.val))
  have hv : min (BitVec.toInt (n := 32) (dest (at16384 (2 * t.val + k.val)))).toNat 18431
      = rowN (F := Ideal) dest (2 * t.val + k.val) := by
    unfold rowN
    rw [BitVec.toInt_eq_toNat_cond]
    split <;> omega
  exact congrArg (fun r => ys (atYs r o.val)) hv

/-- The first weight column. -/
theorem weight_even (t : Fin 8192) (y : S8192x2x1024.Idx) (hy0 : y 0 = t) (hy1 : y 1 = (0 : Fin 2)) :
    val_main_v12 (F := Ideal) we wo y = we (at8192 t.val) := by
  have ht := t.isLt
  rw [val_main_v12_apply, val_main_v11_apply]
  unfold val_main_v10
  let i : S8192x1.Idx := fun | ⟨0, _⟩ => t | ⟨1, _⟩ => ⟨0, Nat.one_pos⟩
  refine (concatenate_pair_apply_left (t := S8192x2) (s₁ := S8192x1) (s₂ := S8192x1) 1 _ _ _ _ rfl i ?_).trans ?_
  · intro b
    match b with
    | ⟨0, _⟩ => exact congrArg Fin.val hy0.symm
    | ⟨1, _⟩ => exact congrArg Fin.val hy1.symm
  · rw [val_main_v8_apply]
    congr 1
    funext a
    match a with
    | ⟨0, _⟩ => exact Fin.ext (Nat.mod_eq_of_lt ht).symm

/-- The second weight column. -/
theorem weight_odd (t : Fin 8192) (y : S8192x2x1024.Idx) (hy0 : y 0 = t) (hy1 : y 1 = (1 : Fin 2)) :
    val_main_v12 (F := Ideal) we wo y = wo (at8192 t.val) := by
  have ht := t.isLt
  rw [val_main_v12_apply, val_main_v11_apply]
  unfold val_main_v10
  let i : S8192x1.Idx := fun | ⟨0, _⟩ => t | ⟨1, _⟩ => ⟨0, Nat.one_pos⟩
  refine (concatenate_pair_apply_right (t := S8192x2) (s₁ := S8192x1) (s₂ := S8192x1) 1 _ _ _ _ rfl rfl i ?_ ?_).trans ?_
  · intro b hb
    match b with
    | ⟨0, _⟩ => exact congrArg Fin.val hy0.symm
    | ⟨1, _⟩ => exact absurd rfl hb
  · exact congrArg Fin.val hy1.symm
  · rw [val_main_v9_apply]
    congr 1
    funext a
    match a with
    | ⟨0, _⟩ => exact Fin.ext (Nat.mod_eq_of_lt ht).symm

/-- Where every position names a row, the reference computes the kernel's result. -/
theorem result_eq (hd : ∀ j : S16384.Idx, BitVec.toNat (w := 32) (dest j) < 18432) :
    val_main_v14 (F := Ideal) ys dest we wo = result (F := Ideal) ys dest we wo := by
  funext i
  rw [val_main_v14_apply, Fin.sum_univ_two, val_main_v13_apply, val_main_v13_apply, val_main_cst_apply,
    row_of ys dest hd (i 0) 0 (i 1) _ rfl rfl rfl, row_of ys dest hd (i 0) 1 (i 1) _ rfl rfl rfl,
    weight_even we wo (i 0) _ rfl rfl, weight_odd we wo (i 0) _ rfl rfl]
  have h0 : (FloatOps.ofBits .f32 0x00000000#32 : Ideal .f32) = (0 : EReal) := Ideal.ofBits_zero_f32
  rw [h0]
  refine (zero_add _).trans ?_
  unfold result entry
  exact congrArg₂ (fun a b : EReal => a + b) (mul_comm (_ : EReal) _) (mul_comm (_ : EReal) _)

end Cert.Proof.Reference

end
-- ==== Proof.KernelIdealGather.lean ====
/-
  A chunk's gather: the eight column streams issued, and awaited. Between the two the row buffer, the index list and a
  share of the expert output are with the streams (`Fly`); before and after they are the tile's (`Idle`, `Land`), the
  row buffer reading the gathered rows once they have landed.
-/
module

public import proofs.«01_k».proof.Proof.KernelIdealBase

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ShareLeaves

variable {F : FTy → Type}

local notation "𝕄" => MT nD τ sig (HIx 1) (Elt F) ℕ UU ℕ

/-! ## A column is a part of the second axis -/

theorem trips_eq : k0_t1_loop.trips = 8 := by decide
theorem trips_pow : k0_t1_loop.trips = 2 ^ 3 := by decide
theorem ydiv : k0_t1_loop.trips ∣ S18432x1024.size 1 := by rw [trips_eq]; exact ⟨128, rfl⟩
theorem rdiv : k0_t1_loop.trips ∣ S32x1024.size 1 := by rw [trips_eq]; exact ⟨128, rfl⟩

theorem srcRect_eq (t : Fin k0_t1_loop.trips) :
    Rect.unit (s := S18432x1024) (k0_off4 t) S18432x128.size (k0_off4_inb t) = Rect.part (s := S18432x1024) (a₀ := 1) ydiv t := by
  unfold Rect.part Rect.block
  congr 1 <;> funext a
  · rw [k0_off4_eq]
    match a with
    | 0 => simp [Shape.partIx, Shape.partSize]
    | 1 => simp [Shape.partIx, Shape.partSize, trips_eq]; omega
  · match a with
    | 0 => simp [Shape.partSize]
    | 1 => simp [Shape.partSize, trips_eq]
theorem dstRect_eq (t : Fin k0_t1_loop.trips) :
    Rect.unit (s := S32x1024) (k0_off3 t) S32x128.size (k0_off3_inb t) = Rect.part (s := S32x1024) (a₀ := 1) rdiv t := by
  unfold Rect.part Rect.block
  congr 1 <;> funext a
  · rw [k0_off3_eq]
    match a with
    | 0 => simp [Shape.partIx, Shape.partSize]
    | 1 => simp [Shape.partIx, Shape.partSize, trips_eq]; omega
  · match a with
    | 0 => simp [Shape.partSize]
    | 1 => simp [Shape.partSize, trips_eq]

theorem srcCol_set (src : Memref sig .scVector .hbm S18432x1024 .f32) (t : Fin k0_t1_loop.trips) :
    (srcCol src t).view.set = (src.view.slice (Rect.part (s := S18432x1024) (a₀ := 1) ydiv t)).set := by
  show (src.view.slice (Rect.unit (s := S18432x1024) (k0_off4 t) S18432x128.size (k0_off4_inb t))).set = _
  exact srcRect_eq t ▸ rfl
theorem dstCol_set (rb : Memref sig .scVector .vmem S32x1024 .f32) (t : Fin k0_t1_loop.trips) :
    (dstCol rb t).view.set = (rb.view.slice (Rect.part (s := S32x1024) (a₀ := 1) rdiv t)).set := by
  show (rb.view.slice (Rect.unit (s := S32x1024) (k0_off3 t) S32x128.size (k0_off3_inb t))).set = _
  exact dstRect_eq t ▸ rfl

section Tile
variable [FloatOps F] (d : Dev nD) (L : grid0.Coords) {O : CellTallies nD τ sig (HIx 1)} {W : Waits sig (HIx 1)}
variable (ys : Vec F S18432x1024 .f32) (dest : Vec F S16384 .i32)

theorem src_cols (src : Memref sig .scVector .hbm S18432x1024 .f32) (q : PosShare TreeShare) (f : Buf (Elt F) (src.view.loc (thr d L))) :
    (src.view.loc (thr d L) ↦[src.view.set]{q} f : sProp 𝕄)
      = bigSep Finset.univ fun t : Fin k0_t1_loop.trips => src.view.loc (thr d L) ↦[(srcCol src t).view.set]{q} f :=
  (cols d L src.view ydiv q f).trans (bigSep_congr fun t _ => by rw [srcCol_set])
theorem dst_cols (rb : Memref sig .scVector .vmem S32x1024 .f32) (f : Buf (Elt F) (rb.view.loc (thr d L))) :
    (rb.view.loc (thr d L) ↦[rb.view.set]{fullShare} f : sProp 𝕄)
      = bigSep Finset.univ fun t : Fin k0_t1_loop.trips => rb.view.loc (thr d L) ↦[(dstCol rb t).view.set]{fullShare} f :=
  (cols d L rb.view rdiv fullShare f).trans (bigSep_congr fun t _ => by rw [dstCol_set])

/-- The share of the index list that stream `t` reads it at. -/
def lq (t : Fin k0_t1_loop.trips) : PosShare TreeShare := leaf 3 fullShare (finCongr trips_pow t)
theorem idx_shares (idx : Memref sig .scVector .vmem S32 .i32) (f : Buf (Elt F) (idx.view.loc (thr d L))) :
    (idx.view.loc (thr d L) ↦[idx.view.set]{fullShare} f : sProp 𝕄)
      = bigSep Finset.univ fun t : Fin k0_t1_loop.trips => idx.view.loc (thr d L) ↦[idx.view.set]{lq t} f := by
  rw [pointsTo_leaves idx.view.set f 3 fullShare, bigSep_univ_equiv (finCongr trips_pow)]
  rfl

/-! ## The states of a gather -/

abbrev colCell (sem : DmaSems sig S8) (t : Fin k0_t1_loop.trips) : GSem nD τ sig := (thr d L, .dma (colSem sem t))

/-- What stream `t` of the gather of the rows named from `b` on hands back. -/
def landCol (p : Bool) (q : PosShare TreeShare) (b : ℕ) (fd : Buf (Elt F) ((rbM p).view.loc (thr d L))) (fi : Buf (Elt F) ((idxM p).view.loc (thr d L)))
    (t : Fin k0_t1_loop.trips) : sProp 𝕄 :=
  iprop(((rbM p).view.loc (thr d L) ↦[(dstCol (rbM p) t).view.set]{fullShare} (rbM p).view.write (Elt F) fd (rowsVal ys dest b) Finset.univ)
    ∗ (ysM.view.loc (thr d L) ↦[(srcCol ysM t).view.set]{q} ys)
    ∗ ((idxM p).view.loc (thr d L) ↦[(idxM p).view.set]{lq t} fi))

theorem amount_col (p : Bool) (t : Fin k0_t1_loop.trips) (h : S18432x128.Gathers 0 S32x128) :
    ∑ j, ((dstCol (rbM p) t).slice (S32x128.rowRect h.axis' j) (S32x128.stride_rowRect h.axis' j)).view.dmaCredit = (dstCol (rbM p) t).view.dmaCredit := by
  revert h t; cases p <;> decide

/-- The tile's own: the row buffer and the index list at some contents, its share of the expert output, the eight
    semaphores at zero. -/
def Idle (p : Bool) (q : PosShare TreeShare) : sProp 𝕄 :=
  iprop((∃ fd, (rbM p).view.loc (thr d L) ↦[(rbM p).view.set]{fullShare} fd)
    ∗ (∃ fi, (idxM p).view.loc (thr d L) ↦[(idxM p).view.set]{fullShare} fi)
    ∗ (ysM.view.loc (thr d L) ↦[ysM.view.set]{q} ys)
    ∗ bigSep Finset.univ fun t : Fin k0_t1_loop.trips => semVal (colCell d L (gsem p) t) 0)
/-- The eight streams in flight. -/
def Fly (p : Bool) (q : PosShare TreeShare) (b : ℕ) : sProp 𝕄 :=
  iprop(∃ fd fi, bigSep Finset.univ fun t : Fin k0_t1_loop.trips =>
    Transfers.Flight countersEmb (thr d L) (.dma (colSem (gsem p) t)) ιt (dstCol (rbM p) t).view.dmaCredit (landCol d L ys dest p q b fd fi t))
/-- Landed: the row buffer reads the gathered rows. -/
def Land (p : Bool) (q : PosShare TreeShare) (b : ℕ) : sProp 𝕄 :=
  iprop((∃ fd, ⌜(rbM p).view.read (Elt F) fd = rowsVal ys dest b⌝ ∗ (rbM p).view.loc (thr d L) ↦[(rbM p).view.set]{fullShare} fd)
    ∗ (∃ fi, (idxM p).view.loc (thr d L) ↦[(idxM p).view.set]{fullShare} fi)
    ∗ (ysM.view.loc (thr d L) ↦[ysM.view.set]{q} ys)
    ∗ bigSep Finset.univ fun t : Fin k0_t1_loop.trips => semVal (colCell d L (gsem p) t) 0)

theorem rowN_lt (hpre : ∀ i, BitVec.toNat (w := 32) (dest i) < 18432) (k : ℕ) : rowN (F := F) dest k < 18432 := hpre _

theorem listVal_lt (hpre : ∀ i, BitVec.toNat (w := 32) (dest i) < 18432) (b : ℕ) (idx : Memref sig .scVector .vmem S32 .i32)
    (fi : Buf (Elt F) (idx.view.loc (thr d L))) (hfi : idx.view.read (Elt F) fi = listVal (F := F) dest b) (h : S18432x128.Gathers 0 S32x128) :
    ∀ x, BitVec.toNat (w := 32) (idx.view.read (Elt F) fi x) < S18432x128.size h.axis := by
  intro x; rw [hfi]
  refine (hpre _).trans_le ?_
  revert h; decide

/-- A column of the gather, read off where it lands: the row buffer's rows at the column's elements. -/
theorem col_write (hpre : ∀ i, BitVec.toNat (w := 32) (dest i) < 18432) (p : Bool) (b : ℕ) (t : Fin k0_t1_loop.trips)
    (fd : Buf (Elt F) ((rbM p).view.loc (thr d L))) (fi : Buf (Elt F) ((idxM p).view.loc (thr d L)))
    (hfi : (idxM p).view.read (Elt F) fi = listVal (F := F) dest b) (hn) (hin) :
    ∀ i ∈ (dstCol (rbM p) t).view.set,
      (dstCol (rbM p) t).view.write (Elt F) fd
        (SparseCore.gatherPayload gathers_S18432x128_S32x128 ((srcCol ysM t).view.read (Elt F) ys) (SparseCore.rows ((idxM p).view.read (Elt F) fi) hn hin)) Finset.univ i
      = (rbM p).view.write (Elt F) fd (rowsVal ys dest b) Finset.univ i := by
  intro i hi
  obtain ⟨x, -, rfl⟩ := Finset.mem_map.mp hi
  rw [View.write_emb_of_mem _ _ (Finset.mem_univ _)]
  rw [show (dstCol (rbM p) t).view.emb x = (rbM p).view.emb ((Rect.unit (s := S32x1024) (k0_off3 t) S32x128.size (k0_off3_inb t)).emb x) from rfl, View.write_emb_of_mem _ _ (Finset.mem_univ _)]
  refine congrArg _ (congrArg ys (funext fun a => ?_))
  have hx0 : (x 0).val < 32 := (x 0).isLt
  have hx1 : (x 1).val < 128 := (x 1).isLt
  have ht : t.val < 8 := trips_eq ▸ t.isLt
  have e0 : ((Rect.unit (s := S32x1024) (k0_off3 t) S32x128.size (k0_off3_inb t)).emb x 0 : ℕ) = (x 0).val := by
    rw [Rect.emb_apply]; simp [k0_off3_eq]
  have e1 : ((Rect.unit (s := S32x1024) (k0_off3 t) S32x128.size (k0_off3_inb t)).emb x 1 : ℕ) = 128 * t.val + (x 1).val := by
    rw [Rect.emb_apply]; simp [k0_off3_eq]
  apply Fin.ext
  match a with
  | 0 =>
    have hr : ((gathers_S18432x128_S32x128.idx (SparseCore.rows ((idxM p).view.read (Elt F) fi) hn hin) x) 0 : ℕ)
        = rowN (F := F) dest (b + (x 0).val) := by
      refine (congrArg Fin.val (Shape.Gathers.idx_axis gathers_S18432x128_S32x128 _ x)).trans ?_
      show BitVec.toNat (w := 32) ((idxM p).view.read (Elt F) fi (S32.rowMajor.symm ((x 0).cast hn.symm))) = _
      rw [hfi]
      have hy : ((S32.rowMajor.symm ((x 0).cast hn.symm)) 0 : ℕ) = (x 0).val := by
        rw [← Shape.rowMajor_val_one (S32.rowMajor.symm ((x 0).cast hn.symm))]
        exact congrArg Fin.val (S32.rowMajor.apply_symm_apply _)
      show BitVec.toNat (w := 32) (dest (at16384 (b + ((S32.rowMajor.symm ((x 0).cast hn.symm)) 0 : ℕ)))) = _
      rw [hy]; rfl
    show ((Rect.unit (s := S18432x1024) (k0_off4 t) S18432x128.size (k0_off4_inb t)).emb _ 0 : ℕ) = rowN (F := F) dest _ % 18432
    rw [Rect.emb_apply, e0, Nat.mod_eq_of_lt (rowN_lt dest hpre _)]
    refine Eq.trans ?_ hr
    simp [k0_off4_eq]
  | 1 =>
    have hc : ((gathers_S18432x128_S32x128.idx (SparseCore.rows ((idxM p).view.read (Elt F) fi) hn hin) x) 1 : ℕ) = (x 1).val :=
      Shape.Gathers.idx_of_ne gathers_S18432x128_S32x128 _ x 1 (by decide)
    show ((Rect.unit (s := S18432x1024) (k0_off4 t) S18432x128.size (k0_off4_inb t)).emb _ 1 : ℕ) = _ % 1024
    rw [Rect.emb_apply, e1, Nat.mod_eq_of_lt (by omega)]
    refine Eq.trans ?_ (congrArg (128 * t.val + ·) hc)
    simp [k0_off4_eq]

theorem issue_spec (hpre : ∀ i, BitVec.toNat (w := 32) (dest i) < 18432) (p : Bool) (q : PosShare TreeShare) (b : ℕ)
    (fd : Buf (Elt F) ((rbM p).view.loc (thr d L))) (fi : Buf (Elt F) ((idxM p).view.loc (thr d L)))
    (hfi : (idxM p).view.read (Elt F) fi = listVal (F := F) dest b) :
    iprop(X d L O W ∗ ((rbM p).view.loc (thr d L) ↦[(rbM p).view.set]{fullShare} fd)
        ∗ ((idxM p).view.loc (thr d L) ↦[(idxM p).view.set]{fullShare} fi)
        ∗ (ysM.view.loc (thr d L) ↦[ysM.view.set]{q} ys)
        ∗ bigSep Finset.univ fun t : Fin k0_t1_loop.trips => semVal (colCell d L (gsem p) t) 0)
      ⊢ WP d L (issue L p) fun _ => iprop(X d L O W ∗ Fly d L ys dest p q b) := by
  rw [dst_cols, idx_shares, src_cols, ← bigSep_sep', ← bigSep_sep', ← bigSep_sep']
  refine (loop_cells d L (X d L O W) _ (fun t => Transfers.Flight countersEmb (thr d L) (.dma (colSem (gsem p) t)) ιt (dstCol (rbM p) t).view.dmaCredit (landCol d L ys dest p q b fd fi t)) _ ?_).trans
    (wp_mono frame _ _ fun _ => ?_)
  · intro t acc
    unfold issueBody
    iintro ⟨HX, Hd, Hi, Hs, Hsem⟩
    iapply (SparseCore.wp_indirectGatherLocal countersEmb 𝒱₀ (thr d L) none (hg := gathers_S18432x128_S32x128) ιt
      (dstCol (rbM p) t).view.dmaCredit (amount_col p t _) (by decide) (listVal_lt d L dest hpre b _ fi hfi _)) $$ [Hs Hd Hi Hsem]
    · isplitl [Hs]; · iexact Hs
      isplitl [Hd]; · iexact Hd
      isplitl [Hi]; · iexact Hi
      iexact Hsem
    iintro Hfl
    iapply (WP_pure d L)
    isplitl [HX]; · iexact HX
    iapply (Transfers.Flight_mono countersEmb (thr d L) ?_) $$ Hfl
    unfold landCol
    exact BI.BIBase.Entails.of_eq (congrArg (fun A => iprop(A ∗ (ysM.view.loc (thr d L) ↦[(srcCol ysM t).view.set]{q} ys) ∗ ((idxM p).view.loc (thr d L) ↦[(idxM p).view.set]{lq t} fi)))
      (pointsTo_congr (col_write d L ys dest hpre p b t fd fi hfi _ _)))
  · unfold Fly
    iintro ⟨HX, H⟩
    isplitl [HX]; · iexact HX
    iexists fd, fi; iexact H

theorem await_cells (hO : ∀ g, O g none = 0) (p : Bool) (q : PosShare TreeShare) (b : ℕ)
    (fd : Buf (Elt F) ((rbM p).view.loc (thr d L))) (fi : Buf (Elt F) ((idxM p).view.loc (thr d L))) :
    iprop(X d L O W ∗ bigSep Finset.univ fun t : Fin k0_t1_loop.trips =>
        Transfers.Flight countersEmb (thr d L) (.dma (colSem (gsem p) t)) ιt (dstCol (rbM p) t).view.dmaCredit (landCol d L ys dest p q b fd fi t))
      ⊢ WP d L (await L p) fun _ => iprop(X d L O W ∗ Land d L ys dest p q b) := by
  refine (loop_cells d L (X d L O W) _ (fun t => iprop(landCol d L ys dest p q b fd fi t ∗ semVal (colCell d L (gsem p) t) 0)) (waitBody L ysM (rbM p) (gsem p)) ?_).trans
    (wp_mono frame _ _ fun _ => ?_)
  · intro t acc
    exact wait_end d L hO (srcCol ysM t) (dstCol (rbM p) t) rfl (landCol d L ys dest p q b fd fi t)
  · unfold Land landCol
    rw [bigSep_sep', bigSep_sep', bigSep_sep', ← dst_cols, ← idx_shares, ← src_cols]
    iintro ⟨HX, ⟨Hd, Hs, Hi⟩, Hsem⟩
    isplitl [HX]; · iexact HX
    isplitl [Hd]
    · iexists _; isplitr
      swap; · iexact Hd
      ipureintro; exact View.read_write_univ _ _
    isplitl [Hi]; · iexists fi; iexact Hi
    isplitl [Hs]; · iexact Hs
    iexact Hsem

theorem await_spec (hO : ∀ g, O g none = 0) (p : Bool) (q : PosShare TreeShare) (b : ℕ) :
    iprop(X d L O W ∗ Fly d L ys dest p q b) ⊢ WP d L (await L p) fun _ => iprop(X d L O W ∗ Land d L ys dest p q b) := by
  unfold Fly
  iintro ⟨HX, %fd, %fi, H⟩
  iapply (await_cells d L ys dest hO p q b fd fi)
  isplitl [HX] <;> iassumption

theorem Land_idle (p : Bool) (q : PosShare TreeShare) (b : ℕ) : Land d L ys dest p q b ⊢ Idle d L ys p q := by
  unfold Land Idle
  iintro ⟨⟨%fd, -, Hd⟩, Hr⟩
  isplitl [Hd]; · iexists fd; iexact Hd
  iexact Hr

end Tile

end Cert.Proof.KernelIdeal

end
-- ==== Proof.KernelIdealRows.lean ====
/-
  The arithmetic of a chunk: sixteen rows of the output buffer, each the weighted sum of two rows of the row buffer,
  sixteen lanes at a time. The loops' invariant is which entries of the output buffer hold the result's.
-/
module

public import proofs.«01_k».proof.Proof.KernelIdealGather
public import Idealize.ShloMosaic.Lib.Pipeline.Value
public import Idealize.ShloMosaic.Lib.WordArith.Masks

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

theorem rowTrips : k0_t4_loop.trips = 16 := by decide
theorem colTrips : k0_t5_loop.trips = 64 := by decide

/-- The entries written before column block `c` of row `r`. -/
def Done (r c : ℕ) (x : S16x1024.Idx) : Prop := (x 0).val < r ∨ ((x 0).val = r ∧ (x 1).val < 16 * c)

section Tile
variable [FloatOps F] (d : Dev nD) (L : grid0.Coords)
variable (ys : Vec F S18432x1024 .f32) (dest : Vec F S16384 .i32) (we wo : Vec F S8192 .f32)

/-- The lane of a [1, 16] index. -/
def lane (x : S1x16.Idx) : S16.Idx := fun k => x k.succ

theorem pay_apply (w0 w1 : Vec F S16 .f32) (a b : Vec F S1x16 .f32) (x : S1x16.Idx) :
    k0_pay1 w0 w1 a b x = FloatOps.addf (FloatOps.mulf (w0 (lane x)) (a x)) (FloatOps.mulf (w1 (lane x)) (b x)) := by
  unfold k0_pay1
  have hx : ∀ v : Vec F S1x16 .f32, shapeCast S16 v shapeCasts_S1x16_S16 (lane x) = v x := by
    intro v
    refine (shapeCast_dropUnit_apply ![16] v shapeCasts_S1x16_S16 _).trans (congrArg v (funext fun k => ?_))
    apply Fin.ext
    match k with
    | 0 => have h : (x 0).val < 1 := (x 0).isLt; show 0 = (x 0).val; omega
    | 1 => rfl
  refine (shapeCast_addUnit_apply ![16] _ shapeCasts_S16_S1x16 x).trans ?_
  show FloatOps.addf (FloatOps.mulf _ (shapeCast S16 a shapeCasts_S1x16_S16 (lane x))) (FloatOps.mulf _ (shapeCast S16 b shapeCasts_S1x16_S16 (lane x))) = _
  rw [hx, hx]
  rfl

abbrev rowRect (r : Fin k0_t4_loop.trips) (c : Fin k0_t5_loop.trips) : Rect S16x1024 := Rect.unit (s := S16x1024) (k0_off15 r c) S1x16.size (k0_off15_inb r c)
abbrev evenRect (r : Fin k0_t4_loop.trips) (c : Fin k0_t5_loop.trips) : Rect S32x1024 := Rect.unit (s := S32x1024) (k0_off13 r c) S1x16.size (k0_off13_inb r c)
abbrev oddRect (r : Fin k0_t4_loop.trips) (c : Fin k0_t5_loop.trips) : Rect S32x1024 := Rect.unit (s := S32x1024) (k0_off14 r c) S1x16.size (k0_off14_inb r c)

/-- The value stored at column block `c` of row `r`. -/
theorem block_value (t b : ℕ) (hb : b = 2 * t) (r : Fin k0_t4_loop.trips) (c : Fin k0_t5_loop.trips) (w0 w1 : Vec F S16 .f32)
    (hw0 : ∀ j, w0 j = we (at8192 (t + r.val))) (hw1 : ∀ j, w1 j = wo (at8192 (t + r.val))) (v : Vec F S32x1024 .f32) (hv : v = rowsVal ys dest b) (x : S1x16.Idx) :
    k0_pay1 w0 w1 (fun y => v ((evenRect r c).emb y)) (fun y => v ((oddRect r c).emb y)) x = resVal ys dest we wo t ((rowRect r c).emb x) := by
  subst hb hv
  rw [pay_apply, hw0, hw1]
  have h0 : (x 0).val < 1 := (x 0).isLt
  have e0 : ((evenRect r c).emb x 0 : ℕ) = 2 * r.val := by rw [Rect.emb_apply]; simp [k0_off13_eq]; omega
  have e1 : ((evenRect r c).emb x 1 : ℕ) = 16 * c.val + (x 1).val := by rw [Rect.emb_apply]; simp [k0_off13_eq]
  have o0 : ((oddRect r c).emb x 0 : ℕ) = 2 * r.val + 1 := by rw [Rect.emb_apply]; simp [k0_off14_eq]; omega
  have o1 : ((oddRect r c).emb x 1 : ℕ) = 16 * c.val + (x 1).val := by rw [Rect.emb_apply]; simp [k0_off14_eq]
  have r0 : ((rowRect r c).emb x 0 : ℕ) = r.val := by rw [Rect.emb_apply]; simp [k0_off15_eq]; omega
  have r1 : ((rowRect r c).emb x 1 : ℕ) = 16 * c.val + (x 1).val := by rw [Rect.emb_apply]; simp [k0_off15_eq]
  unfold rowsVal resVal entry
  rw [e0, e1, o0, o1, r0, r1, show 2 * (t + r.val) = 2 * t + 2 * r.val by omega, Nat.add_assoc]

theorem colBody_spec (p : Bool) (t b : ℕ) (hb : b = 2 * t) (r : Fin k0_t4_loop.trips) (c : Fin k0_t5_loop.trips) (acc : BitVec 32) (w0 w1 : Vec F S16 .f32)
    (hw0 : ∀ j, w0 j = we (at8192 (t + r.val))) (hw1 : ∀ j, w1 j = wo (at8192 (t + r.val)))
    (fd : Buf (Elt F) ((rbM p).view.loc (thr d L))) (hfd : (rbM p).view.read (Elt F) fd = rowsVal ys dest b)
    (fo : Buf (Elt F) ((obM p).view.loc (thr d L))) (hfo : ∀ x, Done r.val c.val x → (obM p).view.read (Elt F) fo x = resVal ys dest we wo t x) :
    iprop(((rbM p).view.loc (thr d L) ↦[(rbM p).view.set]{fullShare} fd) ∗ ((obM p).view.loc (thr d L) ↦[(obM p).view.set]{fullShare} fo))
      ⊢ WP d L (colBody L (rbM p) (obM p) r w0 w1 c acc) fun _ => iprop(((rbM p).view.loc (thr d L) ↦[(rbM p).view.set]{fullShare} fd)
          ∗ ∃ fo, ⌜∀ x, Done r.val (c.val + 1) x → (obM p).view.read (Elt F) fo x = resVal ys dest we wo t x⌝ ∗ (obM p).view.loc (thr d L) ↦[(obM p).view.set]{fullShare} fo) := by
  unfold colBody
  iintro ⟨Hd, Ho⟩
  iapply (wp_load_rect 𝒱₀ (thr d L) none Set.univ (m := rbM p) (r := evenRect r c) (View.set_slice_subset _ _)) $$ [Hd]
  · iexact Hd
  iintro Hd
  iapply (wp_load_rect 𝒱₀ (thr d L) none Set.univ (m := rbM p) (r := oddRect r c) (View.set_slice_subset _ _)) $$ [Hd]
  · iexact Hd
  iintro Hd
  iapply (wp_load_rect 𝒱₀ (thr d L) none Set.univ (m := obM p) (r := rowRect r c) (View.set_slice_subset _ _)) $$ [Ho]
  · iexact Ho
  iintro Ho
  iapply (wp_store 𝒱₀ (thr d L) none Set.univ (m := obM p) (r := rowRect r c) (View.set_slice_subset _ _)) $$ [Ho]
  · iexact Ho
  iintro Ho
  iapply (WP_pure d L)
  isplitl [Hd]; · iexact Hd
  iexists _; isplitr
  swap; · iexact Ho
  ipureintro
  intro x hx
  by_cases hm : x ∈ Finset.univ.map (rowRect r c).emb
  · obtain ⟨y, -, rfl⟩ := Finset.mem_map.mp hm
    rw [View.read_slice_write_emb _ _ _ (Finset.mem_univ y)]
    exact block_value ys dest we wo t b hb r c w0 w1 hw0 hw1 _ hfd y
  · rw [View.read_slice_write_of_not_mem _ _ _ _ hm]
    refine hfo x (hx.imp_right fun h => ⟨h.1, ?_⟩)
    by_contra hge
    refine hm ?_
    have hmem : x ∈ (rowRect r c).set := Rect.mem_set_unit.mpr fun a => by
      rw [k0_off15_eq]
      match a with
      | 0 => show r.val ≤ (x 0).val ∧ (x 0).val < r.val + 1; omega
      | 1 => show 16 * c.val ≤ (x 1).val ∧ (x 1).val < 16 * c.val + 16; omega
    exact (rowRect r c).map_emb_univ ▸ hmem

/-- A row: from the rows before it, the rows up to it. -/
theorem rowLoop_spec (p : Bool) (t b : ℕ) (hb : b = 2 * t) (r : Fin k0_t4_loop.trips) (w0 w1 : Vec F S16 .f32)
    (hw0 : ∀ j, w0 j = we (at8192 (t + r.val))) (hw1 : ∀ j, w1 j = wo (at8192 (t + r.val)))
    (fd : Buf (Elt F) ((rbM p).view.loc (thr d L))) (hfd : (rbM p).view.read (Elt F) fd = rowsVal ys dest b)
    (fo : Buf (Elt F) ((obM p).view.loc (thr d L))) (hfo : ∀ x, Done r.val 0 x → (obM p).view.read (Elt F) fo x = resVal ys dest we wo t x) :
    iprop(((rbM p).view.loc (thr d L) ↦[(rbM p).view.set]{fullShare} fd) ∗ ((obM p).view.loc (thr d L) ↦[(obM p).view.set]{fullShare} fo))
      ⊢ WP d L (Scf.Loop.for k0_t5_loop k0_t5_ok 0#32 (colBody L (rbM p) (obM p) r w0 w1)) fun _ => iprop(((rbM p).view.loc (thr d L) ↦[(rbM p).view.set]{fullShare} fd)
          ∗ ∃ fo, ⌜∀ x, Done (r.val + 1) 0 x → (obM p).view.read (Elt F) fo x = resVal ys dest we wo t x⌝ ∗ (obM p).view.loc (thr d L) ↦[(obM p).view.set]{fullShare} fo) := by
  iintro ⟨Hd, Ho⟩
  iapply (Scf.wp_for frame (wpE (defs₀ (F := F)) 𝒱₀ (thr d L) none) Set.univ _ _ _ k0_t5_ok 0#32 (colBody L (rbM p) (obM p) r w0 w1)
    (fun n _ => iprop(((rbM p).view.loc (thr d L) ↦[(rbM p).view.set]{fullShare} fd)
      ∗ ∃ fo, ⌜∀ x, Done r.val n x → (obM p).view.read (Elt F) fo x = resVal ys dest we wo t x⌝ ∗ (obM p).view.loc (thr d L) ↦[(obM p).view.set]{fullShare} fo)) ?hbody) $$ [Hd Ho]
  case hbody =>
    intro c acc
    iintro ⟨Hd, %fo, %hfo, Ho⟩
    iapply (colBody_spec d L ys dest we wo p t b hb r c acc w0 w1 hw0 hw1 fd hfd fo hfo)
    isplitl [Hd] <;> iassumption
  isplitl [Hd Ho]
  · isplitl [Hd]; · iexact Hd
    iexists fo; isplitr; · ipureintro; exact hfo
    iexact Ho
  iintro %_ ⟨Hd, %fo', %hfo', Ho⟩
  isplitl [Hd]; · iexact Hd
  iexists fo'; isplitr
  · ipureintro
    intro x hx
    refine hfo' x ?_
    have h1 : (x 1).val < 1024 := (x 1).isLt
    have h64 := colTrips
    rcases hx with h | h
    · rcases Nat.lt_succ_iff_lt_or_eq.mp h with h | h
      · exact .inl h
      · exact .inr ⟨h, by rw [show Scf.trips _ _ _ = 64 from h64]; omega⟩
    · omega
  · iexact Ho

/-- The lane index of a row's weights is the row's token within the tile. -/
theorem lane_toNat (b : ℕ) (hb : b + 16 ≤ 256) (r : Fin k0_t4_loop.trips) :
    (Scalar.addi (BitVec.ofNat 32 b) (Scf.iv 0#32 1#32 r)).toNat = b + r.val := by
  have hr : r.val < 16 := rowTrips ▸ r.isLt
  have hi : (Scf.iv 0#32 1#32 r.val).toNat = r.val := WordArith.toNat_iv_zero_one _ (by omega)
  show (BitVec.ofNat 32 b + Scf.iv 0#32 1#32 r.val).toNat = _
  rw [BitVec.toNat_add, hi, BitVec.toNat_ofNat]
  omega

theorem rowBody_spec (p : Bool) (t b n : ℕ) (hb : b = 2 * t) (hn : n + 16 ≤ 256) (ht : t = tok L + n) (r : Fin k0_t4_loop.trips) (acc : BitVec 32)
    (f0 : Buf (Elt F) (wevM.view.loc (thr d L))) (h0 : wevM.view.read (Elt F) f0 = wVal we (tok L))
    (f1 : Buf (Elt F) (wovM.view.loc (thr d L))) (h1 : wovM.view.read (Elt F) f1 = wVal wo (tok L))
    (fd : Buf (Elt F) ((rbM p).view.loc (thr d L))) (hfd : (rbM p).view.read (Elt F) fd = rowsVal ys dest b)
    (fo : Buf (Elt F) ((obM p).view.loc (thr d L))) (hfo : ∀ x, Done r.val 0 x → (obM p).view.read (Elt F) fo x = resVal ys dest we wo t x) :
    iprop((wevM.view.loc (thr d L) ↦[wevM.view.set]{fullShare} f0) ∗ (wovM.view.loc (thr d L) ↦[wovM.view.set]{fullShare} f1)
        ∗ ((rbM p).view.loc (thr d L) ↦[(rbM p).view.set]{fullShare} fd) ∗ ((obM p).view.loc (thr d L) ↦[(obM p).view.set]{fullShare} fo))
      ⊢ WP d L (rowBody L wevM wovM (rbM p) (obM p) (BitVec.ofNat 32 n) r acc) fun _ =>
        iprop((wevM.view.loc (thr d L) ↦[wevM.view.set]{fullShare} f0) ∗ (wovM.view.loc (thr d L) ↦[wovM.view.set]{fullShare} f1)
          ∗ ((rbM p).view.loc (thr d L) ↦[(rbM p).view.set]{fullShare} fd)
          ∗ ∃ fo, ⌜∀ x, Done (r.val + 1) 0 x → (obM p).view.read (Elt F) fo x = resVal ys dest we wo t x⌝ ∗ (obM p).view.loc (thr d L) ↦[(obM p).view.set]{fullShare} fo) := by
  have hr : r.val < 16 := rowTrips ▸ r.isLt
  have hl := lane_toNat n hn r
  have hchk : k0_chk1 (broadcast S16 (Scalar.addi (BitVec.ofNat 32 n) (Scf.iv 0#32 1#32 r))) := by
    have : ∀ (a : Fin 1) (x : S16.Idx), ((![broadcast S16 (Scalar.addi (BitVec.ofNat 32 n) (Scf.iv 0#32 1#32 r))] : Fin 1 → IVec S16 32) a x).toNat < S256.size a := by
      intro a x
      match a with
      | 0 => show (Scalar.addi (BitVec.ofNat 32 n) (Scf.iv 0#32 1#32 r)).toNat < 256; omega
    exact ⟨this, this⟩
  have hidx : ∀ (w : Vec F S8192 .f32) (h) (j : S16.Idx),
      loadIdx (wVal w (tok L)) (![broadcast S16 (Scalar.addi (BitVec.ofNat 32 n) (Scf.iv 0#32 1#32 r))] : Fin 1 → IVec S16 32) h j = w (at8192 (t + r.val)) := by
    intro w h j
    show w (at8192 (tok L + (Scalar.addi (BitVec.ofNat 32 n) (Scf.iv 0#32 1#32 r)).toNat)) = _
    rw [hl, ht, Nat.add_assoc]
  have hw0 : ∀ j, loadIdx ((wevM.access (.whole S256)).read (Elt F) f0) (![broadcast S16 (Scalar.addi (BitVec.ofNat 32 n) (Scf.iv 0#32 1#32 r))] : Fin 1 → IVec S16 32)
      (k0_idx1_inb _ hchk) j = we (at8192 (t + r.val)) := by
    have e : (wevM.access (.whole S256)).read (Elt F) f0 = wVal we (tok L) := (Memref.read_access_whole _ _ _).trans h0
    rw [e]; exact hidx we _
  have hw1 : ∀ j, loadIdx ((wovM.access (.whole S256)).read (Elt F) f1) (![broadcast S16 (Scalar.addi (BitVec.ofNat 32 n) (Scf.iv 0#32 1#32 r))] : Fin 1 → IVec S16 32)
      (k0_idx2_inb _ hchk) j = wo (at8192 (t + r.val)) := by
    have e : (wovM.access (.whole S256)).read (Elt F) f1 = wVal wo (tok L) := (Memref.read_access_whole _ _ _).trans h1
    rw [e]; exact hidx wo _
  unfold rowBody
  iintro ⟨H0, H1, Hd, Ho⟩
  iapply (Entails.of_eq (wp_assume_of 𝒱₀ (thr d L) none Set.univ hchk).symm)
  iapply (SparseCore.wp_vectorLoadIdx 𝒱₀ (thr d L) none Set.univ (base := wevM) (idxs := ![broadcast S16 (Scalar.addi (BitVec.ofNat 32 n) (Scf.iv 0#32 1#32 r))]) (h := k0_idx1_inb _ hchk) (hl := View.loads_vmem h_S256) (View.set_slice_subset _ _)) $$ [H0]
  · iexact H0
  iintro H0
  iapply (SparseCore.wp_vectorLoadIdx 𝒱₀ (thr d L) none Set.univ (base := wovM) (idxs := ![broadcast S16 (Scalar.addi (BitVec.ofNat 32 n) (Scf.iv 0#32 1#32 r))]) (h := k0_idx2_inb _ hchk) (hl := View.loads_vmem h_S256) (View.set_slice_subset _ _)) $$ [H1]
  · iexact H1
  iintro H1
  iapply (WP_bind d L _ _ _ _) $$ [Hd Ho]
  · iapply (rowLoop_spec d L ys dest we wo p t b hb r _ _ hw0 hw1 fd hfd fo hfo)
    isplitl [Hd] <;> iassumption
  iintro %a ⟨Hd, Ho⟩
  iapply (WP_pure d L)
  isplitl [H0]; · iexact H0
  isplitl [H1]; · iexact H1
  isplitl [Hd] <;> iassumption

/-- The sixteen rows of a chunk: the output buffer reads the chunk's rows of the result. -/
theorem rows_spec (p : Bool) (t b n : ℕ) (hb : b = 2 * t) (hn : n + 16 ≤ 256) (ht : t = tok L + n)
    (f0 : Buf (Elt F) (wevM.view.loc (thr d L))) (h0 : wevM.view.read (Elt F) f0 = wVal we (tok L))
    (f1 : Buf (Elt F) (wovM.view.loc (thr d L))) (h1 : wovM.view.read (Elt F) f1 = wVal wo (tok L))
    (fd : Buf (Elt F) ((rbM p).view.loc (thr d L))) (hfd : (rbM p).view.read (Elt F) fd = rowsVal ys dest b)
    (fo : Buf (Elt F) ((obM p).view.loc (thr d L))) :
    iprop((wevM.view.loc (thr d L) ↦[wevM.view.set]{fullShare} f0) ∗ (wovM.view.loc (thr d L) ↦[wovM.view.set]{fullShare} f1)
        ∗ ((rbM p).view.loc (thr d L) ↦[(rbM p).view.set]{fullShare} fd) ∗ ((obM p).view.loc (thr d L) ↦[(obM p).view.set]{fullShare} fo))
      ⊢ WP d L (rows L p (BitVec.ofNat 32 n)) fun _ =>
        iprop((wevM.view.loc (thr d L) ↦[wevM.view.set]{fullShare} f0) ∗ (wovM.view.loc (thr d L) ↦[wovM.view.set]{fullShare} f1)
          ∗ ((rbM p).view.loc (thr d L) ↦[(rbM p).view.set]{fullShare} fd)
          ∗ ∃ fo, ⌜(obM p).view.read (Elt F) fo = resVal ys dest we wo t⌝ ∗ (obM p).view.loc (thr d L) ↦[(obM p).view.set]{fullShare} fo) := by
  unfold rows
  iintro ⟨H0, H1, Hd, Ho⟩
  iapply (Scf.wp_for frame (wpE (defs₀ (F := F)) 𝒱₀ (thr d L) none) Set.univ _ _ _ k0_t4_ok 0#32 (rowBody L wevM wovM (rbM p) (obM p) (BitVec.ofNat 32 n))
    (fun r _ => iprop((wevM.view.loc (thr d L) ↦[wevM.view.set]{fullShare} f0) ∗ (wovM.view.loc (thr d L) ↦[wovM.view.set]{fullShare} f1)
      ∗ ((rbM p).view.loc (thr d L) ↦[(rbM p).view.set]{fullShare} fd)
      ∗ ∃ fo, ⌜∀ x, Done r 0 x → (obM p).view.read (Elt F) fo x = resVal ys dest we wo t x⌝ ∗ (obM p).view.loc (thr d L) ↦[(obM p).view.set]{fullShare} fo)) ?hbody) $$ [H0 H1 Hd Ho]
  case hbody =>
    intro r acc
    iintro ⟨H0, H1, Hd, %fo, %hfo, Ho⟩
    iapply (rowBody_spec d L ys dest we wo p t b n hb hn ht r acc f0 h0 f1 h1 fd hfd fo hfo)
    isplitl [H0]; · iexact H0
    isplitl [H1]; · iexact H1
    isplitl [Hd] <;> iassumption
  isplitl [H0 H1 Hd Ho]
  · isplitl [H0]; · iexact H0
    isplitl [H1]; · iexact H1
    isplitl [Hd]; · iexact Hd
    iexists fo; isplitr; · ipureintro; intro x hx; rcases hx with h | h <;> omega
    iexact Ho
  iintro %_ ⟨H0, H1, Hd, %fo', %hfo', Ho⟩
  isplitl [H0]; · iexact H0
  isplitl [H1]; · iexact H1
  isplitl [Hd]; · iexact Hd
  iexists fo'; isplitr
  · ipureintro
    funext x
    have hx : (x 0).val < 16 := (x 0).isLt
    exact hfo' x (.inl (by rw [show Scf.trips _ _ _ = 16 from rowTrips]; exact hx))
  · iexact Ho

end Tile

end Cert.Proof.KernelIdeal

end
-- ==== Proof.KernelIdealChunk.lean ====
/-
  A chunk and a tile. `St j` is what a tile holds before its chunk `j`: the gather of chunk `j` in flight, the other
  slot free, the copies out of chunks `j - 2` and `j - 1` in flight, the rows of the result before them written and
  those from chunk `j` on untouched. A chunk takes `St j` to `St (j + 1)` (`chunk_spec`), the tile from nothing written
  to everything written (`tile_spec`).
-/
module

public import proofs.«01_k».proof.Proof.KernelIdealRows

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

theorem par_add_two (j : ℕ) : par (j + 2) = par j := by unfold par; rw [Nat.add_mod_right]

section Tile
variable [FloatOps F] (d : Dev nD) (L : grid0.Coords) {O : CellTallies nD τ sig (HIx 1)} {W : Waits sig (HIx 1)}
variable (ys : Vec F S18432x1024 .f32) (dest : Vec F S16384 .i32) (we wo : Vec F S8192 .f32) (out : Vec F S8192x1024 .f32)

/-! ## What the slices read -/

omit [FloatOps F] in
theorem L0_lt : (L 0).val < 2 := (L 0).isLt
omit [FloatOps F] in
theorem L1_lt : (L 1).val < 16 := (L 1).isLt

theorem weSl_read (m : Memref sig .scVector .hbm S8192 .f32) (f : Buf (Elt F) (m.view.loc (thr d L))) (w : Vec F S8192 .f32) (hw : m.view.read (Elt F) f = w) :
    (weSl m L).view.read (Elt F) f = wVal w (tok L) := by
  subst hw
  have h0 := L0_lt L; have h1 := L1_lt L
  funext x
  have hx : (x 0).val < 256 := (x 0).isLt
  show m.view.read (Elt F) f ((Rect.unit (s := S8192) (k0_off1 L) S256.size (k0_off1_inb L)).emb x) = m.view.read (Elt F) f _
  refine congrArg _ (funext fun a => Fin.ext ?_)
  match a with
  | 0 =>
    show _ = (tok L + (x 0).val) % 8192
    rw [Rect.emb_apply, Nat.mod_eq_of_lt (by unfold tok; omega)]
    simp [k0_off1_eq, tok]

theorem destSl0_read : (destSl0 L).view.read (Elt F) dest = listVal (F := F) dest (2 * tok L) := by
  have h0 := L0_lt L; have h1 := L1_lt L
  funext x
  have hx : (x 0).val < 32 := (x 0).isLt
  show dest ((Rect.unit (s := S16384) (k0_off2 L) S32.size (k0_off2_inb L)).emb x) = dest _
  refine congrArg _ (funext fun a => Fin.ext ?_)
  match a with
  | 0 =>
    show _ = (2 * tok L + (x 0).val) % 16384
    rw [Rect.emb_apply, Nat.mod_eq_of_lt (by unfold tok; omega)]
    simp [k0_off2_eq, tok]; omega

theorem destSl_read (j : Fin 15) : (destSl L j).view.read (Elt F) dest = listVal (F := F) dest (2 * tok L + 32 * (j.val + 1)) := by
  have h0 := L0_lt L; have h1 := L1_lt L
  funext x
  have hx : (x 0).val < 32 := (x 0).isLt
  show dest ((Rect.unit (s := S16384) (k0_off6 L (BitVec.ofNat 32 (32 + 32 * j.val))) S32.size (k0_off6_inb L j)).emb x) = dest _
  refine congrArg _ (funext fun a => Fin.ext ?_)
  match a with
  | 0 =>
    show _ = (2 * tok L + 32 * (j.val + 1) + (x 0).val) % 16384
    rw [Rect.emb_apply, Nat.mod_eq_of_lt (by unfold tok; omega)]
    show k0_off6 L (BitVec.ofNat 32 (32 + 32 * j.val)) 0 + 1 * (x 0).val = _
    rw [k0_off6_eq]
    simp [tok]; omega

theorem outSl_emb (j : Fin 16) (x : S16x1024.Idx) : result ys dest we wo ((outSl L j).view.emb x) = resVal ys dest we wo (tok L + 16 * j.val) x := by
  have e0 : ((outSl L j).view.emb x 0 : ℕ) = tok L + 16 * j.val + (x 0).val := by
    show ((Rect.unit (s := S8192x1024) (k0_off16 L (BitVec.ofNat 32 (16 * j.val))) S16x1024.size (k0_off16_inb L j)).emb x 0 : ℕ) = _
    rw [Rect.emb_apply]
    show k0_off16 L (BitVec.ofNat 32 (16 * j.val)) 0 + 1 * (x 0).val = _
    rw [k0_off16_eq]; simp [tok]
  have e1 : ((outSl L j).view.emb x 1 : ℕ) = (x 1).val := by
    show ((Rect.unit (s := S8192x1024) (k0_off16 L (BitVec.ofNat 32 (16 * j.val))) S16x1024.size (k0_off16_inb L j)).emb x 1 : ℕ) = _
    rw [Rect.emb_apply]
    show k0_off16 L (BitVec.ofNat 32 (16 * j.val)) 1 + 1 * (x 1).val = _
    rw [k0_off16_eq]; simp
  unfold result resVal
  rw [e0, e1]

/-! ## Copies in, out of a larger piece -/

theorem copyIn_wide (hO : ∀ g, O g none = 0) {s : Shape} {e : EltTy} (src : Memref sig .scVector .hbm s e) (dst : Memref sig .scVector .vmem s e) (sem : DmaSems sig S_)
    (hs : src.view.WordExact) (hd : dst.view.WordExact) (h0 : 0 < s.numel) (q : PosShare TreeShare)
    (Sr : Finset (Idx (src.view.loc (thr d L)))) (hS : src.view.set ⊆ Sr) (fs : Buf (Elt F) (src.view.loc (thr d L))) (fd : Buf (Elt F) (dst.view.loc (thr d L))) :
    iprop(X d L O W ∗ (src.view.loc (thr d L) ↦[Sr]{q} fs) ∗ (dst.view.loc (thr d L) ↦[dst.view.set]{fullShare} fd)
        ∗ semVal (thr d L, .dma sem.sem) 0)
      ⊢ WP d L (copyIn L src dst sem hs hd) fun _ => iprop(X d L O W ∗ (src.view.loc (thr d L) ↦[Sr]{q} fs)
          ∗ (∃ f, ⌜dst.view.read (Elt F) f = src.view.read (Elt F) fs⌝ ∗ dst.view.loc (thr d L) ↦[dst.view.set]{fullShare} f)
          ∗ semVal (thr d L, .dma sem.sem) 0) := by
  iintro ⟨HX, Hs, Hd, Hsem⟩
  ihave Hs := (pointsTo_split_subset hS).1 $$ Hs
  icases Hs with ⟨Hs, Hrest⟩
  iapply (WP_wand d L _ _ _) $$ [HX Hs Hd Hsem]
  · iapply (copyIn_spec d L hO src dst sem hs hd h0 q fs fd)
    isplitl [HX]; · iexact HX
    isplitl [Hs]; · iexact Hs
    isplitl [Hd] <;> iassumption
  iintro %_ ⟨HX, Hs, Hd, Hsem⟩
  isplitl [HX]; · iexact HX
  isplitl [Hs Hrest]
  · iapply (pointsTo_split_subset hS).2
    isplitl [Hs] <;> iassumption
  isplitl [Hd] <;> iassumption

/-! ## The state -/

abbrev cell (sem : DmaSems sig S_) : GSem nD τ sig := (thr d L, .dma sem.sem)

/-- The share of the expert output that a slot's gather reads at: a half of the tile's. -/
def half (q : PosShare TreeShare) : Bool → PosShare TreeShare
  | false => q.left
  | true => q.right

def OutAt (f : Vec F S8192x1024 .f32) (j : Fin 16) : sProp 𝕄 := iprop(outM.view.loc (thr d L) ↦[(outSl L j).view.set]{fullShare} f)
def Free (p : Bool) : sProp 𝕄 := iprop((∃ fo, (obM p).view.loc (thr d L) ↦[(obM p).view.set]{fullShare} fo) ∗ semVal (cell d L (osem p)) 0)
def Sent (p : Bool) (j : Fin 16) : sProp 𝕄 :=
  iprop(Transfers.Flight countersEmb (thr d L) (.dma (osem p).sem) ιt (outSl L j).view.dmaCredit
    iprop(OutAt d L (result ys dest we wo) j ∗ ∃ fo, (obM p).view.loc (thr d L) ↦[(obM p).view.set]{fullShare} fo))

/-- The output slot of chunk `j` as chunk `j` finds it. -/
def Slot (j : ℕ) : sProp 𝕄 := if h : 2 ≤ j ∧ j < 18 then Sent d L ys dest we wo (par j) ⟨j - 2, by omega⟩ else Free d L (par j)
/-- The rows of the result: those before chunk `a` written, those from chunk `b` on as they were, those between with the
    copies in flight. -/
def Outs (a b : ℕ) : sProp 𝕄 :=
  bigSep Finset.univ fun k : Fin 16 => if k.val < a then OutAt d L (result ys dest we wo) k else if k.val < b then iprop(emp) else OutAt d L out k
/-- The gather of chunk `j`, where there is one. -/
def Gat (q : PosShare TreeShare) (j : ℕ) : sProp 𝕄 :=
  if j < 16 then Fly d L ys dest (par j) (half q (par j)) (2 * tok L + 32 * j) else Idle d L ys (par j) (half q (par j))
def Fsems : sProp 𝕄 := bigSep Finset.univ fun i : Fin 18 => semVal (cell d L (fsem i)) 0
def DestAt (q : PosShare TreeShare) : sProp 𝕄 := iprop(destM.view.loc (thr d L) ↦[destM.view.set]{q} dest)
def WAt : sProp 𝕄 :=
  iprop((∃ f, ⌜wevM.view.read (Elt F) f = wVal we (tok L)⌝ ∗ wevM.view.loc (thr d L) ↦[wevM.view.set]{fullShare} f)
    ∗ (∃ f, ⌜wovM.view.read (Elt F) f = wVal wo (tok L)⌝ ∗ wovM.view.loc (thr d L) ↦[wovM.view.set]{fullShare} f))

variable (O W) in
def St (q : PosShare TreeShare) (j : ℕ) : sProp 𝕄 :=
  iprop(X d L O W ∗ WAt d L we wo ∗ DestAt d L dest q ∗ Fsems d L ∗ Gat d L ys dest q j ∗ Idle d L ys (par (j + 1)) (half q (par (j + 1)))
    ∗ Slot d L ys dest we wo j ∗ Slot d L ys dest we wo (j + 1) ∗ Outs d L ys dest we wo out (j - 2) j)

theorem outs_take (a : ℕ) (b : Fin 16) (h : a ≤ b.val) :
    Outs d L ys dest we wo out a b.val ⊢ iprop(OutAt d L out b ∗ Outs d L ys dest we wo out a (b.val + 1)) := by
  unfold Outs
  iintro H
  ihave H := (bigSep_univ_update (Φ := fun k : Fin 16 => if k.val < a then OutAt d L (result ys dest we wo) k else if k.val < b.val then iprop(emp) else OutAt d L out k)
    (Ψ := fun k : Fin 16 => if k.val < a then OutAt d L (result ys dest we wo) k else if k.val < b.val + 1 then iprop(emp) else OutAt d L out k) b (fun k hk => by
      have : k.val ≠ b.val := fun e => hk (Fin.ext e)
      by_cases h1 : k.val < b.val
      · rw [if_pos h1, if_pos (by omega : k.val < b.val + 1)]
      · rw [if_neg h1, if_neg (by omega : ¬ k.val < b.val + 1)])) $$ H
  icases H with ⟨Hb, Hback⟩
  isplitl [Hb]
  · iapply (Entails.of_eq (show (if b.val < a then OutAt d L (result ys dest we wo) b else if b.val < b.val then iprop(emp) else OutAt d L out b) = OutAt d L out b by
      rw [if_neg (by omega), if_neg (by omega)])); iexact Hb
  iapply Hback
  iapply (Entails.of_eq (show iprop(emp) = (if b.val < a then OutAt d L (result ys dest we wo) b else if b.val < b.val + 1 then iprop(emp) else OutAt d L out b) by
      rw [if_neg (by omega), if_pos (by omega)]))
  iempintro

theorem outs_put (a : Fin 16) (b : ℕ) (h : a.val < b) :
    iprop(Outs d L ys dest we wo out a.val b ∗ OutAt d L (result ys dest we wo) a) ⊢ Outs d L ys dest we wo out (a.val + 1) b := by
  unfold Outs
  iintro ⟨H, Ha⟩
  ihave H := (bigSep_univ_update (Φ := fun k : Fin 16 => if k.val < a.val then OutAt d L (result ys dest we wo) k else if k.val < b then iprop(emp) else OutAt d L out k)
    (Ψ := fun k : Fin 16 => if k.val < a.val + 1 then OutAt d L (result ys dest we wo) k else if k.val < b then iprop(emp) else OutAt d L out k) a (fun k hk => by
      have : k.val ≠ a.val := fun e => hk (Fin.ext e)
      by_cases h1 : k.val < a.val
      · rw [if_pos h1, if_pos (by omega : k.val < a.val + 1)]
      · rw [if_neg h1, if_neg (by omega : ¬ k.val < a.val + 1)])) $$ H
  icases H with ⟨-, Hback⟩
  iapply Hback
  iapply (Entails.of_eq (show OutAt d L (result ys dest we wo) a = (if a.val < a.val + 1 then OutAt d L (result ys dest we wo) a else if a.val < b then iprop(emp) else OutAt d L out a) by
      rw [if_pos (by omega)]))
  iexact Ha

/-! ## The pieces -/

theorem fetch_spec (hO : ∀ g, O g none = 0) {s : Shape} {e : EltTy} (src : Memref sig .scVector .hbm s e) (dst : Memref sig .scVector .vmem s e) (i : Fin 18)
    (hs : src.view.WordExact) (hd : dst.view.WordExact) (h0 : 0 < s.numel) (q : PosShare TreeShare)
    (Sr : Finset (Idx (src.view.loc (thr d L)))) (hS : src.view.set ⊆ Sr) (fs : Buf (Elt F) (src.view.loc (thr d L))) (fd : Buf (Elt F) (dst.view.loc (thr d L))) :
    iprop(X d L O W ∗ Fsems d L ∗ (src.view.loc (thr d L) ↦[Sr]{q} fs) ∗ (dst.view.loc (thr d L) ↦[dst.view.set]{fullShare} fd))
      ⊢ WP d L (copyIn L src dst (fsem i) hs hd) fun _ => iprop(X d L O W ∗ Fsems d L ∗ (src.view.loc (thr d L) ↦[Sr]{q} fs)
          ∗ (∃ f, ⌜dst.view.read (Elt F) f = src.view.read (Elt F) fs⌝ ∗ dst.view.loc (thr d L) ↦[dst.view.set]{fullShare} f)) := by
  unfold Fsems
  iintro ⟨HX, Hf, Hs, Hd⟩
  ihave Hf := (bigSep_univ_update (Φ := fun i : Fin 18 => (semVal (cell d L (fsem i)) 0 : sProp 𝕄)) (Ψ := fun i : Fin 18 => (semVal (cell d L (fsem i)) 0 : sProp 𝕄))
    i (fun _ _ => rfl)) $$ Hf
  icases Hf with ⟨Hsem, Hf⟩
  iapply (WP_wand d L _ _ _) $$ [HX Hs Hd Hsem]
  · iapply (copyIn_wide d L hO src dst (fsem i) hs hd h0 q Sr hS fs fd)
    isplitl [HX]; · iexact HX
    isplitl [Hs]; · iexact Hs
    isplitl [Hd] <;> iassumption
  iintro %_ ⟨HX, Hs, Hd, Hsem⟩
  isplitl [HX]; · iexact HX
  isplitl [Hf Hsem]; · iapply Hf; iexact Hsem
  isplitl [Hs] <;> iassumption

theorem ahead_spec (hO : ∀ g, O g none = 0) (hpre : ∀ i, BitVec.toNat (w := 32) (dest i) < 18432) (q : PosShare TreeShare) (j : Fin 15) :
    iprop(X d L O W ∗ DestAt d L dest q ∗ Fsems d L ∗ Idle d L ys (par (j.val + 1)) (half q (par (j.val + 1))))
      ⊢ WP d L (ahead L j) fun _ => iprop(X d L O W ∗ DestAt d L dest q ∗ Fsems d L
          ∗ Fly d L ys dest (par (j.val + 1)) (half q (par (j.val + 1))) (2 * tok L + 32 * (j.val + 1))) := by
  have h3 : j.val + 3 < 18 := by omega
  unfold ahead DestAt Idle
  iintro ⟨HX, Hde, Hf, ⟨%fd, Hd⟩, ⟨%fi, Hi⟩, Hy, Hsems⟩
  iapply (WP_bind d L _ _ _ _) $$ [HX Hf Hde Hi]
  · iapply (fetch_spec d L hO (destSl L j) (idxM (par (j.val + 1))) ⟨j.val + 3, h3⟩ (View.wordExact_bits rfl) (idxM_whole _).wordExact (by decide) q
      destM.view.set (View.set_slice_subset _ _) dest fi)
    isplitl [HX]; · iexact HX
    isplitl [Hf]; · iexact Hf
    isplitl [Hde] <;> iassumption
  iintro %_ ⟨HX, Hf, Hde, ⟨%fi', %hfi, Hi⟩⟩
  iapply (WP_wand d L _ _ _) $$ [HX Hd Hi Hy Hsems]
  · iapply (issue_spec d L ys dest hpre (par (j.val + 1)) (half q (par (j.val + 1))) (2 * tok L + 32 * (j.val + 1)) fd fi' (hfi.trans (destSl_read L dest j)))
    isplitl [HX]; · iexact HX
    isplitl [Hd]; · iexact Hd
    isplitl [Hi]; · iexact Hi
    isplitl [Hy] <;> iassumption
  iintro %_ ⟨HX, Hfly⟩
  isplitl [HX]; · iexact HX
  isplitl [Hde]; · iexact Hde
  isplitl [Hf]; · iexact Hf
  iexact Hfly

theorem aheadAt_spec (hO : ∀ g, O g none = 0) (hpre : ∀ i, BitVec.toNat (w := 32) (dest i) < 18432) (q : PosShare TreeShare) (j : ℕ) :
    iprop(X d L O W ∗ DestAt d L dest q ∗ Fsems d L ∗ Idle d L ys (par (j + 1)) (half q (par (j + 1))))
      ⊢ WP d L (aheadAt L j) fun _ => iprop(X d L O W ∗ DestAt d L dest q ∗ Fsems d L ∗ Gat d L ys dest q (j + 1)) := by
  unfold aheadAt Gat
  by_cases h : j < 15
  · rw [dif_pos h, if_pos (by omega)]
    exact ahead_spec d L ys dest hO hpre q ⟨j, h⟩
  · rw [dif_neg h, if_neg (by omega)]
    exact WP_pure d L _ _

theorem outWait_spec (hO : ∀ g, O g none = 0) (j : Fin 16) :
    iprop(X d L O W ∗ Sent d L ys dest we wo (par j.val) j)
      ⊢ WP d L (outWait L j) fun _ => iprop(X d L O W ∗ Free d L (par j.val) ∗ OutAt d L (result ys dest we wo) j) := by
  unfold outWait Sent Free
  iintro ⟨HX, H⟩
  iapply (wait_spec d L hO (obM (par j.val)) (outSl L j) rfl) $$ [HX H]
  · isplitl [HX] <;> iassumption
  iintro ⟨HX, ⟨Hout, Hob⟩, Hsem⟩
  iapply (WP_pure d L)
  isplitl [HX]; · iexact HX
  isplitl [Hob Hsem]
  · isplitl [Hob] <;> iassumption
  iexact Hout

theorem settle_spec (hO : ∀ g, O g none = 0) (j : Fin 16) :
    iprop(X d L O W ∗ Slot d L ys dest we wo j.val ∗ Outs d L ys dest we wo out (j.val - 2) j.val)
      ⊢ WP d L (settle L j.val j.isLt) fun _ => iprop(X d L O W ∗ Free d L (par j.val) ∗ Outs d L ys dest we wo out (j.val + 1 - 2) j.val) := by
  unfold settle Slot
  by_cases h : 2 ≤ j.val
  · rw [dif_pos h, dif_pos ⟨h, by omega⟩]
    have hp : par j.val = par (j.val - 2) := by
      obtain ⟨k, hk⟩ : ∃ k, j.val = k + 2 := ⟨j.val - 2, by omega⟩
      rw [hk, par_add_two, Nat.add_sub_cancel]
    have ho : j.val + 1 - 2 = j.val - 2 + 1 := by omega
    have h16 : j.val - 2 < 16 := by omega
    have hlt : j.val - 2 < j.val := by omega
    rw [hp, ho]
    iintro ⟨HX, Hs, Ho⟩
    iapply (WP_wand d L _ _ _) $$ [HX Hs]
    · iapply (outWait_spec d L ys dest we wo hO ⟨j.val - 2, h16⟩)
      isplitl [HX] <;> iassumption
    iintro %_ ⟨HX, Hf, Hout⟩
    isplitl [HX]; · iexact HX
    isplitl [Hf]; · iexact Hf
    iapply (outs_put d L ys dest we wo out ⟨j.val - 2, h16⟩ j.val hlt)
    isplitl [Ho] <;> iassumption
  · rw [dif_neg h, dif_neg (fun hh => h hh.1), show j.val - 2 = 0 by omega, show j.val + 1 - 2 = 0 by omega]
    exact WP_pure d L _ _

theorem outIssue_spec (j : Fin 16) (fo : Buf (Elt F) ((obM (par j.val)).view.loc (thr d L)))
    (hfo : (obM (par j.val)).view.read (Elt F) fo = resVal ys dest we wo (tok L + 16 * j.val)) :
    iprop(((obM (par j.val)).view.loc (thr d L) ↦[(obM (par j.val)).view.set]{fullShare} fo) ∗ semVal (cell d L (osem (par j.val))) 0 ∗ OutAt d L out j)
      ⊢ WP d L (outIssue L j) fun _ => Sent d L ys dest we wo (par j.val) j := by
  unfold outIssue OutAt
  iintro ⟨Hob, Hsem, Hout⟩
  iapply (Transfers.wp_dmaLocal countersEmb 𝒱₀ (thr d L) none ιt (outSl L j).view.dmaCredit rfl (View.dmaCredit_pos _ (by decide)) (Finset.Subset.refl _)) $$ [Hob Hsem Hout]
  · isplitl [Hob]; · iexact Hob
    isplitl [Hout] <;> iassumption
  iintro Hfl
  iapply (WP_pure d L)
  unfold Sent
  iapply (Transfers.Flight_mono countersEmb (thr d L) ?_) $$ Hfl
  unfold OutAt
  iintro ⟨Hout, Hob⟩
  isplitl [Hout]
  · iapply (Entails.of_eq (pointsTo_congr fun i hi => ?_)) $$ Hout
    obtain ⟨x, -, rfl⟩ := Finset.mem_map.mp hi
    rw [View.write_emb_of_mem _ _ (Finset.mem_univ x), outSl_emb]
    exact congrFun hfo x
  iexists fo; iexact Hob

theorem chunk_spec (hO : ∀ g, O g none = 0) (hpre : ∀ i, BitVec.toNat (w := 32) (dest i) < 18432) (q : PosShare TreeShare) (j : Fin 16) :
    St d L O W ys dest we wo out q j.val ⊢ WP d L (chunk L j) fun _ => St d L O W ys dest we wo out q (j.val + 1) := by
  have hG : Gat d L ys dest q j.val = Fly d L ys dest (par j.val) (half q (par j.val)) (2 * tok L + 32 * j.val) := if_pos j.isLt
  have hS : Slot d L ys dest we wo (j.val + 1 + 1) = Sent d L ys dest we wo (par j.val) j := by
    unfold Slot
    rw [dif_pos (show 2 ≤ j.val + 1 + 1 ∧ j.val + 1 + 1 < 18 by omega)]
    exact congrArg (fun p => Sent d L ys dest we wo p j) (par_add_two j.val)
  have hI : par (j.val + 1 + 1) = par j.val := par_add_two _
  unfold chunk St WAt
  rw [hG, hS, hI]
  iintro ⟨HX, ⟨⟨%f0, %h0, H0⟩, ⟨%f1, %h1, H1⟩⟩, Hde, Hf, Hfly, Hidle, Hs0, Hs1, Ho⟩
  iapply (WP_bind d L _ _ _ _) $$ [HX Hde Hf Hidle]
  · iapply (aheadAt_spec d L ys dest hO hpre q j.val)
    isplitl [HX]; · iexact HX
    isplitl [Hde]; · iexact Hde
    isplitl [Hf] <;> iassumption
  iintro %_ ⟨HX, Hde, Hf, Hgat⟩
  iapply (WP_bind d L _ _ _ _) $$ [HX Hfly]
  · iapply (await_spec d L ys dest hO (par j.val) (half q (par j.val)) (2 * tok L + 32 * j.val))
    isplitl [HX] <;> iassumption
  iintro %_ ⟨HX, Hland⟩
  iapply (WP_bind d L _ _ _ _) $$ [HX Hs0 Ho]
  · iapply (settle_spec d L ys dest we wo out hO j)
    isplitl [HX]; · iexact HX
    isplitl [Hs0] <;> iassumption
  iintro %_ ⟨HX, Hfree, Ho⟩
  unfold Land Free
  icases Hland with ⟨⟨%fd, %hfd, Hd⟩, Hland⟩
  icases Hfree with ⟨⟨%fo, Hob⟩, Hosem⟩
  iapply (WP_bind d L _ _ _ _) $$ [H0 H1 Hd Hob]
  · iapply (rows_spec d L ys dest we wo (par j.val) (tok L + 16 * j.val) (2 * tok L + 32 * j.val) (16 * j.val) (by omega) (by omega) rfl f0 h0 f1 h1 fd hfd fo)
    isplitl [H0]; · iexact H0
    isplitl [H1]; · iexact H1
    isplitl [Hd] <;> iassumption
  iintro %_ ⟨H0, H1, Hd, ⟨%fo', %hfo', Hob⟩⟩
  ihave Ho := (outs_take d L ys dest we wo out (j.val + 1 - 2) j (by omega)) $$ Ho
  icases Ho with ⟨Hj, Ho⟩
  iapply (WP_wand d L _ _ _) $$ [Hob Hosem Hj]
  · iapply (outIssue_spec d L ys dest we wo out j fo' hfo')
    isplitl [Hob]; · iexact Hob
    isplitl [Hosem] <;> iassumption
  iintro %_ Hsent
  isplitl [HX]; · iexact HX
  isplitl [H0 H1]
  · isplitl [H0]
    · iexists f0; isplitr; · ipureintro; exact h0
      iexact H0
    · iexists f1; isplitr; · ipureintro; exact h1
      iexact H1
  isplitl [Hde]; · iexact Hde
  isplitl [Hf]; · iexact Hf
  isplitl [Hgat]; · iexact Hgat
  isplitl [Hd Hland]
  · unfold Idle
    isplitl [Hd]; · iexists fd; iexact Hd
    iexact Hland
  isplitl [Hs1]; · iexact Hs1
  isplitl [Hsent] <;> iassumption

theorem chunks_spec (hO : ∀ g, O g none = 0) (hpre : ∀ i, BitVec.toNat (w := 32) (dest i) < 18432) (q : PosShare TreeShare) :
    ∀ (n j : ℕ) (h : j + n ≤ 16), St d L O W ys dest we wo out q j ⊢ WP d L (chunks L n j h) fun _ => St d L O W ys dest we wo out q (j + n)
  | 0, _, _ => WP_pure d L _ _
  | n + 1, j, h => by
    have hj : j < 16 := by omega
    have hn : j + 1 + n ≤ 16 := by omega
    rw [chunks, show j + (n + 1) = j + 1 + n by omega]
    iintro H
    iapply (WP_bind d L _ _ _ _) $$ [H]
    · iapply (chunk_spec d L ys dest we wo out hO hpre q ⟨j, hj⟩); iexact H
    iintro %_ H
    iapply (chunks_spec hO hpre q n (j + 1) hn); iexact H

/-- What a tile is given and gives back, its rows of the result holding `f`. -/
def Res (q : PosShare TreeShare) (f : Vec F S8192x1024 .f32) : sProp 𝕄 :=
  iprop(DestAt d L dest q ∗ (weM.view.loc (thr d L) ↦[weM.view.set]{q} we) ∗ (woM.view.loc (thr d L) ↦[woM.view.set]{q} wo)
    ∗ (∃ g, wevM.view.loc (thr d L) ↦[wevM.view.set]{fullShare} g) ∗ (∃ g, wovM.view.loc (thr d L) ↦[wovM.view.set]{fullShare} g)
    ∗ Fsems d L ∗ Idle d L ys false (half q false) ∗ Idle d L ys true (half q true) ∗ Free d L false ∗ Free d L true
    ∗ bigSep Finset.univ fun k : Fin 16 => OutAt d L f k)

theorem prologue_spec (hO : ∀ g, O g none = 0) (hpre : ∀ i, BitVec.toNat (w := 32) (dest i) < 18432) (q : PosShare TreeShare) :
    iprop(X d L O W ∗ Res d L ys dest we wo q out)
      ⊢ WP d L (prologue L) fun _ => iprop(St d L O W ys dest we wo out q 0
          ∗ (weM.view.loc (thr d L) ↦[weM.view.set]{q} we) ∗ (woM.view.loc (thr d L) ↦[woM.view.set]{q} wo)) := by
  have hG : Gat d L ys dest q 0 = Fly d L ys dest false (half q false) (2 * tok L) := if_pos (by decide)
  have hS0 : Slot d L ys dest we wo 0 = Free d L false := dif_neg (by decide)
  have hS1 : Slot d L ys dest we wo (0 + 1) = Free d L true := dif_neg (by decide)
  have hOut : Outs d L ys dest we wo out (0 - 2) 0 = bigSep Finset.univ fun k : Fin 16 => OutAt d L out k := rfl
  have hp : par (0 + 1) = true := rfl
  unfold prologue St Res WAt DestAt
  rw [hG, hS0, hS1, hOut, hp]
  iintro ⟨HX, Hde, Hwe, Hwo, ⟨%g0, H0⟩, ⟨%g1, H1⟩, Hf, Hidle, Hi1, Hf0, Hf1, Ho⟩
  unfold Idle
  icases Hidle with ⟨⟨%fd, Hd⟩, ⟨%fi, Hi⟩, Hy, Hsems⟩
  iapply (WP_bind d L _ _ _ _) $$ [HX Hf Hwe H0]
  · iapply (fetch_spec d L hO (weSl weM L) wevM 0 (View.wordExact_bits rfl) (Memref.isWhole_whole _).wordExact (by decide) q weM.view.set (View.set_slice_subset _ _) we g0)
    isplitl [HX]; · iexact HX
    isplitl [Hf]; · iexact Hf
    isplitl [Hwe] <;> iassumption
  iintro %_ ⟨HX, Hf, Hwe, ⟨%f0, %h0, H0⟩⟩
  iapply (WP_bind d L _ _ _ _) $$ [HX Hf Hwo H1]
  · iapply (fetch_spec d L hO (weSl woM L) wovM 1 (View.wordExact_bits rfl) (Memref.isWhole_whole _).wordExact (by decide) q woM.view.set (View.set_slice_subset _ _) wo g1)
    isplitl [HX]; · iexact HX
    isplitl [Hf]; · iexact Hf
    isplitl [Hwo] <;> iassumption
  iintro %_ ⟨HX, Hf, Hwo, ⟨%f1, %h1, H1⟩⟩
  iapply (WP_bind d L _ _ _ _) $$ [HX Hf Hde Hi]
  · iapply (fetch_spec d L hO (destSl0 L) (idxM false) 2 (View.wordExact_bits rfl) (idxM_whole _).wordExact (by decide) q destM.view.set (View.set_slice_subset _ _) dest fi)
    isplitl [HX]; · iexact HX
    isplitl [Hf]; · iexact Hf
    isplitl [Hde] <;> iassumption
  iintro %_ ⟨HX, Hf, Hde, ⟨%fi', %hfi, Hi⟩⟩
  iapply (WP_wand d L _ _ _) $$ [HX Hd Hi Hy Hsems]
  · iapply (issue_spec d L ys dest hpre false (half q false) (2 * tok L) fd fi' (hfi.trans (destSl0_read L dest)))
    isplitl [HX]; · iexact HX
    isplitl [Hd]; · iexact Hd
    isplitl [Hi]; · iexact Hi
    isplitl [Hy] <;> iassumption
  iintro %_ ⟨HX, Hfly⟩
  isplitr [Hwe Hwo]
  · isplitl [HX]; · iexact HX
    isplitl [H0 H1]
    · isplitl [H0]
      · iexists f0; isplitr; · ipureintro; exact h0.trans (weSl_read d L weM we we (View.read_whole _ _))
        iexact H0
      · iexists f1; isplitr; · ipureintro; exact h1.trans (weSl_read d L woM wo wo (View.read_whole _ _))
        iexact H1
    isplitl [Hde]; · iexact Hde
    isplitl [Hf]; · iexact Hf
    isplitl [Hfly]; · iexact Hfly
    isplitl [Hi1]; · iexact Hi1
    isplitl [Hf0]; · iexact Hf0
    isplitl [Hf1] <;> iassumption
  isplitl [Hwe] <;> iassumption

theorem tile_spec (hO : ∀ g, O g none = 0) (hpre : ∀ i, BitVec.toNat (w := 32) (dest i) < 18432) (q : PosShare TreeShare) :
    iprop(X d L O W ∗ Res d L ys dest we wo q out)
      ⊢ WP d L (tile L) fun _ => iprop(X d L O W ∗ Res d L ys dest we wo q (result ys dest we wo)) := by
  have hG : Gat d L ys dest q (0 + 16) = Idle d L ys false (half q false) := if_neg (by decide)
  have hS0 : Slot d L ys dest we wo (0 + 16) = Sent d L ys dest we wo (par (14 : Fin 16).val) 14 := dif_pos (by decide)
  have hS1 : Slot d L ys dest we wo (0 + 16 + 1) = Sent d L ys dest we wo (par (15 : Fin 16).val) 15 := dif_pos (by decide)
  have hOut : Outs d L ys dest we wo out ((15 : Fin 16).val + 1) 16 ⊢ bigSep Finset.univ fun k : Fin 16 => OutAt d L (result ys dest we wo) k :=
    Entails.of_eq (bigSep_congr fun k _ => if_pos k.isLt)
  have hO14 : Outs d L ys dest we wo out (0 + 16 - 2) (0 + 16) ⊢ Outs d L ys dest we wo out (14 : Fin 16).val 16 := Entails.of_eq rfl
  have hI : Idle d L ys (par (0 + 16 + 1)) (half q (par (0 + 16 + 1))) ⊢ Idle d L ys true (half q true) := Entails.of_eq rfl
  have hF0 : Free (F := F) d L (par (14 : Fin 16).val) ⊢ Free d L false := Entails.of_eq rfl
  have hF1 : Free (F := F) d L (par (15 : Fin 16).val) ⊢ Free d L true := Entails.of_eq rfl
  have hO15 : Outs d L ys dest we wo out ((14 : Fin 16).val + 1) 16 ⊢ Outs d L ys dest we wo out (15 : Fin 16).val 16 := Entails.of_eq rfl
  unfold tile
  iintro H
  iapply (WP_bind d L _ _ _ _) $$ [H]
  · iapply (prologue_spec d L ys dest we wo out hO hpre q); iexact H
  iintro %_ ⟨HSt, Hwe, Hwo⟩
  iapply (WP_bind d L _ _ _ _) $$ [HSt]
  · iapply (chunks_spec d L ys dest we wo out hO hpre q 16 0 (le_refl _)); iexact HSt
  iintro %_ HSt
  unfold St WAt
  icases HSt with ⟨HX, ⟨⟨%f0, -, H0⟩, ⟨%f1, -, H1⟩⟩, Hde, Hf, Hg, Hi, Hs0, Hs1, Ho⟩
  ihave Hg := (Entails.of_eq hG) $$ Hg
  ihave Hs0 := (Entails.of_eq hS0) $$ Hs0
  ihave Hs1 := (Entails.of_eq hS1) $$ Hs1
  iapply (WP_bind d L _ _ _ _) $$ [HX Hs0]
  · iapply (outWait_spec d L ys dest we wo hO 14)
    isplitl [HX] <;> iassumption
  iintro %_ ⟨HX, Hf0, Ho14⟩
  iapply (WP_wand d L _ _ _) $$ [HX Hs1]
  · iapply (outWait_spec d L ys dest we wo hO 15)
    isplitl [HX] <;> iassumption
  iintro %_ ⟨HX, Hf1, Ho15⟩
  ihave Ho := hO14 $$ Ho
  ihave Ho := (outs_put d L ys dest we wo out 14 16 (by decide)) $$ [Ho Ho14]
  · isplitl [Ho] <;> iassumption
  ihave Ho := hO15 $$ Ho
  ihave Ho := (outs_put d L ys dest we wo out 15 16 (by decide)) $$ [Ho Ho15]
  · isplitl [Ho] <;> iassumption
  ihave Ho := hOut $$ Ho
  ihave Hi := hI $$ Hi
  ihave Hf0 := hF0 $$ Hf0
  ihave Hf1 := hF1 $$ Hf1
  isplitl [HX]; · iexact HX
  unfold Res
  isplitl [Hde]; · iexact Hde
  isplitl [Hwe]; · iexact Hwe
  isplitl [Hwo]; · iexact Hwo
  isplitl [H0]; · iexists f0; iexact H0
  isplitl [H1]; · iexists f1; iexact H1
  isplitl [Hf]; · iexact Hf
  isplitl [Hg]; · iexact Hg
  isplitl [Hi]; · iexact Hi
  isplitl [Hf0]; · iexact Hf0
  isplitl [Hf1] <;> iassumption

end Tile

end Cert.Proof.KernelIdeal

end
-- ==== Proof.KernelIdealOwn.lean ====
/-
  What a tile owns before the launch hands it anything, its scratch buffers and its semaphores, is what the tile's
  theorem asks for: `give` puts the two together, `take` gives them back, and `tile_body` is the tile's theorem said of
  the printed program and of everything the tile owns.
-/
module

public import proofs.«01_k».proof.Proof.KernelIdealChunk

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

theorem bigSep_bool (Φ : Bool → sProp 𝕄) : bigSep Finset.univ Φ = iprop(Φ false ∗ Φ true) := by
  rw [show (Finset.univ : Finset Bool) = {false, true} by decide, SparseCore.bigSep_insert' (by decide), bigSep_singleton]

/-- The members a one-to-one map names, and the rest. -/
theorem bigSep_named {I J : Type} [DecidableEq I] [Fintype J] {s : Finset I} {f : J → I} (inj : Function.Injective f) (sub : ∀ j, f j ∈ s) (Φ : I → sProp 𝕄) :
    bigSep s Φ = iprop(bigSep Finset.univ (fun j => Φ (f j)) ∗ bigSep (s \ Finset.univ.map ⟨f, inj⟩) Φ) := by
  rw [bigSep_sdiff_split (t := Finset.univ.map ⟨f, inj⟩) (fun x hx => by obtain ⟨j, -, rfl⟩ := Finset.mem_map.mp hx; exact sub j), bigSep_map]
  rfl

/-! ## The semaphores -/

abbrev SemIx : Type := ((Bool × Fin k0_t1_loop.trips) ⊕ Bool) ⊕ Fin 18
/-- A tile's semaphores: a column's, a copy's out, and those of the copies awaited where they are issued. -/
def semIx : SemIx → DmaSem sig := Sum.elim (Sum.elim (fun x => colSem (gsem x.1) x.2) fun p => (osem p).sem) fun i => (fsem i).sem

set_option maxRecDepth 16384 in
theorem semIx_injective : Function.Injective semIx := by decide
set_option maxRecDepth 16384 in
theorem semIx_scoped : ∀ x, (SemLoc.dma (semIx x) : SemLoc sig).isScoped .scVector = true := by decide

/-! ## The scratch buffers -/

def bufIx : Fin 8 → Ref sig .scVector := ![cc0_scratch0, cc0_scratch1, cc0_scratch2, cc0_scratch3, cc0_scratch4, cc0_scratch5, cc0_scratch6, cc0_scratch7]
theorem bufIx_injective : Function.Injective bufIx := by decide

section Tile
variable [FloatOps F] (d : Dev nD) (L : grid0.Coords)

abbrev proc : Proc τ := Proc.scVector (cV L) (jV L)
def semAt (x : SemIx) : GSem nD τ sig := (thr d L, .dma (semIx x))
theorem semAt_injective : Function.Injective (semAt d L) := fun x y h => semIx_injective (SemLoc.dma.inj (congrArg Prod.snd h))
theorem refAt_injective : Function.Injective fun k => (proc L).devRef (bufIx k) := fun x y h => bufIx_injective (Proc.devRef_injective _ h)
def restS : sProp 𝕄 := bigSep (ownCells (thr d L) \ Finset.univ.map ⟨semAt d L, semAt_injective d L⟩) fun g => semVal g 0
def restB : sProp 𝕄 :=
  bigSep (ownRefs (τ := τ) (proc L) \ Finset.univ.map ⟨fun k => (proc L).devRef (bufIx k), refAt_injective L⟩) fun b => iprop(∃ f, ((d, b) : Loc nD τ sig) ↦{fullShare} f)

theorem ownSems0_V : (ownSems0 (thr d L) : sProp 𝕄)
    = iprop(((((bigSep Finset.univ fun t : Fin k0_t1_loop.trips => semVal (colCell d L (gsem false) t) 0)
        ∗ bigSep Finset.univ fun t : Fin k0_t1_loop.trips => semVal (colCell d L (gsem true) t) 0)
        ∗ semVal (cell d L (osem false)) 0 ∗ semVal (cell d L (osem true)) 0) ∗ Fsems d L) ∗ restS d L) := by
  unfold SparseCore.Cfg.ownSems0
  rw [bigSep_named (semAt_injective d L) (fun x => mem_ownCells.mpr ⟨rfl, semIx_scoped x⟩), bigSep_univ_sum, bigSep_univ_sum, bigSep_univ_prod, bigSep_bool, bigSep_bool]
  rfl

abbrev BufAt {s : Shape} {e : EltTy} (v : Memref sig .scVector .vmem s e) : sProp 𝕄 := iprop(∃ f, v.view.loc (thr d L) ↦[v.view.set]{fullShare} f)

theorem bufAt_whole (b : Ref sig .scVector) :
    (iprop(∃ f, ((thr d L).loc b) ↦{fullShare} f) : sProp 𝕄) = iprop(∃ f, (View.whole b).loc (thr d L) ↦[(View.whole b).set]{fullShare} f) := by
  rw [View.set_whole]

theorem ownBufs_V : (ownBufs (thr d L) : sProp 𝕄)
    = iprop((BufAt d L wevM ∗ BufAt d L wovM ∗ BufAt d L (idxM false) ∗ BufAt d L (idxM true) ∗ BufAt d L (rbM false) ∗ BufAt d L (rbM true)
        ∗ BufAt d L (obM false) ∗ BufAt d L (obM true)) ∗ restB d L) := by
  unfold SparseCore.Cfg.ownBufs
  refine (bigSep_named (refAt_injective L) (fun k => SparseCore.Cfg.mem_ownRefs_of_owner (p := proc L) (by fin_cases k <;> rfl)) _).trans ?_
  refine congrArg (fun P : sProp 𝕄 => iprop(P ∗ restB d L)) ?_
  refine (show _ = bigSep Finset.univ fun k => iprop(∃ f, (View.whole (bufIx k)).loc (thr d L) ↦[(View.whole (bufIx k)).set]{fullShare} f) from
    bigSep_congr fun k _ => bufAt_whole d L (bufIx k)).trans ?_
  rw [show (Finset.univ : Finset (Fin 8)) = {0, 1, 2, 3, 4, 5, 6, 7} by decide]
  iterate 7 rw [SparseCore.bigSep_insert' (by decide)]
  rw [bigSep_singleton]
  rfl

/-! ## What the launch hands over -/

variable (ys : Vec F S18432x1024 .f32) (dest : Vec F S16384 .i32) (we wo : Vec F S8192 .f32)

/-- A share of each argument, and the tile's rows of the result. -/
def Task (q : PosShare TreeShare) (f : Vec F S8192x1024 .f32) : sProp 𝕄 :=
  iprop((ysM.view.loc (thr d L) ↦[ysM.view.set]{q} ys) ∗ (destM.view.loc (thr d L) ↦[destM.view.set]{q} dest)
    ∗ (weM.view.loc (thr d L) ↦[weM.view.set]{q} we) ∗ (woM.view.loc (thr d L) ↦[woM.view.set]{q} wo)
    ∗ bigSep Finset.univ fun k : Fin 16 => OutAt d L f k)

theorem give (q : PosShare TreeShare) (f : Vec F S8192x1024 .f32) :
    iprop(Task d L ys dest we wo q f ∗ ownBufs (thr d L) ∗ ownSems0 (thr d L)) ⊢ iprop(Res d L ys dest we wo q f ∗ restB d L ∗ restS d L) := by
  rw [ownBufs_V, ownSems0_V]
  unfold Task Res Idle Free DestAt half
  iintro ⟨⟨Hy, Hde, Hwe, Hwo, Ho⟩, ⟨⟨H0, H1, Hi0, Hi1, Hr0, Hr1, Ho0, Ho1⟩, Hrb⟩, ⟨⟨⟨⟨Hc0, Hc1⟩, ⟨Hs0, Hs1⟩⟩, Hf⟩, Hrs⟩⟩
  ihave Hy := (pointsTo_share (PosShare.mem_left_op_right q)).1 $$ Hy
  icases Hy with ⟨Hyl, Hyr⟩
  isplitr [Hrb Hrs]
  · isplitl [Hde]; · iexact Hde
    isplitl [Hwe]; · iexact Hwe
    isplitl [Hwo]; · iexact Hwo
    isplitl [H0]; · iexact H0
    isplitl [H1]; · iexact H1
    isplitl [Hf]; · iexact Hf
    isplitl [Hr0 Hi0 Hyl Hc0]
    · isplitl [Hr0]; · iexact Hr0
      isplitl [Hi0]; · iexact Hi0
      isplitl [Hyl] <;> iassumption
    isplitl [Hr1 Hi1 Hyr Hc1]
    · isplitl [Hr1]; · iexact Hr1
      isplitl [Hi1]; · iexact Hi1
      isplitl [Hyr] <;> iassumption
    isplitl [Ho0 Hs0]
    · isplitl [Ho0] <;> iassumption
    isplitl [Ho1 Hs1]
    · isplitl [Ho1] <;> iassumption
    iexact Ho
  isplitl [Hrb] <;> iassumption

theorem take (q : PosShare TreeShare) (f : Vec F S8192x1024 .f32) :
    iprop(Res d L ys dest we wo q f ∗ restB d L ∗ restS d L) ⊢ iprop(Task d L ys dest we wo q f ∗ ownBufs (thr d L) ∗ ownSems0 (thr d L)) := by
  rw [ownBufs_V, ownSems0_V]
  unfold Task Res Idle Free DestAt half
  iintro ⟨⟨Hde, Hwe, Hwo, H0, H1, Hf, ⟨Hr0, Hi0, Hyl, Hc0⟩, ⟨Hr1, Hi1, Hyr, Hc1⟩, ⟨Ho0, Hs0⟩, ⟨Ho1, Hs1⟩, Ho⟩, Hrb, Hrs⟩
  isplitl [Hde Hwe Hwo Hyl Hyr Ho]
  · isplitl [Hyl Hyr]
    · iapply (pointsTo_share (PosShare.mem_left_op_right q)).2
      isplitl [Hyl] <;> iassumption
    isplitl [Hde]; · iexact Hde
    isplitl [Hwe]; · iexact Hwe
    isplitl [Hwo] <;> iassumption
  isplitl [H0 H1 Hi0 Hi1 Hr0 Hr1 Ho0 Ho1 Hrb]
  · isplitr [Hrb]
    · isplitl [H0]; · iexact H0
      isplitl [H1]; · iexact H1
      isplitl [Hi0]; · iexact Hi0
      isplitl [Hi1]; · iexact Hi1
      isplitl [Hr0]; · iexact Hr0
      isplitl [Hr1]; · iexact Hr1
      isplitl [Ho0] <;> iassumption
    iexact Hrb
  isplitr [Hrs]
  · isplitr [Hf]
    · isplitl [Hc0 Hc1]
      · isplitl [Hc0] <;> iassumption
      isplitl [Hs0] <;> iassumption
    iexact Hf
  iexact Hrs

theorem tile_body (hpre : ∀ i, BitVec.toNat (w := 32) (dest i) < 18432) (q : PosShare TreeShare) (out : Vec F S8192x1024 .f32)
    (O : CellTallies nD τ sig (HIx 1)) (W : Waits sig (HIx 1)) (hO : ∀ g, O g none = 0) :
    iprop(levAts (K (F := F)).L (K (F := F)).lev ∗ emp ∗ Task d L ys dest we wo q out
        ∗ scopedBufs (thr d L) ∗ scopedSems0 (thr d L) ∗ owes (thr d L) O W)
      ⊢ wp frame (wpE (defs₀ (F := F)) 𝒱₀ (thr d L) none) Set.univ (printed L)
          fun _ => iprop(Task d L ys dest we wo q (result ys dest we wo) ∗ scopedBufs (thr d L) ∗ scopedSems0 (thr d L)
            ∗ ∃ W', ⌜∀ p ∈ W', p ∈ W ∨ p.2 = none⌝ ∗ owes (thr d L) O W') := by
  rw [tile_eq, (K (F := F)).scopedBufs_V facts d (cV L) (jV L), SparseCore.Cfg.scopedSems0_V (Val := Elt F) d (cV L) (jV L)]
  iintro ⟨Hlv, -, Ht, Hb, Hs, HO⟩
  ihave H := (give d L ys dest we wo q out) $$ [Ht Hb Hs]
  · isplitl [Ht]; · iexact Ht
    isplitl [Hb] <;> iassumption
  icases H with ⟨Hres, Hrest⟩
  iapply (WP_wand d L _ _ _) $$ [Hlv HO Hres]
  · iapply (tile_spec (O := O) (W := W) d L ys dest we wo out hO hpre q)
    isplitr [Hres]
    · unfold X
      isplitl [Hlv]; · iexact Hlv
      iexists W; isplitr
      · ipureintro; exact fun p hp => .inl hp
      iexact HO
    iexact Hres
  iintro %_ ⟨HX, Hres⟩
  ihave H := (take d L ys dest we wo q (result ys dest we wo)) $$ [Hres Hrest]
  · isplitl [Hres] <;> iassumption
  icases H with ⟨Ht, Hb, Hs⟩
  unfold X
  icases HX with ⟨-, HX⟩
  isplitl [Ht]; · iexact Ht
  isplitl [Hb]; · iexact Hb
  isplitl [Hs] <;> iassumption

end Tile

end Cert.Proof.KernelIdeal

end
-- ==== Proof.KernelIdealLaunch.lean ====
/-
  The launch. The call takes the four arguments and the result whole, deals each of the thirty-two tiles a share of
  every argument and its sixteen chunks of the result, and takes them back with the result written. `run_main` says
  what the whole program leaves.
-/
module

public import proofs.«01_k».proof.Proof.KernelIdealOwn

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves

variable {F : FTy → Type}

local notation "𝕄" => MT nD τ sig (HIx 1) (Elt F) ℕ UU ℕ

variable (m : (ℓ : Loc nD τ sig) → Buf (Elt F) ℓ) (ρ : Dev nD → PrngReg)

abbrev ysLoc (d : Dev nD) : Loc nD τ sig := (SparseCore.T d).loc main_arg0
abbrev destLoc (d : Dev nD) : Loc nD τ sig := (SparseCore.T d).loc main_arg1
abbrev weLoc (d : Dev nD) : Loc nD τ sig := (SparseCore.T d).loc main_arg2
abbrev woLoc (d : Dev nD) : Loc nD τ sig := (SparseCore.T d).loc main_arg3
abbrev outLoc (d : Dev nD) : Loc nD τ sig := (SparseCore.T d).loc main_v0

/-! ## The tiles, numbered -/

def coordsV (c : Fin 2) (s : Fin 16) : grid0.Coords :=
  fun | 0 => c | 1 => s | ⟨_ + 2, h⟩ => absurd h (Nat.not_lt.2 (Nat.le_add_left _ _))

/-- Tile `(c, s)` is number `2 s + c`. -/
def wid (s : Fin 16) (c : Fin 2) : Fin (2 ^ 5) := finProdFinEquiv (s, c)
def sh (L : grid0.Coords) : PosShare TreeShare := leaf 5 fullShare (wid (L 1) (L 0))

/-- A family over the tiles by number is one over the cores and, in each, its subcores. -/
theorem bigSep_tiles (Φ : Fin (2 ^ 5) → sProp 𝕄) :
    bigSep Finset.univ Φ = bigSep Finset.univ fun c : Fin 2 => bigSep Finset.univ fun s : Fin 16 => Φ (wid s c) := by
  rw [bigSep_univ_equiv (finProdFinEquiv : Fin 16 × Fin 2 ≃ Fin (2 ^ 5)) Φ, bigSep_univ_prod, bigSep_univ_comm]
  rfl

theorem shares (ℓ : Loc nD τ sig) (f : Buf (Elt F) ℓ) :
    (ℓ ↦{fullShare} f : sProp 𝕄) = bigSep Finset.univ fun c : Fin 2 => bigSep Finset.univ fun s : Fin 16 => ℓ ↦{sh (coordsV c s)} f := by
  rw [pointsTo_leaves Finset.univ f 5 fullShare, bigSep_tiles]
  rfl

/-! ## The result's chunks -/

theorem odiv : 512 ∣ S8192x1024.size 0 := ⟨16, rfl⟩
def chunkIx (s : Fin 16) (c : Fin 2) (k : Fin 16) : Fin 512 := finProdFinEquiv (m := 32) (wid s c, k)

theorem outRect_eq (c : Fin 2) (s : Fin 16) (k : Fin 16) :
    Rect.unit (s := S8192x1024) (k0_off16 (coordsV c s) (BitVec.ofNat 32 (16 * k.val))) S16x1024.size (k0_off16_inb (coordsV c s) k)
      = Rect.part (s := S8192x1024) (a₀ := 0) odiv (chunkIx s c k) := by
  unfold Rect.part Rect.block
  congr 1 <;> funext a
  · rw [k0_off16_eq]
    match a with
    | 0 =>
      simp [Shape.partIx, Shape.partSize, chunkIx, wid, coordsV, finProdFinEquiv]; omega
    | 1 => simp [Shape.partIx, Shape.partSize]
  · match a with
    | 0 => simp [Shape.partSize]
    | 1 => simp [Shape.partSize]

theorem outSl_set (c : Fin 2) (s : Fin 16) (k : Fin 16) :
    (outSl (coordsV c s) k).view.set = (Rect.part (s := S8192x1024) (a₀ := 0) odiv (chunkIx s c k)).set := by
  show ((View.whole (main_v0_scv : Ref sig .scVector)).slice (Rect.unit (s := S8192x1024) (k0_off16 (coordsV c s) (BitVec.ofNat 32 (16 * k.val))) S16x1024.size
    (k0_off16_inb (coordsV c s) k))).set = _
  rw [View.set_slice, outRect_eq]; exact Finset.map_refl

theorem out_chunks (d : Dev nD) (f : Buf (Elt F) (outLoc d)) :
    (outLoc d ↦{fullShare} f : sProp 𝕄)
      = bigSep Finset.univ fun c : Fin 2 => bigSep Finset.univ fun s : Fin 16 => bigSep Finset.univ fun k : Fin 16 =>
          outLoc d ↦[(outSl (coordsV c s) k).view.set]{fullShare} f := by
  have h : (outLoc d ↦{fullShare} f : sProp 𝕄) = bigSep Finset.univ fun i : Fin 512 => outLoc d ↦[(Rect.part (s := S8192x1024) (a₀ := 0) odiv i).set]{fullShare} f := by
    rw [← pointsTo_biUnion Finset.univ (ℓ := outLoc d) (fun i : Fin 512 => (Rect.part (s := S8192x1024) (a₀ := 0) odiv i).set)
      (fun i _ j _ hij => Rect.part_disjoint odiv hij), Rect.biUnion_part odiv]; try rfl
  rw [h, bigSep_univ_equiv (finProdFinEquiv : Fin (2 ^ 5) × Fin 16 ≃ Fin 512), bigSep_univ_prod, bigSep_tiles]
  refine bigSep_congr fun c _ => bigSep_congr fun s _ => bigSep_congr fun k _ => ?_
  rw [outSl_set]
  rfl

variable [FloatOps F]

/-! ## What the call is handed -/

abbrev TaskAt (d : Dev nD) (c : Fin 2) (s : Fin 16) (f : Buf (Elt F) (outLoc d)) : sProp 𝕄 :=
  Task d (coordsV c s) (m (ysLoc d)) (m (destLoc d)) (m (weLoc d)) (m (woLoc d)) (sh (coordsV c s)) f

def Whole (d : Dev nD) (f : Buf (Elt F) (outLoc d)) : sProp 𝕄 :=
  iprop((ysLoc d ↦{fullShare} m (ysLoc d)) ∗ (destLoc d ↦{fullShare} m (destLoc d)) ∗ (weLoc d ↦{fullShare} m (weLoc d)) ∗ (woLoc d ↦{fullShare} m (woLoc d))
    ∗ outLoc d ↦{fullShare} f)

theorem atWhole (b : Ref sig .scVector) (d : Dev nD) (L : grid0.Coords) (q : PosShare TreeShare) (f : Buf (Elt F) ((thr d L).loc b)) :
    ((View.whole b).loc (thr d L) ↦[(View.whole b).set]{q} f : sProp 𝕄) = ((thr d L).loc b ↦{q} f) := by
  rw [View.set_whole]

theorem task_eq (d : Dev nD) (c : Fin 2) (s : Fin 16) (f : Buf (Elt F) (outLoc d)) :
    TaskAt m d c s f = iprop((ysLoc d ↦{sh (coordsV c s)} m (ysLoc d)) ∗ (destLoc d ↦{sh (coordsV c s)} m (destLoc d)) ∗ (weLoc d ↦{sh (coordsV c s)} m (weLoc d))
      ∗ (woLoc d ↦{sh (coordsV c s)} m (woLoc d)) ∗ bigSep Finset.univ fun k : Fin 16 => outLoc d ↦[(outSl (coordsV c s) k).view.set]{fullShare} f) := by
  have h0 := atWhole (F := F) main_arg0_scv d (coordsV c s) (sh (coordsV c s)) (m (ysLoc d))
  have h1 := atWhole (F := F) main_arg1_scv d (coordsV c s) (sh (coordsV c s)) (m (destLoc d))
  have h2 := atWhole (F := F) main_arg2_scv d (coordsV c s) (sh (coordsV c s)) (m (weLoc d))
  have h3 := atWhole (F := F) main_arg3_scv d (coordsV c s) (sh (coordsV c s)) (m (woLoc d))
  exact congr (congrArg BIBase.sep h0) (congr (congrArg BIBase.sep h1) (congr (congrArg BIBase.sep h2) (congr (congrArg BIBase.sep h3) rfl)))

theorem whole_eq (d : Dev nD) (f : Buf (Elt F) (outLoc d)) :
    Whole m d f = bigSep Finset.univ fun c : Fin 2 => bigSep Finset.univ fun s : Fin 16 => TaskAt m d c s f := by
  simp only [task_eq, bigSep_sep']
  unfold Whole
  rw [shares (ysLoc d), shares (destLoc d), shares (weLoc d), shares (woLoc d), out_chunks]

theorem nCore_zero : (K (F := F)).nCore 0 = 2 := rfl

/-- The result, from the launch memory. -/
abbrev res (d : Dev nD) : Buf (Elt F) (outLoc d) := result (m (ysLoc d)) (m (destLoc d)) (m (weLoc d)) (m (woLoc d))

def P : (K (F := F)).Pay (nD := nD) (Val := Elt F) (Name := ℕ) (U := UU) where
  st := fun q d c => match q with
    | 0 => bigSep Finset.univ fun s : Fin 16 => TaskAt m d (Fin.cast nCore_zero c) s (m (outLoc d))
  dn := fun q d c => match q with
    | 0 => bigSep Finset.univ fun s : Fin 16 => TaskAt m d (Fin.cast nCore_zero c) s (res m d)
  go := fun q d c i => match q with
    | 0 => TaskAt m d (Fin.cast nCore_zero c) (Fin.cast nSub_zero i) (m (outLoc d))
  td := fun q d c i => match q with
    | 0 => TaskAt m d (Fin.cast nCore_zero c) (Fin.cast nSub_zero i) (res m d)
  x := fun _ _ => iprop(emp)

instance task_storable (d : Dev nD) (c : Fin 2) (s : Fin 16) (f : Buf (Elt F) (outLoc d)) : BI.Storable (upEmb : UEmb _ 𝕄) (TaskAt m d c s f) := by
  unfold TaskAt Task OutAt; infer_instance

instance P_storable : (P (F := F) m).IsStorable where
  st q d c := match q with
    | 0 => (inferInstance : BI.Storable (upEmb : UEmb _ 𝕄) (bigSep Finset.univ fun s : Fin 16 => TaskAt m d (Fin.cast nCore_zero c) s (m (outLoc d))))
  dn q d c := match q with
    | 0 => (inferInstance : BI.Storable (upEmb : UEmb _ 𝕄) (bigSep Finset.univ fun s : Fin 16 => TaskAt m d (Fin.cast nCore_zero c) s (res m d)))
  go q d c i := match q with
    | 0 => task_storable m d (Fin.cast nCore_zero c) (Fin.cast nSub_zero i) (m (outLoc d))
  td q d c i := match q with
    | 0 => task_storable m d (Fin.cast nCore_zero c) (Fin.cast nSub_zero i) (res m d)

/-- What the proof asks of the launch memory: every position names a row of the expert output. -/
def PreOK : Prop := ∀ (d : Dev nD) (j : S16384.Idx), BitVec.toNat (w := 32) (m (destLoc d) j) < 18432

/-! ## The obligations -/

theorem defs₀_vector (c : Fin τ.nSC) (s : Fin τ.nSub) :
    defs₀ (F := F) (.scVector c s) 0 () = SparseCore.onTile hcore0 hsub0 (fun c s => printed (coordsV c s)) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (m (ysLoc d)) (m (destLoc d)) (m (weLoc d)) (m (woLoc d)) (hpre d)
    (sh (coordsV ⟨_, hci.1⟩ ⟨_, hci.2⟩)) (m (outLoc d)) O W hO).trans (wp_mono frame _ _ fun _ => obl_post)

theorem vecSplit : (K (F := F)).VecSplit' (P m) 0 := by
  intro d c
  show (bigSep Finset.univ fun s : Fin 16 => TaskAt m d (Fin.cast nCore_zero c) s (m (outLoc d))) ⊢ |={Set.univ}=> iprop(
      (bigSep Finset.univ fun s : Fin 16 => TaskAt m d (Fin.cast nCore_zero c) s (m (outLoc d)))
      ∗ ((bigSep Finset.univ fun s : Fin 16 => TaskAt m d (Fin.cast nCore_zero c) s (res m d))
          -∗ bigSep Finset.univ fun s : Fin 16 => TaskAt m d (Fin.cast nCore_zero c) s (res m d)))
  iintro H; imodintro
  isplitl [H]; · iexact H
  iintro H; iexact H

/-! ## The ghost state at the start -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The program on the TensorCore -/

theorem unscopedBufs_eq (d : Dev nD) (W : (b : Ref sig .tc) → Buf (Elt F) ((d.tc : Thread nD τ).loc b)) :
    (unscopedBufs d W : sProp 𝕄) = iprop((ysLoc d ↦{fullShare} W main_arg0) ∗ (destLoc d ↦{fullShare} W main_arg1) ∗ (weLoc d ↦{fullShare} W main_arg2)
      ∗ (woLoc d ↦{fullShare} W main_arg3) ∗ outLoc d ↦{fullShare} W main_v0) := by
  unfold unscopedBufs
  rw [show (Finset.univ.filter fun b : Ref sig .tc => ¬ b.isScoped) = {main_arg0, main_arg1, main_arg2, main_arg3, main_v0} by decide,
    SparseCore.bigSep_insert' (by decide), SparseCore.bigSep_insert' (by decide), SparseCore.bigSep_insert' (by decide), SparseCore.bigSep_insert' (by decide),
    bigSep_singleton]

theorem st_eq (d : Dev nD) : (bigSep Finset.univ fun c : Fin ((K (F := F)).nCore 0) => (P m).st 0 d c) = Whole m d (m (outLoc d)) := by
  rw [whole_eq]; rfl
theorem dn_eq (d : Dev nD) : (bigSep Finset.univ fun c : Fin ((K (F := F)).nCore 0) => (P m).dn 0 d c) = Whole m d (res m d) := by
  rw [whole_eq]; rfl

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ Whole m d (res m d) ∗ (K (F := F)).tcEnd d) := by
  unfold SparseCore.Cfg.tcRes SparseCore.Cfg.tcEnd
  rw [unscopedBufs_eq]
  simp only [main, wp_bind, wp_pure]
  iintro ⟨#Hctx, Hst, ⟨Hb, Hw, Hts, -⟩, -⟩
  iapply ((K (F := F)).wp_run (D (F := F)) 𝒱 (EH := EH) (P := P m) κ d 0) $$ [Hst Hw Hb Hts]
  isplitr; · iexact Hctx
  isplitl [Hst]; · iexact Hst
  isplitl [Hw]
  · rw [st_eq]
    unfold Whole
    iexact Hw
  iintro ⟨Hst, Hdn⟩
  ihave Hdn := (Entails.of_eq (dn_eq m d)) $$ Hdn
  imodintro
  isplitl [Hst]; · iexact Hst
  isplitl [Hdn]; · iexact Hdn
  isplitl [Hb] <;> iassumption

/-- What the final memory holds. -/
def fq (d : Dev nD) (s' : Phys nD τ sig (Elt F)) : Prop :=
  s'.mem.mem (outLoc d) = res m d ∧ s'.mem.mem (ysLoc d) = m (ysLoc d) ∧ s'.mem.mem (destLoc d) = m (destLoc d) ∧ s'.mem.mem (weLoc d) = m (weLoc d)
    ∧ s'.mem.mem (woLoc d) = m (woLoc d)

theorem agree (s' : Phys nD τ sig (Elt F)) (ℓ : Loc nD τ sig) (f : Buf (Elt F) ℓ) :
    iprop(SI s' ∗ (ℓ ↦{fullShare} f)) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr
  · ipureintro; exact funext fun i => h i (Finset.mem_univ i)
  iexact HSI

set_option maxRecDepth 16384 in
theorem hfin (d : Dev nD) (s' : Phys nD τ sig (Elt F)) : iprop(Whole m d (res m d) ∗ SI s') ⊢ (⌜fq m d s'⌝ : sProp 𝕄) := by
  unfold Whole
  iintro ⟨⟨H0, H1, H2, H3, H4⟩, HSI⟩
  ihave H := (agree s' (ysLoc d) (m (ysLoc d))) $$ [HSI H0]
  · isplitl [HSI] <;> iassumption
  icases H with ⟨%h0, HSI⟩
  ihave H := (agree s' (destLoc d) (m (destLoc d))) $$ [HSI H1]
  · isplitl [HSI] <;> iassumption
  icases H with ⟨%h1, HSI⟩
  ihave H := (agree s' (weLoc d) (m (weLoc d))) $$ [HSI H2]
  · isplitl [HSI] <;> iassumption
  icases H with ⟨%h2, HSI⟩
  ihave H := (agree s' (woLoc d) (m (woLoc d))) $$ [HSI H3]
  · isplitl [HSI] <;> iassumption
  icases H with ⟨%h3, HSI⟩
  ihave H := (agree s' (outLoc d) (res m d)) $$ [HSI H4]
  · isplitl [HSI] <;> iassumption
  icases H with ⟨%h4, -⟩
  ipureintro; exact ⟨h4, h0, h1, h2, h3⟩

/-! ## The program's run -/

def QC : PUnit × MemSt nD τ sig (Elt F) → Prop := fun r =>
  (∀ c : Dev nD, r.2.mem (outLoc c) = res m c ∧ r.2.mem (ysLoc c) = m (ysLoc c) ∧ r.2.mem (destLoc c) = m (destLoc c) ∧ r.2.mem (weLoc c) = m (weLoc c)
    ∧ r.2.mem (woLoc c) = m (woLoc c)) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (fun d => Whole m d (res m d)) (u₀ (F := F)) (sep_elim_left.trans (hu₀ m)) (hmain m ρ) (fq m) (hfin m) (QC m) (fun _ h hz => ⟨h, hz⟩)

end Cert.Proof.KernelIdeal

end
-- ==== Proof.ExpertsPre.lean ====
/-
  What the precondition of the expert layers says of one row block: its word names an expert.

  The precondition is printed as one bit, the conjunction over all row blocks of two signed comparisons. The bit being
  one makes both comparisons hold at each block (`expert_lt`).
-/
module

public import proofs.«01_k».proof.Proof.Gen.Pre_experts_in_range
public import Idealize.ShloMosaic.Lib.ReduceAll

@[expose] public section

noncomputable section

namespace Cert.Proof

open Idealize.ShloMosaic Cert.Pre_experts_in_range

variable {F : FTy → Type} [FloatOps F]

/-- A word at least zero and below 8, both read signed, is below 8 read unsigned. -/
theorem lt_eight_of_bits (v : BitVec 32) (e : IntOp.andi (IntOp.cmpi .sge v 0#32) (IntOp.cmpi .slt v 8#32) = 1#1) :
    v.toNat < 8 := by
  have hb : ∀ p q : Bool, IntOp.andi (BitVec.ofBool p) (BitVec.ofBool q) = 1#1 → p = true ∧ q = true := by decide
  obtain ⟨h0, h1⟩ := hb _ _ e
  simp only [BitVec.sle_eq_decide, BitVec.slt_eq_decide, decide_eq_true_eq, BitVec.toInt_eq_toNat_cond,
    BitVec.toNat_ofNat, Nat.reducePow, Nat.reduceMod] at h0 h1
  omega

/-- Where the precondition's bit is one, every row block's word names an expert. -/
theorem expert_lt (x0 : FVec F S18432x1024 .f32) (x1 : FVec F S8x4096x1024 .f32) (x2 : FVec F S8x4096 .f32)
    (x3 : FVec F S8x1024x4096 .f32) (x4 : FVec F S8x1024 .f32) (x5 : IVec S72 32)
    (h : Cert.Pre_experts_in_range.fn x0 x1 x2 x3 x4 x5 = fun _ => 1#1) (j : S72.Idx) : (x5 j).toNat < 8 := by
  have : Subsingleton S_.Idx := ⟨fun _ _ => funext fun a => a.elim0⟩
  refine lt_eight_of_bits (x5 j) ?_
  exact Host.reduce_andi_all _ _ _ _ (Shape.Idx.first Cert.Pre_experts_in_range.Gen.h_S_) (congrFun h _) j

end Cert.Proof

end
-- ==== Proof.DispatchPre.lean ====
/-
  What the precondition of the dispatch says of the choices: each word names an expert.
-/
module

public import proofs.«01_k».proof.Proof.ExpertsPre
public import proofs.«01_k».proof.Proof.Gen.Pre_chosen_in_range

@[expose] public section

noncomputable section

namespace Cert.Proof

open Idealize.ShloMosaic Cert.Pre_chosen_in_range

variable {F : FTy → Type} [FloatOps F]

/-- Where the precondition's bit is one, every chosen word names an expert. -/
theorem chosen_lt (x : FVec F S8192x1024 .f32) (idx : IVec S8192x2 32)
    (h : Cert.Pre_chosen_in_range.fn x idx = fun _ => 1#1) (j : S8192x2.Idx) : (idx j).toNat < 8 := by
  have : Subsingleton S_.Idx := ⟨fun _ _ => funext fun a => a.elim0⟩
  refine lt_eight_of_bits (idx j) ?_
  exact Host.reduce_andi_all _ _ _ _ (Shape.Idx.first Cert.Pre_chosen_in_range.Gen.h_S_) (congrFun h _) j

end Cert.Proof

end
-- ==== Proof.DispatchTile.lean ====
/-
  The tile program of the dispatch call, written as the loop it is. The printed program says the sixteen chunks of a
  tile one after the other; here they are one definition `chunk` at the chunk number, with the two-slot buffers chosen
  by its parity, and `tile_eq` says the printed program is the prologue, the sixteen chunks and the epilogue.

  One tile owns 256 tokens, in 16 chunks of 16. Its two lists of row numbers, one for each of a token's two choices, are
  copied in once. A chunk's 16 rows of tokens are copied to a buffer and from it scattered, by eight column streams for
  each list, to the rows the lists name. The copy of chunk `j + 1` is started before chunk `j` is awaited; the scatters
  of chunk `j - 1` are awaited before the buffer they read is written again.
-/
module

public import proofs.«01_k».proof.Defs
public import proofs.«01_k».proof.Proof.Gen.Dispatch
public import proofs.«01_k».proof.Proof.Gen.Dispatch.Skeleton

@[expose] public section

noncomputable section

namespace Cert.Proof.Dispatch

open Cert.Dispatch Cert.Dispatch.Gen
open Idealize.ShloMosaic Idealize.SL.Sem

variable {F : FTy → Type} [FloatOps F]

/-! ## The buffers a tile names -/

abbrev xM : Memref sig .scVector .hbm S8192x1024 .f32 := Memref.whole main_arg0_scv
abbrev deM : Memref sig .scVector .hbm S32x16x16 .i32 := Memref.whole main_v42_scv
abbrev doM : Memref sig .scVector .hbm S32x16x16 .i32 := Memref.whole main_v45_scv
abbrev xsM : Memref sig .scVector .hbm S18432x1024 .f32 := Memref.whole main_v46_scv
abbrev devM : Memref sig .scVector .vmem S16x16 .i32 := Memref.whole cc0_scratch0
abbrev dovM : Memref sig .scVector .vmem S16x16 .i32 := Memref.whole cc0_scratch1

/-- The two slots of a double buffer, by parity. -/
def xbM : Bool → Memref sig .scVector .vmem S16x1024 .f32
  | false => Memref.whole cc0_scratch2
  | true => Memref.whole cc0_scratch3
def rsem : Bool → DmaSems sig S_
  | false => cc0_scratch4
  | true => cc0_scratch5
def esem : Bool → DmaSems sig S8
  | false => cc0_scratch6
  | true => cc0_scratch7
def osem : Bool → DmaSems sig S8
  | false => cc0_scratch8
  | true => cc0_scratch9

theorem xbM_whole (p : Bool) : (xbM p).IsWhole := by cases p <;> exact Memref.isWhole_whole _

/-! ## The pieces of the program -/

abbrev Pg (F : FTy → Type) (L : grid0.Coords) (α : Type) : Type 1 :=
  Prog (TpuEff nD τ sig (Elt F) Λ₀ (.scVector ((L 0).castLE hcore0) ((L 1).castLE hsub0))) α

/-- Column block `t` of the rows scattered to, of a row buffer, and its semaphore. -/
abbrev dstCol (t : Fin k0_t1_loop.trips) : Memref sig .scVector .hbm S18432x128 .f32 :=
  xsM.slice (Rect.unit (s := S18432x1024) (k0_off5 t) S18432x128.size (k0_off5_inb t)) (fun _ => rfl)
abbrev srcCol (xb : Memref sig .scVector .vmem S16x1024 .f32) (t : Fin k0_t1_loop.trips) : Memref sig .scVector .vmem S16x128 .f32 :=
  xb.slice (Rect.unit (s := S16x1024) (k0_off4 t) S16x128.size (k0_off4_inb t)) (fun _ => rfl)
abbrev colSem (sem : DmaSems sig S8) (t : Fin k0_t1_loop.trips) : DmaSem sig :=
  ((sem.slice (Rect.unit (s := S8) (k0_off6 t) S1.size (k0_off6_inb t))).squeeze S_ squeezes_S1_S_).sem

theorem list_inb (j : Fin 16) : ∀ a, (![j.val, 0] : Fin 2 → Nat) a + S1x16.size a ≤ S16x16.size a := by revert j; decide
/-- Row `j` of a tile's list: chunk `j`'s sixteen row numbers. -/
abbrev listRow (l : Memref sig .scVector .vmem S16x16 .i32) (j : Fin 16) : Memref sig .scVector .vmem S16 .i32 :=
  (l.slice (Rect.unit (s := S16x16) ![j.val, 0] S1x16.size (list_inb j)) (fun _ => rfl)).squeeze S16 squeezes_S1x16_S16

def sendBody (L : grid0.Coords) (xb : Memref sig .scVector .vmem S16x1024 .f32) (es os : DmaSems sig S8) (j : Fin 16) :
    Fin k0_t1_loop.trips → Unit → Pg F L Unit := fun t _ => do
  SparseCore.enqueueIndirectScatter rfl (srcCol xb t) (dstCol t) gathers_S18432x128_S16x128 (listRow devM j) rfl (colSem es t) rfl (Or.inl rfl)
  SparseCore.enqueueIndirectScatter rfl (srcCol xb t) (dstCol t) gathers_S18432x128_S16x128 (listRow dovM j) rfl (colSem os t) rfl (Or.inl rfl)
  pure ⟨⟩

def waitBody (L : grid0.Coords) (xb : Memref sig .scVector .vmem S16x1024 .f32) (es os : DmaSems sig S8) :
    Fin k0_t1_loop.trips → Unit → Pg F L Unit := fun t _ => do
  SparseCore.waitIndirectScatter (colSem es t) (srcCol xb t) (dstCol t) (View.wordExact_bits rfl) (View.wordExact_bits rfl)
  SparseCore.waitIndirectScatter (colSem os t) (srcCol xb t) (dstCol t) (View.wordExact_bits rfl) (View.wordExact_bits rfl)
  pure ⟨⟩

/-- A copy into tile memory, awaited at once. -/
def copyIn (L : grid0.Coords) {s : Shape} {e : EltTy} (src : Memref sig .scVector .hbm s e) (dst : Memref sig .scVector .vmem s e) (sem : DmaSems sig S_)
    (hs : src.view.WordExact) (hd : dst.view.WordExact) : Pg F L PUnit := do
  Prog.lift (.enqueueDma src (.here dst) (.dma sem.sem) hs hd ⟨Or.inl rfl, trivial⟩)
  Prog.lift (.waitDma2 sem.sem src dst hs hd)

/-- This tile's part of a list, and its chunk `j` of the tokens. -/
abbrev listSl (m : Memref sig .scVector .hbm S32x16x16 .i32) (L : grid0.Coords) : Memref sig .scVector .hbm S16x16 .i32 :=
  (m.slice (Rect.unit (s := S32x16x16) (k0_off1 L) S1x16x16.size (k0_off1_inb L)) (fun _ => rfl)).squeeze S16x16 squeezes_S1x16x16_S16x16
def xOff (L : grid0.Coords) (j : Fin 16) : Fin 2 → Nat := match j with
  | ⟨0, _⟩ => k0_off2 L
  | ⟨j + 1, _⟩ => k0_off3 L (BitVec.ofNat 32 (16 + 16 * j))
theorem xOff_inb (L : grid0.Coords) (j : Fin 16) : ∀ a, xOff L j a + S16x1024.size a ≤ S8192x1024.size a := match j with
  | ⟨0, _⟩ => k0_off2_inb L
  | ⟨j + 1, h⟩ => k0_off3_inb L ⟨j, by omega⟩
abbrev xSl (L : grid0.Coords) (j : Fin 16) : Memref sig .scVector .hbm S16x1024 .f32 :=
  xM.slice (Rect.unit (s := S8192x1024) (xOff L j) S16x1024.size (xOff_inb L j)) (fun _ => rfl)

def par (j : ℕ) : Bool := j % 2 == 1

def readIssue (L : grid0.Coords) (j : Fin 16) : Pg F L PUnit :=
  Prog.lift (.enqueueDma (xSl L j) (.here (xbM (par j))) (.dma (rsem (par j)).sem) (View.wordExact_bits rfl) (xbM_whole _).wordExact ⟨Or.inl rfl, trivial⟩)
def readWait (L : grid0.Coords) (j : Fin 16) : Pg F L PUnit :=
  Prog.lift (.waitDma2 (rsem (par j)).sem (xSl L j) (xbM (par j)) (View.wordExact_bits rfl) (xbM_whole _).wordExact)
def send (L : grid0.Coords) (j : Fin 16) : Pg F L Unit :=
  Scf.Loop.for k0_t1_loop k0_t1_ok ⟨⟩ (sendBody L (xbM (par j)) (esem (par j)) (osem (par j)) j)
def settle (L : grid0.Coords) (p : Bool) : Pg F L Unit :=
  Scf.Loop.for k0_t1_loop k0_t1_ok ⟨⟩ (waitBody L (xbM p) (esem p) (osem p))

/-- The wait for the scatters of chunk `j - 1`, where there is one, and the start of chunk `j + 1`, where there is one. -/
def settleAt (L : grid0.Coords) (j : ℕ) : Pg F L Unit := if 1 ≤ j then settle L (par (j + 1)) else pure ⟨⟩
def ahead (L : grid0.Coords) (j : ℕ) : Pg F L PUnit :=
  if h : j < 15 then do settleAt L j; readIssue L ⟨j + 1, by omega⟩ else pure ⟨⟩

def prologue (L : grid0.Coords) : Pg F L PUnit := do
  copyIn L (listSl deM L) devM cc0_scoped0 ((View.wordExact_bits rfl).reshape _ _) (Memref.isWhole_whole _).wordExact
  copyIn L (listSl doM L) dovM cc0_scoped1 ((View.wordExact_bits rfl).reshape _ _) (Memref.isWhole_whole _).wordExact
  readIssue L 0

/-- Chunk `j` of the tile. -/
def chunk (L : grid0.Coords) (j : Fin 16) : Pg F L Unit := do
  ahead L j.val
  readWait L j
  send L j

/-- The chunks from `j` on, `n` of them. -/
def chunks (L : grid0.Coords) : (n j : ℕ) → (j + n ≤ 16) → Pg F L PUnit
  | 0, _, _ => pure ⟨⟩
  | n + 1, j, h => do chunk L ⟨j, by omega⟩; chunks L n (j + 1) (by omega)

def tile (L : grid0.Coords) : Pg F L PUnit := do
  prologue L
  chunks L 16 0 (by omega)
  settle L false
  settle L true
  pure ⟨⟩

abbrev printed (L : grid0.Coords) : Pg F L PUnit :=
  cc0_k L xM (Memref.isWhole_whole _) deM (Memref.isWhole_whole _) doM (Memref.isWhole_whole _) xsM (Memref.isWhole_whole _)
    devM (Memref.isWhole_whole _) dovM (Memref.isWhole_whole _)
    (Memref.whole cc0_scratch2) (Memref.isWhole_whole _) (Memref.whole cc0_scratch3) (Memref.isWhole_whole _)
    cc0_scratch4 cc0_scratch5 cc0_scratch6 cc0_scratch7 cc0_scratch8 cc0_scratch9 cc0_scoped0 cc0_scoped1

theorem bind_ext {α β : Type} {L : grid0.Coords} {m m' : Pg F L α} {f f' : α → Pg F L β} (h : m = m') (h' : ∀ a, f a = f' a) : m >>= f = m' >>= f' := by
  rw [h, funext h']

set_option maxRecDepth 65536 in
set_option maxHeartbeats 4000000 in
theorem tile_eq (L : grid0.Coords) : printed (F := F) L = tile L := by
  simp only [printed, cc0_k_eq_skeleton, cc0_k_skel, k0_part1_eq_skeleton, k0_part1_skel, k0_part2_eq_skeleton, k0_part2_skel, k0_part3_eq_skeleton,
    k0_part3_skel, k0_part4_eq_skeleton, k0_part4_skel, k0_part5_eq_skeleton, k0_part5_skel, k0_part6_eq_skeleton, k0_part6_skel,
    k0_part7_eq_skeleton, k0_part7_skel, tile, prologue, chunks, chunk, ahead, settleAt, copyIn, bind_assoc, pure_bind,
    Nat.reduceAdd, Nat.reduceLT, Nat.reduceLeDiff, Nat.reduceSub, dite_true, dite_false, ite_true, ite_false, ↓reduceDIte, ↓reduceIte]
  repeat refine bind_ext (by rfl) (fun _ => ?_)
  rfl

end Cert.Proof.Dispatch

end
-- ==== Proof.DispatchBase.lean ====
/-
  What a tile's proof is said in: the set-up of the launch, the values the call moves, and the steps every piece of the
  tile is made of.

  The values are total functions of natural numbers taken modulo the arrays' extents, so that a chunk's contents can be
  named without carrying bounds. `tgt` is the set of elements one column stream of a scatter writes, and `Holds` says what
  the target holds once a list's scatters have landed.

  The steps: a copy that is awaited where it is issued (`copyIn_spec`), and a loop of eight trips, each acting on its own
  column, proved once (`loop_cells`).
-/
module

public import proofs.«01_k».proof.Proof.DispatchTile
public import Idealize.ShloMosaic.Lib.SparseCore.Quiescent
public import Idealize.ShloMosaic.Lib.SparseCore.Ops
public import Idealize.ShloMosaic.Lib.SparseCore.Stream
public import Idealize.ShloMosaic.Lib.SparseCore.Scatter
public import Idealize.ShloMosaic.Lib.StableHlo.Run
public import Idealize.ShloMosaic.Lib.Pipeline.Kit
public import Idealize.ShloMosaic.Lib.Tactic
public import Idealize.ShloMosaic.Lib.ShareLeaves

@[expose] public section

noncomputable section

namespace Cert.Proof.Dispatch

open Cert.Dispatch Cert.Dispatch.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The values -/

def atX (k o : ℕ) : S8192x1024.Idx := fun | 0 => ⟨k % 8192, Nat.mod_lt _ (by decide)⟩ | 1 => ⟨o % 1024, Nat.mod_lt _ (by decide)⟩
/-- Entry `k` of a list that is held as thirty-two blocks of sixteen by sixteen. -/
def at3 (k : ℕ) : S32x16x16.Idx := fun
  | 0 => ⟨k / 256 % 32, Nat.mod_lt _ (by decide)⟩
  | 1 => ⟨k / 16 % 16, Nat.mod_lt _ (by decide)⟩
  | 2 => ⟨k % 16, Nat.mod_lt _ (by decide)⟩

section Values
variable (x : Vec F S8192x1024 .f32) (l : Vec F S32x16x16 .i32)

/-- The row that entry `k` of a list names. -/
def word (k : ℕ) : ℕ := BitVec.toNat (w := 32) (l (at3 k))
/-- The 256 entries of a list from `b` on, and the sixteen rows of the tokens from `b` on. -/
def listVal (b : ℕ) : Vec F S16x16 .i32 := fun i => l (at3 (b + 16 * (i 0).val + (i 1).val))
def xVal (b : ℕ) : Vec F S16x1024 .f32 := fun i => x (atX (b + (i 0).val) (i 1).val)

/-- What a list has to be: its entries rows of the target, no row named twice. -/
structure ListOK : Prop where
  lt : ∀ k, word (F := F) l k < 18432
  inj : ∀ k k', k < 8192 → k' < 8192 → word (F := F) l k = word (F := F) l k' → k = k'

open scoped Classical in
/-- The elements that sixteen entries of a list from `b` on name, in column block `t`. -/
def tgt (b t : ℕ) : Finset S18432x1024.Idx := Finset.univ.filter fun i => (i 1).val / 128 = t ∧ ∃ r, r < 16 ∧ (i 0).val = word (F := F) l (b + r)

/-- A target holds at every row that a list names the token that names it. -/
def Holds (f : Vec F S18432x1024 .f32) : Prop := ∀ k, k < 8192 → ∀ i : S18432x1024.Idx, (i 0).val = word (F := F) l k → f i = x (atX k (i 1).val)

end Values

/-! ## One tile -/

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The first token of tile `L`. -/
def tok (L : grid0.Coords) : ℕ := 512 * (L 1).val + 256 * (L 0).val

section Tile
variable [FloatOps F] (d : Dev nD) (L : grid0.Coords) (O : CellTallies nD τ sig (HIx 1)) (W : Waits sig (HIx 1))

abbrev WP {α : Type} (p : Pg F L α) (Q : α → sProp 𝕄) : sProp 𝕄 :=
  wp frame (wpE (defs₀ (F := F)) 𝒱₀ (thr d L) none) Set.univ p Q

theorem WP_pure {α : Type} (a : α) (Q : α → sProp 𝕄) : Q a ⊢ WP d L (pure a) Q := by
  show Q a ⊢ iprop(|={Set.univ}[frame]=> Q a)
  iintro H; imodintro; iexact H

theorem WP_wand {α : Type} (p : Pg F L α) (Q Q' : α → sProp 𝕄) : WP d L p Q ⊢ iprop((∀ a, Q a -∗ Q' a) -∗ WP d L p Q') := wp_wand frame _ _

/-- A piece and then the rest. -/
theorem WP_bind {α β : Type} (p : Pg F L α) (f : α → Pg F L β) (Q : α → sProp 𝕄) (Q' : β → sProp 𝕄) :
    WP d L p Q ⊢ iprop((∀ a, Q a -∗ WP d L (f a) Q') -∗ WP d L (p >>= f) Q') := by
  unfold WP; rw [wp_bind]; exact wp_wand frame _ _

/-- What every piece keeps: the levels, and the debts with the waits so far. -/
def X : sProp 𝕄 :=
  iprop(levAts (K (F := F)).L (K (F := F)).lev ∗ ∃ W', ⌜∀ p ∈ W', p ∈ W ∨ p.2 = none⌝ ∗ owes (thr d L) O W')

abbrev ιt : HIx 1 := default

variable {O W}

/-- A wait on a transfer in flight. -/
theorem wait_spec (hO : ∀ g, O g none = 0) {α : Type} {s' s : Shape} {e : EltTy} {sp sp' : Space} {sem : DmaSem sig} (src : Memref sig .scVector sp s' e) (dst : Memref sig .scVector sp' s e)
    {hs : src.view.WordExact} {hd : dst.view.WordExact} {N : ℕ} (hN : dst.view.dmaCredit = N) {Dl : sProp 𝕄} (k : PUnit → Pg F L α) (Q : α → sProp 𝕄) :
    iprop(X d L O W ∗ Transfers.Flight countersEmb (thr d L) (.dma sem) ιt N Dl)
      ⊢ iprop((X d L O W ∗ Dl ∗ semVal (thr d L, .dma sem) 0 -∗ WP d L (k ⟨⟩) Q) -∗ WP d L (.op (.waitDma2 sem src dst hs hd) k) Q) := by
  unfold X
  iintro ⟨⟨#Hlv, %W', %hW', HO⟩, Hfl⟩ Hk
  ihave Hmw := (show levAts (K (F := F)).L (K (F := F)).lev ⊢ Transfers.MayWaits (thr d L) (default : HIx 1) O from
    (K (F := F)).mayWaits_none (thr := thr d L) hO) $$ Hlv
  iapply (Transfers.wp_waitLocalO countersEmb 𝒱₀ (thr d L) none ιt hN) $$ [Hfl HO]
  · isplitl [Hfl]; · iexact Hfl
    isplitl [HO]; · iexact HO
    iapply (Transfers.MayWaits.elim (SemLoc.dma sem)) $$ Hmw
  iintro ⟨HD, Hsem, HO⟩
  iapply Hk
  isplitl [HO]
  · isplitr; · iexact Hlv
    iexists _; isplitr
    swap; · iexact HO
    ipureintro; intro p hp
    rcases Finset.mem_insert.mp hp with hp | hp; · exact .inr (hp ▸ rfl)
    exact hW' p hp
  isplitl [HD] <;> iassumption

theorem wait_end (hO : ∀ g, O g none = 0) {s' s : Shape} {e : EltTy} {sp sp' : Space} {sem : DmaSem sig} (src : Memref sig .scVector sp s' e) (dst : Memref sig .scVector sp' s e)
    {hs : src.view.WordExact} {hd : dst.view.WordExact} {N : ℕ} (hN : dst.view.dmaCredit = N) (Dl : sProp 𝕄) :
    iprop(X d L O W ∗ Transfers.Flight countersEmb (thr d L) (.dma sem) ιt N Dl)
      ⊢ WP d L (.op (.waitDma2 sem src dst hs hd) fun _ => (pure ⟨⟩ : Pg F L Unit)) fun _ => iprop(X d L O W ∗ Dl ∗ semVal (thr d L, .dma sem) 0) := by
  iintro H
  iapply (wait_spec d L hO src dst hN) $$ H
  iintro H
  iapply (WP_pure d L); iexact H

/-- A copy awaited where it is issued: the destination reads what the source reads. -/
theorem copyIn_spec (hO : ∀ g, O g none = 0) {s : Shape} {e : EltTy} (src : Memref sig .scVector .hbm s e) (dst : Memref sig .scVector .vmem s e) (sem : DmaSems sig S_)
    (hs : src.view.WordExact) (hd : dst.view.WordExact) (h0 : 0 < s.numel) (q : PosShare TreeShare)
    (fs : Buf (Elt F) (src.view.loc (thr d L))) (fd : Buf (Elt F) (dst.view.loc (thr d L))) :
    iprop(X d L O W ∗ (src.view.loc (thr d L) ↦[src.view.set]{q} fs) ∗ (dst.view.loc (thr d L) ↦[dst.view.set]{fullShare} fd)
        ∗ semVal (thr d L, .dma sem.sem) 0)
      ⊢ WP d L (copyIn L src dst sem hs hd) fun _ => iprop(X d L O W ∗ (src.view.loc (thr d L) ↦[src.view.set]{q} fs)
          ∗ (∃ f, ⌜dst.view.read (Elt F) f = src.view.read (Elt F) fs⌝ ∗ dst.view.loc (thr d L) ↦[dst.view.set]{fullShare} f)
          ∗ semVal (thr d L, .dma sem.sem) 0) := by
  unfold copyIn
  iintro ⟨HX, Hs, Hd, Hsem⟩
  iapply (Transfers.wp_dmaLocal countersEmb 𝒱₀ (thr d L) none ιt (dst.view.amount (.dma sem.sem)) rfl (View.amount_pos _ _ h0) (Finset.Subset.refl _)) $$ [Hs Hd Hsem]
  · isplitl [Hs]; · iexact Hs
    isplitl [Hd] <;> iassumption
  iintro Hfl
  iapply (wait_spec d L hO src dst rfl) $$ [HX Hfl]
  · isplitl [HX] <;> iassumption
  iintro ⟨HX, ⟨Hd, Hs⟩, Hsem⟩
  iapply (WP_pure d L)
  isplitl [HX]; · iexact HX
  isplitl [Hs]; · iexact Hs
  isplitr [Hsem]; swap; · iexact Hsem
  iexists _; isplitr
  swap; · iexact Hd
  ipureintro
  exact View.read_write_univ _ _

/-- A loop of eight trips, each acting on its own cell. -/
theorem loop_cells (Y : sProp 𝕄) (A B : Fin k0_t1_loop.trips → sProp 𝕄) (body : Fin k0_t1_loop.trips → Unit → Pg F L Unit)
    (h : ∀ t acc, iprop(Y ∗ A t) ⊢ WP d L (body t acc) fun _ => iprop(Y ∗ B t)) :
    iprop(Y ∗ bigSep Finset.univ A) ⊢ WP d L (Scf.Loop.for k0_t1_loop k0_t1_ok ⟨⟩ body) fun _ => iprop(Y ∗ bigSep Finset.univ B) := by
  have start : (fun t : Fin k0_t1_loop.trips => if t.val < 0 then B t else A t) = A := funext fun t => if_neg (Nat.not_lt_zero _)
  have stop : (fun t : Fin k0_t1_loop.trips => if t.val < k0_t1_loop.trips then B t else A t) = B := funext fun t => if_pos t.isLt
  iintro ⟨HY, HA⟩
  iapply (Scf.wp_for frame (wpE (defs₀ (F := F)) 𝒱₀ (thr d L) none) Set.univ _ _ _ k0_t1_ok ⟨⟩ body
    (fun n _ => iprop(Y ∗ bigSep Finset.univ fun t : Fin k0_t1_loop.trips => if t.val < n then B t else A t)) ?hbody) $$ [HY HA]
  case hbody =>
    intro t acc
    iintro ⟨HY, H⟩
    ihave H := (bigSep_univ_update (Φ := fun u : Fin k0_t1_loop.trips => if u.val < t.val then B u else A u)
      (Ψ := fun u : Fin k0_t1_loop.trips => if u.val < t.val + 1 then B u else A u) t (fun u hu => by
        have : u.val ≠ t.val := fun e => hu (Fin.ext e)
        by_cases hlt : u.val < t.val
        · rw [if_pos hlt, if_pos (by omega)]
        · rw [if_neg hlt, if_neg (by omega)])) $$ H
    icases H with ⟨Ht, Hback⟩
    ihave Ht := (Entails.of_eq (if_neg (lt_irrefl t.val))) $$ Ht
    iapply (WP_wand d L) $$ [HY Ht]
    · iapply (h t acc); isplitl [HY] <;> iassumption
    iintro %a ⟨HY, HB⟩
    isplitl [HY]; · iexact HY
    iapply Hback
    iapply (Entails.of_eq (if_pos (Nat.lt_succ_self t.val)).symm); iexact HB
  rw [start, stop]
  isplitl [HY HA]
  · isplitl [HY] <;> iassumption
  iintro %a H; iexact H

/-- A view's elements by the parts of one axis. -/
theorem cols {sp : Space} {s : Shape} {e : EltTy} (v : View sig .scVector sp s e) {a₀ : Fin s.rank} {n : ℕ} (hn : n ∣ s.size a₀) (q : PosShare TreeShare) (f : Buf (Elt F) (v.loc (thr d L))) :
    (v.loc (thr d L) ↦[v.set]{q} f : sProp 𝕄) = bigSep Finset.univ fun t : Fin n => v.loc (thr d L) ↦[(v.slice (Rect.part hn t)).set]{q} f := by
  rw [← pointsTo_biUnion Finset.univ (ℓ := v.loc (thr d L)) (fun t : Fin n => (v.slice (Rect.part hn t)).set)]
  · congr 1
    ext i
    simp only [Finset.mem_biUnion, Finset.mem_univ, true_and, View.set_slice, Finset.mem_map]
    constructor
    · intro hi
      obtain ⟨x, -, rfl⟩ := Finset.mem_map.mp hi
      obtain ⟨t, ht⟩ := Rect.exists_mem_part hn x
      exact ⟨t, x, ht, rfl⟩
    · rintro ⟨t, x, -, rfl⟩
      exact Finset.mem_map_of_mem _ (Finset.mem_univ x)
  · intro t _ t' _ h
    simp only [View.set_slice]
    exact (Finset.disjoint_map _).mpr (Rect.part_disjoint hn h)

end Tile

end Cert.Proof.Dispatch

end
-- ==== Proof.DispatchSend.lean ====
/-
  A chunk's scatters: one column stream, issued (`scatter_issue`), which delivers the target's elements its sixteen list
  entries name, each holding the token that names it. The streams of the eight columns and of the two lists are in
  flight together, at eighths of the lists' shares and at halves of the row buffer's.
-/
module

public import proofs.«01_k».proof.Proof.DispatchBase
public import Idealize.ShloMosaic.Lib.ValueLayout

@[expose] public section

noncomputable section

namespace Cert.Proof.Dispatch

open Cert.Dispatch Cert.Dispatch.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ShareLeaves

variable {F : FTy → Type}

local notation "𝕄" => MT nD τ sig (HIx 1) (Elt F) ℕ UU ℕ

theorem trips_eq : k0_t1_loop.trips = 8 := by decide
theorem trips_pow : k0_t1_loop.trips = 2 ^ 3 := by decide
theorem bdiv : k0_t1_loop.trips ∣ S16x1024.size 1 := by rw [trips_eq]; exact ⟨128, rfl⟩

theorem srcRect_eq (t : Fin k0_t1_loop.trips) :
    Rect.unit (s := S16x1024) (k0_off4 t) S16x128.size (k0_off4_inb t) = Rect.part (s := S16x1024) (a₀ := 1) bdiv t := by
  unfold Rect.part Rect.block
  congr 1 <;> funext a
  · rw [k0_off4_eq]
    match a with
    | 0 => simp [Shape.partIx, Shape.partSize]
    | 1 => simp [Shape.partIx, Shape.partSize, trips_eq]; omega
  · match a with
    | 0 => simp [Shape.partSize]
    | 1 => simp [Shape.partSize, trips_eq]

theorem srcCol_set (xb : Memref sig .scVector .vmem S16x1024 .f32) (t : Fin k0_t1_loop.trips) :
    (srcCol xb t).view.set = (xb.view.slice (Rect.part (s := S16x1024) (a₀ := 1) bdiv t)).set := by
  show (xb.view.slice (Rect.unit (s := S16x1024) (k0_off4 t) S16x128.size (k0_off4_inb t))).set = _
  exact srcRect_eq t ▸ rfl

/-! ## Where the pieces lie -/

theorem dst_emb0 (t : Fin k0_t1_loop.trips) (z : S18432x128.Idx) : ((dstCol t).view.emb z 0 : ℕ) = (z 0).val := by
  show ((Rect.unit (s := S18432x1024) (k0_off5 t) S18432x128.size (k0_off5_inb t)).emb z 0 : ℕ) = _
  rw [Rect.emb_apply]; simp [k0_off5_eq]
theorem dst_emb1 (t : Fin k0_t1_loop.trips) (z : S18432x128.Idx) : ((dstCol t).view.emb z 1 : ℕ) = 128 * t.val + (z 1).val := by
  show ((Rect.unit (s := S18432x1024) (k0_off5 t) S18432x128.size (k0_off5_inb t)).emb z 1 : ℕ) = _
  rw [Rect.emb_apply]; simp [k0_off5_eq]
theorem src_emb0 (t : Fin k0_t1_loop.trips) (z : S16x128.Idx) : ((Rect.unit (s := S16x1024) (k0_off4 t) S16x128.size (k0_off4_inb t)).emb z 0 : ℕ) = (z 0).val := by
  rw [Rect.emb_apply]; simp [k0_off4_eq]
theorem src_emb1 (t : Fin k0_t1_loop.trips) (z : S16x128.Idx) : ((Rect.unit (s := S16x1024) (k0_off4 t) S16x128.size (k0_off4_inb t)).emb z 1 : ℕ) = 128 * t.val + (z 1).val := by
  rw [Rect.emb_apply]; simp [k0_off4_eq]

theorem row_ix (x : S16.Idx) (h : S16.numel = S1x16.numel) : Shape.reshapeEquiv h x = (fun | 0 => ⟨0, Nat.one_pos⟩ | 1 => x 0 : S1x16.Idx) :=
  Shape.reshapeEquiv_eq_of_rowMajor h (by
    rw [Shape.rowMajor_val_two, Shape.rowMajor_val_one]
    show 0 * 16 + (x 0).val = (x 0).val
    omega)

section Tile
variable [FloatOps F] (d : Dev nD) (L : grid0.Coords) {O : CellTallies nD τ sig (HIx 1)} {W : Waits sig (HIx 1)}
variable (x : Vec F S8192x1024 .f32) (l : Vec F S32x16x16 .i32)

/-- The buffer's columns. -/
theorem src_cols (xb : Memref sig .scVector .vmem S16x1024 .f32) (q : PosShare TreeShare) (f : Buf (Elt F) (xb.view.loc (thr d L))) :
    (xb.view.loc (thr d L) ↦[xb.view.set]{q} f : sProp 𝕄)
      = bigSep Finset.univ fun t : Fin k0_t1_loop.trips => xb.view.loc (thr d L) ↦[(srcCol xb t).view.set]{q} f :=
  (cols d L xb.view bdiv q f).trans (bigSep_congr fun t _ => by rw [srcCol_set])

/-- A half of a share, by parity, and the eighth that the streams of column `t` read at. -/
def half (q : PosShare TreeShare) : Bool → PosShare TreeShare
  | false => q.left
  | true => q.right
def lq (q : PosShare TreeShare) (t : Fin k0_t1_loop.trips) : PosShare TreeShare := leaf 3 q (finCongr trips_pow t)
theorem list_shares (m : Memref sig .scVector .vmem S16x16 .i32) (q : PosShare TreeShare) (f : Buf (Elt F) (m.view.loc (thr d L))) :
    (m.view.loc (thr d L) ↦[m.view.set]{q} f : sProp 𝕄)
      = bigSep Finset.univ fun t : Fin k0_t1_loop.trips => m.view.loc (thr d L) ↦[m.view.set]{lq q t} f := by
  rw [pointsTo_leaves m.view.set f 3 q, bigSep_univ_equiv (finCongr trips_pow)]
  rfl

/-! ## What one stream names and moves -/

theorem row_read (m : Memref sig .scVector .vmem S16x16 .i32) (j : Fin 16) (fm : Buf (Elt F) (m.view.loc (thr d L))) (b : ℕ)
    (hfm : m.view.read (Elt F) fm = listVal (F := F) l b) (z : S16.Idx) :
    (listRow m j).view.read (Elt F) fm z = l (at3 (b + 16 * j.val + (z 0).val)) := by
  show m.view.read (Elt F) fm ((Rect.unit (s := S16x16) ![j.val, 0] S1x16.size (list_inb j)).emb (Shape.reshapeEquiv _ z)) = _
  rw [hfm, row_ix]
  unfold listVal
  rw [Rect.emb_apply, Rect.emb_apply]
  refine congrArg l (congrArg at3 ?_)
  show b + 16 * (j.val + 1 * 0) + (0 + 1 * (z 0).val) = _
  omega

theorem row_word (m : Memref sig .scVector .vmem S16x16 .i32) (j : Fin 16) (fm : Buf (Elt F) (m.view.loc (thr d L))) (b : ℕ)
    (hfm : m.view.read (Elt F) fm = listVal (F := F) l b) {o z : ℕ} (hn : S16.numel = o) (hin) (k : Fin o) :
    (SparseCore.rows (z := z) ((listRow m j).view.read (Elt F) fm) hn hin k : ℕ) = word (F := F) l (b + 16 * j.val + k.val) := by
  show BitVec.toNat (w := 32) ((listRow m j).view.read (Elt F) fm (S16.rowMajor.symm (k.cast hn.symm))) = _
  rw [row_read d L l m j fm b hfm]
  have hy : ((S16.rowMajor.symm (k.cast hn.symm)) 0 : ℕ) = k.val := by
    rw [← Shape.rowMajor_val_one (S16.rowMajor.symm (k.cast hn.symm))]
    exact congrArg Fin.val (S16.rowMajor.apply_symm_apply _)
  rw [hy]; rfl

abbrev hg := gathers_S18432x128_S16x128

section Names
variable (t : Fin k0_t1_loop.trips) (b : ℕ) (r : Fin (S16x128.size hg.axis') → Fin (S18432x128.size hg.axis))
  (hr : ∀ k, (r k : ℕ) = word (F := F) l (b + k.val))

include hr in
theorem named_tgt : SparseCore.namedRows (thr d L) (dstCol t).view hg.axis r = tgt (F := F) l b t.val := by
  have ha : hg.axis = (0 : Fin S18432x128.rank) := by decide
  have ht : t.val < 8 := trips_eq ▸ t.isLt
  ext i
  unfold SparseCore.namedRows tgt
  simp only [Finset.mem_biUnion, Finset.mem_univ, true_and, Finset.mem_filter]
  constructor
  · rintro ⟨k, hi⟩
    obtain ⟨y, -, rfl⟩ := Finset.mem_map.mp hi
    have e : ((dstCol t).view.slice (S18432x128.rowRect hg.axis (r k))).emb y = (dstCol t).view.emb ((S18432x128.rowRect hg.axis (r k)).emb y) := rfl
    rw [e, dst_emb0, dst_emb1]
    have hk : k.val < 16 := k.isLt
    have hz1 : ((S18432x128.rowRect hg.axis (r k)).emb y 1).val < 128 := ((S18432x128.rowRect hg.axis (r k)).emb y 1).isLt
    refine ⟨by omega, k.val, hk, ?_⟩
    exact (congrArg Fin.val (Shape.rowRect_emb_axis hg.axis (r k) y)).trans (hr k)
  · rintro ⟨h1, n, hn, h0⟩
    let k : Fin (S16x128.size hg.axis') := ⟨n, hn⟩
    have hi0 : (i 0).val < 18432 := (i 0).isLt
    let z : S18432x128.Idx := fun | 0 => ⟨(i 0).val, hi0⟩ | 1 => ⟨(i 1).val - 128 * t.val, by show _ < 128; omega⟩
    have hz : r k = z hg.axis := by
      apply Fin.ext; rw [hr k, ← h0]
    refine ⟨k, ?_⟩
    have hi : i = ((dstCol t).view.slice (S18432x128.rowRect hg.axis (z hg.axis))).emb (Shape.rowProj hg.axis z) := by
      show i = (dstCol t).view.emb ((S18432x128.rowRect hg.axis (z hg.axis)).emb (Shape.rowProj hg.axis z))
      rw [Shape.rowRect_emb_rowProj]
      funext a; apply Fin.ext
      match a with
      | 0 => exact (dst_emb0 t z).symm
      | 1 =>
        refine Eq.trans ?_ (dst_emb1 t z).symm
        show (i 1).val = 128 * t.val + ((i 1).val - 128 * t.val)
        omega
    rw [hz, hi]
    exact Finset.mem_map_of_mem _ (Finset.mem_univ _)

include hr in
theorem named_value (hinj : Function.Injective r) (p : Bool) (fb : Buf (Elt F) ((xbM p).view.loc (thr d L)))
    (hfb : (xbM p).view.read (Elt F) fb = xVal x b) (hb : b + 16 ≤ 8192) (f out : Vec F S18432x1024 .f32) (hf : Holds x l f) :
    ∀ i ∈ SparseCore.namedRows (thr d L) (dstCol t).view hg.axis r,
      SparseCore.scatterBuf (thr d L) (dstCol t).view hg.axis r (SparseCore.scatterRowPayload (thr d L) (srcCol (xbM p) t) hg fb) out i = f i := by
  have ht : t.val < 8 := trips_eq ▸ t.isLt
  intro i hi
  obtain ⟨k, -, hi⟩ := Finset.mem_biUnion.mp hi
  rw [SparseCore.scatterBuf_of_mem (thr d L) (dstCol t).view hg.axis r hinj _ _ hi]
  obtain ⟨y, -, rfl⟩ := Finset.mem_map.mp hi
  refine (View.write_emb_of_mem _ _ (Finset.mem_univ _)).trans ?_
  have hk : k.val < 16 := k.isLt
  let u : S16x128.Idx := (S16x128.rowRect hg.axis' k).emb ((Shape.idxEquiv hg.rowShape_eq).symm y)
  have hu0 : (u 0).val = k.val := congrArg Fin.val (Shape.rowRect_emb_axis hg.axis' k _)
  have hu1 : (u 1).val = (y 1).val := by
    refine (Shape.rowRect_emb_of_ne hg.axis' k _ (by decide)).trans ?_
    exact Shape.idxEquiv_symm_apply_val _ _ _
  have hy1 : (y 1).val < 128 := (y 1).isLt
  have hw : SparseCore.scatterRowPayload (thr d L) (srcCol (xbM p) t) hg fb k y
      = (xbM p).view.read (Elt F) fb ((Rect.unit (s := S16x1024) (k0_off4 t) S16x128.size (k0_off4_inb t)).emb u) := rfl
  have e : ((dstCol t).view.slice (S18432x128.rowRect hg.axis (r k))).emb y = (dstCol t).view.emb ((S18432x128.rowRect hg.axis (r k)).emb y) := rfl
  have ea : ((S18432x128.rowRect hg.axis (r k)).emb y 0).val = (r k).val := congrArg Fin.val (Shape.rowRect_emb_axis hg.axis (r k) y)
  have eb : ((S18432x128.rowRect hg.axis (r k)).emb y 1).val = (y 1).val := Shape.rowRect_emb_of_ne hg.axis (r k) y (by decide)
  have hv := hf (b + k.val) (by omega) ((dstCol t).view.emb ((S18432x128.rowRect hg.axis (r k)).emb y)) (by rw [dst_emb0, ea, hr k])
  rw [dst_emb1, eb] at hv
  refine Eq.trans ?_ (e ▸ hv.symm)
  refine (congrArg _ hw).trans ?_
  show (xbM p).view.read (Elt F) fb _ = _
  rw [hfb]
  unfold xVal
  rw [src_emb0, src_emb1, hu0, hu1]

end Names

include d L in
theorem col_credit (p : Bool) (t : Fin k0_t1_loop.trips) (r : Fin (S16x128.size hg.axis') → Fin (S18432x128.size hg.axis)) :
    ∑ j, ((dstCol t).slice (S18432x128.rowRect hg.axis (r j)) (S18432x128.stride_rowRect hg.axis _)).view.dmaCredit = (srcCol (xbM p) t).view.dmaCredit := by
  cases p <;> exact SparseCore.sum_scatterCredit_eq_srcCredit (thr d L) (srcCol (xbM _) t) (dstCol t) hg rfl r (fun _ => rfl) (fun _ => rfl)

/-- One column stream of a scatter: the elements that chunk `j`'s entries of the list name in column `t`, delivered
    holding what `f` holds, a buffer that holds at every row the list names the token that names it. -/
theorem scatter_issue (ok : ListOK (F := F) l) (f out : Vec F S18432x1024 .f32) (hf : Holds x l f) (p : Bool) (m : Memref sig .scVector .vmem S16x16 .i32) (sem : DmaSem sig)
    (t : Fin k0_t1_loop.trips) (j : Fin 16) (q qm : PosShare TreeShare) (fb : Buf (Elt F) ((xbM p).view.loc (thr d L))) (fm : Buf (Elt F) (m.view.loc (thr d L)))
    (hfb : (xbM p).view.read (Elt F) fb = xVal x (tok L + 16 * j.val)) (hfm : m.view.read (Elt F) fm = listVal (F := F) l (tok L))
    {α : Type} (k : PUnit → Pg F L α) (Q : α → sProp 𝕄) :
    iprop(((xbM p).view.loc (thr d L) ↦[(srcCol (xbM p) t).view.set]{q} fb)
        ∗ (xsM.view.loc (thr d L) ↦[tgt (F := F) l (tok L + 16 * j.val) t.val]{fullShare} out)
        ∗ (m.view.loc (thr d L) ↦[m.view.set]{qm} fm) ∗ semVal (thr d L, .dma sem) 0)
      ⊢ iprop((Transfers.Flight countersEmb (thr d L) (.dma sem) ιt (srcCol (xbM p) t).view.dmaCredit
            iprop((xsM.view.loc (thr d L) ↦[tgt (F := F) l (tok L + 16 * j.val) t.val]{fullShare} f)
              ∗ ((xbM p).view.loc (thr d L) ↦[(srcCol (xbM p) t).view.set]{q} fb) ∗ (m.view.loc (thr d L) ↦[m.view.set]{qm} fm))
          -∗ WP d L (k ⟨⟩) Q)
        -∗ WP d L (SparseCore.enqueueIndirectScatter rfl (srcCol (xbM p) t) (dstCol t) gathers_S18432x128_S16x128 (listRow m j) rfl sem rfl (Or.inl rfl) >>= k) Q) := by
  have h0 : (L 0).val < 2 := (L 0).isLt
  have h1 : (L 1).val < 16 := (L 1).isLt
  have htok : tok L + 256 ≤ 8192 := by unfold tok; omega
  have hin : ∀ z, BitVec.toNat (w := 32) ((listRow m j).view.read (Elt F) fm z) < S18432x128.size hg.axis := fun z => by
    rw [row_read d L l m j fm _ hfm]; exact ok.lt _
  have hr := fun k => row_word d L l m j fm (tok L) hfm (z := S18432x128.size hg.axis) (o := S16x128.size hg.axis') rfl hin k
  have hinj : Function.Injective (SparseCore.rows ((listRow m j).view.read (Elt F) fm) (rfl : S16.numel = S16x128.size hg.axis') hin) := by
    intro a a' e
    have ha : a.val < 16 := a.isLt
    have ha' : a'.val < 16 := a'.isLt
    have := congrArg Fin.val e
    have := ok.inj _ _ (by omega) (by omega) ((hr a).symm.trans (this.trans (hr a')))
    exact Fin.ext (by omega)
  have hsub : (listRow m j).view.set ⊆ m.view.set := by
    show ((m.view.slice _).reshape _ _).set ⊆ _
    rw [View.set_reshape]; exact View.set_slice_subset _ _
  rw [← named_tgt d L l t _ _ hr]
  iintro ⟨Hs, Hd, Hm, Hsem⟩ Hk
  ihave Hm := (pointsTo_split_subset hsub).1 $$ Hm
  icases Hm with ⟨Hm, Hrest⟩
  iapply (SparseCore.wp_indirectScatterLocal countersEmb 𝒱₀ (thr d L) none (hg := gathers_S18432x128_S16x128) ιt
    (srcCol (xbM p) t).view.dmaCredit (by decide) hin hinj (col_credit d L p t _)) $$ [Hs Hd Hm Hsem]
  · isplitl [Hs]; · iexact Hs
    isplitl [Hd]; · iexact Hd
    isplitl [Hm]; · iexact Hm
    iexact Hsem
  iintro Hfl
  iapply Hk
  ihave Hfl := (Transfers.Flight_frame countersEmb (thr d L)) $$ [Hrest Hfl]
  · isplitl [Hrest]; · iexact Hrest
    iexact Hfl
  iapply (Transfers.Flight_mono countersEmb (thr d L) ?_) $$ Hfl
  iintro ⟨Hrest, Hd, Hs, Hm⟩
  isplitl [Hd]
  · iapply (Entails.of_eq (pointsTo_congr (named_value d L x l t _ _ hr hinj p fb hfb (by omega) f out hf))) $$ Hd
  isplitl [Hs]; · iexact Hs
  iapply (pointsTo_split_subset hsub).2
  isplitl [Hm] <;> iassumption

end Tile

end Cert.Proof.Dispatch

end
-- ==== Proof.DispatchChunk.lean ====
/-
  A chunk and a tile. `St j` is what a tile holds before its chunk `j`: the copy in of chunk `j`'s tokens in flight, the
  scatters of chunk `j - 1` in flight out of the other buffer, the elements that the chunks before have written, and those
  that chunk `j` and the chunks after it will write. A chunk takes `St j` to `St (j + 1)` (`chunk_spec`), the tile from
  nothing written to everything written (`tile_spec`).
-/
module

public import proofs.«01_k».proof.Proof.DispatchSend

@[expose] public section

noncomputable section

namespace Cert.Proof.Dispatch

open Cert.Dispatch Cert.Dispatch.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

theorem par_add_two (j : ℕ) : par (j + 2) = par j := by unfold par; rw [Nat.add_mod_right]

theorem list_ix (x : S16x16.Idx) (h : S16x16.numel = S1x16x16.numel) :
    Shape.reshapeEquiv h x = (fun | 0 => ⟨0, Nat.one_pos⟩ | 1 => x 0 | 2 => x 1 : S1x16x16.Idx) :=
  Shape.reshapeEquiv_eq_of_rowMajor h (by
    rw [Shape.rowMajor_val_three, Shape.rowMajor_val_two]
    show (0 * 16 + (x 0).val) * 16 + (x 1).val = (x 0).val * 16 + (x 1).val
    omega)

section Tile
variable [FloatOps F] (d : Dev nD) (L : grid0.Coords) {O : CellTallies nD τ sig (HIx 1)} {W : Waits sig (HIx 1)}
variable (x : Vec F S8192x1024 .f32) (de dO : Vec F S32x16x16 .i32) (f out : Vec F S18432x1024 .f32)

/-! ## What the slices read -/

theorem listSl_read (m : Memref sig .scVector .hbm S32x16x16 .i32) (g : Buf (Elt F) (m.view.loc (thr d L))) (l : Vec F S32x16x16 .i32) (hl : m.view.read (Elt F) g = l) :
    (listSl m L).view.read (Elt F) g = listVal (F := F) l (tok L) := by
  subst hl
  have h0 : (L 0).val < 2 := (L 0).isLt
  have h1 : (L 1).val < 16 := (L 1).isLt
  funext z
  have hz0 : (z 0).val < 16 := (z 0).isLt
  have hz1 : (z 1).val < 16 := (z 1).isLt
  show m.view.read (Elt F) g ((Rect.unit (s := S32x16x16) (k0_off1 L) S1x16x16.size (k0_off1_inb L)).emb (Shape.reshapeEquiv _ z)) = m.view.read (Elt F) g _
  rw [list_ix]
  refine congrArg _ (funext fun a => Fin.ext ?_)
  rw [Rect.emb_apply]
  refine (congrArg (· + 1 * _) (congrFun (k0_off1_eq L) a)).trans ?_
  match a with
  | 0 =>
    show 2 * (L 1).val + (L 0).val + 1 * 0 = (tok L + 16 * (z 0).val + (z 1).val) / 256 % 32
    unfold tok; omega
  | 1 =>
    show 0 + 1 * (z 0).val = (tok L + 16 * (z 0).val + (z 1).val) / 16 % 16
    unfold tok; omega
  | 2 =>
    show 0 + 1 * (z 1).val = (tok L + 16 * (z 0).val + (z 1).val) % 16
    unfold tok; omega

theorem xOff_eq (j : Fin 16) : xOff L j = ![tok L + 16 * j.val, 0] := by
  match j with
  | ⟨0, _⟩ => exact k0_off2_eq L
  | ⟨j + 1, h⟩ =>
    refine (k0_off3_eq L ⟨j, by omega⟩).trans ?_
    funext a
    match a with
    | 0 => show 512 * (L 1).val + 256 * (L 0).val + 16 * j + 16 = tok L + 16 * (j + 1); unfold tok; omega
    | 1 => rfl

theorem xSl_read (j : Fin 16) : (xSl L j).view.read (Elt F) x = xVal x (tok L + 16 * j.val) := by
  have h0 : (L 0).val < 2 := (L 0).isLt
  have h1 : (L 1).val < 16 := (L 1).isLt
  funext z
  have hz0 : (z 0).val < 16 := (z 0).isLt
  have hz1 : (z 1).val < 1024 := (z 1).isLt
  show x ((Rect.unit (s := S8192x1024) (xOff L j) S16x1024.size (xOff_inb L j)).emb z) = x _
  refine congrArg _ (funext fun a => Fin.ext ?_)
  rw [Rect.emb_apply]
  refine (congrArg (· + 1 * _) (congrFun (xOff_eq L j) a)).trans ?_
  match a with
  | 0 =>
    show tok L + 16 * j.val + 1 * (z 0).val = (tok L + 16 * j.val + (z 0).val) % 8192
    rw [Nat.mod_eq_of_lt (by unfold tok; omega)]; omega
  | 1 =>
    show 0 + 1 * (z 1).val = (z 1).val % 1024
    omega

/-! ## Copies in, out of a larger piece -/

theorem copyIn_wide (hO : ∀ g, O g none = 0) {s : Shape} {e : EltTy} (src : Memref sig .scVector .hbm s e) (dst : Memref sig .scVector .vmem s e) (sem : DmaSems sig S_)
    (hs : src.view.WordExact) (hd : dst.view.WordExact) (h0 : 0 < s.numel) (q : PosShare TreeShare)
    (Sr : Finset (Idx (src.view.loc (thr d L)))) (hS : src.view.set ⊆ Sr) (fs : Buf (Elt F) (src.view.loc (thr d L))) (fd : Buf (Elt F) (dst.view.loc (thr d L))) :
    iprop(X d L O W ∗ (src.view.loc (thr d L) ↦[Sr]{q} fs) ∗ (dst.view.loc (thr d L) ↦[dst.view.set]{fullShare} fd)
        ∗ semVal (thr d L, .dma sem.sem) 0)
      ⊢ WP d L (copyIn L src dst sem hs hd) fun _ => iprop(X d L O W ∗ (src.view.loc (thr d L) ↦[Sr]{q} fs)
          ∗ (∃ f, ⌜dst.view.read (Elt F) f = src.view.read (Elt F) fs⌝ ∗ dst.view.loc (thr d L) ↦[dst.view.set]{fullShare} f)
          ∗ semVal (thr d L, .dma sem.sem) 0) := by
  iintro ⟨HX, Hs, Hd, Hsem⟩
  ihave Hs := (pointsTo_split_subset hS).1 $$ Hs
  icases Hs with ⟨Hs, Hrest⟩
  iapply (WP_wand d L _ _ _) $$ [HX Hs Hd Hsem]
  · iapply (copyIn_spec d L hO src dst sem hs hd h0 q fs fd)
    isplitl [HX]; · iexact HX
    isplitl [Hs]; · iexact Hs
    isplitl [Hd] <;> iassumption
  iintro %_ ⟨HX, Hs, Hd, Hsem⟩
  isplitl [HX]; · iexact HX
  isplitl [Hs Hrest]
  · iapply (pointsTo_split_subset hS).2
    isplitl [Hs] <;> iassumption
  isplitl [Hd] <;> iassumption

/-! ## The state -/

abbrev cell (sem : DmaSems sig S_) : GSem nD τ sig := (thr d L, .dma sem.sem)
abbrev colCell (sem : DmaSems sig S8) (t : Fin k0_t1_loop.trips) : GSem nD τ sig := (thr d L, .dma (colSem sem t))

/-- The elements of the target that the entries of chunk `j` name, in column `t` and in all. -/
def TgtC (g : Vec F S18432x1024 .f32) (j : Fin 16) (t : Fin k0_t1_loop.trips) : sProp 𝕄 :=
  iprop((xsM.view.loc (thr d L) ↦[tgt (F := F) de (tok L + 16 * j.val) t.val]{fullShare} g)
    ∗ (xsM.view.loc (thr d L) ↦[tgt (F := F) dO (tok L + 16 * j.val) t.val]{fullShare} g))
def OutAt (g : Vec F S18432x1024 .f32) (j : Fin 16) : sProp 𝕄 := bigSep Finset.univ (TgtC d L de dO g j)

/-- A buffer, at some contents; a slot's share of the tokens and its read semaphore; its column semaphores. -/
abbrev BufAt {s : Shape} {e : EltTy} (v : Memref sig .scVector .vmem s e) : sProp 𝕄 := iprop(∃ g, v.view.loc (thr d L) ↦[v.view.set]{fullShare} g)
def XAt (q : PosShare TreeShare) (p : Bool) : sProp 𝕄 := iprop(xM.view.loc (thr d L) ↦[xM.view.set]{half q p} x)
def Rsem (p : Bool) : sProp 𝕄 := semVal (cell d L (rsem p)) 0
def SemC (p : Bool) (t : Fin k0_t1_loop.trips) : sProp 𝕄 := iprop(semVal (colCell d L (esem p) t) 0 ∗ semVal (colCell d L (osem p) t) 0)
def Sems (p : Bool) : sProp 𝕄 := bigSep Finset.univ (SemC d L p)
/-- Column `t` of a row buffer, in the halves that its two streams read. -/
def BufC (p : Bool) (fb : Buf (Elt F) ((xbM p).view.loc (thr d L))) (t : Fin k0_t1_loop.trips) : sProp 𝕄 :=
  iprop(((xbM p).view.loc (thr d L) ↦[(srcCol (xbM p) t).view.set]{fullShare.left} fb) ∗ ((xbM p).view.loc (thr d L) ↦[(srcCol (xbM p) t).view.set]{fullShare.right} fb))

variable (fe : Buf (Elt F) (devM.view.loc (thr d L))) (fo : Buf (Elt F) (dovM.view.loc (thr d L)))

/-- A slot's half of the lists, in eighths. -/
def LstC (p : Bool) (t : Fin k0_t1_loop.trips) : sProp 𝕄 :=
  iprop((devM.view.loc (thr d L) ↦[devM.view.set]{lq (half fullShare p) t} fe) ∗ (dovM.view.loc (thr d L) ↦[dovM.view.set]{lq (half fullShare p) t} fo))
def Lst (p : Bool) : sProp 𝕄 := bigSep Finset.univ (LstC d L fe fo p)

/-- The sixteen streams of chunk `j` in flight out of slot `p`. -/
def FlyC (p : Bool) (j : Fin 16) (fb : Buf (Elt F) ((xbM p).view.loc (thr d L))) (t : Fin k0_t1_loop.trips) : sProp 𝕄 :=
  iprop(Transfers.Flight countersEmb (thr d L) (.dma (colSem (esem p) t)) ιt (srcCol (xbM p) t).view.dmaCredit
      iprop((xsM.view.loc (thr d L) ↦[tgt (F := F) de (tok L + 16 * j.val) t.val]{fullShare} f)
        ∗ ((xbM p).view.loc (thr d L) ↦[(srcCol (xbM p) t).view.set]{fullShare.left} fb) ∗ (devM.view.loc (thr d L) ↦[devM.view.set]{lq (half fullShare p) t} fe))
    ∗ Transfers.Flight countersEmb (thr d L) (.dma (colSem (osem p) t)) ιt (srcCol (xbM p) t).view.dmaCredit
      iprop((xsM.view.loc (thr d L) ↦[tgt (F := F) dO (tok L + 16 * j.val) t.val]{fullShare} f)
        ∗ ((xbM p).view.loc (thr d L) ↦[(srcCol (xbM p) t).view.set]{fullShare.right} fb) ∗ (dovM.view.loc (thr d L) ↦[dovM.view.set]{lq (half fullShare p) t} fo)))
def Fly (p : Bool) (j : Fin 16) : sProp 𝕄 := iprop(∃ fb, bigSep Finset.univ (FlyC d L de dO f fe fo p j fb))

variable (q : PosShare TreeShare)

/-- A slot: free; its buffer being filled with chunk `j`'s tokens; filled; being scattered. -/
def Free (p : Bool) : sProp 𝕄 := iprop(XAt d L x q p ∗ Rsem d L p ∗ BufAt d L (xbM p) ∗ Lst d L fe fo p ∗ Sems d L p)
def Reading (p : Bool) (j : Fin 16) : sProp 𝕄 :=
  iprop(Transfers.Flight countersEmb (thr d L) (.dma (rsem p).sem) ιt (xbM p).view.dmaCredit
      iprop((∃ fb, ⌜(xbM p).view.read (Elt F) fb = xVal x (tok L + 16 * j.val)⌝ ∗ (xbM p).view.loc (thr d L) ↦[(xbM p).view.set]{fullShare} fb) ∗ XAt d L x q p)
    ∗ Lst d L fe fo p ∗ Sems d L p)
def Filled (p : Bool) (j : Fin 16) : sProp 𝕄 :=
  iprop(XAt d L x q p ∗ Rsem d L p
    ∗ (∃ fb, ⌜(xbM p).view.read (Elt F) fb = xVal x (tok L + 16 * j.val)⌝ ∗ (xbM p).view.loc (thr d L) ↦[(xbM p).view.set]{fullShare} fb)
    ∗ Lst d L fe fo p ∗ Sems d L p)
def Scat (p : Bool) (j : Fin 16) : sProp 𝕄 := iprop(XAt d L x q p ∗ Rsem d L p ∗ Fly d L de dO f fe fo p j)

/-! ## The pieces -/

theorem readIssue_spec (j : Fin 16) :
    Free d L x fe fo q (par j.val) ⊢ WP d L (readIssue L j) fun _ => Reading d L x fe fo q (par j.val) j := by
  have hsub : (xSl L j).view.set ⊆ xM.view.set := View.set_slice_subset _ _
  unfold readIssue Free XAt Rsem BufAt
  iintro ⟨Hx, Hsem, ⟨%fb, Hb⟩, Hl, Hs⟩
  ihave Hx := (pointsTo_split_subset hsub).1 $$ Hx
  icases Hx with ⟨Hx, Hrest⟩
  iapply (Transfers.wp_dmaLocal countersEmb 𝒱₀ (thr d L) none ιt (xbM (par j.val)).view.dmaCredit rfl (View.dmaCredit_pos _ (by decide)) (Finset.Subset.refl _)) $$ [Hx Hb Hsem]
  · isplitl [Hx]; · iexact Hx
    isplitl [Hb] <;> iassumption
  iintro Hfl
  iapply (WP_pure d L)
  unfold Reading
  isplitl [Hfl Hrest]; swap
  · isplitl [Hl] <;> iassumption
  ihave Hfl := (Transfers.Flight_frame countersEmb (thr d L)) $$ [Hrest Hfl]
  · isplitl [Hrest]; · iexact Hrest
    iexact Hfl
  iapply (Transfers.Flight_mono countersEmb (thr d L) ?_) $$ Hfl
  unfold XAt
  iintro ⟨Hrest, Hb, Hx⟩
  isplitl [Hb]
  · iexists _; isplitr
    swap; · iexact Hb
    ipureintro
    exact (View.read_write_univ _ _).trans (xSl_read L x j)
  iapply (pointsTo_split_subset hsub).2
  isplitl [Hx] <;> iassumption

theorem readWait_spec (hO : ∀ g, O g none = 0) (j : Fin 16) :
    iprop(X d L O W ∗ Reading d L x fe fo q (par j.val) j) ⊢ WP d L (readWait L j) fun _ => iprop(X d L O W ∗ Filled d L x fe fo q (par j.val) j) := by
  unfold readWait Reading
  iintro ⟨HX, H, Hl, Hs⟩
  iapply (wait_spec d L hO (xSl L j) (xbM (par j.val)) rfl) $$ [HX H]
  · isplitl [HX] <;> iassumption
  iintro ⟨HX, ⟨Hb, Hx⟩, Hsem⟩
  iapply (WP_pure d L)
  isplitl [HX]; · iexact HX
  unfold Filled Rsem
  isplitl [Hx]; · iexact Hx
  isplitl [Hsem]; · iexact Hsem
  isplitl [Hb]; · iexact Hb
  isplitl [Hl] <;> iassumption

theorem share_halves {ℓ : Loc nD τ sig} (I : Finset (Idx ℓ)) (g : Buf (Elt F) ℓ) (q : PosShare TreeShare) :
    (ℓ ↦[I]{q} g : sProp 𝕄) = iprop((ℓ ↦[I]{q.left} g) ∗ (ℓ ↦[I]{q.right} g)) :=
  BI.Entails.antisymm (pointsTo_share (PosShare.mem_left_op_right q)).1 (pointsTo_share (PosShare.mem_left_op_right q)).2

theorem buf_cols (p : Bool) (fb : Buf (Elt F) ((xbM p).view.loc (thr d L))) :
    ((xbM p).view.loc (thr d L) ↦[(xbM p).view.set]{fullShare} fb : sProp 𝕄) = bigSep Finset.univ (BufC d L p fb) := by
  rw [share_halves, src_cols, src_cols, ← bigSep_sep']; rfl

variable (he : devM.view.read (Elt F) fe = listVal (F := F) de (tok L)) (ho : dovM.view.read (Elt F) fo = listVal (F := F) dO (tok L))
variable (oke : ListOK (F := F) de) (oko : ListOK (F := F) dO) (hfe : Holds x de f) (hfo : Holds x dO f)

include he ho oke oko hfe hfo in
theorem send_col (p : Bool) (j : Fin 16) (fb : Buf (Elt F) ((xbM p).view.loc (thr d L)))
    (hfb : (xbM p).view.read (Elt F) fb = xVal x (tok L + 16 * j.val)) (t : Fin k0_t1_loop.trips) (acc : Unit) :
    iprop(X d L O W ∗ BufC d L p fb t ∗ LstC d L fe fo p t ∗ SemC d L p t ∗ TgtC d L de dO out j t)
      ⊢ WP d L (sendBody L (xbM p) (esem p) (osem p) j t acc) fun _ => iprop(X d L O W ∗ FlyC d L de dO f fe fo p j fb t) := by
  unfold sendBody BufC LstC SemC TgtC FlyC
  iintro ⟨HX, ⟨Hbl, Hbr⟩, ⟨Hle, Hlo⟩, ⟨Hse, Hso⟩, Hoe, Hoo⟩
  iapply (scatter_issue d L x de oke f out hfe p devM (colSem (esem p) t) t j fullShare.left (lq (half fullShare p) t) fb fe hfb he) $$ [Hbl Hoe Hle Hse]
  · isplitl [Hbl]; · iexact Hbl
    isplitl [Hoe]; · iexact Hoe
    isplitl [Hle]; · iexact Hle
    iexact Hse
  iintro Hfe
  iapply (scatter_issue d L x dO oko f out hfo p dovM (colSem (osem p) t) t j fullShare.right (lq (half fullShare p) t) fb fo hfb ho) $$ [Hbr Hoo Hlo Hso]
  · isplitl [Hbr]; · iexact Hbr
    isplitl [Hoo]; · iexact Hoo
    isplitl [Hlo]; · iexact Hlo
    iexact Hso
  iintro Hfo
  iapply (WP_pure d L)
  isplitl [HX]; · iexact HX
  isplitl [Hfe] <;> iassumption

include he ho oke oko hfe hfo in
theorem send_spec (j : Fin 16) :
    iprop(X d L O W ∗ Filled d L x fe fo q (par j.val) j ∗ OutAt d L de dO out j)
      ⊢ WP d L (send L j) fun _ => iprop(X d L O W ∗ Scat d L x de dO f fe fo q (par j.val) j) := by
  unfold Filled Scat Lst Sems OutAt
  iintro ⟨HX, ⟨Hx, Hsem, ⟨%fb, %hfb, Hb⟩, Hl, Hs⟩, Ho⟩
  have hloop := loop_cells d L (X d L O W) (fun t => iprop(BufC d L (par j.val) fb t ∗ LstC d L fe fo (par j.val) t ∗ SemC d L (par j.val) t ∗ TgtC d L de dO out j t))
    (FlyC d L de dO f fe fo (par j.val) j fb) (sendBody L (xbM (par j.val)) (esem (par j.val)) (osem (par j.val)) j)
    (send_col d L x de dO f out fe fo he ho oke oko hfe hfo (par j.val) j fb hfb)
  rw [bigSep_sep', bigSep_sep', bigSep_sep', ← buf_cols] at hloop
  iapply (WP_wand d L _ _ _) $$ [HX Hb Hl Hs Ho]
  · iapply hloop
    isplitl [HX]; · iexact HX
    isplitl [Hb]; · iexact Hb
    isplitl [Hl]; · iexact Hl
    isplitl [Hs] <;> iassumption
  iintro %_ ⟨HX, H⟩
  isplitl [HX]; · iexact HX
  isplitl [Hx]; · iexact Hx
  isplitl [Hsem]; · iexact Hsem
  unfold Fly
  iexists fb; iexact H

theorem settle_col (hO : ∀ g, O g none = 0) (p : Bool) (j : Fin 16) (fb : Buf (Elt F) ((xbM p).view.loc (thr d L))) (t : Fin k0_t1_loop.trips) (acc : Unit) :
    iprop(X d L O W ∗ FlyC d L de dO f fe fo p j fb t)
      ⊢ WP d L (waitBody L (xbM p) (esem p) (osem p) t acc)
        fun _ => iprop(X d L O W ∗ BufC d L p fb t ∗ LstC d L fe fo p t ∗ SemC d L p t ∗ TgtC d L de dO f j t) := by
  unfold BufC LstC SemC TgtC FlyC
  iintro ⟨HX, Hfe, Hfo⟩
  iapply (wait_spec d L hO (dstCol t) (srcCol (xbM p) t) rfl) $$ [HX Hfe]
  · isplitl [HX] <;> iassumption
  iintro ⟨HX, ⟨Hoe, Hbl, Hle⟩, Hse⟩
  iapply (wait_spec d L hO (dstCol t) (srcCol (xbM p) t) rfl) $$ [HX Hfo]
  · isplitl [HX] <;> iassumption
  iintro ⟨HX, ⟨Hoo, Hbr, Hlo⟩, Hso⟩
  iapply (WP_pure d L)
  isplitl [HX]; · iexact HX
  isplitl [Hbl Hbr]
  · isplitl [Hbl] <;> iassumption
  isplitl [Hle Hlo]
  · isplitl [Hle] <;> iassumption
  isplitl [Hse Hso]
  · isplitl [Hse] <;> iassumption
  isplitl [Hoe] <;> iassumption

theorem settle_spec (hO : ∀ g, O g none = 0) (p : Bool) (j : Fin 16) :
    iprop(X d L O W ∗ Scat d L x de dO f fe fo q p j)
      ⊢ WP d L (settle L p) fun _ => iprop(X d L O W ∗ Free d L x fe fo q p ∗ OutAt d L de dO f j) := by
  unfold Scat Fly
  iintro ⟨HX, Hx, Hsem, ⟨%fb, H⟩⟩
  have hloop := loop_cells d L (X d L O W) (FlyC d L de dO f fe fo p j fb)
    (fun t => iprop(BufC d L p fb t ∗ LstC d L fe fo p t ∗ SemC d L p t ∗ TgtC d L de dO f j t)) (waitBody L (xbM p) (esem p) (osem p))
    (settle_col d L de dO f fe fo hO p j fb)
  rw [bigSep_sep', bigSep_sep', bigSep_sep', ← buf_cols] at hloop
  iapply (WP_wand d L _ _ _) $$ [HX H]
  · iapply hloop
    isplitl [HX] <;> iassumption
  iintro %_ ⟨HX, Hb, Hl, Hs, Ho⟩
  unfold Free Lst Sems OutAt
  isplitl [HX]; · iexact HX
  isplitr [Ho]; swap; · iexact Ho
  isplitl [Hx]; · iexact Hx
  isplitl [Hsem]; · iexact Hsem
  isplitl [Hb]; · iexists fb; iexact Hb
  isplitl [Hl] <;> iassumption

/-! ## The chunks -/

/-- The elements of the target: those of the chunks before `a` written, those of the chunks from `b` on as they were,
    those between with the streams in flight. -/
def Outs (a b : ℕ) : sProp 𝕄 :=
  bigSep Finset.univ fun k : Fin 16 => if k.val < a then OutAt d L de dO f k else if k.val < b then iprop(emp) else OutAt d L de dO out k

theorem outs_take (a : ℕ) (b : Fin 16) (h : a ≤ b.val) :
    Outs d L de dO f out a b.val ⊢ iprop(OutAt d L de dO out b ∗ Outs d L de dO f out a (b.val + 1)) := by
  unfold Outs
  iintro H
  ihave H := (bigSep_univ_update (Φ := fun k : Fin 16 => if k.val < a then OutAt d L de dO f k else if k.val < b.val then iprop(emp) else OutAt d L de dO out k)
    (Ψ := fun k : Fin 16 => if k.val < a then OutAt d L de dO f k else if k.val < b.val + 1 then iprop(emp) else OutAt d L de dO out k) b (fun k hk => by
      have : k.val ≠ b.val := fun e => hk (Fin.ext e)
      by_cases h1 : k.val < b.val
      · rw [if_pos h1, if_pos (by omega : k.val < b.val + 1)]
      · rw [if_neg h1, if_neg (by omega : ¬ k.val < b.val + 1)])) $$ H
  icases H with ⟨Hb, Hback⟩
  isplitl [Hb]
  · iapply (Entails.of_eq (show (if b.val < a then OutAt d L de dO f b else if b.val < b.val then iprop(emp) else OutAt d L de dO out b) = OutAt d L de dO out b by
      rw [if_neg (by omega), if_neg (by omega)])); iexact Hb
  iapply Hback
  iapply (Entails.of_eq (show iprop(emp) = (if b.val < a then OutAt d L de dO f b else if b.val < b.val + 1 then iprop(emp) else OutAt d L de dO out b) by
      rw [if_neg (by omega), if_pos (by omega)]))
  iempintro

theorem outs_put (a : Fin 16) (b : ℕ) (h : a.val < b) :
    iprop(Outs d L de dO f out a.val b ∗ OutAt d L de dO f a) ⊢ Outs d L de dO f out (a.val + 1) b := by
  unfold Outs
  iintro ⟨H, Ha⟩
  ihave H := (bigSep_univ_update (Φ := fun k : Fin 16 => if k.val < a.val then OutAt d L de dO f k else if k.val < b then iprop(emp) else OutAt d L de dO out k)
    (Ψ := fun k : Fin 16 => if k.val < a.val + 1 then OutAt d L de dO f k else if k.val < b then iprop(emp) else OutAt d L de dO out k) a (fun k hk => by
      have : k.val ≠ a.val := fun e => hk (Fin.ext e)
      by_cases h1 : k.val < a.val
      · rw [if_pos h1, if_pos (by omega : k.val < a.val + 1)]
      · rw [if_neg h1, if_neg (by omega : ¬ k.val < a.val + 1)])) $$ H
  icases H with ⟨-, Hback⟩
  iapply Hback
  iapply (Entails.of_eq (show OutAt d L de dO f a = (if a.val < a.val + 1 then OutAt d L de dO f a else if a.val < b then iprop(emp) else OutAt d L de dO out a) by
      rw [if_pos (by omega)]))
  iexact Ha

/-- The slot of chunk `j`, and the other one, as chunk `j` finds them. -/
def A (j : ℕ) : sProp 𝕄 := if h : j < 16 then Reading d L x fe fo q (par j) ⟨j, h⟩ else Scat d L x de dO f fe fo q false 14
def B (j : ℕ) : sProp 𝕄 := if h : 1 ≤ j ∧ j < 17 then Scat d L x de dO f fe fo q (par (j + 1)) ⟨j - 1, by omega⟩ else Free d L x fe fo q (par (j + 1))

variable (O W) in
def St (j : ℕ) : sProp 𝕄 :=
  iprop(X d L O W ∗ A d L x de dO f fe fo q j ∗ B d L x de dO f fe fo q j ∗ Outs d L de dO f out (min (j - 1) 14) j)

theorem ahead_spec (hO : ∀ g, O g none = 0) (j : Fin 16) :
    iprop(X d L O W ∗ B d L x de dO f fe fo q j.val ∗ Outs d L de dO f out (min (j.val - 1) 14) j.val)
      ⊢ WP d L (ahead L j.val) fun _ => iprop(X d L O W ∗ A d L x de dO f fe fo q (j.val + 1) ∗ Outs d L de dO f out (min j.val 14) j.val) := by
  unfold ahead
  by_cases h : j.val < 15
  · have h16 : j.val + 1 < 16 := by omega
    have hA : A d L x de dO f fe fo q (j.val + 1) = Reading d L x fe fo q (par (j.val + 1)) ⟨j.val + 1, h16⟩ := dif_pos h16
    have hread := readIssue_spec d L x fe fo q ⟨j.val + 1, h16⟩
    rw [dif_pos h, hA]
    unfold settleAt
    by_cases h1 : 1 ≤ j.val
    · have hm : min (j.val - 1) 14 = j.val - 1 := by omega
      have hm' : min j.val 14 = j.val - 1 + 1 := by omega
      have hb : j.val - 1 < 16 := by omega
      have hlt : j.val - 1 < j.val := by omega
      have hB : B d L x de dO f fe fo q j.val = Scat d L x de dO f fe fo q (par (j.val + 1)) ⟨j.val - 1, hb⟩ := dif_pos ⟨h1, by omega⟩
      rw [if_pos h1, hm, hm', hB]
      iintro ⟨HX, HB, Ho⟩
      iapply (WP_bind d L _ _ _ _) $$ [HX HB]
      · iapply (settle_spec d L x de dO f fe fo q hO (par (j.val + 1)) ⟨j.val - 1, hb⟩)
        isplitl [HX] <;> iassumption
      iintro %_ ⟨HX, Hf, Hout⟩
      iapply (WP_wand d L _ _ _) $$ [Hf]
      · iapply hread; iexact Hf
      iintro %_ Hr
      isplitl [HX]; · iexact HX
      isplitl [Hr]; · iexact Hr
      iapply (outs_put d L de dO f out ⟨j.val - 1, hb⟩ j.val hlt)
      isplitl [Ho] <;> iassumption
    · have hB : B d L x de dO f fe fo q j.val = Free d L x fe fo q (par (j.val + 1)) := dif_neg (fun hh => h1 hh.1)
      rw [if_neg h1, hB, show min (j.val - 1) 14 = min j.val 14 by omega]
      iintro ⟨HX, Hf, Ho⟩
      iapply (WP_wand d L _ _ _) $$ [Hf]
      · iapply hread; iexact Hf
      iintro %_ Hr
      isplitl [HX]; · iexact HX
      isplitl [Hr] <;> iassumption
  · have hj : j.val = 15 := by omega
    have hA : A d L x de dO f fe fo q (15 + 1) = Scat d L x de dO f fe fo q false 14 := dif_neg (by decide)
    have hB : B d L x de dO f fe fo q 15 = Scat d L x de dO f fe fo q false 14 := dif_pos (by decide)
    rw [dif_neg h, hj, hA, hB]
    exact WP_pure d L _ _

include he ho oke oko hfe hfo in
theorem chunk_spec (hO : ∀ g, O g none = 0) (j : Fin 16) :
    St d L O W x de dO f out fe fo q j.val ⊢ WP d L (chunk L j) fun _ => St d L O W x de dO f out fe fo q (j.val + 1) := by
  have hA : A d L x de dO f fe fo q j.val = Reading d L x fe fo q (par j.val) j := dif_pos j.isLt
  have hB : B d L x de dO f fe fo q (j.val + 1) = Scat d L x de dO f fe fo q (par j.val) j := by
    unfold B
    rw [dif_pos (show 1 ≤ j.val + 1 ∧ j.val + 1 < 17 by omega)]
    exact congrArg (fun p => Scat d L x de dO f fe fo q p j) (par_add_two j.val)
  unfold chunk St
  rw [hA, hB, Nat.add_sub_cancel]
  iintro ⟨HX, HA, HB, Ho⟩
  iapply (WP_bind d L _ _ _ _) $$ [HX HB Ho]
  · iapply (ahead_spec d L x de dO f out fe fo q hO j)
    isplitl [HX]; · iexact HX
    isplitl [HB] <;> iassumption
  iintro %_ ⟨HX, HA', Ho⟩
  iapply (WP_bind d L _ _ _ _) $$ [HX HA]
  · iapply (readWait_spec d L x fe fo q hO j)
    isplitl [HX] <;> iassumption
  iintro %_ ⟨HX, HA⟩
  ihave Ho := (outs_take d L de dO f out (min j.val 14) j (by omega)) $$ Ho
  icases Ho with ⟨Hj, Ho⟩
  iapply (WP_wand d L _ _ _) $$ [HX HA Hj]
  · iapply (send_spec d L x de dO f out fe fo q he ho oke oko hfe hfo j)
    isplitl [HX]; · iexact HX
    isplitl [HA] <;> iassumption
  iintro %_ ⟨HX, HB⟩
  isplitl [HX]; · iexact HX
  isplitl [HA']; · iexact HA'
  isplitl [HB] <;> iassumption

include he ho oke oko hfe hfo in
theorem chunks_spec (hO : ∀ g, O g none = 0) :
    ∀ (n j : ℕ) (h : j + n ≤ 16), St d L O W x de dO f out fe fo q j ⊢ WP d L (chunks L n j h) fun _ => St d L O W x de dO f out fe fo q (j + n)
  | 0, _, _ => WP_pure d L _ _
  | n + 1, j, h => by
    have hj : j < 16 := by omega
    have hn : j + 1 + n ≤ 16 := by omega
    rw [chunks, show j + (n + 1) = j + 1 + n by omega]
    iintro H
    iapply (WP_bind d L _ _ _ _) $$ [H]
    · iapply (chunk_spec d L x de dO f out fe fo q he ho oke oko hfe hfo hO ⟨j, hj⟩); iexact H
    iintro %_ H
    iapply (chunks_spec hO n (j + 1) hn); iexact H

end Tile

section Whole
variable [FloatOps F] (d : Dev nD) (L : grid0.Coords) {O : CellTallies nD τ sig (HIx 1)} {W : Waits sig (HIx 1)}
variable (x : Vec F S8192x1024 .f32) (de dO : Vec F S32x16x16 .i32) (f out : Vec F S18432x1024 .f32) (q : PosShare TreeShare)

theorem list_halves (m : Memref sig .scVector .vmem S16x16 .i32) (g : Buf (Elt F) (m.view.loc (thr d L))) :
    (m.view.loc (thr d L) ↦[m.view.set]{fullShare} g : sProp 𝕄)
      = iprop((bigSep Finset.univ fun t : Fin k0_t1_loop.trips => m.view.loc (thr d L) ↦[m.view.set]{lq (half fullShare false) t} g)
        ∗ (bigSep Finset.univ fun t : Fin k0_t1_loop.trips => m.view.loc (thr d L) ↦[m.view.set]{lq (half fullShare true) t} g)) := by
  rw [share_halves, list_shares, list_shares]; rfl
/-- The two slots' parts of the lists are the lists. -/
theorem lists_eq (fe : Buf (Elt F) (devM.view.loc (thr d L))) (fo : Buf (Elt F) (dovM.view.loc (thr d L))) :
    iprop((devM.view.loc (thr d L) ↦[devM.view.set]{fullShare} fe) ∗ (dovM.view.loc (thr d L) ↦[dovM.view.set]{fullShare} fo))
      ⊣⊢ (iprop(Lst d L fe fo false ∗ Lst d L fe fo true) : sProp 𝕄) := by
  unfold Lst LstC
  rw [list_halves d L devM fe, list_halves d L dovM fo, bigSep_sep', bigSep_sep']
  constructor
  · iintro ⟨⟨Ha, Hb⟩, Hc, Hd⟩
    isplitl [Ha Hc]
    · isplitl [Ha] <;> iassumption
    isplitl [Hb] <;> iassumption
  · iintro ⟨⟨Ha, Hc⟩, Hb, Hd⟩
    isplitl [Ha Hb]
    · isplitl [Ha] <;> iassumption
    isplitl [Hc] <;> iassumption

/-- What a tile is given and gives back, its elements of the target holding `g`. -/
def Res (g : Vec F S18432x1024 .f32) : sProp 𝕄 :=
  iprop((deM.view.loc (thr d L) ↦[deM.view.set]{q} de) ∗ (doM.view.loc (thr d L) ↦[doM.view.set]{q} dO)
    ∗ BufAt d L devM ∗ BufAt d L dovM ∗ semVal (cell d L cc0_scoped0) 0 ∗ semVal (cell d L cc0_scoped1) 0
    ∗ (XAt d L x q false ∗ Rsem d L false ∗ BufAt d L (xbM false) ∗ Sems d L false)
    ∗ (XAt d L x q true ∗ Rsem d L true ∗ BufAt d L (xbM true) ∗ Sems d L true)
    ∗ bigSep Finset.univ fun k : Fin 16 => OutAt d L de dO g k)

variable (oke : ListOK (F := F) de) (oko : ListOK (F := F) dO) (hfe : Holds x de f) (hfo : Holds x dO f)

include oke oko hfe hfo in
theorem tile_spec (hO : ∀ g, O g none = 0) :
    iprop(X d L O W ∗ Res d L x de dO q out) ⊢ WP d L (tile L) fun _ => iprop(X d L O W ∗ Res d L x de dO q f) := by
  unfold tile prologue Res
  simp only [bind_assoc]
  iintro ⟨HX, Hde, Hdo, Hev, Hov, Hs0, Hs1, ⟨Hx0, Hr0, Hb0, Hc0⟩, ⟨Hx1, Hr1, Hb1, Hc1⟩, Ho⟩
  icases Hev with ⟨%ge, Hev⟩
  icases Hov with ⟨%go, Hov⟩
  iapply (WP_bind d L _ _ _ _) $$ [HX Hde Hev Hs0]
  · iapply (copyIn_wide d L hO (listSl deM L) devM cc0_scoped0 ((View.wordExact_bits rfl).reshape _ _) (Memref.isWhole_whole _).wordExact (by decide) q deM.view.set
      (by show ((View.slice _ _).reshape _ _).set ⊆ _; rw [View.set_reshape]; exact View.set_slice_subset _ _) de ge)
    isplitl [HX]; · iexact HX
    isplitl [Hde]; · iexact Hde
    isplitl [Hev] <;> iassumption
  iintro %_ ⟨HX, Hde, ⟨%fe, %he, Hev⟩, Hs0⟩
  iapply (WP_bind d L _ _ _ _) $$ [HX Hdo Hov Hs1]
  · iapply (copyIn_wide d L hO (listSl doM L) dovM cc0_scoped1 ((View.wordExact_bits rfl).reshape _ _) (Memref.isWhole_whole _).wordExact (by decide) q doM.view.set
      (by show ((View.slice _ _).reshape _ _).set ⊆ _; rw [View.set_reshape]; exact View.set_slice_subset _ _) dO go)
    isplitl [HX]; · iexact HX
    isplitl [Hdo]; · iexact Hdo
    isplitl [Hov] <;> iassumption
  iintro %_ ⟨HX, Hdo, ⟨%fo, %ho, Hov⟩, Hs1⟩
  have he' := he.trans (listSl_read d L deM de de (View.read_whole _ _))
  have ho' := ho.trans (listSl_read d L doM dO dO (View.read_whole _ _))
  ihave Hl := (lists_eq d L fe fo).1 $$ [Hev Hov]
  · isplitl [Hev] <;> iassumption
  icases Hl with ⟨Hl0, Hl1⟩
  have hA0 : A d L x de dO f fe fo q 0 = Reading d L x fe fo q (par (0 : Fin 16).val) 0 := dif_pos (by decide)
  have hB0 : B d L x de dO f fe fo q 0 = Free d L x fe fo q true := dif_neg (by decide)
  have hO0 : Outs d L de dO f out (min (0 - 1) 14) 0 = bigSep Finset.univ fun k : Fin 16 => OutAt d L de dO out k := rfl
  have hA16 : A d L x de dO f fe fo q (0 + 16) = Scat d L x de dO f fe fo q false 14 := dif_neg (by decide)
  have hB16 : B d L x de dO f fe fo q (0 + 16) = Scat d L x de dO f fe fo q true 15 := dif_pos (by decide)
  have hO14 : Outs d L de dO f out (min (0 + 16 - 1) 14) (0 + 16) ⊢ Outs d L de dO f out (14 : Fin 16).val 16 := Entails.of_eq rfl
  have hO15 : Outs d L de dO f out ((14 : Fin 16).val + 1) 16 ⊢ Outs d L de dO f out (15 : Fin 16).val 16 := Entails.of_eq rfl
  have hOut : Outs d L de dO f out ((15 : Fin 16).val + 1) 16 ⊢ bigSep Finset.univ fun k : Fin 16 => OutAt d L de dO f k :=
    Entails.of_eq (bigSep_congr fun k _ => if_pos k.isLt)
  iapply (WP_bind d L _ _ _ _) $$ [Hx0 Hr0 Hb0 Hc0 Hl0]
  · iapply (readIssue_spec d L x fe fo q 0)
    unfold Free
    isplitl [Hx0]; · iexact Hx0
    isplitl [Hr0]; · iexact Hr0
    isplitl [Hb0]; · iexact Hb0
    isplitl [Hl0]; · iexact Hl0
    iexact Hc0
  iintro %_ HA
  iapply (WP_bind d L _ _ _ _) $$ [HX HA Hx1 Hr1 Hb1 Hc1 Hl1 Ho]
  · iapply (chunks_spec (O := O) (W := W) d L x de dO f out fe fo q he' ho' oke oko hfe hfo hO 16 0 (le_refl _))
    unfold St
    rw [hA0, hB0, hO0]
    isplitl [HX]; · iexact HX
    isplitl [HA]; · iexact HA
    isplitr [Ho]; swap; · iexact Ho
    unfold Free
    isplitl [Hx1]; · iexact Hx1
    isplitl [Hr1]; · iexact Hr1
    isplitl [Hb1]; · iexact Hb1
    isplitl [Hl1]; · iexact Hl1
    iexact Hc1
  iintro %_ HSt
  unfold St
  icases HSt with ⟨HX, HA, HB, Ho⟩
  ihave HA := (Entails.of_eq hA16) $$ HA
  ihave HB := (Entails.of_eq hB16) $$ HB
  iapply (WP_bind d L _ _ _ _) $$ [HX HA]
  · iapply (settle_spec d L x de dO f fe fo q hO false 14)
    isplitl [HX] <;> iassumption
  iintro %_ ⟨HX, Hf0, Ho14⟩
  iapply (WP_bind d L _ _ _ _) $$ [HX HB]
  · iapply (settle_spec d L x de dO f fe fo q hO true 15)
    isplitl [HX] <;> iassumption
  iintro %_ ⟨HX, Hf1, Ho15⟩
  iapply (WP_pure d L)
  ihave Ho := hO14 $$ Ho
  ihave Ho := (outs_put d L de dO f out 14 16 (by decide)) $$ [Ho Ho14]
  · isplitl [Ho] <;> iassumption
  ihave Ho := hO15 $$ Ho
  ihave Ho := (outs_put d L de dO f out 15 16 (by decide)) $$ [Ho Ho15]
  · isplitl [Ho] <;> iassumption
  ihave Ho := hOut $$ Ho
  unfold Free
  icases Hf0 with ⟨Hx0, Hr0, Hb0, Hl0, Hc0⟩
  icases Hf1 with ⟨Hx1, Hr1, Hb1, Hl1, Hc1⟩
  ihave Hl := (lists_eq d L fe fo).2 $$ [Hl0 Hl1]
  · isplitl [Hl0] <;> iassumption
  icases Hl with ⟨Hev, Hov⟩
  isplitl [HX]; · iexact HX
  isplitl [Hde]; · iexact Hde
  isplitl [Hdo]; · iexact Hdo
  isplitl [Hev]; · iexists fe; iexact Hev
  isplitl [Hov]; · iexists fo; iexact Hov
  isplitl [Hs0]; · iexact Hs0
  isplitl [Hs1]; · iexact Hs1
  isplitl [Hx0 Hr0 Hb0 Hc0]
  · isplitl [Hx0]; · iexact Hx0
    isplitl [Hr0]; · iexact Hr0
    isplitl [Hb0] <;> iassumption
  isplitl [Hx1 Hr1 Hb1 Hc1]
  · isplitl [Hx1]; · iexact Hx1
    isplitl [Hr1]; · iexact Hr1
    isplitl [Hb1] <;> iassumption
  iexact Ho

end Whole

end Cert.Proof.Dispatch

end
-- ==== Proof.DispatchOwn.lean ====
/-
  What a tile owns before the launch hands it anything, its scratch buffers and its semaphores, is what the tile's
  theorem asks for: `give` puts the two together, `take` gives them back, and `tile_body` is the tile's theorem said of
  the printed program and of everything the tile owns.
-/
module

public import proofs.«01_k».proof.Proof.DispatchChunk

@[expose] public section

noncomputable section

namespace Cert.Proof.Dispatch

open Cert.Dispatch Cert.Dispatch.Gen

open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

theorem bigSep_bool (Φ : Bool → sProp 𝕄) : bigSep Finset.univ Φ = iprop(Φ false ∗ Φ true) := by
  rw [show (Finset.univ : Finset Bool) = {false, true} by decide, SparseCore.bigSep_insert' (by decide), bigSep_singleton]

/-- The members a one-to-one map names, and the rest. -/
theorem bigSep_named {I J : Type} [DecidableEq I] [Fintype J] {s : Finset I} {f : J → I} (inj : Function.Injective f) (sub : ∀ j, f j ∈ s) (Φ : I → sProp 𝕄) :
    bigSep s Φ = iprop(bigSep Finset.univ (fun j => Φ (f j)) ∗ bigSep (s \ Finset.univ.map ⟨f, inj⟩) Φ) := by
  rw [bigSep_sdiff_split (t := Finset.univ.map ⟨f, inj⟩) (fun x hx => by obtain ⟨j, -, rfl⟩ := Finset.mem_map.mp hx; exact sub j), bigSep_map]
  rfl

/-! ## The semaphores -/

abbrev SemIx : Type := ((Bool × Fin k0_t1_loop.trips) ⊕ (Bool × Fin k0_t1_loop.trips)) ⊕ (Bool ⊕ Bool)
/-- A tile's semaphores: a column's for each list, a read's, and those of the two copies of the lists. -/
def semIx : SemIx → DmaSem sig :=
  Sum.elim (Sum.elim (fun x => colSem (esem x.1) x.2) fun x => colSem (osem x.1) x.2) (Sum.elim (fun p => (rsem p).sem) fun p => if p then cc0_scoped1.sem else cc0_scoped0.sem)

set_option maxRecDepth 16384 in
theorem semIx_injective : Function.Injective semIx := by decide
set_option maxRecDepth 16384 in
theorem semIx_scoped : ∀ x, (SemLoc.dma (semIx x) : SemLoc sig).isScoped .scVector = true := by decide

/-! ## The scratch buffers -/

def bufIx : Fin 4 → Ref sig .scVector := ![cc0_scratch0, cc0_scratch1, cc0_scratch2, cc0_scratch3]
theorem bufIx_injective : Function.Injective bufIx := by decide

section Tile
variable [FloatOps F] (d : Dev nD) (L : grid0.Coords)

abbrev proc : Proc τ := Proc.scVector (cV L) (jV L)
def semAt (x : SemIx) : GSem nD τ sig := (thr d L, .dma (semIx x))
theorem semAt_injective : Function.Injective (semAt d L) := fun x y h => semIx_injective (SemLoc.dma.inj (congrArg Prod.snd h))
theorem refAt_injective : Function.Injective fun k => (proc L).devRef (bufIx k) := fun x y h => bufIx_injective (Proc.devRef_injective _ h)
def restS : sProp 𝕄 := bigSep (ownCells (thr d L) \ Finset.univ.map ⟨semAt d L, semAt_injective d L⟩) fun g => semVal g 0
def restB : sProp 𝕄 :=
  bigSep (ownRefs (τ := τ) (proc L) \ Finset.univ.map ⟨fun k => (proc L).devRef (bufIx k), refAt_injective L⟩) fun b => iprop(∃ f, ((d, b) : Loc nD τ sig) ↦{fullShare} f)

theorem ownSems0_V : (ownSems0 (thr d L) : sProp 𝕄)
    = iprop(((((bigSep Finset.univ fun t : Fin k0_t1_loop.trips => semVal (colCell d L (esem false) t) 0)
        ∗ bigSep Finset.univ fun t : Fin k0_t1_loop.trips => semVal (colCell d L (esem true) t) 0)
        ∗ ((bigSep Finset.univ fun t : Fin k0_t1_loop.trips => semVal (colCell d L (osem false) t) 0)
        ∗ bigSep Finset.univ fun t : Fin k0_t1_loop.trips => semVal (colCell d L (osem true) t) 0))
        ∗ ((Rsem d L false ∗ Rsem d L true) ∗ (semVal (cell d L cc0_scoped0) 0 ∗ semVal (cell d L cc0_scoped1) 0))) ∗ restS d L) := by
  unfold SparseCore.Cfg.ownSems0
  rw [bigSep_named (semAt_injective d L) (fun x => mem_ownCells.mpr ⟨rfl, semIx_scoped x⟩), bigSep_univ_sum, bigSep_univ_sum, bigSep_univ_sum, bigSep_univ_prod, bigSep_univ_prod,
    bigSep_bool, bigSep_bool, bigSep_bool, bigSep_bool]
  rfl

theorem sems_eq (p : Bool) : (Sems d L p : sProp 𝕄) = iprop((bigSep Finset.univ fun t : Fin k0_t1_loop.trips => semVal (colCell d L (esem p) t) 0)
    ∗ bigSep Finset.univ fun t : Fin k0_t1_loop.trips => semVal (colCell d L (osem p) t) 0) := by
  unfold Sems SemC; rw [bigSep_sep']

theorem bufAt_whole (b : Ref sig .scVector) :
    (iprop(∃ f, ((thr d L).loc b) ↦{fullShare} f) : sProp 𝕄) = iprop(∃ f, (View.whole b).loc (thr d L) ↦[(View.whole b).set]{fullShare} f) := by
  rw [View.set_whole]

theorem ownBufs_V : (ownBufs (thr d L) : sProp 𝕄)
    = iprop((BufAt d L devM ∗ BufAt d L dovM ∗ BufAt d L (xbM false) ∗ BufAt d L (xbM true)) ∗ restB d L) := by
  unfold SparseCore.Cfg.ownBufs
  refine (bigSep_named (refAt_injective L) (fun k => SparseCore.Cfg.mem_ownRefs_of_owner (p := proc L) (by fin_cases k <;> rfl)) _).trans ?_
  refine congrArg (fun P : sProp 𝕄 => iprop(P ∗ restB d L)) ?_
  refine (show _ = bigSep Finset.univ fun k => iprop(∃ f, (View.whole (bufIx k)).loc (thr d L) ↦[(View.whole (bufIx k)).set]{fullShare} f) from
    bigSep_congr fun k _ => bufAt_whole d L (bufIx k)).trans ?_
  rw [show (Finset.univ : Finset (Fin 4)) = {0, 1, 2, 3} by decide]
  iterate 3 rw [SparseCore.bigSep_insert' (by decide)]
  rw [bigSep_singleton]
  rfl

/-! ## What the launch hands over -/

variable (x : Vec F S8192x1024 .f32) (de dO : Vec F S32x16x16 .i32)

/-- A share of the tokens and of the lists, and the elements of the target that the tile's entries name. -/
def Task (q : PosShare TreeShare) (g : Vec F S18432x1024 .f32) : sProp 𝕄 :=
  iprop((xM.view.loc (thr d L) ↦[xM.view.set]{q} x) ∗ (deM.view.loc (thr d L) ↦[deM.view.set]{q} de) ∗ (doM.view.loc (thr d L) ↦[doM.view.set]{q} dO)
    ∗ bigSep Finset.univ fun k : Fin 16 => OutAt d L de dO g k)

theorem give (q : PosShare TreeShare) (g : Vec F S18432x1024 .f32) :
    iprop(Task d L x de dO q g ∗ ownBufs (thr d L) ∗ ownSems0 (thr d L)) ⊢ iprop(Res d L x de dO q g ∗ restB d L ∗ restS d L) := by
  rw [ownBufs_V, ownSems0_V]
  unfold Task Res XAt
  rw [sems_eq, sems_eq]
  iintro ⟨⟨Hx, Hde, Hdo, Ho⟩, ⟨⟨H0, H1, Hb0, Hb1⟩, Hrb⟩, ⟨⟨⟨⟨Hs0, Hs1⟩, Ht0, Ht1⟩, ⟨Hr0, Hr1⟩, Hc0, Hc1⟩, Hrs⟩⟩
  ihave Hx := (pointsTo_share (PosShare.mem_left_op_right q)).1 $$ Hx
  icases Hx with ⟨Hxl, Hxr⟩
  isplitr [Hrb Hrs]
  · isplitl [Hde]; · iexact Hde
    isplitl [Hdo]; · iexact Hdo
    isplitl [H0]; · iexact H0
    isplitl [H1]; · iexact H1
    isplitl [Hc0]; · iexact Hc0
    isplitl [Hc1]; · iexact Hc1
    isplitl [Hxl Hr0 Hb0 Hs0 Ht0]
    · isplitl [Hxl]; · iexact Hxl
      isplitl [Hr0]; · iexact Hr0
      isplitl [Hb0]; · iexact Hb0
      isplitl [Hs0] <;> iassumption
    isplitl [Hxr Hr1 Hb1 Hs1 Ht1]
    · isplitl [Hxr]; · iexact Hxr
      isplitl [Hr1]; · iexact Hr1
      isplitl [Hb1]; · iexact Hb1
      isplitl [Hs1] <;> iassumption
    iexact Ho
  isplitl [Hrb] <;> iassumption

theorem take (q : PosShare TreeShare) (g : Vec F S18432x1024 .f32) :
    iprop(Res d L x de dO q g ∗ restB d L ∗ restS d L) ⊢ iprop(Task d L x de dO q g ∗ ownBufs (thr d L) ∗ ownSems0 (thr d L)) := by
  rw [ownBufs_V, ownSems0_V]
  unfold Task Res XAt
  rw [sems_eq, sems_eq]
  iintro ⟨⟨Hde, Hdo, H0, H1, Hc0, Hc1, ⟨Hxl, Hr0, Hb0, Hs0, Ht0⟩, ⟨Hxr, Hr1, Hb1, Hs1, Ht1⟩, Ho⟩, Hrb, Hrs⟩
  isplitl [Hde Hdo Hxl Hxr Ho]
  · isplitl [Hxl Hxr]
    · iapply (pointsTo_share (PosShare.mem_left_op_right q)).2
      isplitl [Hxl]; · iexact Hxl
      iexact Hxr
    isplitl [Hde]; · iexact Hde
    isplitl [Hdo] <;> iassumption
  isplitl [H0 H1 Hb0 Hb1 Hrb]
  · isplitr [Hrb]
    · isplitl [H0]; · iexact H0
      isplitl [H1]; · iexact H1
      isplitl [Hb0] <;> iassumption
    iexact Hrb
  isplitr [Hrs]
  · isplitl [Hs0 Hs1 Ht0 Ht1]
    · isplitl [Hs0 Hs1]
      · isplitl [Hs0] <;> iassumption
      isplitl [Ht0] <;> iassumption
    isplitl [Hr0 Hr1]
    · isplitl [Hr0] <;> iassumption
    isplitl [Hc0] <;> iassumption
  iexact Hrs

theorem tile_body (f out : Vec F S18432x1024 .f32) (oke : ListOK (F := F) de) (oko : ListOK (F := F) dO) (hfe : Holds x de f) (hfo : Holds x dO f)
    (q : PosShare TreeShare) (O : CellTallies nD τ sig (HIx 1)) (W : Waits sig (HIx 1)) (hO : ∀ g, O g none = 0) :
    iprop(levAts (K (F := F)).L (K (F := F)).lev ∗ emp ∗ Task d L x de dO q out
        ∗ scopedBufs (thr d L) ∗ scopedSems0 (thr d L) ∗ owes (thr d L) O W)
      ⊢ wp frame (wpE (defs₀ (F := F)) 𝒱₀ (thr d L) none) Set.univ (printed L)
          fun _ => iprop(Task d L x de dO q f ∗ scopedBufs (thr d L) ∗ scopedSems0 (thr d L)
            ∗ ∃ W', ⌜∀ p ∈ W', p ∈ W ∨ p.2 = none⌝ ∗ owes (thr d L) O W') := by
  rw [tile_eq, (K (F := F)).scopedBufs_V facts d (cV L) (jV L), SparseCore.Cfg.scopedSems0_V (Val := Elt F) d (cV L) (jV L)]
  iintro ⟨Hlv, -, Ht, Hb, Hs, HO⟩
  ihave H := (give d L x de dO q out) $$ [Ht Hb Hs]
  · isplitl [Ht]; · iexact Ht
    isplitl [Hb] <;> iassumption
  icases H with ⟨Hres, Hrest⟩
  iapply (WP_wand d L _ _ _) $$ [Hlv HO Hres]
  · iapply (tile_spec (O := O) (W := W) d L x de dO f out q oke oko hfe hfo hO)
    isplitr [Hres]
    · unfold X
      isplitl [Hlv]; · iexact Hlv
      iexists W; isplitr
      · ipureintro; exact fun p hp => .inl hp
      iexact HO
    iexact Hres
  iintro %_ ⟨HX, Hres⟩
  ihave H := (take d L x de dO q f) $$ [Hres Hrest]
  · isplitl [Hres] <;> iassumption
  icases H with ⟨Ht, Hb, Hs⟩
  unfold X
  icases HX with ⟨-, HX⟩
  isplitl [Ht]; · iexact Ht
  isplitl [Hb]; · iexact Hb
  isplitl [Hs] <;> iassumption

end Tile

end Cert.Proof.Dispatch

end
-- ==== Proof.DispatchLaunch.lean ====
/-
  The launch. The operations before the call make the positions of the chosen experts (`opsR`) and the two lists of them
  (`opsL`), the call writes the rows that the lists name into the
  target, and nine more operations read them back. Each of the thirty-two tiles is dealt a share of the tokens and of the
  lists, and the elements of the target that its entries name: no two tiles name the same element, as no row is named twice.
  The elements that nobody names stay with the TensorCore. `run_main` says what the whole program leaves.
-/
module

public import proofs.«01_k».proof.Proof.DispatchOwn
public import Idealize.ShloMosaic.Lib.Pipeline.Frame

@[expose] public section

set_option maxRecDepth 16384

noncomputable section

namespace Cert.Proof.Dispatch

open Cert.Dispatch Cert.Dispatch.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves
open Idealize.ShloMosaic.StableHlo (held held_sub_split wp_hlo_within after seq wp_seq)
open Idealize.ShloMosaic.Pipeline (ucRefs unscopedBufs_held)

variable {F : FTy → Type}

local notation "𝕄" => MT nD τ sig (HIx 1) (Elt F) ℕ UU ℕ

variable (m : (ℓ : Loc nD τ sig) → Buf (Elt F) ℓ) (ρ : Dev nD → PrngReg)

abbrev xLoc (d : Dev nD) : Loc nD τ sig := (SparseCore.T d).loc main_arg0
abbrev idxLoc (d : Dev nD) : Loc nD τ sig := (SparseCore.T d).loc main_arg1
abbrev deLoc (d : Dev nD) : Loc nD τ sig := (SparseCore.T d).loc main_v42
abbrev doLoc (d : Dev nD) : Loc nD τ sig := (SparseCore.T d).loc main_v45
abbrev xsLoc (d : Dev nD) : Loc nD τ sig := (SparseCore.T d).loc main_v46

abbrev r0 : DevRef τ sig := Proc.devRef .tc main_arg0
abbrev r1 : DevRef τ sig := Proc.devRef .tc main_arg1
abbrev rEven : DevRef τ sig := Proc.devRef .tc main_v42
abbrev rOdd : DevRef τ sig := Proc.devRef .tc main_v45
abbrev rXs : DevRef τ sig := Proc.devRef .tc main_v46
abbrev rOut : DevRef τ sig := Proc.devRef .tc main_v53

/-! ## The operations around the call -/

section Ops
variable [FloatOps F]

/-- The operations that make the rank of each choice. -/
def opsRank : List (HloOp τ sig (Elt F)) :=
  [StableHlo.reshape main_arg1 main_v0 (rfl : (.i32 : EltTy) = .i32) shapeCasts_S8192x2_S16384,
   StableHlo.unary main_v0 main_v1 (broadcastInDim S16384x1 ![0] bcast_S16384_S16384x1_0 : (⟨S16384, .i32⟩ : BufTy).Contents (Elt F) → (⟨S16384x1, .i32⟩ : BufTy).Contents (Elt F)),
   StableHlo.unary main_v0 main_v2 (broadcastInDim S1x16384 ![1] bcast_S16384_S1x16384_1 : (⟨S16384, .i32⟩ : BufTy).Contents (Elt F) → (⟨S1x16384, .i32⟩ : BufTy).Contents (Elt F)),
   StableHlo.unary main_v1 main_v3 (broadcastInDim S16384x16384 ![0, 1] bcast_S16384x1_S16384x16384_0_1 : (⟨S16384x1, .i32⟩ : BufTy).Contents (Elt F) → (⟨S16384x16384, .i32⟩ : BufTy).Contents (Elt F)),
   StableHlo.unary main_v2 main_v4 (broadcastInDim S16384x16384 ![0, 1] bcast_S1x16384_S16384x16384_0_1 : (⟨S1x16384, .i32⟩ : BufTy).Contents (Elt F) → (⟨S16384x16384, .i32⟩ : BufTy).Contents (Elt F)),
   StableHlo.binary main_v3 main_v4 main_v5 (cmpi .eq : (⟨S16384x16384, .i32⟩ : BufTy).Contents (Elt F) → (⟨S16384x16384, .i32⟩ : BufTy).Contents (Elt F) → (⟨S16384x16384, .i1⟩ : BufTy).Contents (Elt F)),
   StableHlo.nullary main_v6 (iotaInDim S16384x16384 32 0),
   StableHlo.nullary main_v7 (iotaInDim S16384x16384 32 1),
   StableHlo.binary main_v6 main_v7 main_v8 (cmpi .sgt : (⟨S16384x16384, .i32⟩ : BufTy).Contents (Elt F) → (⟨S16384x16384, .i32⟩ : BufTy).Contents (Elt F) → (⟨S16384x16384, .i1⟩ : BufTy).Contents (Elt F)),
   StableHlo.binary main_v5 main_v8 main_v9 (andi : (⟨S16384x16384, .i1⟩ : BufTy).Contents (Elt F) → (⟨S16384x16384, .i1⟩ : BufTy).Contents (Elt F) → (⟨S16384x16384, .i1⟩ : BufTy).Contents (Elt F)),
   StableHlo.unary main_v9 main_v10 ((extui 32 · natLt_1_32) : (⟨S16384x16384, .i1⟩ : BufTy).Contents (Elt F) → (⟨S16384x16384, .i32⟩ : BufTy).Contents (Elt F)),
   StableHlo.nullary main_c (constantI S_ 32 0#32),
   StableHlo.binary main_v10 main_c main_v11 ((fun x v => Host.reduce IntOp.addi x v reducesTo_S16384x16384_S16384_d1 h_S_) : (⟨S16384x16384, .i32⟩ : BufTy).Contents (Elt F) → (⟨S_, .i32⟩ : BufTy).Contents (Elt F) → (⟨S16384, .i32⟩ : BufTy).Contents (Elt F))]
/-- The operations that make the numbers of choices. -/
def opsCounts : List (HloOp τ sig (Elt F)) :=
  [StableHlo.unary main_v0 main_v12 (broadcastInDim S16384x1 ![0] bcast_S16384_S16384x1_0 : (⟨S16384, .i32⟩ : BufTy).Contents (Elt F) → (⟨S16384x1, .i32⟩ : BufTy).Contents (Elt F)),
   StableHlo.nullary main_v13 (iotaInDim S8 32 0),
   StableHlo.unary main_v13 main_v14 (broadcastInDim S1x8 ![1] bcast_S8_S1x8_1 : (⟨S8, .i32⟩ : BufTy).Contents (Elt F) → (⟨S1x8, .i32⟩ : BufTy).Contents (Elt F)),
   StableHlo.unary main_v12 main_v15 (broadcastInDim S16384x8 ![0, 1] bcast_S16384x1_S16384x8_0_1 : (⟨S16384x1, .i32⟩ : BufTy).Contents (Elt F) → (⟨S16384x8, .i32⟩ : BufTy).Contents (Elt F)),
   StableHlo.unary main_v14 main_v16 (broadcastInDim S16384x8 ![0, 1] bcast_S1x8_S16384x8_0_1 : (⟨S1x8, .i32⟩ : BufTy).Contents (Elt F) → (⟨S16384x8, .i32⟩ : BufTy).Contents (Elt F)),
   StableHlo.binary main_v15 main_v16 main_v17 (cmpi .eq : (⟨S16384x8, .i32⟩ : BufTy).Contents (Elt F) → (⟨S16384x8, .i32⟩ : BufTy).Contents (Elt F) → (⟨S16384x8, .i1⟩ : BufTy).Contents (Elt F)),
   StableHlo.unary main_v17 main_v18 ((extui 32 · natLt_1_32) : (⟨S16384x8, .i1⟩ : BufTy).Contents (Elt F) → (⟨S16384x8, .i32⟩ : BufTy).Contents (Elt F)),
   StableHlo.nullary main_c_0 (constantI S_ 32 0#32),
   StableHlo.binary main_v18 main_c_0 main_v19 ((fun x v => Host.reduce IntOp.addi x v reducesTo_S16384x8_S8_d0 h_S_) : (⟨S16384x8, .i32⟩ : BufTy).Contents (Elt F) → (⟨S_, .i32⟩ : BufTy).Contents (Elt F) → (⟨S8, .i32⟩ : BufTy).Contents (Elt F))]
/-- The operations that make those numbers rounded up. -/
def opsPad : List (HloOp τ sig (Elt F)) :=
  [StableHlo.nullary main_c_1 (constantI S_ 32 256#32),
   StableHlo.unary main_c_1 main_v20 (broadcastInDim S8 ![] bcast_S_S8 : (⟨S_, .i32⟩ : BufTy).Contents (Elt F) → (⟨S8, .i32⟩ : BufTy).Contents (Elt F)),
   StableHlo.binary main_v19 main_v20 main_v21 (addi : (⟨S8, .i32⟩ : BufTy).Contents (Elt F) → (⟨S8, .i32⟩ : BufTy).Contents (Elt F) → (⟨S8, .i32⟩ : BufTy).Contents (Elt F)),
   StableHlo.nullary main_c_2 (constantI S_ 32 1#32),
   StableHlo.unary main_c_2 main_v22 (broadcastInDim S8 ![] bcast_S_S8 : (⟨S_, .i32⟩ : BufTy).Contents (Elt F) → (⟨S8, .i32⟩ : BufTy).Contents (Elt F)),
   StableHlo.binary main_v21 main_v22 main_v23 (subi : (⟨S8, .i32⟩ : BufTy).Contents (Elt F) → (⟨S8, .i32⟩ : BufTy).Contents (Elt F) → (⟨S8, .i32⟩ : BufTy).Contents (Elt F)),
   StableHlo.nullary main_c_3 (constantI S_ 32 256#32),
   StableHlo.TRef.unary (StableHlo.TRef.of (T := ⟨S_, .i32⟩) main_c_3) (StableHlo.TRef.of (T := ⟨S_, .i32⟩) main_call0_v0) id,
   StableHlo.TRef.unary (StableHlo.TRef.of (T := ⟨S_, .i32⟩) main_call0_v0) (StableHlo.TRef.of (T := ⟨S8, .i32⟩) main_call0_v1) (broadcastInDim S8 ![] bcast_S_S8),
   StableHlo.TRef.binary (StableHlo.TRef.of (T := ⟨S8, .i32⟩) main_v23) (StableHlo.TRef.of (T := ⟨S8, .i32⟩) main_call0_v1) (StableHlo.TRef.of (T := ⟨S8, .i32⟩) main_call0_v2) Host.divsi,
   StableHlo.TRef.unary (StableHlo.TRef.of (T := ⟨S8, .i32⟩) main_v23) (StableHlo.TRef.of (T := ⟨S8, .i32⟩) main_call0_v3) signi,
   StableHlo.TRef.unary (StableHlo.TRef.of (T := ⟨S_, .i32⟩) main_call0_v0) (StableHlo.TRef.of (T := ⟨S_, .i32⟩) main_call0_v4) signi,
   StableHlo.TRef.unary (StableHlo.TRef.of (T := ⟨S_, .i32⟩) main_call0_v4) (StableHlo.TRef.of (T := ⟨S8, .i32⟩) main_call0_v5) (broadcastInDim S8 ![] bcast_S_S8),
   StableHlo.TRef.binary (StableHlo.TRef.of (T := ⟨S8, .i32⟩) main_call0_v3) (StableHlo.TRef.of (T := ⟨S8, .i32⟩) main_call0_v5) (StableHlo.TRef.of (T := ⟨S8, .i1⟩) main_call0_v6) (cmpi .ne),
   StableHlo.TRef.unary (StableHlo.TRef.of (T := ⟨S_, .i32⟩) main_call0_v0) (StableHlo.TRef.of (T := ⟨S8, .i32⟩) main_call0_v7) (broadcastInDim S8 ![] bcast_S_S8),
   StableHlo.TRef.binary (StableHlo.TRef.of (T := ⟨S8, .i32⟩) main_v23) (StableHlo.TRef.of (T := ⟨S8, .i32⟩) main_call0_v7) (StableHlo.TRef.of (T := ⟨S8, .i32⟩) main_call0_v8) Host.remsi,
   StableHlo.TRef.nullary (StableHlo.TRef.of (T := ⟨S_, .i32⟩) main_call0_c) (constantI S_ 32 0#32),
   StableHlo.TRef.unary (StableHlo.TRef.of (T := ⟨S_, .i32⟩) main_call0_c) (StableHlo.TRef.of (T := ⟨S8, .i32⟩) main_call0_v9) (broadcastInDim S8 ![] bcast_S_S8),
   StableHlo.TRef.binary (StableHlo.TRef.of (T := ⟨S8, .i32⟩) main_call0_v8) (StableHlo.TRef.of (T := ⟨S8, .i32⟩) main_call0_v9) (StableHlo.TRef.of (T := ⟨S8, .i1⟩) main_call0_v10) (cmpi .ne),
   StableHlo.TRef.binary (StableHlo.TRef.of (T := ⟨S8, .i1⟩) main_call0_v6) (StableHlo.TRef.of (T := ⟨S8, .i1⟩) main_call0_v10) (StableHlo.TRef.of (T := ⟨S8, .i1⟩) main_call0_v11) andi,
   StableHlo.TRef.nullary (StableHlo.TRef.of (T := ⟨S_, .i32⟩) main_call0_c_0) (constantI S_ 32 1#32),
   StableHlo.TRef.unary (StableHlo.TRef.of (T := ⟨S_, .i32⟩) main_call0_c_0) (StableHlo.TRef.of (T := ⟨S8, .i32⟩) main_call0_v12) (broadcastInDim S8 ![] bcast_S_S8),
   StableHlo.TRef.binary (StableHlo.TRef.of (T := ⟨S8, .i32⟩) main_call0_v2) (StableHlo.TRef.of (T := ⟨S8, .i32⟩) main_call0_v12) (StableHlo.TRef.of (T := ⟨S8, .i32⟩) main_call0_v13) subi,
   StableHlo.TRef.ternary (StableHlo.TRef.of (T := ⟨S8, .i1⟩) main_call0_v11) (StableHlo.TRef.of (T := ⟨S8, .i32⟩) main_call0_v13) (StableHlo.TRef.of (T := ⟨S8, .i32⟩) main_call0_v2) (StableHlo.TRef.of (T := ⟨S8, .i32⟩) main_v24) select,
   StableHlo.nullary main_c_4 (constantI S_ 32 256#32),
   StableHlo.unary main_c_4 main_v25 (broadcastInDim S8 ![] bcast_S_S8 : (⟨S_, .i32⟩ : BufTy).Contents (Elt F) → (⟨S8, .i32⟩ : BufTy).Contents (Elt F)),
   StableHlo.binary main_v24 main_v25 main_v26 (muli : (⟨S8, .i32⟩ : BufTy).Contents (Elt F) → (⟨S8, .i32⟩ : BufTy).Contents (Elt F) → (⟨S8, .i32⟩ : BufTy).Contents (Elt F))]
/-- The operations that make where the stretches begin. -/
def opsOff : List (HloOp τ sig (Elt F)) :=
  [StableHlo.nullary main_c_5 (constantI S_ 32 0#32),
   StableHlo.unary main_c_5 main_v27 (broadcastInDim S1 ![] bcast_S_S1 : (⟨S_, .i32⟩ : BufTy).Contents (Elt F) → (⟨S1, .i32⟩ : BufTy).Contents (Elt F)),
   StableHlo.TRef.nullary (StableHlo.TRef.of (T := ⟨S_, .i32⟩) main_call1_call0_c) (constantI S_ 32 0#32),
   StableHlo.TRef.unary (StableHlo.TRef.of (T := ⟨S_, .i32⟩) main_call1_call0_c) (StableHlo.TRef.of (T := ⟨S_, .i32⟩) main_call1_call0_v0) (broadcastInDim S_ ![] bcast_S_S_),
   StableHlo.TRef.binary (StableHlo.TRef.of (T := ⟨S8, .i32⟩) main_v26) (StableHlo.TRef.of (T := ⟨S_, .i32⟩) main_call1_call0_v0) (StableHlo.TRef.of (T := ⟨S8, .i32⟩) main_v28) (fun x v => Host.reduceWindow IntOp.addi ![8] ![1] ![7] ![0] x v reduceWindows_S8_S8_w8s1p7_0 h_S_),
   StableHlo.unary main_v28 main_v29 ((extractStridedSlice S7 ![0] · slices_S8_S7_0) : (⟨S8, .i32⟩ : BufTy).Contents (Elt F) → (⟨S7, .i32⟩ : BufTy).Contents (Elt F)),
   StableHlo.binary main_v27 main_v29 main_v30 ((fun a b => concatenate S8 0 [⟨S1, a⟩, ⟨S7, b⟩] concatenates_S1_S7_S8_d0) : (⟨S1, .i32⟩ : BufTy).Contents (Elt F) → (⟨S7, .i32⟩ : BufTy).Contents (Elt F) → (⟨S8, .i32⟩ : BufTy).Contents (Elt F))]
/-- The operations that make the positions. -/
def opsDest : List (HloOp τ sig (Elt F)) :=
  [StableHlo.nullary main_c_6 (constantI S_ 32 0#32),
   StableHlo.unary main_c_6 main_v31 (broadcastInDim S16384 ![] bcast_S_S16384 : (⟨S_, .i32⟩ : BufTy).Contents (Elt F) → (⟨S16384, .i32⟩ : BufTy).Contents (Elt F)),
   StableHlo.binary main_v0 main_v31 main_v32 (cmpi .slt : (⟨S16384, .i32⟩ : BufTy).Contents (Elt F) → (⟨S16384, .i32⟩ : BufTy).Contents (Elt F) → (⟨S16384, .i1⟩ : BufTy).Contents (Elt F)),
   StableHlo.nullary main_c_7 (constantI S_ 32 8#32),
   StableHlo.unary main_c_7 main_v33 (broadcastInDim S16384 ![] bcast_S_S16384 : (⟨S_, .i32⟩ : BufTy).Contents (Elt F) → (⟨S16384, .i32⟩ : BufTy).Contents (Elt F)),
   StableHlo.binary main_v0 main_v33 main_v34 (addi : (⟨S16384, .i32⟩ : BufTy).Contents (Elt F) → (⟨S16384, .i32⟩ : BufTy).Contents (Elt F) → (⟨S16384, .i32⟩ : BufTy).Contents (Elt F)),
   StableHlo.ternary main_v32 main_v34 main_v0 main_v35 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
   StableHlo.unary main_v35 main_v36 (broadcastInDim S16384x1 ![0] bcast_S16384_S16384x1_0 : (⟨S16384, .i32⟩ : BufTy).Contents (Elt F) → (⟨S16384x1, .i32⟩ : BufTy).Contents (Elt F)),
   StableHlo.binary main_v30 main_v36 main_v37 ((fun x i => Host.gather gather_S8_S16384x1_S16384_n_0_n_n_0_1_1 x i) : (⟨S8, .i32⟩ : BufTy).Contents (Elt F) → (⟨S16384x1, .i32⟩ : BufTy).Contents (Elt F) → (⟨S16384, .i32⟩ : BufTy).Contents (Elt F)),
   StableHlo.binary main_v37 main_v11 main_v38 (addi : (⟨S16384, .i32⟩ : BufTy).Contents (Elt F) → (⟨S16384, .i32⟩ : BufTy).Contents (Elt F) → (⟨S16384, .i32⟩ : BufTy).Contents (Elt F))]
/-- The operations that make the positions of the chosen experts. -/
def opsR : List (HloOp τ sig (Elt F)) := opsRank ++ (opsCounts ++ (opsPad ++ (opsOff ++ opsDest)))
/-- The operations that make the two lists of the positions. -/
def opsL : List (HloOp τ sig (Elt F)) :=
  [StableHlo.reshape main_v38 main_v39 (rfl : (.i32 : EltTy) = .i32) shapeCasts_S16384_S8192x2,
   StableHlo.unary main_v39 main_v40 ((extractStridedSlice S8192x1 ![0, 0] · slices_S8192x2_S8192x1_0_0) : (⟨S8192x2, .i32⟩ : BufTy).Contents (Elt F) → (⟨S8192x1, .i32⟩ : BufTy).Contents (Elt F)),
   StableHlo.reshape main_v40 main_v41 (rfl : (.i32 : EltTy) = .i32) shapeCasts_S8192x1_S8192,
   StableHlo.reshape main_v41 main_v42 (rfl : (.i32 : EltTy) = .i32) shapeCasts_S8192_S32x16x16,
   StableHlo.unary main_v39 main_v43 ((extractStridedSlice S8192x1 ![0, 1] · slices_S8192x2_S8192x1_0_1) : (⟨S8192x2, .i32⟩ : BufTy).Contents (Elt F) → (⟨S8192x1, .i32⟩ : BufTy).Contents (Elt F)),
   StableHlo.reshape main_v43 main_v44 (rfl : (.i32 : EltTy) = .i32) shapeCasts_S8192x1_S8192,
   StableHlo.reshape main_v44 main_v45 (rfl : (.i32 : EltTy) = .i32) shapeCasts_S8192_S32x16x16]
/-- The operations before the call. -/
def opsA : List (HloOp τ sig (Elt F)) := opsR ++ opsL
/-- The operations after it. -/
def opsB : List (HloOp τ sig (Elt F)) :=
  [StableHlo.nullary main_c_8 (constantI S_ 32 0#32),
   StableHlo.unary main_c_8 main_v47 (broadcastInDim S8192x2 ![] bcast_S_S8192x2 : (⟨S_, .i32⟩ : BufTy).Contents (Elt F) → (⟨S8192x2, .i32⟩ : BufTy).Contents (Elt F)),
   StableHlo.binary main_v39 main_v47 main_v48 (cmpi .slt : (⟨S8192x2, .i32⟩ : BufTy).Contents (Elt F) → (⟨S8192x2, .i32⟩ : BufTy).Contents (Elt F) → (⟨S8192x2, .i1⟩ : BufTy).Contents (Elt F)),
   StableHlo.nullary main_c_9 (constantI S_ 32 18432#32),
   StableHlo.unary main_c_9 main_v49 (broadcastInDim S8192x2 ![] bcast_S_S8192x2 : (⟨S_, .i32⟩ : BufTy).Contents (Elt F) → (⟨S8192x2, .i32⟩ : BufTy).Contents (Elt F)),
   StableHlo.binary main_v39 main_v49 main_v50 (addi : (⟨S8192x2, .i32⟩ : BufTy).Contents (Elt F) → (⟨S8192x2, .i32⟩ : BufTy).Contents (Elt F) → (⟨S8192x2, .i32⟩ : BufTy).Contents (Elt F)),
   StableHlo.ternary main_v48 main_v50 main_v39 main_v51 (select : (⟨S8192x2, .i1⟩ : BufTy).Contents (Elt F) → (⟨S8192x2, .i32⟩ : BufTy).Contents (Elt F) → (⟨S8192x2, .i32⟩ : BufTy).Contents (Elt F) → (⟨S8192x2, .i32⟩ : BufTy).Contents (Elt F)),
   StableHlo.unary main_v51 main_v52 (broadcastInDim S8192x2x1 ![0, 1] bcast_S8192x2_S8192x2x1_0_1 : (⟨S8192x2, .i32⟩ : BufTy).Contents (Elt F) → (⟨S8192x2x1, .i32⟩ : BufTy).Contents (Elt F)),
   StableHlo.binary main_v46 main_v52 main_v53 ((fun x i => Host.gather gather_S18432x1024_S8192x2x1_S8192x2x1024_2_0_n_n_0_2_11024 x i) : (⟨S18432x1024, .f32⟩ : BufTy).Contents (Elt F) → (⟨S8192x2x1, .i32⟩ : BufTy).Contents (Elt F) → (⟨S8192x2x1024, .f32⟩ : BufTy).Contents (Elt F))]

set_option maxHeartbeats 4000000 in
theorem main_eq (d : Dev nD) :
    main (F := F) d = (seq opsA >>= fun _ => sc.run d 0 >>= fun _ => seq opsB >>= fun _ => pure ⟨⟩) := by
  simp only [main, main_part0, main_part1, fn_floor_divide.body, fn_where.body, fn_cumsum.body, fn_cumsum_0.body, opsA, opsR, opsRank, opsCounts, opsPad, opsOff, opsDest, opsL, opsB,
    List.cons_append, List.nil_append, seq, bind_assoc, pure_bind]

theorem opsR_sub : ∀ op ∈ opsR (F := F), op.bufs ⊆ ucRefs τ sig := by
  simp only [opsR, opsRank, opsCounts, opsPad, opsOff, opsDest, List.cons_append, List.nil_append, List.forall_mem_cons, StableHlo.TRef.nullary, StableHlo.TRef.unary, StableHlo.TRef.binary, StableHlo.TRef.ternary, StableHlo.nullary_bufs, StableHlo.unary_bufs, StableHlo.binary_bufs, StableHlo.ternary_bufs, StableHlo.reshape_bufs]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun _ h => nomatch h⟩ <;> decide
theorem opsR_fresh : ∀ op ∈ opsR (F := F), op.fresh = ∅ := by
  simp only [opsR, opsRank, opsCounts, opsPad, opsOff, opsDest, List.cons_append, List.nil_append, List.forall_mem_cons]
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, fun _ h => nomatch h⟩
theorem opsL_sub : ∀ op ∈ opsL (F := F), op.bufs ⊆ ucRefs τ sig := by
  simp only [opsL, List.forall_mem_cons, StableHlo.TRef.nullary, StableHlo.TRef.unary, StableHlo.TRef.binary, StableHlo.TRef.ternary, StableHlo.nullary_bufs, StableHlo.unary_bufs, StableHlo.binary_bufs, StableHlo.ternary_bufs, StableHlo.reshape_bufs]
  refine ⟨?_, ?_, ?_, ?_, ?_, ?_, ?_, fun _ h => nomatch h⟩ <;> decide
theorem opsL_fresh : ∀ op ∈ opsL (F := F), op.fresh = ∅ := by
  simp only [opsL, List.forall_mem_cons]
  exact ⟨rfl, rfl, rfl, rfl, rfl, rfl, rfl, fun _ h => nomatch h⟩
theorem opsB_sub : ∀ op ∈ opsB (F := F), op.bufs ⊆ ucRefs τ sig := by
  simp only [opsB, List.forall_mem_cons, StableHlo.TRef.nullary, StableHlo.TRef.unary, StableHlo.TRef.binary, StableHlo.TRef.ternary, StableHlo.nullary_bufs, StableHlo.unary_bufs, StableHlo.binary_bufs, StableHlo.ternary_bufs, StableHlo.reshape_bufs]
  refine ⟨?_, ?_, ?_, ?_, ?_, ?_, ?_, ?_, ?_, fun _ h => nomatch h⟩ <;> decide
theorem opsB_fresh : ∀ op ∈ opsB (F := F), op.fresh = ∅ := by
  simp only [opsB, List.forall_mem_cons]
  exact ⟨rfl, rfl, rfl, rfl, rfl, rfl, rfl, rfl, rfl, fun _ h => nomatch h⟩
theorem opsA_sub : ∀ op ∈ opsA (F := F), op.bufs ⊆ ucRefs τ sig := fun op h =>
  (List.mem_append.mp h).elim (opsR_sub op) (opsL_sub op)
theorem opsA_fresh : ∀ op ∈ opsA (F := F), op.fresh = ∅ := fun op h =>
  (List.mem_append.mp h).elim (opsR_fresh op) (opsL_fresh op)

/-- The contents at the launch and before the call; the two lists. -/
def V0 (d : Dev nD) : Valuation τ sig (Elt F) := fun b => m (d, b)
def VA (d : Dev nD) : Valuation τ sig (Elt F) := after opsA (V0 m d)
def deAt (d : Dev nD) : Vec F S32x16x16 .i32 := VA m d rEven
def doAt (d : Dev nD) : Vec F S32x16x16 .i32 := VA m d rOdd

/-- What the operations before the call leave alone, and those after it. -/
theorem keepR {r : Ref sig .tc} (hr : r ∉ [main_v0, main_v1, main_v2, main_v3, main_v4, main_v5, main_v6, main_v7, main_v8, main_v9, main_v10, main_c, main_v11, main_v12, main_v13, main_v14, main_v15, main_v16, main_v17, main_v18, main_c_0, main_v19, main_c_1, main_v20, main_v21, main_c_2, main_v22, main_v23, main_c_3, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v24, main_c_4, main_v25, main_v26, main_c_5, main_v27, main_call1_call0_c, main_call1_call0_v0, main_v28, main_v29, main_v30, main_c_6, main_v31, main_v32, main_c_7, main_v33, main_v34, main_v35, main_v36, main_v37, main_v38]) (V : Valuation τ sig (Elt F)) :
    after opsR V (Proc.devRef .tc r) = V (Proc.devRef .tc r) :=
  StableHlo.after_of_writes_sub opsR V (StableHlo.forall_writes_sub_of_map (W := [main_v0, main_v1, main_v2, main_v3, main_v4, main_v5, main_v6, main_v7, main_v8, main_v9, main_v10, main_c, main_v11, main_v12, main_v13, main_v14, main_v15, main_v16, main_v17, main_v18, main_c_0, main_v19, main_c_1, main_v20, main_v21, main_c_2, main_v22, main_v23, main_c_3, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v24, main_c_4, main_v25, main_v26, main_c_5, main_v27, main_call1_call0_c, main_call1_call0_v0, main_v28, main_v29, main_v30, main_c_6, main_v31, main_v32, main_c_7, main_v33, main_v34, main_v35, main_v36, main_v37, main_v38]) rfl) hr
theorem keepL {r : Ref sig .tc} (hr : r ∉ [main_v39, main_v40, main_v41, main_v42, main_v43, main_v44, main_v45]) (V : Valuation τ sig (Elt F)) :
    after opsL V (Proc.devRef .tc r) = V (Proc.devRef .tc r) :=
  StableHlo.after_of_writes_sub opsL V (StableHlo.forall_writes_sub_of_map (W := [main_v39, main_v40, main_v41, main_v42, main_v43, main_v44, main_v45]) rfl) hr
theorem keepB {r : Ref sig .tc} (hr : r ∉ [main_c_8, main_v47, main_v48, main_c_9, main_v49, main_v50, main_v51, main_v52, main_v53]) (V : Valuation τ sig (Elt F)) :
    after opsB V (Proc.devRef .tc r) = V (Proc.devRef .tc r) :=
  StableHlo.after_of_writes_sub opsB V (StableHlo.forall_writes_sub_of_map (W := [main_c_8, main_v47, main_v48, main_c_9, main_v49, main_v50, main_v51, main_v52, main_v53]) rfl) hr
theorem keepA {r : Ref sig .tc} (hr : r ∉ [main_v0, main_v1, main_v2, main_v3, main_v4, main_v5, main_v6, main_v7, main_v8, main_v9, main_v10, main_c, main_v11, main_v12, main_v13, main_v14, main_v15, main_v16, main_v17, main_v18, main_c_0, main_v19, main_c_1, main_v20, main_v21, main_c_2, main_v22, main_v23, main_c_3, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v24, main_c_4, main_v25, main_v26, main_c_5, main_v27, main_call1_call0_c, main_call1_call0_v0, main_v28, main_v29, main_v30, main_c_6, main_v31, main_v32, main_c_7, main_v33, main_v34, main_v35, main_v36, main_v37, main_v38]) (hl : r ∉ [main_v39, main_v40, main_v41, main_v42, main_v43, main_v44, main_v45]) (V : Valuation τ sig (Elt F)) :
    after opsA V (Proc.devRef .tc r) = V (Proc.devRef .tc r) := by
  unfold opsA
  rw [StableHlo.after_append, keepL hl, keepR hr]

theorem VA_x (d : Dev nD) : VA m d r0 = m (xLoc d) := keepA (by decide) (by decide) _
theorem VA_xs (d : Dev nD) : VA m d rXs = m (xsLoc d) := keepA (by decide) (by decide) _
theorem VA_eq (d : Dev nD) : after opsA (V0 m d) = VA m d := rfl
theorem VA_de (d : Dev nD) : VA m d rEven = deAt m d := rfl
theorem VA_do (d : Dev nD) : VA m d rOdd = doAt m d := rfl

end Ops

attribute [local irreducible] VA deAt doAt

/-! ## The tiles, numbered -/

def coordsV (c : Fin 2) (s : Fin 16) : grid0.Coords :=
  fun | 0 => c | 1 => s | ⟨_ + 2, h⟩ => absurd h (Nat.not_lt.2 (Nat.le_add_left _ _))

/-- Tile `(c, s)` is number `2 s + c`. -/
def wid (s : Fin 16) (c : Fin 2) : Fin (2 ^ 5) := finProdFinEquiv (s, c)
def sh (L : grid0.Coords) : PosShare TreeShare := leaf 5 fullShare (wid (L 1) (L 0))

/-- A family over the tiles by number is one over the cores and, in each, its subcores. -/
theorem bigSep_tiles (Φ : Fin (2 ^ 5) → sProp 𝕄) :
    bigSep Finset.univ Φ = bigSep Finset.univ fun c : Fin 2 => bigSep Finset.univ fun s : Fin 16 => Φ (wid s c) := by
  rw [bigSep_univ_equiv (finProdFinEquiv : Fin 16 × Fin 2 ≃ Fin (2 ^ 5)) Φ, bigSep_univ_prod, bigSep_univ_comm]
  rfl

theorem shares (ℓ : Loc nD τ sig) (f : Buf (Elt F) ℓ) :
    (ℓ ↦{fullShare} f : sProp 𝕄) = bigSep Finset.univ fun c : Fin 2 => bigSep Finset.univ fun s : Fin 16 => ℓ ↦{sh (coordsV c s)} f := by
  rw [pointsTo_leaves Finset.univ f 5 fullShare, bigSep_tiles]
  rfl

/-! ## The target's elements -/

section Target
variable (x : Vec F S8192x1024 .f32) (de dO : Vec F S32x16x16 .i32) (out : Vec F S18432x1024 .f32)

/-- The two lists together: each a list, and no row named by both. -/
structure Lists : Prop where
  e : ListOK (F := F) de
  o : ListOK (F := F) dO
  ne : ∀ k k', k < 8192 → k' < 8192 → word (F := F) de k ≠ word (F := F) dO k'

open scoped Classical in
/-- The target after the call: the token of the entry that names a row, and what was there where none does. -/
def result : Vec F S18432x1024 .f32 := fun i =>
  if h : ∃ k, k < 8192 ∧ (i 0).val = word (F := F) de k then x (atX h.choose (i 1).val)
  else if h : ∃ k, k < 8192 ∧ (i 0).val = word (F := F) dO k then x (atX h.choose (i 1).val)
  else out i

variable {de dO} (hl : Lists de dO)
include hl

theorem holds_e : Holds x de (result x de dO out) := by
  intro k hk i hi
  have h : ∃ k, k < 8192 ∧ (i 0).val = word (F := F) de k := ⟨k, hk, hi⟩
  unfold result
  rw [dif_pos h, hl.e.inj k h.choose hk h.choose_spec.1 (hi.symm.trans h.choose_spec.2)]
theorem holds_o : Holds x dO (result x de dO out) := by
  intro k hk i hi
  have h : ∃ k, k < 8192 ∧ (i 0).val = word (F := F) dO k := ⟨k, hk, hi⟩
  have h' : ¬ ∃ k, k < 8192 ∧ (i 0).val = word (F := F) de k := fun ⟨k', hk', e⟩ => hl.ne k' k hk' hk (e.symm.trans hi)
  unfold result
  rw [dif_neg h', dif_pos h, hl.o.inj k h.choose hk h.choose_spec.1 (hi.symm.trans h.choose_spec.2)]

omit hl

/-- A tile's chunk, a column block of it and which list: what one column stream writes. -/
abbrev PartIx (n : ℕ) : Type := (((Fin 2 × Fin 16) × Fin 16) × Fin n) × Bool

variable (de dO) (n : ℕ)
def part (p : PartIx n) : Finset S18432x1024.Idx :=
  tgt (F := F) (bif p.2 then dO else de) (tok (coordsV p.1.1.1.1 p.1.1.1.2) + 16 * p.1.1.2.val) p.1.2.val
def named : Finset S18432x1024.Idx := (Finset.univ : Finset (PartIx n)).biUnion (part de dO n)

theorem mem_part (c : Fin 2) (s k : Fin 16) (t : Fin n) (b : Bool) (i : S18432x1024.Idx) :
    i ∈ part de dO n ((((c, s), k), t), b) ↔ (i 1).val / 128 = t.val ∧ ∃ r, r < 16 ∧ (i 0).val = word (F := F) (bif b then dO else de) (512 * s.val + 256 * c.val + 16 * k.val + r) := by
  unfold part tgt
  simp only [Finset.mem_filter, Finset.mem_univ, true_and]
  rfl

theorem of_part (p : PartIx n) {i : S18432x1024.Idx} (h : i ∈ part de dO n p) : i ∈ named de dO n := by
  unfold named
  rw [Finset.mem_biUnion]
  exact ⟨p, Finset.mem_univ p, h⟩

variable {n} (hn8 : n = 8)
include hn8

theorem mem_named (l : Bool) {a : ℕ} (hn : a < 8192) (i : S18432x1024.Idx) (hi : (i 0).val = word (F := F) (bif l then dO else de) a) : i ∈ named de dO n := by
  have h1 : (i 1).val < 1024 := (i 1).isLt
  have ht : (i 1).val / 128 < n := by omega
  have e : 512 * (a / 512) + 256 * (a / 256 % 2) + 16 * (a / 16 % 16) + a % 16 = a := by omega
  refine of_part de dO n ((((⟨a / 256 % 2, by omega⟩, ⟨a / 512, by omega⟩), ⟨a / 16 % 16, by omega⟩), ⟨(i 1).val / 128, ht⟩), l) ?_
  rw [mem_part]
  refine ⟨rfl, a % 16, by omega, hi.trans ?_⟩
  exact congrArg (word (F := F) _) e.symm

theorem off_named (i : S18432x1024.Idx) (hi : i ∉ named de dO n) : result x de dO out i = out i := by
  have h : ¬ ∃ k, k < 8192 ∧ (i 0).val = word (F := F) de k := by
    rintro ⟨k, hk, e⟩
    have e' : (i 0).val = word (F := F) (bif false then dO else de) k := by rw [cond_false]; exact e
    exact hi (mem_named de dO hn8 false hk i e')
  have h' : ¬ ∃ k, k < 8192 ∧ (i 0).val = word (F := F) dO k := by
    rintro ⟨k, hk, e⟩
    have e' : (i 0).val = word (F := F) (bif true then dO else de) k := by rw [cond_true]; exact e
    exact hi (mem_named de dO hn8 true hk i e')
  unfold result
  rw [dif_neg h, dif_neg h']

omit hn8
variable {de dO}
include hl in
theorem part_disjoint (p p' : PartIx n) (hp : p ≠ p') : Disjoint (part de dO n p) (part de dO n p') := by
  obtain ⟨⟨⟨⟨c, s⟩, k⟩, t⟩, b⟩ := p
  obtain ⟨⟨⟨⟨c', s'⟩, k'⟩, t'⟩, b'⟩ := p'
  rw [Finset.disjoint_left]
  intro i hi hi'
  obtain ⟨ht, r, hr, e⟩ := (mem_part ..).mp hi
  obtain ⟨ht', r', hr', e'⟩ := (mem_part ..).mp hi'
  have e := e.symm.trans e'
  have hc := c.isLt; have hc' := c'.isLt; have hs := s.isLt; have hs' := s'.isLt; have hk := k.isLt; have hk' := k'.isLt
  refine hp ?_
  have hb : b = b' := by
    cases b <;> cases b'
    · rfl
    · exact absurd e (hl.ne _ _ (by omega) (by omega))
    · exact absurd e.symm (hl.ne _ _ (by omega) (by omega))
    · rfl
  subst hb
  have hn : 512 * s.val + 256 * c.val + 16 * k.val + r = 512 * s'.val + 256 * c'.val + 16 * k'.val + r' := by
    cases b
    · exact hl.e.inj _ _ (by omega) (by omega) e
    · exact hl.o.inj _ _ (by omega) (by omega) e
  rw [show c = c' from Fin.ext (by omega), show s = s' from Fin.ext (by omega), show k = k' from Fin.ext (by omega), show t = t' from Fin.ext (ht.symm.trans ht')]

include hl in
theorem out_parts [FloatOps F] (d : Dev nD) (f : Buf (Elt F) (xsLoc d)) :
    (xsLoc d ↦[named de dO k0_t1_loop.trips]{fullShare} f : sProp 𝕄)
      = bigSep Finset.univ fun c : Fin 2 => bigSep Finset.univ fun s : Fin 16 => bigSep Finset.univ fun k : Fin 16 => OutAt d (coordsV c s) de dO f k := by
  unfold named
  rw [pointsTo_biUnion (ℓ := xsLoc d) Finset.univ (part de dO k0_t1_loop.trips) (fun p _ p' _ h => part_disjoint hl p p' h),
    bigSep_univ_prod, bigSep_univ_prod, bigSep_univ_prod, bigSep_univ_prod]
  refine bigSep_congr fun c _ => bigSep_congr fun s _ => bigSep_congr fun k _ => ?_
  unfold OutAt
  refine bigSep_congr fun t _ => ?_
  rw [bigSep_bool]
  rfl

end Target

attribute [local irreducible] result named

variable [FloatOps F]

/-! ## What the call is handed -/

def TaskAt (d : Dev nD) (c : Fin 2) (s : Fin 16) (f : Buf (Elt F) (xsLoc d)) : sProp 𝕄 :=
  Task d (coordsV c s) (m (xLoc d)) (deAt m d) (doAt m d) (sh (coordsV c s)) f

def Whole (d : Dev nD) (f : Buf (Elt F) (xsLoc d)) : sProp 𝕄 :=
  iprop((xLoc d ↦{fullShare} m (xLoc d)) ∗ (deLoc d ↦{fullShare} deAt m d) ∗ (doLoc d ↦{fullShare} doAt m d)
    ∗ xsLoc d ↦[named (deAt m d) (doAt m d) k0_t1_loop.trips]{fullShare} f)

/-- What the proof asks of the launch memory: the lists name rows of the target, no row twice. -/
def PreOK : Prop := ∀ d : Dev nD, Lists (deAt m d) (doAt m d)

theorem atWhole (b : Ref sig .scVector) (d : Dev nD) (L : grid0.Coords) (q : PosShare TreeShare) (f : Buf (Elt F) ((thr d L).loc b)) :
    ((View.whole b).loc (thr d L) ↦[(View.whole b).set]{q} f : sProp 𝕄) = ((thr d L).loc b ↦{q} f) := by
  rw [View.set_whole]

theorem task_eq (d : Dev nD) (c : Fin 2) (s : Fin 16) (f : Buf (Elt F) (xsLoc d)) :
    TaskAt m d c s f = iprop((xLoc d ↦{sh (coordsV c s)} m (xLoc d)) ∗ (deLoc d ↦{sh (coordsV c s)} deAt m d) ∗ (doLoc d ↦{sh (coordsV c s)} doAt m d)
      ∗ bigSep Finset.univ fun k : Fin 16 => OutAt d (coordsV c s) (deAt m d) (doAt m d) f k) := by
  have h0 := atWhole (F := F) main_arg0_scv d (coordsV c s) (sh (coordsV c s)) (m (xLoc d))
  have h1 := atWhole (F := F) main_v42_scv d (coordsV c s) (sh (coordsV c s)) (deAt m d)
  have h2 := atWhole (F := F) main_v45_scv d (coordsV c s) (sh (coordsV c s)) (doAt m d)
  exact congr (congrArg BIBase.sep h0) (congr (congrArg BIBase.sep h1) (congr (congrArg BIBase.sep h2) rfl))

theorem whole_eq (hpre : PreOK m) (d : Dev nD) (f : Buf (Elt F) (xsLoc d)) :
    Whole m d f = bigSep Finset.univ fun c : Fin 2 => bigSep Finset.univ fun s : Fin 16 => TaskAt m d c s f := by
  rw [bigSep_congr fun c _ => bigSep_congr fun s _ => task_eq m d c s f]
  simp only [bigSep_sep']
  unfold Whole
  rw [shares (xLoc d), shares (deLoc d), shares (doLoc d), out_parts (hpre d)]

/-- The target after the call, from the launch memory. -/
abbrev res (d : Dev nD) : Buf (Elt F) (xsLoc d) := result (m (xLoc d)) (deAt m d) (doAt m d) (m (xsLoc d))

theorem nCore_eq (q : Fin 1) : (K (F := F)).nCore q = 2 := match q with | 0 => rfl
theorem nSub_eq (q : Fin 1) : (K (F := F)).nSub q = 16 := match q with | 0 => rfl

def P : (K (F := F)).Pay (nD := nD) (Val := Elt F) (Name := ℕ) (U := UU) where
  st := fun q d c => bigSep Finset.univ fun s : Fin 16 => TaskAt m d (Fin.cast (nCore_eq q) c) s (m (xsLoc d))
  dn := fun q d c => bigSep Finset.univ fun s : Fin 16 => TaskAt m d (Fin.cast (nCore_eq q) c) s (res m d)
  go := fun q d c i => TaskAt m d (Fin.cast (nCore_eq q) c) (Fin.cast (nSub_eq q) i) (m (xsLoc d))
  td := fun q d c i => TaskAt m d (Fin.cast (nCore_eq q) c) (Fin.cast (nSub_eq q) i) (res m d)
  x := fun _ _ => iprop(emp)

instance task_storable (d : Dev nD) (c : Fin 2) (s : Fin 16) (f : Buf (Elt F) (xsLoc d)) : BI.Storable (upEmb : UEmb _ 𝕄) (TaskAt m d c s f) := by
  unfold TaskAt Task OutAt TgtC; infer_instance

instance P_storable : (P (F := F) m).IsStorable where
  st q d c := (inferInstance : BI.Storable (upEmb : UEmb _ 𝕄) (bigSep Finset.univ fun s : Fin 16 => TaskAt m d (Fin.cast (nCore_eq q) c) s (m (xsLoc d))))
  dn q d c := (inferInstance : BI.Storable (upEmb : UEmb _ 𝕄) (bigSep Finset.univ fun s : Fin 16 => TaskAt m d (Fin.cast (nCore_eq q) c) s (res m d)))
  go q d c i := task_storable m d (Fin.cast (nCore_eq q) c) (Fin.cast (nSub_eq q) i) (m (xsLoc d))
  td q d c i := task_storable m d (Fin.cast (nCore_eq q) c) (Fin.cast (nSub_eq q) i) (res m d)

/-! ## The obligations -/

theorem defs₀_vector (c : Fin τ.nSC) (s : Fin τ.nSub) :
    defs₀ (F := F) (.scVector c s) 0 () = SparseCore.onTile hcore0 hsub0 (fun c s => printed (coordsV c s)) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (m (xLoc d)) (deAt m d) (doAt m d) (res m d) (m (xsLoc d)) (hpre d).e (hpre d).o
    (holds_e _ _ (hpre d)) (holds_o _ _ (hpre d)) (sh (coordsV ⟨_, hci.1⟩ ⟨_, hci.2⟩)) O W hO).trans (wp_mono frame _ _ fun _ => obl_post)

theorem vecSplit : (K (F := F)).VecSplit' (P m) 0 := by
  intro d c
  show (bigSep Finset.univ fun s : Fin 16 => TaskAt m d (Fin.cast (nCore_eq 0) c) s (m (xsLoc d))) ⊢ |={Set.univ}=> iprop(
      (bigSep Finset.univ fun s : Fin 16 => TaskAt m d (Fin.cast (nCore_eq 0) c) s (m (xsLoc d)))
      ∗ ((bigSep Finset.univ fun s : Fin 16 => TaskAt m d (Fin.cast (nCore_eq 0) c) s (res m d))
          -∗ bigSep Finset.univ fun s : Fin 16 => TaskAt m d (Fin.cast (nCore_eq 0) c) s (res m d)))
  iintro H; imodintro
  isplitl [H]; · iexact H
  iintro H; iexact H

/-! ## The ghost state at the start -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The program on the TensorCore -/

theorem over_cores (n : ℕ) (h : n = 2) (Φ : Fin 2 → sProp 𝕄) : (bigSep Finset.univ fun c : Fin n => Φ (Fin.cast h c)) = bigSep Finset.univ Φ := by
  subst h; rfl

theorem st_eq (hpre : PreOK m) (d : Dev nD) : (bigSep Finset.univ fun c : Fin ((K (F := F)).nCore 0) => (P m).st 0 d c) = Whole m d (m (xsLoc d)) := by
  rw [whole_eq m hpre]; exact over_cores _ (nCore_eq 0) fun c => bigSep Finset.univ fun s : Fin 16 => TaskAt m d c s (m (xsLoc d))
theorem dn_eq (hpre : PreOK m) (d : Dev nD) : (bigSep Finset.univ fun c : Fin ((K (F := F)).nCore 0) => (P m).dn 0 d c) = Whole m d (res m d) := by
  rw [whole_eq m hpre]; exact over_cores _ (nCore_eq 0) fun c => bigSep Finset.univ fun s : Fin 16 => TaskAt m d c s (res m d)

/-- The contents after the call and at the end. -/
def VC (d : Dev nD) : Valuation τ sig (Elt F) := Function.update (VA m d) rXs (res m d)
def VB (d : Dev nD) : Valuation τ sig (Elt F) := after opsB (VC m d)

/-- The buffers the call works on. -/
abbrev S4 : Finset (DevRef τ sig) := {r0, rEven, rOdd, rXs}

theorem held_S4 (d : Dev nD) (W : Valuation τ sig (Elt F)) :
    (held (SparseCore.T d) S4 W : sProp 𝕄) = iprop((xLoc d ↦{fullShare} W r0) ∗ (deLoc d ↦{fullShare} W rEven) ∗ (doLoc d ↦{fullShare} W rOdd) ∗ xsLoc d ↦{fullShare} W rXs) := by
  unfold held S4
  rw [SparseCore.bigSep_insert' (by decide), SparseCore.bigSep_insert' (by decide), SparseCore.bigSep_insert' (by decide), bigSep_singleton]

theorem S4_sub : S4 ⊆ ucRefs τ sig := by decide

/-- Before the call: what the call is handed, the elements of the target that nobody names, and the other buffers. -/
theorem pull (d : Dev nD) : (held (SparseCore.T d) (ucRefs τ sig) (VA m d) : sProp 𝕄)
    ⊢ iprop(Whole m d (m (xsLoc d)) ∗ (xsLoc d ↦[Finset.univ \ named (deAt m d) (doAt m d) k0_t1_loop.trips]{fullShare} m (xsLoc d))
      ∗ held (SparseCore.T d) (ucRefs τ sig \ S4) (VA m d)) := by
  rw [held_sub_split (SparseCore.T d) S4_sub, held_S4, VA_x, VA_xs, VA_de, VA_do]
  unfold Whole
  iintro ⟨⟨Hx, He, Ho, Hs⟩, Hr⟩
  ihave Hs := (pointsTo_split_subset (Finset.subset_univ (named (deAt m d) (doAt m d) k0_t1_loop.trips))).1 $$ Hs
  icases Hs with ⟨Hs, Hu⟩
  isplitl [Hx He Ho Hs]
  · isplitl [Hx]; · iexact Hx
    isplitl [He]; · iexact He
    isplitl [Ho] <;> iassumption
  isplitl [Hu] <;> iassumption

theorem off_rest (d : Dev nD) : (xsLoc d ↦[Finset.univ \ named (deAt m d) (doAt m d) k0_t1_loop.trips]{fullShare} m (xsLoc d) : sProp 𝕄)
    = xsLoc d ↦[Finset.univ \ named (deAt m d) (doAt m d) k0_t1_loop.trips]{fullShare} res m d :=
  pointsTo_congr (ℓ := xsLoc d) fun (i : S18432x1024.Idx) hi => (off_named (m (xLoc d)) (deAt m d) (doAt m d) (m (xsLoc d)) trips_eq i (Finset.mem_sdiff.mp hi).2).symm

/-- After it. -/
theorem push (d : Dev nD) : iprop(Whole m d (res m d) ∗ (xsLoc d ↦[Finset.univ \ named (deAt m d) (doAt m d) k0_t1_loop.trips]{fullShare} m (xsLoc d))
      ∗ held (SparseCore.T d) (ucRefs τ sig \ S4) (VA m d)) ⊢ (held (SparseCore.T d) (ucRefs τ sig) (VC m d) : sProp 𝕄) := by
  rw [held_sub_split (SparseCore.T d) S4_sub, held_S4,
    show VC m d r0 = m (xLoc d) from (Function.update_of_ne (by decide) _ _).trans (VA_x m d),
    show VC m d rEven = deAt m d from (Function.update_of_ne (by decide) _ _).trans (VA_de m d),
    show VC m d rOdd = doAt m d from (Function.update_of_ne (by decide) _ _).trans (VA_do m d),
    show VC m d rXs = res m d from Function.update_self _ _ _,
    StableHlo.held_congr (SparseCore.T d) (V := VC m d) (V' := VA m d) (S := ucRefs τ sig \ S4)
      fun b hb => Function.update_of_ne (fun e => (Finset.mem_sdiff.mp hb).2 (by rw [e]; decide)) _ _]
  unfold Whole
  iintro ⟨⟨Hx, He, Ho, Hs⟩, Hu, Hr⟩
  isplitr [Hr]
  · isplitl [Hx]; · iexact Hx
    isplitl [He]; · iexact He
    isplitl [Ho]; · iexact Ho
    iapply (pointsTo_split_subset (Finset.subset_univ (named (deAt m d) (doAt m d) k0_t1_loop.trips))).2
    isplitl [Hs]; · iexact Hs
    iapply (Entails.of_eq (off_rest m d)) $$ Hu
  iexact Hr

theorem hmain (hpre : PreOK m) (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ held (SparseCore.T d) (ucRefs τ sig) (VB m d) ∗ (K (F := F)).tcEnd d) := by
  unfold SparseCore.Cfg.tcRes SparseCore.Cfg.tcEnd
  rw [show (unscopedBufs d (fun b => m ((SparseCore.T d).loc b)) : sProp 𝕄) = held (SparseCore.T d) (ucRefs τ sig) (V0 m d) from unscopedBufs_held d (V0 m d), main_eq]
  iintro ⟨#Hctx, Hst, ⟨Hb, Hw, Hts, -⟩, -⟩
  iapply (wp_seq 𝒱 none Set.univ d (ucRefs τ sig) _ opsA opsA_sub opsA_fresh (V0 m d)) $$ [Hb Hw]
  · isplitl [Hb]; · iexact Hb
    iexact Hw
  iintro ⟨Hb, Hw⟩
  ihave Hw := (show held (d.tc : Thread nD τ) (ucRefs τ sig) (after opsA (V0 m d)) ⊢ _ from (Entails.of_eq (congrArg _ (VA_eq m d))).trans (pull m d)) $$ Hw
  icases Hw with ⟨Hw, Hu, Hr⟩
  rw [wp_bind]
  iapply ((K (F := F)).wp_run (D (F := F)) 𝒱 (EH := EH) (P := P m) κ d 0) $$ [Hst Hw Hb Hts Hu Hr]
  isplitr; · iexact Hctx
  isplitl [Hst]; · iexact Hst
  isplitl [Hw]
  · rw [st_eq m hpre]
    iexact Hw
  iintro ⟨Hst, Hdn⟩
  ihave Hdn := (Entails.of_eq (dn_eq m hpre d)) $$ Hdn
  ihave Hw := (push m d) $$ [Hdn Hu Hr]
  · isplitl [Hdn]; · iexact Hdn
    isplitl [Hu] <;> iassumption
  iapply (wp_seq 𝒱 none Set.univ d (ucRefs τ sig) _ opsB opsB_sub opsB_fresh (VC m d)) $$ [Hb Hw]
  · isplitl [Hb]; · iexact Hb
    iexact Hw
  iintro ⟨Hb, Hw⟩
  rw [wp_pure]
  imodintro
  isplitl [Hst]; · iexact Hst
  isplitl [Hw]; · iexact Hw
  isplitl [Hb] <;> iassumption

/-- What the final memory holds. -/
def fq (d : Dev nD) (s' : Phys nD τ sig (Elt F)) : Prop := ∀ b ∈ ucRefs τ sig, s'.mem.mem (d, b) = VB m d b

theorem agree (s' : Phys nD τ sig (Elt F)) (ℓ : Loc nD τ sig) (f : Buf (Elt F) ℓ) :
    iprop(SI s' ∗ (ℓ ↦{fullShare} f)) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr
  · ipureintro; exact funext fun i => h i (Finset.mem_univ i)
  iexact HSI

theorem hfin (d : Dev nD) (s' : Phys nD τ sig (Elt F)) : iprop(held (SparseCore.T d) (ucRefs τ sig) (VB m d) ∗ SI s') ⊢ (⌜fq m d s'⌝ : sProp 𝕄) := by
  have h : ∀ S : Finset (DevRef τ sig), iprop(held (SparseCore.T d) S (VB m d) ∗ SI s') ⊢ (iprop(⌜∀ b ∈ S, s'.mem.mem (d, b) = VB m d b⌝ ∗ SI s') : sProp 𝕄) := by
    intro S
    induction S using Finset.induction_on with
    | empty =>
      iintro ⟨-, HSI⟩
      isplitr; · ipureintro; exact fun b hb => absurd hb (Finset.notMem_empty b)
      iexact HSI
    | insert b S hb ih =>
      unfold held at ih ⊢
      rw [SparseCore.bigSep_insert' hb]
      iintro ⟨⟨Hb, HS⟩, HSI⟩
      ihave H := (agree s' (d, b) (VB m d b)) $$ [HSI Hb]
      · isplitl [HSI]; · iexact HSI
        iexact Hb
      icases H with ⟨%hb', HSI⟩
      ihave H := ih $$ [HS HSI]
      · isplitl [HS] <;> iassumption
      icases H with ⟨%hS, HSI⟩
      isplitr
      · ipureintro
        intro b' hb''
        rcases Finset.mem_insert.mp hb'' with rfl | h
        · exact hb'
        · exact hS b' h
      iexact HSI
  iintro H
  ihave H := (h (ucRefs τ sig)) $$ H
  icases H with ⟨%hq, -⟩
  ipureintro; exact hq

/-! ## The program's run -/

def QC : PUnit × MemSt nD τ sig (Elt F) → Prop := fun r =>
  (∀ c : Dev nD, ∀ b ∈ ucRefs τ sig, r.2.mem (c, b) = VB m c b) ∧ r.2.sem = fun _ => 0

theorem run_main [∀ e, Nonempty (Elt F e)] (hpre : PreOK m) :
    θ_run (Cert.Dispatch.defs (F := F)) (Cert.Dispatch.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (fun d => held (SparseCore.T d) (ucRefs τ sig) (VB m d)) (u₀ (F := F)) (sep_elim_left.trans (hu₀ m)) (hmain m ρ hpre) (fq m) (hfin m) (QC m) (fun _ h hz => ⟨h, hz⟩)

end Cert.Proof.Dispatch

end
-- ==== Proof.DispatchRoute.lean ====
/-
  The positions of the chosen experts. The experts are numbered 0 … 7; expert `a`'s tokens take a stretch of rows whose length
  is their number rounded up to a multiple of 256, the stretches follow one another, and within its stretch a choice stands
  after the earlier choices of the same expert. The positions so made name rows of the target (`dest_lt`) and no two choices
  have the same one (`dest_inj`). The first part counts with natural numbers; the second reads the program's operations.
-/
module

public import proofs.«01_k».proof.Proof.Gen.Dispatch
public import Idealize.ShloMosaic.Lib.StableHlo.Predicate
public import Idealize.ShloMosaic.Lib.Routing.Words
public import Idealize.ShloMosaic.Lib.Routing.OpsSet
public import Idealize.ShloMosaic.Lib.Routing.OpsPair
public import Idealize.ShloMosaic.Lib.Pipeline.Value
public import Idealize.ShloMosaic.Lib.ValueIdx

@[expose] public section

noncomputable section

namespace Cert.Proof.Route

/-! ## The count -/

section Count
variable {N : ℕ} (E : Fin N → ℕ)

/-- The choices of expert `a`, their number rounded up, where `a`'s stretch begins, and the earlier choices of the same expert. -/
def cnt (a : ℕ) : ℕ := (Finset.univ.filter fun p : Fin N => E p = a).card
def pad (a : ℕ) : ℕ := (cnt E a + 255) / 256 * 256
def off (a : ℕ) : ℕ := ((List.range a).map (pad E)).sum
def rank (i : Fin N) : ℕ := (Finset.univ.filter fun q : Fin N => E i = E q ∧ q < i).card
def pos (i : Fin N) : ℕ := off E (E i) + rank E i

theorem off_succ (a : ℕ) : off E (a + 1) = off E a + pad E a := by
  simp [off, List.range_succ]

theorem off_mono {a b : ℕ} (h : a ≤ b) : off E a ≤ off E b :=
  monotone_nat_of_le_succ (fun n => by rw [off_succ]; exact Nat.le_add_right _ _) h

theorem cnt_le_pad (a : ℕ) : cnt E a ≤ pad E a := by
  unfold pad; omega

theorem pad_le (a : ℕ) : pad E a ≤ cnt E a + 255 := by
  unfold pad; omega

theorem cnt_le (a : ℕ) : cnt E a ≤ N := (Finset.card_le_univ _).trans (by simp)

/-- The stretches of the experts below `a` hold at most their choices and 255 rows more for each. -/
theorem off_le (a : ℕ) : off E a ≤ (Finset.univ.filter fun p : Fin N => E p < a).card + 255 * a := by
  induction a with
  | zero => simp [off]
  | succ a ih =>
    have hu : (Finset.univ.filter fun p : Fin N => E p < a + 1)
        = (Finset.univ.filter fun p : Fin N => E p < a) ∪ (Finset.univ.filter fun p : Fin N => E p = a) := by
      ext p
      simp only [Finset.mem_filter, Finset.mem_univ, true_and, Finset.mem_union]
      omega
    have hd : Disjoint (Finset.univ.filter fun p : Fin N => E p < a) (Finset.univ.filter fun p : Fin N => E p = a) := by
      rw [Finset.disjoint_left]
      intro p h1 h2
      simp only [Finset.mem_filter, Finset.mem_univ, true_and] at h1 h2
      omega
    rw [hu, Finset.card_union_of_disjoint hd, off_succ]
    have := pad_le E a
    unfold cnt at this
    omega

theorem off_le_all (a : ℕ) : off E a ≤ N + 255 * a :=
  (off_le E a).trans (Nat.add_le_add_right ((Finset.card_le_univ _).trans (by simp)) _)

theorem rank_lt_cnt (i : Fin N) : rank E i < cnt E (E i) := by
  unfold rank cnt
  refine Finset.card_lt_card ((Finset.ssubset_iff_of_subset fun q hq => ?_).2 ⟨i, ?_, ?_⟩)
  · simp only [Finset.mem_filter, Finset.mem_univ, true_and] at hq ⊢
    exact hq.1.symm
  · simp
  · simp

theorem rank_lt {i j : Fin N} (e : E i = E j) (h : i < j) : rank E i < rank E j := by
  unfold rank
  refine Finset.card_lt_card ((Finset.ssubset_iff_of_subset fun q hq => ?_).2 ⟨i, ?_, ?_⟩)
  · simp only [Finset.mem_filter, Finset.mem_univ, true_and] at hq ⊢
    exact ⟨e.symm.trans hq.1, hq.2.trans h⟩
  · simp only [Finset.mem_filter, Finset.mem_univ, true_and]
    exact ⟨e.symm, h⟩
  · simp

theorem pos_lt_off (i : Fin N) : pos E i < off E (E i + 1) := by
  rw [off_succ]
  exact Nat.add_lt_add_left ((rank_lt_cnt E i).trans_le (cnt_le_pad E _)) _

/-- A position lies within the stretches of the `a` experts. -/
theorem pos_lt (a : ℕ) (i : Fin N) (h : E i < a) : pos E i < N + 255 * a :=
  (pos_lt_off E i).trans_le ((off_mono E h).trans (off_le_all E a))

theorem pos_ne {i j : Fin N} (h : i < j) : pos E i ≠ pos E j := by
  rcases Nat.lt_trichotomy (E i) (E j) with hlt | heq | hgt
  · have h1 := (pos_lt_off E i).trans_le (off_mono E hlt)
    unfold pos at h1 ⊢
    omega
  · have h1 := rank_lt E heq h
    unfold pos
    rw [heq]
    omega
  · have h1 := (pos_lt_off E j).trans_le (off_mono E hgt)
    unfold pos at h1 ⊢
    omega

theorem pos_inj {i j : Fin N} (h : pos E i = pos E j) : i = j := by
  rcases lt_trichotomy i j with hlt | heq | hgt
  · exact absurd h (pos_ne E hlt)
  · exact heq
  · exact absurd h.symm (pos_ne E hgt)

end Count

/-! ## The operations -/

open Cert.Dispatch Cert.Dispatch.Gen
open Idealize.ShloMosaic Idealize.ShloMosaic.ValueIdx Idealize.ShloMosaic.Routing
open Idealize.ShloMosaic.StableHlo.Predicate (toNat_reduce_count_cols toNat_reduce_count_rows cmpi_eq_iff)

section Words
variable (e : IVec S16384 32)

/-- The number of earlier choices of the same expert. -/
def rankOf : IVec S16384 32 :=
  Host.reduce IntOp.addi
    (extui 32
      (andi
        (cmpi .eq (broadcastInDim S16384x16384 ![0, 1] bcast_S16384x1_S16384x16384_0_1 (broadcastInDim S16384x1 ![0] bcast_S16384_S16384x1_0 e))
          (broadcastInDim S16384x16384 ![0, 1] bcast_S1x16384_S16384x16384_0_1 (broadcastInDim S1x16384 ![1] bcast_S16384_S1x16384_1 e)))
        (cmpi .sgt (iotaInDim S16384x16384 32 0) (iotaInDim S16384x16384 32 1)))
      natLt_1_32)
    (constantI S_ 32 0#32) reducesTo_S16384x16384_S16384_d1 h_S_
/-- The number of choices of each expert. -/
def countsOf : IVec S8 32 :=
  Host.reduce IntOp.addi
    (extui 32
      (cmpi .eq (broadcastInDim S16384x8 ![0, 1] bcast_S16384x1_S16384x8_0_1 (broadcastInDim S16384x1 ![0] bcast_S16384_S16384x1_0 e))
        (broadcastInDim S16384x8 ![0, 1] bcast_S1x8_S16384x8_0_1 (broadcastInDim S1x8 ![1] bcast_S8_S1x8_1 (iotaInDim S8 32 0))))
      natLt_1_32)
    (constantI S_ 32 0#32) reducesTo_S16384x8_S8_d0 h_S_
/-- Numbers rounded up to multiples of 256. -/
def padOf (n : IVec S8 32) : IVec S8 32 :=
  muli
    (pyDiv bcast_S_S8
      (subi (addi n (broadcastInDim S8 ![] bcast_S_S8 (constantI S_ 32 256#32))) (broadcastInDim S8 ![] bcast_S_S8 (constantI S_ 32 1#32)))
      (constantI S_ 32 256#32))
    (broadcastInDim S8 ![] bcast_S_S8 (constantI S_ 32 256#32))
/-- The lengths of the experts' stretches. -/
def paddedOf : IVec S8 32 := padOf (countsOf e)
/-- Where stretches of the lengths `n` end, and where they begin. -/
def endsOf (n : IVec S8 32) : IVec S8 32 :=
  Host.reduceWindow IntOp.addi ![8] ![1] ![7] ![0] n (broadcastInDim S_ ![] bcast_S_S_ (constantI S_ 32 0#32))
    reduceWindows_S8_S8_w8s1p7_0 h_S_
def offsOf (n : IVec S8 32) : IVec S8 32 :=
  concatenate S8 0 [⟨S1, broadcastInDim S1 ![] bcast_S_S1 (constantI S_ 32 0#32)⟩, ⟨S7, extractStridedSlice S7 ![0] (endsOf n) slices_S8_S7_0⟩]
    concatenates_S1_S7_S8_d0
def offOf : IVec S8 32 := offsOf (paddedOf e)
/-- The experts as start indices: one below zero is moved up by their number. -/
def startOf : IVec S16384x1 32 :=
  broadcastInDim S16384x1 ![0] bcast_S16384_S16384x1_0
    (select (cmpi .slt e (broadcastInDim S16384 ![] bcast_S_S16384 (constantI S_ 32 0#32)))
      (addi e (broadcastInDim S16384 ![] bcast_S_S16384 (constantI S_ 32 8#32))) e)
/-- The positions, from where the stretches begin and from the ranks. -/
def placeOf (o : IVec S8 32) (r : IVec S16384 32) : IVec S16384 32 :=
  addi (Host.gather gather_S8_S16384x1_S16384_n_0_n_n_0_1_1 o (startOf e)) r
def destOf : IVec S16384 32 := placeOf e (offOf e) (rankOf e)

/-- The chosen experts as numbers. -/
def num (i : Fin 16384) : ℕ := (e (ix1 i)).toNat

theorem and_bits (p q : BitVec 1) : IntOp.andi p q = 1#1 ↔ p = 1#1 ∧ q = 1#1 := by
  revert p q; decide

theorem rankOf_apply (i : Fin 16384) : rankOf e (ix1 i) = BitVec.ofNat 32 (rank (num e) i) := by
  have hle : rank (num e) i ≤ 16384 := (Finset.card_le_univ _).trans (by simp)
  apply BitVec.eq_of_toNat_eq
  rw [BitVec.toNat_ofNat, Nat.mod_eq_of_lt (by omega)]
  refine (toNat_reduce_count_cols (by decide) _ _ _ _ (ix1 i)).trans ?_
  unfold rank
  refine congrArg Finset.card (Finset.filter_congr fun q _ => ?_)
  refine (and_bits _ _).trans (and_congr ?_ ?_)
  · refine cmpi_eq_iff.trans ?_
    rw [show (broadcastInDim S16384x16384 ![0, 1] bcast_S16384x1_S16384x16384_0_1 (broadcastInDim S16384x1 ![0] bcast_S16384_S16384x1_0 e))
        (StableHlo.Predicate.ij i q) = e (ix1 i) from bcRows _ _ e i q,
      show (broadcastInDim S16384x16384 ![0, 1] bcast_S1x16384_S16384x16384_0_1 (broadcastInDim S1x16384 ![1] bcast_S16384_S1x16384_1 e))
        (StableHlo.Predicate.ij i q) = e (ix1 q) from bcCols _ _ e i q]
    exact BitVec.toNat_inj.symm
  · have hi := i.isLt
    have hq := q.isLt
    exact WordCmp.cmpi_sgt_ofNat_eq_one_iff (w := 32) (a := i.val) (b := q.val) (by omega) (by omega)

theorem countsOf_apply (a : Fin 8) : countsOf e (ix1 a) = BitVec.ofNat 32 (cnt (num e) a.val) := by
  have hle := cnt_le (num e) a.val
  apply BitVec.eq_of_toNat_eq
  rw [BitVec.toNat_ofNat, Nat.mod_eq_of_lt (by omega)]
  refine (toNat_reduce_count_rows (by decide) _ _ _ _ (ix1 a)).trans ?_
  unfold cnt
  refine congrArg Finset.card (Finset.filter_congr fun p _ => ?_)
  refine cmpi_eq_iff.trans ?_
  rw [show (broadcastInDim S16384x8 ![0, 1] bcast_S16384x1_S16384x8_0_1 (broadcastInDim S16384x1 ![0] bcast_S16384_S16384x1_0 e))
      (StableHlo.Predicate.ij p a) = e (ix1 p) from bcRows _ _ e p a,
    show (broadcastInDim S16384x8 ![0, 1] bcast_S1x8_S16384x8_0_1 (broadcastInDim S1x8 ![1] bcast_S8_S1x8_1 (iotaInDim S8 32 0)))
      (StableHlo.Predicate.ij p a) = BitVec.ofNat 32 a.val from bcCols _ _ (iotaInDim S8 32 0) p a]
  have ha := a.isLt
  rw [← BitVec.toNat_inj, BitVec.toNat_ofNat, Nat.mod_eq_of_lt (show a.val < 2 ^ 32 by omega)]
  rfl

theorem paddedOf_apply (a : Fin 8) : paddedOf e (ix1 a) = BitVec.ofNat 32 (pad (num e) a.val) := by
  have hle := cnt_le (num e) a.val
  have hsum : subi (addi (countsOf e) (broadcastInDim S8 ![] bcast_S_S8 (constantI S_ 32 256#32))) (broadcastInDim S8 ![] bcast_S_S8 (constantI S_ 32 1#32)) (ix1 a)
      = BitVec.ofNat 32 (cnt (num e) a.val + 255) := by
    show countsOf e (ix1 a) + 256#32 - 1#32 = _
    rw [countsOf_apply]
    generalize cnt (num e) a.val = c at hle ⊢
    apply BitVec.eq_of_toNat_eq
    simp only [BitVec.toNat_sub, BitVec.toNat_add, BitVec.toNat_ofNat, Nat.reducePow, Nat.reduceMod]
    omega
  have hdiv := pyDiv_ap bcast_S_S8 _ (constantI S_ 32 256#32) (ix1 a) (b := 256) hsum rfl (by omega) (by decide) (by decide)
  show IntOp.muli (pyDiv bcast_S_S8 _ (constantI S_ 32 256#32) (ix1 a)) (BitVec.ofNat 32 256) = _
  rw [hdiv]
  have := pad_le (num e) a.val
  exact (BitVec.ofNat_mul ..).symm

theorem endsOf_apply (a : Fin 8) : endsOf (paddedOf e) (ix1 a) = BitVec.ofNat 32 (off (num e) (a.val + 1)) :=
  cumsum1 (N := 8) (Nm1 := 7) rfl (paddedOf e) (pad (num e)) (paddedOf_apply e) _ rfl _ _ a

theorem offOf_apply (a : Fin 8) : offOf e (ix1 a) = BitVec.ofNat 32 (off (num e) a.val) := by
  by_cases h : a.val = 0
  · refine (concatenate_pair_apply_left (t := S8) (s₁ := S1) (s₂ := S7) 0 _ _ concatenates_S1_S7_S8_d0 (ix1 a) rfl (ix1 (n := 1) 0) fun b => ?_).trans ?_
    · match b with
      | ⟨0, _⟩ => exact h.symm
    · rw [h]; rfl
  · have ha := a.isLt
    refine (concatenate_pair_apply_right (t := S8) (s₁ := S1) (s₂ := S7) 0 _ _ concatenates_S1_S7_S8_d0 (ix1 a) rfl rfl (ix1 (n := 7) ⟨a.val - 1, by omega⟩) (fun b hb => ?_) ?_).trans ?_
    · match b with
      | ⟨0, _⟩ => exact absurd rfl hb
    · show a.val - 1 + 1 = a.val
      omega
    · refine (slice1 0 _ slices_S8_S7_0 _ (show 0 + (a.val - 1) < 8 by omega)).trans ((endsOf_apply e _).trans ?_)
      rw [show (0 + (a.val - 1)) + 1 = a.val by omega]

variable (he : ∀ i : Fin 16384, num e i < 8)
include he

theorem destOf_apply (i : Fin 16384) : destOf e (ix1 i) = BitVec.ofNat 32 (pos (num e) i) := by
  have hi := he i
  have hs : startOf e (ix2 i (0 : Fin 1)) = BitVec.ofNat 32 (num e i) := by
    refine (bcCol _ _ i).trans ((wrap_of_lt (e (ix1 i)) _ ?_).trans ?_)
    · have : (e (ix1 i)).toNat < 8 := hi
      omega
    · exact BitVec.eq_of_toNat_eq (by rw [BitVec.toNat_ofNat, Nat.mod_eq_of_lt (Nat.lt_of_lt_of_le hi (by decide))]; rfl)
  have hg := gather_take1 gather_S8_S16384x1_S16384_n_0_n_n_0_1_1 rfl rfl rfl rfl (offOf e) (startOf e) i ⟨num e i, hi⟩ hs (by decide)
  show IntOp.addi (Host.gather gather_S8_S16384x1_S16384_n_0_n_n_0_1_1 (offOf e) (startOf e) (ix1 i)) (rankOf e (ix1 i)) = _
  rw [hg, offOf_apply, rankOf_apply]
  exact (BitVec.ofNat_add ..).symm

theorem destOf_toNat (i : Fin 16384) : (destOf e (ix1 i)).toNat = pos (num e) i := by
  have := pos_lt (num e) 8 i (he i)
  rw [destOf_apply e he, BitVec.toNat_ofNat, Nat.mod_eq_of_lt (by omega)]

/-- Each position names a row of the target. -/
theorem dest_lt (j : S16384.Idx) : (destOf e j).toNat < 18432 := by
  have key : ∀ i : Fin 16384, (destOf e (ix1 i)).toNat < 18432 := fun i => by
    have := pos_lt (num e) 8 i (he i)
    rw [destOf_toNat e he]
    omega
  exact (congrArg (fun k => (destOf e k).toNat) (eq_ix1 (n := 16384) j)).trans_lt (key (j 0))

/-- No two choices have the same position. -/
theorem dest_inj (j j' : S16384.Idx) (h : destOf e j = destOf e j') : j = j' := by
  have key : ∀ i i' : Fin 16384, destOf e (ix1 i) = destOf e (ix1 i') → i = i' := fun i i' h => by
    have h' := congrArg BitVec.toNat h
    rw [destOf_toNat e he, destOf_toNat e he] at h'
    exact pos_inj _ h'
  have h0 := key (j 0) (j' 0) ((congrArg (destOf e) (eq_ix1 (n := 16384) j)).symm.trans (h.trans (congrArg (destOf e) (eq_ix1 (n := 16384) j'))))
  exact (eq_ix1 (n := 16384) j).trans ((congrArg ix1 h0).trans (eq_ix1 (n := 16384) j').symm)

end Words

end Cert.Proof.Route

end
-- ==== Proof.DispatchHost.lean ====
/-
  The operations around the call, read entry by entry.

  The lists are the even and the odd positions (`word_e`, `word_o`). The positions are those of the chosen experts
  (`after_opsR`), which name rows, no two the same, so the launch memory is as the launch asks (`preOK`). The last operations gather, for token `t` and expert `k`, the row
  that position `2 t + k` names; the call has put token `t` there (`out_eq`).
-/
module

public import proofs.«01_k».proof.Proof.DispatchLaunch
public import proofs.«01_k».proof.Proof.DispatchRoute
public import Idealize.ShloMosaic.Lib.Pipeline.Value
public import Idealize.ShloMosaic.Lib.ValueIdx

@[expose] public section

noncomputable section

namespace Cert.Proof.Dispatch

open Cert.Dispatch Cert.Dispatch.Gen
open Idealize.ShloMosaic Idealize.ShloMosaic.Tactic
open Idealize.ShloMosaic.StableHlo (after)
open Idealize.ShloMosaic.Pipeline (ucRefs)

variable {F : FTy → Type}

def at16384 (n : ℕ) : S16384.Idx := fun | 0 => ⟨n % 16384, Nat.mod_lt _ (by decide)⟩
def atT (r o : ℕ) : S18432x1024.Idx := fun | 0 => ⟨r % 18432, Nat.mod_lt _ (by decide)⟩ | 1 => ⟨o % 1024, Nat.mod_lt _ (by decide)⟩

/-! ## The lists -/

section Pure
variable (dest : Vec F S16384 .i32)

/-- The positions, two for each token, and the two columns as the call takes them. -/
def pairs : Vec F S8192x2 .i32 := shapeCast S8192x2 dest shapeCasts_S16384_S8192x2
def evens : Vec F S32x16x16 .i32 :=
  shapeCast S32x16x16 (shapeCast S8192 (extractStridedSlice S8192x1 ![0, 0] (pairs dest) slices_S8192x2_S8192x1_0_0)
    shapeCasts_S8192x1_S8192) shapeCasts_S8192_S32x16x16
def odds : Vec F S32x16x16 .i32 :=
  shapeCast S32x16x16 (shapeCast S8192 (extractStridedSlice S8192x1 ![0, 1] (pairs dest) slices_S8192x2_S8192x1_0_1)
    shapeCasts_S8192x1_S8192) shapeCasts_S8192_S32x16x16

def pairIx (k : Fin 8192) (p : Fin 2) : S8192x2.Idx := fun | ⟨0, _⟩ => k | ⟨1, _⟩ => p
def colIx (k : Fin 8192) : S8192x1.Idx := fun | ⟨0, _⟩ => k | ⟨1, _⟩ => ⟨0, Nat.one_pos⟩
def rowIx (k : Fin 8192) : S8192.Idx := fun | ⟨0, _⟩ => k

theorem pairs_apply (k : Fin 8192) (p : Fin 2) : pairs dest (pairIx k p) = dest (at16384 (2 * k.val + p.val)) := by
  have hk := k.isLt
  have hp := p.isLt
  refine shapeCast_apply _ _ _ _ ?_
  refine (Shape.rowMajor_val_one _).trans (Eq.trans ?_ (Shape.rowMajor_val_two _).symm)
  show (2 * k.val + p.val) % 16384 = k.val * 2 + p.val
  omega

/-- A column of a list, cut into thirty-two blocks of sixteen by sixteen, read at entry `k`. -/
theorem blocks_apply (c : Vec F S8192x1 .i32) (k : Fin 8192) :
    shapeCast S32x16x16 (shapeCast S8192 c shapeCasts_S8192x1_S8192) shapeCasts_S8192_S32x16x16 (at3 k.val) = c (colIx k) := by
  have hk := k.isLt
  refine (shapeCast_apply _ _ _ (rowIx k) ?_).trans (shapeCast_apply _ _ _ (colIx k) ?_)
  · refine (Shape.rowMajor_val_one _).trans (Eq.trans ?_ (Shape.rowMajor_val_three _).symm)
    show k.val = (k.val / 256 % 32 * 16 + k.val / 16 % 16) * 16 + k.val % 16
    omega
  · refine (Shape.rowMajor_val_two _).trans (Eq.trans ?_ (Shape.rowMajor_val_one _).symm)
    show k.val * 1 + 0 = k.val
    omega

theorem evens_apply (k : Fin 8192) : evens dest (at3 k.val) = dest (at16384 (2 * k.val)) := by
  refine (blocks_apply _ k).trans ((extractStridedSlice_apply _ _ _ _ (pairIx k 0) fun a => ?_).trans (pairs_apply dest k 0))
  match a with
  | ⟨0, _⟩ => exact (Nat.zero_add _).symm
  | ⟨1, _⟩ => rfl
theorem odds_apply (k : Fin 8192) : odds dest (at3 k.val) = dest (at16384 (2 * k.val + 1)) := by
  refine (blocks_apply _ k).trans ((extractStridedSlice_apply _ _ _ _ (pairIx k 1) fun a => ?_).trans (pairs_apply dest k 1))
  match a with
  | ⟨0, _⟩ => exact (Nat.zero_add _).symm
  | ⟨1, _⟩ => rfl

/-- Entry `k` stands where entry `k` modulo 8192 does. -/
theorem at3_mod (k : ℕ) : at3 k = at3 (k % 8192) := by
  funext a
  match a with
  | ⟨0, _⟩ => exact Fin.ext (show k / 256 % 32 = k % 8192 / 256 % 32 by omega)
  | ⟨1, _⟩ => exact Fin.ext (show k / 16 % 16 = k % 8192 / 16 % 16 by omega)
  | ⟨2, _⟩ => exact Fin.ext (show k % 16 = k % 8192 % 16 by omega)

theorem word_e (k : ℕ) : word (F := F) (evens dest) k = BitVec.toNat (w := 32) (dest (at16384 (2 * (k % 8192)))) := by
  unfold word
  rw [at3_mod]
  exact congrArg (BitVec.toNat (w := 32)) (evens_apply dest ⟨k % 8192, Nat.mod_lt _ (by decide)⟩)
theorem word_o (k : ℕ) : word (F := F) (odds dest) k = BitVec.toNat (w := 32) (dest (at16384 (2 * (k % 8192) + 1))) := by
  unfold word
  rw [at3_mod]
  exact congrArg (BitVec.toNat (w := 32)) (odds_apply dest ⟨k % 8192, Nat.mod_lt _ (by decide)⟩)

theorem at_inj {a b : ℕ} (h : at16384 a = at16384 b) : a % 16384 = b % 16384 := congrArg Fin.val (congrFun h 0)

/-- Positions that name rows, no two the same, make lists as the launch asks. -/
theorem lists_ok (hd : ∀ j : S16384.Idx, BitVec.toNat (w := 32) (dest j) < 18432) (hi : ∀ j j' : S16384.Idx, dest j = dest j' → j = j') :
    Lists (F := F) (evens dest) (odds dest) := by
  have key : ∀ a b : ℕ, BitVec.toNat (w := 32) (dest (at16384 a)) = BitVec.toNat (w := 32) (dest (at16384 b)) → a % 16384 = b % 16384 :=
    fun a b h => at_inj (hi _ _ (BitVec.eq_of_toNat_eq h))
  refine ⟨⟨fun k => ?_, fun k k' hk hk' h => ?_⟩, ⟨fun k => ?_, fun k k' hk hk' h => ?_⟩, fun k k' hk hk' h => ?_⟩
  · rw [word_e]; exact hd _
  · rw [word_e, word_e] at h
    have := key _ _ h
    omega
  · rw [word_o]; exact hd _
  · rw [word_o, word_o] at h
    have := key _ _ h
    omega
  · rw [word_e, word_o] at h
    have := key _ _ h
    omega

end Pure

/-! ## The rows read back -/

section Back
variable [FloatOps F]

/-- The gather of whole rows. -/
abbrev G : GatherDims S18432x1024 S8192x2x1 S8192x2x1024 := gather_S18432x1024_S8192x2x1_S8192x2x1024_2_0_n_n_0_2_11024

/-- Where the row number of result index `y` stands among the start indices. -/
def startAt (y : S8192x2x1024.Idx) : S8192x2x1.Idx := fun
  | ⟨0, _⟩ => y 0
  | ⟨1, _⟩ => y 1
  | ⟨2, _⟩ => ⟨0, Nat.one_pos⟩

/-- The gather of whole rows read at one index: the row its start index names, clamped, at the same column. -/
theorem gather_apply (f : Vec F S18432x1024 .f32) (idx : IVec S8192x2x1 32) (y : S8192x2x1024.Idx) :
    Host.gather G f idx y = f (atT (min (idx (startAt y)).toInt.toNat 18431) (y 2).val) := by
  have hy : (y 2).val < 1024 := (y 2).isLt
  unfold Host.gather
  congr 1
  funext a
  refine Fin.ext ?_
  show G.start y idx a + G.batchCoord y a + G.offCoord y a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ (fun h => absurd h List.not_mem_nil),
      GatherDims.offCoord_eq_zero _ _ _ (fun h => ((GatherDims.mem_sKept _ _).mp h).1 (List.mem_singleton.mpr rfl))]
    unfold GatherDims.start
    rw [dif_pos (show (0 : Fin 2) ∈ G.startIndexMap from List.mem_singleton.mpr rfl)]
    have hsi : G.siIdx y ⟨List.idxOf (0 : Fin 2) G.startIndexMap,
        List.idxOf_lt_length_iff.2 (List.mem_singleton.mpr rfl)⟩ = startAt y := by
      funext b; refine Fin.ext ?_
      match b with
      | ⟨0, _⟩ => rfl
      | ⟨1, _⟩ => rfl
      | ⟨2, _⟩ => rfl
    rw [hsi]
    show min (idx (startAt y)).toInt.toNat 18431 + 0 + 0 = min (idx (startAt y)).toInt.toNat 18431 % 18432
    omega
  · rw [GatherDims.batchCoord_eq_zero _ _ _ (fun h => absurd h List.not_mem_nil)]
    have hs : G.start y idx 1 = 0 := by
      unfold GatherDims.start
      exact dif_neg (by decide)
    have ho : G.offCoord y 1 = (y 2).val := by
      unfold GatherDims.offCoord
      rw [dif_pos (show (1 : Fin 2) ∈ G.sKept by decide)]
      rfl
    rw [hs, ho]
    show 0 + 0 + (y 2).val = (y 2).val % 1024
    omega

/-- The start indices, as the program makes them of the positions: one below zero is moved up by the number of rows. -/
def starts (v : Vec F S8192x2 .i32) : Vec F S8192x2x1 .i32 :=
  broadcastInDim S8192x2x1 ![0, 1] bcast_S8192x2_S8192x2x1_0_1
    (select (cmpi .slt v (broadcastInDim S8192x2 ![] bcast_S_S8192x2 (constantI S_ 32 0#32)))
      (addi v (broadcastInDim S8192x2 ![] bcast_S_S8192x2 (constantI S_ 32 18432#32))) v)

/-- A position that names a row is not moved. -/
theorem starts_apply (dest : Vec F S16384 .i32) (hd : ∀ j : S16384.Idx, BitVec.toNat (w := 32) (dest j) < 18432) (y : S8192x2x1024.Idx) :
    starts (pairs dest) (startAt y) = dest (at16384 (2 * (y 0).val + (y 1).val)) := by
  refine (broadcastInDim_apply _ _ _ _ (pairIx (y 0) (y 1)) fun a => ?_).trans ?_
  · match a with
    | ⟨0, _⟩ => rfl
    | ⟨1, _⟩ => rfl
  · have hp := pairs_apply dest (y 0) (y 1)
    have hlt := hd (at16384 (2 * (y 0).val + (y 1).val))
    show Scalar.select (IntOp.cmpi .slt (pairs dest (pairIx (y 0) (y 1))) 0#32) (IntOp.addi (pairs dest (pairIx (y 0) (y 1))) 18432#32)
      (pairs dest (pairIx (y 0) (y 1))) = _
    rw [hp]
    generalize dest (at16384 (2 * (y 0).val + (y 1).val)) = v at hlt ⊢
    have hneg : IntOp.cmpi .slt v 0#32 = 0#1 := by
      have hb : BitVec.slt v 0#32 = false := by
        have hv : BitVec.toNat (w := 32) v < 18432 := hlt
        rw [BitVec.slt_eq_decide, decide_eq_false_iff_not, BitVec.toInt_eq_toNat_cond]
        simp only [BitVec.toInt_zero, Nat.reducePow]
        omega
      show BitVec.ofBool (BitVec.slt v 0#32) = 0#1
      rw [hb]
      rfl
    rw [hneg, ValueIdx.select_zero]

/-- A target that holds the tokens at the rows of both lists, read back through the positions. -/
theorem back (x : Vec F S8192x1024 .f32) (dest : Vec F S16384 .i32) (f : Vec F S18432x1024 .f32)
    (hd : ∀ j : S16384.Idx, BitVec.toNat (w := 32) (dest j) < 18432)
    (he : Holds x (evens dest) f) (ho : Holds x (odds dest) f) (y : S8192x2x1024.Idx) :
    Host.gather G f (starts (pairs dest)) y = x (atX (y 0).val (y 2).val) := by
  have h0 : (y 0).val < 8192 := (y 0).isLt
  have h1 : (y 1).val < 2 := (y 1).isLt
  have h2 : (y 2).val < 1024 := (y 2).isLt
  refine (gather_apply f _ y).trans ?_
  rw [starts_apply dest hd y]
  have hlt := hd (at16384 (2 * (y 0).val + (y 1).val))
  have hv : min (BitVec.toInt (n := 32) (dest (at16384 (2 * (y 0).val + (y 1).val)))).toNat 18431
      = BitVec.toNat (w := 32) (dest (at16384 (2 * (y 0).val + (y 1).val))) := by
    rw [BitVec.toInt_eq_toNat_cond]
    split <;> omega
  have hc : atX (y 0).val ((atT (min (BitVec.toInt (n := 32) (dest (at16384 (2 * (y 0).val + (y 1).val)))).toNat 18431) (y 2).val) 1).val
      = atX (y 0).val (y 2).val := congrArg (atX (y 0).val) (Nat.mod_eq_of_lt h2)
  have hr : ((atT (min (BitVec.toInt (n := 32) (dest (at16384 (2 * (y 0).val + (y 1).val)))).toNat 18431) (y 2).val) 0).val
      = BitVec.toNat (w := 32) (dest (at16384 (2 * (y 0).val + (y 1).val))) := by
    show min _ 18431 % 18432 = _
    rw [hv, Nat.mod_eq_of_lt hlt]
  refine Eq.trans ?_ (congrArg x hc)
  have hk : (y 1).val = 0 ∨ (y 1).val = 1 := by omega
  rcases hk with hk | hk
  · refine he (y 0).val h0 _ (hr.trans ?_)
    rw [word_e, Nat.mod_eq_of_lt h0, hk]
    rfl
  · refine ho (y 0).val h0 _ (hr.trans ?_)
    rw [word_o, Nat.mod_eq_of_lt h0, hk]

end Back

/-! ## The memory -/

section Memory
variable [FloatOps F] (m : (ℓ : Loc nD τ sig) → Buf (Elt F) ℓ) (d : Dev nD)

/-- The positions of the chosen experts. -/
def destIn (idx : Vec F S8192x2 .i32) : Vec F S16384 .i32 := Route.destOf (shapeCast S16384 idx shapeCasts_S8192x2_S16384)

/-! Each stage of the routing makes of the values before it the value that the route has. -/

theorem after_rank (V : Valuation τ sig (Elt F)) :
    after opsRank V (Proc.devRef .tc main_v11) = Route.rankOf (shapeCast S16384 (V r1 : Vec F S8192x2 .i32) shapeCasts_S8192x2_S16384) := by
  unfold opsRank
  after_results
  rfl
theorem after_rank_flat (V : Valuation τ sig (Elt F)) :
    after opsRank V (Proc.devRef .tc main_v0) = shapeCast S16384 (V r1 : Vec F S8192x2 .i32) shapeCasts_S8192x2_S16384 := by
  unfold opsRank
  after_results
  rfl
theorem after_counts (V : Valuation τ sig (Elt F)) :
    after opsCounts V (Proc.devRef .tc main_v19) = Route.countsOf (V (Proc.devRef .tc main_v0)) := by
  unfold opsCounts
  after_results
  rfl
theorem after_pad (V : Valuation τ sig (Elt F)) :
    after opsPad V (Proc.devRef .tc main_v26) = Route.padOf (V (Proc.devRef .tc main_v19)) := by
  unfold opsPad
  after_results
  simp only [StableHlo.TRef.ofBuf_toBuf]
  rfl
theorem after_off (V : Valuation τ sig (Elt F)) :
    after opsOff V (Proc.devRef .tc main_v30) = Route.offsOf (V (Proc.devRef .tc main_v26)) := by
  unfold opsOff
  after_results
  refine congrArg (fun u : IVec S8 32 => concatenate S8 0 [⟨S1, broadcastInDim S1 ![] bcast_S_S1 (constantI S_ 32 0#32)⟩,
    ⟨S7, extractStridedSlice S7 ![0] u slices_S8_S7_0⟩] concatenates_S1_S7_S8_d0) (a₂ := Route.endsOf (V (Proc.devRef .tc main_v26))) ?_
  simp only [StableHlo.TRef.ofBuf_toBuf]
  have h1 : ∀ x : IVec S8 32, (StableHlo.TRef.of (T := ⟨S8, .i32⟩) main_v28).toBuf (Val := Elt F) x = x := fun _ => rfl
  have h2 : ∀ x : IVec S8 32, (StableHlo.TRef.of (T := ⟨S8, .i32⟩) main_v26).ofBuf (Val := Elt F) x = x := fun _ => rfl
  exact (h1 _).trans (congrArg (fun n : IVec S8 32 => Route.endsOf n) (h2 _))
theorem after_dest (V : Valuation τ sig (Elt F)) :
    after opsDest V (Proc.devRef .tc main_v38)
      = Route.placeOf (V (Proc.devRef .tc main_v0)) (V (Proc.devRef .tc main_v30)) (V (Proc.devRef .tc main_v11)) := by
  unfold opsDest
  after_results
  rfl

theorem keep_counts {r : Ref sig .tc} (hr : r ∉ [main_v12, main_v13, main_v14, main_v15, main_v16, main_v17, main_v18, main_c_0, main_v19]) (V : Valuation τ sig (Elt F)) :
    after opsCounts V (Proc.devRef .tc r) = V (Proc.devRef .tc r) :=
  StableHlo.after_of_writes_sub opsCounts V (StableHlo.forall_writes_sub_of_map (W := [main_v12, main_v13, main_v14, main_v15, main_v16, main_v17, main_v18, main_c_0, main_v19]) rfl) hr
theorem keep_pad {r : Ref sig .tc} (hr : r ∉ [main_c_1, main_v20, main_v21, main_c_2, main_v22, main_v23, main_c_3, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v24, main_c_4, main_v25, main_v26]) (V : Valuation τ sig (Elt F)) :
    after opsPad V (Proc.devRef .tc r) = V (Proc.devRef .tc r) :=
  StableHlo.after_of_writes_sub opsPad V (StableHlo.forall_writes_sub_of_map (W := [main_c_1, main_v20, main_v21, main_c_2, main_v22, main_v23, main_c_3, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v24, main_c_4, main_v25, main_v26]) rfl) hr
theorem keep_off {r : Ref sig .tc} (hr : r ∉ [main_c_5, main_v27, main_call1_call0_c, main_call1_call0_v0, main_v28, main_v29, main_v30]) (V : Valuation τ sig (Elt F)) :
    after opsOff V (Proc.devRef .tc r) = V (Proc.devRef .tc r) :=
  StableHlo.after_of_writes_sub opsOff V (StableHlo.forall_writes_sub_of_map (W := [main_c_5, main_v27, main_call1_call0_c, main_call1_call0_v0, main_v28, main_v29, main_v30]) rfl) hr

theorem after_opsR (V : Valuation τ sig (Elt F)) : after opsR V (Proc.devRef .tc main_v38) = destIn (V r1) := by
  unfold opsR
  rw [StableHlo.after_append, StableHlo.after_append, StableHlo.after_append, StableHlo.after_append, after_dest, after_off,
    after_pad, after_counts, after_rank_flat, keep_off (by decide), keep_pad (by decide), keep_counts (by decide),
    keep_off (by decide), keep_pad (by decide), keep_counts (by decide), after_rank, after_rank_flat]
  rfl

theorem after_opsL_pairs (V : Valuation τ sig (Elt F)) :
    after opsL V (Proc.devRef .tc main_v39) = pairs (V (Proc.devRef .tc main_v38)) := by
  unfold opsL
  after_results
  rfl
theorem after_opsL_evens (V : Valuation τ sig (Elt F)) : after opsL V rEven = evens (V (Proc.devRef .tc main_v38)) := by
  unfold opsL
  after_results
  rfl
theorem after_opsL_odds (V : Valuation τ sig (Elt F)) : after opsL V rOdd = odds (V (Proc.devRef .tc main_v38)) := by
  unfold opsL
  after_results
  rfl

/-- The positions before the call. -/
def destAt : Vec F S16384 .i32 := destIn (m (idxLoc d))

theorem VA_split : VA m d = after opsL (after opsR (V0 m d)) := StableHlo.after_append ..

theorem VA_pairs : VA m d (Proc.devRef .tc main_v39) = pairs (destAt m d) := by
  rw [VA_split, after_opsL_pairs, after_opsR]
  rfl
theorem deAt_eq : deAt m d = evens (destAt m d) := by
  show VA m d rEven = _
  rw [VA_split, after_opsL_evens, after_opsR]
  rfl
theorem doAt_eq : doAt m d = odds (destAt m d) := by
  show VA m d rOdd = _
  rw [VA_split, after_opsL_odds, after_opsR]
  rfl

theorem VC_pairs : VC m d (Proc.devRef .tc main_v39) = pairs (destAt m d) :=
  (Function.update_of_ne (by decide) _ _).trans (VA_pairs m d)
theorem VC_xs : VC m d (Proc.devRef .tc main_v46) = res m d := Function.update_self ..

theorem after_opsB (V : Valuation τ sig (Elt F)) :
    after opsB V (Proc.devRef .tc main_v53) = Host.gather G (V (Proc.devRef .tc main_v46)) (starts (V (Proc.devRef .tc main_v39))) := by
  unfold opsB
  after_results
  rfl

theorem VB_out : VB m d rOut = Host.gather G (res m d) (starts (pairs (destAt m d))) := by
  refine (after_opsB (VC m d)).trans ?_
  rw [VC_pairs, VC_xs]

variable (hr : ∀ (d : Dev nD) (i : S8192x2.Idx), BitVec.toNat (w := 32) (m (idxLoc d) i) < 8)
include hr

/-- The chosen experts in one list are experts too. -/
theorem num_lt (i : Fin 16384) : Route.num (shapeCast S16384 (m (idxLoc d) : Vec F S8192x2 .i32) shapeCasts_S8192x2_S16384) i < 8 := hr d _

theorem dest_lt (j : S16384.Idx) : BitVec.toNat (w := 32) (destAt m d j) < 18432 := Route.dest_lt _ (num_lt m d hr) j
theorem dest_inj (j j' : S16384.Idx) (h : destAt m d j = destAt m d j') : j = j' := Route.dest_inj _ (num_lt m d hr) j j' h

theorem preOK : PreOK m := fun d => by
  rw [deAt_eq, doAt_eq]
  exact lists_ok _ (dest_lt m d hr) (dest_inj m d hr)

/-- The result: token `t`, for each of its two experts. -/
theorem out_eq : VB m d rOut = fun y : S8192x2x1024.Idx => m (xLoc d) (atX (y 0).val (y 2).val) := by
  have hl := lists_ok (F := F) _ (dest_lt m d hr) (dest_inj m d hr)
  have hres : res m d = result (m (xLoc d)) (evens (destAt m d)) (odds (destAt m d)) (m (xsLoc d)) := by
    unfold res
    rw [deAt_eq, doAt_eq]
  refine (VB_out m d).trans ?_
  rw [hres]
  funext y
  exact back _ _ _ (dest_lt m d hr) (holds_e _ _ hl) (holds_o _ _ hl) y

omit hr in
theorem VB_x : VB m d r0 = m (xLoc d) :=
  (keepB (r := main_arg0) (by decide) _).trans ((Function.update_of_ne (by decide) _ _).trans (keepA (r := main_arg0) (by decide) (by decide) _))
omit hr in
theorem VB_idx : VB m d r1 = m (idxLoc d) :=
  (keepB (r := main_arg1) (by decide) _).trans ((Function.update_of_ne (by decide) _ _).trans (keepA (r := main_arg1) (by decide) (by decide) _))

variable [∀ e, Nonempty (Elt F e)]

/-- The whole program: each token at both its experts, the arguments as they were, no semaphore left raised. -/
theorem run (ρ : Dev nD → PrngReg) :
    θ_run defs threads ⟨m, fun _ => 0, ρ⟩ fun r =>
      (∀ c : Dev nD, r.2.mem ((SparseCore.T c).loc main_v53) = (fun y : S8192x2x1024.Idx => m (xLoc c) (atX (y 0).val (y 2).val))
        ∧ r.2.mem (xLoc c) = m (xLoc c) ∧ r.2.mem (idxLoc c) = m (idxLoc c)) ∧ r.2.sem = fun _ => 0 :=
  (θ_run defs _ _).mono (fun r h =>
    ⟨fun c => ⟨(h.1 c rOut (by decide)).trans (out_eq m c hr), (h.1 c r0 (by decide)).trans (VB_x m c),
      (h.1 c r1 (by decide)).trans (VB_idx m c)⟩, h.2⟩) (run_main m ρ (preOK m hr))

end Memory

end Cert.Proof.Dispatch

end
-- ==== Proof.DispatchIdealRun.lean ====
/-
  The idealized dispatch. The idealized module has the same operations as the printed one, so at the extended reals the two
  programs are one by definition (`threads_eq`, `defs_eq`), and the run of the one is the run of the other.
-/
module

public import proofs.«01_k».proof.Proof.DispatchHost
public import proofs.«01_k».proof.Proof.Gen.DispatchIdeal

@[expose] public section

noncomputable section

namespace Cert.Proof.DispatchIdeal

open Idealize.ShloMosaic Cert.DispatchIdeal
open Cert.Proof.Dispatch (atX)

set_option maxHeartbeats 8000000 in
theorem threads_eq : Cert.Dispatch.threads (F := Ideal) = Cert.DispatchIdeal.threads (F := Ideal) := rfl
theorem defs_eq : Cert.Dispatch.defs (F := Ideal) = Cert.DispatchIdeal.defs (F := Ideal) := rfl

set_option maxHeartbeats 8000000 in
/-- The whole idealized program: each token at both its experts, the arguments as they were, no semaphore left raised. -/
theorem run (m : (ℓ : Loc nD τ sig) → Buf (Elt Ideal) ℓ) (ρ : Dev nD → PrngReg)
    (hr : ∀ (d : Dev nD) (i : S8192x2.Idx), BitVec.toNat (w := 32) (m ((d.tc : Thread nD τ).loc main_arg1) i) < 8) :
    θ_run (Cert.DispatchIdeal.defs (F := Ideal)) (Cert.DispatchIdeal.threads (F := Ideal)) ⟨m, fun _ => 0, ρ⟩ fun r =>
      (∀ c : Dev nD, r.2.mem ((c.tc : Thread nD τ).loc main_v53)
          = (fun y : S8192x2x1024.Idx => m ((c.tc : Thread nD τ).loc main_arg0) (atX (y 0).val (y 2).val))
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0 :=
  Cert.Proof.Dispatch.run (F := Ideal) m hr ρ

end Cert.Proof.DispatchIdeal

end
-- ==== Proof.ExpertsIdealTable.lean ====
/-
  The expert layers read their weights by a table: row block `i` is multiplied by the weights of expert `table[i]`.

  The pipeline asks that every block an index map names lies inside its array, in whole words. The four maps that read
  the table name block `table[i]` of an array of eight (`map1` … `map4`), and take all of the two minor axes; so the
  side condition holds as soon as each word of the table is below eight (`ok_of_lt`).
-/
module

public import proofs.«01_k».proof.Proof.Gen.ExpertsIdeal.Frame

@[expose] public section

noncomputable section

namespace Cert.Proof.ExpertsIdeal

open Idealize.ShloMosaic Idealize.ShloMosaic.TcCoe Cert.ExpertsIdeal Cert.ExpertsIdeal.Gen

variable {F : FTy → Type} [FloatOps F]

/-- The table's word for grid point `i`. -/
def word (pf : pre0.Contents (Elt F)) (i : grid0.Coords) : BitVec 32 :=
  pf.at 0 (Rect.unit (s := S72) (k0_off1 i) S1.size (k0_off1_inb i)) numel1_S1

theorem map1 (pf : pre0.Contents (Elt F)) (i : grid0.Coords) :
    cc0_transform_1 k0_off1_inb numel1_S1 pf i = ![(word pf i).toNat, 0, 0] := rfl

theorem map2 (pf : pre0.Contents (Elt F)) (i : grid0.Coords) :
    cc0_transform_2 k0_off1_inb numel1_S1 pf i = ![(word pf i).toNat, 0, 0] := rfl

theorem map3 (pf : pre0.Contents (Elt F)) (i : grid0.Coords) :
    cc0_transform_3 k0_off1_inb numel1_S1 pf i = ![(word pf i).toNat, 0, 0] := rfl

theorem map4 (pf : pre0.Contents (Elt F)) (i : grid0.Coords) :
    cc0_transform_4 k0_off1_inb numel1_S1 pf i = ![(word pf i).toNat, 0, 0] := rfl

/-- A block of one slab at a slab number below eight lies inside eight slabs. -/
theorem inside (n a b : Nat) (hn : n < 8) (x : Fin 3) :
    ((![n, 0, 0] : Fin 3 → Nat) x + 1) * (![1, a, b] : Fin 3 → Nat) x ≤ (![8, a, b] : Fin 3 → Nat) x := by
  match x with
  | ⟨0, _⟩ => show (n + 1) * 1 ≤ 8; omega
  | ⟨1, _⟩ => show (0 + 1) * a ≤ a; omega
  | ⟨2, _⟩ => show (0 + 1) * b ≤ b; omega

set_option maxRecDepth 16384 in
/-- The side condition of the index maps, from the table's words being below eight. -/
theorem ok_of_lt (pf : pre0.Contents (Elt F)) (h : ∀ j : S72.Idx, BitVec.toNat (w := 32) (pf 0 j) < 8) : ok0 pf := by
  have hw : ∀ i, (word pf i).toNat < 8 := fun i => h _
  refine ⟨fun i => ?_, fun i => ?_, fun i => ?_, fun i => ?_⟩
  · rw [map1]
    exact ⟨inside _ _ _ (hw i), .inr (.inr ⟨by decide, rfl, rfl, rfl⟩)⟩
  · rw [map2]
    exact ⟨inside _ _ _ (hw i), .inl rfl⟩
  · rw [map3]
    exact ⟨inside _ _ _ (hw i), .inr (.inr ⟨by decide, rfl, rfl, rfl⟩)⟩
  · rw [map4]
    exact ⟨inside _ _ _ (hw i), .inl rfl⟩

end Cert.Proof.ExpertsIdeal

end
-- ==== Proof.ExpertsSpec.lean ====
/-
  The expert layers as a function, entry by entry: a linear layer, the exact GELU, a second linear layer, with the
  weights and biases of one of eight experts.
-/
module

public import proofs.«01_k».proof.ExpertsIdeal
public import Idealize.ShloMosaic.PureOps.Ideal.Laws

@[expose] public section

noncomputable section

namespace Cert.Proof.ExpertsSpec

open Idealize.ShloMosaic Cert.ExpertsIdeal

/-- Row `r`, column `j` of the rows. -/
def ixX (r : Fin 18432) (j : Fin 1024) : S18432x1024.Idx := fun a => match a with
  | ⟨0, _⟩ => r
  | ⟨1, _⟩ => j

/-- Expert `e`, hidden unit `k`, column `j` of the first weights. -/
def ixW1 (e : Fin 8) (k : Fin 4096) (j : Fin 1024) : S8x4096x1024.Idx := fun a => match a with
  | ⟨0, _⟩ => e
  | ⟨1, _⟩ => k
  | ⟨2, _⟩ => j

/-- Expert `e`, hidden unit `k` of the first biases. -/
def ixB1 (e : Fin 8) (k : Fin 4096) : S8x4096.Idx := fun a => match a with
  | ⟨0, _⟩ => e
  | ⟨1, _⟩ => k

/-- Expert `e`, column `o`, hidden unit `k` of the second weights. -/
def ixW2 (e : Fin 8) (o : Fin 1024) (k : Fin 4096) : S8x1024x4096.Idx := fun a => match a with
  | ⟨0, _⟩ => e
  | ⟨1, _⟩ => o
  | ⟨2, _⟩ => k

/-- Expert `e`, column `o` of the second biases. -/
def ixB2 (e : Fin 8) (o : Fin 1024) : S8x1024.Idx := fun a => match a with
  | ⟨0, _⟩ => e
  | ⟨1, _⟩ => o

/-- The exact GELU, `h/2 · (1 + erf (h/√2))`, with the two constants as the programs spell them. -/
def act (h : EReal) : EReal :=
  Ideal.ofBits .f32 0x3F000000#32 * h * (1 + Ideal.erf (h * Ideal.ofBits .f32 0x3F3504F3#32))

variable (xs : Vec Ideal S18432x1024 .f32) (W1 : Vec Ideal S8x4096x1024 .f32) (b1 : Vec Ideal S8x4096 .f32)
  (W2 : Vec Ideal S8x1024x4096 .f32) (b2 : Vec Ideal S8x1024 .f32)

/-- Hidden unit `k` of row `r` under expert `e`. -/
def hidden (e : Fin 8) (r : Fin 18432) (k : Fin 4096) : EReal :=
  act ((∑ j : Fin 1024, (xs (ixX r j) : EReal) * W1 (ixW1 e k j)) + b1 (ixB1 e k))

/-- Column `o` of row `r`'s output under expert `e`. -/
def layer (e : Fin 8) (r : Fin 18432) (o : Fin 1024) : EReal :=
  (∑ k : Fin 4096, hidden xs W1 b1 e r k * (W2 (ixW2 e o k) : EReal)) + b2 (ixB2 e o)

/-- Entry `b` of the list of row blocks. -/
def ixT (b : Fin 72) : S72.Idx := fun a => match a with
  | ⟨0, _⟩ => b

/-- The row block of row `r`. -/
def blockOf (r : Fin 18432) : Fin 72 := ⟨r.val / 256, by have := r.isLt; omega⟩

/-- The expert of row `r`, which the list names for its row block. -/
def expertOf (tab : Vec Ideal S72 .i32) (r : Fin 18432) : Fin 8 :=
  ⟨BitVec.toNat (w := 32) (tab (ixT (blockOf r))) % 8, Nat.mod_lt _ (by decide)⟩

/-- The output: each row through its own expert. -/
def output (tab : Vec Ideal S72 .i32) : Vec Ideal S18432x1024 .f32 := fun i =>
  layer xs W1 b1 W2 b2 (expertOf tab (i 0)) (i 0) (i 1)

end Cert.Proof.ExpertsSpec

end
-- ==== Proof.ExpertsIdealBody.lean ====
/-
  One grid point of the expert layers over the extended reals: what the body stores, read at an entry, is the second
  layer of the exact GELU of the first layer of the point's blocks (`pay_apply`).
-/
module

public import proofs.«01_k».proof.Proof.ExpertsSpec
public import proofs.«01_k».proof.Proof.Gen.ExpertsIdeal.Frame
public import Idealize.ShloMosaic.Lib.Pipeline.Value
public import Idealize.ShloMosaic.Lib.ValueIdx
public import Idealize.ShloMosaic.PureOps.Ideal.Laws
public import Idealize.ShloMosaic.PureOps.IdealRules

@[expose] public section

noncomputable section

namespace Cert.Proof.ExpertsIdeal

open Idealize.ShloMosaic Idealize.ShloMosaic.TcCoe Cert.ExpertsIdeal Cert.ExpertsIdeal.Gen
open Cert.Proof.ExpertsSpec (act)

section body

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

set_option maxRecDepth 16384 in
/-- The body leaves its one computed block in the output's buffer. -/
theorem out_eq (c : Dev nD) (i : grid0.Coords) (arg2 : Memref sig .tc .vmem S256x1024 .f32) (harg2 : arg2.IsWhole)
    (arg3 : Memref sig .tc .vmem S1x1024x4096 .bf16) (harg3 : arg3.IsWhole)
    (arg4 : Memref sig .tc .vmem S1x1x4096 .f32) (harg4 : arg4.IsWhole)
    (arg5 : Memref sig .tc .vmem S1x4096x1024 .bf16) (harg5 : arg5.IsWhole)
    (arg6 : Memref sig .tc .vmem S1x1x1024 .f32) (harg6 : arg6.IsWhole)
    (arg7 : Memref sig .tc .vmem S256x1024 .f32) (harg7 : arg7.IsWhole)
    (x0 : Vec F S256x1024 .f32) (x1 : Vec F S1x1024x4096 .bf16) (x2 : Vec F S1x1x4096 .f32)
    (x3 : Vec F S1x4096x1024 .bf16) (x4 : Vec F S1x1x1024 .f32) (xt0 : TbBuf0 (F := F) c tbM0_0) :
    out0_A_5 c i arg2 harg2 arg3 harg3 arg4 harg4 arg5 harg5 arg6 harg6 arg7 harg7 x0 x1 x2 x3 x4 xt0
      = k0_pay1 x0 x1 x2 x3 x4 := by
  unfold out0_A_5
  rw [View.read_writes_eq_canon _ _ _
    (cover0_A_5 c i arg2 harg2 arg3 harg3 arg4 harg4 arg5 harg5 arg6 harg6 arg7 harg7 x0 x1 x2 x3 x4 xt0)]
  unfold kernelRun0_A
  dsimp only
  rw [View.canon_unit_zero hz2]
  simp only [View.readAt_eq_ld, harg2.read_unread, harg3.read_unread, harg4.read_unread, harg5.read_unread,
    harg6.read_unread, View.ld_unit_zero (S := S256x1024) hz2, View.ld_unit_zero (S := S1x1024x4096) hz3,
    View.ld_unit_zero (S := S1x1x4096) hz3, View.ld_unit_zero (S := S1x4096x1024) hz3,
    View.ld_unit_zero (S := S1x1x1024) hz3]

end body

/-! ## The indices of a point's blocks -/

/-- Row `r`, column `j` of the row block, and of the first weights' block, and so on. -/
def jX (r : Fin 256) (j : Fin 1024) : S256x1024.Idx := fun a => match a with
  | ⟨0, _⟩ => r
  | ⟨1, _⟩ => j
def jH (r : Fin 256) (k : Fin 4096) : S256x4096.Idx := fun a => match a with
  | ⟨0, _⟩ => r
  | ⟨1, _⟩ => k
def jW1 (j : Fin 1024) (k : Fin 4096) : S1x1024x4096.Idx := fun a => match a with
  | ⟨0, _⟩ => ⟨0, Nat.one_pos⟩
  | ⟨1, _⟩ => j
  | ⟨2, _⟩ => k
def jB1 (k : Fin 4096) : S1x1x4096.Idx := fun a => match a with
  | ⟨0, _⟩ => ⟨0, Nat.one_pos⟩
  | ⟨1, _⟩ => ⟨0, Nat.one_pos⟩
  | ⟨2, _⟩ => k
def jW2 (k : Fin 4096) (o : Fin 1024) : S1x4096x1024.Idx := fun a => match a with
  | ⟨0, _⟩ => ⟨0, Nat.one_pos⟩
  | ⟨1, _⟩ => k
  | ⟨2, _⟩ => o
def jB2 (o : Fin 1024) : S1x1x1024.Idx := fun a => match a with
  | ⟨0, _⟩ => ⟨0, Nat.one_pos⟩
  | ⟨1, _⟩ => ⟨0, Nat.one_pos⟩
  | ⟨2, _⟩ => o

/-! ## The two products -/

abbrev D1 := dot_S256x1024_S1024x4096_S256x4096_1_0_0_1_n_n
abbrev D2 := dot_S256x4096_S4096x1024_S256x1024_1_0_0_1_n_n

def mW1 (j : Fin 1024) (k : Fin 4096) : S1024x4096.Idx := fun a => match a with
  | ⟨0, _⟩ => j
  | ⟨1, _⟩ => k
def mW2 (k : Fin 4096) (o : Fin 1024) : S4096x1024.Idx := fun a => match a with
  | ⟨0, _⟩ => k
  | ⟨1, _⟩ => o

/-- The first product at an entry: the sum over the 1024 columns. -/
theorem product1 (x : FVec Ideal S256x1024 .bf16) (w : FVec Ideal S1024x4096 .bf16) (r : Fin 256) (k : Fin 4096) :
    matmul D1 none x w (constant S256x4096 .f32 0x00000000#32) (jH r k)
      = ∑ j : Fin 1024, (x (jX r j) : EReal) * w (mW1 j k) := by
  simp only [matmul]
  rw [Ideal.matmul_constant_zero_apply, ← Equiv.sum_comp (ValueIdx.contrEquiv1 D1 1024 rfl rfl).symm]
  refine Finset.sum_congr rfl fun j _ => ?_
  have hk := ValueIdx.contrEquiv1_symm_val D1 1024 rfl rfl j
  have el : D1.lhsIdx (jH r k) ((ValueIdx.contrEquiv1 D1 1024 rfl rfl).symm j) = jX r j := funext fun a => Fin.ext (by
    match a with
    | ⟨0, _⟩ =>
      show (D1.lhsIdx (jH r k) _ 0).val = _
      unfold DotDims.lhsIdx
      rw [dif_neg (show ¬(0 : Fin S256x1024.rank) ∈ D1.lhsBatch by decide),
        dif_pos (show (0 : Fin S256x1024.rank) ∈ D1.lhsNonContracting by decide)]
      rfl
    | ⟨1, _⟩ => exact (D1.lhsIdx_val_of_single rfl _ _).trans hk)
  have er : D1.rhsIdx (jH r k) ((ValueIdx.contrEquiv1 D1 1024 rfl rfl).symm j) = mW1 j k := funext fun a => Fin.ext (by
    match a with
    | ⟨0, _⟩ => exact (D1.rhsIdx_val_of_single rfl _ _).trans hk
    | ⟨1, _⟩ =>
      show (D1.rhsIdx (jH r k) _ 1).val = _
      unfold DotDims.rhsIdx
      rw [dif_neg (show ¬(1 : Fin S1024x4096.rank) ∈ D1.rhsBatch by decide),
        dif_pos (show (1 : Fin S1024x4096.rank) ∈ D1.rhsNonContracting by decide)]
      rfl)
  rw [el, er]

/-- The second product at an entry: the sum over the 4096 hidden units. -/
theorem product2 (x : FVec Ideal S256x4096 .bf16) (w : FVec Ideal S4096x1024 .bf16) (r : Fin 256) (o : Fin 1024) :
    matmul D2 none x w (constant S256x1024 .f32 0x00000000#32) (jX r o)
      = ∑ k : Fin 4096, (x (jH r k) : EReal) * w (mW2 k o) := by
  simp only [matmul]
  rw [Ideal.matmul_constant_zero_apply, ← Equiv.sum_comp (ValueIdx.contrEquiv1 D2 4096 rfl rfl).symm]
  refine Finset.sum_congr rfl fun j _ => ?_
  have hk := ValueIdx.contrEquiv1_symm_val D2 4096 rfl rfl j
  have el : D2.lhsIdx (jX r o) ((ValueIdx.contrEquiv1 D2 4096 rfl rfl).symm j) = jH r j := funext fun a => Fin.ext (by
    match a with
    | ⟨0, _⟩ =>
      show (D2.lhsIdx (jX r o) _ 0).val = _
      unfold DotDims.lhsIdx
      rw [dif_neg (show ¬(0 : Fin S256x4096.rank) ∈ D2.lhsBatch by decide),
        dif_pos (show (0 : Fin S256x4096.rank) ∈ D2.lhsNonContracting by decide)]
      rfl
    | ⟨1, _⟩ => exact (D2.lhsIdx_val_of_single rfl _ _).trans hk)
  have er : D2.rhsIdx (jX r o) ((ValueIdx.contrEquiv1 D2 4096 rfl rfl).symm j) = mW2 j o := funext fun a => Fin.ext (by
    match a with
    | ⟨0, _⟩ => exact (D2.rhsIdx_val_of_single rfl _ _).trans hk
    | ⟨1, _⟩ =>
      show (D2.rhsIdx (jX r o) _ 1).val = _
      unfold DotDims.rhsIdx
      rw [dif_neg (show ¬(1 : Fin S4096x1024.rank) ∈ D2.rhsBatch by decide),
        dif_pos (show (1 : Fin S4096x1024.rank) ∈ D2.rhsNonContracting by decide)]
      rfl)
  rw [el, er]

/-! ## The blocks as the body reads them -/

section layout

variable {α : Type}

theorem cast_w1 (x : S1x1024x4096.Idx → α) (j : Fin 1024) (k : Fin 4096) :
    shapeCast S1024x4096 x shapeCasts_S1x1024x4096_S1024x4096 (mW1 j k) = x (jW1 j k) :=
  shapeCast_apply x shapeCasts_S1x1024x4096_S1024x4096 (mW1 j k) (jW1 j k) (by
    rewrite [Shape.rowMajor_val_three, Shape.rowMajor_val_two]
    show (0 * 1024 + j.val) * 4096 + k.val = j.val * 4096 + k.val
    omega)

theorem cast_w2 (x : S1x4096x1024.Idx → α) (k : Fin 4096) (o : Fin 1024) :
    shapeCast S4096x1024 x shapeCasts_S1x4096x1024_S4096x1024 (mW2 k o) = x (jW2 k o) :=
  shapeCast_apply x shapeCasts_S1x4096x1024_S4096x1024 (mW2 k o) (jW2 k o) (by
    rewrite [Shape.rowMajor_val_three, Shape.rowMajor_val_two]
    show (0 * 4096 + k.val) * 1024 + o.val = k.val * 1024 + o.val
    omega)

def sB1 (k : Fin 4096) : S1x4096.Idx := fun a => match a with
  | ⟨0, _⟩ => ⟨0, Nat.one_pos⟩
  | ⟨1, _⟩ => k
def sB2 (o : Fin 1024) : S1x1024.Idx := fun a => match a with
  | ⟨0, _⟩ => ⟨0, Nat.one_pos⟩
  | ⟨1, _⟩ => o

theorem bias1 (x : S1x1x4096.Idx → α) (r : Fin 256) (k : Fin 4096) :
    broadcastTo S256x4096 (shapeCast S1x4096 x shapeCasts_S1x1x4096_S1x4096) broadcasts_S1x4096_S256x4096 (jH r k)
      = x (jB1 k) := by
  rw [broadcastTo_apply _ broadcasts_S1x4096_S256x4096 (jH r k) (sB1 k) (fun a => match a with
    | ⟨0, _⟩ => by show 0 = if (1 : Nat) = 1 then 0 else _; rw [if_pos rfl]
    | ⟨1, _⟩ => by show k.val = if (4096 : Nat) = 1 then 0 else k.val; rw [if_neg (by decide)])]
  exact shapeCast_apply x shapeCasts_S1x1x4096_S1x4096 (sB1 k) (jB1 k) (by
    rewrite [Shape.rowMajor_val_three, Shape.rowMajor_val_two]
    show (0 * 1 + 0) * 4096 + k.val = 0 * 4096 + k.val
    omega)

theorem bias2 (x : S1x1x1024.Idx → α) (r : Fin 256) (o : Fin 1024) :
    broadcastTo S256x1024 (shapeCast S1x1024 x shapeCasts_S1x1x1024_S1x1024) broadcasts_S1x1024_S256x1024 (jX r o)
      = x (jB2 o) := by
  rw [broadcastTo_apply _ broadcasts_S1x1024_S256x1024 (jX r o) (sB2 o) (fun a => match a with
    | ⟨0, _⟩ => by show 0 = if (1 : Nat) = 1 then 0 else _; rw [if_pos rfl]
    | ⟨1, _⟩ => by show o.val = if (1024 : Nat) = 1 then 0 else o.val; rw [if_neg (by decide)])]
  exact shapeCast_apply x shapeCasts_S1x1x1024_S1x1024 (sB2 o) (jB2 o) (by
    rewrite [Shape.rowMajor_val_three, Shape.rowMajor_val_two]
    show (0 * 1 + 0) * 1024 + o.val = 0 * 1024 + o.val
    omega)

end layout

/-- The number one, as the body spells it. -/
theorem one_bf16 : Ideal.ofBits .bf16 0x3F80#16 = 1 := by
  simp [Ideal.ofBits, Ideal.ieee, -EReal.coe_mul] <;> norm_num

/-- What the body stores, at an entry. -/
theorem pay_apply (x0 : Vec Ideal S256x1024 .f32) (x1 : Vec Ideal S1x1024x4096 .bf16) (x2 : Vec Ideal S1x1x4096 .f32)
    (x3 : Vec Ideal S1x4096x1024 .bf16) (x4 : Vec Ideal S1x1x1024 .f32) (r : Fin 256) (o : Fin 1024) :
    k0_pay1 x0 x1 x2 x3 x4 (jX r o)
      = (∑ k : Fin 4096, act ((∑ j : Fin 1024, (x0 (jX r j) : EReal) * x1 (jW1 j k)) + x2 (jB1 k)) * (x3 (jW2 k o) : EReal))
        + x4 (jB2 o) := by
  unfold k0_pay1
  show (matmul (F := Ideal) D2 none _ _ (constant S256x1024 .f32 0x00000000#32) (jX r o) : EReal)
    + broadcastTo S256x1024 (shapeCast S1x1024 x4 shapeCasts_S1x1x1024_S1x1024) broadcasts_S1x1024_S256x1024 (jX r o) = _
  rw [product2, bias2]
  congr 1
  refine Finset.sum_congr rfl fun k _ => ?_
  rw [cast_w2]
  refine congrArg (fun s : EReal => s * _) ?_
  have hpre : addf (F := Ideal) (matmul (F := Ideal) (φ₂ := .bf16) D1 none (truncf .bf16 x0 bitsLt_bf16_f32)
        (shapeCast S1024x4096 x1 shapeCasts_S1x1024x4096_S1024x4096) (constant S256x4096 .f32 0x00000000#32))
        (broadcastTo S256x4096 (shapeCast S1x4096 x2 shapeCasts_S1x1x4096_S1x4096) broadcasts_S1x4096_S256x4096) (jH r k)
      = (∑ j : Fin 1024, (x0 (jX r j) : EReal) * x1 (jW1 j k)) + x2 (jB1 k) := by
    show (matmul (F := Ideal) D1 none _ _ (constant S256x4096 .f32 0x00000000#32) (jH r k) : EReal)
      + broadcastTo S256x4096 (shapeCast S1x4096 x2 shapeCasts_S1x1x4096_S1x4096) broadcasts_S1x4096_S256x4096 (jH r k) = _
    rw [product1, bias1]
    congr 1
    refine Finset.sum_congr rfl fun j _ => ?_
    rw [cast_w1]
    rfl
  rw [← hpre]
  unfold act
  rw [← one_bf16]
  rfl

end Cert.Proof.ExpertsIdeal

end
-- ==== Proof.ExpertsIdealValue.lean ====
/-
  The expert layers over the extended reals, as a whole: what the grid's points leave in the output, put together, is
  every row through its own expert (`final`), and the run ends with it (`run_main`).
-/
module

public import proofs.«01_k».proof.Proof.ExpertsIdealBody
public import proofs.«01_k».proof.Proof.ExpertsIdealTable
public import Idealize.ShloMosaic.Lib.Pipeline.ValueKit.Geometry

@[expose] public section

noncomputable section

namespace Cert.Proof.ExpertsIdeal

open Idealize.ShloMosaic Idealize.ShloMosaic.TcCoe Idealize.SL.Sem Cert.ExpertsIdeal Cert.ExpertsIdeal.Gen
open Cert.Proof.ExpertsSpec

/-! ## Where the blocks lie -/

set_option maxRecDepth 16384 in
theorem map0 : ∀ t : Fin grid0.N, cc0_transform_0 (grid0.coords t) = ![t.val, 0] := by decide +kernel

set_option maxRecDepth 16384 in
theorem map5 : ∀ t : Fin grid0.N, cc0_transform_5 (grid0.coords t) = ![t.val, 0] := by decide +kernel

set_option maxRecDepth 16384 in
theorem place : ∀ t : Fin grid0.N, k0_off1 (grid0.coords t) 0 = t.val := by decide +kernel

/-- Row `r` of row block `t`. -/
def rowOf (t : Fin grid0.N) (r : Fin 256) : Fin 18432 :=
  ⟨t.val * 256 + r.val, by have ht : t.val < 72 := N_0 ▸ t.isLt; have hr := r.isLt; omega⟩

/-- A point as a row block's number. -/
def blockAt (t : Fin grid0.N) : Fin 72 := ⟨t.val, N_0 ▸ t.isLt⟩

theorem blockOf_rowOf (t : Fin grid0.N) (r : Fin 256) : blockOf (rowOf t r) = blockAt t := Fin.ext (by
  have hr := r.isLt
  show (t.val * 256 + r.val) / 256 = t.val
  omega)

/-- The entry the index maps read at point `t` is entry `t` of the list. -/
theorem entry_eq (t : Fin grid0.N) :
    (Rect.unit (s := S72) (k0_off1 (grid0.coords t)) S1.size (k0_off1_inb (grid0.coords t))).emb
      (Shape.Idx.first (numel1_S1.symm ▸ Nat.one_pos)) = ixT (blockAt t) := funext fun a => Fin.ext (by
  rw [Rect.emb_apply]
  match a with
  | ⟨0, _⟩ =>
    have first : ∀ i : S1.Idx, (i 0).val = 0 := fun i => Nat.lt_one_iff.mp (i 0).isLt
    show k0_off1 (grid0.coords t) 0 + 1 * (Shape.Idx.first (s := S1) (numel1_S1.symm ▸ Nat.one_pos) 0).val = t.val
    rw [place t, first]
    rfl)

theorem word_eq {F : FTy → Type} [FloatOps F] (pf : pre0.Contents (Elt F)) (t : Fin grid0.N) :
    word pf (grid0.coords t) = pf 0 (ixT (blockAt t)) := congrArg (pf 0) (entry_eq t)

variable (m : (ℓ : Loc nD τ sig) → Buf (Elt Ideal) ℓ)

/-! ## The arrays the grid finds -/

/-- Expert `e`, hidden unit `k` of the first biases, and column `o` of the second, with the axis of one between. -/
def ixB1' (e : Fin 8) (k : Fin 4096) : S8x1x4096.Idx := fun a => match a with
  | ⟨0, _⟩ => e
  | ⟨1, _⟩ => ⟨0, Nat.one_pos⟩
  | ⟨2, _⟩ => k
def ixB2' (e : Fin 8) (o : Fin 1024) : S8x1x1024.Idx := fun a => match a with
  | ⟨0, _⟩ => e
  | ⟨1, _⟩ => ⟨0, Nat.one_pos⟩
  | ⟨2, _⟩ => o

section layout

variable {α : Type}

theorem swap1 (x : S8x4096x1024.Idx → α) (e : Fin 8) (j : Fin 1024) (k : Fin 4096) :
    transpose S8x1024x4096 [0, 2, 1] x transposes_S8x4096x1024_S8x1024x4096_0_2_1 (ixW2 e j k) = x (ixW1 e k j) :=
  transpose_apply [0, 2, 1] x transposes_S8x4096x1024_S8x1024x4096_0_2_1 (ixW2 e j k) (ixW1 e k j) (fun b => match b with
    | ⟨0, _⟩ => rfl
    | ⟨1, _⟩ => rfl
    | ⟨2, _⟩ => rfl)

theorem swap2 (x : S8x1024x4096.Idx → α) (e : Fin 8) (k : Fin 4096) (o : Fin 1024) :
    transpose S8x4096x1024 [0, 2, 1] x transposes_S8x1024x4096_S8x4096x1024_0_2_1 (ixW1 e k o) = x (ixW2 e o k) :=
  transpose_apply [0, 2, 1] x transposes_S8x1024x4096_S8x4096x1024_0_2_1 (ixW1 e k o) (ixW2 e o k) (fun b => match b with
    | ⟨0, _⟩ => rfl
    | ⟨1, _⟩ => rfl
    | ⟨2, _⟩ => rfl)

theorem cast_b1 (x : S8x4096.Idx → α) (e : Fin 8) (k : Fin 4096) :
    shapeCast S8x1x4096 x shapeCasts_S8x4096_S8x1x4096 (ixB1' e k) = x (ixB1 e k) :=
  shapeCast_apply x shapeCasts_S8x4096_S8x1x4096 (ixB1' e k) (ixB1 e k) (by
    rewrite [Shape.rowMajor_val_three, Shape.rowMajor_val_two]
    show e.val * 4096 + k.val = (e.val * 1 + 0) * 4096 + k.val
    omega)

theorem cast_b2 (x : S8x1024.Idx → α) (e : Fin 8) (o : Fin 1024) :
    shapeCast S8x1x1024 x shapeCasts_S8x1024_S8x1x1024 (ixB2' e o) = x (ixB2 e o) :=
  shapeCast_apply x shapeCasts_S8x1024_S8x1x1024 (ixB2' e o) (ixB2 e o) (by
    rewrite [Shape.rowMajor_val_three, Shape.rowMajor_val_two]
    show e.val * 1024 + o.val = (e.val * 1 + 0) * 1024 + o.val
    omega)

end layout

theorem found1 (c : Dev nD) (e : Fin 8) (j : Fin 1024) (k : Fin 4096) :
    (V m c main_v1 (ixW2 e j k) : EReal) = m ((c : Thread nD τ).loc main_arg1) (ixW1 e k j) := by
  have h : V m c main_v1 = truncf (F := Ideal) .bf16 (transpose S8x1024x4096 [0, 2, 1] (m ((c : Thread nD τ).loc main_arg1))
      transposes_S8x4096x1024_S8x1024x4096_0_2_1) bitsLt_bf16_f32 := by
    show StableHlo.after hostOps0 _ (Proc.devRef .tc main_v1) = _
    simp only [hostOps0]
    after_results_simp
  rw [h]
  exact swap1 _ e j k

theorem found3 (c : Dev nD) (e : Fin 8) (k : Fin 4096) (o : Fin 1024) :
    (V m c main_v3 (ixW1 e k o) : EReal) = m ((c : Thread nD τ).loc main_arg3) (ixW2 e o k) := by
  have h : V m c main_v3 = truncf (F := Ideal) .bf16 (transpose S8x4096x1024 [0, 2, 1] (m ((c : Thread nD τ).loc main_arg3))
      transposes_S8x1024x4096_S8x4096x1024_0_2_1) bitsLt_bf16_f32 := by
    show StableHlo.after hostOps0 _ (Proc.devRef .tc main_v3) = _
    simp only [hostOps0]
    after_results_simp
  rw [h]
  exact swap2 _ e k o

theorem found4 (c : Dev nD) (e : Fin 8) (k : Fin 4096) :
    (V m c main_v4 (ixB1' e k) : EReal) = m ((c : Thread nD τ).loc main_arg2) (ixB1 e k) := by
  have h : V m c main_v4 = shapeCast S8x1x4096 (m ((c : Thread nD τ).loc main_arg2)) shapeCasts_S8x4096_S8x1x4096 := by
    show StableHlo.after hostOps0 _ (Proc.devRef .tc main_v4) = _
    simp only [hostOps0]
    after_results_simp
    rfl
  rw [h]
  exact cast_b1 _ e k

theorem found5 (c : Dev nD) (e : Fin 8) (o : Fin 1024) :
    (V m c main_v5 (ixB2' e o) : EReal) = m ((c : Thread nD τ).loc main_arg4) (ixB2 e o) := by
  have h : V m c main_v5 = shapeCast S8x1x1024 (m ((c : Thread nD τ).loc main_arg4)) shapeCasts_S8x1024_S8x1x1024 := by
    show StableHlo.after hostOps0 _ (Proc.devRef .tc main_v5) = _
    simp only [hostOps0]
    after_results_simp
    rfl
  rw [h]
  exact cast_b2 _ e o

/-! ## The blocks of a point -/

theorem iblk0 (hO : Ok m) (c : Dev nD) (t : Fin (cfgM m hO).N) (r : Fin 256) (j : Fin 1024) :
    iblk m hO c 0 t (jX r j) = m ((c : Thread nD τ).loc main_arg0) (ixX (rowOf t r) j) := by
  rw [← V_main_arg0 m c]
  show V m c main_arg0 ((((cfgM m hO).win 0).blk t).view.emb (jX r j)) = _
  refine congrArg (V m c main_arg0) (funext fun a => Fin.ext ?_)
  match a with
  | ⟨0, _⟩ =>
    show cc0_transform_0 (grid0.coords t) 0 * 256 + 1 * r.val = t.val * 256 + r.val
    rw [map0 t]
    show t.val * 256 + 1 * r.val = _
    omega
  | ⟨1, _⟩ =>
    show cc0_transform_0 (grid0.coords t) 1 * 1024 + 1 * j.val = j.val
    rw [map0 t]
    show 0 * 1024 + 1 * j.val = _
    omega

theorem iblk1 (hO : Ok m) (c : Dev nD) (t : Fin (cfgM m hO).N) (e : Fin 8)
    (he : (word (tbl m) (grid0.coords t)).toNat = e.val) (j : Fin 1024) (k : Fin 4096) :
    (iblk m hO c 1 t (jW1 j k) : EReal) = m ((c : Thread nD τ).loc main_arg1) (ixW1 e k j) := by
  rw [← found1 m c e j k]
  show V m c main_v1 ((((cfgM m hO).win 1).blk t).view.emb (jW1 j k)) = _
  refine congrArg (V m c main_v1) (funext fun a => Fin.ext ?_)
  match a with
  | ⟨0, _⟩ =>
    show (word (tbl m) (grid0.coords t)).toNat * 1 + 1 * 0 = e.val
    omega
  | ⟨1, _⟩ =>
    show 0 * 1024 + 1 * j.val = j.val
    omega
  | ⟨2, _⟩ =>
    show 0 * 4096 + 1 * k.val = k.val
    omega

theorem iblk2 (hO : Ok m) (c : Dev nD) (t : Fin (cfgM m hO).N) (e : Fin 8)
    (he : (word (tbl m) (grid0.coords t)).toNat = e.val) (k : Fin 4096) :
    (iblk m hO c 2 t (jB1 k) : EReal) = m ((c : Thread nD τ).loc main_arg2) (ixB1 e k) := by
  rw [← found4 m c e k]
  show V m c main_v4 ((((cfgM m hO).win 2).blk t).view.emb (jB1 k)) = _
  refine congrArg (V m c main_v4) (funext fun a => Fin.ext ?_)
  match a with
  | ⟨0, _⟩ =>
    show (word (tbl m) (grid0.coords t)).toNat * 1 + 1 * 0 = e.val
    omega
  | ⟨1, _⟩ => rfl
  | ⟨2, _⟩ =>
    show 0 * 4096 + 1 * k.val = k.val
    omega

theorem iblk3 (hO : Ok m) (c : Dev nD) (t : Fin (cfgM m hO).N) (e : Fin 8)
    (he : (word (tbl m) (grid0.coords t)).toNat = e.val) (k : Fin 4096) (o : Fin 1024) :
    (iblk m hO c 3 t (jW2 k o) : EReal) = m ((c : Thread nD τ).loc main_arg3) (ixW2 e o k) := by
  rw [← found3 m c e k o]
  show V m c main_v3 ((((cfgM m hO).win 3).blk t).view.emb (jW2 k o)) = _
  refine congrArg (V m c main_v3) (funext fun a => Fin.ext ?_)
  match a with
  | ⟨0, _⟩ =>
    show (word (tbl m) (grid0.coords t)).toNat * 1 + 1 * 0 = e.val
    omega
  | ⟨1, _⟩ =>
    show 0 * 4096 + 1 * k.val = k.val
    omega
  | ⟨2, _⟩ =>
    show 0 * 1024 + 1 * o.val = o.val
    omega

theorem iblk4 (hO : Ok m) (c : Dev nD) (t : Fin (cfgM m hO).N) (e : Fin 8)
    (he : (word (tbl m) (grid0.coords t)).toNat = e.val) (o : Fin 1024) :
    (iblk m hO c 4 t (jB2 o) : EReal) = m ((c : Thread nD τ).loc main_arg4) (ixB2 e o) := by
  rw [← found5 m c e o]
  show V m c main_v5 ((((cfgM m hO).win 4).blk t).view.emb (jB2 o)) = _
  refine congrArg (V m c main_v5) (funext fun a => Fin.ext ?_)
  match a with
  | ⟨0, _⟩ =>
    show (word (tbl m) (grid0.coords t)).toNat * 1 + 1 * 0 = e.val
    omega
  | ⟨1, _⟩ => rfl
  | ⟨2, _⟩ =>
    show 0 * 1024 + 1 * o.val = o.val
    omega

/-! ## The output -/

/-- The result on device `c`, of the arguments. -/
def res (c : Dev nD) : Vec Ideal S18432x1024 .f32 :=
  output (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem expertOf_rowOf (tab : Vec Ideal S72 .i32) (t : Fin grid0.N) (r : Fin 256) :
    (expertOf tab (rowOf t r)).val = BitVec.toNat (w := 32) (tab (ixT (blockAt t))) % 8 := by
  show BitVec.toNat (w := 32) (tab (ixT (blockOf (rowOf t r)))) % 8 = _
  rw [blockOf_rowOf]

/-- The expert of a point's rows is the word its index maps read. -/
theorem expert_at (c : Dev nD) (h : ∀ j : S72.Idx, BitVec.toNat (w := 32) (m ((c : Thread nD τ).loc main_arg5) j) < 8)
    (t : Fin grid0.N) (r : Fin 256) :
    (word (tbl m) (grid0.coords t)).toNat = (expertOf (m ((c : Thread nD τ).loc main_arg5)) (rowOf t r)).val := by
  obtain rfl : c = 0 := Subsingleton.elim _ _
  rw [expertOf_rowOf, word_eq]
  show BitVec.toNat (w := 32) (V m 0 main_arg5 (ixT (blockAt t))) = _
  rw [V_main_arg5]
  exact (Nat.mod_eq_of_lt (h _)).symm

/-- What a point leaves, at an entry. -/
theorem point_eq (hO : Ok m) (c : Dev nD)
    (h : ∀ j : S72.Idx, BitVec.toNat (w := 32) (m ((c : Thread nD τ).loc main_arg5) j) < 8)
    (t : Fin (cfgM m hO).N) (r : Fin 256) (o : Fin 1024) :
    outsAt0 m hO c t (jX r o) = res m c (ixX (rowOf t r) o) := by
  have he := expert_at m c h t r
  unfold outsAt0
  refine (congrFun (out_eq c (grid0.coords t) _ _ _ _ _ _ _ _ _ _ _ _ _ _ _ _ _ _) (jX r o)).trans ?_
  refine (pay_apply _ _ _ _ _ r o).trans ?_
  show _ = layer _ _ _ _ _ (expertOf _ (rowOf t r)) (rowOf t r) o
  unfold layer
  rw [iblk4 m hO c t _ he]
  refine congrArg (fun s : EReal => s + _) (Finset.sum_congr rfl fun k _ => ?_)
  rw [iblk3 m hO c t _ he]
  refine congrArg (fun s : EReal => s * _) (congrArg act ?_)
  rw [iblk2 m hO c t _ he]
  refine congrArg (fun s : EReal => s + _) (Finset.sum_congr rfl fun j _ => ?_)
  rw [iblk1 m hO c t _ he, iblk0]

/-- The output array after every point. -/
theorem final (hO : Ok m) (c : Dev nD)
    (h : ∀ j : S72.Idx, BitVec.toNat (w := 32) (m ((c : Thread nD τ).loc main_arg5) j) < 8) :
    (dats m hO 0 c).arrAt 5 (cfgM m hO).N = res m c := by
  refine (dats m hO 0 c).arrAt_eq_of_emb 5 (res m c) (fun t _ (y : S256x1024.Idx) => ?_)
    (fun (i : S18432x1024.Idx) => ?_)
  · show (dats m hO 0 c).after 5 t y = _
    rw [after0_5]
    have hy : y = jX (y 0) (y 1) := funext fun a => by
      match a with
      | ⟨0, _⟩ => rfl
      | ⟨1, _⟩ => rfl
    refine (congrArg (outsAt0 m hO c t) hy).trans ((point_eq m hO c h t (y 0) (y 1)).trans ?_)
    refine congrArg (res m c) (funext fun a => Fin.ext ?_)
    match a with
    | ⟨0, _⟩ =>
      show t.val * 256 + (y 0).val = cc0_transform_5 (grid0.coords t) 0 * 256 + 1 * (y 0).val
      rw [map5 t]
      show _ = t.val * 256 + 1 * (y 0).val
      omega
    | ⟨1, _⟩ =>
      show (y 1).val = cc0_transform_5 (grid0.coords t) 1 * 1024 + 1 * (y 1).val
      rw [map5 t]
      show _ = 0 * 1024 + 1 * (y 1).val
      omega
  · have h0 : (i 0).val < 18432 := (i 0).isLt
    have h1 : (i 1).val < 1024 := (i 1).isLt
    have ht : (i 0).val / 256 < grid0.N := by rw [N_0]; omega
    refine ⟨⟨(i 0).val / 256, ht⟩, flush0_5 _ _, ?_⟩
    show i ∈ ((View.whole main_v6).slice (((cfgM m hO).win 5).rect ⟨(i 0).val / 256, ht⟩)).set
    refine (congrArg (i ∈ ·) (View.set_slice_whole _ _)).mpr (Rect.mem_set_unit.mpr fun a => ?_)
    match a with
    | ⟨0, _⟩ =>
      show cc0_transform_5 (grid0.coords ⟨(i 0).val / 256, ht⟩) 0 * 256 ≤ (i 0).val
        ∧ (i 0).val < cc0_transform_5 (grid0.coords ⟨(i 0).val / 256, ht⟩) 0 * 256 + 256
      rw [map5]
      show (i 0).val / 256 * 256 ≤ (i 0).val ∧ (i 0).val < (i 0).val / 256 * 256 + 256
      omega
    | ⟨1, _⟩ =>
      show cc0_transform_5 (grid0.coords ⟨(i 0).val / 256, ht⟩) 1 * 1024 ≤ (i 1).val
        ∧ (i 1).val < cc0_transform_5 (grid0.coords ⟨(i 0).val / 256, ht⟩) 1 * 1024 + 1024
      rw [map5]
      show 0 * 1024 ≤ (i 1).val ∧ (i 1).val < 0 * 1024 + 1024
      omega

variable (ρ : Dev nD → PrngReg)

/-- The run: the result, and the arguments unchanged. -/
theorem run_value (h : ∀ (c : Dev nD) (j : S72.Idx), BitVec.toNat (w := 32) (m ((c : Thread nD τ).loc main_arg5) j) < 8)
    (hO : Ok m) :
    θ_run defs (onTc (τ := τ) (main (F := Ideal))) ⟨m, fun _ => 0, ρ⟩ (fun r => ∀ c : Dev nD,
      r.2.mem ((c.tc : Thread nD τ).loc main_v6) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ q c => ⟨((q c).1 5).trans (final m hO c (h c)),
      ((q c).1 0).trans (((dats m hO 0 c).arrAt_in 0 rfl _).trans ((A_eq m hO c 0).trans (V_main_arg0 m c))),
      ((q c).2 main_arg1 (by decide : main_arg1 ∈ Pipeline.restRefs sig spec0)).trans (V_main_arg1 m c),
      ((q c).2 main_arg2 (by decide : main_arg2 ∈ Pipeline.restRefs sig spec0)).trans (V_main_arg2 m c),
      ((q c).2 main_arg3 (by decide : main_arg3 ∈ Pipeline.restRefs sig spec0)).trans (V_main_arg3 m c),
      ((q c).2 main_arg4 (by decide : main_arg4 ∈ Pipeline.restRefs sig spec0)).trans (V_main_arg4 m c),
      ((q c).2 main_arg5 (by decide : main_arg5 ∈ Pipeline.restRefs sig spec0)).trans (V_main_arg5 m c)⟩)
    (run_main m ρ hO)

end Cert.Proof.ExpertsIdeal

end
-- ==== Proof.ExpertsReference.lean ====
/-
  The reference of the expert layers, entry by entry: each expert's output is its layer of the row, and the choice
  between them by the row's expert number leaves the one expert the list names.
-/
module

public import proofs.«01_k».proof.Proof.ExpertsSpec
public import proofs.«01_k».proof.Proof.Gen.ExpertsReferenceIdeal.Read
public import Idealize.ShloMosaic.PureOps.Ideal.Laws

@[expose] public section

noncomputable section

namespace Cert.Proof.ExpertsReference

open Idealize.ShloMosaic Cert.ExpertsReferenceIdeal Cert.ExpertsReferenceIdeal.Gen Cert.ExpertsReferenceIdeal.Read
open Cert.Proof.ExpertsSpec

/-- The reference's GELU, with the complementary error function, is the one with the error function. -/
theorem gelu (h : Ideal .f32) :
    FloatOps.mulf (FloatOps.mulf (FloatOps.ofBits (F := Ideal) .f32 0x3F000000#32) h)
      (FloatOps.hostUnary .erfc (FloatOps.mulf (FloatOps.hostNegf h) (FloatOps.ofBits (F := Ideal) .f32 0x3F3504F3#32)))
      = act h := by
  simp only [Ideal.mulf_def, Ideal.hostUnary_erfc_def, Ideal.hostNegf_def, Ideal.negf_def, EReal.neg_mul, Ideal.erfc_neg]
  rfl

/-- The expert number of a row, as the reference spreads the list over the rows. -/
theorem number (x5 : Vec Ideal S72 .i32) (i : S18432.Idx) :
    val_main_v1 (F := Ideal) x5 i = x5 (ixT (blockOf (i 0))) := by
  rw [val_main_v1_apply, val_main_v0_apply]
  exact congrArg x5 (funext fun a => Fin.ext (by
    match a with
    | ⟨0, _⟩ => rfl))

variable (x0 : Vec Ideal S18432x1024 .f32) (x1 : Vec Ideal S8x4096x1024 .f32) (x2 : Vec Ideal S8x4096 .f32)
  (x3 : Vec Ideal S8x1024x4096 .f32) (x4 : Vec Ideal S8x1024 .f32) (x5 : Vec Ideal S72 .i32)

/-! ## Expert 0 -/

theorem w1_0 (q : S1024x4096.Idx) : val_main_v5 (F := Ideal) x1 q = x1 (ixW1 0 (q 1) (q 0)) := by
  rw [val_main_v5_apply, val_main_v4_apply, val_main_v3_apply]
  exact congrArg x1 (funext fun a => Fin.ext (by
    have h0 : (q 0).val < 1024 := (q 0).isLt
    have h1 : (q 1).val < 4096 := (q 1).isLt
    match a with
    | ⟨0, _⟩ => rfl
    | ⟨1, _⟩ => show ((q 1).val * 1024 + (q 0).val) / 1024 % 4096 = (q 1).val; omega
    | ⟨2, _⟩ => show ((q 1).val * 1024 + (q 0).val) % 1024 = (q 0).val; omega))

theorem b1_0 (q : S18432x4096.Idx) : val_main_v10 (F := Ideal) x2 q = x2 (ixB1 0 (q 1)) := by
  rw [val_main_v10_apply, val_main_v9_apply, val_main_v8_apply, val_main_v7_apply]
  exact congrArg x2 (funext fun a => Fin.ext (by
    have h1 : (q 1).val < 4096 := (q 1).isLt
    match a with
    | ⟨0, _⟩ => rfl
    | ⟨1, _⟩ => show (q 1).val % 4096 = (q 1).val; omega))

theorem w2_0 (q : S4096x1024.Idx) : val_main_v21 (F := Ideal) x3 q = x3 (ixW2 0 (q 1) (q 0)) := by
  rw [val_main_v21_apply, val_main_v20_apply, val_main_v19_apply]
  exact congrArg x3 (funext fun a => Fin.ext (by
    have h0 : (q 0).val < 4096 := (q 0).isLt
    have h1 : (q 1).val < 1024 := (q 1).isLt
    match a with
    | ⟨0, _⟩ => rfl
    | ⟨1, _⟩ => show ((q 1).val * 4096 + (q 0).val) / 4096 % 1024 = (q 1).val; omega
    | ⟨2, _⟩ => show ((q 1).val * 4096 + (q 0).val) % 4096 = (q 0).val; omega))

theorem b2_0 (q : S18432x1024.Idx) : val_main_v26 (F := Ideal) x4 q = x4 (ixB2 0 (q 1)) := by
  rw [val_main_v26_apply, val_main_v25_apply, val_main_v24_apply, val_main_v23_apply]
  exact congrArg x4 (funext fun a => Fin.ext (by
    have h1 : (q 1).val < 1024 := (q 1).isLt
    match a with
    | ⟨0, _⟩ => rfl
    | ⟨1, _⟩ => show (q 1).val % 1024 = (q 1).val; omega))

theorem hidden_0 (q : S18432x4096.Idx) : val_main_v18 (F := Ideal) x0 x1 x2 q = hidden x0 x1 x2 0 (q 0) (q 1) := by
  rw [val_main_v18_apply, val_main_v17_apply, val_main_v16_apply, val_main_v15_apply, val_main_v14_apply, val_main_v13_apply, val_main_v12_apply]
  refine (gelu _).trans (congrArg act ?_)
  rw [val_main_v11_apply, val_main_v6_apply, b1_0]
  refine congrArg (fun s : EReal => s + _) (Finset.sum_congr rfl fun j _ => ?_)
  rw [w1_0]
  exact congrArg (fun s => (x0 s : EReal) * _) (funext fun a => by match a with
    | ⟨0, _⟩ => rfl
    | ⟨1, _⟩ => rfl)

theorem layer_0 (q : S18432x1024.Idx) :
    val_main_v27 (F := Ideal) x0 x1 x2 x3 x4 q = layer x0 x1 x2 x3 x4 0 (q 0) (q 1) := by
  rw [val_main_v27_apply, val_main_v22_apply, b2_0]
  refine congrArg (fun s : EReal => s + _) (Finset.sum_congr rfl fun k _ => ?_)
  rw [w2_0, hidden_0]
  rfl

theorem here_0 (q : S18432x1024.Idx) :
    val_main_call0_v0 (F := Ideal) x5 q = IntOp.cmpi .eq (x5 (ixT (blockOf (q 0)))) 0#32 := by
  rw [val_main_call0_v0_apply, val_main_v30_apply, val_main_v29_apply, val_main_v28_apply, number]
  rfl

/-! ## Expert 1 -/

theorem w1_1 (q : S1024x4096.Idx) : val_main_v34 (F := Ideal) x1 q = x1 (ixW1 1 (q 1) (q 0)) := by
  rw [val_main_v34_apply, val_main_v33_apply, val_main_v32_apply]
  exact congrArg x1 (funext fun a => Fin.ext (by
    have h0 : (q 0).val < 1024 := (q 0).isLt
    have h1 : (q 1).val < 4096 := (q 1).isLt
    match a with
    | ⟨0, _⟩ => rfl
    | ⟨1, _⟩ => show ((q 1).val * 1024 + (q 0).val) / 1024 % 4096 = (q 1).val; omega
    | ⟨2, _⟩ => show ((q 1).val * 1024 + (q 0).val) % 1024 = (q 0).val; omega))

theorem b1_1 (q : S18432x4096.Idx) : val_main_v39 (F := Ideal) x2 q = x2 (ixB1 1 (q 1)) := by
  rw [val_main_v39_apply, val_main_v38_apply, val_main_v37_apply, val_main_v36_apply]
  exact congrArg x2 (funext fun a => Fin.ext (by
    have h1 : (q 1).val < 4096 := (q 1).isLt
    match a with
    | ⟨0, _⟩ => rfl
    | ⟨1, _⟩ => show (q 1).val % 4096 = (q 1).val; omega))

theorem w2_1 (q : S4096x1024.Idx) : val_main_v50 (F := Ideal) x3 q = x3 (ixW2 1 (q 1) (q 0)) := by
  rw [val_main_v50_apply, val_main_v49_apply, val_main_v48_apply]
  exact congrArg x3 (funext fun a => Fin.ext (by
    have h0 : (q 0).val < 4096 := (q 0).isLt
    have h1 : (q 1).val < 1024 := (q 1).isLt
    match a with
    | ⟨0, _⟩ => rfl
    | ⟨1, _⟩ => show ((q 1).val * 4096 + (q 0).val) / 4096 % 1024 = (q 1).val; omega
    | ⟨2, _⟩ => show ((q 1).val * 4096 + (q 0).val) % 4096 = (q 0).val; omega))

theorem b2_1 (q : S18432x1024.Idx) : val_main_v55 (F := Ideal) x4 q = x4 (ixB2 1 (q 1)) := by
  rw [val_main_v55_apply, val_main_v54_apply, val_main_v53_apply, val_main_v52_apply]
  exact congrArg x4 (funext fun a => Fin.ext (by
    have h1 : (q 1).val < 1024 := (q 1).isLt
    match a with
    | ⟨0, _⟩ => rfl
    | ⟨1, _⟩ => show (q 1).val % 1024 = (q 1).val; omega))

theorem hidden_1 (q : S18432x4096.Idx) : val_main_v47 (F := Ideal) x0 x1 x2 q = hidden x0 x1 x2 1 (q 0) (q 1) := by
  rw [val_main_v47_apply, val_main_v46_apply, val_main_v45_apply, val_main_v44_apply, val_main_v43_apply, val_main_v42_apply, val_main_v41_apply]
  refine (gelu _).trans (congrArg act ?_)
  rw [val_main_v40_apply, val_main_v35_apply, b1_1]
  refine congrArg (fun s : EReal => s + _) (Finset.sum_congr rfl fun j _ => ?_)
  rw [w1_1]
  exact congrArg (fun s => (x0 s : EReal) * _) (funext fun a => by match a with
    | ⟨0, _⟩ => rfl
    | ⟨1, _⟩ => rfl)

theorem layer_1 (q : S18432x1024.Idx) :
    val_main_v56 (F := Ideal) x0 x1 x2 x3 x4 q = layer x0 x1 x2 x3 x4 1 (q 0) (q 1) := by
  rw [val_main_v56_apply, val_main_v51_apply, b2_1]
  refine congrArg (fun s : EReal => s + _) (Finset.sum_congr rfl fun k _ => ?_)
  rw [w2_1, hidden_1]
  rfl

theorem here_1 (q : S18432x1024.Idx) :
    val_main_call1_v0 (F := Ideal) x5 q = IntOp.cmpi .eq (x5 (ixT (blockOf (q 0)))) 1#32 := by
  rw [val_main_call1_v0_apply, val_main_v59_apply, val_main_v58_apply, val_main_v57_apply, number]
  rfl

/-! ## Expert 2 -/

theorem w1_2 (q : S1024x4096.Idx) : val_main_v63 (F := Ideal) x1 q = x1 (ixW1 2 (q 1) (q 0)) := by
  rw [val_main_v63_apply, val_main_v62_apply, val_main_v61_apply]
  exact congrArg x1 (funext fun a => Fin.ext (by
    have h0 : (q 0).val < 1024 := (q 0).isLt
    have h1 : (q 1).val < 4096 := (q 1).isLt
    match a with
    | ⟨0, _⟩ => rfl
    | ⟨1, _⟩ => show ((q 1).val * 1024 + (q 0).val) / 1024 % 4096 = (q 1).val; omega
    | ⟨2, _⟩ => show ((q 1).val * 1024 + (q 0).val) % 1024 = (q 0).val; omega))

theorem b1_2 (q : S18432x4096.Idx) : val_main_v68 (F := Ideal) x2 q = x2 (ixB1 2 (q 1)) := by
  rw [val_main_v68_apply, val_main_v67_apply, val_main_v66_apply, val_main_v65_apply]
  exact congrArg x2 (funext fun a => Fin.ext (by
    have h1 : (q 1).val < 4096 := (q 1).isLt
    match a with
    | ⟨0, _⟩ => rfl
    | ⟨1, _⟩ => show (q 1).val % 4096 = (q 1).val; omega))

theorem w2_2 (q : S4096x1024.Idx) : val_main_v79 (F := Ideal) x3 q = x3 (ixW2 2 (q 1) (q 0)) := by
  rw [val_main_v79_apply, val_main_v78_apply, val_main_v77_apply]
  exact congrArg x3 (funext fun a => Fin.ext (by
    have h0 : (q 0).val < 4096 := (q 0).isLt
    have h1 : (q 1).val < 1024 := (q 1).isLt
    match a with
    | ⟨0, _⟩ => rfl
    | ⟨1, _⟩ => show ((q 1).val * 4096 + (q 0).val) / 4096 % 1024 = (q 1).val; omega
    | ⟨2, _⟩ => show ((q 1).val * 4096 + (q 0).val) % 4096 = (q 0).val; omega))

theorem b2_2 (q : S18432x1024.Idx) : val_main_v84 (F := Ideal) x4 q = x4 (ixB2 2 (q 1)) := by
  rw [val_main_v84_apply, val_main_v83_apply, val_main_v82_apply, val_main_v81_apply]
  exact congrArg x4 (funext fun a => Fin.ext (by
    have h1 : (q 1).val < 1024 := (q 1).isLt
    match a with
    | ⟨0, _⟩ => rfl
    | ⟨1, _⟩ => show (q 1).val % 1024 = (q 1).val; omega))

theorem hidden_2 (q : S18432x4096.Idx) : val_main_v76 (F := Ideal) x0 x1 x2 q = hidden x0 x1 x2 2 (q 0) (q 1) := by
  rw [val_main_v76_apply, val_main_v75_apply, val_main_v74_apply, val_main_v73_apply, val_main_v72_apply, val_main_v71_apply, val_main_v70_apply]
  refine (gelu _).trans (congrArg act ?_)
  rw [val_main_v69_apply, val_main_v64_apply, b1_2]
  refine congrArg (fun s : EReal => s + _) (Finset.sum_congr rfl fun j _ => ?_)
  rw [w1_2]
  exact congrArg (fun s => (x0 s : EReal) * _) (funext fun a => by match a with
    | ⟨0, _⟩ => rfl
    | ⟨1, _⟩ => rfl)

theorem layer_2 (q : S18432x1024.Idx) :
    val_main_v85 (F := Ideal) x0 x1 x2 x3 x4 q = layer x0 x1 x2 x3 x4 2 (q 0) (q 1) := by
  rw [val_main_v85_apply, val_main_v80_apply, b2_2]
  refine congrArg (fun s : EReal => s + _) (Finset.sum_congr rfl fun k _ => ?_)
  rw [w2_2, hidden_2]
  rfl

theorem here_2 (q : S18432x1024.Idx) :
    val_main_call2_v0 (F := Ideal) x5 q = IntOp.cmpi .eq (x5 (ixT (blockOf (q 0)))) 2#32 := by
  rw [val_main_call2_v0_apply, val_main_v88_apply, val_main_v87_apply, val_main_v86_apply, number]
  rfl

/-! ## Expert 3 -/

theorem w1_3 (q : S1024x4096.Idx) : val_main_v92 (F := Ideal) x1 q = x1 (ixW1 3 (q 1) (q 0)) := by
  rw [val_main_v92_apply, val_main_v91_apply, val_main_v90_apply]
  exact congrArg x1 (funext fun a => Fin.ext (by
    have h0 : (q 0).val < 1024 := (q 0).isLt
    have h1 : (q 1).val < 4096 := (q 1).isLt
    match a with
    | ⟨0, _⟩ => rfl
    | ⟨1, _⟩ => show ((q 1).val * 1024 + (q 0).val) / 1024 % 4096 = (q 1).val; omega
    | ⟨2, _⟩ => show ((q 1).val * 1024 + (q 0).val) % 1024 = (q 0).val; omega))

theorem b1_3 (q : S18432x4096.Idx) : val_main_v97 (F := Ideal) x2 q = x2 (ixB1 3 (q 1)) := by
  rw [val_main_v97_apply, val_main_v96_apply, val_main_v95_apply, val_main_v94_apply]
  exact congrArg x2 (funext fun a => Fin.ext (by
    have h1 : (q 1).val < 4096 := (q 1).isLt
    match a with
    | ⟨0, _⟩ => rfl
    | ⟨1, _⟩ => show (q 1).val % 4096 = (q 1).val; omega))

theorem w2_3 (q : S4096x1024.Idx) : val_main_v108 (F := Ideal) x3 q = x3 (ixW2 3 (q 1) (q 0)) := by
  rw [val_main_v108_apply, val_main_v107_apply, val_main_v106_apply]
  exact congrArg x3 (funext fun a => Fin.ext (by
    have h0 : (q 0).val < 4096 := (q 0).isLt
    have h1 : (q 1).val < 1024 := (q 1).isLt
    match a with
    | ⟨0, _⟩ => rfl
    | ⟨1, _⟩ => show ((q 1).val * 4096 + (q 0).val) / 4096 % 1024 = (q 1).val; omega
    | ⟨2, _⟩ => show ((q 1).val * 4096 + (q 0).val) % 4096 = (q 0).val; omega))

theorem b2_3 (q : S18432x1024.Idx) : val_main_v113 (F := Ideal) x4 q = x4 (ixB2 3 (q 1)) := by
  rw [val_main_v113_apply, val_main_v112_apply, val_main_v111_apply, val_main_v110_apply]
  exact congrArg x4 (funext fun a => Fin.ext (by
    have h1 : (q 1).val < 1024 := (q 1).isLt
    match a with
    | ⟨0, _⟩ => rfl
    | ⟨1, _⟩ => show (q 1).val % 1024 = (q 1).val; omega))

theorem hidden_3 (q : S18432x4096.Idx) : val_main_v105 (F := Ideal) x0 x1 x2 q = hidden x0 x1 x2 3 (q 0) (q 1) := by
  rw [val_main_v105_apply, val_main_v104_apply, val_main_v103_apply, val_main_v102_apply, val_main_v101_apply, val_main_v100_apply, val_main_v99_apply]
  refine (gelu _).trans (congrArg act ?_)
  rw [val_main_v98_apply, val_main_v93_apply, b1_3]
  refine congrArg (fun s : EReal => s + _) (Finset.sum_congr rfl fun j _ => ?_)
  rw [w1_3]
  exact congrArg (fun s => (x0 s : EReal) * _) (funext fun a => by match a with
    | ⟨0, _⟩ => rfl
    | ⟨1, _⟩ => rfl)

theorem layer_3 (q : S18432x1024.Idx) :
    val_main_v114 (F := Ideal) x0 x1 x2 x3 x4 q = layer x0 x1 x2 x3 x4 3 (q 0) (q 1) := by
  rw [val_main_v114_apply, val_main_v109_apply, b2_3]
  refine congrArg (fun s : EReal => s + _) (Finset.sum_congr rfl fun k _ => ?_)
  rw [w2_3, hidden_3]
  rfl

theorem here_3 (q : S18432x1024.Idx) :
    val_main_call3_v0 (F := Ideal) x5 q = IntOp.cmpi .eq (x5 (ixT (blockOf (q 0)))) 3#32 := by
  rw [val_main_call3_v0_apply, val_main_v117_apply, val_main_v116_apply, val_main_v115_apply, number]
  rfl

/-! ## Expert 4 -/

theorem w1_4 (q : S1024x4096.Idx) : val_main_v121 (F := Ideal) x1 q = x1 (ixW1 4 (q 1) (q 0)) := by
  rw [val_main_v121_apply, val_main_v120_apply, val_main_v119_apply]
  exact congrArg x1 (funext fun a => Fin.ext (by
    have h0 : (q 0).val < 1024 := (q 0).isLt
    have h1 : (q 1).val < 4096 := (q 1).isLt
    match a with
    | ⟨0, _⟩ => rfl
    | ⟨1, _⟩ => show ((q 1).val * 1024 + (q 0).val) / 1024 % 4096 = (q 1).val; omega
    | ⟨2, _⟩ => show ((q 1).val * 1024 + (q 0).val) % 1024 = (q 0).val; omega))

theorem b1_4 (q : S18432x4096.Idx) : val_main_v126 (F := Ideal) x2 q = x2 (ixB1 4 (q 1)) := by
  rw [val_main_v126_apply, val_main_v125_apply, val_main_v124_apply, val_main_v123_apply]
  exact congrArg x2 (funext fun a => Fin.ext (by
    have h1 : (q 1).val < 4096 := (q 1).isLt
    match a with
    | ⟨0, _⟩ => rfl
    | ⟨1, _⟩ => show (q 1).val % 4096 = (q 1).val; omega))

theorem w2_4 (q : S4096x1024.Idx) : val_main_v137 (F := Ideal) x3 q = x3 (ixW2 4 (q 1) (q 0)) := by
  rw [val_main_v137_apply, val_main_v136_apply, val_main_v135_apply]
  exact congrArg x3 (funext fun a => Fin.ext (by
    have h0 : (q 0).val < 4096 := (q 0).isLt
    have h1 : (q 1).val < 1024 := (q 1).isLt
    match a with
    | ⟨0, _⟩ => rfl
    | ⟨1, _⟩ => show ((q 1).val * 4096 + (q 0).val) / 4096 % 1024 = (q 1).val; omega
    | ⟨2, _⟩ => show ((q 1).val * 4096 + (q 0).val) % 4096 = (q 0).val; omega))

theorem b2_4 (q : S18432x1024.Idx) : val_main_v142 (F := Ideal) x4 q = x4 (ixB2 4 (q 1)) := by
  rw [val_main_v142_apply, val_main_v141_apply, val_main_v140_apply, val_main_v139_apply]
  exact congrArg x4 (funext fun a => Fin.ext (by
    have h1 : (q 1).val < 1024 := (q 1).isLt
    match a with
    | ⟨0, _⟩ => rfl
    | ⟨1, _⟩ => show (q 1).val % 1024 = (q 1).val; omega))

theorem hidden_4 (q : S18432x4096.Idx) : val_main_v134 (F := Ideal) x0 x1 x2 q = hidden x0 x1 x2 4 (q 0) (q 1) := by
  rw [val_main_v134_apply, val_main_v133_apply, val_main_v132_apply, val_main_v131_apply, val_main_v130_apply, val_main_v129_apply, val_main_v128_apply]
  refine (gelu _).trans (congrArg act ?_)
  rw [val_main_v127_apply, val_main_v122_apply, b1_4]
  refine congrArg (fun s : EReal => s + _) (Finset.sum_congr rfl fun j _ => ?_)
  rw [w1_4]
  exact congrArg (fun s => (x0 s : EReal) * _) (funext fun a => by match a with
    | ⟨0, _⟩ => rfl
    | ⟨1, _⟩ => rfl)

theorem layer_4 (q : S18432x1024.Idx) :
    val_main_v143 (F := Ideal) x0 x1 x2 x3 x4 q = layer x0 x1 x2 x3 x4 4 (q 0) (q 1) := by
  rw [val_main_v143_apply, val_main_v138_apply, b2_4]
  refine congrArg (fun s : EReal => s + _) (Finset.sum_congr rfl fun k _ => ?_)
  rw [w2_4, hidden_4]
  rfl

theorem here_4 (q : S18432x1024.Idx) :
    val_main_call4_v0 (F := Ideal) x5 q = IntOp.cmpi .eq (x5 (ixT (blockOf (q 0)))) 4#32 := by
  rw [val_main_call4_v0_apply, val_main_v146_apply, val_main_v145_apply, val_main_v144_apply, number]
  rfl

/-! ## Expert 5 -/

theorem w1_5 (q : S1024x4096.Idx) : val_main_v150 (F := Ideal) x1 q = x1 (ixW1 5 (q 1) (q 0)) := by
  rw [val_main_v150_apply, val_main_v149_apply, val_main_v148_apply]
  exact congrArg x1 (funext fun a => Fin.ext (by
    have h0 : (q 0).val < 1024 := (q 0).isLt
    have h1 : (q 1).val < 4096 := (q 1).isLt
    match a with
    | ⟨0, _⟩ => rfl
    | ⟨1, _⟩ => show ((q 1).val * 1024 + (q 0).val) / 1024 % 4096 = (q 1).val; omega
    | ⟨2, _⟩ => show ((q 1).val * 1024 + (q 0).val) % 1024 = (q 0).val; omega))

theorem b1_5 (q : S18432x4096.Idx) : val_main_v155 (F := Ideal) x2 q = x2 (ixB1 5 (q 1)) := by
  rw [val_main_v155_apply, val_main_v154_apply, val_main_v153_apply, val_main_v152_apply]
  exact congrArg x2 (funext fun a => Fin.ext (by
    have h1 : (q 1).val < 4096 := (q 1).isLt
    match a with
    | ⟨0, _⟩ => rfl
    | ⟨1, _⟩ => show (q 1).val % 4096 = (q 1).val; omega))

theorem w2_5 (q : S4096x1024.Idx) : val_main_v166 (F := Ideal) x3 q = x3 (ixW2 5 (q 1) (q 0)) := by
  rw [val_main_v166_apply, val_main_v165_apply, val_main_v164_apply]
  exact congrArg x3 (funext fun a => Fin.ext (by
    have h0 : (q 0).val < 4096 := (q 0).isLt
    have h1 : (q 1).val < 1024 := (q 1).isLt
    match a with
    | ⟨0, _⟩ => rfl
    | ⟨1, _⟩ => show ((q 1).val * 4096 + (q 0).val) / 4096 % 1024 = (q 1).val; omega
    | ⟨2, _⟩ => show ((q 1).val * 4096 + (q 0).val) % 4096 = (q 0).val; omega))

theorem b2_5 (q : S18432x1024.Idx) : val_main_v171 (F := Ideal) x4 q = x4 (ixB2 5 (q 1)) := by
  rw [val_main_v171_apply, val_main_v170_apply, val_main_v169_apply, val_main_v168_apply]
  exact congrArg x4 (funext fun a => Fin.ext (by
    have h1 : (q 1).val < 1024 := (q 1).isLt
    match a with
    | ⟨0, _⟩ => rfl
    | ⟨1, _⟩ => show (q 1).val % 1024 = (q 1).val; omega))

theorem hidden_5 (q : S18432x4096.Idx) : val_main_v163 (F := Ideal) x0 x1 x2 q = hidden x0 x1 x2 5 (q 0) (q 1) := by
  rw [val_main_v163_apply, val_main_v162_apply, val_main_v161_apply, val_main_v160_apply, val_main_v159_apply, val_main_v158_apply, val_main_v157_apply]
  refine (gelu _).trans (congrArg act ?_)
  rw [val_main_v156_apply, val_main_v151_apply, b1_5]
  refine congrArg (fun s : EReal => s + _) (Finset.sum_congr rfl fun j _ => ?_)
  rw [w1_5]
  exact congrArg (fun s => (x0 s : EReal) * _) (funext fun a => by match a with
    | ⟨0, _⟩ => rfl
    | ⟨1, _⟩ => rfl)

theorem layer_5 (q : S18432x1024.Idx) :
    val_main_v172 (F := Ideal) x0 x1 x2 x3 x4 q = layer x0 x1 x2 x3 x4 5 (q 0) (q 1) := by
  rw [val_main_v172_apply, val_main_v167_apply, b2_5]
  refine congrArg (fun s : EReal => s + _) (Finset.sum_congr rfl fun k _ => ?_)
  rw [w2_5, hidden_5]
  rfl

theorem here_5 (q : S18432x1024.Idx) :
    val_main_call5_v0 (F := Ideal) x5 q = IntOp.cmpi .eq (x5 (ixT (blockOf (q 0)))) 5#32 := by
  rw [val_main_call5_v0_apply, val_main_v175_apply, val_main_v174_apply, val_main_v173_apply, number]
  rfl

/-! ## Expert 6 -/

theorem w1_6 (q : S1024x4096.Idx) : val_main_v179 (F := Ideal) x1 q = x1 (ixW1 6 (q 1) (q 0)) := by
  rw [val_main_v179_apply, val_main_v178_apply, val_main_v177_apply]
  exact congrArg x1 (funext fun a => Fin.ext (by
    have h0 : (q 0).val < 1024 := (q 0).isLt
    have h1 : (q 1).val < 4096 := (q 1).isLt
    match a with
    | ⟨0, _⟩ => rfl
    | ⟨1, _⟩ => show ((q 1).val * 1024 + (q 0).val) / 1024 % 4096 = (q 1).val; omega
    | ⟨2, _⟩ => show ((q 1).val * 1024 + (q 0).val) % 1024 = (q 0).val; omega))

theorem b1_6 (q : S18432x4096.Idx) : val_main_v184 (F := Ideal) x2 q = x2 (ixB1 6 (q 1)) := by
  rw [val_main_v184_apply, val_main_v183_apply, val_main_v182_apply, val_main_v181_apply]
  exact congrArg x2 (funext fun a => Fin.ext (by
    have h1 : (q 1).val < 4096 := (q 1).isLt
    match a with
    | ⟨0, _⟩ => rfl
    | ⟨1, _⟩ => show (q 1).val % 4096 = (q 1).val; omega))

theorem w2_6 (q : S4096x1024.Idx) : val_main_v195 (F := Ideal) x3 q = x3 (ixW2 6 (q 1) (q 0)) := by
  rw [val_main_v195_apply, val_main_v194_apply, val_main_v193_apply]
  exact congrArg x3 (funext fun a => Fin.ext (by
    have h0 : (q 0).val < 4096 := (q 0).isLt
    have h1 : (q 1).val < 1024 := (q 1).isLt
    match a with
    | ⟨0, _⟩ => rfl
    | ⟨1, _⟩ => show ((q 1).val * 4096 + (q 0).val) / 4096 % 1024 = (q 1).val; omega
    | ⟨2, _⟩ => show ((q 1).val * 4096 + (q 0).val) % 4096 = (q 0).val; omega))

theorem b2_6 (q : S18432x1024.Idx) : val_main_v200 (F := Ideal) x4 q = x4 (ixB2 6 (q 1)) := by
  rw [val_main_v200_apply, val_main_v199_apply, val_main_v198_apply, val_main_v197_apply]
  exact congrArg x4 (funext fun a => Fin.ext (by
    have h1 : (q 1).val < 1024 := (q 1).isLt
    match a with
    | ⟨0, _⟩ => rfl
    | ⟨1, _⟩ => show (q 1).val % 1024 = (q 1).val; omega))

theorem hidden_6 (q : S18432x4096.Idx) : val_main_v192 (F := Ideal) x0 x1 x2 q = hidden x0 x1 x2 6 (q 0) (q 1) := by
  rw [val_main_v192_apply, val_main_v191_apply, val_main_v190_apply, val_main_v189_apply, val_main_v188_apply, val_main_v187_apply, val_main_v186_apply]
  refine (gelu _).trans (congrArg act ?_)
  rw [val_main_v185_apply, val_main_v180_apply, b1_6]
  refine congrArg (fun s : EReal => s + _) (Finset.sum_congr rfl fun j _ => ?_)
  rw [w1_6]
  exact congrArg (fun s => (x0 s : EReal) * _) (funext fun a => by match a with
    | ⟨0, _⟩ => rfl
    | ⟨1, _⟩ => rfl)

theorem layer_6 (q : S18432x1024.Idx) :
    val_main_v201 (F := Ideal) x0 x1 x2 x3 x4 q = layer x0 x1 x2 x3 x4 6 (q 0) (q 1) := by
  rw [val_main_v201_apply, val_main_v196_apply, b2_6]
  refine congrArg (fun s : EReal => s + _) (Finset.sum_congr rfl fun k _ => ?_)
  rw [w2_6, hidden_6]
  rfl

theorem here_6 (q : S18432x1024.Idx) :
    val_main_call6_v0 (F := Ideal) x5 q = IntOp.cmpi .eq (x5 (ixT (blockOf (q 0)))) 6#32 := by
  rw [val_main_call6_v0_apply, val_main_v204_apply, val_main_v203_apply, val_main_v202_apply, number]
  rfl

/-! ## Expert 7 -/

theorem w1_7 (q : S1024x4096.Idx) : val_main_v208 (F := Ideal) x1 q = x1 (ixW1 7 (q 1) (q 0)) := by
  rw [val_main_v208_apply, val_main_v207_apply, val_main_v206_apply]
  exact congrArg x1 (funext fun a => Fin.ext (by
    have h0 : (q 0).val < 1024 := (q 0).isLt
    have h1 : (q 1).val < 4096 := (q 1).isLt
    match a with
    | ⟨0, _⟩ => rfl
    | ⟨1, _⟩ => show ((q 1).val * 1024 + (q 0).val) / 1024 % 4096 = (q 1).val; omega
    | ⟨2, _⟩ => show ((q 1).val * 1024 + (q 0).val) % 1024 = (q 0).val; omega))

theorem b1_7 (q : S18432x4096.Idx) : val_main_v213 (F := Ideal) x2 q = x2 (ixB1 7 (q 1)) := by
  rw [val_main_v213_apply, val_main_v212_apply, val_main_v211_apply, val_main_v210_apply]
  exact congrArg x2 (funext fun a => Fin.ext (by
    have h1 : (q 1).val < 4096 := (q 1).isLt
    match a with
    | ⟨0, _⟩ => rfl
    | ⟨1, _⟩ => show (q 1).val % 4096 = (q 1).val; omega))

theorem w2_7 (q : S4096x1024.Idx) : val_main_v224 (F := Ideal) x3 q = x3 (ixW2 7 (q 1) (q 0)) := by
  rw [val_main_v224_apply, val_main_v223_apply, val_main_v222_apply]
  exact congrArg x3 (funext fun a => Fin.ext (by
    have h0 : (q 0).val < 4096 := (q 0).isLt
    have h1 : (q 1).val < 1024 := (q 1).isLt
    match a with
    | ⟨0, _⟩ => rfl
    | ⟨1, _⟩ => show ((q 1).val * 4096 + (q 0).val) / 4096 % 1024 = (q 1).val; omega
    | ⟨2, _⟩ => show ((q 1).val * 4096 + (q 0).val) % 4096 = (q 0).val; omega))

theorem b2_7 (q : S18432x1024.Idx) : val_main_v229 (F := Ideal) x4 q = x4 (ixB2 7 (q 1)) := by
  rw [val_main_v229_apply, val_main_v228_apply, val_main_v227_apply, val_main_v226_apply]
  exact congrArg x4 (funext fun a => Fin.ext (by
    have h1 : (q 1).val < 1024 := (q 1).isLt
    match a with
    | ⟨0, _⟩ => rfl
    | ⟨1, _⟩ => show (q 1).val % 1024 = (q 1).val; omega))

theorem hidden_7 (q : S18432x4096.Idx) : val_main_v221 (F := Ideal) x0 x1 x2 q = hidden x0 x1 x2 7 (q 0) (q 1) := by
  rw [val_main_v221_apply, val_main_v220_apply, val_main_v219_apply, val_main_v218_apply, val_main_v217_apply, val_main_v216_apply, val_main_v215_apply]
  refine (gelu _).trans (congrArg act ?_)
  rw [val_main_v214_apply, val_main_v209_apply, b1_7]
  refine congrArg (fun s : EReal => s + _) (Finset.sum_congr rfl fun j _ => ?_)
  rw [w1_7]
  exact congrArg (fun s => (x0 s : EReal) * _) (funext fun a => by match a with
    | ⟨0, _⟩ => rfl
    | ⟨1, _⟩ => rfl)

theorem layer_7 (q : S18432x1024.Idx) :
    val_main_v230 (F := Ideal) x0 x1 x2 x3 x4 q = layer x0 x1 x2 x3 x4 7 (q 0) (q 1) := by
  rw [val_main_v230_apply, val_main_v225_apply, b2_7]
  refine congrArg (fun s : EReal => s + _) (Finset.sum_congr rfl fun k _ => ?_)
  rw [w2_7, hidden_7]
  rfl

theorem here_7 (q : S18432x1024.Idx) :
    val_main_call7_v0 (F := Ideal) x5 q = IntOp.cmpi .eq (x5 (ixT (blockOf (q 0)))) 7#32 := by
  rw [val_main_call7_v0_apply, val_main_v233_apply, val_main_v232_apply, val_main_v231_apply, number]
  rfl

/-! ## The choice -/

/-- The chain of choices by a number below eight leaves the value of that number. -/
theorem choice (t : BitVec 32) (ht : t.toNat < 8) (f : Fin 8 → EReal) (z : EReal) :
    (Scalar.select (IntOp.cmpi .eq t 7#32) (f 7) (Scalar.select (IntOp.cmpi .eq t 6#32) (f 6) (Scalar.select (IntOp.cmpi .eq t 5#32) (f 5)
      (Scalar.select (IntOp.cmpi .eq t 4#32) (f 4) (Scalar.select (IntOp.cmpi .eq t 3#32) (f 3) (Scalar.select (IntOp.cmpi .eq t 2#32) (f 2)
      (Scalar.select (IntOp.cmpi .eq t 1#32) (f 1) (Scalar.select (IntOp.cmpi .eq t 0#32) (f 0) z))))))))
      = f ⟨t.toNat % 8, Nat.mod_lt _ (by decide)⟩ := by
  obtain ⟨e, rfl⟩ : ∃ e : Fin 8, t = BitVec.ofNat 32 e.val :=
    ⟨⟨t.toNat, ht⟩, BitVec.eq_of_toNat_eq (by rw [BitVec.toNat_ofNat, Nat.mod_eq_of_lt t.isLt])⟩
  clear ht
  fin_cases e <;> rfl

/-- The reference's output, where every number of the list names an expert. -/
theorem value_eq (h : ∀ j : S72.Idx, BitVec.toNat (w := 32) (x5 j) < 8) :
    val_main_v234 (F := Ideal) x0 x1 x2 x3 x4 x5 = output x0 x1 x2 x3 x4 x5 := by
  funext q
  rw [val_main_v234_apply, here_7, layer_7, val_main_v205_apply, here_6, layer_6, val_main_v176_apply, here_5, layer_5, val_main_v147_apply, here_4, layer_4, val_main_v118_apply, here_3, layer_3, val_main_v89_apply, here_2, layer_2, val_main_v60_apply, here_1, layer_1, val_main_v31_apply, here_0, layer_0]
  exact choice _ (h _) (fun e => layer x0 x1 x2 x3 x4 e (q 0) (q 1)) _

end Cert.Proof.ExpertsReference

end
-- ==== Proof.GateSpec.lean ====
/-
  The gate as a function: a token's eight logits, the experts in the order of a stable sort by logit with the greatest
  first, and the weights of the first two.

  `place_zero_max` and `place_one_max` say what the first two places hold without the sort: the greatest logit at its
  lowest position, and the greatest of the others at its lowest position.
-/
module

public import proofs.«01_k».proof.GateIdeal
public import Idealize.ShloMosaic.PureOps.Ideal.Laws
public import Idealize.ShloMosaic.Lib.SortFacts

@[expose] public section

noncomputable section

namespace Cert.Proof.GateSpec

open Idealize.ShloMosaic Cert.GateIdeal

/-- Token `r`, column `j` of the tokens. -/
def ixX (r : Fin 8192) (j : Fin 1024) : S8192x1024.Idx := fun a => match a with
  | ⟨0, _⟩ => r
  | ⟨1, _⟩ => j

/-- Expert `e`, column `j` of the gate's weights. -/
def ixG (e : Fin 8) (j : Fin 1024) : S8x1024.Idx := fun a => match a with
  | ⟨0, _⟩ => e
  | ⟨1, _⟩ => j

/-! ## The order of eight logits -/

/-- Expert `k` sorts before expert `k'`. -/
def before (v : Fin 8 → EReal) (k k' : Fin 8) : Bool := decide (v k' < v k)

/-- The same with ties broken by position. -/
def beforeTie (v : Fin 8 → EReal) (k k' : Fin 8) : Bool := decide (v k' < v k ∨ (v k = v k' ∧ k < k'))

/-- A stable sort of positions in increasing order breaks ties by position. -/
theorem stableSort_tie (v : Fin 8 → EReal) (l : List (Fin 8)) (hl : l.Pairwise (· < ·)) :
    stableSort (before v) l = stableSort (beforeTie v) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    have : ¬ b < a := not_lt.mpr hab.le
    simp [before, beforeTie, this]

theorem sortedFrom_tie (v : Fin 8 → EReal) : sortedFrom (before v) = sortedFrom (beforeTie v) := by
  funext k
  unfold sortedFrom
  have h : sortPositions 8 (before v) = sortPositions 8 (beforeTie v) :=
    stableSort_tie v _ (List.pairwise_lt_finRange 8)
  rw [List.get_of_eq h]
  rfl

/-- The expert in place `p` of the sort. -/
def place (v : Fin 8 → EReal) (p : Fin 8) : Fin 8 := sortedFrom (before v) p

theorem place_tie (v : Fin 8 → EReal) (i j : Fin 8) (hij : i < j) : beforeTie v (place v j) (place v i) = false := by
  unfold place
  rw [sortedFrom_tie]
  refine sortedFrom_noInversion (beforeTie v) (beforeTie v) (fun a b h => ?_) (fun _ _ h => h) (fun a b c h h' => ?_) i j hij
  · simp only [beforeTie, decide_eq_true_eq, decide_eq_false_iff_not] at h ⊢
    rcases h with h | ⟨h, k⟩
    · rintro (g | ⟨g, _⟩)
      · exact absurd (h.trans g) (lt_irrefl _)
      · exact absurd h (by rw [g]; exact lt_irrefl _)
    · rintro (g | ⟨_, g⟩)
      · exact absurd g (by rw [h]; exact lt_irrefl _)
      · exact absurd (k.trans g) (lt_irrefl _)
  · simp only [beforeTie, decide_eq_false_iff_not, not_or, not_lt, not_and] at h h' ⊢
    refine ⟨h.1.trans h'.1, fun e => ?_⟩
    have e1 : v a = v b := le_antisymm h.1 (h'.1.trans e.ge)
    have e2 : v b = v c := e1.symm.trans e
    exact (h'.2 e2).trans (h.2 e1)

theorem place_injective (v : Fin 8 → EReal) : Function.Injective (place v) := sortedFrom_injective _

theorem le_of_not_tie (v : Fin 8 → EReal) {k a : Fin 8} (h : beforeTie v k a = false) :
    v k ≤ v a ∧ (v k = v a → a ≤ k) := by
  simpa only [beforeTie, decide_eq_false_iff_not, not_or, not_lt, not_and] using h

/-- The first place holds the greatest logit, at its lowest position. -/
theorem place_zero_max (v : Fin 8 → EReal) (k : Fin 8) :
    v k ≤ v (place v 0) ∧ (v k = v (place v 0) → place v 0 ≤ k) := by
  obtain ⟨j, rfl⟩ := sortedFrom_surjective (before v) k
  by_cases hj : j = 0
  · subst hj
    exact ⟨le_rfl, fun _ => le_rfl⟩
  · exact le_of_not_tie v (place_tie v 0 j (Fin.pos_iff_ne_zero.mpr hj))

/-- The second place holds the greatest of the other logits, at its lowest position. -/
theorem place_one_max (v : Fin 8 → EReal) (k : Fin 8) (hk : k ≠ place v 0) :
    v k ≤ v (place v 1) ∧ (v k = v (place v 1) → place v 1 ≤ k) := by
  obtain ⟨j, rfl⟩ := sortedFrom_surjective (before v) k
  by_cases hj : j = 0
  · subst hj
    exact absurd rfl hk
  · by_cases hj1 : j = 1
    · subst hj1
      exact ⟨le_rfl, fun _ => le_rfl⟩
    · exact le_of_not_tie v (place_tie v 1 j (by omega))

theorem place_one_ne (v : Fin 8 → EReal) : place v 1 ≠ place v 0 := fun h =>
  absurd (place_injective v h) (by decide)

/-! ## The gate -/

variable (x : Vec Ideal S8192x1024 .f32) (Wg : Vec Ideal S8x1024 .f32)

/-- Token `r`'s logit for expert `e`. -/
def logit (r : Fin 8192) (e : Fin 8) : EReal := ∑ j : Fin 1024, (x (ixX r j) : EReal) * Wg (ixG e j)

/-- The second greatest of eight logits over the greatest, through the exponential. -/
def ratio (v : Fin 8 → EReal) : EReal := Ideal.exp (v (place v 1) - v (place v 0))

/-- The weights of the first two places. -/
def weight (v : Fin 8 → EReal) (p : Fin 2) : EReal :=
  if p = 0 then Ideal.div 1 (1 + ratio v) else Ideal.div (ratio v) (1 + ratio v)

/-- The experts of each token, the greatest logit first. -/
def chosen : Vec Ideal S8192x2 .i32 := fun i =>
  BitVec.ofNat 32 (place (logit x Wg (i 0)) (if (i 1).val = 0 then 0 else 1)).val

/-- Their weights. -/
def weights : Vec Ideal S8192x2 .f32 := fun i => weight (logit x Wg (i 0)) (i 1)

end Cert.Proof.GateSpec

end
-- ==== Proof.GatePre.lean ====
/-
  What the gate's precondition says: every entry of both arguments is a real number, so every logit is one.
-/
module

public import proofs.«01_k».proof.Proof.GateSpec
public import proofs.«01_k».proof.Proof.Gen.Pre_gate_finite
public import Idealize.ShloMosaic.Lib.ReduceAll
public import Idealize.ShloMosaic.PureOps.IdealRules

@[expose] public section

noncomputable section

namespace Cert.Proof.GatePre

open Idealize.ShloMosaic Cert.Pre_gate_finite

/-- A bit that says an absolute value is below +∞. -/
theorem real_of_bit (a : EReal) (h : Ideal.cmp .olt (max a (-a)) (Ideal.ofBits .f32 0x7F800000#32) = 1#1) :
    a ≠ ⊥ ∧ a ≠ ⊤ := by
  have ht : Ideal.ofBits .f32 0x7F800000#32 = ⊤ := by simp [Ideal.ofBits, Ideal.ieee]
  rw [ht] at h
  have hb : ∀ p : Bool, BitVec.ofBool p = 1#1 → p = true := by decide
  have h' : max a (-a) < ⊤ := of_decide_eq_true (hb _ h)
  rw [max_lt_iff] at h'
  refine ⟨fun e => ?_, h'.1.ne⟩
  rw [e, EReal.neg_bot] at h'
  exact lt_irrefl _ h'.2

/-- Where the precondition's bit is one, no entry of either argument is infinite. -/
theorem entries_real (x : FVec Ideal S8192x1024 .f32) (w : FVec Ideal S8x1024 .f32)
    (h : Cert.Pre_gate_finite.fn x w = fun _ => 1#1) :
    (∀ i, (x i : EReal) ≠ ⊥ ∧ (x i : EReal) ≠ ⊤) ∧ ∀ i, (w i : EReal) ≠ ⊥ ∧ (w i : EReal) ≠ ⊤ := by
  have : Subsingleton S_.Idx := ⟨fun _ _ => funext fun a => a.elim0⟩
  have hb : ∀ p q : BitVec 1, IntOp.andi p q = 1#1 → p = 1#1 ∧ q = 1#1 := by decide
  obtain ⟨h0, h1⟩ := hb _ _ (congrFun h (Shape.Idx.first Cert.Pre_gate_finite.Gen.h_S_))
  exact ⟨fun i => real_of_bit _ (Host.reduce_andi_all _ _ _ _ (Shape.Idx.first Cert.Pre_gate_finite.Gen.h_S_) h0 i),
    fun i => real_of_bit _ (Host.reduce_andi_all _ _ _ _ (Shape.Idx.first Cert.Pre_gate_finite.Gen.h_S_) h1 i)⟩

/-- So every logit is a real number. -/
theorem logit_real (x : FVec Ideal S8192x1024 .f32) (w : FVec Ideal S8x1024 .f32)
    (h : Cert.Pre_gate_finite.fn x w = fun _ => 1#1) (r : Fin 8192) (e : Fin 8) :
    ∃ q : ℝ, GateSpec.logit x w r e = (q : EReal) := by
  obtain ⟨hx, hw⟩ := entries_real x w h
  refine ⟨∑ j : Fin 1024, (x (GateSpec.ixX r j) : EReal).toReal * (w (GateSpec.ixG e j) : EReal).toReal, ?_⟩
  unfold GateSpec.logit
  have coe_sum : ∀ (s : Finset (Fin 1024)) (f : Fin 1024 → ℝ), ((∑ j ∈ s, f j : ℝ) : EReal) = ∑ j ∈ s, (f j : EReal) := by
    intro s f
    induction s using Finset.cons_induction with
    | empty => rfl
    | cons a s ha ih => rw [Finset.sum_cons, Finset.sum_cons, EReal.coe_add, ih]
  rw [coe_sum]
  refine Finset.sum_congr rfl fun j _ => ?_
  rw [EReal.coe_mul, EReal.coe_toReal (hx _).2 (hx _).1, EReal.coe_toReal (hw _).2 (hw _).1]

end Cert.Proof.GatePre

end
-- ==== Proof.GateRow.lean ====
/-
  The kernel's selection on one row of eight logits, and the row's first two places.

  The kernel takes the greatest logit by a maximum, its position by the least number among the positions holding it,
  and the second by the same with the first position's logit replaced by −∞. Each is a place of the stable sort
  (`fold_max_first`, `fold_min_first`, `fold_max_second`, `fold_min_second`).
-/
module

public import proofs.«01_k».proof.Proof.GateSpec
public import Idealize.ShloMosaic.PureOps.Reduce

@[expose] public section

noncomputable section

namespace Cert.Proof.GateSpec

open Idealize.ShloMosaic

/-- A maximum from −∞ of eight numbers is the one above the others. -/
theorem fold_max_eq (f : Fin 8 → EReal) (p : Fin 8) (h : ∀ k, f k ≤ f p) :
    (Finset.univ : Finset (Fin 8)).fold max (⊥ : EReal) f = f p := by
  refine le_antisymm ?_ ?_
  · rw [Finset.fold_max_le]
    exact ⟨bot_le, fun k _ => h k⟩
  · rw [Finset.le_fold_max]
    exact .inr ⟨p, Finset.mem_univ _, le_rfl⟩

theorem toInt_minsi (x y : BitVec 32) : (IntOp.minsi x y).toInt = min x.toInt y.toInt := by
  unfold IntOp.minsi
  rw [BitVec.slt_eq_decide]
  by_cases h : x.toInt < y.toInt
  · rw [if_pos (by simpa using h), min_eq_left h.le]
  · rw [if_neg (by simpa using h), min_eq_right (not_lt.mp h)]

/-- The least number among the positions holding a value, eight standing for none. -/
theorem fold_min_eq (q : Fin 8 → Prop) [DecidablePred q] (p : Fin 8) (hp : q p) (h : ∀ k, q k → p ≤ k) :
    (Finset.univ : Finset (Fin 8)).fold IntOp.minsi 2147483647#32
      (fun k => if q k then BitVec.ofNat 32 k.val else 8#32) = BitVec.ofNat 32 p.val := by
  have small : ∀ n, n ≤ 8 → (BitVec.ofNat 32 n).toInt = n := fun n hn => by
    rw [BitVec.toInt_eq_toNat_cond, BitVec.toNat_ofNat]
    omega
  have rel : ∀ c : Int, c ≤ ((Finset.univ : Finset (Fin 8)).fold IntOp.minsi 2147483647#32
      (fun k => if q k then BitVec.ofNat 32 k.val else 8#32)).toInt ↔ c ≤ (2147483647#32 : BitVec 32).toInt
        ∧ ∀ k ∈ (Finset.univ : Finset (Fin 8)), c ≤ (if q k then BitVec.ofNat 32 k.val else 8#32 : BitVec 32).toInt :=
    fun c => by
      rw [← Finset.fold_hom (op' := (min : Int → Int → Int)) (m := BitVec.toInt) toInt_minsi]
      exact Finset.le_fold_min c
  apply BitVec.eq_of_toInt_eq
  refine le_antisymm ?_ ?_
  · have := ((rel _).mp le_rfl).2 p (Finset.mem_univ _)
    rwa [if_pos hp] at this
  · rw [rel, small _ (by omega)]
    refine ⟨?_, fun k _ => ?_⟩
    · have : (2147483647#32 : BitVec 32).toInt = 2147483647 := by decide
      omega
    · by_cases hk : q k
      · rw [if_pos hk, small _ (by omega)]
        exact_mod_cast h k hk
      · rw [if_neg hk, show (8#32 : BitVec 32).toInt = 8 by decide]
        omega

variable (v : Fin 8 → EReal)

/-- The greatest logit. -/
theorem fold_max_first : (Finset.univ : Finset (Fin 8)).fold max (⊥ : EReal) v = v (place v 0) :=
  fold_max_eq v _ fun k => (place_zero_max v k).1

/-- Its lowest position. -/
theorem fold_min_first : (Finset.univ : Finset (Fin 8)).fold IntOp.minsi 2147483647#32
    (fun k => if v k = v (place v 0) then BitVec.ofNat 32 k.val else 8#32) = BitVec.ofNat 32 (place v 0).val :=
  fold_min_eq (fun k => v k = v (place v 0)) _ rfl fun k => (place_zero_max v k).2

/-- The logits with the first place's replaced by −∞. -/
def masked (k : Fin 8) : EReal := if k = place v 0 then ⊥ else v k

theorem masked_one : masked v (place v 1) = v (place v 1) := if_neg (place_one_ne v)

/-- The greatest of the others. -/
theorem fold_max_second : (Finset.univ : Finset (Fin 8)).fold max (⊥ : EReal) (masked v) = v (place v 1) := by
  rw [fold_max_eq (masked v) (place v 1) fun k => ?_, masked_one]
  rw [masked_one]
  unfold masked
  split
  · exact bot_le
  · next h => exact (place_one_max v k h).1

/-- Its lowest position, where no logit is −∞. -/
theorem fold_min_second (hb : ∀ k, v k ≠ ⊥) : (Finset.univ : Finset (Fin 8)).fold IntOp.minsi 2147483647#32
    (fun k => if masked v k = v (place v 1) then BitVec.ofNat 32 k.val else 8#32) = BitVec.ofNat 32 (place v 1).val := by
  refine fold_min_eq (fun k => masked v k = v (place v 1)) _ (masked_one v) fun k hk => ?_
  have h0 : k ≠ place v 0 := fun h => hb (place v 1) (by rw [← hk, masked, if_pos h])
  rw [masked, if_neg h0] at hk
  exact (place_one_max v k h0).2 hk

end Cert.Proof.GateSpec

end
-- ==== Proof.GateIdealOut.lean ====
/-
  What one grid point of the gate leaves in its first two outputs' buffers: the two chosen experts of its rows and their
  two weights, computed from the point's two blocks alone (the carried counts do not enter).
-/
module

public import proofs.«01_k».proof.Proof.GateSpec
public import proofs.«01_k».proof.Proof.Gen.GateIdeal.Frame
public import Idealize.ShloMosaic.Lib.Pipeline.Value

@[expose] public section

noncomputable section

namespace Cert.Proof.GateIdeal

open Idealize.ShloMosaic Idealize.ShloMosaic.TcCoe Cert.GateIdeal Cert.GateIdeal.Gen

variable {F : FTy → Type} [FloatOps F]

theorem hz2 : (![0, 0] : Fin 2 → Nat) = fun _ => 0 := funext fun a => by fin_cases a <;> rfl

/-- The two weights of a point's rows. -/
def pair (x0 : Vec F S1024x1024 .f32) (x1 : Vec F S8x1024 .f32) : FVec F S1024x2 .f32 :=
  k0_pay12 (k0_pay9 x0 x1) (k0_pay10 x0 x1)

set_option maxRecDepth 16384 in
theorem out_A_2 (c : Dev nD) (i : grid0.Coords) (arg1 : Memref sig .tc .vmem S1024x1024 .f32) (harg1 : arg1.IsWhole)
    (arg2 : Memref sig .tc .vmem S8x1024 .f32) (harg2 : arg2.IsWhole) (arg3 : Memref sig .tc .vmem S1024x2 .i32)
    (harg3 : arg3.IsWhole) (arg4 : Memref sig .tc .vmem S1024x2 .f32) (harg4 : arg4.IsWhole)
    (arg5 : Memref sig .tc .vmem S1024x2 .i32) (harg5 : arg5.IsWhole) (arg6 : Memref sig .tc .vmem S1x8 .i32)
    (harg6 : arg6.IsWhole) (arg7 : Memref sig .tc .vmem S1x8 .i32) (harg7 : arg7.IsWhole) (hc0 : cond0_0 i) (hc1 : ¬cond0_1 i)
    (x0 : Vec F S1024x1024 .f32) (x1 : Vec F S8x1024 .f32) :
    out0_A_2 c i arg1 harg1 arg2 harg2 arg3 harg3 arg4 harg4 arg5 harg5 arg6 harg6 arg7 harg7 hc0 hc1 x0 x1 = k0_pay11 x0 x1 := by
  unfold out0_A_2
  rw [View.read_writes_eq_canon _ _ _ (cover0_A_2 c i arg1 harg1 arg2 harg2 arg3 harg3 arg4 harg4 arg5 harg5 arg6 harg6 arg7 harg7 hc0 hc1 x0 x1)]
  unfold kernelRun0_A
  dsimp only
  rw [View.canon_unit_zero hz2]
  simp only [View.readAt_eq_ld, harg1.read_unread, harg2.read_unread, View.ld_unit_zero (S := S1024x1024) hz2,
    View.ld_unit_zero (S := S8x1024) hz2]

set_option maxRecDepth 16384 in
theorem out_A_3 (c : Dev nD) (i : grid0.Coords) (arg1 : Memref sig .tc .vmem S1024x1024 .f32) (harg1 : arg1.IsWhole)
    (arg2 : Memref sig .tc .vmem S8x1024 .f32) (harg2 : arg2.IsWhole) (arg3 : Memref sig .tc .vmem S1024x2 .i32)
    (harg3 : arg3.IsWhole) (arg4 : Memref sig .tc .vmem S1024x2 .f32) (harg4 : arg4.IsWhole)
    (arg5 : Memref sig .tc .vmem S1024x2 .i32) (harg5 : arg5.IsWhole) (arg6 : Memref sig .tc .vmem S1x8 .i32)
    (harg6 : arg6.IsWhole) (arg7 : Memref sig .tc .vmem S1x8 .i32) (harg7 : arg7.IsWhole) (hc0 : cond0_0 i) (hc1 : ¬cond0_1 i)
    (x0 : Vec F S1024x1024 .f32) (x1 : Vec F S8x1024 .f32) :
    out0_A_3 c i arg1 harg1 arg2 harg2 arg3 harg3 arg4 harg4 arg5 harg5 arg6 harg6 arg7 harg7 hc0 hc1 x0 x1 = pair x0 x1 := by
  unfold out0_A_3
  rw [View.read_writes_eq_canon _ _ _ (cover0_A_3 c i arg1 harg1 arg2 harg2 arg3 harg3 arg4 harg4 arg5 harg5 arg6 harg6 arg7 harg7 hc0 hc1 x0 x1)]
  unfold kernelRun0_A
  dsimp only
  unfold kernelRun0_A.sl.r_2 kernelRun0_A.sl.r_3
  rw [View.canon_unit_zero hz2]
  simp only [View.readAt_eq_ld, harg1.read_unread, harg2.read_unread, View.ld_unit_zero (S := S1024x1024) hz2,
    View.ld_unit_zero (S := S8x1024) hz2]
  rfl

set_option maxRecDepth 16384 in
theorem out_B_2 (c : Dev nD) (i : grid0.Coords) (arg1 : Memref sig .tc .vmem S1024x1024 .f32) (harg1 : arg1.IsWhole)
    (arg2 : Memref sig .tc .vmem S8x1024 .f32) (harg2 : arg2.IsWhole) (arg3 : Memref sig .tc .vmem S1024x2 .i32)
    (harg3 : arg3.IsWhole) (arg4 : Memref sig .tc .vmem S1024x2 .f32) (harg4 : arg4.IsWhole)
    (arg5 : Memref sig .tc .vmem S1024x2 .i32) (harg5 : arg5.IsWhole) (arg6 : Memref sig .tc .vmem S1x8 .i32)
    (harg6 : arg6.IsWhole) (arg7 : Memref sig .tc .vmem S1x8 .i32) (harg7 : arg7.IsWhole) (hc0 : ¬cond0_0 i) (hc1 : ¬cond0_1 i)
    (x0 : Vec F S1024x1024 .f32) (x1 : Vec F S8x1024 .f32) (xs0 : Vec F S1x8 .i32) :
    out0_B_2 c i arg1 harg1 arg2 harg2 arg3 harg3 arg4 harg4 arg5 harg5 arg6 harg6 arg7 harg7 hc0 hc1 x0 x1 xs0 = k0_pay11 x0 x1 := by
  unfold out0_B_2
  rw [View.read_writes_eq_canon _ _ _ (cover0_B_2 c i arg1 harg1 arg2 harg2 arg3 harg3 arg4 harg4 arg5 harg5 arg6 harg6 arg7 harg7 hc0 hc1 x0 x1 xs0)]
  unfold kernelRun0_B
  dsimp only
  rw [View.canon_unit_zero hz2]
  simp only [View.readAt_eq_ld, harg1.read_unread, harg2.read_unread, View.ld_unit_zero (S := S1024x1024) hz2,
    View.ld_unit_zero (S := S8x1024) hz2]

set_option maxRecDepth 16384 in
theorem out_B_3 (c : Dev nD) (i : grid0.Coords) (arg1 : Memref sig .tc .vmem S1024x1024 .f32) (harg1 : arg1.IsWhole)
    (arg2 : Memref sig .tc .vmem S8x1024 .f32) (harg2 : arg2.IsWhole) (arg3 : Memref sig .tc .vmem S1024x2 .i32)
    (harg3 : arg3.IsWhole) (arg4 : Memref sig .tc .vmem S1024x2 .f32) (harg4 : arg4.IsWhole)
    (arg5 : Memref sig .tc .vmem S1024x2 .i32) (harg5 : arg5.IsWhole) (arg6 : Memref sig .tc .vmem S1x8 .i32)
    (harg6 : arg6.IsWhole) (arg7 : Memref sig .tc .vmem S1x8 .i32) (harg7 : arg7.IsWhole) (hc0 : ¬cond0_0 i) (hc1 : ¬cond0_1 i)
    (x0 : Vec F S1024x1024 .f32) (x1 : Vec F S8x1024 .f32) (xs0 : Vec F S1x8 .i32) :
    out0_B_3 c i arg1 harg1 arg2 harg2 arg3 harg3 arg4 harg4 arg5 harg5 arg6 harg6 arg7 harg7 hc0 hc1 x0 x1 xs0 = pair x0 x1 := by
  unfold out0_B_3
  rw [View.read_writes_eq_canon _ _ _ (cover0_B_3 c i arg1 harg1 arg2 harg2 arg3 harg3 arg4 harg4 arg5 harg5 arg6 harg6 arg7 harg7 hc0 hc1 x0 x1 xs0)]
  unfold kernelRun0_B
  dsimp only
  unfold kernelRun0_B.sl.r_2 kernelRun0_B.sl.r_3
  rw [View.canon_unit_zero hz2]
  simp only [View.readAt_eq_ld, harg1.read_unread, harg2.read_unread, View.ld_unit_zero (S := S1024x1024) hz2,
    View.ld_unit_zero (S := S8x1024) hz2]
  rfl

set_option maxRecDepth 16384 in
theorem out_C_2 (c : Dev nD) (i : grid0.Coords) (arg1 : Memref sig .tc .vmem S1024x1024 .f32) (harg1 : arg1.IsWhole)
    (arg2 : Memref sig .tc .vmem S8x1024 .f32) (harg2 : arg2.IsWhole) (arg3 : Memref sig .tc .vmem S1024x2 .i32)
    (harg3 : arg3.IsWhole) (arg4 : Memref sig .tc .vmem S1024x2 .f32) (harg4 : arg4.IsWhole)
    (arg5 : Memref sig .tc .vmem S1024x2 .i32) (harg5 : arg5.IsWhole) (arg6 : Memref sig .tc .vmem S1x8 .i32)
    (harg6 : arg6.IsWhole) (arg7 : Memref sig .tc .vmem S1x8 .i32) (harg7 : arg7.IsWhole) (hc0 : ¬cond0_0 i) (hc1 : cond0_1 i)
    (x0 : Vec F S1024x1024 .f32) (x1 : Vec F S8x1024 .f32) (xs0 : Vec F S1x8 .i32) :
    out0_C_2 c i arg1 harg1 arg2 harg2 arg3 harg3 arg4 harg4 arg5 harg5 arg6 harg6 arg7 harg7 hc0 hc1 x0 x1 xs0 = k0_pay11 x0 x1 := by
  unfold out0_C_2
  rw [View.read_writes_eq_canon _ _ _ (cover0_C_2 c i arg1 harg1 arg2 harg2 arg3 harg3 arg4 harg4 arg5 harg5 arg6 harg6 arg7 harg7 hc0 hc1 x0 x1 xs0)]
  unfold kernelRun0_C
  dsimp only
  rw [View.canon_unit_zero hz2]
  simp only [View.readAt_eq_ld, harg1.read_unread, harg2.read_unread, View.ld_unit_zero (S := S1024x1024) hz2,
    View.ld_unit_zero (S := S8x1024) hz2]

set_option maxRecDepth 16384 in
theorem out_C_3 (c : Dev nD) (i : grid0.Coords) (arg1 : Memref sig .tc .vmem S1024x1024 .f32) (harg1 : arg1.IsWhole)
    (arg2 : Memref sig .tc .vmem S8x1024 .f32) (harg2 : arg2.IsWhole) (arg3 : Memref sig .tc .vmem S1024x2 .i32)
    (harg3 : arg3.IsWhole) (arg4 : Memref sig .tc .vmem S1024x2 .f32) (harg4 : arg4.IsWhole)
    (arg5 : Memref sig .tc .vmem S1024x2 .i32) (harg5 : arg5.IsWhole) (arg6 : Memref sig .tc .vmem S1x8 .i32)
    (harg6 : arg6.IsWhole) (arg7 : Memref sig .tc .vmem S1x8 .i32) (harg7 : arg7.IsWhole) (hc0 : ¬cond0_0 i) (hc1 : cond0_1 i)
    (x0 : Vec F S1024x1024 .f32) (x1 : Vec F S8x1024 .f32) (xs0 : Vec F S1x8 .i32) :
    out0_C_3 c i arg1 harg1 arg2 harg2 arg3 harg3 arg4 harg4 arg5 harg5 arg6 harg6 arg7 harg7 hc0 hc1 x0 x1 xs0 = pair x0 x1 := by
  unfold out0_C_3
  rw [View.read_writes_eq_canon _ _ _ (cover0_C_3 c i arg1 harg1 arg2 harg2 arg3 harg3 arg4 harg4 arg5 harg5 arg6 harg6 arg7 harg7 hc0 hc1 x0 x1 xs0)]
  unfold kernelRun0_C
  dsimp only
  unfold kernelRun0_C.sl.r_2 kernelRun0_C.sl.r_3
  rw [View.canon_unit_zero hz2]
  simp only [View.readAt_eq_ld, harg1.read_unread, harg2.read_unread, View.ld_unit_zero (S := S1024x1024) hz2,
    View.ld_unit_zero (S := S8x1024) hz2]
  rfl

end Cert.Proof.GateIdeal

end
-- ==== Proof.GateIdealBody.lean ====
/-
  One grid point of the gate over the extended reals: what the body stores for a row, read at an entry, are the first
  two places of the row's logits and their weights (`pay11_apply`, `pair_apply`).
-/
module

public import proofs.«01_k».proof.Proof.GateRow
public import proofs.«01_k».proof.Proof.GateIdealOut
public import Idealize.ShloMosaic.Lib.Pipeline.Value
public import Idealize.ShloMosaic.Lib.ValueIdx
public import Idealize.ShloMosaic.PureOps.Ideal.Laws
public import Idealize.ShloMosaic.PureOps.IdealRules
public import Idealize.ShloMosaic.Lib.IdealHost

@[expose] public section

noncomputable section

namespace Cert.Proof.GateIdeal

open Idealize.ShloMosaic Idealize.ShloMosaic.TcCoe Cert.GateIdeal Cert.GateIdeal.Gen
open Cert.Proof.GateSpec (place weight ratio masked)

/-! ## The indices of a point's blocks -/

def jX (r : Fin 1024) (j : Fin 1024) : S1024x1024.Idx := fun a => match a with
  | ⟨0, _⟩ => r
  | ⟨1, _⟩ => j
def jG (e : Fin 8) (j : Fin 1024) : S8x1024.Idx := fun a => match a with
  | ⟨0, _⟩ => e
  | ⟨1, _⟩ => j
def jL (r : Fin 1024) (e : Fin 8) : S1024x8.Idx := fun a => match a with
  | ⟨0, _⟩ => r
  | ⟨1, _⟩ => e
def jC (r : Fin 1024) : S1024x1.Idx := fun a => match a with
  | ⟨0, _⟩ => r
  | ⟨1, _⟩ => ⟨0, Nat.one_pos⟩
def jR (r : Fin 1024) : S1024.Idx := fun a => match a with
  | ⟨0, _⟩ => r
def jO (r : Fin 1024) (p : Fin 2) : S1024x2.Idx := fun a => match a with
  | ⟨0, _⟩ => r
  | ⟨1, _⟩ => p

/-! ## Rows as vectors -/

section layout

variable {α : Type}

theorem cast_col (x : S1024.Idx → α) (r : Fin 1024) :
    shapeCast S1024x1 x shapeCasts_S1024_S1024x1 (jC r) = x (jR r) :=
  shapeCast_apply x shapeCasts_S1024_S1024x1 (jC r) (jR r) (by
    rewrite [Shape.rowMajor_val_two, Shape.rowMajor_val_one]
    show r.val = r.val * 1 + 0
    omega)

theorem bcast_col (x : S1024x1.Idx → α) (r : Fin 1024) (e : Fin 8) :
    broadcastTo S1024x8 x broadcasts_S1024x1_S1024x8 (jL r e) = x (jC r) :=
  broadcastTo_apply x broadcasts_S1024x1_S1024x8 (jL r e) (jC r) (fun a => match a with
    | ⟨0, _⟩ => by show r.val = if (1024 : Nat) = 1 then 0 else r.val; rw [if_neg (by decide)]
    | ⟨1, _⟩ => by show 0 = if (1 : Nat) = 1 then 0 else e.val; rw [if_pos rfl])

theorem lift_row (r : Fin 1024) (e : Fin 8) : reduces_S1024x8_S1024.lift (jR r) e = jL r e :=
  funext fun a => Fin.ext (by match a with | ⟨0, _⟩ => rfl | ⟨1, _⟩ => rfl)

/-- Two columns side by side. -/
theorem pair_left (x y : S1024x1.Idx → α) (r : Fin 1024) :
    concatenate S1024x2 1 [⟨S1024x1, x⟩, ⟨S1024x1, y⟩] concatenates_S1024x1_S1024x1_S1024x2_d1 (jO r 0) = x (jC r) :=
  concatenate_pair_apply_left 1 x y concatenates_S1024x1_S1024x1_S1024x2_d1 (jO r 0) rfl (jC r) (fun a => match a with
    | ⟨0, _⟩ => rfl
    | ⟨1, _⟩ => rfl)

theorem pair_right (x y : S1024x1.Idx → α) (r : Fin 1024) :
    concatenate S1024x2 1 [⟨S1024x1, x⟩, ⟨S1024x1, y⟩] concatenates_S1024x1_S1024x1_S1024x2_d1 (jO r 1) = y (jC r) :=
  concatenate_pair_apply_right 1 x y concatenates_S1024x1_S1024x1_S1024x2_d1 (jO r 1) rfl rfl (jC r)
    (fun a ha => match a, ha with
      | ⟨0, _⟩, _ => rfl
      | ⟨1, _⟩, ha => absurd rfl ha)
    rfl

end layout

/-! ## A row's logits -/

abbrev D := dot_S1024x1024_S8x1024_S1024x8_1_1_0_0_n_n

theorem product (x : FVec Ideal S1024x1024 .f32) (w : FVec Ideal S8x1024 .f32) (r : Fin 1024) (e : Fin 8) :
    matmul D none x w (constant S1024x8 .f32 0x00000000#32) (jL r e)
      = ∑ j : Fin 1024, (x (jX r j) : EReal) * w (jG e j) := by
  simp only [matmul]
  rw [Ideal.matmul_constant_zero_apply, ← Equiv.sum_comp (ValueIdx.contrEquiv1 D 1024 rfl rfl).symm]
  refine Finset.sum_congr rfl fun j _ => ?_
  have hk := ValueIdx.contrEquiv1_symm_val D 1024 rfl rfl j
  have el : D.lhsIdx (jL r e) ((ValueIdx.contrEquiv1 D 1024 rfl rfl).symm j) = jX r j := funext fun a => Fin.ext (by
    match a with
    | ⟨0, _⟩ =>
      show (D.lhsIdx (jL r e) _ 0).val = _
      unfold DotDims.lhsIdx
      rw [dif_neg (show ¬(0 : Fin S1024x1024.rank) ∈ D.lhsBatch by decide),
        dif_pos (show (0 : Fin S1024x1024.rank) ∈ D.lhsNonContracting by decide)]
      rfl
    | ⟨1, _⟩ => exact (D.lhsIdx_val_of_single rfl _ _).trans hk)
  have er : D.rhsIdx (jL r e) ((ValueIdx.contrEquiv1 D 1024 rfl rfl).symm j) = jG e j := funext fun a => Fin.ext (by
    match a with
    | ⟨0, _⟩ =>
      show (D.rhsIdx (jL r e) _ 0).val = _
      unfold DotDims.rhsIdx
      rw [dif_neg (show ¬(0 : Fin S8x1024.rank) ∈ D.rhsBatch by decide),
        dif_pos (show (0 : Fin S8x1024.rank) ∈ D.rhsNonContracting by decide)]
      rfl
    | ⟨1, _⟩ => exact (D.rhsIdx_val_of_single rfl _ _).trans hk)
  rw [el, er]

variable (x0 : Vec Ideal S1024x1024 .f32) (x1 : Vec Ideal S8x1024 .f32) (r : Fin 1024)

/-- The row's logits. -/
def row (e : Fin 8) : EReal := ∑ j : Fin 1024, (x0 (jX r j) : EReal) * x1 (jG e j)

theorem pay2_apply (e : Fin 8) : (k0_pay2 x0 x1 (jL r e) : EReal) = row x0 x1 r e := product x0 x1 r e

theorem neg_inf : Ideal.ofBits .f32 0xFF800000#32 = ⊥ := by simp [Ideal.ofBits, Ideal.ieee]

/-- The row maximum of a block. -/
theorem max_row (y : FVec Ideal S1024x8 .f32) (v : Fin 8 → EReal) (h : ∀ e, (y (jL r e) : EReal) = v e)
    (hφ : FKind.Formats .f32) (hacc : 0xFF800000#32 = FKind.maximumf.neutral .f32 hφ) :
    shapeCast S1024x1 (multiReduction .maximumf [1] S1024 y 0xFF800000#32 reduces_S1024x8_S1024 hφ hacc)
      shapeCasts_S1024_S1024x1 (jC r) = (Finset.univ : Finset (Fin 8)).fold max (⊥ : EReal) v := by
  rw [cast_col, Ideal.multiReduction_maximumf_single]
  show (Finset.univ : Finset (Fin 8)).fold max (Ideal.ofBits .f32 0xFF800000#32) _ = _
  rw [neg_inf]
  refine congrArg (Finset.fold max (⊥ : EReal) · (Finset.univ : Finset (Fin 8))) (funext fun e => ?_)
  rw [← h e, ← lift_row r e]
  rfl

/-- The least position of a row holding the column's value. -/
theorem min_row (y : FVec Ideal S1024x8 .f32) (m : FVec Ideal S1024x1 .f32) (v : Fin 8 → EReal) (t : EReal)
    (h : ∀ e, (y (jL r e) : EReal) = v e) (ht : (m (jC r) : EReal) = t)
    (hacc : 2147483647#32 = IKind.minsi.neutral) :
    shapeCast S1024x1 (multiReductionI .minsi [1] S1024
        (select (cmpf .oeq y (broadcastTo S1024x8 m broadcasts_S1024x1_S1024x8))
          (iota .tc S1024x8 32 [1] iota_S1024x8_d1_w32) (broadcast S1024x8 8#32))
        2147483647#32 reduces_S1024x8_S1024 hacc) shapeCasts_S1024_S1024x1 (jC r)
      = (Finset.univ : Finset (Fin 8)).fold IntOp.minsi 2147483647#32
          (fun k => if v k = t then BitVec.ofNat 32 k.val else 8#32) := by
  rw [cast_col, multiReductionI_eq_fold, reduces_S1024x8_S1024.fold_filter_drop_single]
  show (Finset.univ : Finset (Fin 8)).fold IntOp.minsi 2147483647#32 _ = _
  refine congrArg (Finset.fold IntOp.minsi 2147483647#32 · (Finset.univ : Finset (Fin 8))) (funext fun (e : Fin 8) => ?_)
  refine (congrArg (select (cmpf (F := Ideal) .oeq y (broadcastTo S1024x8 m broadcasts_S1024x1_S1024x8))
    (iota .tc S1024x8 32 [1] iota_S1024x8_d1_w32) (broadcast S1024x8 8#32)) (lift_row r e)).trans ?_
  show (if Ideal.cmp .oeq (y (jL r e)) (broadcastTo S1024x8 m broadcasts_S1024x1_S1024x8 (jL r e)) = 1#1
    then BitVec.ofNat 32 (0 * 8 + e.val) else 8#32) = _
  rw [bcast_col, h, ht]
  show (if BitVec.ofBool (decide (v e = t)) = 1#1 then BitVec.ofNat 32 (0 * 8 + e.val) else 8#32) = _
  rw [Nat.zero_mul, Nat.zero_add]
  by_cases hv : v e = t
  · rw [if_pos hv, decide_eq_true hv, if_pos (by decide)]
  · rw [if_neg hv, decide_eq_false hv, if_neg (by decide)]

/-! ## The first place -/

theorem pay3_apply : (k0_pay3 x0 x1 (jC r) : EReal) = row x0 x1 r (place (row x0 x1 r) 0) :=
  (max_row r _ _ (pay2_apply x0 x1 r) (.inl rfl) rfl).trans (GateSpec.fold_max_first _)

theorem pay4_apply : k0_pay4 x0 x1 (jC r) = BitVec.ofNat 32 (place (row x0 x1 r) 0).val :=
  (min_row r _ _ _ _ (pay2_apply x0 x1 r) (pay3_apply x0 x1 r) rfl).trans (GateSpec.fold_min_first _)

/-! ## The second place -/

theorem pay5_apply (e : Fin 8) : (k0_pay5 x0 x1 (jL r e) : EReal) = masked (row x0 x1 r) e := by
  show (if BitVec.ofBool (BitVec.ofNat 32 (0 * 8 + e.val)
      == broadcastTo S1024x8 (k0_pay4 x0 x1) broadcasts_S1024x1_S1024x8 (jL r e)) = 1#1
    then Ideal.ofBits .f32 0xFF800000#32 else (k0_pay2 x0 x1 (jL r e) : EReal)) = _
  rw [bcast_col, pay4_apply, pay2_apply, neg_inf, Nat.zero_mul, Nat.zero_add]
  unfold masked
  have he : (BitVec.ofNat 32 e.val == BitVec.ofNat 32 (place (row x0 x1 r) 0).val)
      = decide (e = place (row x0 x1 r) 0) := by
    generalize place (row x0 x1 r) 0 = p
    revert e p
    decide
  rw [he]
  by_cases hv : e = place (row x0 x1 r) 0
  · rw [if_pos hv, decide_eq_true hv, if_pos (by decide)]
  · rw [if_neg hv, decide_eq_false hv, if_neg (by decide)]

theorem pay6_apply : (k0_pay6 x0 x1 (jC r) : EReal) = row x0 x1 r (place (row x0 x1 r) 1) :=
  (max_row r _ _ (pay5_apply x0 x1 r) (.inl rfl) rfl).trans (GateSpec.fold_max_second _)

theorem pay7_apply (hb : ∀ e, row x0 x1 r e ≠ ⊥) :
    k0_pay7 x0 x1 (jC r) = BitVec.ofNat 32 (place (row x0 x1 r) 1).val :=
  (min_row r _ _ _ _ (pay5_apply x0 x1 r) (pay6_apply x0 x1 r) rfl).trans (GateSpec.fold_min_second _ hb)

/-! ## The weights -/

set_option maxRecDepth 16384 in
theorem pay8_apply : (k0_pay8 x0 x1 (jC r) : EReal) = ratio (row x0 x1 r) := by
  show Ideal.exp ((k0_pay6 x0 x1 (jC r) : EReal) - k0_pay3 x0 x1 (jC r)) = _
  rw [pay6_apply, pay3_apply]
  rfl

set_option maxRecDepth 16384 in
theorem pay9_apply : (k0_pay9 x0 x1 (jC r) : EReal) = weight (row x0 x1 r) 0 := by
  show Ideal.div (Ideal.ofBits .f32 0x3F800000#32) (Ideal.ofBits .f32 0x3F800000#32 + (k0_pay8 x0 x1 (jC r) : EReal)) = _
  rw [pay8_apply, Ideal.ofBits_one_f32]
  rfl

set_option maxRecDepth 16384 in
theorem pay10_apply : (k0_pay10 x0 x1 (jC r) : EReal) = weight (row x0 x1 r) 1 := by
  show Ideal.div (k0_pay8 x0 x1 (jC r) : EReal) (Ideal.ofBits .f32 0x3F800000#32 + (k0_pay8 x0 x1 (jC r) : EReal)) = _
  rw [pay8_apply, Ideal.ofBits_one_f32]
  rfl

/-! ## What the body stores -/

theorem pay11_apply (hb : ∀ e, row x0 x1 r e ≠ ⊥) (p : Fin 2) :
    k0_pay11 x0 x1 (jO r p) = BitVec.ofNat 32 (place (row x0 x1 r) (if p.val = 0 then 0 else 1)).val := by
  unfold k0_pay11
  match p with
  | 0 => exact (pair_left _ _ r).trans (pay4_apply x0 x1 r)
  | 1 => exact (pair_right _ _ r).trans (pay7_apply x0 x1 r hb)

theorem pair_apply (p : Fin 2) : (pair x0 x1 (jO r p) : EReal) = weight (row x0 x1 r) p := by
  unfold pair k0_pay12
  match p with
  | 0 => exact (pair_left _ _ r).trans (pay9_apply x0 x1 r)
  | 1 => exact (pair_right _ _ r).trans (pay10_apply x0 x1 r)

end Cert.Proof.GateIdeal

end
-- ==== Proof.GateIdealValue.lean ====
/-
  The gate over the extended reals, as a whole: what the grid's points leave in the first two outputs, put together, is
  the chosen experts and the weights of every token (`first_eq`, `second_eq`).
-/
module

public import proofs.«01_k».proof.Proof.GateIdealBody
public import proofs.«01_k».proof.Proof.Gen.GateIdeal.Value

@[expose] public section

noncomputable section

namespace Cert.Proof.GateIdeal

open Idealize.ShloMosaic Idealize.ShloMosaic.TcCoe Idealize.SL.Sem Cert.GateIdeal Cert.GateIdeal.Gen Cert.GateIdeal.Value
open Cert.Proof.GateSpec (ixX ixG place weight chosen weights logit)

/-! ## What a point leaves -/

section step

variable {F : FTy → Type} [FloatOps F] (m : (ℓ : Loc nD τ sig) → Buf (Elt F) ℓ)

set_option maxHeartbeats 4000000 in
theorem step_first (c : Dev nD) (t : Fin cfg0.N)
    (acc : Vec F S1024x2 .i32 × Vec F S1024x2 .f32 × Vec F S1024x2 .i32 × Vec F S1x8 .i32 × Vec F S1x8 .i32) :
    (stAt0 m c t.val t.isLt acc).1 = k0_pay11 (iblk m c 0 t) (iblk m c 1 t) := by
  by_cases h0 : t.val % 8 = 0
  · have h1 : ¬t.val % 8 = 7 := by omega
    exact (congrArg (fun q => q.1) (stAt0_A m c t acc h0 h1)).trans
      (out_A_2 c (grid0.coords t) (ms0_0 t) (hs0_0 t) (ms0_1 t) (hs0_1 t) (ms0_2 t) (hs0_2 t) (ms0_3 t) (hs0_3 t)
        (ms0_4 t) (hs0_4 t) (ms0_5 t) (hs0_5 t) scM0_0 (Memref.isWhole_whole _) ((hcond0_0 t).mpr h0) (fun h => h1
        ((hcond0_1 t).mp h)) (iblk m c 0 t) (iblk m c 1 t))
  · by_cases h1 : t.val % 8 = 7
    · exact (congrArg (fun q => q.1) (stAt0_C m c t acc h0 h1)).trans
        (out_C_2 c (grid0.coords t) (ms0_0 t) (hs0_0 t) (ms0_1 t) (hs0_1 t) (ms0_2 t) (hs0_2 t) (ms0_3 t) (hs0_3 t)
          (ms0_4 t) (hs0_4 t) (ms0_5 t) (hs0_5 t) scM0_0 (Memref.isWhole_whole _) (fun h => h0 ((hcond0_0 t).mp h))
          ((hcond0_1 t).mpr h1) (iblk m c 0 t) (iblk m c 1 t) acc.2.2.2.2)
    · exact (congrArg (fun q => q.1) (stAt0_B m c t acc h0 h1)).trans
        (out_B_2 c (grid0.coords t) (ms0_0 t) (hs0_0 t) (ms0_1 t) (hs0_1 t) (ms0_2 t) (hs0_2 t) (ms0_3 t) (hs0_3 t)
          (ms0_4 t) (hs0_4 t) (ms0_5 t) (hs0_5 t) scM0_0 (Memref.isWhole_whole _) (fun h => h0 ((hcond0_0 t).mp h))
          (fun h => h1 ((hcond0_1 t).mp h)) (iblk m c 0 t) (iblk m c 1 t) acc.2.2.2.2)

set_option maxHeartbeats 4000000 in
theorem step_second (c : Dev nD) (t : Fin cfg0.N)
    (acc : Vec F S1024x2 .i32 × Vec F S1024x2 .f32 × Vec F S1024x2 .i32 × Vec F S1x8 .i32 × Vec F S1x8 .i32) :
    (stAt0 m c t.val t.isLt acc).2.1 = pair (iblk m c 0 t) (iblk m c 1 t) := by
  by_cases h0 : t.val % 8 = 0
  · have h1 : ¬t.val % 8 = 7 := by omega
    exact (congrArg (fun q => q.2.1) (stAt0_A m c t acc h0 h1)).trans
      (out_A_3 c (grid0.coords t) (ms0_0 t) (hs0_0 t) (ms0_1 t) (hs0_1 t) (ms0_2 t) (hs0_2 t) (ms0_3 t) (hs0_3 t)
        (ms0_4 t) (hs0_4 t) (ms0_5 t) (hs0_5 t) scM0_0 (Memref.isWhole_whole _) ((hcond0_0 t).mpr h0) (fun h => h1
        ((hcond0_1 t).mp h)) (iblk m c 0 t) (iblk m c 1 t))
  · by_cases h1 : t.val % 8 = 7
    · exact (congrArg (fun q => q.2.1) (stAt0_C m c t acc h0 h1)).trans
        (out_C_3 c (grid0.coords t) (ms0_0 t) (hs0_0 t) (ms0_1 t) (hs0_1 t) (ms0_2 t) (hs0_2 t) (ms0_3 t) (hs0_3 t)
          (ms0_4 t) (hs0_4 t) (ms0_5 t) (hs0_5 t) scM0_0 (Memref.isWhole_whole _) (fun h => h0 ((hcond0_0 t).mp h))
          ((hcond0_1 t).mpr h1) (iblk m c 0 t) (iblk m c 1 t) acc.2.2.2.2)
    · exact (congrArg (fun q => q.2.1) (stAt0_B m c t acc h0 h1)).trans
        (out_B_3 c (grid0.coords t) (ms0_0 t) (hs0_0 t) (ms0_1 t) (hs0_1 t) (ms0_2 t) (hs0_2 t) (ms0_3 t) (hs0_3 t)
          (ms0_4 t) (hs0_4 t) (ms0_5 t) (hs0_5 t) scM0_0 (Memref.isWhole_whole _) (fun h => h0 ((hcond0_0 t).mp h))
          (fun h => h1 ((hcond0_1 t).mp h)) (iblk m c 0 t) (iblk m c 1 t) acc.2.2.2.2)

/-- The carried state after point `n` is one step over some state. -/
theorem carried (c : Dev nD) : ∀ (n : ℕ) (hn : n < cfg0.N) (h : 0 + n < cfg0.N),
    ∃ acc, Pipeline.accAt (fun n h => stAt0 m c n h junk0) (stAt0 m c) 0 n h = stAt0 m c n hn acc
  | 0, _, _ => ⟨_, rfl⟩
  | n + 1, hn, h => ⟨_, (Pipeline.accAt_succ _ _ 0 n h).trans (by simp only [Nat.zero_add]; rfl)⟩

end step

/-! ## The blocks of a point -/

set_option maxRecDepth 16384 in
theorem map0 : ∀ t : Fin grid0.N, cc0_transform_0 (grid0.coords t) = ![t.val, 0] := by decide +kernel

set_option maxRecDepth 16384 in
theorem map1 : ∀ t : Fin grid0.N, cc0_transform_1 (grid0.coords t) = ![0, 0] := by decide +kernel

/-- Token `r` of row block `t`. -/
def rowOf (t : Fin grid0.N) (r : Fin 1024) : Fin 8192 :=
  ⟨t.val * 1024 + r.val, by have ht : t.val < 8 := N_0 ▸ t.isLt; have hr := r.isLt; omega⟩

variable (m : (ℓ : Loc nD τ sig) → Buf (Elt Ideal) ℓ)

theorem iblk0 (c : Dev nD) (t : Fin cfg0.N) (r : Fin 1024) (j : Fin 1024) :
    iblk m c 0 t (jX r j) = m ((c : Thread nD τ).loc main_arg0) (ixX (rowOf t r) j) := by
  show V m c main_arg0 (((cfg0.win 0).blk t).view.emb (jX r j)) = _
  refine congrArg (m ((c : Thread nD τ).loc main_arg0)) (funext fun a => Fin.ext ?_)
  match a with
  | ⟨0, _⟩ =>
    show cc0_transform_0 (grid0.coords t) 0 * 1024 + 1 * r.val = t.val * 1024 + r.val
    rw [map0 t]
    show t.val * 1024 + 1 * r.val = _
    omega
  | ⟨1, _⟩ =>
    show cc0_transform_0 (grid0.coords t) 1 * 1024 + 1 * j.val = j.val
    rw [map0 t]
    show 0 * 1024 + 1 * j.val = _
    omega

theorem iblk1 (c : Dev nD) (t : Fin cfg0.N) (e : Fin 8) (j : Fin 1024) :
    iblk m c 1 t (jG e j) = m ((c : Thread nD τ).loc main_arg1) (ixG e j) := by
  show V m c main_arg1 (((cfg0.win 1).blk t).view.emb (jG e j)) = _
  refine congrArg (m ((c : Thread nD τ).loc main_arg1)) (funext fun a => Fin.ext ?_)
  match a with
  | ⟨0, _⟩ =>
    show cc0_transform_1 (grid0.coords t) 0 * 8 + 1 * e.val = e.val
    rw [map1 t]
    show 0 * 8 + 1 * e.val = _
    omega
  | ⟨1, _⟩ =>
    show cc0_transform_1 (grid0.coords t) 1 * 1024 + 1 * j.val = j.val
    rw [map1 t]
    show 0 * 1024 + 1 * j.val = _
    omega

/-- A row of a point's logits is its token's. -/
theorem row_eq (c : Dev nD) (t : Fin cfg0.N) (r : Fin 1024) :
    row (iblk m c 0 t) (iblk m c 1 t) r
      = logit (m ((c : Thread nD τ).loc main_arg0)) (m ((c : Thread nD τ).loc main_arg1)) (rowOf t r) := by
  funext e
  unfold row logit
  exact Finset.sum_congr rfl fun j _ => by rw [iblk0, iblk1]

/-! ## The outputs -/

theorem loc_eq (i : S8192x2.Idx) (j : S1024x2.Idx) (h0 : (j 0).val = (i 0).val % 1024) (h1 : (j 1).val = (i 1).val % 2) :
    j = jO ⟨(i 0).val % 1024, Nat.mod_lt _ (by decide)⟩ (i 1) := funext fun a => Fin.ext (by
  have hi : (i 1).val < 2 := (i 1).isLt
  match a with
  | ⟨0, _⟩ => exact h0
  | ⟨1, _⟩ => exact h1.trans (Nat.mod_eq_of_lt hi))

theorem row_at (i : S8192x2.Idx) (n : ℕ) (hn : n < cfg0.N) (h : n = 1 * ((i 0).val / 1024 - 0) + 1 * ((i 1).val / 2 - 0)) :
    rowOf ⟨n, hn⟩ ⟨(i 0).val % 1024, Nat.mod_lt _ (by decide)⟩ = i 0 := Fin.ext (by
  have hi : (i 1).val < 2 := (i 1).isLt
  show n * 1024 + (i 0).val % 1024 = (i 0).val
  omega)

theorem pt_lt (i : S8192x2.Idx) : 1 * ((i 0).val / 1024 - 0) + 1 * ((i 1).val / 2 - 0) < cfg0.N := by
  have h0 : (i 0).val < 8192 := (i 0).isLt
  have h1 : (i 1).val < 2 := (i 1).isLt
  rw [show cfg0.N = 8 from N_0]
  omega

/-- The first output: the chosen experts, where no logit is −∞. -/
theorem first_eq (c : Dev nD) (hb : ∀ r e,
      logit (m ((c : Thread nD τ).loc main_arg0)) (m ((c : Thread nD τ).loc main_arg1)) r e ≠ ⊥) :
    G2 m c = chosen (m ((c : Thread nD τ).loc main_arg0)) (m ((c : Thread nD τ).loc main_arg1)) := by
  funext i
  unfold G2
  rw [dif_pos (pt_lt i)]
  obtain ⟨acc, e⟩ := carried m c (pt2Of i) (pt_lt i) ((Nat.zero_add _).symm ▸ pt_lt i)
  rw [e, step_first m c ⟨pt2Of i, pt_lt i⟩ acc, loc_eq i (loc2Of i) rfl rfl]
  refine (pay11_apply _ _ _ (fun e => by rw [row_eq]; exact hb _ e) _).trans ?_
  rw [row_eq, row_at i (pt2Of i) (pt_lt i) rfl]
  rfl

/-- The second output: their weights. -/
theorem second_eq (c : Dev nD) :
    G3 m c = weights (m ((c : Thread nD τ).loc main_arg0)) (m ((c : Thread nD τ).loc main_arg1)) := by
  funext i
  unfold G3
  rw [dif_pos (pt_lt i)]
  obtain ⟨acc, e⟩ := carried m c (pt3Of i) (pt_lt i) ((Nat.zero_add _).symm ▸ pt_lt i)
  rw [e, step_second m c ⟨pt3Of i, pt_lt i⟩ acc, loc_eq i (loc3Of i) rfl rfl]
  refine (pair_apply _ _ _ _).trans ?_
  rw [row_eq, row_at i (pt3Of i) (pt_lt i) rfl]
  rfl

end Cert.Proof.GateIdeal

end
-- ==== Proof.GateReference.lean ====
/-
  The gate's reference over the extended reals: its top-k is the first two places of each token's logits, and its softmax
  of the two gives the same two weights where the logits are real numbers (`chosen_eq`, `weights_eq`).
-/
module

public import proofs.«01_k».proof.Proof.GateRow
public import proofs.«01_k».proof.Proof.Gen.GateReferenceIdeal.Read
public import Idealize.ShloMosaic.Lib.IdealHost

@[expose] public section

noncomputable section

namespace Cert.Proof.GateReference

open Idealize.ShloMosaic Idealize.ShloMosaic.TcCoe Cert.GateReferenceIdeal Cert.GateReferenceIdeal.Gen Cert.GateReferenceIdeal.Read
open Cert.Proof.GateSpec (ixX ixG before place ratio weight chosen weights logit)

/-- Row `r`, expert `e` of the logits; row `r`, place `p` of a result; and a row. -/
def jL (r : Fin 8192) (e : Fin 8) : S8192x8.Idx := fun a => match a with
  | ⟨0, _⟩ => r
  | ⟨1, _⟩ => e
def jO (r : Fin 8192) (p : Fin 2) : S8192x2.Idx := fun a => match a with
  | ⟨0, _⟩ => r
  | ⟨1, _⟩ => p
def jR (r : Fin 8192) : S8192.Idx := fun a => match a with
  | ⟨0, _⟩ => r

theorem jO_eta (i : S8192x2.Idx) : i = jO (i 0) (i 1) := funext fun a => match a with
  | ⟨0, _⟩ => rfl
  | ⟨1, _⟩ => rfl

/-! ## The top two -/

/-- A place of the two as a place of the eight. -/
def wide (p : Fin 2) : Fin 8 := ⟨p.val, by omega⟩

theorem along_row (r : Fin 8192) (q k : Fin 8) : (jL r q).along (1 : Fin 2) k = jL r k := funext fun a => by
  unfold Shape.Idx.along
  match a with
  | ⟨0, _⟩ => exact Function.update_of_ne (Fin.ne_of_val_ne (by show 0 ≠ 1; decide)) _ _
  | ⟨1, _⟩ => exact Function.update_self ..

variable (y : FVec Ideal S8192x8 .f32)

/-- The logits of a row. -/
def rowOf (r : Fin 8192) (e : Fin 8) : EReal := y (jL r e)

theorem order_eq (r : Fin 8192) (q : Fin 8) : (fun k k' : Fin 8 =>
      FloatOps.cmpfTotal (F := Ideal) .gt (y ((jL r q).along (1 : Fin 2) k)) (y ((jL r q).along (1 : Fin 2) k')) == 1#1)
    = before (rowOf y r) := by
  funext k k'
  rw [along_row, along_row]
  show (BitVec.ofBool (decide (rowOf y r k' < rowOf y r k)) == 1#1) = decide (rowOf y r k' < rowOf y r k)
  generalize decide (rowOf y r k' < rowOf y r k) = b
  revert b
  decide

theorem slice_at {α : Type} (x : S8192x8.Idx → α) (r : Fin 8192) (p : Fin 2) :
    extractStridedSlice S8192x2 (fun _ => 0) x sliceFits_S8192x8_S8192x2 (jO r p) = x (jL r (wide p)) :=
  extractStridedSlice_apply (fun _ => 0) x sliceFits_S8192x8_S8192x2 (jO r p) (jL r (wide p)) (fun a => match a with
    | ⟨0, _⟩ => (Nat.zero_add _).symm
    | ⟨1, _⟩ => (Nat.zero_add _).symm)

theorem top_value (r : Fin 8192) (p : Fin 2) :
    ((Host.topK S8192x2 1 (FloatOps.cmpfTotal (F := Ideal) .gt) y sliceFits_S8192x8_S8192x2).1 (jO r p) : EReal)
      = rowOf y r (place (rowOf y r) (wide p)) := by
  unfold Host.topK
  dsimp only
  refine (slice_at _ r p).trans ?_
  unfold Host.sort2
  rw [dif_pos (show 1 < S8192x8.rank by decide)]
  show y ((jL r (wide p)).along (1 : Fin 2) (sortedFrom (fun k k' : Fin 8 =>
      FloatOps.cmpfTotal (F := Ideal) .gt (y ((jL r (wide p)).along (1 : Fin 2) k)) (y ((jL r (wide p)).along (1 : Fin 2) k')) == 1#1)
      (wide p))) = _
  rw [order_eq]
  exact congrArg y (along_row r (wide p) (place (rowOf y r) (wide p)))

theorem top_index (r : Fin 8192) (p : Fin 2) :
    (Host.topK S8192x2 1 (FloatOps.cmpfTotal (F := Ideal) .gt) y sliceFits_S8192x8_S8192x2).2 (jO r p)
      = BitVec.ofNat 32 (place (rowOf y r) (wide p)).val := by
  unfold Host.topK
  dsimp only
  refine (slice_at _ r p).trans ?_
  unfold Host.sort2
  rw [dif_pos (show 1 < S8192x8.rank by decide)]
  show BitVec.ofNat 32 ((jL r (wide p)).along (1 : Fin 2) (sortedFrom (fun k k' : Fin 8 =>
      FloatOps.cmpfTotal (F := Ideal) .gt (y ((jL r (wide p)).along (1 : Fin 2) k)) (y ((jL r (wide p)).along (1 : Fin 2) k')) == 1#1)
      (wide p)) 1).val = _
  rw [order_eq]
  exact congrArg (fun j : S8192x8.Idx => BitVec.ofNat 32 (j (1 : Fin 2)).val) (along_row r (wide p) (place (rowOf y r) (wide p)))

/-! ## The reference's values -/

variable (x0 : (⟨S8192x1024, .f32⟩ : BufTy).Contents (Elt Ideal)) (x1 : (⟨S8x1024, .f32⟩ : BufTy).Contents (Elt Ideal))

theorem logits_eq (r : Fin 8192) : rowOf (val_main_v1 (F := Ideal) x0 x1) r = logit x0 x1 r := by
  funext e
  refine (val_main_v1_apply x0 x1 (jL r e)).trans ?_
  unfold logit
  refine Finset.sum_congr rfl fun k _ => ?_
  rw [val_main_v0_apply]
  exact congr (congrArg (fun a b : EReal => a * b) (congrArg x0 (funext fun a => match a with
      | ⟨0, _⟩ => rfl
      | ⟨1, _⟩ => rfl)))
    (congrArg x1 (funext fun a => match a with
      | ⟨0, _⟩ => rfl
      | ⟨1, _⟩ => rfl))

theorem chosen_at (r : Fin 8192) (p : Fin 2) : val_main_indices (F := Ideal) x0 x1 (jO r p) = chosen x0 x1 (jO r p) := by
  unfold val_main_indices
  rw [top_index, logits_eq]
  show _ = BitVec.ofNat 32 (place (logit x0 x1 r) (if p.val = 0 then 0 else 1)).val
  refine congrArg (fun p : Fin 8 => BitVec.ofNat 32 (place (logit x0 x1 r) p).val) ?_
  revert p
  decide

/-- The reference's indices. -/
theorem chosen_eq : val_main_indices (F := Ideal) x0 x1 = chosen x0 x1 := funext fun i =>
  (congrArg (val_main_indices (F := Ideal) x0 x1) (jO_eta i)).trans
    ((chosen_at x0 x1 _ _).trans (congrArg (chosen x0 x1) (jO_eta i).symm))

theorem value_at (r : Fin 8192) (p : Fin 2) : (val_main_values (F := Ideal) x0 x1 (jO r p) : EReal)
    = logit x0 x1 r (place (logit x0 x1 r) (wide p)) := by
  unfold val_main_values
  rw [top_value, logits_eq]

theorem neg_inf : Ideal.ofBits .f32 0xFF800000#32 = ⊥ := by simp [Ideal.ofBits, Ideal.ieee]

/-- The maximum the softmax subtracts is the first place's logit. -/
theorem greatest (r : Fin 8192) : (val_main_v4 (F := Ideal) x0 x1 (jR r) : EReal)
    = logit x0 x1 r (place (logit x0 x1 r) 0) := by
  have h2 : (val_main_v2 (F := Ideal) x0 x1 (jR r) : EReal) = logit x0 x1 r (place (logit x0 x1 r) 0) := by
    unfold val_main_v2
    refine (Host.reduce_eq_fold_single (FloatOps.maximumf (F := Ideal) (φ := .f32)) _ _ reducesTo_S8192x2_S8192_d1 (by decide) h_S_ (jR r)).trans ?_
    show (Finset.univ : Finset (Fin 2)).fold max (Ideal.ofBits .f32 0xFF800000#32) _ = _
    rw [neg_inf]
    have hf : ∀ f : Fin 2 → EReal, (Finset.univ : Finset (Fin 2)).fold max (⊥ : EReal) f = max (f 0) (f 1) := fun f => by
      refine le_antisymm (Finset.fold_max_le _ |>.mpr ⟨bot_le, fun k _ => ?_⟩)
        (max_le (Finset.le_fold_max _ |>.mpr (.inr ⟨0, Finset.mem_univ _, le_rfl⟩))
          (Finset.le_fold_max _ |>.mpr (.inr ⟨1, Finset.mem_univ _, le_rfl⟩)))
      match k with
      | 0 => exact le_max_left _ _
      | 1 => exact le_max_right _ _
    refine (hf _).trans ?_
    have at0 : ∀ p : Fin 2, (val_main_values (F := Ideal) x0 x1
        ((show S8192x2.Reduces [1] S8192 by decide).lift (jR r) p) : EReal)
        = logit x0 x1 r (place (logit x0 x1 r) (wide p)) := fun p => by
      rw [← value_at]
      exact congrArg (val_main_values (F := Ideal) x0 x1) (funext fun a => Fin.ext (by
        match a with | ⟨0, _⟩ => rfl | ⟨1, _⟩ => rfl))
    exact (congrArg₂ max (at0 0) (at0 1)).trans (max_eq_left (GateSpec.place_zero_max _ _).1)
  rw [val_main_v4_apply, val_main_v3_apply, h2]
  show max (Ideal.ofBits .f32 0xFF800000#32) _ = _
  rw [neg_inf]
  exact max_eq_right bot_le

/-- The exponentials of the softmax. -/
theorem exp_at (r : Fin 8192) (p : Fin 2) : (val_main_v8 (F := Ideal) x0 x1 (jO r p) : EReal)
    = Ideal.exp (logit x0 x1 r (place (logit x0 x1 r) (wide p)) - logit x0 x1 r (place (logit x0 x1 r) 0)) := by
  rw [val_main_v8_apply, val_main_v7_apply, value_at, val_main_v6_apply, val_main_v5_apply]
  rw [show idx_main_v5 (idx_main_v6 (jO r p)) = jR r from funext fun a => match a with | ⟨0, _⟩ => rfl, greatest]
  rfl

theorem exp_second (r : Fin 8192) : (val_main_v8 (F := Ideal) x0 x1 (jO r 1) : EReal) = ratio (logit x0 x1 r) :=
  exp_at x0 x1 r 1

section real

variable (h : ∀ r e, ∃ q : ℝ, logit x0 x1 r e = (q : EReal))
include h

theorem exp_first (r : Fin 8192) : (val_main_v8 (F := Ideal) x0 x1 (jO r 0) : EReal) = 1 := by
  rw [exp_at]
  show Ideal.exp (logit x0 x1 r (place (logit x0 x1 r) 0) - logit x0 x1 r (place (logit x0 x1 r) 0)) = 1
  obtain ⟨q, e⟩ := h r (place (logit x0 x1 r) 0)
  rw [e, ← EReal.coe_sub, sub_self]
  show ((Real.exp 0 : ℝ) : EReal) = 1
  rw [Real.exp_zero]
  rfl

theorem total (r : Fin 8192) : (val_main_v9 (F := Ideal) x0 x1 (jR r) : EReal) = 1 + ratio (logit x0 x1 r) := by
  rw [val_main_v9_apply, Fin.sum_univ_two]
  rw [show idx_main_v9 (jR r) 0 = jO r 0 from funext fun a => match a with | ⟨0, _⟩ => rfl | ⟨1, _⟩ => rfl,
    show idx_main_v9 (jR r) 1 = jO r 1 from funext fun a => match a with | ⟨0, _⟩ => rfl | ⟨1, _⟩ => rfl,
    exp_first x0 x1 h, exp_second]
  show Ideal.ofBits .f32 0x00000000#32 + _ = _
  rw [Ideal.ofBits_zero_f32]
  exact zero_add _

theorem weights_at (r : Fin 8192) (p : Fin 2) :
    (val_main_v12 (F := Ideal) x0 x1 (jO r p) : EReal) = weight (logit x0 x1 r) p := by
  rw [val_main_v12_apply, val_main_v11_apply, val_main_v10_apply,
    show idx_main_v10 (idx_main_v11 (jO r p)) = jR r from funext fun a => match a with | ⟨0, _⟩ => rfl, total x0 x1 h]
  show Ideal.div (val_main_v8 (F := Ideal) x0 x1 (jO r p)) _ = _
  unfold weight
  match p with
  | 0 => rw [exp_first x0 x1 h, if_pos rfl]
  | 1 => rw [exp_second, if_neg (by decide)]

/-- The reference's weights, where every logit is a real number. -/
theorem weights_eq : val_main_v12 (F := Ideal) x0 x1 = weights x0 x1 := funext fun i =>
  (congrArg (val_main_v12 (F := Ideal) x0 x1) (jO_eta i)).trans (weights_at x0 x1 h _ _)

end real

end Cert.Proof.GateReference

end
-- ==== Proof.lean ====
/-
  The certificate of the combine call, of the expert layers, of the gate and of the dispatch: the five claims of each, from
  the runs.

  `Kernel.run_main` and `KernelIdeal.run_main` (one proof, said of the two printed programs) give the kernel's run: the
  result's value, the arguments unchanged, every counter zero. The reference is one sequence of array operations, whose
  run is generated; its value is the kernel's by `Reference.result_eq`. The precondition enters through `row_lt`.

  The expert layers are a pipeline over a grid, whose run is generated under the side condition that every block lies
  inside its array; `experts_ok` has it from the precondition. The output is `ExpertsIdeal.final`, and the reference's
  value is the same function of the arguments by `ExpertsReference.value_eq`.

  The gate is a pipeline over a grid too, with no side condition. Where its arguments are finite every logit is a real
  number, and then its two outputs and the reference's two results are `GateSpec.chosen` and `GateSpec.weights`.

  The dispatch runs on the SparseCores as the combine call does. `Dispatch.run` gives what it leaves, each token under both
  its positions, where the chosen words name experts (`chosen_lt`): the positions made of them name rows and are distinct
  (`Route.dest_lt`, `Route.dest_inj`). The reference has the token in the same places.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_dest_in_rows
public import proofs.«01_k».proof.Proof.Gen.Experts
public import proofs.«01_k».proof.Proof.Gen.Experts.Frame
public import proofs.«01_k».proof.Proof.Gen.ExpertsIdeal
public import proofs.«01_k».proof.Proof.Gen.ExpertsIdeal.Frame
public import proofs.«01_k».proof.Proof.Gen.ExpertsIdeal.Skeleton
public import proofs.«01_k».proof.Proof.Gen.ExpertsReferenceIdeal
public import proofs.«01_k».proof.Proof.Gen.ExpertsReferenceIdeal.Run
public import proofs.«01_k».proof.Proof.Gen.ExpertsReferenceIdeal.Read
public import proofs.«01_k».proof.Proof.Gen.Pre_experts_in_range
public import proofs.«01_k».proof.Proof.Gen.Gate
public import proofs.«01_k».proof.Proof.Gen.Gate.Frame
public import proofs.«01_k».proof.Proof.Gen.GateIdeal
public import proofs.«01_k».proof.Proof.Gen.GateIdeal.Frame
public import proofs.«01_k».proof.Proof.Gen.GateIdeal.Value
public import proofs.«01_k».proof.Proof.Gen.GateReferenceIdeal
public import proofs.«01_k».proof.Proof.Gen.GateReferenceIdeal.Run
public import proofs.«01_k».proof.Proof.Gen.GateReferenceIdeal.Read
public import proofs.«01_k».proof.Proof.Gen.Pre_gate_finite
public import proofs.«01_k».proof.Proof.Gen.Dispatch
public import proofs.«01_k».proof.Proof.Gen.Dispatch.Skeleton
public import proofs.«01_k».proof.Proof.Gen.DispatchIdeal
public import proofs.«01_k».proof.Proof.Gen.DispatchIdeal.Skeleton
public import proofs.«01_k».proof.Proof.Gen.DispatchReferenceIdeal
public import proofs.«01_k».proof.Proof.Gen.DispatchReferenceIdeal.Run
public import proofs.«01_k».proof.Proof.Gen.DispatchReferenceIdeal.Read
public import proofs.«01_k».proof.Proof.Gen.Pre_chosen_in_range
public import proofs.«01_k».proof.Proof.Precondition
public import proofs.«01_k».proof.Proof.Reference
public import proofs.«01_k».proof.Proof.KernelLaunch
public import proofs.«01_k».proof.Proof.KernelIdealLaunch
public import proofs.«01_k».proof.Proof.ExpertsPre
public import proofs.«01_k».proof.Proof.DispatchPre
public import proofs.«01_k».proof.Proof.DispatchIdealRun
public import proofs.«01_k».proof.Proof.ExpertsTable
public import proofs.«01_k».proof.Proof.ExpertsIdealTable
public import proofs.«01_k».proof.Proof.ExpertsIdealValue
public import proofs.«01_k».proof.Proof.ExpertsReference
public import proofs.«01_k».proof.Proof.GatePre
public import proofs.«01_k».proof.Proof.GateIdealValue
public import proofs.«01_k».proof.Proof.GateReference
public import Idealize.ShloMosaic.Adequacy
public import Idealize.ShloMosaic.Init

@[expose] public section

noncomputable section

namespace Cert.Proof

open Idealize.ShloMosaic Idealize.SL.Sem

/-- The kernel over machine floats. -/
theorem frame_kernel : Cert.quiescent_Kernel := fun m ρ hpre =>
  (θ_run Cert.Kernel.defs _ _).mono (fun _ h => ⟨fun c => (h.1 c).2, h.2⟩)
    (Kernel.run_main (F := Bits) m ρ fun d j => row_lt _ _ _ _ (hpre d) j)

/-- The kernel over the extended reals, with its result. -/
theorem run_ideal (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) :
    θ_run (Cert.KernelIdeal.defs (F := Ideal)) (Cert.KernelIdeal.threads (F := Ideal)) ⟨m, fun _ => 0, ρ⟩
      (KernelIdeal.QC m) :=
  KernelIdeal.run_main (F := Ideal) m ρ fun d j => row_lt _ _ _ _ (hpre d) j

theorem frame_ideal : Cert.quiescent_KernelIdeal := fun m ρ hpre =>
  (θ_run Cert.KernelIdeal.defs _ _).mono (fun _ h => ⟨fun c => (h.1 c).2, h.2⟩) (run_ideal m ρ hpre)

/-- The reference declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- From the same arguments, the reference computes what the kernel does. -/
theorem value : Cert.algebraic_KernelIdeal_ReferenceIdeal := by
  intro m ρ m' ρ' hpre hagree
  refine ⟨fun c => KernelIdeal.res m c,
    (θ_run Cert.KernelIdeal.defs _ _).mono (fun _ h c => h.1 c) (run_ideal m ρ hpre), ?_⟩
  refine (θ_run Cert.ReferenceIdeal.defs _ _).mono (fun r h c => ⟨(h c).1.trans ?_, (h c).2⟩)
    (Cert.ReferenceIdeal.Value.run (F := Ideal) m' ρ')
  obtain ⟨e0, e1, e2, e3⟩ := hagree c
  rw [e0, e1, e2, e3]
  exact (Cert.ReferenceIdeal.Read.val_main_v14_eq _ _ _ _).trans
    (Reference.result_eq _ _ _ _ fun j => row_lt _ _ _ _ (hpre c) j)

/-! ## The expert layers -/

/-- Every block the index maps name lies inside its array, over machine floats. -/
theorem experts_ok (m : (ℓ : Loc Cert.Experts.nD Cert.Experts.τ Cert.Experts.sig) → Buf (Elt Bits) ℓ)
    (hpre : Cert.Pre_Experts m) : Cert.Experts.Gen.Ok m :=
  Experts.ok_of_lt _ fun j => by
    show BitVec.toNat (w := 32) (Cert.Experts.Gen.V m 0 Cert.Experts.main_arg5 j) < 8
    rw [Cert.Experts.Gen.V_main_arg5]
    exact expert_lt _ _ _ _ _ _ (hpre 0) j

/-- The same over the extended reals. -/
theorem experts_ideal_ok (m : (ℓ : Loc Cert.ExpertsIdeal.nD Cert.ExpertsIdeal.τ Cert.ExpertsIdeal.sig) → Buf (Elt Ideal) ℓ)
    (hpre : Cert.Pre_ExpertsIdeal m) : Cert.ExpertsIdeal.Gen.Ok m :=
  ExpertsIdeal.ok_of_lt _ fun j => by
    show BitVec.toNat (w := 32) (Cert.ExpertsIdeal.Gen.V m 0 Cert.ExpertsIdeal.main_arg5 j) < 8
    rw [Cert.ExpertsIdeal.Gen.V_main_arg5]
    exact expert_lt _ _ _ _ _ _ (hpre 0) j

theorem frame_experts : Cert.quiescent_Experts := fun m ρ hpre => Cert.Experts.Gen.frame m ρ (experts_ok m hpre)

theorem frame_experts_ideal : Cert.quiescent_ExpertsIdeal := fun m ρ hpre =>
  Cert.ExpertsIdeal.Gen.frame m ρ (experts_ideal_ok m hpre)

/-- The reference of the expert layers declares no semaphore. -/
theorem frame_experts_reference : Cert.quiescent_ExpertsReferenceIdeal := fun m ρ _ =>
  (θ_run Cert.ExpertsReferenceIdeal.defs _ _).mono
    (fun r h => ⟨fun c => (h c).2, sem_eq_zero_of_no_sems (by decide) r.2⟩)
    (Cert.ExpertsReferenceIdeal.Value.run (F := Ideal) m ρ)

/-- From the same arguments, the reference computes what the expert layers do. -/
theorem value_experts : Cert.algebraic_ExpertsIdeal_ExpertsReferenceIdeal := by
  intro m ρ m' ρ' hpre hagree
  refine ⟨fun c => ExpertsIdeal.res m c,
    ExpertsIdeal.run_value m ρ (fun c j => expert_lt _ _ _ _ _ _ (hpre c) j) (experts_ideal_ok m hpre), ?_⟩
  refine (θ_run Cert.ExpertsReferenceIdeal.defs _ _).mono (fun r h c => ⟨(h c).1.trans ?_, (h c).2⟩)
    (Cert.ExpertsReferenceIdeal.Value.run (F := Ideal) m' ρ')
  obtain ⟨e0, e1, e2, e3, e4, e5⟩ := hagree c
  refine (Cert.ExpertsReferenceIdeal.Read.val_main_v234_eq _).trans ?_
  refine Eq.trans ?_ (ExpertsReference.value_eq _ _ _ _ _ _ fun j => expert_lt _ _ _ _ _ _ (hpre c) j)
  exact congr (congr (congr (congr (congr (congrArg _ e0) e1) e2) e3) e4) e5

/-! ## The gate -/

theorem frame_gate : Cert.quiescent_Gate := fun m ρ _ => Cert.Gate.Gen.frame m ρ

theorem frame_gate_ideal : Cert.quiescent_GateIdeal := fun m ρ _ => Cert.GateIdeal.Gen.frame m ρ

/-- The reference of the gate declares no semaphore. -/
theorem frame_gate_reference : Cert.quiescent_GateReferenceIdeal := fun m ρ _ =>
  (θ_run Cert.GateReferenceIdeal.defs _ _).mono
    (fun r h => ⟨fun c => (h c).2.2, sem_eq_zero_of_no_sems (by decide) r.2⟩)
    (Cert.GateReferenceIdeal.Value.run (F := Ideal) m ρ)

/-- From the same finite arguments, the reference chooses the experts that the gate does, with the same weights. -/
theorem value_gate : Cert.algebraic_GateIdeal_GateReferenceIdeal_pre_gate_finite := by
  intro m ρ m' ρ' hpre hagree
  refine ⟨fun c => GateSpec.chosen (m (c.tc.loc Cert.GateIdeal.main_arg0)) (m (c.tc.loc Cert.GateIdeal.main_arg1)),
    fun c => GateSpec.weights (m (c.tc.loc Cert.GateIdeal.main_arg0)) (m (c.tc.loc Cert.GateIdeal.main_arg1)), ?_, ?_⟩
  · refine (θ_run Cert.GateIdeal.defs _ _).mono (fun r h c => ?_) (Cert.GateIdeal.Value.run (F := Ideal) m ρ)
    obtain ⟨h2, h3, _, _, a0, a1⟩ := h c
    refine ⟨h2.trans (GateIdeal.first_eq m c fun r e => ?_), h3.trans (GateIdeal.second_eq m c), a0, a1⟩
    obtain ⟨q, hq⟩ := GatePre.logit_real _ _ (hpre c) r e
    exact hq ▸ EReal.coe_ne_bot q
  · refine (θ_run Cert.GateReferenceIdeal.defs _ _).mono
      (fun r h c => ⟨(h c).1.trans ?_, (h c).2.1.trans ?_, (h c).2.2⟩)
      (Cert.GateReferenceIdeal.Value.run (F := Ideal) m' ρ')
    · obtain ⟨e0, e1⟩ := hagree c
      rw [e0, e1]
      exact (Cert.GateReferenceIdeal.Read.val_main_indices_eq _ _).trans (GateReference.chosen_eq _ _)
    · obtain ⟨e0, e1⟩ := hagree c
      rw [e0, e1]
      exact (Cert.GateReferenceIdeal.Read.val_main_v12_eq _ _).trans
        (GateReference.weights_eq _ _ fun r e => GatePre.logit_real _ _ (hpre c) r e)

/-! ## The dispatch -/

theorem frame_dispatch : Cert.quiescent_Dispatch := fun m ρ hpre =>
  (θ_run Cert.Dispatch.defs _ _).mono (fun _ h => ⟨fun c => (h.1 c).2, h.2⟩)
    (Dispatch.run (F := Bits) m (fun d i => chosen_lt _ _ (hpre d) i) ρ)

theorem frame_dispatch_ideal : Cert.quiescent_DispatchIdeal := fun m ρ hpre =>
  (θ_run Cert.DispatchIdeal.defs _ _).mono (fun _ h => ⟨fun c => (h.1 c).2, h.2⟩) (DispatchIdeal.run m ρ fun d i => chosen_lt _ _ (hpre d) i)

/-- The reference of the dispatch declares no semaphore. -/
theorem frame_dispatch_reference : Cert.quiescent_DispatchReferenceIdeal := fun m ρ _ =>
  (θ_run Cert.DispatchReferenceIdeal.defs _ _).mono (fun r h => ⟨fun c => (h c).2, sem_eq_zero_of_no_sems (by decide) r.2⟩)
    (Cert.DispatchReferenceIdeal.Value.run (F := Ideal) m ρ)

/-- The reference repeats each token for its two experts. -/
theorem dispatch_reference_eq (x : Vec Ideal Cert.DispatchReferenceIdeal.S8192x1024 .f32) (y : Cert.DispatchReferenceIdeal.S8192x2x1024.Idx) :
    Cert.DispatchReferenceIdeal.Read.val_main_v1 (F := Ideal) x y = x (Dispatch.atX (y 0).val (y 2).val) := by
  have h0 : (y 0).val < 8192 := (y 0).isLt
  have h2 : (y 2).val < 1024 := (y 2).isLt
  rw [Cert.DispatchReferenceIdeal.Read.val_main_v1_apply, Cert.DispatchReferenceIdeal.Read.val_main_v0_apply]
  congr 1
  funext a
  match a with
  | ⟨0, _⟩ => exact Fin.ext (Nat.mod_eq_of_lt h0).symm
  | ⟨1, _⟩ => exact Fin.ext (Nat.mod_eq_of_lt h2).symm

/-- From the same tokens, the reference has in each place the token that the dispatch puts there. -/
theorem value_dispatch : Cert.algebraic_DispatchIdeal_DispatchReferenceIdeal := by
  intro m ρ m' ρ' hpre hagree
  refine ⟨fun c => fun y : Cert.DispatchIdeal.S8192x2x1024.Idx => m (c.tc.loc Cert.DispatchIdeal.main_arg0) (Dispatch.atX (y 0).val (y 2).val),
    (θ_run Cert.DispatchIdeal.defs _ _).mono (fun _ h c => h.1 c) (DispatchIdeal.run m ρ fun d i => chosen_lt _ _ (hpre d) i), ?_⟩
  refine (θ_run Cert.DispatchReferenceIdeal.defs _ _).mono (fun r h c => ⟨(h c).1.trans ?_, (h c).2⟩)
    (Cert.DispatchReferenceIdeal.Value.run (F := Ideal) m' ρ')
  rw [(hagree c).1]
  exact (Cert.DispatchReferenceIdeal.Read.val_main_v1_eq _).trans (funext fun y => dispatch_reference_eq _ y)

theorem claim : Cert.Claim :=
  ⟨Cert.Kernel.Gen.facts, Cert.KernelIdeal.Gen.facts, Cert.ReferenceIdeal.Gen.facts, Cert.Experts.Gen.facts,
    Cert.ExpertsIdeal.Gen.facts, Cert.ExpertsReferenceIdeal.Gen.facts, Cert.Gate.Gen.facts, Cert.GateIdeal.Gen.facts,
    Cert.GateReferenceIdeal.Gen.facts, Cert.Dispatch.Gen.facts, Cert.DispatchIdeal.Gen.facts,
    Cert.DispatchReferenceIdeal.Gen.facts, Cert.Pre_dest_in_rows.Gen.facts, Cert.Pre_experts_in_range.Gen.facts,
    Cert.Pre_gate_finite.Gen.facts, Cert.Pre_chosen_in_range.Gen.facts,
    frame_kernel, frame_ideal, frame_reference, fun m ρ _ => frame_reference m ρ trivial,
    frame_experts, frame_experts_ideal, frame_experts_reference, fun m ρ _ => frame_experts_reference m ρ trivial,
    frame_gate, frame_gate_ideal, fun m ρ _ => frame_gate_ideal m ρ trivial,
    frame_gate_reference, fun m ρ _ => frame_gate_reference m ρ trivial,
    frame_dispatch, frame_dispatch_ideal, frame_dispatch_reference, fun m ρ _ => frame_dispatch_reference m ρ trivial,
    trivial, value, trivial, value_experts, trivial, value_gate, trivial, value_dispatch⟩

end Cert.Proof

end
